-- ==== Defs.lean ====
def Pre_Kernel [hPre_tree_in_range : Cert.Pre_tree_in_range.Facts] (m : (ℓ : Loc Cert.Kernel.nD Cert.Kernel.τ Cert.Kernel.sig) → Buf (Elt Bits) ℓ) : Prop :=
  ∀ c : Dev Cert.Kernel.nD,
    (Cert.Pre_tree_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_tree_in_range : Cert.Pre_tree_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tree_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_tree_in_range_and_x_finite [hPre_tree_in_range_and_x_finite : Cert.Pre_tree_in_range_and_x_finite.Facts] (m : (ℓ : Loc Cert.KernelIdeal.nD Cert.KernelIdeal.τ Cert.KernelIdeal.sig) → Buf (Elt Ideal) ℓ) : Prop :=
  ∀ c : Dev Cert.KernelIdeal.nD,
    (Cert.Pre_tree_in_range_and_x_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_tree_in_range_and_x_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tree_in_range_and_x_finite [hPre_tree_in_range_and_x_finite : Cert.Pre_tree_in_range_and_x_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tree_in_range_and_x_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_tree_in_range_and_x_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] [hPre_tree_in_range : Cert.Pre_tree_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_tree_in_range : Cert.Pre_tree_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_tree_in_range_and_x_finite [hKernelIdeal : Cert.KernelIdeal.Facts] [hPre_tree_in_range_and_x_finite : Cert.Pre_tree_in_range_and_x_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tree_in_range_and_x_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_tree_in_range_and_x_finite [hReferenceIdeal : Cert.ReferenceIdeal.Facts] [hPre_tree_in_range_and_x_finite : Cert.Pre_tree_in_range_and_x_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tree_in_range_and_x_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "log2e_over_temperature" .f32 0x4003E74F#32 (((Real.log 2)⁻¹ * (16777216 / 11744051) : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_tree_in_range_and_x_finite [hKernelIdeal : Cert.KernelIdeal.Facts] [hReferenceIdeal : Cert.ReferenceIdeal.Facts] [hPre_tree_in_range_and_x_finite : Cert.Pre_tree_in_range_and_x_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tree_in_range_and_x_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_4)) (v2 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_4) = v1 c
          ∧ r.2.mem ((c.tc : Thread Cert.KernelIdeal.nD Cert.KernelIdeal.τ).loc Cert.KernelIdeal.main_v0_5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v0_0) = v1 c
          ∧ r.2.mem ((c.tc : Thread Cert.ReferenceIdeal.nD Cert.ReferenceIdeal.τ).loc Cert.ReferenceIdeal.main_v0_1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_tree_in_range : Cert.Pre_tree_in_range.Facts) (hPre_tree_in_range_and_x_finite : Cert.Pre_tree_in_range_and_x_finite.Facts),
    quiescent_Kernel (hKernel := hKernel) (hPre_tree_in_range := hPre_tree_in_range)
    ∧ quiescent_KernelIdeal (hKernelIdeal := hKernelIdeal) (hPre_tree_in_range := hPre_tree_in_range)
    ∧ quiescent_KernelIdeal_pre_tree_in_range_and_x_finite (hKernelIdeal := hKernelIdeal) (hPre_tree_in_range_and_x_finite := hPre_tree_in_range_and_x_finite)
    ∧ quiescent_ReferenceIdeal (hReferenceIdeal := hReferenceIdeal)
    ∧ quiescent_ReferenceIdeal_pre_tree_in_range_and_x_finite (hReferenceIdeal := hReferenceIdeal) (hPre_tree_in_range_and_x_finite := hPre_tree_in_range_and_x_finite)
    ∧ preserves_Kernel_KernelIdeal
    ∧ algebraic_KernelIdeal_ReferenceIdeal_pre_tree_in_range_and_x_finite (hKernelIdeal := hKernelIdeal) (hReferenceIdeal := hReferenceIdeal) (hPre_tree_in_range_and_x_finite := hPre_tree_in_range_and_x_finite)
-- ==== Pre_tree_in_range.lean ====
abbrev S3x42x6656 : Shape := ⟨3, ![3, 42, 6656]⟩
abbrev S3x42 : Shape := ⟨2, ![3, 42]⟩
abbrev S6656x32000 : Shape := ⟨2, ![6656, 32000]⟩
abbrev S52x32000 : Shape := ⟨2, ![52, 32000]⟩
abbrev S_ : Shape := ⟨0, ![]⟩
abbrev S42 : Shape := ⟨1, ![42]⟩
abbrev S1x42 : Shape := ⟨2, ![1, 42]⟩

class Facts : Prop where
  bcast_S_S3x42 : S_.BroadcastsInDim S3x42 (![] : Fin 0 → Fin S3x42.rank)
  bcast_S_S42 : S_.BroadcastsInDim S42 (![] : Fin 0 → Fin S42.rank)
  bcast_S42_S1x42_1 : S42.BroadcastsInDim S1x42 (![1] : Fin 1 → Fin S1x42.rank)
  bcast_S1x42_S3x42_0_1 : S1x42.BroadcastsInDim S3x42 (![0, 1] : Fin 2 → Fin S3x42.rank)

variable [Facts]

def fn {F : FTy → Type} [FloatOps F] (main_arg0 : FVec F S3x42x6656 .bf16) (main_arg1 : IVec S3x42 32) (main_arg2 : IVec S3x42 32) (main_arg3 : FVec F S6656x32000 .fp8e4m3) (main_arg4 : FVec F S52x32000 .f32) : IVec S3x42 1 :=
  let main_c : IVec S_ 32 := constantI S_ 32 0#32
  let main_v0 : IVec S3x42 32 := broadcastInDim S3x42 ![] bcast_S_S3x42 main_c
  let main_v1 : IVec S3x42 1 := cmpi .sge main_arg1 main_v0
  let main_v2 : IVec S42 32 := iotaInDim S42 32 0
  let main_c_0 : IVec S_ 32 := constantI S_ 32 1#32
  let main_v3 : IVec S42 32 := broadcastInDim S42 ![] bcast_S_S42 main_c_0
  let main_v4 : IVec S42 32 := subi main_v2 main_v3
  let main_c_1 : IVec S_ 32 := constantI S_ 32 0#32
  let main_v5 : IVec S42 32 := broadcastInDim S42 ![] bcast_S_S42 main_c_1
  let main_v6 : IVec S42 32 := maxsi main_v4 main_v5
  let main_v7 : IVec S1x42 32 := broadcastInDim S1x42 ![1] bcast_S42_S1x42_1 main_v6
  let main_v8 : IVec S3x42 32 := broadcastInDim S3x42 ![0, 1] bcast_S1x42_S3x42_0_1 main_v7
  let main_v9 : IVec S3x42 1 := cmpi .sle main_arg1 main_v8
  let main_v10 : IVec S3x42 1 := andi main_v1 main_v9
  let main_c_2 : IVec S_ 32 := constantI S_ 32 0#32
  let main_v11 : IVec S3x42 32 := broadcastInDim S3x42 ![] bcast_S_S3x42 main_c_2
  let main_v12 : IVec S3x42 1 := cmpi .sge main_arg2 main_v11
  let main_c_3 : IVec S_ 32 := constantI S_ 32 32000#32
  let main_v13 : IVec S3x42 32 := broadcastInDim S3x42 ![] bcast_S_S3x42 main_c_3
  let main_v14 : IVec S3x42 1 := cmpi .slt main_arg2 main_v13
  let main_v15 : IVec S3x42 1 := andi main_v12 main_v14
  let main_v16 : IVec S3x42 1 := andi main_v10 main_v15
  main_v16
-- ==== Pre_tree_in_range_and_x_finite.lean ====
abbrev S3x42x6656 : Shape := ⟨3, ![3, 42, 6656]⟩
abbrev S3x42 : Shape := ⟨2, ![3, 42]⟩
abbrev S6656x32000 : Shape := ⟨2, ![6656, 32000]⟩
abbrev S52x32000 : Shape := ⟨2, ![52, 32000]⟩
abbrev S_ : Shape := ⟨0, ![]⟩
abbrev S42 : Shape := ⟨1, ![42]⟩
abbrev S1x42 : Shape := ⟨2, ![1, 42]⟩

class Facts : Prop where
  bcast_S_S3x42 : S_.BroadcastsInDim S3x42 (![] : Fin 0 → Fin S3x42.rank)
  bcast_S_S42 : S_.BroadcastsInDim S42 (![] : Fin 0 → Fin S42.rank)
  bcast_S42_S1x42_1 : S42.BroadcastsInDim S1x42 (![1] : Fin 1 → Fin S1x42.rank)
  bcast_S1x42_S3x42_0_1 : S1x42.BroadcastsInDim S3x42 (![0, 1] : Fin 2 → Fin S3x42.rank)
  bcast_S_S3x42x6656 : S_.BroadcastsInDim S3x42x6656 (![] : Fin 0 → Fin S3x42x6656.rank)

variable [Facts]

def fn_part1 {F : FTy → Type} [FloatOps F] (main_v16 : IVec S3x42 1) (main_v17 : FVec F S3x42x6656 .bf16) (main_cst : FVec F S_ .bf16) : IVec S3x42 1 × IVec S3x42x6656 1 :=
  let main_v18 : FVec F S3x42x6656 .bf16 := broadcastInDim S3x42x6656 ![] bcast_S_S3x42x6656 main_cst
  let main_v19 : IVec S3x42x6656 1 := cmpf .ole main_v17 main_v18
  (main_v16, main_v19)

def fn {F : FTy → Type} [FloatOps F] (main_arg0 : FVec F S3x42x6656 .bf16) (main_arg1 : IVec S3x42 32) (main_arg2 : IVec S3x42 32) (main_arg3 : FVec F S6656x32000 .fp8e4m3) (main_arg4 : FVec F S52x32000 .f32) : IVec S3x42 1 × IVec S3x42x6656 1 :=
  let main_c : IVec S_ 32 := constantI S_ 32 0#32
  let main_v0 : IVec S3x42 32 := broadcastInDim S3x42 ![] bcast_S_S3x42 main_c
  let main_v1 : IVec S3x42 1 := cmpi .sge main_arg1 main_v0
  let main_v2 : IVec S42 32 := iotaInDim S42 32 0
  let main_c_0 : IVec S_ 32 := constantI S_ 32 1#32
  let main_v3 : IVec S42 32 := broadcastInDim S42 ![] bcast_S_S42 main_c_0
  let main_v4 : IVec S42 32 := subi main_v2 main_v3
  let main_c_1 : IVec S_ 32 := constantI S_ 32 0#32
  let main_v5 : IVec S42 32 := broadcastInDim S42 ![] bcast_S_S42 main_c_1
  let main_v6 : IVec S42 32 := maxsi main_v4 main_v5
  let main_v7 : IVec S1x42 32 := broadcastInDim S1x42 ![1] bcast_S42_S1x42_1 main_v6
  let main_v8 : IVec S3x42 32 := broadcastInDim S3x42 ![0, 1] bcast_S1x42_S3x42_0_1 main_v7
  let main_v9 : IVec S3x42 1 := cmpi .sle main_arg1 main_v8
  let main_v10 : IVec S3x42 1 := andi main_v1 main_v9
  let main_c_2 : IVec S_ 32 := constantI S_ 32 0#32
  let main_v11 : IVec S3x42 32 := broadcastInDim S3x42 ![] bcast_S_S3x42 main_c_2
  let main_v12 : IVec S3x42 1 := cmpi .sge main_arg2 main_v11
  let main_c_3 : IVec S_ 32 := constantI S_ 32 32000#32
  let main_v13 : IVec S3x42 32 := broadcastInDim S3x42 ![] bcast_S_S3x42 main_c_3
  let main_v14 : IVec S3x42 1 := cmpi .slt main_arg2 main_v13
  let main_v15 : IVec S3x42 1 := andi main_v12 main_v14
  let main_v16 : IVec S3x42 1 := andi main_v10 main_v15
  let main_v17 : FVec F S3x42x6656 .bf16 := Host.absf main_arg0
  let main_cst : FVec F S_ .bf16 := constant S_ .bf16 0x7F62#16
  fn_part1 (F := F) main_v16 main_v17 main_cst
-- ==== Kernel.lean ====
abbrev S3x42x6656 : Shape := ⟨3, ![3, 42, 6656]⟩
abbrev S3x42 : Shape := ⟨2, ![3, 42]⟩
abbrev S6656x32000 : Shape := ⟨2, ![6656, 32000]⟩
abbrev S52x32000 : Shape := ⟨2, ![52, 32000]⟩
abbrev S3x42x52 : Shape := ⟨3, ![3, 42, 52]⟩
abbrev S3x6656x1280 : Shape := ⟨3, ![3, 6656, 1280]⟩
abbrev S3x52x1280 : Shape := ⟨3, ![3, 52, 1280]⟩
abbrev S128x6656 : Shape := ⟨2, ![128, 6656]⟩
abbrev S250x128x128 : Shape := ⟨3, ![250, 128, 128]⟩
abbrev S128x128 : Shape := ⟨2, ![128, 128]⟩
abbrev S3 : Shape := ⟨1, ![3]⟩
abbrev S1 : Shape := ⟨1, ![1]⟩
abbrev S_ : Shape := ⟨0, ![]⟩
abbrev S1x6656x1280 : Shape := ⟨3, ![1, 6656, 1280]⟩
abbrev S6656x1280 : Shape := ⟨2, ![6656, 1280]⟩
abbrev S1x52x1280 : Shape := ⟨3, ![1, 52, 1280]⟩
abbrev S52x1280 : Shape := ⟨2, ![52, 1280]⟩
abbrev S1x128 : Shape := ⟨2, ![1, 128]⟩
abbrev S1x1 : Shape := ⟨2, ![1, 1]⟩
abbrev S2x6656 : Shape := ⟨2, ![2, 6656]⟩
abbrev S42x128 : Shape := ⟨2, ![42, 128]⟩
abbrev S1x42x128 : Shape := ⟨3, ![1, 42, 128]⟩
abbrev S42 : Shape := ⟨1, ![42]⟩
abbrev S42x1 : Shape := ⟨2, ![42, 1]⟩
abbrev S42x52 : Shape := ⟨2, ![42, 52]⟩
abbrev S1x42x52 : Shape := ⟨3, ![1, 42, 52]⟩
abbrev S128x512 : Shape := ⟨2, ![128, 512]⟩
abbrev S1x1x256 : Shape := ⟨3, ![1, 1, 256]⟩
abbrev S1x256 : Shape := ⟨2, ![1, 256]⟩
abbrev S16x256 : Shape := ⟨2, ![16, 256]⟩
abbrev S1x128x256 : Shape := ⟨3, ![1, 128, 256]⟩
abbrev S128x256 : Shape := ⟨2, ![128, 256]⟩
abbrev S8x16x256 : Shape := ⟨3, ![8, 16, 256]⟩
abbrev S1x16x256 : Shape := ⟨3, ![1, 16, 256]⟩
abbrev S256x256 : Shape := ⟨2, ![256, 256]⟩
abbrev S1x128x128 : Shape := ⟨3, ![1, 128, 128]⟩
abbrev S1x32x128 : Shape := ⟨3, ![1, 32, 128]⟩
abbrev S32x128 : Shape := ⟨2, ![32, 128]⟩
abbrev S128 : Shape := ⟨1, ![128]⟩
abbrev S128x1 : Shape := ⟨2, ![128, 1]⟩
abbrev S2x128 : Shape := ⟨2, ![2, 128]⟩
abbrev S1x1x128 : Shape := ⟨3, ![1, 1, 128]⟩
abbrev S1x42 : Shape := ⟨2, ![1, 42]⟩

abbrev nBuf : Space → Nat
  | .hbm => 11
  | .vmem => 20
  | .smem => 2
  | _ => 0

abbrev bufTy : (tb : Table) → Fin (tcTables nBuf tb) → BufTy
  | .hbm, ⟨0, _⟩ => ⟨S3x42x6656, .bf16⟩
  | .hbm, ⟨1, _⟩ => ⟨S3x42, .i32⟩
  | .hbm, ⟨2, _⟩ => ⟨S3x42, .i32⟩
  | .hbm, ⟨3, _⟩ => ⟨S6656x32000, .fp8e4m3⟩
  | .hbm, ⟨4, _⟩ => ⟨S52x32000, .f32⟩
  | .hbm, ⟨5, _⟩ => ⟨S3x42, .f32⟩
  | .hbm, ⟨6, _⟩ => ⟨S3x42, .f32⟩
  | .hbm, ⟨7, _⟩ => ⟨S3x42, .f32⟩
  | .hbm, ⟨8, _⟩ => ⟨S3x42, .f32⟩
  | .hbm, ⟨9, _⟩ => ⟨S3x42x6656, .fp8e4m3⟩
  | .hbm, ⟨10, _⟩ => ⟨S3x42x52, .f32⟩
  | .local _ .vmem, ⟨0, _⟩ => ⟨S3x42x6656, .bf16⟩
  | .local _ .vmem, ⟨1, _⟩ => ⟨S3x42, .f32⟩
  | .local _ .vmem, ⟨2, _⟩ => ⟨S3x42, .f32⟩
  | .local _ .vmem, ⟨3, _⟩ => ⟨S3x42, .f32⟩
  | .local _ .vmem, ⟨4, _⟩ => ⟨S3x42, .f32⟩
  | .local _ .vmem, ⟨5, _⟩ => ⟨S3x42x6656, .fp8e4m3⟩
  | .local _ .vmem, ⟨6, _⟩ => ⟨S3x42x52, .f32⟩
  | .local _ .vmem, ⟨7, _⟩ => ⟨S3x6656x1280, .fp8e4m3⟩
  | .local _ .vmem, ⟨8, _⟩ => ⟨S3x52x1280, .f32⟩
  | .local _ .vmem, ⟨9, _⟩ => ⟨S128x6656, .f32⟩
  | .local _ .vmem, ⟨10, _⟩ => ⟨S128x6656, .bf16⟩
  | .local _ .vmem, ⟨11, _⟩ => ⟨S250x128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .smem, ⟨0, _⟩ => ⟨S3x42, .i32⟩
  | .local _ .smem, ⟨1, _⟩ => ⟨S3x42, .i32⟩
  | _, _ => ⟨S3x42x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.vmem, 14, rfl⟩
abbrev cc0_scratch8 : Ref sig .tc := ⟨.vmem, 15, rfl⟩
abbrev cc0_scratch9 : Ref sig .tc := ⟨.vmem, 16, rfl⟩
abbrev cc0_scratch10 : Ref sig .tc := ⟨.vmem, 17, rfl⟩
abbrev cc0_scratch11 : Ref sig .tc := ⟨.vmem, 18, rfl⟩
abbrev cc0_scratch12 : Ref sig .tc := ⟨.vmem, 19, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

def k0_mult1 : BitVec 32 :=
  let c0_i32_0 : BitVec 32 := 0#32
  c0_i32_0
def k0_off1 (c0_i32 : BitVec 32) : Fin 1 → Nat :=
  let c3_i32 : BitVec 32 := 3#32
  let v0 : BitVec 32 := Scalar.remsi c0_i32 c3_i32
  ![v0.toNat]
def k0_off2 (c0_i32 : BitVec 32) : Fin 3 → Nat :=
  let c3_i32 : BitVec 32 := 3#32
  let v0 : BitVec 32 := Scalar.remsi c0_i32 c3_i32
  let c0_i32_1 : BitVec 32 := 0#32
  let c0_i32_2 : BitVec 32 := 0#32
  ![v0.toNat, 0, 0]
def k0_off3 (c0_i32 : BitVec 32) : Fin 3 → Nat :=
  let c3_i32 : BitVec 32 := 3#32
  let v0 : BitVec 32 := Scalar.remsi c0_i32 c3_i32
  let c0_i32_4 : BitVec 32 := 0#32
  let c0_i32_5 : BitVec 32 := 0#32
  ![v0.toNat, 0, 0]
def k0_mult2 : BitVec 32 :=
  let c1280_i32 : BitVec 32 := 1280#32
  c1280_i32
def k0_mult3 : BitVec 32 :=
  let c2560_i32 : BitVec 32 := 2560#32
  c2560_i32
@[reducible] def k0_t1_loop : Scf.Loop 32 :=
  let c1_i32_22 : BitVec 32 := 1#32
  let c41_i32 : BitVec 32 := 41#32
  let v41 : BitVec 32 := Scalar.addi c1_i32_22 c41_i32
  let c1_i32_23 : BitVec 32 := 1#32
  ⟨c1_i32_22, v41, c1_i32_23⟩
def k0_off4 (k0_t1 : Fin k0_t1_loop.trips) : Fin 2 → Nat :=
  let c0_2688 : Index := 0#32
  let c1_i32_22 : BitVec 32 := 1#32
  let c1_i32_23 : BitVec 32 := 1#32
  let arg26 : BitVec 32 := Scf.iv c1_i32_22 c1_i32_23 k0_t1
  let v5305 : Index := Scalar.indexCast arg26
  ![0, v5305.toNat]
def k0_off5 (v5306 : BitVec 32) : Fin 2 → Nat :=
  let c0_i32_2689 : BitVec 32 := 0#32
  let v5307 : BitVec 32 := Scalar.addi v5306 c0_i32_2689
  let v5310 : Index := Scalar.indexCast v5307
  let c0_2690 : Index := 0#32
  ![v5310.toNat, 0]

def k0_chk1 (v5306 : BitVec 32) : Prop :=
  (∀ a, (k0_off5 v5306) a + S1x128.size a ≤ S128x128.size a)
theorem k0_off5_inb : ∀ (v5306 : BitVec 32) (k0_hw1 : k0_chk1 v5306), ∀ a, (k0_off5 v5306) a + S1x128.size a ≤ S128x128.size a := fun v5306 k0_hw1 => k0_hw1

def k0_off6 (k0_t1 : Fin k0_t1_loop.trips) : Fin 2 → Nat :=
  let c0_i32_2687 : BitVec 32 := 0#32
  let c1_i32_22 : BitVec 32 := 1#32
  let c1_i32_23 : BitVec 32 := 1#32
  let arg26 : BitVec 32 := Scf.iv c1_i32_22 c1_i32_23 k0_t1
  let v5304 : BitVec 32 := Scalar.addi c0_i32_2687 arg26
  let v5314 : Index := Scalar.indexCast v5304
  let c0_2692 : Index := 0#32
  ![v5314.toNat, 0]
def k0_off7 (k0_t1 : Fin k0_t1_loop.trips) : Fin 2 → Nat :=
  let c1_2694 : Index := 1#32
  let c1_i32_22 : BitVec 32 := 1#32
  let c1_i32_23 : BitVec 32 := 1#32
  let arg26 : BitVec 32 := Scf.iv c1_i32_22 c1_i32_23 k0_t1
  let v5319 : Index := Scalar.indexCast arg26
  ![1, v5319.toNat]
def k0_off8 (v5320 : BitVec 32) : Fin 2 → Nat :=
  let c42_i32_2695 : BitVec 32 := 42#32
  let v5321 : BitVec 32 := Scalar.addi v5320 c42_i32_2695
  let v5324 : Index := Scalar.indexCast v5321
  let c0_2696 : Index := 0#32
  ![v5324.toNat, 0]

def k0_chk2 (v5320 : BitVec 32) : Prop :=
  (∀ a, (k0_off8 v5320) a + S1x128.size a ≤ S128x128.size a)
theorem k0_off8_inb : ∀ (v5320 : BitVec 32) (k0_hw2 : k0_chk2 v5320), ∀ a, (k0_off8 v5320) a + S1x128.size a ≤ S128x128.size a := fun v5320 k0_hw2 => k0_hw2

def k0_off9 (k0_t1 : Fin k0_t1_loop.trips) : Fin 2 → Nat :=
  let c42_i32_2693 : BitVec 32 := 42#32
  let c1_i32_22 : BitVec 32 := 1#32
  let c1_i32_23 : BitVec 32 := 1#32
  let arg26 : BitVec 32 := Scf.iv c1_i32_22 c1_i32_23 k0_t1
  let v5318 : BitVec 32 := Scalar.addi c42_i32_2693 arg26
  let v5328 : Index := Scalar.indexCast v5318
  let c0_2698 : Index := 0#32
  ![v5328.toNat, 0]
def k0_off10 (k0_t1 : Fin k0_t1_loop.trips) : Fin 2 → Nat :=
  let c2_2700 : Index := 2#32
  let c1_i32_22 : BitVec 32 := 1#32
  let c1_i32_23 : BitVec 32 := 1#32
  let arg26 : BitVec 32 := Scf.iv c1_i32_22 c1_i32_23 k0_t1
  let v5333 : Index := Scalar.indexCast arg26
  ![2, v5333.toNat]
def k0_off11 (v5334 : BitVec 32) : Fin 2 → Nat :=
  let c84_i32_2701 : BitVec 32 := 84#32
  let v5335 : BitVec 32 := Scalar.addi v5334 c84_i32_2701
  let v5338 : Index := Scalar.indexCast v5335
  let c0_2702 : Index := 0#32
  ![v5338.toNat, 0]

def k0_chk3 (v5334 : BitVec 32) : Prop :=
  (∀ a, (k0_off11 v5334) a + S1x128.size a ≤ S128x128.size a)
theorem k0_off11_inb : ∀ (v5334 : BitVec 32) (k0_hw3 : k0_chk3 v5334), ∀ a, (k0_off11 v5334) a + S1x128.size a ≤ S128x128.size a := fun v5334 k0_hw3 => k0_hw3

def k0_off12 (k0_t1 : Fin k0_t1_loop.trips) : Fin 2 → Nat :=
  let c84_i32_2699 : BitVec 32 := 84#32
  let c1_i32_22 : BitVec 32 := 1#32
  let c1_i32_23 : BitVec 32 := 1#32
  let arg26 : BitVec 32 := Scf.iv c1_i32_22 c1_i32_23 k0_t1
  let v5332 : BitVec 32 := Scalar.addi c84_i32_2699 arg26
  let v5342 : Index := Scalar.indexCast v5332
  let c0_2704 : Index := 0#32
  ![v5342.toNat, 0]
@[reducible] def k0_t2_loop : Scf.Loop 32 :=
  let c0_i32_28 : BitVec 32 := 0#32
  let c52_i32 : BitVec 32 := 52#32
  let v48 : BitVec 32 := Scalar.addi c0_i32_28 c52_i32
  let c1_i32_29 : BitVec 32 := 1#32
  ⟨c0_i32_28, v48, c1_i32_29⟩
def k0_mult4 (k0_t2 : Fin k0_t2_loop.trips) : BitVec 32 :=
  let c0_i32_28 : BitVec 32 := 0#32
  let c1_i32_29 : BitVec 32 := 1#32
  let arg26 : BitVec 32 := Scf.iv c0_i32_28 c1_i32_29 k0_t2
  let c128_i32_2687 : BitVec 32 := 128#32
  let v5304 : BitVec 32 := Scalar.muli arg26 c128_i32_2687
  v5304
def k0_off13 (k0_t2 : Fin k0_t2_loop.trips) : Fin 3 → Nat :=
  let c0_2688 : Index := 0#32
  let c0_2689 : Index := 0#32
  let c0_i32_28 : BitVec 32 := 0#32
  let c1_i32_29 : BitVec 32 := 1#32
  let arg26 : BitVec 32 := Scf.iv c0_i32_28 c1_i32_29 k0_t2
  let c128_i32_2687 : BitVec 32 := 128#32
  let v5304 : BitVec 32 := Scalar.muli arg26 c128_i32_2687
  let v5305 : BitVec 32 := v5304
  let v5306 : Index := Scalar.indexCast v5305
  ![0, 0, v5306.toNat]
def k0_off14 (k0_t2 : Fin k0_t2_loop.trips) : Fin 2 → Nat :=
  let c0_2720 : Index := 0#32
  let c0_i32_28 : BitVec 32 := 0#32
  let c1_i32_29 : BitVec 32 := 1#32
  let arg26 : BitVec 32 := Scf.iv c0_i32_28 c1_i32_29 k0_t2
  let c128_i32_2687 : BitVec 32 := 128#32
  let v5304 : BitVec 32 := Scalar.muli arg26 c128_i32_2687
  let v5305 : BitVec 32 := v5304
  let v5421 : Index := Scalar.indexCast v5305
  ![0, v5421.toNat]
@[reducible] def k0_t3_loop : Scf.Loop 32 :=
  let c0_i32_35 : BitVec 32 := 0#32
  let c52_i32_36 : BitVec 32 := 52#32
  let v55 : BitVec 32 := Scalar.addi c0_i32_35 c52_i32_36
  let c1_i32_37 : BitVec 32 := 1#32
  ⟨c0_i32_35, v55, c1_i32_37⟩
def k0_mult5 (k0_t3 : Fin k0_t3_loop.trips) : BitVec 32 :=
  let c0_i32_35 : BitVec 32 := 0#32
  let c1_i32_37 : BitVec 32 := 1#32
  let arg26 : BitVec 32 := Scf.iv c0_i32_35 c1_i32_37 k0_t3
  let c128_i32_2687 : BitVec 32 := 128#32
  let v5304 : BitVec 32 := Scalar.muli arg26 c128_i32_2687
  v5304
def k0_off15 (k0_t3 : Fin k0_t3_loop.trips) : Fin 3 → Nat :=
  let c1_2688 : Index := 1#32
  let c0_2689 : Index := 0#32
  let c0_i32_35 : BitVec 32 := 0#32
  let c1_i32_37 : BitVec 32 := 1#32
  let arg26 : BitVec 32 := Scf.iv c0_i32_35 c1_i32_37 k0_t3
  let c128_i32_2687 : BitVec 32 := 128#32
  let v5304 : BitVec 32 := Scalar.muli arg26 c128_i32_2687
  let v5305 : BitVec 32 := v5304
  let v5306 : Index := Scalar.indexCast v5305
  ![1, 0, v5306.toNat]
def k0_off16 (k0_t3 : Fin k0_t3_loop.trips) : Fin 2 → Nat :=
  let c42_2720 : Index := 42#32
  let c0_i32_35 : BitVec 32 := 0#32
  let c1_i32_37 : BitVec 32 := 1#32
  let arg26 : BitVec 32 := Scf.iv c0_i32_35 c1_i32_37 k0_t3
  let c128_i32_2687 : BitVec 32 := 128#32
  let v5304 : BitVec 32 := Scalar.muli arg26 c128_i32_2687
  let v5305 : BitVec 32 := v5304
  let v5421 : Index := Scalar.indexCast v5305
  ![42, v5421.toNat]
@[reducible] def k0_t4_loop : Scf.Loop 32 :=
  let c0_i32_42 : BitVec 32 := 0#32
  let c52_i32_43 : BitVec 32 := 52#32
  let v62 : BitVec 32 := Scalar.addi c0_i32_42 c52_i32_43
  let c1_i32_44 : BitVec 32 := 1#32
  ⟨c0_i32_42, v62, c1_i32_44⟩
def k0_mult6 (k0_t4 : Fin k0_t4_loop.trips) : BitVec 32 :=
  let c0_i32_42 : BitVec 32 := 0#32
  let c1_i32_44 : BitVec 32 := 1#32
  let arg26 : BitVec 32 := Scf.iv c0_i32_42 c1_i32_44 k0_t4
  let c128_i32_2687 : BitVec 32 := 128#32
  let v5304 : BitVec 32 := Scalar.muli arg26 c128_i32_2687
  v5304
def k0_off17 (k0_t4 : Fin k0_t4_loop.trips) : Fin 3 → Nat :=
  let c2_2688 : Index := 2#32
  let c0_2689 : Index := 0#32
  let c0_i32_42 : BitVec 32 := 0#32
  let c1_i32_44 : BitVec 32 := 1#32
  let arg26 : BitVec 32 := Scf.iv c0_i32_42 c1_i32_44 k0_t4
  let c128_i32_2687 : BitVec 32 := 128#32
  let v5304 : BitVec 32 := Scalar.muli arg26 c128_i32_2687
  let v5305 : BitVec 32 := v5304
  let v5306 : Index := Scalar.indexCast v5305
  ![2, 0, v5306.toNat]
def k0_off18 (k0_t4 : Fin k0_t4_loop.trips) : Fin 2 → Nat :=
  let c84_2720 : Index := 84#32
  let c0_i32_42 : BitVec 32 := 0#32
  let c1_i32_44 : BitVec 32 := 1#32
  let arg26 : BitVec 32 := Scf.iv c0_i32_42 c1_i32_44 k0_t4
  let c128_i32_2687 : BitVec 32 := 128#32
  let v5304 : BitVec 32 := Scalar.muli arg26 c128_i32_2687
  let v5305 : BitVec 32 := v5304
  let v5421 : Index := Scalar.indexCast v5305
  ![84, v5421.toNat]
@[reducible] def k0_t5_loop : Scf.Loop 32 :=
  let c0_i32_97 : BitVec 32 := 0#32
  let c25_i32 : BitVec 32 := 25#32
  let v145 : BitVec 32 := Scalar.addi c0_i32_97 c25_i32
  let c1_i32_98 : BitVec 32 := 1#32
  ⟨c0_i32_97, v145, c1_i32_98⟩
def k0_mult7 (k0_t5 : Fin k0_t5_loop.trips) : BitVec 32 :=
  let c0_i32_97 : BitVec 32 := 0#32
  let c1_i32_98 : BitVec 32 := 1#32
  let arg26 : BitVec 32 := Scf.iv c0_i32_97 c1_i32_98 k0_t5
  let c1280_i32_2689 : BitVec 32 := 1280#32
  let v5306 : BitVec 32 := Scalar.muli arg26 c1280_i32_2689
  v5306
def k0_off19 (k0_t5 : Fin k0_t5_loop.trips) : Fin 1 → Nat :=
  let c0_i32_97 : BitVec 32 := 0#32
  let c1_i32_98 : BitVec 32 := 1#32
  let arg26 : BitVec 32 := Scf.iv c0_i32_97 c1_i32_98 k0_t5
  let c3_i32_2688 : BitVec 32 := 3#32
  let v5305 : BitVec 32 := Scalar.remsi arg26 c3_i32_2688
  ![v5305.toNat]
def k0_off20 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2688 : BitVec 32 := 3#32
  let v5305 : BitVec 32 := Scalar.remsi arg26 c3_i32_2688
  let c0_i32_2690 : BitVec 32 := 0#32
  let c0_i32_2691 : BitVec 32 := 0#32
  ![v5305.toNat, 0, 0]
def k0_off21 (k0_t5 : Fin k0_t5_loop.trips) : Fin 2 → Nat :=
  let c0_i32_2692 : BitVec 32 := 0#32
  let c0_i32_97 : BitVec 32 := 0#32
  let c1_i32_98 : BitVec 32 := 1#32
  let arg26 : BitVec 32 := Scf.iv c0_i32_97 c1_i32_98 k0_t5
  let c1280_i32_2689 : BitVec 32 := 1280#32
  let v5306 : BitVec 32 := Scalar.muli arg26 c1280_i32_2689
  let v5307 : BitVec 32 := v5306
  ![0, v5307.toNat]
def k0_off22 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2688 : BitVec 32 := 3#32
  let v5305 : BitVec 32 := Scalar.remsi arg26 c3_i32_2688
  let c0_i32_2693 : BitVec 32 := 0#32
  let c0_i32_2694 : BitVec 32 := 0#32
  ![v5305.toNat, 0, 0]
def k0_off23 (k0_t5 : Fin k0_t5_loop.trips) : Fin 2 → Nat :=
  let c0_i32_2695 : BitVec 32 := 0#32
  let c0_i32_97 : BitVec 32 := 0#32
  let c1_i32_98 : BitVec 32 := 1#32
  let arg26 : BitVec 32 := Scf.iv c0_i32_97 c1_i32_98 k0_t5
  let c1280_i32_2689 : BitVec 32 := 1280#32
  let v5306 : BitVec 32 := Scalar.muli arg26 c1280_i32_2689
  let v5307 : BitVec 32 := v5306
  ![0, v5307.toNat]
def k0_off24 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5318 : Index := Scalar.indexCast v5304
  let c0_2696 : Index := 0#32
  let c0_2697 : Index := 0#32
  ![v5318.toNat, 0, 0]
def k0_off25 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5324 : Index := Scalar.indexCast v5304
  let c0_2698 : Index := 0#32
  let c0_2699 : Index := 0#32
  ![v5324.toNat, 0, 0]
def k0_off26 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5333 : Index := Scalar.indexCast v5304
  let c1_2700 : Index := 1#32
  let c0_2701 : Index := 0#32
  ![v5333.toNat, 1, 0]
def k0_off27 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5339 : Index := Scalar.indexCast v5304
  let c128 : Index := 128#32
  let c0_2702 : Index := 0#32
  ![v5339.toNat, 128, 0]
def k0_off28 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5351 : Index := Scalar.indexCast v5304
  let c2_2706 : Index := 2#32
  let c0_2707 : Index := 0#32
  ![v5351.toNat, 2, 0]
def k0_off29 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5357 : Index := Scalar.indexCast v5304
  let c256 : Index := 256#32
  let c0_2708 : Index := 0#32
  ![v5357.toNat, 256, 0]
def k0_off30 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5366 : Index := Scalar.indexCast v5304
  let c3_2709 : Index := 3#32
  let c0_2710 : Index := 0#32
  ![v5366.toNat, 3, 0]
def k0_off31 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5372 : Index := Scalar.indexCast v5304
  let c384 : Index := 384#32
  let c0_2711 : Index := 0#32
  ![v5372.toNat, 384, 0]
def k0_off32 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5385 : Index := Scalar.indexCast v5304
  let c4_2715 : Index := 4#32
  let c0_2716 : Index := 0#32
  ![v5385.toNat, 4, 0]
def k0_off33 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5391 : Index := Scalar.indexCast v5304
  let c512_2717 : Index := 512#32
  let c0_2718 : Index := 0#32
  ![v5391.toNat, 512, 0]
def k0_off34 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5400 : Index := Scalar.indexCast v5304
  let c5_2719 : Index := 5#32
  let c0_2720 : Index := 0#32
  ![v5400.toNat, 5, 0]
def k0_off35 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5406 : Index := Scalar.indexCast v5304
  let c640 : Index := 640#32
  let c0_2721 : Index := 0#32
  ![v5406.toNat, 640, 0]
def k0_off36 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5419 : Index := Scalar.indexCast v5304
  let c6_2725 : Index := 6#32
  let c0_2726 : Index := 0#32
  ![v5419.toNat, 6, 0]
def k0_off37 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5425 : Index := Scalar.indexCast v5304
  let c768 : Index := 768#32
  let c0_2727 : Index := 0#32
  ![v5425.toNat, 768, 0]
def k0_off38 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5434 : Index := Scalar.indexCast v5304
  let c7_2728 : Index := 7#32
  let c0_2729 : Index := 0#32
  ![v5434.toNat, 7, 0]
def k0_off39 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5440 : Index := Scalar.indexCast v5304
  let c896 : Index := 896#32
  let c0_2730 : Index := 0#32
  ![v5440.toNat, 896, 0]
def k0_off40 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5453 : Index := Scalar.indexCast v5304
  let c8_2734 : Index := 8#32
  let c0_2735 : Index := 0#32
  ![v5453.toNat, 8, 0]
def k0_off41 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5459 : Index := Scalar.indexCast v5304
  let c1024_2736 : Index := 1024#32
  let c0_2737 : Index := 0#32
  ![v5459.toNat, 1024, 0]
def k0_off42 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5468 : Index := Scalar.indexCast v5304
  let c9_2738 : Index := 9#32
  let c0_2739 : Index := 0#32
  ![v5468.toNat, 9, 0]
def k0_off43 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5474 : Index := Scalar.indexCast v5304
  let c1152 : Index := 1152#32
  let c0_2740 : Index := 0#32
  ![v5474.toNat, 1152, 0]
def k0_off44 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5487 : Index := Scalar.indexCast v5304
  let c10_2744 : Index := 10#32
  let c0_2745 : Index := 0#32
  ![v5487.toNat, 10, 0]
def k0_off45 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5493 : Index := Scalar.indexCast v5304
  let c1280 : Index := 1280#32
  let c0_2746 : Index := 0#32
  ![v5493.toNat, 1280, 0]
def k0_off46 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5502 : Index := Scalar.indexCast v5304
  let c11_2747 : Index := 11#32
  let c0_2748 : Index := 0#32
  ![v5502.toNat, 11, 0]
def k0_off47 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5508 : Index := Scalar.indexCast v5304
  let c1408 : Index := 1408#32
  let c0_2749 : Index := 0#32
  ![v5508.toNat, 1408, 0]
def k0_off48 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5521 : Index := Scalar.indexCast v5304
  let c12_2753 : Index := 12#32
  let c0_2754 : Index := 0#32
  ![v5521.toNat, 12, 0]
def k0_off49 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5527 : Index := Scalar.indexCast v5304
  let c1536_2755 : Index := 1536#32
  let c0_2756 : Index := 0#32
  ![v5527.toNat, 1536, 0]
def k0_off50 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5536 : Index := Scalar.indexCast v5304
  let c13_2757 : Index := 13#32
  let c0_2758 : Index := 0#32
  ![v5536.toNat, 13, 0]
def k0_off51 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5542 : Index := Scalar.indexCast v5304
  let c1664 : Index := 1664#32
  let c0_2759 : Index := 0#32
  ![v5542.toNat, 1664, 0]
def k0_off52 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5555 : Index := Scalar.indexCast v5304
  let c14_2763 : Index := 14#32
  let c0_2764 : Index := 0#32
  ![v5555.toNat, 14, 0]
def k0_off53 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5561 : Index := Scalar.indexCast v5304
  let c1792 : Index := 1792#32
  let c0_2765 : Index := 0#32
  ![v5561.toNat, 1792, 0]
def k0_off54 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5570 : Index := Scalar.indexCast v5304
  let c15_2766 : Index := 15#32
  let c0_2767 : Index := 0#32
  ![v5570.toNat, 15, 0]
def k0_off55 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5576 : Index := Scalar.indexCast v5304
  let c1920 : Index := 1920#32
  let c0_2768 : Index := 0#32
  ![v5576.toNat, 1920, 0]
def k0_off56 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5589 : Index := Scalar.indexCast v5304
  let c16_2772 : Index := 16#32
  let c0_2773 : Index := 0#32
  ![v5589.toNat, 16, 0]
def k0_off57 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5595 : Index := Scalar.indexCast v5304
  let c2048_2774 : Index := 2048#32
  let c0_2775 : Index := 0#32
  ![v5595.toNat, 2048, 0]
def k0_off58 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5604 : Index := Scalar.indexCast v5304
  let c17_2776 : Index := 17#32
  let c0_2777 : Index := 0#32
  ![v5604.toNat, 17, 0]
def k0_off59 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5610 : Index := Scalar.indexCast v5304
  let c2176 : Index := 2176#32
  let c0_2778 : Index := 0#32
  ![v5610.toNat, 2176, 0]
def k0_off60 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5623 : Index := Scalar.indexCast v5304
  let c18_2782 : Index := 18#32
  let c0_2783 : Index := 0#32
  ![v5623.toNat, 18, 0]
def k0_off61 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5629 : Index := Scalar.indexCast v5304
  let c2304 : Index := 2304#32
  let c0_2784 : Index := 0#32
  ![v5629.toNat, 2304, 0]
def k0_off62 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5638 : Index := Scalar.indexCast v5304
  let c19_2785 : Index := 19#32
  let c0_2786 : Index := 0#32
  ![v5638.toNat, 19, 0]
def k0_off63 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5644 : Index := Scalar.indexCast v5304
  let c2432 : Index := 2432#32
  let c0_2787 : Index := 0#32
  ![v5644.toNat, 2432, 0]
def k0_off64 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5657 : Index := Scalar.indexCast v5304
  let c20_2791 : Index := 20#32
  let c0_2792 : Index := 0#32
  ![v5657.toNat, 20, 0]
def k0_off65 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5663 : Index := Scalar.indexCast v5304
  let c2560_2793 : Index := 2560#32
  let c0_2794 : Index := 0#32
  ![v5663.toNat, 2560, 0]
def k0_off66 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5672 : Index := Scalar.indexCast v5304
  let c21_2795 : Index := 21#32
  let c0_2796 : Index := 0#32
  ![v5672.toNat, 21, 0]
def k0_off67 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5678 : Index := Scalar.indexCast v5304
  let c2688 : Index := 2688#32
  let c0_2797 : Index := 0#32
  ![v5678.toNat, 2688, 0]
def k0_off68 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5691 : Index := Scalar.indexCast v5304
  let c22_2801 : Index := 22#32
  let c0_2802 : Index := 0#32
  ![v5691.toNat, 22, 0]
def k0_off69 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5697 : Index := Scalar.indexCast v5304
  let c2816 : Index := 2816#32
  let c0_2803 : Index := 0#32
  ![v5697.toNat, 2816, 0]
def k0_off70 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5706 : Index := Scalar.indexCast v5304
  let c23_2804 : Index := 23#32
  let c0_2805 : Index := 0#32
  ![v5706.toNat, 23, 0]
def k0_off71 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5712 : Index := Scalar.indexCast v5304
  let c2944 : Index := 2944#32
  let c0_2806 : Index := 0#32
  ![v5712.toNat, 2944, 0]
def k0_off72 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5725 : Index := Scalar.indexCast v5304
  let c24_2810 : Index := 24#32
  let c0_2811 : Index := 0#32
  ![v5725.toNat, 24, 0]
def k0_off73 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5731 : Index := Scalar.indexCast v5304
  let c3072_2812 : Index := 3072#32
  let c0_2813 : Index := 0#32
  ![v5731.toNat, 3072, 0]
def k0_off74 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5740 : Index := Scalar.indexCast v5304
  let c25_2814 : Index := 25#32
  let c0_2815 : Index := 0#32
  ![v5740.toNat, 25, 0]
def k0_off75 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5746 : Index := Scalar.indexCast v5304
  let c3200 : Index := 3200#32
  let c0_2816 : Index := 0#32
  ![v5746.toNat, 3200, 0]
def k0_off76 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5759 : Index := Scalar.indexCast v5304
  let c26_2820 : Index := 26#32
  let c0_2821 : Index := 0#32
  ![v5759.toNat, 26, 0]
def k0_off77 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5765 : Index := Scalar.indexCast v5304
  let c3328 : Index := 3328#32
  let c0_2822 : Index := 0#32
  ![v5765.toNat, 3328, 0]
def k0_off78 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5774 : Index := Scalar.indexCast v5304
  let c27_2823 : Index := 27#32
  let c0_2824 : Index := 0#32
  ![v5774.toNat, 27, 0]
def k0_off79 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5780 : Index := Scalar.indexCast v5304
  let c3456 : Index := 3456#32
  let c0_2825 : Index := 0#32
  ![v5780.toNat, 3456, 0]
def k0_off80 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5793 : Index := Scalar.indexCast v5304
  let c28_2829 : Index := 28#32
  let c0_2830 : Index := 0#32
  ![v5793.toNat, 28, 0]
def k0_off81 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5799 : Index := Scalar.indexCast v5304
  let c3584_2831 : Index := 3584#32
  let c0_2832 : Index := 0#32
  ![v5799.toNat, 3584, 0]
def k0_off82 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5808 : Index := Scalar.indexCast v5304
  let c29_2833 : Index := 29#32
  let c0_2834 : Index := 0#32
  ![v5808.toNat, 29, 0]
def k0_off83 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5814 : Index := Scalar.indexCast v5304
  let c3712 : Index := 3712#32
  let c0_2835 : Index := 0#32
  ![v5814.toNat, 3712, 0]
def k0_off84 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5827 : Index := Scalar.indexCast v5304
  let c30_2839 : Index := 30#32
  let c0_2840 : Index := 0#32
  ![v5827.toNat, 30, 0]
def k0_off85 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5833 : Index := Scalar.indexCast v5304
  let c3840 : Index := 3840#32
  let c0_2841 : Index := 0#32
  ![v5833.toNat, 3840, 0]
def k0_off86 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5842 : Index := Scalar.indexCast v5304
  let c31_2842 : Index := 31#32
  let c0_2843 : Index := 0#32
  ![v5842.toNat, 31, 0]
def k0_off87 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5848 : Index := Scalar.indexCast v5304
  let c3968 : Index := 3968#32
  let c0_2844 : Index := 0#32
  ![v5848.toNat, 3968, 0]
def k0_off88 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5861 : Index := Scalar.indexCast v5304
  let c32_2848 : Index := 32#32
  let c0_2849 : Index := 0#32
  ![v5861.toNat, 32, 0]
def k0_off89 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5867 : Index := Scalar.indexCast v5304
  let c4096_2850 : Index := 4096#32
  let c0_2851 : Index := 0#32
  ![v5867.toNat, 4096, 0]
def k0_off90 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5876 : Index := Scalar.indexCast v5304
  let c33_2852 : Index := 33#32
  let c0_2853 : Index := 0#32
  ![v5876.toNat, 33, 0]
def k0_off91 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5882 : Index := Scalar.indexCast v5304
  let c4224 : Index := 4224#32
  let c0_2854 : Index := 0#32
  ![v5882.toNat, 4224, 0]
def k0_off92 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5895 : Index := Scalar.indexCast v5304
  let c34_2858 : Index := 34#32
  let c0_2859 : Index := 0#32
  ![v5895.toNat, 34, 0]
def k0_off93 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5901 : Index := Scalar.indexCast v5304
  let c4352 : Index := 4352#32
  let c0_2860 : Index := 0#32
  ![v5901.toNat, 4352, 0]
def k0_off94 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5910 : Index := Scalar.indexCast v5304
  let c35_2861 : Index := 35#32
  let c0_2862 : Index := 0#32
  ![v5910.toNat, 35, 0]
def k0_off95 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5916 : Index := Scalar.indexCast v5304
  let c4480 : Index := 4480#32
  let c0_2863 : Index := 0#32
  ![v5916.toNat, 4480, 0]
def k0_off96 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5929 : Index := Scalar.indexCast v5304
  let c36_2867 : Index := 36#32
  let c0_2868 : Index := 0#32
  ![v5929.toNat, 36, 0]
def k0_off97 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5935 : Index := Scalar.indexCast v5304
  let c4608_2869 : Index := 4608#32
  let c0_2870 : Index := 0#32
  ![v5935.toNat, 4608, 0]
def k0_off98 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5944 : Index := Scalar.indexCast v5304
  let c37_2871 : Index := 37#32
  let c0_2872 : Index := 0#32
  ![v5944.toNat, 37, 0]
def k0_off99 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5950 : Index := Scalar.indexCast v5304
  let c4736 : Index := 4736#32
  let c0_2873 : Index := 0#32
  ![v5950.toNat, 4736, 0]
def k0_off100 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5963 : Index := Scalar.indexCast v5304
  let c38_2877 : Index := 38#32
  let c0_2878 : Index := 0#32
  ![v5963.toNat, 38, 0]
def k0_off101 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5969 : Index := Scalar.indexCast v5304
  let c4864 : Index := 4864#32
  let c0_2879 : Index := 0#32
  ![v5969.toNat, 4864, 0]
def k0_off102 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5978 : Index := Scalar.indexCast v5304
  let c39_2880 : Index := 39#32
  let c0_2881 : Index := 0#32
  ![v5978.toNat, 39, 0]
def k0_off103 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5984 : Index := Scalar.indexCast v5304
  let c4992 : Index := 4992#32
  let c0_2882 : Index := 0#32
  ![v5984.toNat, 4992, 0]
def k0_off104 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v5997 : Index := Scalar.indexCast v5304
  let c40_2886 : Index := 40#32
  let c0_2887 : Index := 0#32
  ![v5997.toNat, 40, 0]
def k0_off105 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6003 : Index := Scalar.indexCast v5304
  let c5120_2888 : Index := 5120#32
  let c0_2889 : Index := 0#32
  ![v6003.toNat, 5120, 0]
def k0_off106 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6012 : Index := Scalar.indexCast v5304
  let c41_2890 : Index := 41#32
  let c0_2891 : Index := 0#32
  ![v6012.toNat, 41, 0]
def k0_off107 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6018 : Index := Scalar.indexCast v5304
  let c5248 : Index := 5248#32
  let c0_2892 : Index := 0#32
  ![v6018.toNat, 5248, 0]
def k0_off108 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6031 : Index := Scalar.indexCast v5304
  let c42_2896 : Index := 42#32
  let c0_2897 : Index := 0#32
  ![v6031.toNat, 42, 0]
def k0_off109 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6037 : Index := Scalar.indexCast v5304
  let c5376 : Index := 5376#32
  let c0_2898 : Index := 0#32
  ![v6037.toNat, 5376, 0]
def k0_off110 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6046 : Index := Scalar.indexCast v5304
  let c43_2899 : Index := 43#32
  let c0_2900 : Index := 0#32
  ![v6046.toNat, 43, 0]
def k0_off111 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6052 : Index := Scalar.indexCast v5304
  let c5504 : Index := 5504#32
  let c0_2901 : Index := 0#32
  ![v6052.toNat, 5504, 0]
def k0_off112 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6065 : Index := Scalar.indexCast v5304
  let c44_2905 : Index := 44#32
  let c0_2906 : Index := 0#32
  ![v6065.toNat, 44, 0]
def k0_off113 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6071 : Index := Scalar.indexCast v5304
  let c5632_2907 : Index := 5632#32
  let c0_2908 : Index := 0#32
  ![v6071.toNat, 5632, 0]
def k0_off114 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6080 : Index := Scalar.indexCast v5304
  let c45_2909 : Index := 45#32
  let c0_2910 : Index := 0#32
  ![v6080.toNat, 45, 0]
def k0_off115 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6086 : Index := Scalar.indexCast v5304
  let c5760 : Index := 5760#32
  let c0_2911 : Index := 0#32
  ![v6086.toNat, 5760, 0]
def k0_off116 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6099 : Index := Scalar.indexCast v5304
  let c46_2915 : Index := 46#32
  let c0_2916 : Index := 0#32
  ![v6099.toNat, 46, 0]
def k0_off117 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6105 : Index := Scalar.indexCast v5304
  let c5888 : Index := 5888#32
  let c0_2917 : Index := 0#32
  ![v6105.toNat, 5888, 0]
def k0_off118 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6114 : Index := Scalar.indexCast v5304
  let c47_2918 : Index := 47#32
  let c0_2919 : Index := 0#32
  ![v6114.toNat, 47, 0]
def k0_off119 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6120 : Index := Scalar.indexCast v5304
  let c6016 : Index := 6016#32
  let c0_2920 : Index := 0#32
  ![v6120.toNat, 6016, 0]
def k0_off120 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6133 : Index := Scalar.indexCast v5304
  let c48_2924 : Index := 48#32
  let c0_2925 : Index := 0#32
  ![v6133.toNat, 48, 0]
def k0_off121 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6139 : Index := Scalar.indexCast v5304
  let c6144_2926 : Index := 6144#32
  let c0_2927 : Index := 0#32
  ![v6139.toNat, 6144, 0]
def k0_off122 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6148 : Index := Scalar.indexCast v5304
  let c49_2928 : Index := 49#32
  let c0_2929 : Index := 0#32
  ![v6148.toNat, 49, 0]
def k0_off123 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6154 : Index := Scalar.indexCast v5304
  let c6272 : Index := 6272#32
  let c0_2930 : Index := 0#32
  ![v6154.toNat, 6272, 0]
def k0_off124 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6167 : Index := Scalar.indexCast v5304
  let c50_2934 : Index := 50#32
  let c0_2935 : Index := 0#32
  ![v6167.toNat, 50, 0]
def k0_off125 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6173 : Index := Scalar.indexCast v5304
  let c6400 : Index := 6400#32
  let c0_2936 : Index := 0#32
  ![v6173.toNat, 6400, 0]
def k0_off126 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6182 : Index := Scalar.indexCast v5304
  let c51_2937 : Index := 51#32
  let c0_2938 : Index := 0#32
  ![v6182.toNat, 51, 0]
def k0_off127 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6188 : Index := Scalar.indexCast v5304
  let c6528 : Index := 6528#32
  let c0_2939 : Index := 0#32
  ![v6188.toNat, 6528, 0]
def k0_off128 (k0_t5 : Fin k0_t5_loop.trips) (c0_i32_2944 : BitVec 32) (c0_i32_2945 : BitVec 32) : Fin 3 → Nat :=
  let c0_i32_97 : BitVec 32 := 0#32
  let c1_i32_98 : BitVec 32 := 1#32
  let arg26 : BitVec 32 := Scf.iv c0_i32_97 c1_i32_98 k0_t5
  let c10_i32 : BitVec 32 := 10#32
  let v6204 : BitVec 32 := Scalar.muli arg26 c10_i32
  let v6205 : BitVec 32 := Scalar.addi v6204 c0_i32_2944
  let v6206 : BitVec 32 := Scalar.addi v6205 c0_i32_2945
  let v6207 : Index := Scalar.indexCast v6206
  let c0_2946 : Index := 0#32
  let c0_2947 : Index := 0#32
  ![v6207.toNat, 0, 0]
def k0_off129 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6219 : Index := Scalar.indexCast v5304
  let c0_2953 : Index := 0#32
  let c256_2954 : Index := 256#32
  ![v6219.toNat, 0, 256]
def k0_off130 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6225 : Index := Scalar.indexCast v5304
  let c0_2955 : Index := 0#32
  let c256_2956 : Index := 256#32
  ![v6225.toNat, 0, 256]
def k0_off131 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6234 : Index := Scalar.indexCast v5304
  let c1_2957 : Index := 1#32
  let c256_2958 : Index := 256#32
  ![v6234.toNat, 1, 256]
def k0_off132 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6240 : Index := Scalar.indexCast v5304
  let c128_2959 : Index := 128#32
  let c256_2960 : Index := 256#32
  ![v6240.toNat, 128, 256]
def k0_off133 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6252 : Index := Scalar.indexCast v5304
  let c2_2964 : Index := 2#32
  let c256_2965 : Index := 256#32
  ![v6252.toNat, 2, 256]
def k0_off134 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6258 : Index := Scalar.indexCast v5304
  let c256_2966 : Index := 256#32
  let c256_2967 : Index := 256#32
  ![v6258.toNat, 256, 256]
def k0_off135 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6267 : Index := Scalar.indexCast v5304
  let c3_2968 : Index := 3#32
  let c256_2969 : Index := 256#32
  ![v6267.toNat, 3, 256]
def k0_off136 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6273 : Index := Scalar.indexCast v5304
  let c384_2970 : Index := 384#32
  let c256_2971 : Index := 256#32
  ![v6273.toNat, 384, 256]
def k0_off137 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6286 : Index := Scalar.indexCast v5304
  let c4_2975 : Index := 4#32
  let c256_2976 : Index := 256#32
  ![v6286.toNat, 4, 256]
def k0_off138 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6292 : Index := Scalar.indexCast v5304
  let c512_2977 : Index := 512#32
  let c256_2978 : Index := 256#32
  ![v6292.toNat, 512, 256]
def k0_off139 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6301 : Index := Scalar.indexCast v5304
  let c5_2979 : Index := 5#32
  let c256_2980 : Index := 256#32
  ![v6301.toNat, 5, 256]
def k0_off140 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6307 : Index := Scalar.indexCast v5304
  let c640_2981 : Index := 640#32
  let c256_2982 : Index := 256#32
  ![v6307.toNat, 640, 256]
def k0_off141 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6320 : Index := Scalar.indexCast v5304
  let c6_2986 : Index := 6#32
  let c256_2987 : Index := 256#32
  ![v6320.toNat, 6, 256]
def k0_off142 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6326 : Index := Scalar.indexCast v5304
  let c768_2988 : Index := 768#32
  let c256_2989 : Index := 256#32
  ![v6326.toNat, 768, 256]
def k0_off143 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6335 : Index := Scalar.indexCast v5304
  let c7_2990 : Index := 7#32
  let c256_2991 : Index := 256#32
  ![v6335.toNat, 7, 256]
def k0_off144 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6341 : Index := Scalar.indexCast v5304
  let c896_2992 : Index := 896#32
  let c256_2993 : Index := 256#32
  ![v6341.toNat, 896, 256]
def k0_off145 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6354 : Index := Scalar.indexCast v5304
  let c8_2997 : Index := 8#32
  let c256_2998 : Index := 256#32
  ![v6354.toNat, 8, 256]
def k0_off146 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6360 : Index := Scalar.indexCast v5304
  let c1024_2999 : Index := 1024#32
  let c256_3000 : Index := 256#32
  ![v6360.toNat, 1024, 256]
def k0_off147 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6369 : Index := Scalar.indexCast v5304
  let c9_3001 : Index := 9#32
  let c256_3002 : Index := 256#32
  ![v6369.toNat, 9, 256]
def k0_off148 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6375 : Index := Scalar.indexCast v5304
  let c1152_3003 : Index := 1152#32
  let c256_3004 : Index := 256#32
  ![v6375.toNat, 1152, 256]
def k0_off149 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6388 : Index := Scalar.indexCast v5304
  let c10_3008 : Index := 10#32
  let c256_3009 : Index := 256#32
  ![v6388.toNat, 10, 256]
def k0_off150 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6394 : Index := Scalar.indexCast v5304
  let c1280_3010 : Index := 1280#32
  let c256_3011 : Index := 256#32
  ![v6394.toNat, 1280, 256]
def k0_off151 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6403 : Index := Scalar.indexCast v5304
  let c11_3012 : Index := 11#32
  let c256_3013 : Index := 256#32
  ![v6403.toNat, 11, 256]
def k0_off152 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6409 : Index := Scalar.indexCast v5304
  let c1408_3014 : Index := 1408#32
  let c256_3015 : Index := 256#32
  ![v6409.toNat, 1408, 256]
def k0_off153 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6422 : Index := Scalar.indexCast v5304
  let c12_3019 : Index := 12#32
  let c256_3020 : Index := 256#32
  ![v6422.toNat, 12, 256]
def k0_off154 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6428 : Index := Scalar.indexCast v5304
  let c1536_3021 : Index := 1536#32
  let c256_3022 : Index := 256#32
  ![v6428.toNat, 1536, 256]
def k0_off155 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6437 : Index := Scalar.indexCast v5304
  let c13_3023 : Index := 13#32
  let c256_3024 : Index := 256#32
  ![v6437.toNat, 13, 256]
def k0_off156 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6443 : Index := Scalar.indexCast v5304
  let c1664_3025 : Index := 1664#32
  let c256_3026 : Index := 256#32
  ![v6443.toNat, 1664, 256]
def k0_off157 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6456 : Index := Scalar.indexCast v5304
  let c14_3030 : Index := 14#32
  let c256_3031 : Index := 256#32
  ![v6456.toNat, 14, 256]
def k0_off158 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6462 : Index := Scalar.indexCast v5304
  let c1792_3032 : Index := 1792#32
  let c256_3033 : Index := 256#32
  ![v6462.toNat, 1792, 256]
def k0_off159 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6471 : Index := Scalar.indexCast v5304
  let c15_3034 : Index := 15#32
  let c256_3035 : Index := 256#32
  ![v6471.toNat, 15, 256]
def k0_off160 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6477 : Index := Scalar.indexCast v5304
  let c1920_3036 : Index := 1920#32
  let c256_3037 : Index := 256#32
  ![v6477.toNat, 1920, 256]
def k0_off161 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6490 : Index := Scalar.indexCast v5304
  let c16_3041 : Index := 16#32
  let c256_3042 : Index := 256#32
  ![v6490.toNat, 16, 256]
def k0_off162 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6496 : Index := Scalar.indexCast v5304
  let c2048_3043 : Index := 2048#32
  let c256_3044 : Index := 256#32
  ![v6496.toNat, 2048, 256]
def k0_off163 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6505 : Index := Scalar.indexCast v5304
  let c17_3045 : Index := 17#32
  let c256_3046 : Index := 256#32
  ![v6505.toNat, 17, 256]
def k0_off164 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6511 : Index := Scalar.indexCast v5304
  let c2176_3047 : Index := 2176#32
  let c256_3048 : Index := 256#32
  ![v6511.toNat, 2176, 256]
def k0_off165 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6524 : Index := Scalar.indexCast v5304
  let c18_3052 : Index := 18#32
  let c256_3053 : Index := 256#32
  ![v6524.toNat, 18, 256]
def k0_off166 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6530 : Index := Scalar.indexCast v5304
  let c2304_3054 : Index := 2304#32
  let c256_3055 : Index := 256#32
  ![v6530.toNat, 2304, 256]
def k0_off167 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6539 : Index := Scalar.indexCast v5304
  let c19_3056 : Index := 19#32
  let c256_3057 : Index := 256#32
  ![v6539.toNat, 19, 256]
def k0_off168 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6545 : Index := Scalar.indexCast v5304
  let c2432_3058 : Index := 2432#32
  let c256_3059 : Index := 256#32
  ![v6545.toNat, 2432, 256]
def k0_off169 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6558 : Index := Scalar.indexCast v5304
  let c20_3063 : Index := 20#32
  let c256_3064 : Index := 256#32
  ![v6558.toNat, 20, 256]
def k0_off170 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6564 : Index := Scalar.indexCast v5304
  let c2560_3065 : Index := 2560#32
  let c256_3066 : Index := 256#32
  ![v6564.toNat, 2560, 256]
def k0_off171 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6573 : Index := Scalar.indexCast v5304
  let c21_3067 : Index := 21#32
  let c256_3068 : Index := 256#32
  ![v6573.toNat, 21, 256]
def k0_off172 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6579 : Index := Scalar.indexCast v5304
  let c2688_3069 : Index := 2688#32
  let c256_3070 : Index := 256#32
  ![v6579.toNat, 2688, 256]
def k0_off173 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6592 : Index := Scalar.indexCast v5304
  let c22_3074 : Index := 22#32
  let c256_3075 : Index := 256#32
  ![v6592.toNat, 22, 256]
def k0_off174 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6598 : Index := Scalar.indexCast v5304
  let c2816_3076 : Index := 2816#32
  let c256_3077 : Index := 256#32
  ![v6598.toNat, 2816, 256]
def k0_off175 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6607 : Index := Scalar.indexCast v5304
  let c23_3078 : Index := 23#32
  let c256_3079 : Index := 256#32
  ![v6607.toNat, 23, 256]
def k0_off176 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6613 : Index := Scalar.indexCast v5304
  let c2944_3080 : Index := 2944#32
  let c256_3081 : Index := 256#32
  ![v6613.toNat, 2944, 256]
def k0_off177 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6626 : Index := Scalar.indexCast v5304
  let c24_3085 : Index := 24#32
  let c256_3086 : Index := 256#32
  ![v6626.toNat, 24, 256]
def k0_off178 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6632 : Index := Scalar.indexCast v5304
  let c3072_3087 : Index := 3072#32
  let c256_3088 : Index := 256#32
  ![v6632.toNat, 3072, 256]
def k0_off179 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6641 : Index := Scalar.indexCast v5304
  let c25_3089 : Index := 25#32
  let c256_3090 : Index := 256#32
  ![v6641.toNat, 25, 256]
def k0_off180 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6647 : Index := Scalar.indexCast v5304
  let c3200_3091 : Index := 3200#32
  let c256_3092 : Index := 256#32
  ![v6647.toNat, 3200, 256]
def k0_off181 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6660 : Index := Scalar.indexCast v5304
  let c26_3096 : Index := 26#32
  let c256_3097 : Index := 256#32
  ![v6660.toNat, 26, 256]
def k0_off182 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6666 : Index := Scalar.indexCast v5304
  let c3328_3098 : Index := 3328#32
  let c256_3099 : Index := 256#32
  ![v6666.toNat, 3328, 256]
def k0_off183 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6675 : Index := Scalar.indexCast v5304
  let c27_3100 : Index := 27#32
  let c256_3101 : Index := 256#32
  ![v6675.toNat, 27, 256]
def k0_off184 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6681 : Index := Scalar.indexCast v5304
  let c3456_3102 : Index := 3456#32
  let c256_3103 : Index := 256#32
  ![v6681.toNat, 3456, 256]
def k0_off185 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6694 : Index := Scalar.indexCast v5304
  let c28_3107 : Index := 28#32
  let c256_3108 : Index := 256#32
  ![v6694.toNat, 28, 256]
def k0_off186 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6700 : Index := Scalar.indexCast v5304
  let c3584_3109 : Index := 3584#32
  let c256_3110 : Index := 256#32
  ![v6700.toNat, 3584, 256]
def k0_off187 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6709 : Index := Scalar.indexCast v5304
  let c29_3111 : Index := 29#32
  let c256_3112 : Index := 256#32
  ![v6709.toNat, 29, 256]
def k0_off188 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6715 : Index := Scalar.indexCast v5304
  let c3712_3113 : Index := 3712#32
  let c256_3114 : Index := 256#32
  ![v6715.toNat, 3712, 256]
def k0_off189 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6728 : Index := Scalar.indexCast v5304
  let c30_3118 : Index := 30#32
  let c256_3119 : Index := 256#32
  ![v6728.toNat, 30, 256]
def k0_off190 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6734 : Index := Scalar.indexCast v5304
  let c3840_3120 : Index := 3840#32
  let c256_3121 : Index := 256#32
  ![v6734.toNat, 3840, 256]
def k0_off191 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6743 : Index := Scalar.indexCast v5304
  let c31_3122 : Index := 31#32
  let c256_3123 : Index := 256#32
  ![v6743.toNat, 31, 256]
def k0_off192 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6749 : Index := Scalar.indexCast v5304
  let c3968_3124 : Index := 3968#32
  let c256_3125 : Index := 256#32
  ![v6749.toNat, 3968, 256]
def k0_off193 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6762 : Index := Scalar.indexCast v5304
  let c32_3129 : Index := 32#32
  let c256_3130 : Index := 256#32
  ![v6762.toNat, 32, 256]
def k0_off194 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6768 : Index := Scalar.indexCast v5304
  let c4096_3131 : Index := 4096#32
  let c256_3132 : Index := 256#32
  ![v6768.toNat, 4096, 256]
def k0_off195 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6777 : Index := Scalar.indexCast v5304
  let c33_3133 : Index := 33#32
  let c256_3134 : Index := 256#32
  ![v6777.toNat, 33, 256]
def k0_off196 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6783 : Index := Scalar.indexCast v5304
  let c4224_3135 : Index := 4224#32
  let c256_3136 : Index := 256#32
  ![v6783.toNat, 4224, 256]
def k0_off197 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6796 : Index := Scalar.indexCast v5304
  let c34_3140 : Index := 34#32
  let c256_3141 : Index := 256#32
  ![v6796.toNat, 34, 256]
def k0_off198 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6802 : Index := Scalar.indexCast v5304
  let c4352_3142 : Index := 4352#32
  let c256_3143 : Index := 256#32
  ![v6802.toNat, 4352, 256]
def k0_off199 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6811 : Index := Scalar.indexCast v5304
  let c35_3144 : Index := 35#32
  let c256_3145 : Index := 256#32
  ![v6811.toNat, 35, 256]
def k0_off200 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6817 : Index := Scalar.indexCast v5304
  let c4480_3146 : Index := 4480#32
  let c256_3147 : Index := 256#32
  ![v6817.toNat, 4480, 256]
def k0_off201 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6830 : Index := Scalar.indexCast v5304
  let c36_3151 : Index := 36#32
  let c256_3152 : Index := 256#32
  ![v6830.toNat, 36, 256]
def k0_off202 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6836 : Index := Scalar.indexCast v5304
  let c4608_3153 : Index := 4608#32
  let c256_3154 : Index := 256#32
  ![v6836.toNat, 4608, 256]
def k0_off203 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6845 : Index := Scalar.indexCast v5304
  let c37_3155 : Index := 37#32
  let c256_3156 : Index := 256#32
  ![v6845.toNat, 37, 256]
def k0_off204 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6851 : Index := Scalar.indexCast v5304
  let c4736_3157 : Index := 4736#32
  let c256_3158 : Index := 256#32
  ![v6851.toNat, 4736, 256]
def k0_off205 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6864 : Index := Scalar.indexCast v5304
  let c38_3162 : Index := 38#32
  let c256_3163 : Index := 256#32
  ![v6864.toNat, 38, 256]
def k0_off206 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6870 : Index := Scalar.indexCast v5304
  let c4864_3164 : Index := 4864#32
  let c256_3165 : Index := 256#32
  ![v6870.toNat, 4864, 256]
def k0_off207 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6879 : Index := Scalar.indexCast v5304
  let c39_3166 : Index := 39#32
  let c256_3167 : Index := 256#32
  ![v6879.toNat, 39, 256]
def k0_off208 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6885 : Index := Scalar.indexCast v5304
  let c4992_3168 : Index := 4992#32
  let c256_3169 : Index := 256#32
  ![v6885.toNat, 4992, 256]
def k0_off209 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6898 : Index := Scalar.indexCast v5304
  let c40_3173 : Index := 40#32
  let c256_3174 : Index := 256#32
  ![v6898.toNat, 40, 256]
def k0_off210 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6904 : Index := Scalar.indexCast v5304
  let c5120_3175 : Index := 5120#32
  let c256_3176 : Index := 256#32
  ![v6904.toNat, 5120, 256]
def k0_off211 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6913 : Index := Scalar.indexCast v5304
  let c41_3177 : Index := 41#32
  let c256_3178 : Index := 256#32
  ![v6913.toNat, 41, 256]
def k0_off212 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6919 : Index := Scalar.indexCast v5304
  let c5248_3179 : Index := 5248#32
  let c256_3180 : Index := 256#32
  ![v6919.toNat, 5248, 256]
def k0_off213 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6932 : Index := Scalar.indexCast v5304
  let c42_3184 : Index := 42#32
  let c256_3185 : Index := 256#32
  ![v6932.toNat, 42, 256]
def k0_off214 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6938 : Index := Scalar.indexCast v5304
  let c5376_3186 : Index := 5376#32
  let c256_3187 : Index := 256#32
  ![v6938.toNat, 5376, 256]
def k0_off215 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6947 : Index := Scalar.indexCast v5304
  let c43_3188 : Index := 43#32
  let c256_3189 : Index := 256#32
  ![v6947.toNat, 43, 256]
def k0_off216 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6953 : Index := Scalar.indexCast v5304
  let c5504_3190 : Index := 5504#32
  let c256_3191 : Index := 256#32
  ![v6953.toNat, 5504, 256]
def k0_off217 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6966 : Index := Scalar.indexCast v5304
  let c44_3195 : Index := 44#32
  let c256_3196 : Index := 256#32
  ![v6966.toNat, 44, 256]
def k0_off218 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6972 : Index := Scalar.indexCast v5304
  let c5632_3197 : Index := 5632#32
  let c256_3198 : Index := 256#32
  ![v6972.toNat, 5632, 256]
def k0_off219 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6981 : Index := Scalar.indexCast v5304
  let c45_3199 : Index := 45#32
  let c256_3200 : Index := 256#32
  ![v6981.toNat, 45, 256]
def k0_off220 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v6987 : Index := Scalar.indexCast v5304
  let c5760_3201 : Index := 5760#32
  let c256_3202 : Index := 256#32
  ![v6987.toNat, 5760, 256]
def k0_off221 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7000 : Index := Scalar.indexCast v5304
  let c46_3206 : Index := 46#32
  let c256_3207 : Index := 256#32
  ![v7000.toNat, 46, 256]
def k0_off222 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7006 : Index := Scalar.indexCast v5304
  let c5888_3208 : Index := 5888#32
  let c256_3209 : Index := 256#32
  ![v7006.toNat, 5888, 256]
def k0_off223 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7015 : Index := Scalar.indexCast v5304
  let c47_3210 : Index := 47#32
  let c256_3211 : Index := 256#32
  ![v7015.toNat, 47, 256]
def k0_off224 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7021 : Index := Scalar.indexCast v5304
  let c6016_3212 : Index := 6016#32
  let c256_3213 : Index := 256#32
  ![v7021.toNat, 6016, 256]
def k0_off225 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7034 : Index := Scalar.indexCast v5304
  let c48_3217 : Index := 48#32
  let c256_3218 : Index := 256#32
  ![v7034.toNat, 48, 256]
def k0_off226 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7040 : Index := Scalar.indexCast v5304
  let c6144_3219 : Index := 6144#32
  let c256_3220 : Index := 256#32
  ![v7040.toNat, 6144, 256]
def k0_off227 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7049 : Index := Scalar.indexCast v5304
  let c49_3221 : Index := 49#32
  let c256_3222 : Index := 256#32
  ![v7049.toNat, 49, 256]
def k0_off228 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7055 : Index := Scalar.indexCast v5304
  let c6272_3223 : Index := 6272#32
  let c256_3224 : Index := 256#32
  ![v7055.toNat, 6272, 256]
def k0_off229 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7068 : Index := Scalar.indexCast v5304
  let c50_3228 : Index := 50#32
  let c256_3229 : Index := 256#32
  ![v7068.toNat, 50, 256]
def k0_off230 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7074 : Index := Scalar.indexCast v5304
  let c6400_3230 : Index := 6400#32
  let c256_3231 : Index := 256#32
  ![v7074.toNat, 6400, 256]
def k0_off231 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7083 : Index := Scalar.indexCast v5304
  let c51_3232 : Index := 51#32
  let c256_3233 : Index := 256#32
  ![v7083.toNat, 51, 256]
def k0_off232 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7089 : Index := Scalar.indexCast v5304
  let c6528_3234 : Index := 6528#32
  let c256_3235 : Index := 256#32
  ![v7089.toNat, 6528, 256]
def k0_off233 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7120 : Index := Scalar.indexCast v5304
  let c0_3250 : Index := 0#32
  let c512_3251 : Index := 512#32
  ![v7120.toNat, 0, 512]
def k0_off234 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7126 : Index := Scalar.indexCast v5304
  let c0_3252 : Index := 0#32
  let c512_3253 : Index := 512#32
  ![v7126.toNat, 0, 512]
def k0_off235 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7135 : Index := Scalar.indexCast v5304
  let c1_3254 : Index := 1#32
  let c512_3255 : Index := 512#32
  ![v7135.toNat, 1, 512]
def k0_off236 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7141 : Index := Scalar.indexCast v5304
  let c128_3256 : Index := 128#32
  let c512_3257 : Index := 512#32
  ![v7141.toNat, 128, 512]
def k0_off237 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7153 : Index := Scalar.indexCast v5304
  let c2_3261 : Index := 2#32
  let c512_3262 : Index := 512#32
  ![v7153.toNat, 2, 512]
def k0_off238 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7159 : Index := Scalar.indexCast v5304
  let c256_3263 : Index := 256#32
  let c512_3264 : Index := 512#32
  ![v7159.toNat, 256, 512]
def k0_off239 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7168 : Index := Scalar.indexCast v5304
  let c3_3265 : Index := 3#32
  let c512_3266 : Index := 512#32
  ![v7168.toNat, 3, 512]
def k0_off240 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7174 : Index := Scalar.indexCast v5304
  let c384_3267 : Index := 384#32
  let c512_3268 : Index := 512#32
  ![v7174.toNat, 384, 512]
def k0_off241 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7187 : Index := Scalar.indexCast v5304
  let c4_3272 : Index := 4#32
  let c512_3273 : Index := 512#32
  ![v7187.toNat, 4, 512]
def k0_off242 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7193 : Index := Scalar.indexCast v5304
  let c512_3274 : Index := 512#32
  let c512_3275 : Index := 512#32
  ![v7193.toNat, 512, 512]
def k0_off243 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7202 : Index := Scalar.indexCast v5304
  let c5_3276 : Index := 5#32
  let c512_3277 : Index := 512#32
  ![v7202.toNat, 5, 512]
def k0_off244 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7208 : Index := Scalar.indexCast v5304
  let c640_3278 : Index := 640#32
  let c512_3279 : Index := 512#32
  ![v7208.toNat, 640, 512]
def k0_off245 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7221 : Index := Scalar.indexCast v5304
  let c6_3283 : Index := 6#32
  let c512_3284 : Index := 512#32
  ![v7221.toNat, 6, 512]
def k0_off246 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7227 : Index := Scalar.indexCast v5304
  let c768_3285 : Index := 768#32
  let c512_3286 : Index := 512#32
  ![v7227.toNat, 768, 512]
def k0_off247 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7236 : Index := Scalar.indexCast v5304
  let c7_3287 : Index := 7#32
  let c512_3288 : Index := 512#32
  ![v7236.toNat, 7, 512]
def k0_off248 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7242 : Index := Scalar.indexCast v5304
  let c896_3289 : Index := 896#32
  let c512_3290 : Index := 512#32
  ![v7242.toNat, 896, 512]
def k0_off249 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7255 : Index := Scalar.indexCast v5304
  let c8_3294 : Index := 8#32
  let c512_3295 : Index := 512#32
  ![v7255.toNat, 8, 512]
def k0_off250 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7261 : Index := Scalar.indexCast v5304
  let c1024_3296 : Index := 1024#32
  let c512_3297 : Index := 512#32
  ![v7261.toNat, 1024, 512]
def k0_off251 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7270 : Index := Scalar.indexCast v5304
  let c9_3298 : Index := 9#32
  let c512_3299 : Index := 512#32
  ![v7270.toNat, 9, 512]
def k0_off252 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7276 : Index := Scalar.indexCast v5304
  let c1152_3300 : Index := 1152#32
  let c512_3301 : Index := 512#32
  ![v7276.toNat, 1152, 512]
def k0_off253 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7289 : Index := Scalar.indexCast v5304
  let c10_3305 : Index := 10#32
  let c512_3306 : Index := 512#32
  ![v7289.toNat, 10, 512]
def k0_off254 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7295 : Index := Scalar.indexCast v5304
  let c1280_3307 : Index := 1280#32
  let c512_3308 : Index := 512#32
  ![v7295.toNat, 1280, 512]
def k0_off255 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7304 : Index := Scalar.indexCast v5304
  let c11_3309 : Index := 11#32
  let c512_3310 : Index := 512#32
  ![v7304.toNat, 11, 512]
def k0_off256 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7310 : Index := Scalar.indexCast v5304
  let c1408_3311 : Index := 1408#32
  let c512_3312 : Index := 512#32
  ![v7310.toNat, 1408, 512]
def k0_off257 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7323 : Index := Scalar.indexCast v5304
  let c12_3316 : Index := 12#32
  let c512_3317 : Index := 512#32
  ![v7323.toNat, 12, 512]
def k0_off258 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7329 : Index := Scalar.indexCast v5304
  let c1536_3318 : Index := 1536#32
  let c512_3319 : Index := 512#32
  ![v7329.toNat, 1536, 512]
def k0_off259 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7338 : Index := Scalar.indexCast v5304
  let c13_3320 : Index := 13#32
  let c512_3321 : Index := 512#32
  ![v7338.toNat, 13, 512]
def k0_off260 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7344 : Index := Scalar.indexCast v5304
  let c1664_3322 : Index := 1664#32
  let c512_3323 : Index := 512#32
  ![v7344.toNat, 1664, 512]
def k0_off261 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7357 : Index := Scalar.indexCast v5304
  let c14_3327 : Index := 14#32
  let c512_3328 : Index := 512#32
  ![v7357.toNat, 14, 512]
def k0_off262 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7363 : Index := Scalar.indexCast v5304
  let c1792_3329 : Index := 1792#32
  let c512_3330 : Index := 512#32
  ![v7363.toNat, 1792, 512]
def k0_off263 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7372 : Index := Scalar.indexCast v5304
  let c15_3331 : Index := 15#32
  let c512_3332 : Index := 512#32
  ![v7372.toNat, 15, 512]
def k0_off264 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7378 : Index := Scalar.indexCast v5304
  let c1920_3333 : Index := 1920#32
  let c512_3334 : Index := 512#32
  ![v7378.toNat, 1920, 512]
def k0_off265 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7391 : Index := Scalar.indexCast v5304
  let c16_3338 : Index := 16#32
  let c512_3339 : Index := 512#32
  ![v7391.toNat, 16, 512]
def k0_off266 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7397 : Index := Scalar.indexCast v5304
  let c2048_3340 : Index := 2048#32
  let c512_3341 : Index := 512#32
  ![v7397.toNat, 2048, 512]
def k0_off267 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7406 : Index := Scalar.indexCast v5304
  let c17_3342 : Index := 17#32
  let c512_3343 : Index := 512#32
  ![v7406.toNat, 17, 512]
def k0_off268 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7412 : Index := Scalar.indexCast v5304
  let c2176_3344 : Index := 2176#32
  let c512_3345 : Index := 512#32
  ![v7412.toNat, 2176, 512]
def k0_off269 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7425 : Index := Scalar.indexCast v5304
  let c18_3349 : Index := 18#32
  let c512_3350 : Index := 512#32
  ![v7425.toNat, 18, 512]
def k0_off270 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7431 : Index := Scalar.indexCast v5304
  let c2304_3351 : Index := 2304#32
  let c512_3352 : Index := 512#32
  ![v7431.toNat, 2304, 512]
def k0_off271 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7440 : Index := Scalar.indexCast v5304
  let c19_3353 : Index := 19#32
  let c512_3354 : Index := 512#32
  ![v7440.toNat, 19, 512]
def k0_off272 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7446 : Index := Scalar.indexCast v5304
  let c2432_3355 : Index := 2432#32
  let c512_3356 : Index := 512#32
  ![v7446.toNat, 2432, 512]
def k0_off273 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7459 : Index := Scalar.indexCast v5304
  let c20_3360 : Index := 20#32
  let c512_3361 : Index := 512#32
  ![v7459.toNat, 20, 512]
def k0_off274 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7465 : Index := Scalar.indexCast v5304
  let c2560_3362 : Index := 2560#32
  let c512_3363 : Index := 512#32
  ![v7465.toNat, 2560, 512]
def k0_off275 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7474 : Index := Scalar.indexCast v5304
  let c21_3364 : Index := 21#32
  let c512_3365 : Index := 512#32
  ![v7474.toNat, 21, 512]
def k0_off276 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7480 : Index := Scalar.indexCast v5304
  let c2688_3366 : Index := 2688#32
  let c512_3367 : Index := 512#32
  ![v7480.toNat, 2688, 512]
def k0_off277 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7493 : Index := Scalar.indexCast v5304
  let c22_3371 : Index := 22#32
  let c512_3372 : Index := 512#32
  ![v7493.toNat, 22, 512]
def k0_off278 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7499 : Index := Scalar.indexCast v5304
  let c2816_3373 : Index := 2816#32
  let c512_3374 : Index := 512#32
  ![v7499.toNat, 2816, 512]
def k0_off279 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7508 : Index := Scalar.indexCast v5304
  let c23_3375 : Index := 23#32
  let c512_3376 : Index := 512#32
  ![v7508.toNat, 23, 512]
def k0_off280 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7514 : Index := Scalar.indexCast v5304
  let c2944_3377 : Index := 2944#32
  let c512_3378 : Index := 512#32
  ![v7514.toNat, 2944, 512]
def k0_off281 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7527 : Index := Scalar.indexCast v5304
  let c24_3382 : Index := 24#32
  let c512_3383 : Index := 512#32
  ![v7527.toNat, 24, 512]
def k0_off282 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7533 : Index := Scalar.indexCast v5304
  let c3072_3384 : Index := 3072#32
  let c512_3385 : Index := 512#32
  ![v7533.toNat, 3072, 512]
def k0_off283 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7542 : Index := Scalar.indexCast v5304
  let c25_3386 : Index := 25#32
  let c512_3387 : Index := 512#32
  ![v7542.toNat, 25, 512]
def k0_off284 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7548 : Index := Scalar.indexCast v5304
  let c3200_3388 : Index := 3200#32
  let c512_3389 : Index := 512#32
  ![v7548.toNat, 3200, 512]
def k0_off285 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7561 : Index := Scalar.indexCast v5304
  let c26_3393 : Index := 26#32
  let c512_3394 : Index := 512#32
  ![v7561.toNat, 26, 512]
def k0_off286 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7567 : Index := Scalar.indexCast v5304
  let c3328_3395 : Index := 3328#32
  let c512_3396 : Index := 512#32
  ![v7567.toNat, 3328, 512]
def k0_off287 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7576 : Index := Scalar.indexCast v5304
  let c27_3397 : Index := 27#32
  let c512_3398 : Index := 512#32
  ![v7576.toNat, 27, 512]
def k0_off288 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7582 : Index := Scalar.indexCast v5304
  let c3456_3399 : Index := 3456#32
  let c512_3400 : Index := 512#32
  ![v7582.toNat, 3456, 512]
def k0_off289 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7595 : Index := Scalar.indexCast v5304
  let c28_3404 : Index := 28#32
  let c512_3405 : Index := 512#32
  ![v7595.toNat, 28, 512]
def k0_off290 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7601 : Index := Scalar.indexCast v5304
  let c3584_3406 : Index := 3584#32
  let c512_3407 : Index := 512#32
  ![v7601.toNat, 3584, 512]
def k0_off291 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7610 : Index := Scalar.indexCast v5304
  let c29_3408 : Index := 29#32
  let c512_3409 : Index := 512#32
  ![v7610.toNat, 29, 512]
def k0_off292 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7616 : Index := Scalar.indexCast v5304
  let c3712_3410 : Index := 3712#32
  let c512_3411 : Index := 512#32
  ![v7616.toNat, 3712, 512]
def k0_off293 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7629 : Index := Scalar.indexCast v5304
  let c30_3415 : Index := 30#32
  let c512_3416 : Index := 512#32
  ![v7629.toNat, 30, 512]
def k0_off294 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7635 : Index := Scalar.indexCast v5304
  let c3840_3417 : Index := 3840#32
  let c512_3418 : Index := 512#32
  ![v7635.toNat, 3840, 512]
def k0_off295 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7644 : Index := Scalar.indexCast v5304
  let c31_3419 : Index := 31#32
  let c512_3420 : Index := 512#32
  ![v7644.toNat, 31, 512]
def k0_off296 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7650 : Index := Scalar.indexCast v5304
  let c3968_3421 : Index := 3968#32
  let c512_3422 : Index := 512#32
  ![v7650.toNat, 3968, 512]
def k0_off297 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7663 : Index := Scalar.indexCast v5304
  let c32_3426 : Index := 32#32
  let c512_3427 : Index := 512#32
  ![v7663.toNat, 32, 512]
def k0_off298 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7669 : Index := Scalar.indexCast v5304
  let c4096_3428 : Index := 4096#32
  let c512_3429 : Index := 512#32
  ![v7669.toNat, 4096, 512]
def k0_off299 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7678 : Index := Scalar.indexCast v5304
  let c33_3430 : Index := 33#32
  let c512_3431 : Index := 512#32
  ![v7678.toNat, 33, 512]
def k0_off300 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7684 : Index := Scalar.indexCast v5304
  let c4224_3432 : Index := 4224#32
  let c512_3433 : Index := 512#32
  ![v7684.toNat, 4224, 512]
def k0_off301 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7697 : Index := Scalar.indexCast v5304
  let c34_3437 : Index := 34#32
  let c512_3438 : Index := 512#32
  ![v7697.toNat, 34, 512]
def k0_off302 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7703 : Index := Scalar.indexCast v5304
  let c4352_3439 : Index := 4352#32
  let c512_3440 : Index := 512#32
  ![v7703.toNat, 4352, 512]
def k0_off303 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7712 : Index := Scalar.indexCast v5304
  let c35_3441 : Index := 35#32
  let c512_3442 : Index := 512#32
  ![v7712.toNat, 35, 512]
def k0_off304 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7718 : Index := Scalar.indexCast v5304
  let c4480_3443 : Index := 4480#32
  let c512_3444 : Index := 512#32
  ![v7718.toNat, 4480, 512]
def k0_off305 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7731 : Index := Scalar.indexCast v5304
  let c36_3448 : Index := 36#32
  let c512_3449 : Index := 512#32
  ![v7731.toNat, 36, 512]
def k0_off306 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7737 : Index := Scalar.indexCast v5304
  let c4608_3450 : Index := 4608#32
  let c512_3451 : Index := 512#32
  ![v7737.toNat, 4608, 512]
def k0_off307 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7746 : Index := Scalar.indexCast v5304
  let c37_3452 : Index := 37#32
  let c512_3453 : Index := 512#32
  ![v7746.toNat, 37, 512]
def k0_off308 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7752 : Index := Scalar.indexCast v5304
  let c4736_3454 : Index := 4736#32
  let c512_3455 : Index := 512#32
  ![v7752.toNat, 4736, 512]
def k0_off309 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7765 : Index := Scalar.indexCast v5304
  let c38_3459 : Index := 38#32
  let c512_3460 : Index := 512#32
  ![v7765.toNat, 38, 512]
def k0_off310 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7771 : Index := Scalar.indexCast v5304
  let c4864_3461 : Index := 4864#32
  let c512_3462 : Index := 512#32
  ![v7771.toNat, 4864, 512]
def k0_off311 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7780 : Index := Scalar.indexCast v5304
  let c39_3463 : Index := 39#32
  let c512_3464 : Index := 512#32
  ![v7780.toNat, 39, 512]
def k0_off312 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7786 : Index := Scalar.indexCast v5304
  let c4992_3465 : Index := 4992#32
  let c512_3466 : Index := 512#32
  ![v7786.toNat, 4992, 512]
def k0_off313 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7799 : Index := Scalar.indexCast v5304
  let c40_3470 : Index := 40#32
  let c512_3471 : Index := 512#32
  ![v7799.toNat, 40, 512]
def k0_off314 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7805 : Index := Scalar.indexCast v5304
  let c5120_3472 : Index := 5120#32
  let c512_3473 : Index := 512#32
  ![v7805.toNat, 5120, 512]
def k0_off315 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7814 : Index := Scalar.indexCast v5304
  let c41_3474 : Index := 41#32
  let c512_3475 : Index := 512#32
  ![v7814.toNat, 41, 512]
def k0_off316 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7820 : Index := Scalar.indexCast v5304
  let c5248_3476 : Index := 5248#32
  let c512_3477 : Index := 512#32
  ![v7820.toNat, 5248, 512]
def k0_off317 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7833 : Index := Scalar.indexCast v5304
  let c42_3481 : Index := 42#32
  let c512_3482 : Index := 512#32
  ![v7833.toNat, 42, 512]
def k0_off318 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7839 : Index := Scalar.indexCast v5304
  let c5376_3483 : Index := 5376#32
  let c512_3484 : Index := 512#32
  ![v7839.toNat, 5376, 512]
def k0_off319 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7848 : Index := Scalar.indexCast v5304
  let c43_3485 : Index := 43#32
  let c512_3486 : Index := 512#32
  ![v7848.toNat, 43, 512]
def k0_off320 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7854 : Index := Scalar.indexCast v5304
  let c5504_3487 : Index := 5504#32
  let c512_3488 : Index := 512#32
  ![v7854.toNat, 5504, 512]
def k0_off321 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7867 : Index := Scalar.indexCast v5304
  let c44_3492 : Index := 44#32
  let c512_3493 : Index := 512#32
  ![v7867.toNat, 44, 512]
def k0_off322 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7873 : Index := Scalar.indexCast v5304
  let c5632_3494 : Index := 5632#32
  let c512_3495 : Index := 512#32
  ![v7873.toNat, 5632, 512]
def k0_off323 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7882 : Index := Scalar.indexCast v5304
  let c45_3496 : Index := 45#32
  let c512_3497 : Index := 512#32
  ![v7882.toNat, 45, 512]
def k0_off324 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7888 : Index := Scalar.indexCast v5304
  let c5760_3498 : Index := 5760#32
  let c512_3499 : Index := 512#32
  ![v7888.toNat, 5760, 512]
def k0_off325 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7901 : Index := Scalar.indexCast v5304
  let c46_3503 : Index := 46#32
  let c512_3504 : Index := 512#32
  ![v7901.toNat, 46, 512]
def k0_off326 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7907 : Index := Scalar.indexCast v5304
  let c5888_3505 : Index := 5888#32
  let c512_3506 : Index := 512#32
  ![v7907.toNat, 5888, 512]
def k0_off327 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7916 : Index := Scalar.indexCast v5304
  let c47_3507 : Index := 47#32
  let c512_3508 : Index := 512#32
  ![v7916.toNat, 47, 512]
def k0_off328 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7922 : Index := Scalar.indexCast v5304
  let c6016_3509 : Index := 6016#32
  let c512_3510 : Index := 512#32
  ![v7922.toNat, 6016, 512]
def k0_off329 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7935 : Index := Scalar.indexCast v5304
  let c48_3514 : Index := 48#32
  let c512_3515 : Index := 512#32
  ![v7935.toNat, 48, 512]
def k0_off330 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7941 : Index := Scalar.indexCast v5304
  let c6144_3516 : Index := 6144#32
  let c512_3517 : Index := 512#32
  ![v7941.toNat, 6144, 512]
def k0_off331 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7950 : Index := Scalar.indexCast v5304
  let c49_3518 : Index := 49#32
  let c512_3519 : Index := 512#32
  ![v7950.toNat, 49, 512]
def k0_off332 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7956 : Index := Scalar.indexCast v5304
  let c6272_3520 : Index := 6272#32
  let c512_3521 : Index := 512#32
  ![v7956.toNat, 6272, 512]
def k0_off333 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7969 : Index := Scalar.indexCast v5304
  let c50_3525 : Index := 50#32
  let c512_3526 : Index := 512#32
  ![v7969.toNat, 50, 512]
def k0_off334 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7975 : Index := Scalar.indexCast v5304
  let c6400_3527 : Index := 6400#32
  let c512_3528 : Index := 512#32
  ![v7975.toNat, 6400, 512]
def k0_off335 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7984 : Index := Scalar.indexCast v5304
  let c51_3529 : Index := 51#32
  let c512_3530 : Index := 512#32
  ![v7984.toNat, 51, 512]
def k0_off336 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v7990 : Index := Scalar.indexCast v5304
  let c6528_3531 : Index := 6528#32
  let c512_3532 : Index := 512#32
  ![v7990.toNat, 6528, 512]
def k0_off337 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8021 : Index := Scalar.indexCast v5304
  let c0_3546 : Index := 0#32
  let c768_3547 : Index := 768#32
  ![v8021.toNat, 0, 768]
def k0_off338 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8027 : Index := Scalar.indexCast v5304
  let c0_3548 : Index := 0#32
  let c768_3549 : Index := 768#32
  ![v8027.toNat, 0, 768]
def k0_off339 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8036 : Index := Scalar.indexCast v5304
  let c1_3550 : Index := 1#32
  let c768_3551 : Index := 768#32
  ![v8036.toNat, 1, 768]
def k0_off340 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8042 : Index := Scalar.indexCast v5304
  let c128_3552 : Index := 128#32
  let c768_3553 : Index := 768#32
  ![v8042.toNat, 128, 768]
def k0_off341 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8054 : Index := Scalar.indexCast v5304
  let c2_3557 : Index := 2#32
  let c768_3558 : Index := 768#32
  ![v8054.toNat, 2, 768]
def k0_off342 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8060 : Index := Scalar.indexCast v5304
  let c256_3559 : Index := 256#32
  let c768_3560 : Index := 768#32
  ![v8060.toNat, 256, 768]
def k0_off343 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8069 : Index := Scalar.indexCast v5304
  let c3_3561 : Index := 3#32
  let c768_3562 : Index := 768#32
  ![v8069.toNat, 3, 768]
def k0_off344 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8075 : Index := Scalar.indexCast v5304
  let c384_3563 : Index := 384#32
  let c768_3564 : Index := 768#32
  ![v8075.toNat, 384, 768]
def k0_off345 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8088 : Index := Scalar.indexCast v5304
  let c4_3568 : Index := 4#32
  let c768_3569 : Index := 768#32
  ![v8088.toNat, 4, 768]
def k0_off346 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8094 : Index := Scalar.indexCast v5304
  let c512_3570 : Index := 512#32
  let c768_3571 : Index := 768#32
  ![v8094.toNat, 512, 768]
def k0_off347 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8103 : Index := Scalar.indexCast v5304
  let c5_3572 : Index := 5#32
  let c768_3573 : Index := 768#32
  ![v8103.toNat, 5, 768]
def k0_off348 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8109 : Index := Scalar.indexCast v5304
  let c640_3574 : Index := 640#32
  let c768_3575 : Index := 768#32
  ![v8109.toNat, 640, 768]
def k0_off349 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8122 : Index := Scalar.indexCast v5304
  let c6_3579 : Index := 6#32
  let c768_3580 : Index := 768#32
  ![v8122.toNat, 6, 768]
def k0_off350 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8128 : Index := Scalar.indexCast v5304
  let c768_3581 : Index := 768#32
  let c768_3582 : Index := 768#32
  ![v8128.toNat, 768, 768]
def k0_off351 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8137 : Index := Scalar.indexCast v5304
  let c7_3583 : Index := 7#32
  let c768_3584 : Index := 768#32
  ![v8137.toNat, 7, 768]
def k0_off352 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8143 : Index := Scalar.indexCast v5304
  let c896_3585 : Index := 896#32
  let c768_3586 : Index := 768#32
  ![v8143.toNat, 896, 768]
def k0_off353 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8156 : Index := Scalar.indexCast v5304
  let c8_3590 : Index := 8#32
  let c768_3591 : Index := 768#32
  ![v8156.toNat, 8, 768]
def k0_off354 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8162 : Index := Scalar.indexCast v5304
  let c1024_3592 : Index := 1024#32
  let c768_3593 : Index := 768#32
  ![v8162.toNat, 1024, 768]
def k0_off355 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8171 : Index := Scalar.indexCast v5304
  let c9_3594 : Index := 9#32
  let c768_3595 : Index := 768#32
  ![v8171.toNat, 9, 768]
def k0_off356 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8177 : Index := Scalar.indexCast v5304
  let c1152_3596 : Index := 1152#32
  let c768_3597 : Index := 768#32
  ![v8177.toNat, 1152, 768]
def k0_off357 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8190 : Index := Scalar.indexCast v5304
  let c10_3601 : Index := 10#32
  let c768_3602 : Index := 768#32
  ![v8190.toNat, 10, 768]
def k0_off358 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8196 : Index := Scalar.indexCast v5304
  let c1280_3603 : Index := 1280#32
  let c768_3604 : Index := 768#32
  ![v8196.toNat, 1280, 768]
def k0_off359 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8205 : Index := Scalar.indexCast v5304
  let c11_3605 : Index := 11#32
  let c768_3606 : Index := 768#32
  ![v8205.toNat, 11, 768]
def k0_off360 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8211 : Index := Scalar.indexCast v5304
  let c1408_3607 : Index := 1408#32
  let c768_3608 : Index := 768#32
  ![v8211.toNat, 1408, 768]
def k0_off361 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8224 : Index := Scalar.indexCast v5304
  let c12_3612 : Index := 12#32
  let c768_3613 : Index := 768#32
  ![v8224.toNat, 12, 768]
def k0_off362 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8230 : Index := Scalar.indexCast v5304
  let c1536_3614 : Index := 1536#32
  let c768_3615 : Index := 768#32
  ![v8230.toNat, 1536, 768]
def k0_off363 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8239 : Index := Scalar.indexCast v5304
  let c13_3616 : Index := 13#32
  let c768_3617 : Index := 768#32
  ![v8239.toNat, 13, 768]
def k0_off364 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8245 : Index := Scalar.indexCast v5304
  let c1664_3618 : Index := 1664#32
  let c768_3619 : Index := 768#32
  ![v8245.toNat, 1664, 768]
def k0_off365 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8258 : Index := Scalar.indexCast v5304
  let c14_3623 : Index := 14#32
  let c768_3624 : Index := 768#32
  ![v8258.toNat, 14, 768]
def k0_off366 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8264 : Index := Scalar.indexCast v5304
  let c1792_3625 : Index := 1792#32
  let c768_3626 : Index := 768#32
  ![v8264.toNat, 1792, 768]
def k0_off367 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8273 : Index := Scalar.indexCast v5304
  let c15_3627 : Index := 15#32
  let c768_3628 : Index := 768#32
  ![v8273.toNat, 15, 768]
def k0_off368 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8279 : Index := Scalar.indexCast v5304
  let c1920_3629 : Index := 1920#32
  let c768_3630 : Index := 768#32
  ![v8279.toNat, 1920, 768]
def k0_off369 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8292 : Index := Scalar.indexCast v5304
  let c16_3634 : Index := 16#32
  let c768_3635 : Index := 768#32
  ![v8292.toNat, 16, 768]
def k0_off370 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8298 : Index := Scalar.indexCast v5304
  let c2048_3636 : Index := 2048#32
  let c768_3637 : Index := 768#32
  ![v8298.toNat, 2048, 768]
def k0_off371 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8307 : Index := Scalar.indexCast v5304
  let c17_3638 : Index := 17#32
  let c768_3639 : Index := 768#32
  ![v8307.toNat, 17, 768]
def k0_off372 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8313 : Index := Scalar.indexCast v5304
  let c2176_3640 : Index := 2176#32
  let c768_3641 : Index := 768#32
  ![v8313.toNat, 2176, 768]
def k0_off373 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8326 : Index := Scalar.indexCast v5304
  let c18_3645 : Index := 18#32
  let c768_3646 : Index := 768#32
  ![v8326.toNat, 18, 768]
def k0_off374 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8332 : Index := Scalar.indexCast v5304
  let c2304_3647 : Index := 2304#32
  let c768_3648 : Index := 768#32
  ![v8332.toNat, 2304, 768]
def k0_off375 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8341 : Index := Scalar.indexCast v5304
  let c19_3649 : Index := 19#32
  let c768_3650 : Index := 768#32
  ![v8341.toNat, 19, 768]
def k0_off376 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8347 : Index := Scalar.indexCast v5304
  let c2432_3651 : Index := 2432#32
  let c768_3652 : Index := 768#32
  ![v8347.toNat, 2432, 768]
def k0_off377 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8360 : Index := Scalar.indexCast v5304
  let c20_3656 : Index := 20#32
  let c768_3657 : Index := 768#32
  ![v8360.toNat, 20, 768]
def k0_off378 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8366 : Index := Scalar.indexCast v5304
  let c2560_3658 : Index := 2560#32
  let c768_3659 : Index := 768#32
  ![v8366.toNat, 2560, 768]
def k0_off379 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8375 : Index := Scalar.indexCast v5304
  let c21_3660 : Index := 21#32
  let c768_3661 : Index := 768#32
  ![v8375.toNat, 21, 768]
def k0_off380 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8381 : Index := Scalar.indexCast v5304
  let c2688_3662 : Index := 2688#32
  let c768_3663 : Index := 768#32
  ![v8381.toNat, 2688, 768]
def k0_off381 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8394 : Index := Scalar.indexCast v5304
  let c22_3667 : Index := 22#32
  let c768_3668 : Index := 768#32
  ![v8394.toNat, 22, 768]
def k0_off382 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8400 : Index := Scalar.indexCast v5304
  let c2816_3669 : Index := 2816#32
  let c768_3670 : Index := 768#32
  ![v8400.toNat, 2816, 768]
def k0_off383 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8409 : Index := Scalar.indexCast v5304
  let c23_3671 : Index := 23#32
  let c768_3672 : Index := 768#32
  ![v8409.toNat, 23, 768]
def k0_off384 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8415 : Index := Scalar.indexCast v5304
  let c2944_3673 : Index := 2944#32
  let c768_3674 : Index := 768#32
  ![v8415.toNat, 2944, 768]
def k0_off385 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8428 : Index := Scalar.indexCast v5304
  let c24_3678 : Index := 24#32
  let c768_3679 : Index := 768#32
  ![v8428.toNat, 24, 768]
def k0_off386 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8434 : Index := Scalar.indexCast v5304
  let c3072_3680 : Index := 3072#32
  let c768_3681 : Index := 768#32
  ![v8434.toNat, 3072, 768]
def k0_off387 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8443 : Index := Scalar.indexCast v5304
  let c25_3682 : Index := 25#32
  let c768_3683 : Index := 768#32
  ![v8443.toNat, 25, 768]
def k0_off388 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8449 : Index := Scalar.indexCast v5304
  let c3200_3684 : Index := 3200#32
  let c768_3685 : Index := 768#32
  ![v8449.toNat, 3200, 768]
def k0_off389 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8462 : Index := Scalar.indexCast v5304
  let c26_3689 : Index := 26#32
  let c768_3690 : Index := 768#32
  ![v8462.toNat, 26, 768]
def k0_off390 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8468 : Index := Scalar.indexCast v5304
  let c3328_3691 : Index := 3328#32
  let c768_3692 : Index := 768#32
  ![v8468.toNat, 3328, 768]
def k0_off391 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8477 : Index := Scalar.indexCast v5304
  let c27_3693 : Index := 27#32
  let c768_3694 : Index := 768#32
  ![v8477.toNat, 27, 768]
def k0_off392 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8483 : Index := Scalar.indexCast v5304
  let c3456_3695 : Index := 3456#32
  let c768_3696 : Index := 768#32
  ![v8483.toNat, 3456, 768]
def k0_off393 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8496 : Index := Scalar.indexCast v5304
  let c28_3700 : Index := 28#32
  let c768_3701 : Index := 768#32
  ![v8496.toNat, 28, 768]
def k0_off394 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8502 : Index := Scalar.indexCast v5304
  let c3584_3702 : Index := 3584#32
  let c768_3703 : Index := 768#32
  ![v8502.toNat, 3584, 768]
def k0_off395 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8511 : Index := Scalar.indexCast v5304
  let c29_3704 : Index := 29#32
  let c768_3705 : Index := 768#32
  ![v8511.toNat, 29, 768]
def k0_off396 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8517 : Index := Scalar.indexCast v5304
  let c3712_3706 : Index := 3712#32
  let c768_3707 : Index := 768#32
  ![v8517.toNat, 3712, 768]
def k0_off397 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8530 : Index := Scalar.indexCast v5304
  let c30_3711 : Index := 30#32
  let c768_3712 : Index := 768#32
  ![v8530.toNat, 30, 768]
def k0_off398 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8536 : Index := Scalar.indexCast v5304
  let c3840_3713 : Index := 3840#32
  let c768_3714 : Index := 768#32
  ![v8536.toNat, 3840, 768]
def k0_off399 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8545 : Index := Scalar.indexCast v5304
  let c31_3715 : Index := 31#32
  let c768_3716 : Index := 768#32
  ![v8545.toNat, 31, 768]
def k0_off400 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8551 : Index := Scalar.indexCast v5304
  let c3968_3717 : Index := 3968#32
  let c768_3718 : Index := 768#32
  ![v8551.toNat, 3968, 768]
def k0_off401 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8564 : Index := Scalar.indexCast v5304
  let c32_3722 : Index := 32#32
  let c768_3723 : Index := 768#32
  ![v8564.toNat, 32, 768]
def k0_off402 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8570 : Index := Scalar.indexCast v5304
  let c4096_3724 : Index := 4096#32
  let c768_3725 : Index := 768#32
  ![v8570.toNat, 4096, 768]
def k0_off403 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8579 : Index := Scalar.indexCast v5304
  let c33_3726 : Index := 33#32
  let c768_3727 : Index := 768#32
  ![v8579.toNat, 33, 768]
def k0_off404 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8585 : Index := Scalar.indexCast v5304
  let c4224_3728 : Index := 4224#32
  let c768_3729 : Index := 768#32
  ![v8585.toNat, 4224, 768]
def k0_off405 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8598 : Index := Scalar.indexCast v5304
  let c34_3733 : Index := 34#32
  let c768_3734 : Index := 768#32
  ![v8598.toNat, 34, 768]
def k0_off406 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8604 : Index := Scalar.indexCast v5304
  let c4352_3735 : Index := 4352#32
  let c768_3736 : Index := 768#32
  ![v8604.toNat, 4352, 768]
def k0_off407 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8613 : Index := Scalar.indexCast v5304
  let c35_3737 : Index := 35#32
  let c768_3738 : Index := 768#32
  ![v8613.toNat, 35, 768]
def k0_off408 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8619 : Index := Scalar.indexCast v5304
  let c4480_3739 : Index := 4480#32
  let c768_3740 : Index := 768#32
  ![v8619.toNat, 4480, 768]
def k0_off409 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8632 : Index := Scalar.indexCast v5304
  let c36_3744 : Index := 36#32
  let c768_3745 : Index := 768#32
  ![v8632.toNat, 36, 768]
def k0_off410 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8638 : Index := Scalar.indexCast v5304
  let c4608_3746 : Index := 4608#32
  let c768_3747 : Index := 768#32
  ![v8638.toNat, 4608, 768]
def k0_off411 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8647 : Index := Scalar.indexCast v5304
  let c37_3748 : Index := 37#32
  let c768_3749 : Index := 768#32
  ![v8647.toNat, 37, 768]
def k0_off412 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8653 : Index := Scalar.indexCast v5304
  let c4736_3750 : Index := 4736#32
  let c768_3751 : Index := 768#32
  ![v8653.toNat, 4736, 768]
def k0_off413 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8666 : Index := Scalar.indexCast v5304
  let c38_3755 : Index := 38#32
  let c768_3756 : Index := 768#32
  ![v8666.toNat, 38, 768]
def k0_off414 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8672 : Index := Scalar.indexCast v5304
  let c4864_3757 : Index := 4864#32
  let c768_3758 : Index := 768#32
  ![v8672.toNat, 4864, 768]
def k0_off415 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8681 : Index := Scalar.indexCast v5304
  let c39_3759 : Index := 39#32
  let c768_3760 : Index := 768#32
  ![v8681.toNat, 39, 768]
def k0_off416 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8687 : Index := Scalar.indexCast v5304
  let c4992_3761 : Index := 4992#32
  let c768_3762 : Index := 768#32
  ![v8687.toNat, 4992, 768]
def k0_off417 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8700 : Index := Scalar.indexCast v5304
  let c40_3766 : Index := 40#32
  let c768_3767 : Index := 768#32
  ![v8700.toNat, 40, 768]
def k0_off418 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8706 : Index := Scalar.indexCast v5304
  let c5120_3768 : Index := 5120#32
  let c768_3769 : Index := 768#32
  ![v8706.toNat, 5120, 768]
def k0_off419 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8715 : Index := Scalar.indexCast v5304
  let c41_3770 : Index := 41#32
  let c768_3771 : Index := 768#32
  ![v8715.toNat, 41, 768]
def k0_off420 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8721 : Index := Scalar.indexCast v5304
  let c5248_3772 : Index := 5248#32
  let c768_3773 : Index := 768#32
  ![v8721.toNat, 5248, 768]
def k0_off421 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8734 : Index := Scalar.indexCast v5304
  let c42_3777 : Index := 42#32
  let c768_3778 : Index := 768#32
  ![v8734.toNat, 42, 768]
def k0_off422 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8740 : Index := Scalar.indexCast v5304
  let c5376_3779 : Index := 5376#32
  let c768_3780 : Index := 768#32
  ![v8740.toNat, 5376, 768]
def k0_off423 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8749 : Index := Scalar.indexCast v5304
  let c43_3781 : Index := 43#32
  let c768_3782 : Index := 768#32
  ![v8749.toNat, 43, 768]
def k0_off424 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8755 : Index := Scalar.indexCast v5304
  let c5504_3783 : Index := 5504#32
  let c768_3784 : Index := 768#32
  ![v8755.toNat, 5504, 768]
def k0_off425 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8768 : Index := Scalar.indexCast v5304
  let c44_3788 : Index := 44#32
  let c768_3789 : Index := 768#32
  ![v8768.toNat, 44, 768]
def k0_off426 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8774 : Index := Scalar.indexCast v5304
  let c5632_3790 : Index := 5632#32
  let c768_3791 : Index := 768#32
  ![v8774.toNat, 5632, 768]
def k0_off427 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8783 : Index := Scalar.indexCast v5304
  let c45_3792 : Index := 45#32
  let c768_3793 : Index := 768#32
  ![v8783.toNat, 45, 768]
def k0_off428 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8789 : Index := Scalar.indexCast v5304
  let c5760_3794 : Index := 5760#32
  let c768_3795 : Index := 768#32
  ![v8789.toNat, 5760, 768]
def k0_off429 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8802 : Index := Scalar.indexCast v5304
  let c46_3799 : Index := 46#32
  let c768_3800 : Index := 768#32
  ![v8802.toNat, 46, 768]
def k0_off430 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8808 : Index := Scalar.indexCast v5304
  let c5888_3801 : Index := 5888#32
  let c768_3802 : Index := 768#32
  ![v8808.toNat, 5888, 768]
def k0_off431 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8817 : Index := Scalar.indexCast v5304
  let c47_3803 : Index := 47#32
  let c768_3804 : Index := 768#32
  ![v8817.toNat, 47, 768]
def k0_off432 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8823 : Index := Scalar.indexCast v5304
  let c6016_3805 : Index := 6016#32
  let c768_3806 : Index := 768#32
  ![v8823.toNat, 6016, 768]
def k0_off433 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8836 : Index := Scalar.indexCast v5304
  let c48_3810 : Index := 48#32
  let c768_3811 : Index := 768#32
  ![v8836.toNat, 48, 768]
def k0_off434 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8842 : Index := Scalar.indexCast v5304
  let c6144_3812 : Index := 6144#32
  let c768_3813 : Index := 768#32
  ![v8842.toNat, 6144, 768]
def k0_off435 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8851 : Index := Scalar.indexCast v5304
  let c49_3814 : Index := 49#32
  let c768_3815 : Index := 768#32
  ![v8851.toNat, 49, 768]
def k0_off436 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8857 : Index := Scalar.indexCast v5304
  let c6272_3816 : Index := 6272#32
  let c768_3817 : Index := 768#32
  ![v8857.toNat, 6272, 768]
def k0_off437 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8870 : Index := Scalar.indexCast v5304
  let c50_3821 : Index := 50#32
  let c768_3822 : Index := 768#32
  ![v8870.toNat, 50, 768]
def k0_off438 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8876 : Index := Scalar.indexCast v5304
  let c6400_3823 : Index := 6400#32
  let c768_3824 : Index := 768#32
  ![v8876.toNat, 6400, 768]
def k0_off439 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8885 : Index := Scalar.indexCast v5304
  let c51_3825 : Index := 51#32
  let c768_3826 : Index := 768#32
  ![v8885.toNat, 51, 768]
def k0_off440 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8891 : Index := Scalar.indexCast v5304
  let c6528_3827 : Index := 6528#32
  let c768_3828 : Index := 768#32
  ![v8891.toNat, 6528, 768]
def k0_off441 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8922 : Index := Scalar.indexCast v5304
  let c0_3842 : Index := 0#32
  let c1024_3843 : Index := 1024#32
  ![v8922.toNat, 0, 1024]
def k0_off442 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8928 : Index := Scalar.indexCast v5304
  let c0_3844 : Index := 0#32
  let c1024_3845 : Index := 1024#32
  ![v8928.toNat, 0, 1024]
def k0_off443 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8937 : Index := Scalar.indexCast v5304
  let c1_3846 : Index := 1#32
  let c1024_3847 : Index := 1024#32
  ![v8937.toNat, 1, 1024]
def k0_off444 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8943 : Index := Scalar.indexCast v5304
  let c128_3848 : Index := 128#32
  let c1024_3849 : Index := 1024#32
  ![v8943.toNat, 128, 1024]
def k0_off445 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8955 : Index := Scalar.indexCast v5304
  let c2_3853 : Index := 2#32
  let c1024_3854 : Index := 1024#32
  ![v8955.toNat, 2, 1024]
def k0_off446 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8961 : Index := Scalar.indexCast v5304
  let c256_3855 : Index := 256#32
  let c1024_3856 : Index := 1024#32
  ![v8961.toNat, 256, 1024]
def k0_off447 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8970 : Index := Scalar.indexCast v5304
  let c3_3857 : Index := 3#32
  let c1024_3858 : Index := 1024#32
  ![v8970.toNat, 3, 1024]
def k0_off448 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8976 : Index := Scalar.indexCast v5304
  let c384_3859 : Index := 384#32
  let c1024_3860 : Index := 1024#32
  ![v8976.toNat, 384, 1024]
def k0_off449 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8989 : Index := Scalar.indexCast v5304
  let c4_3864 : Index := 4#32
  let c1024_3865 : Index := 1024#32
  ![v8989.toNat, 4, 1024]
def k0_off450 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v8995 : Index := Scalar.indexCast v5304
  let c512_3866 : Index := 512#32
  let c1024_3867 : Index := 1024#32
  ![v8995.toNat, 512, 1024]
def k0_off451 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9004 : Index := Scalar.indexCast v5304
  let c5_3868 : Index := 5#32
  let c1024_3869 : Index := 1024#32
  ![v9004.toNat, 5, 1024]
def k0_off452 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9010 : Index := Scalar.indexCast v5304
  let c640_3870 : Index := 640#32
  let c1024_3871 : Index := 1024#32
  ![v9010.toNat, 640, 1024]
def k0_off453 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9023 : Index := Scalar.indexCast v5304
  let c6_3875 : Index := 6#32
  let c1024_3876 : Index := 1024#32
  ![v9023.toNat, 6, 1024]
def k0_off454 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9029 : Index := Scalar.indexCast v5304
  let c768_3877 : Index := 768#32
  let c1024_3878 : Index := 1024#32
  ![v9029.toNat, 768, 1024]
def k0_off455 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9038 : Index := Scalar.indexCast v5304
  let c7_3879 : Index := 7#32
  let c1024_3880 : Index := 1024#32
  ![v9038.toNat, 7, 1024]
def k0_off456 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9044 : Index := Scalar.indexCast v5304
  let c896_3881 : Index := 896#32
  let c1024_3882 : Index := 1024#32
  ![v9044.toNat, 896, 1024]
def k0_off457 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9057 : Index := Scalar.indexCast v5304
  let c8_3886 : Index := 8#32
  let c1024_3887 : Index := 1024#32
  ![v9057.toNat, 8, 1024]
def k0_off458 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9063 : Index := Scalar.indexCast v5304
  let c1024_3888 : Index := 1024#32
  let c1024_3889 : Index := 1024#32
  ![v9063.toNat, 1024, 1024]
def k0_off459 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9072 : Index := Scalar.indexCast v5304
  let c9_3890 : Index := 9#32
  let c1024_3891 : Index := 1024#32
  ![v9072.toNat, 9, 1024]
def k0_off460 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9078 : Index := Scalar.indexCast v5304
  let c1152_3892 : Index := 1152#32
  let c1024_3893 : Index := 1024#32
  ![v9078.toNat, 1152, 1024]
def k0_off461 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9091 : Index := Scalar.indexCast v5304
  let c10_3897 : Index := 10#32
  let c1024_3898 : Index := 1024#32
  ![v9091.toNat, 10, 1024]
def k0_off462 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9097 : Index := Scalar.indexCast v5304
  let c1280_3899 : Index := 1280#32
  let c1024_3900 : Index := 1024#32
  ![v9097.toNat, 1280, 1024]
def k0_off463 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9106 : Index := Scalar.indexCast v5304
  let c11_3901 : Index := 11#32
  let c1024_3902 : Index := 1024#32
  ![v9106.toNat, 11, 1024]
def k0_off464 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9112 : Index := Scalar.indexCast v5304
  let c1408_3903 : Index := 1408#32
  let c1024_3904 : Index := 1024#32
  ![v9112.toNat, 1408, 1024]
def k0_off465 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9125 : Index := Scalar.indexCast v5304
  let c12_3908 : Index := 12#32
  let c1024_3909 : Index := 1024#32
  ![v9125.toNat, 12, 1024]
def k0_off466 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9131 : Index := Scalar.indexCast v5304
  let c1536_3910 : Index := 1536#32
  let c1024_3911 : Index := 1024#32
  ![v9131.toNat, 1536, 1024]
def k0_off467 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9140 : Index := Scalar.indexCast v5304
  let c13_3912 : Index := 13#32
  let c1024_3913 : Index := 1024#32
  ![v9140.toNat, 13, 1024]
def k0_off468 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9146 : Index := Scalar.indexCast v5304
  let c1664_3914 : Index := 1664#32
  let c1024_3915 : Index := 1024#32
  ![v9146.toNat, 1664, 1024]
def k0_off469 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9159 : Index := Scalar.indexCast v5304
  let c14_3919 : Index := 14#32
  let c1024_3920 : Index := 1024#32
  ![v9159.toNat, 14, 1024]
def k0_off470 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9165 : Index := Scalar.indexCast v5304
  let c1792_3921 : Index := 1792#32
  let c1024_3922 : Index := 1024#32
  ![v9165.toNat, 1792, 1024]
def k0_off471 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9174 : Index := Scalar.indexCast v5304
  let c15_3923 : Index := 15#32
  let c1024_3924 : Index := 1024#32
  ![v9174.toNat, 15, 1024]
def k0_off472 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9180 : Index := Scalar.indexCast v5304
  let c1920_3925 : Index := 1920#32
  let c1024_3926 : Index := 1024#32
  ![v9180.toNat, 1920, 1024]
def k0_off473 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9193 : Index := Scalar.indexCast v5304
  let c16_3930 : Index := 16#32
  let c1024_3931 : Index := 1024#32
  ![v9193.toNat, 16, 1024]
def k0_off474 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9199 : Index := Scalar.indexCast v5304
  let c2048_3932 : Index := 2048#32
  let c1024_3933 : Index := 1024#32
  ![v9199.toNat, 2048, 1024]
def k0_off475 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9208 : Index := Scalar.indexCast v5304
  let c17_3934 : Index := 17#32
  let c1024_3935 : Index := 1024#32
  ![v9208.toNat, 17, 1024]
def k0_off476 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9214 : Index := Scalar.indexCast v5304
  let c2176_3936 : Index := 2176#32
  let c1024_3937 : Index := 1024#32
  ![v9214.toNat, 2176, 1024]
def k0_off477 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9227 : Index := Scalar.indexCast v5304
  let c18_3941 : Index := 18#32
  let c1024_3942 : Index := 1024#32
  ![v9227.toNat, 18, 1024]
def k0_off478 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9233 : Index := Scalar.indexCast v5304
  let c2304_3943 : Index := 2304#32
  let c1024_3944 : Index := 1024#32
  ![v9233.toNat, 2304, 1024]
def k0_off479 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9242 : Index := Scalar.indexCast v5304
  let c19_3945 : Index := 19#32
  let c1024_3946 : Index := 1024#32
  ![v9242.toNat, 19, 1024]
def k0_off480 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9248 : Index := Scalar.indexCast v5304
  let c2432_3947 : Index := 2432#32
  let c1024_3948 : Index := 1024#32
  ![v9248.toNat, 2432, 1024]
def k0_off481 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9261 : Index := Scalar.indexCast v5304
  let c20_3952 : Index := 20#32
  let c1024_3953 : Index := 1024#32
  ![v9261.toNat, 20, 1024]
def k0_off482 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9267 : Index := Scalar.indexCast v5304
  let c2560_3954 : Index := 2560#32
  let c1024_3955 : Index := 1024#32
  ![v9267.toNat, 2560, 1024]
def k0_off483 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9276 : Index := Scalar.indexCast v5304
  let c21_3956 : Index := 21#32
  let c1024_3957 : Index := 1024#32
  ![v9276.toNat, 21, 1024]
def k0_off484 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9282 : Index := Scalar.indexCast v5304
  let c2688_3958 : Index := 2688#32
  let c1024_3959 : Index := 1024#32
  ![v9282.toNat, 2688, 1024]
def k0_off485 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9295 : Index := Scalar.indexCast v5304
  let c22_3963 : Index := 22#32
  let c1024_3964 : Index := 1024#32
  ![v9295.toNat, 22, 1024]
def k0_off486 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9301 : Index := Scalar.indexCast v5304
  let c2816_3965 : Index := 2816#32
  let c1024_3966 : Index := 1024#32
  ![v9301.toNat, 2816, 1024]
def k0_off487 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9310 : Index := Scalar.indexCast v5304
  let c23_3967 : Index := 23#32
  let c1024_3968 : Index := 1024#32
  ![v9310.toNat, 23, 1024]
def k0_off488 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9316 : Index := Scalar.indexCast v5304
  let c2944_3969 : Index := 2944#32
  let c1024_3970 : Index := 1024#32
  ![v9316.toNat, 2944, 1024]
def k0_off489 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9329 : Index := Scalar.indexCast v5304
  let c24_3974 : Index := 24#32
  let c1024_3975 : Index := 1024#32
  ![v9329.toNat, 24, 1024]
def k0_off490 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9335 : Index := Scalar.indexCast v5304
  let c3072_3976 : Index := 3072#32
  let c1024_3977 : Index := 1024#32
  ![v9335.toNat, 3072, 1024]
def k0_off491 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9344 : Index := Scalar.indexCast v5304
  let c25_3978 : Index := 25#32
  let c1024_3979 : Index := 1024#32
  ![v9344.toNat, 25, 1024]
def k0_off492 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9350 : Index := Scalar.indexCast v5304
  let c3200_3980 : Index := 3200#32
  let c1024_3981 : Index := 1024#32
  ![v9350.toNat, 3200, 1024]
def k0_off493 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9363 : Index := Scalar.indexCast v5304
  let c26_3985 : Index := 26#32
  let c1024_3986 : Index := 1024#32
  ![v9363.toNat, 26, 1024]
def k0_off494 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9369 : Index := Scalar.indexCast v5304
  let c3328_3987 : Index := 3328#32
  let c1024_3988 : Index := 1024#32
  ![v9369.toNat, 3328, 1024]
def k0_off495 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9378 : Index := Scalar.indexCast v5304
  let c27_3989 : Index := 27#32
  let c1024_3990 : Index := 1024#32
  ![v9378.toNat, 27, 1024]
def k0_off496 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9384 : Index := Scalar.indexCast v5304
  let c3456_3991 : Index := 3456#32
  let c1024_3992 : Index := 1024#32
  ![v9384.toNat, 3456, 1024]
def k0_off497 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9397 : Index := Scalar.indexCast v5304
  let c28_3996 : Index := 28#32
  let c1024_3997 : Index := 1024#32
  ![v9397.toNat, 28, 1024]
def k0_off498 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9403 : Index := Scalar.indexCast v5304
  let c3584_3998 : Index := 3584#32
  let c1024_3999 : Index := 1024#32
  ![v9403.toNat, 3584, 1024]
def k0_off499 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9412 : Index := Scalar.indexCast v5304
  let c29_4000 : Index := 29#32
  let c1024_4001 : Index := 1024#32
  ![v9412.toNat, 29, 1024]
def k0_off500 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9418 : Index := Scalar.indexCast v5304
  let c3712_4002 : Index := 3712#32
  let c1024_4003 : Index := 1024#32
  ![v9418.toNat, 3712, 1024]
def k0_off501 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9431 : Index := Scalar.indexCast v5304
  let c30_4007 : Index := 30#32
  let c1024_4008 : Index := 1024#32
  ![v9431.toNat, 30, 1024]
def k0_off502 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9437 : Index := Scalar.indexCast v5304
  let c3840_4009 : Index := 3840#32
  let c1024_4010 : Index := 1024#32
  ![v9437.toNat, 3840, 1024]
def k0_off503 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9446 : Index := Scalar.indexCast v5304
  let c31_4011 : Index := 31#32
  let c1024_4012 : Index := 1024#32
  ![v9446.toNat, 31, 1024]
def k0_off504 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9452 : Index := Scalar.indexCast v5304
  let c3968_4013 : Index := 3968#32
  let c1024_4014 : Index := 1024#32
  ![v9452.toNat, 3968, 1024]
def k0_off505 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9465 : Index := Scalar.indexCast v5304
  let c32_4018 : Index := 32#32
  let c1024_4019 : Index := 1024#32
  ![v9465.toNat, 32, 1024]
def k0_off506 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9471 : Index := Scalar.indexCast v5304
  let c4096_4020 : Index := 4096#32
  let c1024_4021 : Index := 1024#32
  ![v9471.toNat, 4096, 1024]
def k0_off507 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9480 : Index := Scalar.indexCast v5304
  let c33_4022 : Index := 33#32
  let c1024_4023 : Index := 1024#32
  ![v9480.toNat, 33, 1024]
def k0_off508 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9486 : Index := Scalar.indexCast v5304
  let c4224_4024 : Index := 4224#32
  let c1024_4025 : Index := 1024#32
  ![v9486.toNat, 4224, 1024]
def k0_off509 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9499 : Index := Scalar.indexCast v5304
  let c34_4029 : Index := 34#32
  let c1024_4030 : Index := 1024#32
  ![v9499.toNat, 34, 1024]
def k0_off510 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9505 : Index := Scalar.indexCast v5304
  let c4352_4031 : Index := 4352#32
  let c1024_4032 : Index := 1024#32
  ![v9505.toNat, 4352, 1024]
def k0_off511 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9514 : Index := Scalar.indexCast v5304
  let c35_4033 : Index := 35#32
  let c1024_4034 : Index := 1024#32
  ![v9514.toNat, 35, 1024]
def k0_off512 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9520 : Index := Scalar.indexCast v5304
  let c4480_4035 : Index := 4480#32
  let c1024_4036 : Index := 1024#32
  ![v9520.toNat, 4480, 1024]
def k0_off513 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9533 : Index := Scalar.indexCast v5304
  let c36_4040 : Index := 36#32
  let c1024_4041 : Index := 1024#32
  ![v9533.toNat, 36, 1024]
def k0_off514 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9539 : Index := Scalar.indexCast v5304
  let c4608_4042 : Index := 4608#32
  let c1024_4043 : Index := 1024#32
  ![v9539.toNat, 4608, 1024]
def k0_off515 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9548 : Index := Scalar.indexCast v5304
  let c37_4044 : Index := 37#32
  let c1024_4045 : Index := 1024#32
  ![v9548.toNat, 37, 1024]
def k0_off516 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9554 : Index := Scalar.indexCast v5304
  let c4736_4046 : Index := 4736#32
  let c1024_4047 : Index := 1024#32
  ![v9554.toNat, 4736, 1024]
def k0_off517 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9567 : Index := Scalar.indexCast v5304
  let c38_4051 : Index := 38#32
  let c1024_4052 : Index := 1024#32
  ![v9567.toNat, 38, 1024]
def k0_off518 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9573 : Index := Scalar.indexCast v5304
  let c4864_4053 : Index := 4864#32
  let c1024_4054 : Index := 1024#32
  ![v9573.toNat, 4864, 1024]
def k0_off519 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9582 : Index := Scalar.indexCast v5304
  let c39_4055 : Index := 39#32
  let c1024_4056 : Index := 1024#32
  ![v9582.toNat, 39, 1024]
def k0_off520 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9588 : Index := Scalar.indexCast v5304
  let c4992_4057 : Index := 4992#32
  let c1024_4058 : Index := 1024#32
  ![v9588.toNat, 4992, 1024]
def k0_off521 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9601 : Index := Scalar.indexCast v5304
  let c40_4062 : Index := 40#32
  let c1024_4063 : Index := 1024#32
  ![v9601.toNat, 40, 1024]
def k0_off522 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9607 : Index := Scalar.indexCast v5304
  let c5120_4064 : Index := 5120#32
  let c1024_4065 : Index := 1024#32
  ![v9607.toNat, 5120, 1024]
def k0_off523 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9616 : Index := Scalar.indexCast v5304
  let c41_4066 : Index := 41#32
  let c1024_4067 : Index := 1024#32
  ![v9616.toNat, 41, 1024]
def k0_off524 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9622 : Index := Scalar.indexCast v5304
  let c5248_4068 : Index := 5248#32
  let c1024_4069 : Index := 1024#32
  ![v9622.toNat, 5248, 1024]
def k0_off525 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9635 : Index := Scalar.indexCast v5304
  let c42_4073 : Index := 42#32
  let c1024_4074 : Index := 1024#32
  ![v9635.toNat, 42, 1024]
def k0_off526 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9641 : Index := Scalar.indexCast v5304
  let c5376_4075 : Index := 5376#32
  let c1024_4076 : Index := 1024#32
  ![v9641.toNat, 5376, 1024]
def k0_off527 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9650 : Index := Scalar.indexCast v5304
  let c43_4077 : Index := 43#32
  let c1024_4078 : Index := 1024#32
  ![v9650.toNat, 43, 1024]
def k0_off528 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9656 : Index := Scalar.indexCast v5304
  let c5504_4079 : Index := 5504#32
  let c1024_4080 : Index := 1024#32
  ![v9656.toNat, 5504, 1024]
def k0_off529 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9669 : Index := Scalar.indexCast v5304
  let c44_4084 : Index := 44#32
  let c1024_4085 : Index := 1024#32
  ![v9669.toNat, 44, 1024]
def k0_off530 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9675 : Index := Scalar.indexCast v5304
  let c5632_4086 : Index := 5632#32
  let c1024_4087 : Index := 1024#32
  ![v9675.toNat, 5632, 1024]
def k0_off531 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9684 : Index := Scalar.indexCast v5304
  let c45_4088 : Index := 45#32
  let c1024_4089 : Index := 1024#32
  ![v9684.toNat, 45, 1024]
def k0_off532 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9690 : Index := Scalar.indexCast v5304
  let c5760_4090 : Index := 5760#32
  let c1024_4091 : Index := 1024#32
  ![v9690.toNat, 5760, 1024]
def k0_off533 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9703 : Index := Scalar.indexCast v5304
  let c46_4095 : Index := 46#32
  let c1024_4096 : Index := 1024#32
  ![v9703.toNat, 46, 1024]
def k0_off534 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9709 : Index := Scalar.indexCast v5304
  let c5888_4097 : Index := 5888#32
  let c1024_4098 : Index := 1024#32
  ![v9709.toNat, 5888, 1024]
def k0_off535 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9718 : Index := Scalar.indexCast v5304
  let c47_4099 : Index := 47#32
  let c1024_4100 : Index := 1024#32
  ![v9718.toNat, 47, 1024]
def k0_off536 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9724 : Index := Scalar.indexCast v5304
  let c6016_4101 : Index := 6016#32
  let c1024_4102 : Index := 1024#32
  ![v9724.toNat, 6016, 1024]
def k0_off537 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9737 : Index := Scalar.indexCast v5304
  let c48_4106 : Index := 48#32
  let c1024_4107 : Index := 1024#32
  ![v9737.toNat, 48, 1024]
def k0_off538 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9743 : Index := Scalar.indexCast v5304
  let c6144_4108 : Index := 6144#32
  let c1024_4109 : Index := 1024#32
  ![v9743.toNat, 6144, 1024]
def k0_off539 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9752 : Index := Scalar.indexCast v5304
  let c49_4110 : Index := 49#32
  let c1024_4111 : Index := 1024#32
  ![v9752.toNat, 49, 1024]
def k0_off540 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9758 : Index := Scalar.indexCast v5304
  let c6272_4112 : Index := 6272#32
  let c1024_4113 : Index := 1024#32
  ![v9758.toNat, 6272, 1024]
def k0_off541 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9771 : Index := Scalar.indexCast v5304
  let c50_4117 : Index := 50#32
  let c1024_4118 : Index := 1024#32
  ![v9771.toNat, 50, 1024]
def k0_off542 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9777 : Index := Scalar.indexCast v5304
  let c6400_4119 : Index := 6400#32
  let c1024_4120 : Index := 1024#32
  ![v9777.toNat, 6400, 1024]
def k0_off543 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9786 : Index := Scalar.indexCast v5304
  let c51_4121 : Index := 51#32
  let c1024_4122 : Index := 1024#32
  ![v9786.toNat, 51, 1024]
def k0_off544 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_2687 : BitVec 32 := 3#32
  let v5304 : BitVec 32 := Scalar.remsi arg26 c3_i32_2687
  let v9792 : Index := Scalar.indexCast v5304
  let c6528_4123 : Index := 6528#32
  let c1024_4124 : Index := 1024#32
  ![v9792.toNat, 6528, 1024]
def k0_off545 (k0_t5 : Fin k0_t5_loop.trips) (c0_i32_4139 : BitVec 32) : Fin 3 → Nat :=
  let c0_i32_97 : BitVec 32 := 0#32
  let c1_i32_98 : BitVec 32 := 1#32
  let arg26 : BitVec 32 := Scf.iv c0_i32_97 c1_i32_98 k0_t5
  let c10_i32_4138 : BitVec 32 := 10#32
  let v9823 : BitVec 32 := Scalar.muli arg26 c10_i32_4138
  let v9824 : BitVec 32 := Scalar.addi v9823 c0_i32_4139
  let v9825 : Index := Scalar.indexCast v9824
  let c0_4140 : Index := 0#32
  let c0_4141 : Index := 0#32
  ![v9825.toNat, 0, 0]
def k0_off546 (k0_t5 : Fin k0_t5_loop.trips) (c0_i32_4188 : BitVec 32) : Fin 3 → Nat :=
  let c0_i32_97 : BitVec 32 := 0#32
  let c1_i32_98 : BitVec 32 := 1#32
  let arg26 : BitVec 32 := Scf.iv c0_i32_97 c1_i32_98 k0_t5
  let c10_i32_4187 : BitVec 32 := 10#32
  let v9951 : BitVec 32 := Scalar.muli arg26 c10_i32_4187
  let v9952 : BitVec 32 := Scalar.addi v9951 c0_i32_4188
  let v9953 : Index := Scalar.indexCast v9952
  let c32_4189 : Index := 32#32
  let c0_4190 : Index := 0#32
  ![v9953.toNat, 32, 0]
def k0_off547 (k0_t5 : Fin k0_t5_loop.trips) (c0_i32_4240 : BitVec 32) : Fin 3 → Nat :=
  let c0_i32_97 : BitVec 32 := 0#32
  let c1_i32_98 : BitVec 32 := 1#32
  let arg26 : BitVec 32 := Scf.iv c0_i32_97 c1_i32_98 k0_t5
  let c10_i32_4239 : BitVec 32 := 10#32
  let v10079 : BitVec 32 := Scalar.muli arg26 c10_i32_4239
  let v10080 : BitVec 32 := Scalar.addi v10079 c0_i32_4240
  let v10081 : Index := Scalar.indexCast v10080
  let c64_4241 : Index := 64#32
  let c0_4242 : Index := 0#32
  ![v10081.toNat, 64, 0]
def k0_off548 (k0_t5 : Fin k0_t5_loop.trips) (c0_i32_4292 : BitVec 32) : Fin 3 → Nat :=
  let c0_i32_97 : BitVec 32 := 0#32
  let c1_i32_98 : BitVec 32 := 1#32
  let arg26 : BitVec 32 := Scf.iv c0_i32_97 c1_i32_98 k0_t5
  let c10_i32_4291 : BitVec 32 := 10#32
  let v10207 : BitVec 32 := Scalar.muli arg26 c10_i32_4291
  let v10208 : BitVec 32 := Scalar.addi v10207 c0_i32_4292
  let v10209 : Index := Scalar.indexCast v10208
  let c96_4293 : Index := 96#32
  let c0_4294 : Index := 0#32
  ![v10209.toNat, 96, 0]
def k0_cond1 (k0_t5 : Fin k0_t5_loop.trips) : BitVec 1 :=
  let c0_i32_97 : BitVec 32 := 0#32
  let c1_i32_98 : BitVec 32 := 1#32
  let arg26 : BitVec 32 := Scf.iv c0_i32_97 c1_i32_98 k0_t5
  let c3_i32_4343 : BitVec 32 := 3#32
  let v10335 : BitVec 32 := Scalar.addi arg26 c3_i32_4343
  let c25_i32_4344 : BitVec 32 := 25#32
  let v10336 : BitVec 1 := Scalar.cmpi .slt v10335 c25_i32_4344
  let v10337 : BitVec 32 := Scalar.extui v10336
  let c0_i32_4345 : BitVec 32 := 0#32
  let v10338 : BitVec 1 := Scalar.cmpi .ne v10337 c0_i32_4345
  v10338

def k0_mult8 (k0_t5 : Fin k0_t5_loop.trips) : BitVec 32 :=
  let c0_i32_97 : BitVec 32 := 0#32
  let c1_i32_98 : BitVec 32 := 1#32
  let arg26 : BitVec 32 := Scf.iv c0_i32_97 c1_i32_98 k0_t5
  let c3_i32_4346 : BitVec 32 := 3#32
  let v10339 : BitVec 32 := Scalar.addi arg26 c3_i32_4346
  let c1280_i32_4348 : BitVec 32 := 1280#32
  let v10341 : BitVec 32 := Scalar.muli v10339 c1280_i32_4348
  v10341
def k0_off549 (k0_t5 : Fin k0_t5_loop.trips) : Fin 1 → Nat :=
  let c0_i32_97 : BitVec 32 := 0#32
  let c1_i32_98 : BitVec 32 := 1#32
  let arg26 : BitVec 32 := Scf.iv c0_i32_97 c1_i32_98 k0_t5
  let c3_i32_4346 : BitVec 32 := 3#32
  let v10339 : BitVec 32 := Scalar.addi arg26 c3_i32_4346
  let c3_i32_4347 : BitVec 32 := 3#32
  let v10340 : BitVec 32 := Scalar.remsi v10339 c3_i32_4347
  ![v10340.toNat]
def k0_off550 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_4346 : BitVec 32 := 3#32
  let v10339 : BitVec 32 := Scalar.addi arg26 c3_i32_4346
  let c3_i32_4347 : BitVec 32 := 3#32
  let v10340 : BitVec 32 := Scalar.remsi v10339 c3_i32_4347
  let c0_i32_4349 : BitVec 32 := 0#32
  let c0_i32_4350 : BitVec 32 := 0#32
  ![v10340.toNat, 0, 0]
def k0_off551 (k0_t5 : Fin k0_t5_loop.trips) : Fin 2 → Nat :=
  let c0_i32_4351 : BitVec 32 := 0#32
  let c0_i32_97 : BitVec 32 := 0#32
  let c1_i32_98 : BitVec 32 := 1#32
  let arg26 : BitVec 32 := Scf.iv c0_i32_97 c1_i32_98 k0_t5
  let c3_i32_4346 : BitVec 32 := 3#32
  let v10339 : BitVec 32 := Scalar.addi arg26 c3_i32_4346
  let c1280_i32_4348 : BitVec 32 := 1280#32
  let v10341 : BitVec 32 := Scalar.muli v10339 c1280_i32_4348
  let v10342 : BitVec 32 := v10341
  ![0, v10342.toNat]
def k0_off552 (k0_t5 : Fin k0_t5_loop.trips) : Fin 3 → Nat :=
  let c0_i32_97 : BitVec 32 := 0#32
  let c1_i32_98 : BitVec 32 := 1#32
  let arg26 : BitVec 32 := Scf.iv c0_i32_97 c1_i32_98 k0_t5
  let c3_i32_4346 : BitVec 32 := 3#32
  let v10339 : BitVec 32 := Scalar.addi arg26 c3_i32_4346
  let c3_i32_4347 : BitVec 32 := 3#32
  let v10340 : BitVec 32 := Scalar.remsi v10339 c3_i32_4347
  let c0_i32_4352 : BitVec 32 := 0#32
  let c0_i32_4353 : BitVec 32 := 0#32
  ![v10340.toNat, 0, 0]
def k0_off553 (k0_t5 : Fin k0_t5_loop.trips) : Fin 2 → Nat :=
  let c0_i32_4354 : BitVec 32 := 0#32
  let c0_i32_97 : BitVec 32 := 0#32
  let c1_i32_98 : BitVec 32 := 1#32
  let arg26 : BitVec 32 := Scf.iv c0_i32_97 c1_i32_98 k0_t5
  let c3_i32_4346 : BitVec 32 := 3#32
  let v10339 : BitVec 32 := Scalar.addi arg26 c3_i32_4346
  let c1280_i32_4348 : BitVec 32 := 1280#32
  let v10341 : BitVec 32 := Scalar.muli v10339 c1280_i32_4348
  let v10342 : BitVec 32 := v10341
  ![0, v10342.toNat]
def k0_off554 (v189 : BitVec 32) (v191 : BitVec 32) : Fin 3 → Nat :=
  let c0_i32_126 : BitVec 32 := 0#32
  let v193 : BitVec 1 := Scalar.cmpi .sgt v191 c0_i32_126
  let v194 : BitVec 32 := Scalar.extui v193
  let c0_i32_127 : BitVec 32 := 0#32
  let v195 : BitVec 1 := Scalar.cmpi .slt v191 c0_i32_127
  let v196 : BitVec 32 := Scalar.extui v195
  let v197 : BitVec 32 := Scalar.subi v194 v196
  let c128_i32 : BitVec 32 := 128#32
  let c0_i32_128 : BitVec 32 := 0#32
  let v198 : BitVec 1 := Scalar.cmpi .sgt c128_i32 c0_i32_128
  let v199 : BitVec 32 := Scalar.extui v198
  let c0_i32_129 : BitVec 32 := 0#32
  let v200 : BitVec 1 := Scalar.cmpi .slt c128_i32 c0_i32_129
  let v201 : BitVec 32 := Scalar.extui v200
  let v202 : BitVec 32 := Scalar.subi v199 v201
  let v203 : BitVec 1 := Scalar.cmpi .ne v197 v202
  let v204 : BitVec 32 := Scalar.remsi v191 c128_i32
  let c0_i32_130 : BitVec 32 := 0#32
  let v205 : BitVec 1 := Scalar.cmpi .ne v204 c0_i32_130
  let v206 : BitVec 1 := Scalar.andi v203 v205
  let v192 : BitVec 32 := Scalar.divsi v191 c128_i32
  let c1_i32_131 : BitVec 32 := 1#32
  let v207 : BitVec 32 := Scalar.subi v192 c1_i32_131
  let v208 : BitVec 32 := Scalar.select v206 v207 v192
  let v209 : Index := Scalar.indexCast v208
  let c0_i32_123 : BitVec 32 := 0#32
  let v190 : BitVec 32 := Scalar.addi v189 c0_i32_123
  let v210 : Index := Scalar.indexCast v190
  let c0_132 : Index := 0#32
  ![v209.toNat, v210.toNat, 0]

def k0_chk4 (v189 : BitVec 32) (v191 : BitVec 32) : Prop :=
  (∀ a, (k0_off554 v189 v191) a + S1x1x128.size a ≤ S250x128x128.size a)
theorem k0_off554_inb : ∀ (v189 : BitVec 32) (v191 : BitVec 32) (k0_hw4 : k0_chk4 v189 v191), ∀ a, (k0_off554 v189 v191) a + S1x1x128.size a ≤ S250x128x128.size a := fun v189 v191 k0_hw4 => k0_hw4

def k0_off555 (v189 : BitVec 32) : Fin 2 → Nat :=
  let c0_i32_123 : BitVec 32 := 0#32
  let v190 : BitVec 32 := Scalar.addi v189 c0_i32_123
  let v213 : Index := Scalar.indexCast v190
  let c0_133 : Index := 0#32
  ![v213.toNat, 0]

def k0_chk5 (v189 : BitVec 32) : Prop :=
  (∀ a, (k0_off555 v189) a + S1x128.size a ≤ S128x128.size a)
theorem k0_off555_inb : ∀ (v189 : BitVec 32) (k0_hw5 : k0_chk5 v189), ∀ a, (k0_off555 v189) a + S1x128.size a ≤ S128x128.size a := fun v189 k0_hw5 => k0_hw5

def k0_off556 (v229 : BitVec 32) (v231 : BitVec 32) : Fin 3 → Nat :=
  let c0_i32_147 : BitVec 32 := 0#32
  let v233 : BitVec 1 := Scalar.cmpi .sgt v231 c0_i32_147
  let v234 : BitVec 32 := Scalar.extui v233
  let c0_i32_148 : BitVec 32 := 0#32
  let v235 : BitVec 1 := Scalar.cmpi .slt v231 c0_i32_148
  let v236 : BitVec 32 := Scalar.extui v235
  let v237 : BitVec 32 := Scalar.subi v234 v236
  let c128_i32_146 : BitVec 32 := 128#32
  let c0_i32_149 : BitVec 32 := 0#32
  let v238 : BitVec 1 := Scalar.cmpi .sgt c128_i32_146 c0_i32_149
  let v239 : BitVec 32 := Scalar.extui v238
  let c0_i32_150 : BitVec 32 := 0#32
  let v240 : BitVec 1 := Scalar.cmpi .slt c128_i32_146 c0_i32_150
  let v241 : BitVec 32 := Scalar.extui v240
  let v242 : BitVec 32 := Scalar.subi v239 v241
  let v243 : BitVec 1 := Scalar.cmpi .ne v237 v242
  let v244 : BitVec 32 := Scalar.remsi v231 c128_i32_146
  let c0_i32_151 : BitVec 32 := 0#32
  let v245 : BitVec 1 := Scalar.cmpi .ne v244 c0_i32_151
  let v246 : BitVec 1 := Scalar.andi v243 v245
  let v232 : BitVec 32 := Scalar.divsi v231 c128_i32_146
  let c1_i32_152 : BitVec 32 := 1#32
  let v247 : BitVec 32 := Scalar.subi v232 c1_i32_152
  let v248 : BitVec 32 := Scalar.select v246 v247 v232
  let v249 : Index := Scalar.indexCast v248
  let c0_i32_143 : BitVec 32 := 0#32
  let v230 : BitVec 32 := Scalar.addi v229 c0_i32_143
  let v250 : Index := Scalar.indexCast v230
  let c0_153 : Index := 0#32
  ![v249.toNat, v250.toNat, 0]

def k0_chk6 (v229 : BitVec 32) (v231 : BitVec 32) : Prop :=
  (∀ a, (k0_off556 v229 v231) a + S1x1x128.size a ≤ S250x128x128.size a)
theorem k0_off556_inb : ∀ (v229 : BitVec 32) (v231 : BitVec 32) (k0_hw6 : k0_chk6 v229 v231), ∀ a, (k0_off556 v229 v231) a + S1x1x128.size a ≤ S250x128x128.size a := fun v229 v231 k0_hw6 => k0_hw6

def k0_off557 (v229 : BitVec 32) : Fin 2 → Nat :=
  let c0_i32_143 : BitVec 32 := 0#32
  let v230 : BitVec 32 := Scalar.addi v229 c0_i32_143
  let v253 : Index := Scalar.indexCast v230
  let c0_154 : Index := 0#32
  ![v253.toNat, 0]

def k0_chk7 (v229 : BitVec 32) : Prop :=
  (∀ a, (k0_off557 v229) a + S1x128.size a ≤ S128x128.size a)
theorem k0_off557_inb : ∀ (v229 : BitVec 32) (k0_hw7 : k0_chk7 v229), ∀ a, (k0_off557 v229) a + S1x128.size a ≤ S128x128.size a := fun v229 k0_hw7 => k0_hw7

def k0_off558 (v269 : BitVec 32) (v271 : BitVec 32) : Fin 3 → Nat :=
  let c0_i32_168 : BitVec 32 := 0#32
  let v273 : BitVec 1 := Scalar.cmpi .sgt v271 c0_i32_168
  let v274 : BitVec 32 := Scalar.extui v273
  let c0_i32_169 : BitVec 32 := 0#32
  let v275 : BitVec 1 := Scalar.cmpi .slt v271 c0_i32_169
  let v276 : BitVec 32 := Scalar.extui v275
  let v277 : BitVec 32 := Scalar.subi v274 v276
  let c128_i32_167 : BitVec 32 := 128#32
  let c0_i32_170 : BitVec 32 := 0#32
  let v278 : BitVec 1 := Scalar.cmpi .sgt c128_i32_167 c0_i32_170
  let v279 : BitVec 32 := Scalar.extui v278
  let c0_i32_171 : BitVec 32 := 0#32
  let v280 : BitVec 1 := Scalar.cmpi .slt c128_i32_167 c0_i32_171
  let v281 : BitVec 32 := Scalar.extui v280
  let v282 : BitVec 32 := Scalar.subi v279 v281
  let v283 : BitVec 1 := Scalar.cmpi .ne v277 v282
  let v284 : BitVec 32 := Scalar.remsi v271 c128_i32_167
  let c0_i32_172 : BitVec 32 := 0#32
  let v285 : BitVec 1 := Scalar.cmpi .ne v284 c0_i32_172
  let v286 : BitVec 1 := Scalar.andi v283 v285
  let v272 : BitVec 32 := Scalar.divsi v271 c128_i32_167
  let c1_i32_173 : BitVec 32 := 1#32
  let v287 : BitVec 32 := Scalar.subi v272 c1_i32_173
  let v288 : BitVec 32 := Scalar.select v286 v287 v272
  let v289 : Index := Scalar.indexCast v288
  let c0_i32_164 : BitVec 32 := 0#32
  let v270 : BitVec 32 := Scalar.addi v269 c0_i32_164
  let v290 : Index := Scalar.indexCast v270
  let c0_174 : Index := 0#32
  ![v289.toNat, v290.toNat, 0]

def k0_chk8 (v269 : BitVec 32) (v271 : BitVec 32) : Prop :=
  (∀ a, (k0_off558 v269 v271) a + S1x1x128.size a ≤ S250x128x128.size a)
theorem k0_off558_inb : ∀ (v269 : BitVec 32) (v271 : BitVec 32) (k0_hw8 : k0_chk8 v269 v271), ∀ a, (k0_off558 v269 v271) a + S1x1x128.size a ≤ S250x128x128.size a := fun v269 v271 k0_hw8 => k0_hw8

def k0_off559 (v269 : BitVec 32) : Fin 2 → Nat :=
  let c0_i32_164 : BitVec 32 := 0#32
  let v270 : BitVec 32 := Scalar.addi v269 c0_i32_164
  let v293 : Index := Scalar.indexCast v270
  let c0_175 : Index := 0#32
  ![v293.toNat, 0]

def k0_chk9 (v269 : BitVec 32) : Prop :=
  (∀ a, (k0_off559 v269) a + S1x128.size a ≤ S128x128.size a)
theorem k0_off559_inb : ∀ (v269 : BitVec 32) (k0_hw9 : k0_chk9 v269), ∀ a, (k0_off559 v269) a + S1x128.size a ≤ S128x128.size a := fun v269 k0_hw9 => k0_hw9

def k0_off560 (v309 : BitVec 32) (v311 : BitVec 32) : Fin 3 → Nat :=
  let c0_i32_188 : BitVec 32 := 0#32
  let v313 : BitVec 1 := Scalar.cmpi .sgt v311 c0_i32_188
  let v314 : BitVec 32 := Scalar.extui v313
  let c0_i32_189 : BitVec 32 := 0#32
  let v315 : BitVec 1 := Scalar.cmpi .slt v311 c0_i32_189
  let v316 : BitVec 32 := Scalar.extui v315
  let v317 : BitVec 32 := Scalar.subi v314 v316
  let c128_i32_187 : BitVec 32 := 128#32
  let c0_i32_190 : BitVec 32 := 0#32
  let v318 : BitVec 1 := Scalar.cmpi .sgt c128_i32_187 c0_i32_190
  let v319 : BitVec 32 := Scalar.extui v318
  let c0_i32_191 : BitVec 32 := 0#32
  let v320 : BitVec 1 := Scalar.cmpi .slt c128_i32_187 c0_i32_191
  let v321 : BitVec 32 := Scalar.extui v320
  let v322 : BitVec 32 := Scalar.subi v319 v321
  let v323 : BitVec 1 := Scalar.cmpi .ne v317 v322
  let v324 : BitVec 32 := Scalar.remsi v311 c128_i32_187
  let c0_i32_192 : BitVec 32 := 0#32
  let v325 : BitVec 1 := Scalar.cmpi .ne v324 c0_i32_192
  let v326 : BitVec 1 := Scalar.andi v323 v325
  let v312 : BitVec 32 := Scalar.divsi v311 c128_i32_187
  let c1_i32_193 : BitVec 32 := 1#32
  let v327 : BitVec 32 := Scalar.subi v312 c1_i32_193
  let v328 : BitVec 32 := Scalar.select v326 v327 v312
  let v329 : Index := Scalar.indexCast v328
  let c0_i32_184 : BitVec 32 := 0#32
  let v310 : BitVec 32 := Scalar.addi v309 c0_i32_184
  let v330 : Index := Scalar.indexCast v310
  let c0_194 : Index := 0#32
  ![v329.toNat, v330.toNat, 0]

def k0_chk10 (v309 : BitVec 32) (v311 : BitVec 32) : Prop :=
  (∀ a, (k0_off560 v309 v311) a + S1x1x128.size a ≤ S250x128x128.size a)
theorem k0_off560_inb : ∀ (v309 : BitVec 32) (v311 : BitVec 32) (k0_hw10 : k0_chk10 v309 v311), ∀ a, (k0_off560 v309 v311) a + S1x1x128.size a ≤ S250x128x128.size a := fun v309 v311 k0_hw10 => k0_hw10

def k0_off561 (v309 : BitVec 32) : Fin 2 → Nat :=
  let c0_i32_184 : BitVec 32 := 0#32
  let v310 : BitVec 32 := Scalar.addi v309 c0_i32_184
  let v333 : Index := Scalar.indexCast v310
  let c0_195 : Index := 0#32
  ![v333.toNat, 0]

def k0_chk11 (v309 : BitVec 32) : Prop :=
  (∀ a, (k0_off561 v309) a + S1x128.size a ≤ S128x128.size a)
theorem k0_off561_inb : ∀ (v309 : BitVec 32) (k0_hw11 : k0_chk11 v309), ∀ a, (k0_off561 v309) a + S1x128.size a ≤ S128x128.size a := fun v309 k0_hw11 => k0_hw11

def k0_off562 (v349 : BitVec 32) (v351 : BitVec 32) : Fin 3 → Nat :=
  let c0_i32_208 : BitVec 32 := 0#32
  let v353 : BitVec 1 := Scalar.cmpi .sgt v351 c0_i32_208
  let v354 : BitVec 32 := Scalar.extui v353
  let c0_i32_209 : BitVec 32 := 0#32
  let v355 : BitVec 1 := Scalar.cmpi .slt v351 c0_i32_209
  let v356 : BitVec 32 := Scalar.extui v355
  let v357 : BitVec 32 := Scalar.subi v354 v356
  let c128_i32_207 : BitVec 32 := 128#32
  let c0_i32_210 : BitVec 32 := 0#32
  let v358 : BitVec 1 := Scalar.cmpi .sgt c128_i32_207 c0_i32_210
  let v359 : BitVec 32 := Scalar.extui v358
  let c0_i32_211 : BitVec 32 := 0#32
  let v360 : BitVec 1 := Scalar.cmpi .slt c128_i32_207 c0_i32_211
  let v361 : BitVec 32 := Scalar.extui v360
  let v362 : BitVec 32 := Scalar.subi v359 v361
  let v363 : BitVec 1 := Scalar.cmpi .ne v357 v362
  let v364 : BitVec 32 := Scalar.remsi v351 c128_i32_207
  let c0_i32_212 : BitVec 32 := 0#32
  let v365 : BitVec 1 := Scalar.cmpi .ne v364 c0_i32_212
  let v366 : BitVec 1 := Scalar.andi v363 v365
  let v352 : BitVec 32 := Scalar.divsi v351 c128_i32_207
  let c1_i32_213 : BitVec 32 := 1#32
  let v367 : BitVec 32 := Scalar.subi v352 c1_i32_213
  let v368 : BitVec 32 := Scalar.select v366 v367 v352
  let v369 : Index := Scalar.indexCast v368
  let c0_i32_204 : BitVec 32 := 0#32
  let v350 : BitVec 32 := Scalar.addi v349 c0_i32_204
  let v370 : Index := Scalar.indexCast v350
  let c0_214 : Index := 0#32
  ![v369.toNat, v370.toNat, 0]

def k0_chk12 (v349 : BitVec 32) (v351 : BitVec 32) : Prop :=
  (∀ a, (k0_off562 v349 v351) a + S1x1x128.size a ≤ S250x128x128.size a)
theorem k0_off562_inb : ∀ (v349 : BitVec 32) (v351 : BitVec 32) (k0_hw12 : k0_chk12 v349 v351), ∀ a, (k0_off562 v349 v351) a + S1x1x128.size a ≤ S250x128x128.size a := fun v349 v351 k0_hw12 => k0_hw12

def k0_off563 (v349 : BitVec 32) : Fin 2 → Nat :=
  let c0_i32_204 : BitVec 32 := 0#32
  let v350 : BitVec 32 := Scalar.addi v349 c0_i32_204
  let v373 : Index := Scalar.indexCast v350
  let c0_215 : Index := 0#32
  ![v373.toNat, 0]

def k0_chk13 (v349 : BitVec 32) : Prop :=
  (∀ a, (k0_off563 v349) a + S1x128.size a ≤ S128x128.size a)
theorem k0_off563_inb : ∀ (v349 : BitVec 32) (k0_hw13 : k0_chk13 v349), ∀ a, (k0_off563 v349) a + S1x128.size a ≤ S128x128.size a := fun v349 k0_hw13 => k0_hw13

def k0_off564 (v389 : BitVec 32) (v391 : BitVec 32) : Fin 3 → Nat :=
  let c0_i32_228 : BitVec 32 := 0#32
  let v393 : BitVec 1 := Scalar.cmpi .sgt v391 c0_i32_228
  let v394 : BitVec 32 := Scalar.extui v393
  let c0_i32_229 : BitVec 32 := 0#32
  let v395 : BitVec 1 := Scalar.cmpi .slt v391 c0_i32_229
  let v396 : BitVec 32 := Scalar.extui v395
  let v397 : BitVec 32 := Scalar.subi v394 v396
  let c128_i32_227 : BitVec 32 := 128#32
  let c0_i32_230 : BitVec 32 := 0#32
  let v398 : BitVec 1 := Scalar.cmpi .sgt c128_i32_227 c0_i32_230
  let v399 : BitVec 32 := Scalar.extui v398
  let c0_i32_231 : BitVec 32 := 0#32
  let v400 : BitVec 1 := Scalar.cmpi .slt c128_i32_227 c0_i32_231
  let v401 : BitVec 32 := Scalar.extui v400
  let v402 : BitVec 32 := Scalar.subi v399 v401
  let v403 : BitVec 1 := Scalar.cmpi .ne v397 v402
  let v404 : BitVec 32 := Scalar.remsi v391 c128_i32_227
  let c0_i32_232 : BitVec 32 := 0#32
  let v405 : BitVec 1 := Scalar.cmpi .ne v404 c0_i32_232
  let v406 : BitVec 1 := Scalar.andi v403 v405
  let v392 : BitVec 32 := Scalar.divsi v391 c128_i32_227
  let c1_i32_233 : BitVec 32 := 1#32
  let v407 : BitVec 32 := Scalar.subi v392 c1_i32_233
  let v408 : BitVec 32 := Scalar.select v406 v407 v392
  let v409 : Index := Scalar.indexCast v408
  let c0_i32_224 : BitVec 32 := 0#32
  let v390 : BitVec 32 := Scalar.addi v389 c0_i32_224
  let v410 : Index := Scalar.indexCast v390
  let c0_234 : Index := 0#32
  ![v409.toNat, v410.toNat, 0]

def k0_chk14 (v389 : BitVec 32) (v391 : BitVec 32) : Prop :=
  (∀ a, (k0_off564 v389 v391) a + S1x1x128.size a ≤ S250x128x128.size a)
theorem k0_off564_inb : ∀ (v389 : BitVec 32) (v391 : BitVec 32) (k0_hw14 : k0_chk14 v389 v391), ∀ a, (k0_off564 v389 v391) a + S1x1x128.size a ≤ S250x128x128.size a := fun v389 v391 k0_hw14 => k0_hw14

def k0_off565 (v389 : BitVec 32) : Fin 2 → Nat :=
  let c0_i32_224 : BitVec 32 := 0#32
  let v390 : BitVec 32 := Scalar.addi v389 c0_i32_224
  let v413 : Index := Scalar.indexCast v390
  let c0_235 : Index := 0#32
  ![v413.toNat, 0]

def k0_chk15 (v389 : BitVec 32) : Prop :=
  (∀ a, (k0_off565 v389) a + S1x128.size a ≤ S128x128.size a)
theorem k0_off565_inb : ∀ (v389 : BitVec 32) (k0_hw15 : k0_chk15 v389), ∀ a, (k0_off565 v389) a + S1x128.size a ≤ S128x128.size a := fun v389 k0_hw15 => k0_hw15

def k0_off566 (v429 : BitVec 32) (v431 : BitVec 32) : Fin 3 → Nat :=
  let c0_i32_248 : BitVec 32 := 0#32
  let v433 : BitVec 1 := Scalar.cmpi .sgt v431 c0_i32_248
  let v434 : BitVec 32 := Scalar.extui v433
  let c0_i32_249 : BitVec 32 := 0#32
  let v435 : BitVec 1 := Scalar.cmpi .slt v431 c0_i32_249
  let v436 : BitVec 32 := Scalar.extui v435
  let v437 : BitVec 32 := Scalar.subi v434 v436
  let c128_i32_247 : BitVec 32 := 128#32
  let c0_i32_250 : BitVec 32 := 0#32
  let v438 : BitVec 1 := Scalar.cmpi .sgt c128_i32_247 c0_i32_250
  let v439 : BitVec 32 := Scalar.extui v438
  let c0_i32_251 : BitVec 32 := 0#32
  let v440 : BitVec 1 := Scalar.cmpi .slt c128_i32_247 c0_i32_251
  let v441 : BitVec 32 := Scalar.extui v440
  let v442 : BitVec 32 := Scalar.subi v439 v441
  let v443 : BitVec 1 := Scalar.cmpi .ne v437 v442
  let v444 : BitVec 32 := Scalar.remsi v431 c128_i32_247
  let c0_i32_252 : BitVec 32 := 0#32
  let v445 : BitVec 1 := Scalar.cmpi .ne v444 c0_i32_252
  let v446 : BitVec 1 := Scalar.andi v443 v445
  let v432 : BitVec 32 := Scalar.divsi v431 c128_i32_247
  let c1_i32_253 : BitVec 32 := 1#32
  let v447 : BitVec 32 := Scalar.subi v432 c1_i32_253
  let v448 : BitVec 32 := Scalar.select v446 v447 v432
  let v449 : Index := Scalar.indexCast v448
  let c0_i32_244 : BitVec 32 := 0#32
  let v430 : BitVec 32 := Scalar.addi v429 c0_i32_244
  let v450 : Index := Scalar.indexCast v430
  let c0_254 : Index := 0#32
  ![v449.toNat, v450.toNat, 0]

def k0_chk16 (v429 : BitVec 32) (v431 : BitVec 32) : Prop :=
  (∀ a, (k0_off566 v429 v431) a + S1x1x128.size a ≤ S250x128x128.size a)
theorem k0_off566_inb : ∀ (v429 : BitVec 32) (v431 : BitVec 32) (k0_hw16 : k0_chk16 v429 v431), ∀ a, (k0_off566 v429 v431) a + S1x1x128.size a ≤ S250x128x128.size a := fun v429 v431 k0_hw16 => k0_hw16

def k0_off567 (v429 : BitVec 32) : Fin 2 → Nat :=
  let c0_i32_244 : BitVec 32 := 0#32
  let v430 : BitVec 32 := Scalar.addi v429 c0_i32_244
  let v453 : Index := Scalar.indexCast v430
  let c0_255 : Index := 0#32
  ![v453.toNat, 0]

def k0_chk17 (v429 : BitVec 32) : Prop :=
  (∀ a, (k0_off567 v429) a + S1x128.size a ≤ S128x128.size a)
theorem k0_off567_inb : ∀ (v429 : BitVec 32) (k0_hw17 : k0_chk17 v429), ∀ a, (k0_off567 v429) a + S1x128.size a ≤ S128x128.size a := fun v429 k0_hw17 => k0_hw17

def k0_off568 (v469 : BitVec 32) (v471 : BitVec 32) : Fin 3 → Nat :=
  let c0_i32_268 : BitVec 32 := 0#32
  let v473 : BitVec 1 := Scalar.cmpi .sgt v471 c0_i32_268
  let v474 : BitVec 32 := Scalar.extui v473
  let c0_i32_269 : BitVec 32 := 0#32
  let v475 : BitVec 1 := Scalar.cmpi .slt v471 c0_i32_269
  let v476 : BitVec 32 := Scalar.extui v475
  let v477 : BitVec 32 := Scalar.subi v474 v476
  let c128_i32_267 : BitVec 32 := 128#32
  let c0_i32_270 : BitVec 32 := 0#32
  let v478 : BitVec 1 := Scalar.cmpi .sgt c128_i32_267 c0_i32_270
  let v479 : BitVec 32 := Scalar.extui v478
  let c0_i32_271 : BitVec 32 := 0#32
  let v480 : BitVec 1 := Scalar.cmpi .slt c128_i32_267 c0_i32_271
  let v481 : BitVec 32 := Scalar.extui v480
  let v482 : BitVec 32 := Scalar.subi v479 v481
  let v483 : BitVec 1 := Scalar.cmpi .ne v477 v482
  let v484 : BitVec 32 := Scalar.remsi v471 c128_i32_267
  let c0_i32_272 : BitVec 32 := 0#32
  let v485 : BitVec 1 := Scalar.cmpi .ne v484 c0_i32_272
  let v486 : BitVec 1 := Scalar.andi v483 v485
  let v472 : BitVec 32 := Scalar.divsi v471 c128_i32_267
  let c1_i32_273 : BitVec 32 := 1#32
  let v487 : BitVec 32 := Scalar.subi v472 c1_i32_273
  let v488 : BitVec 32 := Scalar.select v486 v487 v472
  let v489 : Index := Scalar.indexCast v488
  let c0_i32_264 : BitVec 32 := 0#32
  let v470 : BitVec 32 := Scalar.addi v469 c0_i32_264
  let v490 : Index := Scalar.indexCast v470
  let c0_274 : Index := 0#32
  ![v489.toNat, v490.toNat, 0]

def k0_chk18 (v469 : BitVec 32) (v471 : BitVec 32) : Prop :=
  (∀ a, (k0_off568 v469 v471) a + S1x1x128.size a ≤ S250x128x128.size a)
theorem k0_off568_inb : ∀ (v469 : BitVec 32) (v471 : BitVec 32) (k0_hw18 : k0_chk18 v469 v471), ∀ a, (k0_off568 v469 v471) a + S1x1x128.size a ≤ S250x128x128.size a := fun v469 v471 k0_hw18 => k0_hw18

def k0_off569 (v469 : BitVec 32) : Fin 2 → Nat :=
  let c0_i32_264 : BitVec 32 := 0#32
  let v470 : BitVec 32 := Scalar.addi v469 c0_i32_264
  let v493 : Index := Scalar.indexCast v470
  let c0_275 : Index := 0#32
  ![v493.toNat, 0]

def k0_chk19 (v469 : BitVec 32) : Prop :=
  (∀ a, (k0_off569 v469) a + S1x128.size a ≤ S128x128.size a)
theorem k0_off569_inb : ∀ (v469 : BitVec 32) (k0_hw19 : k0_chk19 v469), ∀ a, (k0_off569 v469) a + S1x128.size a ≤ S128x128.size a := fun v469 k0_hw19 => k0_hw19

def k0_off570 (v509 : BitVec 32) (v511 : BitVec 32) : Fin 3 → Nat :=
  let c0_i32_288 : BitVec 32 := 0#32
  let v513 : BitVec 1 := Scalar.cmpi .sgt v511 c0_i32_288
  let v514 : BitVec 32 := Scalar.extui v513
  let c0_i32_289 : BitVec 32 := 0#32
  let v515 : BitVec 1 := Scalar.cmpi .slt v511 c0_i32_289
  let v516 : BitVec 32 := Scalar.extui v515
  let v517 : BitVec 32 := Scalar.subi v514 v516
  let c128_i32_287 : BitVec 32 := 128#32
  let c0_i32_290 : BitVec 32 := 0#32
  let v518 : BitVec 1 := Scalar.cmpi .sgt c128_i32_287 c0_i32_290
  let v519 : BitVec 32 := Scalar.extui v518
  let c0_i32_291 : BitVec 32 := 0#32
  let v520 : BitVec 1 := Scalar.cmpi .slt c128_i32_287 c0_i32_291
  let v521 : BitVec 32 := Scalar.extui v520
  let v522 : BitVec 32 := Scalar.subi v519 v521
  let v523 : BitVec 1 := Scalar.cmpi .ne v517 v522
  let v524 : BitVec 32 := Scalar.remsi v511 c128_i32_287
  let c0_i32_292 : BitVec 32 := 0#32
  let v525 : BitVec 1 := Scalar.cmpi .ne v524 c0_i32_292
  let v526 : BitVec 1 := Scalar.andi v523 v525
  let v512 : BitVec 32 := Scalar.divsi v511 c128_i32_287
  let c1_i32_293 : BitVec 32 := 1#32
  let v527 : BitVec 32 := Scalar.subi v512 c1_i32_293
  let v528 : BitVec 32 := Scalar.select v526 v527 v512
  let v529 : Index := Scalar.indexCast v528
  let c0_i32_284 : BitVec 32 := 0#32
  let v510 : BitVec 32 := Scalar.addi v509 c0_i32_284
  let v530 : Index := Scalar.indexCast v510
  let c0_294 : Index := 0#32
  ![v529.toNat, v530.toNat, 0]

def k0_chk20 (v509 : BitVec 32) (v511 : BitVec 32) : Prop :=
  (∀ a, (k0_off570 v509 v511) a + S1x1x128.size a ≤ S250x128x128.size a)
theorem k0_off570_inb : ∀ (v509 : BitVec 32) (v511 : BitVec 32) (k0_hw20 : k0_chk20 v509 v511), ∀ a, (k0_off570 v509 v511) a + S1x1x128.size a ≤ S250x128x128.size a := fun v509 v511 k0_hw20 => k0_hw20

def k0_off571 (v509 : BitVec 32) : Fin 2 → Nat :=
  let c0_i32_284 : BitVec 32 := 0#32
  let v510 : BitVec 32 := Scalar.addi v509 c0_i32_284
  let v533 : Index := Scalar.indexCast v510
  let c0_295 : Index := 0#32
  ![v533.toNat, 0]

def k0_chk21 (v509 : BitVec 32) : Prop :=
  (∀ a, (k0_off571 v509) a + S1x128.size a ≤ S128x128.size a)
theorem k0_off571_inb : ∀ (v509 : BitVec 32) (k0_hw21 : k0_chk21 v509), ∀ a, (k0_off571 v509) a + S1x128.size a ≤ S128x128.size a := fun v509 k0_hw21 => k0_hw21

def k0_off572 (v549 : BitVec 32) (v551 : BitVec 32) : Fin 3 → Nat :=
  let c0_i32_308 : BitVec 32 := 0#32
  let v553 : BitVec 1 := Scalar.cmpi .sgt v551 c0_i32_308
  let v554 : BitVec 32 := Scalar.extui v553
  let c0_i32_309 : BitVec 32 := 0#32
  let v555 : BitVec 1 := Scalar.cmpi .slt v551 c0_i32_309
  let v556 : BitVec 32 := Scalar.extui v555
  let v557 : BitVec 32 := Scalar.subi v554 v556
  let c128_i32_307 : BitVec 32 := 128#32
  let c0_i32_310 : BitVec 32 := 0#32
  let v558 : BitVec 1 := Scalar.cmpi .sgt c128_i32_307 c0_i32_310
  let v559 : BitVec 32 := Scalar.extui v558
  let c0_i32_311 : BitVec 32 := 0#32
  let v560 : BitVec 1 := Scalar.cmpi .slt c128_i32_307 c0_i32_311
  let v561 : BitVec 32 := Scalar.extui v560
  let v562 : BitVec 32 := Scalar.subi v559 v561
  let v563 : BitVec 1 := Scalar.cmpi .ne v557 v562
  let v564 : BitVec 32 := Scalar.remsi v551 c128_i32_307
  let c0_i32_312 : BitVec 32 := 0#32
  let v565 : BitVec 1 := Scalar.cmpi .ne v564 c0_i32_312
  let v566 : BitVec 1 := Scalar.andi v563 v565
  let v552 : BitVec 32 := Scalar.divsi v551 c128_i32_307
  let c1_i32_313 : BitVec 32 := 1#32
  let v567 : BitVec 32 := Scalar.subi v552 c1_i32_313
  let v568 : BitVec 32 := Scalar.select v566 v567 v552
  let v569 : Index := Scalar.indexCast v568
  let c0_i32_304 : BitVec 32 := 0#32
  let v550 : BitVec 32 := Scalar.addi v549 c0_i32_304
  let v570 : Index := Scalar.indexCast v550
  let c0_314 : Index := 0#32
  ![v569.toNat, v570.toNat, 0]

def k0_chk22 (v549 : BitVec 32) (v551 : BitVec 32) : Prop :=
  (∀ a, (k0_off572 v549 v551) a + S1x1x128.size a ≤ S250x128x128.size a)
theorem k0_off572_inb : ∀ (v549 : BitVec 32) (v551 : BitVec 32) (k0_hw22 : k0_chk22 v549 v551), ∀ a, (k0_off572 v549 v551) a + S1x1x128.size a ≤ S250x128x128.size a := fun v549 v551 k0_hw22 => k0_hw22

def k0_off573 (v549 : BitVec 32) : Fin 2 → Nat :=
  let c0_i32_304 : BitVec 32 := 0#32
  let v550 : BitVec 32 := Scalar.addi v549 c0_i32_304
  let v573 : Index := Scalar.indexCast v550
  let c0_315 : Index := 0#32
  ![v573.toNat, 0]

def k0_chk23 (v549 : BitVec 32) : Prop :=
  (∀ a, (k0_off573 v549) a + S1x128.size a ≤ S128x128.size a)
theorem k0_off573_inb : ∀ (v549 : BitVec 32) (k0_hw23 : k0_chk23 v549), ∀ a, (k0_off573 v549) a + S1x128.size a ≤ S128x128.size a := fun v549 k0_hw23 => k0_hw23

def k0_off574 (v589 : BitVec 32) (v591 : BitVec 32) : Fin 3 → Nat :=
  let c0_i32_328 : BitVec 32 := 0#32
  let v593 : BitVec 1 := Scalar.cmpi .sgt v591 c0_i32_328
  let v594 : BitVec 32 := Scalar.extui v593
  let c0_i32_329 : BitVec 32 := 0#32
  let v595 : BitVec 1 := Scalar.cmpi .slt v591 c0_i32_329
  let v596 : BitVec 32 := Scalar.extui v595
  let v597 : BitVec 32 := Scalar.subi v594 v596
  let c128_i32_327 : BitVec 32 := 128#32
  let c0_i32_330 : BitVec 32 := 0#32
  let v598 : BitVec 1 := Scalar.cmpi .sgt c128_i32_327 c0_i32_330
  let v599 : BitVec 32 := Scalar.extui v598
  let c0_i32_331 : BitVec 32 := 0#32
  let v600 : BitVec 1 := Scalar.cmpi .slt c128_i32_327 c0_i32_331
  let v601 : BitVec 32 := Scalar.extui v600
  let v602 : BitVec 32 := Scalar.subi v599 v601
  let v603 : BitVec 1 := Scalar.cmpi .ne v597 v602
  let v604 : BitVec 32 := Scalar.remsi v591 c128_i32_327
  let c0_i32_332 : BitVec 32 := 0#32
  let v605 : BitVec 1 := Scalar.cmpi .ne v604 c0_i32_332
  let v606 : BitVec 1 := Scalar.andi v603 v605
  let v592 : BitVec 32 := Scalar.divsi v591 c128_i32_327
  let c1_i32_333 : BitVec 32 := 1#32
  let v607 : BitVec 32 := Scalar.subi v592 c1_i32_333
  let v608 : BitVec 32 := Scalar.select v606 v607 v592
  let v609 : Index := Scalar.indexCast v608
  let c0_i32_324 : BitVec 32 := 0#32
  let v590 : BitVec 32 := Scalar.addi v589 c0_i32_324
  let v610 : Index := Scalar.indexCast v590
  let c0_334 : Index := 0#32
  ![v609.toNat, v610.toNat, 0]

def k0_chk24 (v589 : BitVec 32) (v591 : BitVec 32) : Prop :=
  (∀ a, (k0_off574 v589 v591) a + S1x1x128.size a ≤ S250x128x128.size a)
theorem k0_off574_inb : ∀ (v589 : BitVec 32) (v591 : BitVec 32) (k0_hw24 : k0_chk24 v589 v591), ∀ a, (k0_off574 v589 v591) a + S1x1x128.size a ≤ S250x128x128.size a := fun v589 v591 k0_hw24 => k0_hw24

def k0_off575 (v589 : BitVec 32) : Fin 2 → Nat :=
  let c0_i32_324 : BitVec 32 := 0#32
  let v590 : BitVec 32 := Scalar.addi v589 c0_i32_324
  let v613 : Index := Scalar.indexCast v590
  let c0_335 : Index := 0#32
  ![v613.toNat, 0]

def k0_chk25 (v589 : BitVec 32) : Prop :=
  (∀ a, (k0_off575 v589) a + S1x128.size a ≤ S128x128.size a)
theorem k0_off575_inb : ∀ (v589 : BitVec 32) (k0_hw25 : k0_chk25 v589), ∀ a, (k0_off575 v589) a + S1x128.size a ≤ S128x128.size a := fun v589 k0_hw25 => k0_hw25

def k0_off576 (v629 : BitVec 32) (v631 : BitVec 32) : Fin 3 → Nat :=
  let c0_i32_348 : BitVec 32 := 0#32
  let v633 : BitVec 1 := Scalar.cmpi .sgt v631 c0_i32_348
  let v634 : BitVec 32 := Scalar.extui v633
  let c0_i32_349 : BitVec 32 := 0#32
  let v635 : BitVec 1 := Scalar.cmpi .slt v631 c0_i32_349
  let v636 : BitVec 32 := Scalar.extui v635
  let v637 : BitVec 32 := Scalar.subi v634 v636
  let c128_i32_347 : BitVec 32 := 128#32
  let c0_i32_350 : BitVec 32 := 0#32
  let v638 : BitVec 1 := Scalar.cmpi .sgt c128_i32_347 c0_i32_350
  let v639 : BitVec 32 := Scalar.extui v638
  let c0_i32_351 : BitVec 32 := 0#32
  let v640 : BitVec 1 := Scalar.cmpi .slt c128_i32_347 c0_i32_351
  let v641 : BitVec 32 := Scalar.extui v640
  let v642 : BitVec 32 := Scalar.subi v639 v641
  let v643 : BitVec 1 := Scalar.cmpi .ne v637 v642
  let v644 : BitVec 32 := Scalar.remsi v631 c128_i32_347
  let c0_i32_352 : BitVec 32 := 0#32
  let v645 : BitVec 1 := Scalar.cmpi .ne v644 c0_i32_352
  let v646 : BitVec 1 := Scalar.andi v643 v645
  let v632 : BitVec 32 := Scalar.divsi v631 c128_i32_347
  let c1_i32_353 : BitVec 32 := 1#32
  let v647 : BitVec 32 := Scalar.subi v632 c1_i32_353
  let v648 : BitVec 32 := Scalar.select v646 v647 v632
  let v649 : Index := Scalar.indexCast v648
  let c0_i32_344 : BitVec 32 := 0#32
  let v630 : BitVec 32 := Scalar.addi v629 c0_i32_344
  let v650 : Index := Scalar.indexCast v630
  let c0_354 : Index := 0#32
  ![v649.toNat, v650.toNat, 0]

def k0_chk26 (v629 : BitVec 32) (v631 : BitVec 32) : Prop :=
  (∀ a, (k0_off576 v629 v631) a + S1x1x128.size a ≤ S250x128x128.size a)
theorem k0_off576_inb : ∀ (v629 : BitVec 32) (v631 : BitVec 32) (k0_hw26 : k0_chk26 v629 v631), ∀ a, (k0_off576 v629 v631) a + S1x1x128.size a ≤ S250x128x128.size a := fun v629 v631 k0_hw26 => k0_hw26

def k0_off577 (v629 : BitVec 32) : Fin 2 → Nat :=
  let c0_i32_344 : BitVec 32 := 0#32
  let v630 : BitVec 32 := Scalar.addi v629 c0_i32_344
  let v653 : Index := Scalar.indexCast v630
  let c0_355 : Index := 0#32
  ![v653.toNat, 0]

def k0_chk27 (v629 : BitVec 32) : Prop :=
  (∀ a, (k0_off577 v629) a + S1x128.size a ≤ S128x128.size a)
theorem k0_off577_inb : ∀ (v629 : BitVec 32) (k0_hw27 : k0_chk27 v629), ∀ a, (k0_off577 v629) a + S1x128.size a ≤ S128x128.size a := fun v629 k0_hw27 => k0_hw27

def k0_off578 (v669 : BitVec 32) (v671 : BitVec 32) : Fin 3 → Nat :=
  let c0_i32_368 : BitVec 32 := 0#32
  let v673 : BitVec 1 := Scalar.cmpi .sgt v671 c0_i32_368
  let v674 : BitVec 32 := Scalar.extui v673
  let c0_i32_369 : BitVec 32 := 0#32
  let v675 : BitVec 1 := Scalar.cmpi .slt v671 c0_i32_369
  let v676 : BitVec 32 := Scalar.extui v675
  let v677 : BitVec 32 := Scalar.subi v674 v676
  let c128_i32_367 : BitVec 32 := 128#32
  let c0_i32_370 : BitVec 32 := 0#32
  let v678 : BitVec 1 := Scalar.cmpi .sgt c128_i32_367 c0_i32_370
  let v679 : BitVec 32 := Scalar.extui v678
  let c0_i32_371 : BitVec 32 := 0#32
  let v680 : BitVec 1 := Scalar.cmpi .slt c128_i32_367 c0_i32_371
  let v681 : BitVec 32 := Scalar.extui v680
  let v682 : BitVec 32 := Scalar.subi v679 v681
  let v683 : BitVec 1 := Scalar.cmpi .ne v677 v682
  let v684 : BitVec 32 := Scalar.remsi v671 c128_i32_367
  let c0_i32_372 : BitVec 32 := 0#32
  let v685 : BitVec 1 := Scalar.cmpi .ne v684 c0_i32_372
  let v686 : BitVec 1 := Scalar.andi v683 v685
  let v672 : BitVec 32 := Scalar.divsi v671 c128_i32_367
  let c1_i32_373 : BitVec 32 := 1#32
  let v687 : BitVec 32 := Scalar.subi v672 c1_i32_373
  let v688 : BitVec 32 := Scalar.select v686 v687 v672
  let v689 : Index := Scalar.indexCast v688
  let c0_i32_364 : BitVec 32 := 0#32
  let v670 : BitVec 32 := Scalar.addi v669 c0_i32_364
  let v690 : Index := Scalar.indexCast v670
  let c0_374 : Index := 0#32
  ![v689.toNat, v690.toNat, 0]

def k0_chk28 (v669 : BitVec 32) (v671 : BitVec 32) : Prop :=
  (∀ a, (k0_off578 v669 v671) a + S1x1x128.size a ≤ S250x128x128.size a)
theorem k0_off578_inb : ∀ (v669 : BitVec 32) (v671 : BitVec 32) (k0_hw28 : k0_chk28 v669 v671), ∀ a, (k0_off578 v669 v671) a + S1x1x128.size a ≤ S250x128x128.size a := fun v669 v671 k0_hw28 => k0_hw28

def k0_off579 (v669 : BitVec 32) : Fin 2 → Nat :=
  let c0_i32_364 : BitVec 32 := 0#32
  let v670 : BitVec 32 := Scalar.addi v669 c0_i32_364
  let v693 : Index := Scalar.indexCast v670
  let c0_375 : Index := 0#32
  ![v693.toNat, 0]

def k0_chk29 (v669 : BitVec 32) : Prop :=
  (∀ a, (k0_off579 v669) a + S1x128.size a ≤ S128x128.size a)
theorem k0_off579_inb : ∀ (v669 : BitVec 32) (k0_hw29 : k0_chk29 v669), ∀ a, (k0_off579 v669) a + S1x128.size a ≤ S128x128.size a := fun v669 k0_hw29 => k0_hw29

def k0_off580 (v709 : BitVec 32) (v711 : BitVec 32) : Fin 3 → Nat :=
  let c0_i32_388 : BitVec 32 := 0#32
  let v713 : BitVec 1 := Scalar.cmpi .sgt v711 c0_i32_388
  let v714 : BitVec 32 := Scalar.extui v713
  let c0_i32_389 : BitVec 32 := 0#32
  let v715 : BitVec 1 := Scalar.cmpi .slt v711 c0_i32_389
  let v716 : BitVec 32 := Scalar.extui v715
  let v717 : BitVec 32 := Scalar.subi v714 v716
  let c128_i32_387 : BitVec 32 := 128#32
  let c0_i32_390 : BitVec 32 := 0#32
  let v718 : BitVec 1 := Scalar.cmpi .sgt c128_i32_387 c0_i32_390
  let v719 : BitVec 32 := Scalar.extui v718
  let c0_i32_391 : BitVec 32 := 0#32
  let v720 : BitVec 1 := Scalar.cmpi .slt c128_i32_387 c0_i32_391
  let v721 : BitVec 32 := Scalar.extui v720
  let v722 : BitVec 32 := Scalar.subi v719 v721
  let v723 : BitVec 1 := Scalar.cmpi .ne v717 v722
  let v724 : BitVec 32 := Scalar.remsi v711 c128_i32_387
  let c0_i32_392 : BitVec 32 := 0#32
  let v725 : BitVec 1 := Scalar.cmpi .ne v724 c0_i32_392
  let v726 : BitVec 1 := Scalar.andi v723 v725
  let v712 : BitVec 32 := Scalar.divsi v711 c128_i32_387
  let c1_i32_393 : BitVec 32 := 1#32
  let v727 : BitVec 32 := Scalar.subi v712 c1_i32_393
  let v728 : BitVec 32 := Scalar.select v726 v727 v712
  let v729 : Index := Scalar.indexCast v728
  let c0_i32_384 : BitVec 32 := 0#32
  let v710 : BitVec 32 := Scalar.addi v709 c0_i32_384
  let v730 : Index := Scalar.indexCast v710
  let c0_394 : Index := 0#32
  ![v729.toNat, v730.toNat, 0]

def k0_chk30 (v709 : BitVec 32) (v711 : BitVec 32) : Prop :=
  (∀ a, (k0_off580 v709 v711) a + S1x1x128.size a ≤ S250x128x128.size a)
theorem k0_off580_inb : ∀ (v709 : BitVec 32) (v711 : BitVec 32) (k0_hw30 : k0_chk30 v709 v711), ∀ a, (k0_off580 v709 v711) a + S1x1x128.size a ≤ S250x128x128.size a := fun v709 v711 k0_hw30 => k0_hw30

def k0_off581 (v709 : BitVec 32) : Fin 2 → Nat :=
  let c0_i32_384 : BitVec 32 := 0#32
  let v710 : BitVec 32 := Scalar.addi v709 c0_i32_384
  let v733 : Index := Scalar.indexCast v710
  let c0_395 : Index := 0#32
  ![v733.toNat, 0]

def k0_chk31 (v709 : BitVec 32) : Prop :=
  (∀ a, (k0_off581 v709) a + S1x128.size a ≤ S128x128.size a)
theorem k0_off581_inb : ∀ (v709 : BitVec 32) (k0_hw31 : k0_chk31 v709), ∀ a, (k0_off581 v709) a + S1x128.size a ≤ S128x128.size a := fun v709 k0_hw31 => k0_hw31

def k0_off582 (v749 : BitVec 32) (v751 : BitVec 32) : Fin 3 → Nat :=
  let c0_i32_408 : BitVec 32 := 0#32
  let v753 : BitVec 1 := Scalar.cmpi .sgt v751 c0_i32_408
  let v754 : BitVec 32 := Scalar.extui v753
  let c0_i32_409 : BitVec 32 := 0#32
  let v755 : BitVec 1 := Scalar.cmpi .slt v751 c0_i32_409
  let v756 : BitVec 32 := Scalar.extui v755
  let v757 : BitVec 32 := Scalar.subi v754 v756
  let c128_i32_407 : BitVec 32 := 128#32
  let c0_i32_410 : BitVec 32 := 0#32
  let v758 : BitVec 1 := Scalar.cmpi .sgt c128_i32_407 c0_i32_410
  let v759 : BitVec 32 := Scalar.extui v758
  let c0_i32_411 : BitVec 32 := 0#32
  let v760 : BitVec 1 := Scalar.cmpi .slt c128_i32_407 c0_i32_411
  let v761 : BitVec 32 := Scalar.extui v760
  let v762 : BitVec 32 := Scalar.subi v759 v761
  let v763 : BitVec 1 := Scalar.cmpi .ne v757 v762
  let v764 : BitVec 32 := Scalar.remsi v751 c128_i32_407
  let c0_i32_412 : BitVec 32 := 0#32
  let v765 : BitVec 1 := Scalar.cmpi .ne v764 c0_i32_412
  let v766 : BitVec 1 := Scalar.andi v763 v765
  let v752 : BitVec 32 := Scalar.divsi v751 c128_i32_407
  let c1_i32_413 : BitVec 32 := 1#32
  let v767 : BitVec 32 := Scalar.subi v752 c1_i32_413
  let v768 : BitVec 32 := Scalar.select v766 v767 v752
  let v769 : Index := Scalar.indexCast v768
  let c0_i32_404 : BitVec 32 := 0#32
  let v750 : BitVec 32 := Scalar.addi v749 c0_i32_404
  let v770 : Index := Scalar.indexCast v750
  let c0_414 : Index := 0#32
  ![v769.toNat, v770.toNat, 0]

def k0_chk32 (v749 : BitVec 32) (v751 : BitVec 32) : Prop :=
  (∀ a, (k0_off582 v749 v751) a + S1x1x128.size a ≤ S250x128x128.size a)
theorem k0_off582_inb : ∀ (v749 : BitVec 32) (v751 : BitVec 32) (k0_hw32 : k0_chk32 v749 v751), ∀ a, (k0_off582 v749 v751) a + S1x1x128.size a ≤ S250x128x128.size a := fun v749 v751 k0_hw32 => k0_hw32

def k0_off583 (v749 : BitVec 32) : Fin 2 → Nat :=
  let c0_i32_404 : BitVec 32 := 0#32
  let v750 : BitVec 32 := Scalar.addi v749 c0_i32_404
  let v773 : Index := Scalar.indexCast v750
  let c0_415 : Index := 0#32
  ![v773.toNat, 0]

def k0_chk33 (v749 : BitVec 32) : Prop :=
  (∀ a, (k0_off583 v749) a + S1x128.size a ≤ S128x128.size a)
theorem k0_off583_inb : ∀ (v749 : BitVec 32) (k0_hw33 : k0_chk33 v749), ∀ a, (k0_off583 v749) a + S1x128.size a ≤ S128x128.size a := fun v749 k0_hw33 => k0_hw33

def k0_off584 (v789 : BitVec 32) (v791 : BitVec 32) : Fin 3 → Nat :=
  let c0_i32_428 : BitVec 32 := 0#32
  let v793 : BitVec 1 := Scalar.cmpi .sgt v791 c0_i32_428
  let v794 : BitVec 32 := Scalar.extui v793
  let c0_i32_429 : BitVec 32 := 0#32
  let v795 : BitVec 1 := Scalar.cmpi .slt v791 c0_i32_429
  let v796 : BitVec 32 := Scalar.extui v795
  let v797 : BitVec 32 := Scalar.subi v794 v796
  let c128_i32_427 : BitVec 32 := 128#32
  let c0_i32_430 : BitVec 32 := 0#32
  let v798 : BitVec 1 := Scalar.cmpi .sgt c128_i32_427 c0_i32_430
  let v799 : BitVec 32 := Scalar.extui v798
  let c0_i32_431 : BitVec 32 := 0#32
  let v800 : BitVec 1 := Scalar.cmpi .slt c128_i32_427 c0_i32_431
  let v801 : BitVec 32 := Scalar.extui v800
  let v802 : BitVec 32 := Scalar.subi v799 v801
  let v803 : BitVec 1 := Scalar.cmpi .ne v797 v802
  let v804 : BitVec 32 := Scalar.remsi v791 c128_i32_427
  let c0_i32_432 : BitVec 32 := 0#32
  let v805 : BitVec 1 := Scalar.cmpi .ne v804 c0_i32_432
  let v806 : BitVec 1 := Scalar.andi v803 v805
  let v792 : BitVec 32 := Scalar.divsi v791 c128_i32_427
  let c1_i32_433 : BitVec 32 := 1#32
  let v807 : BitVec 32 := Scalar.subi v792 c1_i32_433
  let v808 : BitVec 32 := Scalar.select v806 v807 v792
  let v809 : Index := Scalar.indexCast v808
  let c0_i32_424 : BitVec 32 := 0#32
  let v790 : BitVec 32 := Scalar.addi v789 c0_i32_424
  let v810 : Index := Scalar.indexCast v790
  let c0_434 : Index := 0#32
  ![v809.toNat, v810.toNat, 0]

def k0_chk34 (v789 : BitVec 32) (v791 : BitVec 32) : Prop :=
  (∀ a, (k0_off584 v789 v791) a + S1x1x128.size a ≤ S250x128x128.size a)
theorem k0_off584_inb : ∀ (v789 : BitVec 32) (v791 : BitVec 32) (k0_hw34 : k0_chk34 v789 v791), ∀ a, (k0_off584 v789 v791) a + S1x1x128.size a ≤ S250x128x128.size a := fun v789 v791 k0_hw34 => k0_hw34

def k0_off585 (v789 : BitVec 32) : Fin 2 → Nat :=
  let c0_i32_424 : BitVec 32 := 0#32
  let v790 : BitVec 32 := Scalar.addi v789 c0_i32_424
  let v813 : Index := Scalar.indexCast v790
  let c0_435 : Index := 0#32
  ![v813.toNat, 0]

def k0_chk35 (v789 : BitVec 32) : Prop :=
  (∀ a, (k0_off585 v789) a + S1x128.size a ≤ S128x128.size a)
theorem k0_off585_inb : ∀ (v789 : BitVec 32) (k0_hw35 : k0_chk35 v789), ∀ a, (k0_off585 v789) a + S1x128.size a ≤ S128x128.size a := fun v789 k0_hw35 => k0_hw35

def k0_off586 (v829 : BitVec 32) (v831 : BitVec 32) : Fin 3 → Nat :=
  let c0_i32_448 : BitVec 32 := 0#32
  let v833 : BitVec 1 := Scalar.cmpi .sgt v831 c0_i32_448
  let v834 : BitVec 32 := Scalar.extui v833
  let c0_i32_449 : BitVec 32 := 0#32
  let v835 : BitVec 1 := Scalar.cmpi .slt v831 c0_i32_449
  let v836 : BitVec 32 := Scalar.extui v835
  let v837 : BitVec 32 := Scalar.subi v834 v836
  let c128_i32_447 : BitVec 32 := 128#32
  let c0_i32_450 : BitVec 32 := 0#32
  let v838 : BitVec 1 := Scalar.cmpi .sgt c128_i32_447 c0_i32_450
  let v839 : BitVec 32 := Scalar.extui v838
  let c0_i32_451 : BitVec 32 := 0#32
  let v840 : BitVec 1 := Scalar.cmpi .slt c128_i32_447 c0_i32_451
  let v841 : BitVec 32 := Scalar.extui v840
  let v842 : BitVec 32 := Scalar.subi v839 v841
  let v843 : BitVec 1 := Scalar.cmpi .ne v837 v842
  let v844 : BitVec 32 := Scalar.remsi v831 c128_i32_447
  let c0_i32_452 : BitVec 32 := 0#32
  let v845 : BitVec 1 := Scalar.cmpi .ne v844 c0_i32_452
  let v846 : BitVec 1 := Scalar.andi v843 v845
  let v832 : BitVec 32 := Scalar.divsi v831 c128_i32_447
  let c1_i32_453 : BitVec 32 := 1#32
  let v847 : BitVec 32 := Scalar.subi v832 c1_i32_453
  let v848 : BitVec 32 := Scalar.select v846 v847 v832
  let v849 : Index := Scalar.indexCast v848
  let c0_i32_444 : BitVec 32 := 0#32
  let v830 : BitVec 32 := Scalar.addi v829 c0_i32_444
  let v850 : Index := Scalar.indexCast v830
  let c0_454 : Index := 0#32
  ![v849.toNat, v850.toNat, 0]

def k0_chk36 (v829 : BitVec 32) (v831 : BitVec 32) : Prop :=
  (∀ a, (k0_off586 v829 v831) a + S1x1x128.size a ≤ S250x128x128.size a)
theorem k0_off586_inb : ∀ (v829 : BitVec 32) (v831 : BitVec 32) (k0_hw36 : k0_chk36 v829 v831), ∀ a, (k0_off586 v829 v831) a + S1x1x128.size a ≤ S250x128x128.size a := fun v829 v831 k0_hw36 => k0_hw36

def k0_off587 (v829 : BitVec 32) : Fin 2 → Nat :=
  let c0_i32_444 : BitVec 32 := 0#32
  let v830 : BitVec 32 := Scalar.addi v829 c0_i32_444
  let v853 : Index := Scalar.indexCast v830
  let c0_455 : Index := 0#32
  ![v853.toNat, 0]

def k0_chk37 (v829 : BitVec 32) : Prop :=
  (∀ a, (k0_off587 v829) a + S1x128.size a ≤ S128x128.size a)
theorem k0_off587_inb : ∀ (v829 : BitVec 32) (k0_hw37 : k0_chk37 v829), ∀ a, (k0_off587 v829) a + S1x128.size a ≤ S128x128.size a := fun v829 k0_hw37 => k0_hw37

def k0_off588 (v869 : BitVec 32) (v871 : BitVec 32) : Fin 3 → Nat :=
  let c0_i32_468 : BitVec 32 := 0#32
  let v873 : BitVec 1 := Scalar.cmpi .sgt v871 c0_i32_468
  let v874 : BitVec 32 := Scalar.extui v873
  let c0_i32_469 : BitVec 32 := 0#32
  let v875 : BitVec 1 := Scalar.cmpi .slt v871 c0_i32_469
  let v876 : BitVec 32 := Scalar.extui v875
  let v877 : BitVec 32 := Scalar.subi v874 v876
  let c128_i32_467 : BitVec 32 := 128#32
  let c0_i32_470 : BitVec 32 := 0#32
  let v878 : BitVec 1 := Scalar.cmpi .sgt c128_i32_467 c0_i32_470
  let v879 : BitVec 32 := Scalar.extui v878
  let c0_i32_471 : BitVec 32 := 0#32
  let v880 : BitVec 1 := Scalar.cmpi .slt c128_i32_467 c0_i32_471
  let v881 : BitVec 32 := Scalar.extui v880
  let v882 : BitVec 32 := Scalar.subi v879 v881
  let v883 : BitVec 1 := Scalar.cmpi .ne v877 v882
  let v884 : BitVec 32 := Scalar.remsi v871 c128_i32_467
  let c0_i32_472 : BitVec 32 := 0#32
  let v885 : BitVec 1 := Scalar.cmpi .ne v884 c0_i32_472
  let v886 : BitVec 1 := Scalar.andi v883 v885
  let v872 : BitVec 32 := Scalar.divsi v871 c128_i32_467
  let c1_i32_473 : BitVec 32 := 1#32
  let v887 : BitVec 32 := Scalar.subi v872 c1_i32_473
  let v888 : BitVec 32 := Scalar.select v886 v887 v872
  let v889 : Index := Scalar.indexCast v888
  let c0_i32_464 : BitVec 32 := 0#32
  let v870 : BitVec 32 := Scalar.addi v869 c0_i32_464
  let v890 : Index := Scalar.indexCast v870
  let c0_474 : Index := 0#32
  ![v889.toNat, v890.toNat, 0]

def k0_chk38 (v869 : BitVec 32) (v871 : BitVec 32) : Prop :=
  (∀ a, (k0_off588 v869 v871) a + S1x1x128.size a ≤ S250x128x128.size a)
theorem k0_off588_inb : ∀ (v869 : BitVec 32) (v871 : BitVec 32) (k0_hw38 : k0_chk38 v869 v871), ∀ a, (k0_off588 v869 v871) a + S1x1x128.size a ≤ S250x128x128.size a := fun v869 v871 k0_hw38 => k0_hw38

def k0_off589 (v869 : BitVec 32) : Fin 2 → Nat :=
  let c0_i32_464 : BitVec 32 := 0#32
  let v870 : BitVec 32 := Scalar.addi v869 c0_i32_464
  let v893 : Index := Scalar.indexCast v870
  let c0_475 : Index := 0#32
  ![v893.toNat, 0]

def k0_chk39 (v869 : BitVec 32) : Prop :=
  (∀ a, (k0_off589 v869) a + S1x128.size a ≤ S128x128.size a)
theorem k0_off589_inb : ∀ (v869 : BitVec 32) (k0_hw39 : k0_chk39 v869), ∀ a, (k0_off589 v869) a + S1x128.size a ≤ S128x128.size a := fun v869 k0_hw39 => k0_hw39

def k0_off590 (v909 : BitVec 32) (v911 : BitVec 32) : Fin 3 → Nat :=
  let c0_i32_488 : BitVec 32 := 0#32
  let v913 : BitVec 1 := Scalar.cmpi .sgt v911 c0_i32_488
  let v914 : BitVec 32 := Scalar.extui v913
  let c0_i32_489 : BitVec 32 := 0#32
  let v915 : BitVec 1 := Scalar.cmpi .slt v911 c0_i32_489
  let v916 : BitVec 32 := Scalar.extui v915
  let v917 : BitVec 32 := Scalar.subi v914 v916
  let c128_i32_487 : BitVec 32 := 128#32
  let c0_i32_490 : BitVec 32 := 0#32
  let v918 : BitVec 1 := Scalar.cmpi .sgt c128_i32_487 c0_i32_490
  let v919 : BitVec 32 := Scalar.extui v918
  let c0_i32_491 : BitVec 32 := 0#32
  let v920 : BitVec 1 := Scalar.cmpi .slt c128_i32_487 c0_i32_491
  let v921 : BitVec 32 := Scalar.extui v920
  let v922 : BitVec 32 := Scalar.subi v919 v921
  let v923 : BitVec 1 := Scalar.cmpi .ne v917 v922
  let v924 : BitVec 32 := Scalar.remsi v911 c128_i32_487
  let c0_i32_492 : BitVec 32 := 0#32
  let v925 : BitVec 1 := Scalar.cmpi .ne v924 c0_i32_492
  let v926 : BitVec 1 := Scalar.andi v923 v925
  let v912 : BitVec 32 := Scalar.divsi v911 c128_i32_487
  let c1_i32_493 : BitVec 32 := 1#32
  let v927 : BitVec 32 := Scalar.subi v912 c1_i32_493
  let v928 : BitVec 32 := Scalar.select v926 v927 v912
  let v929 : Index := Scalar.indexCast v928
  let c0_i32_484 : BitVec 32 := 0#32
  let v910 : BitVec 32 := Scalar.addi v909 c0_i32_484
  let v930 : Index := Scalar.indexCast v910
  let c0_494 : Index := 0#32
  ![v929.toNat, v930.toNat, 0]

def k0_chk40 (v909 : BitVec 32) (v911 : BitVec 32) : Prop :=
  (∀ a, (k0_off590 v909 v911) a + S1x1x128.size a ≤ S250x128x128.size a)
theorem k0_off590_inb : ∀ (v909 : BitVec 32) (v911 : BitVec 32) (k0_hw40 : k0_chk40 v909 v911), ∀ a, (k0_off590 v909 v911) a + S1x1x128.size a ≤ S250x128x128.size a := fun v909 v911 k0_hw40 => k0_hw40

def k0_off591 (v909 : BitVec 32) : Fin 2 → Nat :=
  let c0_i32_484 : BitVec 32 := 0#32
  let v910 : BitVec 32 := Scalar.addi v909 c0_i32_484
  let v933 : Index := Scalar.indexCast v910
  let c0_495 : Index := 0#32
  ![v933.toNat, 0]

def k0_chk41 (v909 : BitVec 32) : Prop :=
  (∀ a, (k0_off591 v909) a + S1x128.size a ≤ S128x128.size a)
theorem k0_off591_inb : ∀ (v909 : BitVec 32) (k0_hw41 : k0_chk41 v909), ∀ a, (k0_off591 v909) a + S1x128.size a ≤ S128x128.size a := fun v909 k0_hw41 => k0_hw41

def k0_off592 (v949 : BitVec 32) (v951 : BitVec 32) : Fin 3 → Nat :=
  let c0_i32_508 : BitVec 32 := 0#32
  let v953 : BitVec 1 := Scalar.cmpi .sgt v951 c0_i32_508
  let v954 : BitVec 32 := Scalar.extui v953
  let c0_i32_509 : BitVec 32 := 0#32
  let v955 : BitVec 1 := Scalar.cmpi .slt v951 c0_i32_509
  let v956 : BitVec 32 := Scalar.extui v955
  let v957 : BitVec 32 := Scalar.subi v954 v956
  let c128_i32_507 : BitVec 32 := 128#32
  let c0_i32_510 : BitVec 32 := 0#32
  let v958 : BitVec 1 := Scalar.cmpi .sgt c128_i32_507 c0_i32_510
  let v959 : BitVec 32 := Scalar.extui v958
  let c0_i32_511 : BitVec 32 := 0#32
  let v960 : BitVec 1 := Scalar.cmpi .slt c128_i32_507 c0_i32_511
  let v961 : BitVec 32 := Scalar.extui v960
  let v962 : BitVec 32 := Scalar.subi v959 v961
  let v963 : BitVec 1 := Scalar.cmpi .ne v957 v962
  let v964 : BitVec 32 := Scalar.remsi v951 c128_i32_507
  let c0_i32_512 : BitVec 32 := 0#32
  let v965 : BitVec 1 := Scalar.cmpi .ne v964 c0_i32_512
  let v966 : BitVec 1 := Scalar.andi v963 v965
  let v952 : BitVec 32 := Scalar.divsi v951 c128_i32_507
  let c1_i32_513 : BitVec 32 := 1#32
  let v967 : BitVec 32 := Scalar.subi v952 c1_i32_513
  let v968 : BitVec 32 := Scalar.select v966 v967 v952
  let v969 : Index := Scalar.indexCast v968
  let c0_i32_504 : BitVec 32 := 0#32
  let v950 : BitVec 32 := Scalar.addi v949 c0_i32_504
  let v970 : Index := Scalar.indexCast v950
  let c0_514 : Index := 0#32
  ![v969.toNat, v970.toNat, 0]

def k0_chk42 (v949 : BitVec 32) (v951 : BitVec 32) : Prop :=
  (∀ a, (k0_off592 v949 v951) a + S1x1x128.size a ≤ S250x128x128.size a)
theorem k0_off592_inb : ∀ (v949 : BitVec 32) (v951 : BitVec 32) (k0_hw42 : k0_chk42 v949 v951), ∀ a, (k0_off592 v949 v951) a + S1x1x128.size a ≤ S250x128x128.size a := fun v949 v951 k0_hw42 => k0_hw42

def k0_off593 (v949 : BitVec 32) : Fin 2 → Nat :=
  let c0_i32_504 : BitVec 32 := 0#32
  let v950 : BitVec 32 := Scalar.addi v949 c0_i32_504
  let v973 : Index := Scalar.indexCast v950
  let c0_515 : Index := 0#32
  ![v973.toNat, 0]

def k0_chk43 (v949 : BitVec 32) : Prop :=
  (∀ a, (k0_off593 v949) a + S1x128.size a ≤ S128x128.size a)
theorem k0_off593_inb : ∀ (v949 : BitVec 32) (k0_hw43 : k0_chk43 v949), ∀ a, (k0_off593 v949) a + S1x128.size a ≤ S128x128.size a := fun v949 k0_hw43 => k0_hw43

def k0_off594 (v989 : BitVec 32) (v991 : BitVec 32) : Fin 3 → Nat :=
  let c0_i32_528 : BitVec 32 := 0#32
  let v993 : BitVec 1 := Scalar.cmpi .sgt v991 c0_i32_528
  let v994 : BitVec 32 := Scalar.extui v993
  let c0_i32_529 : BitVec 32 := 0#32
  let v995 : BitVec 1 := Scalar.cmpi .slt v991 c0_i32_529
  let v996 : BitVec 32 := Scalar.extui v995
  let v997 : BitVec 32 := Scalar.subi v994 v996
  let c128_i32_527 : BitVec 32 := 128#32
  let c0_i32_530 : BitVec 32 := 0#32
  let v998 : BitVec 1 := Scalar.cmpi .sgt c128_i32_527 c0_i32_530
  let v999 : BitVec 32 := Scalar.extui v998
  let c0_i32_531 : BitVec 32 := 0#32
  let v1000 : BitVec 1 := Scalar.cmpi .slt c128_i32_527 c0_i32_531
  let v1001 : BitVec 32 := Scalar.extui v1000
  let v1002 : BitVec 32 := Scalar.subi v999 v1001
  let v1003 : BitVec 1 := Scalar.cmpi .ne v997 v1002
  let v1004 : BitVec 32 := Scalar.remsi v991 c128_i32_527
  let c0_i32_532 : BitVec 32 := 0#32
  let v1005 : BitVec 1 := Scalar.cmpi .ne v1004 c0_i32_532
  let v1006 : BitVec 1 := Scalar.andi v1003 v1005
  let v992 : BitVec 32 := Scalar.divsi v991 c128_i32_527
  let c1_i32_533 : BitVec 32 := 1#32
  let v1007 : BitVec 32 := Scalar.subi v992 c1_i32_533
  let v1008 : BitVec 32 := Scalar.select v1006 v1007 v992
  let v1009 : Index := Scalar.indexCast v1008
  let c0_i32_524 : BitVec 32 := 0#32
  let v990 : BitVec 32 := Scalar.addi v989 c0_i32_524
  let v1010 : Index := Scalar.indexCast v990
  let c0_534 : Index := 0#32
  ![v1009.toNat, v1010.toNat, 0]

def k0_chk44 (v989 : BitVec 32) (v991 : BitVec 32) : Prop :=
  (∀ a, (k0_off594 v989 v991) a + S1x1x128.size a ≤ S250x128x128.size a)
theorem k0_off594_inb : ∀ (v989 : BitVec 32) (v991 : BitVec 32) (k0_hw44 : k0_chk44 v989 v991), ∀ a, (k0_off594 v989 v991) a + S1x1x128.size a ≤ S250x128x128.size a := fun v989 v991 k0_hw44 => k0_hw44

def k0_off595 (v989 : BitVec 32) : Fin 2 → Nat :=
  let c0_i32_524 : BitVec 32 := 0#32
  let v990 : BitVec 32 := Scalar.addi v989 c0_i32_524
  let v1013 : Index := Scalar.indexCast v990
  let c0_535 : Index := 0#32
  ![v1013.toNat, 0]

def k0_chk45 (v989 : BitVec 32) : Prop :=
  (∀ a, (k0_off595 v989) a + S1x128.size a ≤ S128x128.size a)
theorem k0_off595_inb : ∀ (v989 : BitVec 32) (k0_hw45 : k0_chk45 v989), ∀ a, (k0_off595 v989) a + S1x128.size a ≤ S128x128.size a := fun v989 k0_hw45 => k0_hw45

def k0_off596 (v1029 : BitVec 32) (v1031 : BitVec 32) : Fin 3 → Nat :=
  let c0_i32_548 : BitVec 32 := 0#32
  let v1033 : BitVec 1 := Scalar.cmpi .sgt v1031 c0_i32_548
  let v1034 : BitVec 32 := Scalar.extui v1033
  let c0_i32_549 : BitVec 32 := 0#32
  let v1035 : BitVec 1 := Scalar.cmpi .slt v1031 c0_i32_549
  let v1036 : BitVec 32 := Scalar.extui v1035
  let v1037 : BitVec 32 := Scalar.subi v1034 v1036
  let c128_i32_547 : BitVec 32 := 128#32
  let c0_i32_550 : BitVec 32 := 0#32
  let v1038 : BitVec 1 := Scalar.cmpi .sgt c128_i32_547 c0_i32_550
  let v1039 : BitVec 32 := Scalar.extui v1038
  let c0_i32_551 : BitVec 32 := 0#32
  let v1040 : BitVec 1 := Scalar.cmpi .slt c128_i32_547 c0_i32_551
  let v1041 : BitVec 32 := Scalar.extui v1040
  let v1042 : BitVec 32 := Scalar.subi v1039 v1041
  let v1043 : BitVec 1 := Scalar.cmpi .ne v1037 v1042
  let v1044 : BitVec 32 := Scalar.remsi v1031 c128_i32_547
  let c0_i32_552 : BitVec 32 := 0#32
  let v1045 : BitVec 1 := Scalar.cmpi .ne v1044 c0_i32_552
  let v1046 : BitVec 1 := Scalar.andi v1043 v1045
  let v1032 : BitVec 32 := Scalar.divsi v1031 c128_i32_547
  let c1_i32_553 : BitVec 32 := 1#32
  let v1047 : BitVec 32 := Scalar.subi v1032 c1_i32_553
  let v1048 : BitVec 32 := Scalar.select v1046 v1047 v1032
  let v1049 : Index := Scalar.indexCast v1048
  let c0_i32_544 : BitVec 32 := 0#32
  let v1030 : BitVec 32 := Scalar.addi v1029 c0_i32_544
  let v1050 : Index := Scalar.indexCast v1030
  let c0_554 : Index := 0#32
  ![v1049.toNat, v1050.toNat, 0]

def k0_chk46 (v1029 : BitVec 32) (v1031 : BitVec 32) : Prop :=
  (∀ a, (k0_off596 v1029 v1031) a + S1x1x128.size a ≤ S250x128x128.size a)
theorem k0_off596_inb : ∀ (v1029 : BitVec 32) (v1031 : BitVec 32) (k0_hw46 : k0_chk46 v1029 v1031), ∀ a, (k0_off596 v1029 v1031) a + S1x1x128.size a ≤ S250x128x128.size a := fun v1029 v1031 k0_hw46 => k0_hw46

def k0_off597 (v1029 : BitVec 32) : Fin 2 → Nat :=
  let c0_i32_544 : BitVec 32 := 0#32
  let v1030 : BitVec 32 := Scalar.addi v1029 c0_i32_544
  let v1053 : Index := Scalar.indexCast v1030
  let c0_555 : Index := 0#32
  ![v1053.toNat, 0]

def k0_chk47 (v1029 : BitVec 32) : Prop :=
  (∀ a, (k0_off597 v1029) a + S1x128.size a ≤ S128x128.size a)
theorem k0_off597_inb : ∀ (v1029 : BitVec 32) (k0_hw47 : k0_chk47 v1029), ∀ a, (k0_off597 v1029) a + S1x128.size a ≤ S128x128.size a := fun v1029 k0_hw47 => k0_hw47

def k0_off598 (v1069 : BitVec 32) (v1071 : BitVec 32) : Fin 3 → Nat :=
  let c0_i32_568 : BitVec 32 := 0#32
  let v1073 : BitVec 1 := Scalar.cmpi .sgt v1071 c0_i32_568
  let v1074 : BitVec 32 := Scalar.extui v1073
  let c0_i32_569 : BitVec 32 := 0#32
  let v1075 : BitVec 1 := Scalar.cmpi .slt v1071 c0_i32_569
  let v1076 : BitVec 32 := Scalar.extui v1075
  let v1077 : BitVec 32 := Scalar.subi v1074 v1076
  let c128_i32_567 : BitVec 32 := 128#32
  let c0_i32_570 : BitVec 32 := 0#32
  let v1078 : BitVec 1 := Scalar.cmpi .sgt c128_i32_567 c0_i32_570
  let v1079 : BitVec 32 := Scalar.extui v1078
  let c0_i32_571 : BitVec 32 := 0#32
  let v1080 : BitVec 1 := Scalar.cmpi .slt c128_i32_567 c0_i32_571
  let v1081 : BitVec 32 := Scalar.extui v1080
  let v1082 : BitVec 32 := Scalar.subi v1079 v1081
  let v1083 : BitVec 1 := Scalar.cmpi .ne v1077 v1082
  let v1084 : BitVec 32 := Scalar.remsi v1071 c128_i32_567
  let c0_i32_572 : BitVec 32 := 0#32
  let v1085 : BitVec 1 := Scalar.cmpi .ne v1084 c0_i32_572
  let v1086 : BitVec 1 := Scalar.andi v1083 v1085
  let v1072 : BitVec 32 := Scalar.divsi v1071 c128_i32_567
  let c1_i32_573 : BitVec 32 := 1#32
  let v1087 : BitVec 32 := Scalar.subi v1072 c1_i32_573
  let v1088 : BitVec 32 := Scalar.select v1086 v1087 v1072
  let v1089 : Index := Scalar.indexCast v1088
  let c0_i32_564 : BitVec 32 := 0#32
  let v1070 : BitVec 32 := Scalar.addi v1069 c0_i32_564
  let v1090 : Index := Scalar.indexCast v1070
  let c0_574 : Index := 0#32
  ![v1089.toNat, v1090.toNat, 0]

def k0_chk48 (v1069 : BitVec 32) (v1071 : BitVec 32) : Prop :=
  (∀ a, (k0_off598 v1069 v1071) a + S1x1x128.size a ≤ S250x128x128.size a)
theorem k0_off598_inb : ∀ (v1069 : BitVec 32) (v1071 : BitVec 32) (k0_hw48 : k0_chk48 v1069 v1071), ∀ a, (k0_off598 v1069 v1071) a + S1x1x128.size a ≤ S250x128x128.size a := fun v1069 v1071 k0_hw48 => k0_hw48

def k0_off599 (v1069 : BitVec 32) : Fin 2 → Nat :=
  let c0_i32_564 : BitVec 32 := 0#32
  let v1070 : BitVec 32 := Scalar.addi v1069 c0_i32_564
  let v1093 : Index := Scalar.indexCast v1070
  let c0_575 : Index := 0#32
  ![v1093.toNat, 0]

def k0_chk49 (v1069 : BitVec 32) : Prop :=
  (∀ a, (k0_off599 v1069) a + S1x128.size a ≤ S128x128.size a)
theorem k0_off599_inb : ∀ (v1069 : BitVec 32) (k0_hw49 : k0_chk49 v1069), ∀ a, (k0_off599 v1069) a + S1x128.size a ≤ S128x128.size a := fun v1069 k0_hw49 => k0_hw49

def k0_off600 (v1109 : BitVec 32) (v1111 : BitVec 32) : Fin 3 → Nat :=
  let c0_i32_588 : BitVec 32 := 0#32
  let v1113 : BitVec 1 := Scalar.cmpi .sgt v1111 c0_i32_588
  let v1114 : BitVec 32 := Scalar.extui v1113
  let c0_i32_589 : BitVec 32 := 0#32
  let v1115 : BitVec 1 := Scalar.cmpi .slt v1111 c0_i32_589
  let v1116 : BitVec 32 := Scalar.extui v1115
  let v1117 : BitVec 32 := Scalar.subi v1114 v1116
  let c128_i32_587 : BitVec 32 := 128#32
  let c0_i32_590 : BitVec 32 := 0#32
  let v1118 : BitVec 1 := Scalar.cmpi .sgt c128_i32_587 c0_i32_590
  let v1119 : BitVec 32 := Scalar.extui v1118
  let c0_i32_591 : BitVec 32 := 0#32
  let v1120 : BitVec 1 := Scalar.cmpi .slt c128_i32_587 c0_i32_591
  let v1121 : BitVec 32 := Scalar.extui v1120
  let v1122 : BitVec 32 := Scalar.subi v1119 v1121
  let v1123 : BitVec 1 := Scalar.cmpi .ne v1117 v1122
  let v1124 : BitVec 32 := Scalar.remsi v1111 c128_i32_587
  let c0_i32_592 : BitVec 32 := 0#32
  let v1125 : BitVec 1 := Scalar.cmpi .ne v1124 c0_i32_592
  let v1126 : BitVec 1 := Scalar.andi v1123 v1125
  let v1112 : BitVec 32 := Scalar.divsi v1111 c128_i32_587
  let c1_i32_593 : BitVec 32 := 1#32
  let v1127 : BitVec 32 := Scalar.subi v1112 c1_i32_593
  let v1128 : BitVec 32 := Scalar.select v1126 v1127 v1112
  let v1129 : Index := Scalar.indexCast v1128
  let c0_i32_584 : BitVec 32 := 0#32
  let v1110 : BitVec 32 := Scalar.addi v1109 c0_i32_584
  let v1130 : Index := Scalar.indexCast v1110
  let c0_594 : Index := 0#32
  ![v1129.toNat, v1130.toNat, 0]

def k0_chk50 (v1109 : BitVec 32) (v1111 : BitVec 32) : Prop :=
  (∀ a, (k0_off600 v1109 v1111) a + S1x1x128.size a ≤ S250x128x128.size a)
theorem k0_off600_inb : ∀ (v1109 : BitVec 32) (v1111 : BitVec 32) (k0_hw50 : k0_chk50 v1109 v1111), ∀ a, (k0_off600 v1109 v1111) a + S1x1x128.size a ≤ S250x128x128.size a := fun v1109 v1111 k0_hw50 => k0_hw50

def k0_off601 (v1109 : BitVec 32) : Fin 2 → Nat :=
  let c0_i32_584 : BitVec 32 := 0#32
  let v1110 : BitVec 32 := Scalar.addi v1109 c0_i32_584
  let v1133 : Index := Scalar.indexCast v1110
  let c0_595 : Index := 0#32
  ![v1133.toNat, 0]

def k0_chk51 (v1109 : BitVec 32) : Prop :=
  (∀ a, (k0_off601 v1109) a + S1x128.size a ≤ S128x128.size a)
theorem k0_off601_inb : ∀ (v1109 : BitVec 32) (k0_hw51 : k0_chk51 v1109), ∀ a, (k0_off601 v1109) a + S1x128.size a ≤ S128x128.size a := fun v1109 k0_hw51 => k0_hw51

def k0_off602 (v1149 : BitVec 32) (v1151 : BitVec 32) : Fin 3 → Nat :=
  let c0_i32_608 : BitVec 32 := 0#32
  let v1153 : BitVec 1 := Scalar.cmpi .sgt v1151 c0_i32_608
  let v1154 : BitVec 32 := Scalar.extui v1153
  let c0_i32_609 : BitVec 32 := 0#32
  let v1155 : BitVec 1 := Scalar.cmpi .slt v1151 c0_i32_609
  let v1156 : BitVec 32 := Scalar.extui v1155
  let v1157 : BitVec 32 := Scalar.subi v1154 v1156
  let c128_i32_607 : BitVec 32 := 128#32
  let c0_i32_610 : BitVec 32 := 0#32
  let v1158 : BitVec 1 := Scalar.cmpi .sgt c128_i32_607 c0_i32_610
  let v1159 : BitVec 32 := Scalar.extui v1158
  let c0_i32_611 : BitVec 32 := 0#32
  let v1160 : BitVec 1 := Scalar.cmpi .slt c128_i32_607 c0_i32_611
  let v1161 : BitVec 32 := Scalar.extui v1160
  let v1162 : BitVec 32 := Scalar.subi v1159 v1161
  let v1163 : BitVec 1 := Scalar.cmpi .ne v1157 v1162
  let v1164 : BitVec 32 := Scalar.remsi v1151 c128_i32_607
  let c0_i32_612 : BitVec 32 := 0#32
  let v1165 : BitVec 1 := Scalar.cmpi .ne v1164 c0_i32_612
  let v1166 : BitVec 1 := Scalar.andi v1163 v1165
  let v1152 : BitVec 32 := Scalar.divsi v1151 c128_i32_607
  let c1_i32_613 : BitVec 32 := 1#32
  let v1167 : BitVec 32 := Scalar.subi v1152 c1_i32_613
  let v1168 : BitVec 32 := Scalar.select v1166 v1167 v1152
  let v1169 : Index := Scalar.indexCast v1168
  let c0_i32_604 : BitVec 32 := 0#32
  let v1150 : BitVec 32 := Scalar.addi v1149 c0_i32_604
  let v1170 : Index := Scalar.indexCast v1150
  let c0_614 : Index := 0#32
  ![v1169.toNat, v1170.toNat, 0]

def k0_chk52 (v1149 : BitVec 32) (v1151 : BitVec 32) : Prop :=
  (∀ a, (k0_off602 v1149 v1151) a + S1x1x128.size a ≤ S250x128x128.size a)
theorem k0_off602_inb : ∀ (v1149 : BitVec 32) (v1151 : BitVec 32) (k0_hw52 : k0_chk52 v1149 v1151), ∀ a, (k0_off602 v1149 v1151) a + S1x1x128.size a ≤ S250x128x128.size a := fun v1149 v1151 k0_hw52 => k0_hw52

def k0_off603 (v1149 : BitVec 32) : Fin 2 → Nat :=
  let c0_i32_604 : BitVec 32 := 0#32
  let v1150 : BitVec 32 := Scalar.addi v1149 c0_i32_604
  let v1173 : Index := Scalar.indexCast v1150
  let c0_615 : Index := 0#32
  ![v1173.toNat, 0]

def k0_chk53 (v1149 : BitVec 32) : Prop :=
  (∀ a, (k0_off603 v1149) a + S1x128.size a ≤ S128x128.size a)
theorem k0_off603_inb : ∀ (v1149 : BitVec 32) (k0_hw53 : k0_chk53 v1149), ∀ a, (k0_off603 v1149) a + S1x128.size a ≤ S128x128.size a := fun v1149 k0_hw53 => k0_hw53

def k0_off604 (v1189 : BitVec 32) (v1191 : BitVec 32) : Fin 3 → Nat :=
  let c0_i32_628 : BitVec 32 := 0#32
  let v1193 : BitVec 1 := Scalar.cmpi .sgt v1191 c0_i32_628
  let v1194 : BitVec 32 := Scalar.extui v1193
  let c0_i32_629 : BitVec 32 := 0#32
  let v1195 : BitVec 1 := Scalar.cmpi .slt v1191 c0_i32_629
  let v1196 : BitVec 32 := Scalar.extui v1195
  let v1197 : BitVec 32 := Scalar.subi v1194 v1196
  let c128_i32_627 : BitVec 32 := 128#32
  let c0_i32_630 : BitVec 32 := 0#32
  let v1198 : BitVec 1 := Scalar.cmpi .sgt c128_i32_627 c0_i32_630
  let v1199 : BitVec 32 := Scalar.extui v1198
  let c0_i32_631 : BitVec 32 := 0#32
  let v1200 : BitVec 1 := Scalar.cmpi .slt c128_i32_627 c0_i32_631
  let v1201 : BitVec 32 := Scalar.extui v1200
  let v1202 : BitVec 32 := Scalar.subi v1199 v1201
  let v1203 : BitVec 1 := Scalar.cmpi .ne v1197 v1202
  let v1204 : BitVec 32 := Scalar.remsi v1191 c128_i32_627
  let c0_i32_632 : BitVec 32 := 0#32
  let v1205 : BitVec 1 := Scalar.cmpi .ne v1204 c0_i32_632
  let v1206 : BitVec 1 := Scalar.andi v1203 v1205
  let v1192 : BitVec 32 := Scalar.divsi v1191 c128_i32_627
  let c1_i32_633 : BitVec 32 := 1#32
  let v1207 : BitVec 32 := Scalar.subi v1192 c1_i32_633
  let v1208 : BitVec 32 := Scalar.select v1206 v1207 v1192
  let v1209 : Index := Scalar.indexCast v1208
  let c0_i32_624 : BitVec 32 := 0#32
  let v1190 : BitVec 32 := Scalar.addi v1189 c0_i32_624
  let v1210 : Index := Scalar.indexCast v1190
  let c0_634 : Index := 0#32
  ![v1209.toNat, v1210.toNat, 0]

def k0_chk54 (v1189 : BitVec 32) (v1191 : BitVec 32) : Prop :=
  (∀ a, (k0_off604 v1189 v1191) a + S1x1x128.size a ≤ S250x128x128.size a)
theorem k0_off604_inb : ∀ (v1189 : BitVec 32) (v1191 : BitVec 32) (k0_hw54 : k0_chk54 v1189 v1191), ∀ a, (k0_off604 v1189 v1191) a + S1x1x128.size a ≤ S250x128x128.size a := fun v1189 v1191 k0_hw54 => k0_hw54

def k0_off605 (v1189 : BitVec 32) : Fin 2 → Nat :=
  let c0_i32_624 : BitVec 32 := 0#32
  let v1190 : BitVec 32 := Scalar.addi v1189 c0_i32_624
  let v1213 : Index := Scalar.indexCast v1190
  let c0_635 : Index := 0#32
  ![v1213.toNat, 0]

def k0_chk55 (v1189 : BitVec 32) : Prop :=
  (∀ a, (k0_off605 v1189) a + S1x128.size a ≤ S128x128.size a)
theorem k0_off605_inb : ∀ (v1189 : BitVec 32) (k0_hw55 : k0_chk55 v1189), ∀ a, (k0_off605 v1189) a + S1x128.size a ≤ S128x128.size a := fun v1189 k0_hw55 => k0_hw55

def k0_off606 (v1229 : BitVec 32) (v1231 : BitVec 32) : Fin 3 → Nat :=
  let c0_i32_648 : BitVec 32 := 0#32
  let v1233 : BitVec 1 := Scalar.cmpi .sgt v1231 c0_i32_648
  let v1234 : BitVec 32 := Scalar.extui v1233
  let c0_i32_649 : BitVec 32 := 0#32
  let v1235 : BitVec 1 := Scalar.cmpi .slt v1231 c0_i32_649
  let v1236 : BitVec 32 := Scalar.extui v1235
  let v1237 : BitVec 32 := Scalar.subi v1234 v1236
  let c128_i32_647 : BitVec 32 := 128#32
  let c0_i32_650 : BitVec 32 := 0#32
  let v1238 : BitVec 1 := Scalar.cmpi .sgt c128_i32_647 c0_i32_650
  let v1239 : BitVec 32 := Scalar.extui v1238
  let c0_i32_651 : BitVec 32 := 0#32
  let v1240 : BitVec 1 := Scalar.cmpi .slt c128_i32_647 c0_i32_651
  let v1241 : BitVec 32 := Scalar.extui v1240
  let v1242 : BitVec 32 := Scalar.subi v1239 v1241
  let v1243 : BitVec 1 := Scalar.cmpi .ne v1237 v1242
  let v1244 : BitVec 32 := Scalar.remsi v1231 c128_i32_647
  let c0_i32_652 : BitVec 32 := 0#32
  let v1245 : BitVec 1 := Scalar.cmpi .ne v1244 c0_i32_652
  let v1246 : BitVec 1 := Scalar.andi v1243 v1245
  let v1232 : BitVec 32 := Scalar.divsi v1231 c128_i32_647
  let c1_i32_653 : BitVec 32 := 1#32
  let v1247 : BitVec 32 := Scalar.subi v1232 c1_i32_653
  let v1248 : BitVec 32 := Scalar.select v1246 v1247 v1232
  let v1249 : Index := Scalar.indexCast v1248
  let c0_i32_644 : BitVec 32 := 0#32
  let v1230 : BitVec 32 := Scalar.addi v1229 c0_i32_644
  let v1250 : Index := Scalar.indexCast v1230
  let c0_654 : Index := 0#32
  ![v1249.toNat, v1250.toNat, 0]

def k0_chk56 (v1229 : BitVec 32) (v1231 : BitVec 32) : Prop :=
  (∀ a, (k0_off606 v1229 v1231) a + S1x1x128.size a ≤ S250x128x128.size a)
theorem k0_off606_inb : ∀ (v1229 : BitVec 32) (v1231 : BitVec 32) (k0_hw56 : k0_chk56 v1229 v1231), ∀ a, (k0_off606 v1229 v1231) a + S1x1x128.size a ≤ S250x128x128.size a := fun v1229 v1231 k0_hw56 => k0_hw56

def k0_off607 (v1229 : BitVec 32) : Fin 2 → Nat :=
  let c0_i32_644 : BitVec 32 := 0#32
  let v1230 : BitVec 32 := Scalar.addi v1229 c0_i32_644
  let v1253 : Index := Scalar.indexCast v1230
  let c0_655 : Index := 0#32
  ![v1253.toNat, 0]

def k0_chk57 (v1229 : BitVec 32) : Prop :=
  (∀ a, (k0_off607 v1229) a + S1x128.size a ≤ S128x128.size a)
theorem k0_off607_inb : ∀ (v1229 : BitVec 32) (k0_hw57 : k0_chk57 v1229), ∀ a, (k0_off607 v1229) a + S1x128.size a ≤ S128x128.size a := fun v1229 k0_hw57 => k0_hw57

def k0_off608 (v1269 : BitVec 32) (v1271 : BitVec 32) : Fin 3 → Nat :=
  let c0_i32_668 : BitVec 32 := 0#32
  let v1273 : BitVec 1 := Scalar.cmpi .sgt v1271 c0_i32_668
  let v1274 : BitVec 32 := Scalar.extui v1273
  let c0_i32_669 : BitVec 32 := 0#32
  let v1275 : BitVec 1 := Scalar.cmpi .slt v1271 c0_i32_669
  let v1276 : BitVec 32 := Scalar.extui v1275
  let v1277 : BitVec 32 := Scalar.subi v1274 v1276
  let c128_i32_667 : BitVec 32 := 128#32
  let c0_i32_670 : BitVec 32 := 0#32
  let v1278 : BitVec 1 := Scalar.cmpi .sgt c128_i32_667 c0_i32_670
  let v1279 : BitVec 32 := Scalar.extui v1278
  let c0_i32_671 : BitVec 32 := 0#32
  let v1280 : BitVec 1 := Scalar.cmpi .slt c128_i32_667 c0_i32_671
  let v1281 : BitVec 32 := Scalar.extui v1280
  let v1282 : BitVec 32 := Scalar.subi v1279 v1281
  let v1283 : BitVec 1 := Scalar.cmpi .ne v1277 v1282
  let v1284 : BitVec 32 := Scalar.remsi v1271 c128_i32_667
  let c0_i32_672 : BitVec 32 := 0#32
  let v1285 : BitVec 1 := Scalar.cmpi .ne v1284 c0_i32_672
  let v1286 : BitVec 1 := Scalar.andi v1283 v1285
  let v1272 : BitVec 32 := Scalar.divsi v1271 c128_i32_667
  let c1_i32_673 : BitVec 32 := 1#32
  let v1287 : BitVec 32 := Scalar.subi v1272 c1_i32_673
  let v1288 : BitVec 32 := Scalar.select v1286 v1287 v1272
  let v1289 : Index := Scalar.indexCast v1288
  let c0_i32_664 : BitVec 32 := 0#32
  let v1270 : BitVec 32 := Scalar.addi v1269 c0_i32_664
  let v1290 : Index := Scalar.indexCast v1270
  let c0_674 : Index := 0#32
  ![v1289.toNat, v1290.toNat, 0]

def k0_chk58 (v1269 : BitVec 32) (v1271 : BitVec 32) : Prop :=
  (∀ a, (k0_off608 v1269 v1271) a + S1x1x128.size a ≤ S250x128x128.size a)
theorem k0_off608_inb : ∀ (v1269 : BitVec 32) (v1271 : BitVec 32) (k0_hw58 : k0_chk58 v1269 v1271), ∀ a, (k0_off608 v1269 v1271) a + S1x1x128.size a ≤ S250x128x128.size a := fun v1269 v1271 k0_hw58 => k0_hw58

def k0_off609 (v1269 : BitVec 32) : Fin 2 → Nat :=
  let c0_i32_664 : BitVec 32 := 0#32
  let v1270 : BitVec 32 := Scalar.addi v1269 c0_i32_664
  let v1293 : Index := Scalar.indexCast v1270
  let c0_675 : Index := 0#32
  ![v1293.toNat, 0]

def k0_chk59 (v1269 : BitVec 32) : Prop :=
  (∀ a, (k0_off609 v1269) a + S1x128.size a ≤ S128x128.size a)
theorem k0_off609_inb : ∀ (v1269 : BitVec 32) (k0_hw59 : k0_chk59 v1269), ∀ a, (k0_off609 v1269) a + S1x128.size a ≤ S128x128.size a := fun v1269 k0_hw59 => k0_hw59

def k0_off610 (v1309 : BitVec 32) (v1311 : BitVec 32) : Fin 3 → Nat :=
  let c0_i32_688 : BitVec 32 := 0#32
  let v1313 : BitVec 1 := Scalar.cmpi .sgt v1311 c0_i32_688
  let v1314 : BitVec 32 := Scalar.extui v1313
  let c0_i32_689 : BitVec 32 := 0#32
  let v1315 : BitVec 1 := Scalar.cmpi .slt v1311 c0_i32_689
  let v1316 : BitVec 32 := Scalar.extui v1315
  let v1317 : BitVec 32 := Scalar.subi v1314 v1316
  let c128_i32_687 : BitVec 32 := 128#32
  let c0_i32_690 : BitVec 32 := 0#32
  let v1318 : BitVec 1 := Scalar.cmpi .sgt c128_i32_687 c0_i32_690
  let v1319 : BitVec 32 := Scalar.extui v1318
  let c0_i32_691 : BitVec 32 := 0#32
  let v1320 : BitVec 1 := Scalar.cmpi .slt c128_i32_687 c0_i32_691
  let v1321 : BitVec 32 := Scalar.extui v1320
  let v1322 : BitVec 32 := Scalar.subi v1319 v1321
  let v1323 : BitVec 1 := Scalar.cmpi .ne v1317 v1322
  let v1324 : BitVec 32 := Scalar.remsi v1311 c128_i32_687
  let c0_i32_692 : BitVec 32 := 0#32
  let v1325 : BitVec 1 := Scalar.cmpi .ne v1324 c0_i32_692
  let v1326 : BitVec 1 := Scalar.andi v1323 v1325
  let v1312 : BitVec 32 := Scalar.divsi v1311 c128_i32_687
  let c1_i32_693 : BitVec 32 := 1#32
  let v1327 : BitVec 32 := Scalar.subi v1312 c1_i32_693
  let v1328 : BitVec 32 := Scalar.select v1326 v1327 v1312
  let v1329 : Index := Scalar.indexCast v1328
  let c0_i32_684 : BitVec 32 := 0#32
  let v1310 : BitVec 32 := Scalar.addi v1309 c0_i32_684
  let v1330 : Index := Scalar.indexCast v1310
  let c0_694 : Index := 0#32
  ![v1329.toNat, v1330.toNat, 0]

def k0_chk60 (v1309 : BitVec 32) (v1311 : BitVec 32) : Prop :=
  (∀ a, (k0_off610 v1309 v1311) a + S1x1x128.size a ≤ S250x128x128.size a)
theorem k0_off610_inb : ∀ (v1309 : BitVec 32) (v1311 : BitVec 32) (k0_hw60 : k0_chk60 v1309 v1311), ∀ a, (k0_off610 v1309 v1311) a + S1x1x128.size a ≤ S250x128x128.size a := fun v1309 v1311 k0_hw60 => k0_hw60

def k0_off611 (v1309 : BitVec 32) : Fin 2 → Nat :=
  let c0_i32_684 : BitVec 32 := 0#32
  let v1310 : BitVec 32 := Scalar.addi v1309 c0_i32_684
  let v1333 : Index := Scalar.indexCast v1310
  let c0_695 : Index := 0#32
  ![v1333.toNat, 0]

def k0_chk61 (v1309 : BitVec 32) : Prop :=
  (∀ a, (k0_off611 v1309) a + S1x128.size a ≤ S128x128.size a)
theorem k0_off611_inb : ∀ (v1309 : BitVec 32) (k0_hw61 : k0_chk61 v1309), ∀ a, (k0_off611 v1309) a + S1x128.size a ≤ S128x128.size a := fun v1309 k0_hw61 => k0_hw61

def k0_off612 (v1349 : BitVec 32) (v1351 : BitVec 32) : Fin 3 → Nat :=
  let c0_i32_708 : BitVec 32 := 0#32
  let v1353 : BitVec 1 := Scalar.cmpi .sgt v1351 c0_i32_708
  let v1354 : BitVec 32 := Scalar.extui v1353
  let c0_i32_709 : BitVec 32 := 0#32
  let v1355 : BitVec 1 := Scalar.cmpi .slt v1351 c0_i32_709
  let v1356 : BitVec 32 := Scalar.extui v1355
  let v1357 : BitVec 32 := Scalar.subi v1354 v1356
  let c128_i32_707 : BitVec 32 := 128#32
  let c0_i32_710 : BitVec 32 := 0#32
  let v1358 : BitVec 1 := Scalar.cmpi .sgt c128_i32_707 c0_i32_710
  let v1359 : BitVec 32 := Scalar.extui v1358
  let c0_i32_711 : BitVec 32 := 0#32
  let v1360 : BitVec 1 := Scalar.cmpi .slt c128_i32_707 c0_i32_711
  let v1361 : BitVec 32 := Scalar.extui v1360
  let v1362 : BitVec 32 := Scalar.subi v1359 v1361
  let v1363 : BitVec 1 := Scalar.cmpi .ne v1357 v1362
  let v1364 : BitVec 32 := Scalar.remsi v1351 c128_i32_707
  let c0_i32_712 : BitVec 32 := 0#32
  let v1365 : BitVec 1 := Scalar.cmpi .ne v1364 c0_i32_712
  let v1366 : BitVec 1 := Scalar.andi v1363 v1365
  let v1352 : BitVec 32 := Scalar.divsi v1351 c128_i32_707
  let c1_i32_713 : BitVec 32 := 1#32
  let v1367 : BitVec 32 := Scalar.subi v1352 c1_i32_713
  let v1368 : BitVec 32 := Scalar.select v1366 v1367 v1352
  let v1369 : Index := Scalar.indexCast v1368
  let c0_i32_704 : BitVec 32 := 0#32
  let v1350 : BitVec 32 := Scalar.addi v1349 c0_i32_704
  let v1370 : Index := Scalar.indexCast v1350
  let c0_714 : Index := 0#32
  ![v1369.toNat, v1370.toNat, 0]

def k0_chk62 (v1349 : BitVec 32) (v1351 : BitVec 32) : Prop :=
  (∀ a, (k0_off612 v1349 v1351) a + S1x1x128.size a ≤ S250x128x128.size a)
theorem k0_off612_inb : ∀ (v1349 : BitVec 32) (v1351 : BitVec 32) (k0_hw62 : k0_chk62 v1349 v1351), ∀ a, (k0_off612 v1349 v1351) a + S1x1x128.size a ≤ S250x128x128.size a := fun v1349 v1351 k0_hw62 => k0_hw62

def k0_off613 (v1349 : BitVec 32) : Fin 2 → Nat :=
  let c0_i32_704 : BitVec 32 := 0#32
  let v1350 : BitVec 32 := Scalar.addi v1349 c0_i32_704
  let v1373 : Index := Scalar.indexCast v1350
  let c0_715 : Index := 0#32
  ![v1373.toNat, 0]

def k0_chk63 (v1349 : BitVec 32) : Prop :=
  (∀ a, (k0_off613 v1349) a + S1x128.size a ≤ S128x128.size a)
theorem k0_off613_inb : ∀ (v1349 : BitVec 32) (k0_hw63 : k0_chk63 v1349), ∀ a, (k0_off613 v1349) a + S1x128.size a ≤ S128x128.size a := fun v1349 k0_hw63 => k0_hw63

def k0_off614 (v1389 : BitVec 32) (v1391 : BitVec 32) : Fin 3 → Nat :=
  let c0_i32_728 : BitVec 32 := 0#32
  let v1393 : BitVec 1 := Scalar.cmpi .sgt v1391 c0_i32_728
  let v1394 : BitVec 32 := Scalar.extui v1393
  let c0_i32_729 : BitVec 32 := 0#32
  let v1395 : BitVec 1 := Scalar.cmpi .slt v1391 c0_i32_729
  let v1396 : BitVec 32 := Scalar.extui v1395
  let v1397 : BitVec 32 := Scalar.subi v1394 v1396
  let c128_i32_727 : BitVec 32 := 128#32
  let c0_i32_730 : BitVec 32 := 0#32
  let v1398 : BitVec 1 := Scalar.cmpi .sgt c128_i32_727 c0_i32_730
  let v1399 : BitVec 32 := Scalar.extui v1398
  let c0_i32_731 : BitVec 32 := 0#32
  let v1400 : BitVec 1 := Scalar.cmpi .slt c128_i32_727 c0_i32_731
  let v1401 : BitVec 32 := Scalar.extui v1400
  let v1402 : BitVec 32 := Scalar.subi v1399 v1401
  let v1403 : BitVec 1 := Scalar.cmpi .ne v1397 v1402
  let v1404 : BitVec 32 := Scalar.remsi v1391 c128_i32_727
  let c0_i32_732 : BitVec 32 := 0#32
  let v1405 : BitVec 1 := Scalar.cmpi .ne v1404 c0_i32_732
  let v1406 : BitVec 1 := Scalar.andi v1403 v1405
  let v1392 : BitVec 32 := Scalar.divsi v1391 c128_i32_727
  let c1_i32_733 : BitVec 32 := 1#32
  let v1407 : BitVec 32 := Scalar.subi v1392 c1_i32_733
  let v1408 : BitVec 32 := Scalar.select v1406 v1407 v1392
  let v1409 : Index := Scalar.indexCast v1408
  let c0_i32_724 : BitVec 32 := 0#32
  let v1390 : BitVec 32 := Scalar.addi v1389 c0_i32_724
  let v1410 : Index := Scalar.indexCast v1390
  let c0_734 : Index := 0#32
  ![v1409.toNat, v1410.toNat, 0]

def k0_chk64 (v1389 : BitVec 32) (v1391 : BitVec 32) : Prop :=
  (∀ a, (k0_off614 v1389 v1391) a + S1x1x128.size a ≤ S250x128x128.size a)
theorem k0_off614_inb : ∀ (v1389 : BitVec 32) (v1391 : BitVec 32) (k0_hw64 : k0_chk64 v1389 v1391), ∀ a, (k0_off614 v1389 v1391) a + S1x1x128.size a ≤ S250x128x128.size a := fun v1389 v1391 k0_hw64 => k0_hw64

def k0_off615 (v1389 : BitVec 32) : Fin 2 → Nat :=
  let c0_i32_724 : BitVec 32 := 0#32
  let v1390 : BitVec 32 := Scalar.addi v1389 c0_i32_724
  let v1413 : Index := Scalar.indexCast v1390
  let c0_735 : Index := 0#32
  ![v1413.toNat, 0]

def k0_chk65 (v1389 : BitVec 32) : Prop :=
  (∀ a, (k0_off615 v1389) a + S1x128.size a ≤ S128x128.size a)
theorem k0_off615_inb : ∀ (v1389 : BitVec 32) (k0_hw65 : k0_chk65 v1389), ∀ a, (k0_off615 v1389) a + S1x128.size a ≤ S128x128.size a := fun v1389 k0_hw65 => k0_hw65

def k0_off616 (v1429 : BitVec 32) (v1431 : BitVec 32) : Fin 3 → Nat :=
  let c0_i32_748 : BitVec 32 := 0#32
  let v1433 : BitVec 1 := Scalar.cmpi .sgt v1431 c0_i32_748
  let v1434 : BitVec 32 := Scalar.extui v1433
  let c0_i32_749 : BitVec 32 := 0#32
  let v1435 : BitVec 1 := Scalar.cmpi .slt v1431 c0_i32_749
  let v1436 : BitVec 32 := Scalar.extui v1435
  let v1437 : BitVec 32 := Scalar.subi v1434 v1436
  let c128_i32_747 : BitVec 32 := 128#32
  let c0_i32_750 : BitVec 32 := 0#32
  let v1438 : BitVec 1 := Scalar.cmpi .sgt c128_i32_747 c0_i32_750
  let v1439 : BitVec 32 := Scalar.extui v1438
  let c0_i32_751 : BitVec 32 := 0#32
  let v1440 : BitVec 1 := Scalar.cmpi .slt c128_i32_747 c0_i32_751
  let v1441 : BitVec 32 := Scalar.extui v1440
  let v1442 : BitVec 32 := Scalar.subi v1439 v1441
  let v1443 : BitVec 1 := Scalar.cmpi .ne v1437 v1442
  let v1444 : BitVec 32 := Scalar.remsi v1431 c128_i32_747
  let c0_i32_752 : BitVec 32 := 0#32
  let v1445 : BitVec 1 := Scalar.cmpi .ne v1444 c0_i32_752
  let v1446 : BitVec 1 := Scalar.andi v1443 v1445
  let v1432 : BitVec 32 := Scalar.divsi v1431 c128_i32_747
  let c1_i32_753 : BitVec 32 := 1#32
  let v1447 : BitVec 32 := Scalar.subi v1432 c1_i32_753
  let v1448 : BitVec 32 := Scalar.select v1446 v1447 v1432
  let v1449 : Index := Scalar.indexCast v1448
  let c0_i32_744 : BitVec 32 := 0#32
  let v1430 : BitVec 32 := Scalar.addi v1429 c0_i32_744
  let v1450 : Index := Scalar.indexCast v1430
  let c0_754 : Index := 0#32
  ![v1449.toNat, v1450.toNat, 0]

def k0_chk66 (v1429 : BitVec 32) (v1431 : BitVec 32) : Prop :=
  (∀ a, (k0_off616 v1429 v1431) a + S1x1x128.size a ≤ S250x128x128.size a)
theorem k0_off616_inb : ∀ (v1429 : BitVec 32) (v1431 : BitVec 32) (k0_hw66 : k0_chk66 v1429 v1431), ∀ a, (k0_off616 v1429 v1431) a + S1x1x128.size a ≤ S250x128x128.size a := fun v1429 v1431 k0_hw66 => k0_hw66

def k0_off617 (v1429 : BitVec 32) : Fin 2 → Nat :=
  let c0_i32_744 : BitVec 32 := 0#32
  let v1430 : BitVec 32 := Scalar.addi v1429 c0_i32_744
  let v1453 : Index := Scalar.indexCast v1430
  let c0_755 : Index := 0#32
  ![v1453.toNat, 0]

def k0_chk67 (v1429 : BitVec 32) : Prop :=
  (∀ a, (k0_off617 v1429) a + S1x128.size a ≤ S128x128.size a)
theorem k0_off617_inb : ∀ (v1429 : BitVec 32) (k0_hw67 : k0_chk67 v1429), ∀ a, (k0_off617 v1429) a + S1x128.size a ≤ S128x128.size a := fun v1429 k0_hw67 => k0_hw67

def k0_off618 (v1469 : BitVec 32) (v1471 : BitVec 32) : Fin 3 → Nat :=
  let c0_i32_768 : BitVec 32 := 0#32
  let v1473 : BitVec 1 := Scalar.cmpi .sgt v1471 c0_i32_768
  let v1474 : BitVec 32 := Scalar.extui v1473
  let c0_i32_769 : BitVec 32 := 0#32
  let v1475 : BitVec 1 := Scalar.cmpi .slt v1471 c0_i32_769
  let v1476 : BitVec 32 := Scalar.extui v1475
  let v1477 : BitVec 32 := Scalar.subi v1474 v1476
  let c128_i32_767 : BitVec 32 := 128#32
  let c0_i32_770 : BitVec 32 := 0#32
  let v1478 : BitVec 1 := Scalar.cmpi .sgt c128_i32_767 c0_i32_770
  let v1479 : BitVec 32 := Scalar.extui v1478
  let c0_i32_771 : BitVec 32 := 0#32
  let v1480 : BitVec 1 := Scalar.cmpi .slt c128_i32_767 c0_i32_771
  let v1481 : BitVec 32 := Scalar.extui v1480
  let v1482 : BitVec 32 := Scalar.subi v1479 v1481
  let v1483 : BitVec 1 := Scalar.cmpi .ne v1477 v1482
  let v1484 : BitVec 32 := Scalar.remsi v1471 c128_i32_767
  let c0_i32_772 : BitVec 32 := 0#32
  let v1485 : BitVec 1 := Scalar.cmpi .ne v1484 c0_i32_772
  let v1486 : BitVec 1 := Scalar.andi v1483 v1485
  let v1472 : BitVec 32 := Scalar.divsi v1471 c128_i32_767
  let c1_i32_773 : BitVec 32 := 1#32
  let v1487 : BitVec 32 := Scalar.subi v1472 c1_i32_773
  let v1488 : BitVec 32 := Scalar.select v1486 v1487 v1472
  let v1489 : Index := Scalar.indexCast v1488
  let c0_i32_764 : BitVec 32 := 0#32
  let v1470 : BitVec 32 := Scalar.addi v1469 c0_i32_764
  let v1490 : Index := Scalar.indexCast v1470
  let c0_774 : Index := 0#32
  ![v1489.toNat, v1490.toNat, 0]

def k0_chk68 (v1469 : BitVec 32) (v1471 : BitVec 32) : Prop :=
  (∀ a, (k0_off618 v1469 v1471) a + S1x1x128.size a ≤ S250x128x128.size a)
theorem k0_off618_inb : ∀ (v1469 : BitVec 32) (v1471 : BitVec 32) (k0_hw68 : k0_chk68 v1469 v1471), ∀ a, (k0_off618 v1469 v1471) a + S1x1x128.size a ≤ S250x128x128.size a := fun v1469 v1471 k0_hw68 => k0_hw68

def k0_off619 (v1469 : BitVec 32) : Fin 2 → Nat :=
  let c0_i32_764 : BitVec 32 := 0#32
  let v1470 : BitVec 32 := Scalar.addi v1469 c0_i32_764
  let v1493 : Index := Scalar.indexCast v1470
  let c0_775 : Index := 0#32
  ![v1493.toNat, 0]

def k0_chk69 (v1469 : BitVec 32) : Prop :=
  (∀ a, (k0_off619 v1469) a + S1x128.size a ≤ S128x128.size a)
theorem k0_off619_inb : ∀ (v1469 : BitVec 32) (k0_hw69 : k0_chk69 v1469), ∀ a, (k0_off619 v1469) a + S1x128.size a ≤ S128x128.size a := fun v1469 k0_hw69 => k0_hw69

def k0_off620 (v1509 : BitVec 32) (v1511 : BitVec 32) : Fin 3 → Nat :=
  let c0_i32_788 : BitVec 32 := 0#32
  let v1513 : BitVec 1 := Scalar.cmpi .sgt v1511 c0_i32_788
  let v1514 : BitVec 32 := Scalar.extui v1513
  let c0_i32_789 : BitVec 32 := 0#32
  let v1515 : BitVec 1 := Scalar.cmpi .slt v1511 c0_i32_789
  let v1516 : BitVec 32 := Scalar.extui v1515
  let v1517 : BitVec 32 := Scalar.subi v1514 v1516
  let c128_i32_787 : BitVec 32 := 128#32
  let c0_i32_790 : BitVec 32 := 0#32
  let v1518 : BitVec 1 := Scalar.cmpi .sgt c128_i32_787 c0_i32_790
  let v1519 : BitVec 32 := Scalar.extui v1518
  let c0_i32_791 : BitVec 32 := 0#32
  let v1520 : BitVec 1 := Scalar.cmpi .slt c128_i32_787 c0_i32_791
  let v1521 : BitVec 32 := Scalar.extui v1520
  let v1522 : BitVec 32 := Scalar.subi v1519 v1521
  let v1523 : BitVec 1 := Scalar.cmpi .ne v1517 v1522
  let v1524 : BitVec 32 := Scalar.remsi v1511 c128_i32_787
  let c0_i32_792 : BitVec 32 := 0#32
  let v1525 : BitVec 1 := Scalar.cmpi .ne v1524 c0_i32_792
  let v1526 : BitVec 1 := Scalar.andi v1523 v1525
  let v1512 : BitVec 32 := Scalar.divsi v1511 c128_i32_787
  let c1_i32_793 : BitVec 32 := 1#32
  let v1527 : BitVec 32 := Scalar.subi v1512 c1_i32_793
  let v1528 : BitVec 32 := Scalar.select v1526 v1527 v1512
  let v1529 : Index := Scalar.indexCast v1528
  let c0_i32_784 : BitVec 32 := 0#32
  let v1510 : BitVec 32 := Scalar.addi v1509 c0_i32_784
  let v1530 : Index := Scalar.indexCast v1510
  let c0_794 : Index := 0#32
  ![v1529.toNat, v1530.toNat, 0]

def k0_chk70 (v1509 : BitVec 32) (v1511 : BitVec 32) : Prop :=
  (∀ a, (k0_off620 v1509 v1511) a + S1x1x128.size a ≤ S250x128x128.size a)
theorem k0_off620_inb : ∀ (v1509 : BitVec 32) (v1511 : BitVec 32) (k0_hw70 : k0_chk70 v1509 v1511), ∀ a, (k0_off620 v1509 v1511) a + S1x1x128.size a ≤ S250x128x128.size a := fun v1509 v1511 k0_hw70 => k0_hw70

def k0_off621 (v1509 : BitVec 32) : Fin 2 → Nat :=
  let c0_i32_784 : BitVec 32 := 0#32
  let v1510 : BitVec 32 := Scalar.addi v1509 c0_i32_784
  let v1533 : Index := Scalar.indexCast v1510
  let c0_795 : Index := 0#32
  ![v1533.toNat, 0]

def k0_chk71 (v1509 : BitVec 32) : Prop :=
  (∀ a, (k0_off621 v1509) a + S1x128.size a ≤ S128x128.size a)
theorem k0_off621_inb : ∀ (v1509 : BitVec 32) (k0_hw71 : k0_chk71 v1509), ∀ a, (k0_off621 v1509) a + S1x128.size a ≤ S128x128.size a := fun v1509 k0_hw71 => k0_hw71

def k0_off622 (v1549 : BitVec 32) (v1551 : BitVec 32) : Fin 3 → Nat :=
  let c0_i32_808 : BitVec 32 := 0#32
  let v1553 : BitVec 1 := Scalar.cmpi .sgt v1551 c0_i32_808
  let v1554 : BitVec 32 := Scalar.extui v1553
  let c0_i32_809 : BitVec 32 := 0#32
  let v1555 : BitVec 1 := Scalar.cmpi .slt v1551 c0_i32_809
  let v1556 : BitVec 32 := Scalar.extui v1555
  let v1557 : BitVec 32 := Scalar.subi v1554 v1556
  let c128_i32_807 : BitVec 32 := 128#32
  let c0_i32_810 : BitVec 32 := 0#32
  let v1558 : BitVec 1 := Scalar.cmpi .sgt c128_i32_807 c0_i32_810
  let v1559 : BitVec 32 := Scalar.extui v1558
  let c0_i32_811 : BitVec 32 := 0#32
  let v1560 : BitVec 1 := Scalar.cmpi .slt c128_i32_807 c0_i32_811
  let v1561 : BitVec 32 := Scalar.extui v1560
  let v1562 : BitVec 32 := Scalar.subi v1559 v1561
  let v1563 : BitVec 1 := Scalar.cmpi .ne v1557 v1562
  let v1564 : BitVec 32 := Scalar.remsi v1551 c128_i32_807
  let c0_i32_812 : BitVec 32 := 0#32
  let v1565 : BitVec 1 := Scalar.cmpi .ne v1564 c0_i32_812
  let v1566 : BitVec 1 := Scalar.andi v1563 v1565
  let v1552 : BitVec 32 := Scalar.divsi v1551 c128_i32_807
  let c1_i32_813 : BitVec 32 := 1#32
  let v1567 : BitVec 32 := Scalar.subi v1552 c1_i32_813
  let v1568 : BitVec 32 := Scalar.select v1566 v1567 v1552
  let v1569 : Index := Scalar.indexCast v1568
  let c0_i32_804 : BitVec 32 := 0#32
  let v1550 : BitVec 32 := Scalar.addi v1549 c0_i32_804
  let v1570 : Index := Scalar.indexCast v1550
  let c0_814 : Index := 0#32
  ![v1569.toNat, v1570.toNat, 0]

def k0_chk72 (v1549 : BitVec 32) (v1551 : BitVec 32) : Prop :=
  (∀ a, (k0_off622 v1549 v1551) a + S1x1x128.size a ≤ S250x128x128.size a)
theorem k0_off622_inb : ∀ (v1549 : BitVec 32) (v1551 : BitVec 32) (k0_hw72 : k0_chk72 v1549 v1551), ∀ a, (k0_off622 v1549 v1551) a + S1x1x128.size a ≤ S250x128x128.size a := fun v1549 v1551 k0_hw72 => k0_hw72

def k0_off623 (v1549 : BitVec 32) : Fin 2 → Nat :=
  let c0_i32_804 : BitVec 32 := 0#32
  let v1550 : BitVec 32 := Scalar.addi v1549 c0_i32_804
  let v1573 : Index := Scalar.indexCast v1550
  let c0_815 : Index := 0#32
  ![v1573.toNat, 0]

def k0_chk73 (v1549 : BitVec 32) : Prop :=
  (∀ a, (k0_off623 v1549) a + S1x128.size a ≤ S128x128.size a)
theorem k0_off623_inb : ∀ (v1549 : BitVec 32) (k0_hw73 : k0_chk73 v1549), ∀ a, (k0_off623 v1549) a + S1x128.size a ≤ S128x128.size a := fun v1549 k0_hw73 => k0_hw73

def k0_off624 (v1589 : BitVec 32) (v1591 : BitVec 32) : Fin 3 → Nat :=
  let c0_i32_828 : BitVec 32 := 0#32
  let v1593 : BitVec 1 := Scalar.cmpi .sgt v1591 c0_i32_828
  let v1594 : BitVec 32 := Scalar.extui v1593
  let c0_i32_829 : BitVec 32 := 0#32
  let v1595 : BitVec 1 := Scalar.cmpi .slt v1591 c0_i32_829
  let v1596 : BitVec 32 := Scalar.extui v1595
  let v1597 : BitVec 32 := Scalar.subi v1594 v1596
  let c128_i32_827 : BitVec 32 := 128#32
  let c0_i32_830 : BitVec 32 := 0#32
  let v1598 : BitVec 1 := Scalar.cmpi .sgt c128_i32_827 c0_i32_830
  let v1599 : BitVec 32 := Scalar.extui v1598
  let c0_i32_831 : BitVec 32 := 0#32
  let v1600 : BitVec 1 := Scalar.cmpi .slt c128_i32_827 c0_i32_831
  let v1601 : BitVec 32 := Scalar.extui v1600
  let v1602 : BitVec 32 := Scalar.subi v1599 v1601
  let v1603 : BitVec 1 := Scalar.cmpi .ne v1597 v1602
  let v1604 : BitVec 32 := Scalar.remsi v1591 c128_i32_827
  let c0_i32_832 : BitVec 32 := 0#32
  let v1605 : BitVec 1 := Scalar.cmpi .ne v1604 c0_i32_832
  let v1606 : BitVec 1 := Scalar.andi v1603 v1605
  let v1592 : BitVec 32 := Scalar.divsi v1591 c128_i32_827
  let c1_i32_833 : BitVec 32 := 1#32
  let v1607 : BitVec 32 := Scalar.subi v1592 c1_i32_833
  let v1608 : BitVec 32 := Scalar.select v1606 v1607 v1592
  let v1609 : Index := Scalar.indexCast v1608
  let c0_i32_824 : BitVec 32 := 0#32
  let v1590 : BitVec 32 := Scalar.addi v1589 c0_i32_824
  let v1610 : Index := Scalar.indexCast v1590
  let c0_834 : Index := 0#32
  ![v1609.toNat, v1610.toNat, 0]

def k0_chk74 (v1589 : BitVec 32) (v1591 : BitVec 32) : Prop :=
  (∀ a, (k0_off624 v1589 v1591) a + S1x1x128.size a ≤ S250x128x128.size a)
theorem k0_off624_inb : ∀ (v1589 : BitVec 32) (v1591 : BitVec 32) (k0_hw74 : k0_chk74 v1589 v1591), ∀ a, (k0_off624 v1589 v1591) a + S1x1x128.size a ≤ S250x128x128.size a := fun v1589 v1591 k0_hw74 => k0_hw74

def k0_off625 (v1589 : BitVec 32) : Fin 2 → Nat :=
  let c0_i32_824 : BitVec 32 := 0#32
  let v1590 : BitVec 32 := Scalar.addi v1589 c0_i32_824
  let v1613 : Index := Scalar.indexCast v1590
  let c0_835 : Index := 0#32
  ![v1613.toNat, 0]

def k0_chk75 (v1589 : BitVec 32) : Prop :=
  (∀ a, (k0_off625 v1589) a + S1x128.size a ≤ S128x128.size a)
theorem k0_off625_inb : ∀ (v1589 : BitVec 32) (k0_hw75 : k0_chk75 v1589), ∀ a, (k0_off625 v1589) a + S1x128.size a ≤ S128x128.size a := fun v1589 k0_hw75 => k0_hw75

def k0_off626 (v1629 : BitVec 32) (v1631 : BitVec 32) : Fin 3 → Nat :=
  let c0_i32_848 : BitVec 32 := 0#32
  let v1633 : BitVec 1 := Scalar.cmpi .sgt v1631 c0_i32_848
  let v1634 : BitVec 32 := Scalar.extui v1633
  let c0_i32_849 : BitVec 32 := 0#32
  let v1635 : BitVec 1 := Scalar.cmpi .slt v1631 c0_i32_849
  let v1636 : BitVec 32 := Scalar.extui v1635
  let v1637 : BitVec 32 := Scalar.subi v1634 v1636
  let c128_i32_847 : BitVec 32 := 128#32
  let c0_i32_850 : BitVec 32 := 0#32
  let v1638 : BitVec 1 := Scalar.cmpi .sgt c128_i32_847 c0_i32_850
  let v1639 : BitVec 32 := Scalar.extui v1638
  let c0_i32_851 : BitVec 32 := 0#32
  let v1640 : BitVec 1 := Scalar.cmpi .slt c128_i32_847 c0_i32_851
  let v1641 : BitVec 32 := Scalar.extui v1640
  let v1642 : BitVec 32 := Scalar.subi v1639 v1641
  let v1643 : BitVec 1 := Scalar.cmpi .ne v1637 v1642
  let v1644 : BitVec 32 := Scalar.remsi v1631 c128_i32_847
  let c0_i32_852 : BitVec 32 := 0#32
  let v1645 : BitVec 1 := Scalar.cmpi .ne v1644 c0_i32_852
  let v1646 : BitVec 1 := Scalar.andi v1643 v1645
  let v1632 : BitVec 32 := Scalar.divsi v1631 c128_i32_847
  let c1_i32_853 : BitVec 32 := 1#32
  let v1647 : BitVec 32 := Scalar.subi v1632 c1_i32_853
  let v1648 : BitVec 32 := Scalar.select v1646 v1647 v1632
  let v1649 : Index := Scalar.indexCast v1648
  let c0_i32_844 : BitVec 32 := 0#32
  let v1630 : BitVec 32 := Scalar.addi v1629 c0_i32_844
  let v1650 : Index := Scalar.indexCast v1630
  let c0_854 : Index := 0#32
  ![v1649.toNat, v1650.toNat, 0]

def k0_chk76 (v1629 : BitVec 32) (v1631 : BitVec 32) : Prop :=
  (∀ a, (k0_off626 v1629 v1631) a + S1x1x128.size a ≤ S250x128x128.size a)
theorem k0_off626_inb : ∀ (v1629 : BitVec 32) (v1631 : BitVec 32) (k0_hw76 : k0_chk76 v1629 v1631), ∀ a, (k0_off626 v1629 v1631) a + S1x1x128.size a ≤ S250x128x128.size a := fun v1629 v1631 k0_hw76 => k0_hw76

def k0_off627 (v1629 : BitVec 32) : Fin 2 → Nat :=
  let c0_i32_844 : BitVec 32 := 0#32
  let v1630 : BitVec 32 := Scalar.addi v1629 c0_i32_844
  let v1653 : Index := Scalar.indexCast v1630
  let c0_855 : Index := 0#32
  ![v1653.toNat, 0]

def k0_chk77 (v1629 : BitVec 32) : Prop :=
  (∀ a, (k0_off627 v1629) a + S1x128.size a ≤ S128x128.size a)
theorem k0_off627_inb : ∀ (v1629 : BitVec 32) (k0_hw77 : k0_chk77 v1629), ∀ a, (k0_off627 v1629) a + S1x128.size a ≤ S128x128.size a := fun v1629 k0_hw77 => k0_hw77

def k0_off628 (v1669 : BitVec 32) (v1671 : BitVec 32) : Fin 3 → Nat :=
  let c0_i32_868 : BitVec 32 := 0#32
  let v1673 : BitVec 1 := Scalar.cmpi .sgt v1671 c0_i32_868
  let v1674 : BitVec 32 := Scalar.extui v1673
  let c0_i32_869 : BitVec 32 := 0#32
  let v1675 : BitVec 1 := Scalar.cmpi .slt v1671 c0_i32_869
  let v1676 : BitVec 32 := Scalar.extui v1675
  let v1677 : BitVec 32 := Scalar.subi v1674 v1676
  let c128_i32_867 : BitVec 32 := 128#32
  let c0_i32_870 : BitVec 32 := 0#32
  let v1678 : BitVec 1 := Scalar.cmpi .sgt c128_i32_867 c0_i32_870
  let v1679 : BitVec 32 := Scalar.extui v1678
  let c0_i32_871 : BitVec 32 := 0#32
  let v1680 : BitVec 1 := Scalar.cmpi .slt c128_i32_867 c0_i32_871
  let v1681 : BitVec 32 := Scalar.extui v1680
  let v1682 : BitVec 32 := Scalar.subi v1679 v1681
  let v1683 : BitVec 1 := Scalar.cmpi .ne v1677 v1682
  let v1684 : BitVec 32 := Scalar.remsi v1671 c128_i32_867
  let c0_i32_872 : BitVec 32 := 0#32
  let v1685 : BitVec 1 := Scalar.cmpi .ne v1684 c0_i32_872
  let v1686 : BitVec 1 := Scalar.andi v1683 v1685
  let v1672 : BitVec 32 := Scalar.divsi v1671 c128_i32_867
  let c1_i32_873 : BitVec 32 := 1#32
  let v1687 : BitVec 32 := Scalar.subi v1672 c1_i32_873
  let v1688 : BitVec 32 := Scalar.select v1686 v1687 v1672
  let v1689 : Index := Scalar.indexCast v1688
  let c0_i32_864 : BitVec 32 := 0#32
  let v1670 : BitVec 32 := Scalar.addi v1669 c0_i32_864
  let v1690 : Index := Scalar.indexCast v1670
  let c0_874 : Index := 0#32
  ![v1689.toNat, v1690.toNat, 0]

def k0_chk78 (v1669 : BitVec 32) (v1671 : BitVec 32) : Prop :=
  (∀ a, (k0_off628 v1669 v1671) a + S1x1x128.size a ≤ S250x128x128.size a)
theorem k0_off628_inb : ∀ (v1669 : BitVec 32) (v1671 : BitVec 32) (k0_hw78 : k0_chk78 v1669 v1671), ∀ a, (k0_off628 v1669 v1671) a + S1x1x128.size a ≤ S250x128x128.size a := fun v1669 v1671 k0_hw78 => k0_hw78

def k0_off629 (v1669 : BitVec 32) : Fin 2 → Nat :=
  let c0_i32_864 : BitVec 32 := 0#32
  let v1670 : BitVec 32 := Scalar.addi v1669 c0_i32_864
  let v1693 : Index := Scalar.indexCast v1670
  let c0_875 : Index := 0#32
  ![v1693.toNat, 0]

def k0_chk79 (v1669 : BitVec 32) : Prop :=
  (∀ a, (k0_off629 v1669) a + S1x128.size a ≤ S128x128.size a)
theorem k0_off629_inb : ∀ (v1669 : BitVec 32) (k0_hw79 : k0_chk79 v1669), ∀ a, (k0_off629 v1669) a + S1x128.size a ≤ S128x128.size a := fun v1669 k0_hw79 => k0_hw79

def k0_off630 (v1709 : BitVec 32) (v1711 : BitVec 32) : Fin 3 → Nat :=
  let c0_i32_888 : BitVec 32 := 0#32
  let v1713 : BitVec 1 := Scalar.cmpi .sgt v1711 c0_i32_888
  let v1714 : BitVec 32 := Scalar.extui v1713
  let c0_i32_889 : BitVec 32 := 0#32
  let v1715 : BitVec 1 := Scalar.cmpi .slt v1711 c0_i32_889
  let v1716 : BitVec 32 := Scalar.extui v1715
  let v1717 : BitVec 32 := Scalar.subi v1714 v1716
  let c128_i32_887 : BitVec 32 := 128#32
  let c0_i32_890 : BitVec 32 := 0#32
  let v1718 : BitVec 1 := Scalar.cmpi .sgt c128_i32_887 c0_i32_890
  let v1719 : BitVec 32 := Scalar.extui v1718
  let c0_i32_891 : BitVec 32 := 0#32
  let v1720 : BitVec 1 := Scalar.cmpi .slt c128_i32_887 c0_i32_891
  let v1721 : BitVec 32 := Scalar.extui v1720
  let v1722 : BitVec 32 := Scalar.subi v1719 v1721
  let v1723 : BitVec 1 := Scalar.cmpi .ne v1717 v1722
  let v1724 : BitVec 32 := Scalar.remsi v1711 c128_i32_887
  let c0_i32_892 : BitVec 32 := 0#32
  let v1725 : BitVec 1 := Scalar.cmpi .ne v1724 c0_i32_892
  let v1726 : BitVec 1 := Scalar.andi v1723 v1725
  let v1712 : BitVec 32 := Scalar.divsi v1711 c128_i32_887
  let c1_i32_893 : BitVec 32 := 1#32
  let v1727 : BitVec 32 := Scalar.subi v1712 c1_i32_893
  let v1728 : BitVec 32 := Scalar.select v1726 v1727 v1712
  let v1729 : Index := Scalar.indexCast v1728
  let c0_i32_884 : BitVec 32 := 0#32
  let v1710 : BitVec 32 := Scalar.addi v1709 c0_i32_884
  let v1730 : Index := Scalar.indexCast v1710
  let c0_894 : Index := 0#32
  ![v1729.toNat, v1730.toNat, 0]

def k0_chk80 (v1709 : BitVec 32) (v1711 : BitVec 32) : Prop :=
  (∀ a, (k0_off630 v1709 v1711) a + S1x1x128.size a ≤ S250x128x128.size a)
theorem k0_off630_inb : ∀ (v1709 : BitVec 32) (v1711 : BitVec 32) (k0_hw80 : k0_chk80 v1709 v1711), ∀ a, (k0_off630 v1709 v1711) a + S1x1x128.size a ≤ S250x128x128.size a := fun v1709 v1711 k0_hw80 => k0_hw80

def k0_off631 (v1709 : BitVec 32) : Fin 2 → Nat :=
  let c0_i32_884 : BitVec 32 := 0#32
  let v1710 : BitVec 32 := Scalar.addi v1709 c0_i32_884
  let v1733 : Index := Scalar.indexCast v1710
  let c0_895 : Index := 0#32
  ![v1733.toNat, 0]

def k0_chk81 (v1709 : BitVec 32) : Prop :=
  (∀ a, (k0_off631 v1709) a + S1x128.size a ≤ S128x128.size a)
theorem k0_off631_inb : ∀ (v1709 : BitVec 32) (k0_hw81 : k0_chk81 v1709), ∀ a, (k0_off631 v1709) a + S1x128.size a ≤ S128x128.size a := fun v1709 k0_hw81 => k0_hw81

def k0_off632 (v1749 : BitVec 32) (v1751 : BitVec 32) : Fin 3 → Nat :=
  let c0_i32_908 : BitVec 32 := 0#32
  let v1753 : BitVec 1 := Scalar.cmpi .sgt v1751 c0_i32_908
  let v1754 : BitVec 32 := Scalar.extui v1753
  let c0_i32_909 : BitVec 32 := 0#32
  let v1755 : BitVec 1 := Scalar.cmpi .slt v1751 c0_i32_909
  let v1756 : BitVec 32 := Scalar.extui v1755
  let v1757 : BitVec 32 := Scalar.subi v1754 v1756
  let c128_i32_907 : BitVec 32 := 128#32
  let c0_i32_910 : BitVec 32 := 0#32
  let v1758 : BitVec 1 := Scalar.cmpi .sgt c128_i32_907 c0_i32_910
  let v1759 : BitVec 32 := Scalar.extui v1758
  let c0_i32_911 : BitVec 32 := 0#32
  let v1760 : BitVec 1 := Scalar.cmpi .slt c128_i32_907 c0_i32_911
  let v1761 : BitVec 32 := Scalar.extui v1760
  let v1762 : BitVec 32 := Scalar.subi v1759 v1761
  let v1763 : BitVec 1 := Scalar.cmpi .ne v1757 v1762
  let v1764 : BitVec 32 := Scalar.remsi v1751 c128_i32_907
  let c0_i32_912 : BitVec 32 := 0#32
  let v1765 : BitVec 1 := Scalar.cmpi .ne v1764 c0_i32_912
  let v1766 : BitVec 1 := Scalar.andi v1763 v1765
  let v1752 : BitVec 32 := Scalar.divsi v1751 c128_i32_907
  let c1_i32_913 : BitVec 32 := 1#32
  let v1767 : BitVec 32 := Scalar.subi v1752 c1_i32_913
  let v1768 : BitVec 32 := Scalar.select v1766 v1767 v1752
  let v1769 : Index := Scalar.indexCast v1768
  let c0_i32_904 : BitVec 32 := 0#32
  let v1750 : BitVec 32 := Scalar.addi v1749 c0_i32_904
  let v1770 : Index := Scalar.indexCast v1750
  let c0_914 : Index := 0#32
  ![v1769.toNat, v1770.toNat, 0]

def k0_chk82 (v1749 : BitVec 32) (v1751 : BitVec 32) : Prop :=
  (∀ a, (k0_off632 v1749 v1751) a + S1x1x128.size a ≤ S250x128x128.size a)
theorem k0_off632_inb : ∀ (v1749 : BitVec 32) (v1751 : BitVec 32) (k0_hw82 : k0_chk82 v1749 v1751), ∀ a, (k0_off632 v1749 v1751) a + S1x1x128.size a ≤ S250x128x128.size a := fun v1749 v1751 k0_hw82 => k0_hw82

def k0_off633 (v1749 : BitVec 32) : Fin 2 → Nat :=
  let c0_i32_904 : BitVec 32 := 0#32
  let v1750 : BitVec 32 := Scalar.addi v1749 c0_i32_904
  let v1773 : Index := Scalar.indexCast v1750
  let c0_915 : Index := 0#32
  ![v1773.toNat, 0]

def k0_chk83 (v1749 : BitVec 32) : Prop :=
  (∀ a, (k0_off633 v1749) a + S1x128.size a ≤ S128x128.size a)
theorem k0_off633_inb : ∀ (v1749 : BitVec 32) (k0_hw83 : k0_chk83 v1749), ∀ a, (k0_off633 v1749) a + S1x128.size a ≤ S128x128.size a := fun v1749 k0_hw83 => k0_hw83

def k0_off634 (v1789 : BitVec 32) (v1791 : BitVec 32) : Fin 3 → Nat :=
  let c0_i32_928 : BitVec 32 := 0#32
  let v1793 : BitVec 1 := Scalar.cmpi .sgt v1791 c0_i32_928
  let v1794 : BitVec 32 := Scalar.extui v1793
  let c0_i32_929 : BitVec 32 := 0#32
  let v1795 : BitVec 1 := Scalar.cmpi .slt v1791 c0_i32_929
  let v1796 : BitVec 32 := Scalar.extui v1795
  let v1797 : BitVec 32 := Scalar.subi v1794 v1796
  let c128_i32_927 : BitVec 32 := 128#32
  let c0_i32_930 : BitVec 32 := 0#32
  let v1798 : BitVec 1 := Scalar.cmpi .sgt c128_i32_927 c0_i32_930
  let v1799 : BitVec 32 := Scalar.extui v1798
  let c0_i32_931 : BitVec 32 := 0#32
  let v1800 : BitVec 1 := Scalar.cmpi .slt c128_i32_927 c0_i32_931
  let v1801 : BitVec 32 := Scalar.extui v1800
  let v1802 : BitVec 32 := Scalar.subi v1799 v1801
  let v1803 : BitVec 1 := Scalar.cmpi .ne v1797 v1802
  let v1804 : BitVec 32 := Scalar.remsi v1791 c128_i32_927
  let c0_i32_932 : BitVec 32 := 0#32
  let v1805 : BitVec 1 := Scalar.cmpi .ne v1804 c0_i32_932
  let v1806 : BitVec 1 := Scalar.andi v1803 v1805
  let v1792 : BitVec 32 := Scalar.divsi v1791 c128_i32_927
  let c1_i32_933 : BitVec 32 := 1#32
  let v1807 : BitVec 32 := Scalar.subi v1792 c1_i32_933
  let v1808 : BitVec 32 := Scalar.select v1806 v1807 v1792
  let v1809 : Index := Scalar.indexCast v1808
  let c0_i32_924 : BitVec 32 := 0#32
  let v1790 : BitVec 32 := Scalar.addi v1789 c0_i32_924
  let v1810 : Index := Scalar.indexCast v1790
  let c0_934 : Index := 0#32
  ![v1809.toNat, v1810.toNat, 0]

def k0_chk84 (v1789 : BitVec 32) (v1791 : BitVec 32) : Prop :=
  (∀ a, (k0_off634 v1789 v1791) a + S1x1x128.size a ≤ S250x128x128.size a)
theorem k0_off634_inb : ∀ (v1789 : BitVec 32) (v1791 : BitVec 32) (k0_hw84 : k0_chk84 v1789 v1791), ∀ a, (k0_off634 v1789 v1791) a + S1x1x128.size a ≤ S250x128x128.size a := fun v1789 v1791 k0_hw84 => k0_hw84

def k0_off635 (v1789 : BitVec 32) : Fin 2 → Nat :=
  let c0_i32_924 : BitVec 32 := 0#32
  let v1790 : BitVec 32 := Scalar.addi v1789 c0_i32_924
  let v1813 : Index := Scalar.indexCast v1790
  let c0_935 : Index := 0#32
  ![v1813.toNat, 0]

def k0_chk85 (v1789 : BitVec 32) : Prop :=
  (∀ a, (k0_off635 v1789) a + S1x128.size a ≤ S128x128.size a)
theorem k0_off635_inb : ∀ (v1789 : BitVec 32) (k0_hw85 : k0_chk85 v1789), ∀ a, (k0_off635 v1789) a + S1x128.size a ≤ S128x128.size a := fun v1789 k0_hw85 => k0_hw85

def k0_off636 (v1829 : BitVec 32) (v1831 : BitVec 32) : Fin 3 → Nat :=
  let c0_i32_948 : BitVec 32 := 0#32
  let v1833 : BitVec 1 := Scalar.cmpi .sgt v1831 c0_i32_948
  let v1834 : BitVec 32 := Scalar.extui v1833
  let c0_i32_949 : BitVec 32 := 0#32
  let v1835 : BitVec 1 := Scalar.cmpi .slt v1831 c0_i32_949
  let v1836 : BitVec 32 := Scalar.extui v1835
  let v1837 : BitVec 32 := Scalar.subi v1834 v1836
  let c128_i32_947 : BitVec 32 := 128#32
  let c0_i32_950 : BitVec 32 := 0#32
  let v1838 : BitVec 1 := Scalar.cmpi .sgt c128_i32_947 c0_i32_950
  let v1839 : BitVec 32 := Scalar.extui v1838
  let c0_i32_951 : BitVec 32 := 0#32
  let v1840 : BitVec 1 := Scalar.cmpi .slt c128_i32_947 c0_i32_951
  let v1841 : BitVec 32 := Scalar.extui v1840
  let v1842 : BitVec 32 := Scalar.subi v1839 v1841
  let v1843 : BitVec 1 := Scalar.cmpi .ne v1837 v1842
  let v1844 : BitVec 32 := Scalar.remsi v1831 c128_i32_947
  let c0_i32_952 : BitVec 32 := 0#32
  let v1845 : BitVec 1 := Scalar.cmpi .ne v1844 c0_i32_952
  let v1846 : BitVec 1 := Scalar.andi v1843 v1845
  let v1832 : BitVec 32 := Scalar.divsi v1831 c128_i32_947
  let c1_i32_953 : BitVec 32 := 1#32
  let v1847 : BitVec 32 := Scalar.subi v1832 c1_i32_953
  let v1848 : BitVec 32 := Scalar.select v1846 v1847 v1832
  let v1849 : Index := Scalar.indexCast v1848
  let c0_i32_944 : BitVec 32 := 0#32
  let v1830 : BitVec 32 := Scalar.addi v1829 c0_i32_944
  let v1850 : Index := Scalar.indexCast v1830
  let c0_954 : Index := 0#32
  ![v1849.toNat, v1850.toNat, 0]

def k0_chk86 (v1829 : BitVec 32) (v1831 : BitVec 32) : Prop :=
  (∀ a, (k0_off636 v1829 v1831) a + S1x1x128.size a ≤ S250x128x128.size a)
theorem k0_off636_inb : ∀ (v1829 : BitVec 32) (v1831 : BitVec 32) (k0_hw86 : k0_chk86 v1829 v1831), ∀ a, (k0_off636 v1829 v1831) a + S1x1x128.size a ≤ S250x128x128.size a := fun v1829 v1831 k0_hw86 => k0_hw86

def k0_off637 (v1829 : BitVec 32) : Fin 2 → Nat :=
  let c0_i32_944 : BitVec 32 := 0#32
  let v1830 : BitVec 32 := Scalar.addi v1829 c0_i32_944
  let v1853 : Index := Scalar.indexCast v1830
  let c0_955 : Index := 0#32
  ![v1853.toNat, 0]

def k0_chk87 (v1829 : BitVec 32) : Prop :=
  (∀ a, (k0_off637 v1829) a + S1x128.size a ≤ S128x128.size a)
theorem k0_off637_inb : ∀ (v1829 : BitVec 32) (k0_hw87 : k0_chk87 v1829), ∀ a, (k0_off637 v1829) a + S1x128.size a ≤ S128x128.size a := fun v1829 k0_hw87 => k0_hw87

def k0_off638 (v1869 : BitVec 32) (v1871 : BitVec 32) : Fin 3 → Nat :=
  let c0_i32_968 : BitVec 32 := 0#32
  let v1873 : BitVec 1 := Scalar.cmpi .sgt v1871 c0_i32_968
  let v1874 : BitVec 32 := Scalar.extui v1873
  let c0_i32_969 : BitVec 32 := 0#32
  let v1875 : BitVec 1 := Scalar.cmpi .slt v1871 c0_i32_969
  let v1876 : BitVec 32 := Scalar.extui v1875
  let v1877 : BitVec 32 := Scalar.subi v1874 v1876
  let c128_i32_967 : BitVec 32 := 128#32
  let c0_i32_970 : BitVec 32 := 0#32
  let v1878 : BitVec 1 := Scalar.cmpi .sgt c128_i32_967 c0_i32_970
  let v1879 : BitVec 32 := Scalar.extui v1878
  let c0_i32_971 : BitVec 32 := 0#32
  let v1880 : BitVec 1 := Scalar.cmpi .slt c128_i32_967 c0_i32_971
  let v1881 : BitVec 32 := Scalar.extui v1880
  let v1882 : BitVec 32 := Scalar.subi v1879 v1881
  let v1883 : BitVec 1 := Scalar.cmpi .ne v1877 v1882
  let v1884 : BitVec 32 := Scalar.remsi v1871 c128_i32_967
  let c0_i32_972 : BitVec 32 := 0#32
  let v1885 : BitVec 1 := Scalar.cmpi .ne v1884 c0_i32_972
  let v1886 : BitVec 1 := Scalar.andi v1883 v1885
  let v1872 : BitVec 32 := Scalar.divsi v1871 c128_i32_967
  let c1_i32_973 : BitVec 32 := 1#32
  let v1887 : BitVec 32 := Scalar.subi v1872 c1_i32_973
  let v1888 : BitVec 32 := Scalar.select v1886 v1887 v1872
  let v1889 : Index := Scalar.indexCast v1888
  let c42_i32 : BitVec 32 := 42#32
  let v1870 : BitVec 32 := Scalar.addi v1869 c42_i32
  let v1890 : Index := Scalar.indexCast v1870
  let c0_974 : Index := 0#32
  ![v1889.toNat, v1890.toNat, 0]

def k0_chk88 (v1869 : BitVec 32) (v1871 : BitVec 32) : Prop :=
  (∀ a, (k0_off638 v1869 v1871) a + S1x1x128.size a ≤ S250x128x128.size a)
theorem k0_off638_inb : ∀ (v1869 : BitVec 32) (v1871 : BitVec 32) (k0_hw88 : k0_chk88 v1869 v1871), ∀ a, (k0_off638 v1869 v1871) a + S1x1x128.size a ≤ S250x128x128.size a := fun v1869 v1871 k0_hw88 => k0_hw88

def k0_off639 (v1869 : BitVec 32) : Fin 2 → Nat :=
  let c42_i32 : BitVec 32 := 42#32
  let v1870 : BitVec 32 := Scalar.addi v1869 c42_i32
  let v1893 : Index := Scalar.indexCast v1870
  let c0_975 : Index := 0#32
  ![v1893.toNat, 0]

def k0_chk89 (v1869 : BitVec 32) : Prop :=
  (∀ a, (k0_off639 v1869) a + S1x128.size a ≤ S128x128.size a)
theorem k0_off639_inb : ∀ (v1869 : BitVec 32) (k0_hw89 : k0_chk89 v1869), ∀ a, (k0_off639 v1869) a + S1x128.size a ≤ S128x128.size a := fun v1869 k0_hw89 => k0_hw89

def k0_off640 (v1909 : BitVec 32) (v1911 : BitVec 32) : Fin 3 → Nat :=
  let c0_i32_988 : BitVec 32 := 0#32
  let v1913 : BitVec 1 := Scalar.cmpi .sgt v1911 c0_i32_988
  let v1914 : BitVec 32 := Scalar.extui v1913
  let c0_i32_989 : BitVec 32 := 0#32
  let v1915 : BitVec 1 := Scalar.cmpi .slt v1911 c0_i32_989
  let v1916 : BitVec 32 := Scalar.extui v1915
  let v1917 : BitVec 32 := Scalar.subi v1914 v1916
  let c128_i32_987 : BitVec 32 := 128#32
  let c0_i32_990 : BitVec 32 := 0#32
  let v1918 : BitVec 1 := Scalar.cmpi .sgt c128_i32_987 c0_i32_990
  let v1919 : BitVec 32 := Scalar.extui v1918
  let c0_i32_991 : BitVec 32 := 0#32
  let v1920 : BitVec 1 := Scalar.cmpi .slt c128_i32_987 c0_i32_991
  let v1921 : BitVec 32 := Scalar.extui v1920
  let v1922 : BitVec 32 := Scalar.subi v1919 v1921
  let v1923 : BitVec 1 := Scalar.cmpi .ne v1917 v1922
  let v1924 : BitVec 32 := Scalar.remsi v1911 c128_i32_987
  let c0_i32_992 : BitVec 32 := 0#32
  let v1925 : BitVec 1 := Scalar.cmpi .ne v1924 c0_i32_992
  let v1926 : BitVec 1 := Scalar.andi v1923 v1925
  let v1912 : BitVec 32 := Scalar.divsi v1911 c128_i32_987
  let c1_i32_993 : BitVec 32 := 1#32
  let v1927 : BitVec 32 := Scalar.subi v1912 c1_i32_993
  let v1928 : BitVec 32 := Scalar.select v1926 v1927 v1912
  let v1929 : Index := Scalar.indexCast v1928
  let c42_i32_984 : BitVec 32 := 42#32
  let v1910 : BitVec 32 := Scalar.addi v1909 c42_i32_984
  let v1930 : Index := Scalar.indexCast v1910
  let c0_994 : Index := 0#32
  ![v1929.toNat, v1930.toNat, 0]

def k0_chk90 (v1909 : BitVec 32) (v1911 : BitVec 32) : Prop :=
  (∀ a, (k0_off640 v1909 v1911) a + S1x1x128.size a ≤ S250x128x128.size a)
theorem k0_off640_inb : ∀ (v1909 : BitVec 32) (v1911 : BitVec 32) (k0_hw90 : k0_chk90 v1909 v1911), ∀ a, (k0_off640 v1909 v1911) a + S1x1x128.size a ≤ S250x128x128.size a := fun v1909 v1911 k0_hw90 => k0_hw90

def k0_off641 (v1909 : BitVec 32) : Fin 2 → Nat :=
  let c42_i32_984 : BitVec 32 := 42#32
  let v1910 : BitVec 32 := Scalar.addi v1909 c42_i32_984
  let v1933 : Index := Scalar.indexCast v1910
  let c0_995 : Index := 0#32
  ![v1933.toNat, 0]

def k0_chk91 (v1909 : BitVec 32) : Prop :=
  (∀ a, (k0_off641 v1909) a + S1x128.size a ≤ S128x128.size a)
theorem k0_off641_inb : ∀ (v1909 : BitVec 32) (k0_hw91 : k0_chk91 v1909), ∀ a, (k0_off641 v1909) a + S1x128.size a ≤ S128x128.size a := fun v1909 k0_hw91 => k0_hw91

def k0_off642 (v1949 : BitVec 32) (v1951 : BitVec 32) : Fin 3 → Nat :=
  let c0_i32_1008 : BitVec 32 := 0#32
  let v1953 : BitVec 1 := Scalar.cmpi .sgt v1951 c0_i32_1008
  let v1954 : BitVec 32 := Scalar.extui v1953
  let c0_i32_1009 : BitVec 32 := 0#32
  let v1955 : BitVec 1 := Scalar.cmpi .slt v1951 c0_i32_1009
  let v1956 : BitVec 32 := Scalar.extui v1955
  let v1957 : BitVec 32 := Scalar.subi v1954 v1956
  let c128_i32_1007 : BitVec 32 := 128#32
  let c0_i32_1010 : BitVec 32 := 0#32
  let v1958 : BitVec 1 := Scalar.cmpi .sgt c128_i32_1007 c0_i32_1010
  let v1959 : BitVec 32 := Scalar.extui v1958
  let c0_i32_1011 : BitVec 32 := 0#32
  let v1960 : BitVec 1 := Scalar.cmpi .slt c128_i32_1007 c0_i32_1011
  let v1961 : BitVec 32 := Scalar.extui v1960
  let v1962 : BitVec 32 := Scalar.subi v1959 v1961
  let v1963 : BitVec 1 := Scalar.cmpi .ne v1957 v1962
  let v1964 : BitVec 32 := Scalar.remsi v1951 c128_i32_1007
  let c0_i32_1012 : BitVec 32 := 0#32
  let v1965 : BitVec 1 := Scalar.cmpi .ne v1964 c0_i32_1012
  let v1966 : BitVec 1 := Scalar.andi v1963 v1965
  let v1952 : BitVec 32 := Scalar.divsi v1951 c128_i32_1007
  let c1_i32_1013 : BitVec 32 := 1#32
  let v1967 : BitVec 32 := Scalar.subi v1952 c1_i32_1013
  let v1968 : BitVec 32 := Scalar.select v1966 v1967 v1952
  let v1969 : Index := Scalar.indexCast v1968
  let c42_i32_1004 : BitVec 32 := 42#32
  let v1950 : BitVec 32 := Scalar.addi v1949 c42_i32_1004
  let v1970 : Index := Scalar.indexCast v1950
  let c0_1014 : Index := 0#32
  ![v1969.toNat, v1970.toNat, 0]

def k0_chk92 (v1949 : BitVec 32) (v1951 : BitVec 32) : Prop :=
  (∀ a, (k0_off642 v1949 v1951) a + S1x1x128.size a ≤ S250x128x128.size a)
theorem k0_off642_inb : ∀ (v1949 : BitVec 32) (v1951 : BitVec 32) (k0_hw92 : k0_chk92 v1949 v1951), ∀ a, (k0_off642 v1949 v1951) a + S1x1x128.size a ≤ S250x128x128.size a := fun v1949 v1951 k0_hw92 => k0_hw92

def k0_off643 (v1949 : BitVec 32) : Fin 2 → Nat :=
  let c42_i32_1004 : BitVec 32 := 42#32
  let v1950 : BitVec 32 := Scalar.addi v1949 c42_i32_1004
  let v1973 : Index := Scalar.indexCast v1950
  let c0_1015 : Index := 0#32
  ![v1973.toNat, 0]

def k0_chk93 (v1949 : BitVec 32) : Prop :=
  (∀ a, (k0_off643 v1949) a + S1x128.size a ≤ S128x128.size a)
theorem k0_off643_inb : ∀ (v1949 : BitVec 32) (k0_hw93 : k0_chk93 v1949), ∀ a, (k0_off643 v1949) a + S1x128.size a ≤ S128x128.size a := fun v1949 k0_hw93 => k0_hw93

def k0_off644 (v1989 : BitVec 32) (v1991 : BitVec 32) : Fin 3 → Nat :=
  let c0_i32_1028 : BitVec 32 := 0#32
  let v1993 : BitVec 1 := Scalar.cmpi .sgt v1991 c0_i32_1028
  let v1994 : BitVec 32 := Scalar.extui v1993
  let c0_i32_1029 : BitVec 32 := 0#32
  let v1995 : BitVec 1 := Scalar.cmpi .slt v1991 c0_i32_1029
  let v1996 : BitVec 32 := Scalar.extui v1995
  let v1997 : BitVec 32 := Scalar.subi v1994 v1996
  let c128_i32_1027 : BitVec 32 := 128#32
  let c0_i32_1030 : BitVec 32 := 0#32
  let v1998 : BitVec 1 := Scalar.cmpi .sgt c128_i32_1027 c0_i32_1030
  let v1999 : BitVec 32 := Scalar.extui v1998
  let c0_i32_1031 : BitVec 32 := 0#32
  let v2000 : BitVec 1 := Scalar.cmpi .slt c128_i32_1027 c0_i32_1031
  let v2001 : BitVec 32 := Scalar.extui v2000
  let v2002 : BitVec 32 := Scalar.subi v1999 v2001
  let v2003 : BitVec 1 := Scalar.cmpi .ne v1997 v2002
  let v2004 : BitVec 32 := Scalar.remsi v1991 c128_i32_1027
  let c0_i32_1032 : BitVec 32 := 0#32
  let v2005 : BitVec 1 := Scalar.cmpi .ne v2004 c0_i32_1032
  let v2006 : BitVec 1 := Scalar.andi v2003 v2005
  let v1992 : BitVec 32 := Scalar.divsi v1991 c128_i32_1027
  let c1_i32_1033 : BitVec 32 := 1#32
  let v2007 : BitVec 32 := Scalar.subi v1992 c1_i32_1033
  let v2008 : BitVec 32 := Scalar.select v2006 v2007 v1992
  let v2009 : Index := Scalar.indexCast v2008
  let c42_i32_1024 : BitVec 32 := 42#32
  let v1990 : BitVec 32 := Scalar.addi v1989 c42_i32_1024
  let v2010 : Index := Scalar.indexCast v1990
  let c0_1034 : Index := 0#32
  ![v2009.toNat, v2010.toNat, 0]

def k0_chk94 (v1989 : BitVec 32) (v1991 : BitVec 32) : Prop :=
  (∀ a, (k0_off644 v1989 v1991) a + S1x1x128.size a ≤ S250x128x128.size a)
theorem k0_off644_inb : ∀ (v1989 : BitVec 32) (v1991 : BitVec 32) (k0_hw94 : k0_chk94 v1989 v1991), ∀ a, (k0_off644 v1989 v1991) a + S1x1x128.size a ≤ S250x128x128.size a := fun v1989 v1991 k0_hw94 => k0_hw94

def k0_off645 (v1989 : BitVec 32) : Fin 2 → Nat :=
  let c42_i32_1024 : BitVec 32 := 42#32
  let v1990 : BitVec 32 := Scalar.addi v1989 c42_i32_1024
  let v2013 : Index := Scalar.indexCast v1990
  let c0_1035 : Index := 0#32
  ![v2013.toNat, 0]

def k0_chk95 (v1989 : BitVec 32) : Prop :=
  (∀ a, (k0_off645 v1989) a + S1x128.size a ≤ S128x128.size a)
theorem k0_off645_inb : ∀ (v1989 : BitVec 32) (k0_hw95 : k0_chk95 v1989), ∀ a, (k0_off645 v1989) a + S1x128.size a ≤ S128x128.size a := fun v1989 k0_hw95 => k0_hw95

def k0_off646 (v2029 : BitVec 32) (v2031 : BitVec 32) : Fin 3 → Nat :=
  let c0_i32_1048 : BitVec 32 := 0#32
  let v2033 : BitVec 1 := Scalar.cmpi .sgt v2031 c0_i32_1048
  let v2034 : BitVec 32 := Scalar.extui v2033
  let c0_i32_1049 : BitVec 32 := 0#32
  let v2035 : BitVec 1 := Scalar.cmpi .slt v2031 c0_i32_1049
  let v2036 : BitVec 32 := Scalar.extui v2035
  let v2037 : BitVec 32 := Scalar.subi v2034 v2036
  let c128_i32_1047 : BitVec 32 := 128#32
  let c0_i32_1050 : BitVec 32 := 0#32
  let v2038 : BitVec 1 := Scalar.cmpi .sgt c128_i32_1047 c0_i32_1050
  let v2039 : BitVec 32 := Scalar.extui v2038
  let c0_i32_1051 : BitVec 32 := 0#32
  let v2040 : BitVec 1 := Scalar.cmpi .slt c128_i32_1047 c0_i32_1051
  let v2041 : BitVec 32 := Scalar.extui v2040
  let v2042 : BitVec 32 := Scalar.subi v2039 v2041
  let v2043 : BitVec 1 := Scalar.cmpi .ne v2037 v2042
  let v2044 : BitVec 32 := Scalar.remsi v2031 c128_i32_1047
  let c0_i32_1052 : BitVec 32 := 0#32
  let v2045 : BitVec 1 := Scalar.cmpi .ne v2044 c0_i32_1052
  let v2046 : BitVec 1 := Scalar.andi v2043 v2045
  let v2032 : BitVec 32 := Scalar.divsi v2031 c128_i32_1047
  let c1_i32_1053 : BitVec 32 := 1#32
  let v2047 : BitVec 32 := Scalar.subi v2032 c1_i32_1053
  let v2048 : BitVec 32 := Scalar.select v2046 v2047 v2032
  let v2049 : Index := Scalar.indexCast v2048
  let c42_i32_1044 : BitVec 32 := 42#32
  let v2030 : BitVec 32 := Scalar.addi v2029 c42_i32_1044
  let v2050 : Index := Scalar.indexCast v2030
  let c0_1054 : Index := 0#32
  ![v2049.toNat, v2050.toNat, 0]

def k0_chk96 (v2029 : BitVec 32) (v2031 : BitVec 32) : Prop :=
  (∀ a, (k0_off646 v2029 v2031) a + S1x1x128.size a ≤ S250x128x128.size a)
theorem k0_off646_inb : ∀ (v2029 : BitVec 32) (v2031 : BitVec 32) (k0_hw96 : k0_chk96 v2029 v2031), ∀ a, (k0_off646 v2029 v2031) a + S1x1x128.size a ≤ S250x128x128.size a := fun v2029 v2031 k0_hw96 => k0_hw96

def k0_off647 (v2029 : BitVec 32) : Fin 2 → Nat :=
  let c42_i32_1044 : BitVec 32 := 42#32
  let v2030 : BitVec 32 := Scalar.addi v2029 c42_i32_1044
  let v2053 : Index := Scalar.indexCast v2030
  let c0_1055 : Index := 0#32
  ![v2053.toNat, 0]

def k0_chk97 (v2029 : BitVec 32) : Prop :=
  (∀ a, (k0_off647 v2029) a + S1x128.size a ≤ S128x128.size a)
theorem k0_off647_inb : ∀ (v2029 : BitVec 32) (k0_hw97 : k0_chk97 v2029), ∀ a, (k0_off647 v2029) a + S1x128.size a ≤ S128x128.size a := fun v2029 k0_hw97 => k0_hw97

def k0_off648 (v2069 : BitVec 32) (v2071 : BitVec 32) : Fin 3 → Nat :=
  let c0_i32_1068 : BitVec 32 := 0#32
  let v2073 : BitVec 1 := Scalar.cmpi .sgt v2071 c0_i32_1068
  let v2074 : BitVec 32 := Scalar.extui v2073
  let c0_i32_1069 : BitVec 32 := 0#32
  let v2075 : BitVec 1 := Scalar.cmpi .slt v2071 c0_i32_1069
  let v2076 : BitVec 32 := Scalar.extui v2075
  let v2077 : BitVec 32 := Scalar.subi v2074 v2076
  let c128_i32_1067 : BitVec 32 := 128#32
  let c0_i32_1070 : BitVec 32 := 0#32
  let v2078 : BitVec 1 := Scalar.cmpi .sgt c128_i32_1067 c0_i32_1070
  let v2079 : BitVec 32 := Scalar.extui v2078
  let c0_i32_1071 : BitVec 32 := 0#32
  let v2080 : BitVec 1 := Scalar.cmpi .slt c128_i32_1067 c0_i32_1071
  let v2081 : BitVec 32 := Scalar.extui v2080
  let v2082 : BitVec 32 := Scalar.subi v2079 v2081
  let v2083 : BitVec 1 := Scalar.cmpi .ne v2077 v2082
  let v2084 : BitVec 32 := Scalar.remsi v2071 c128_i32_1067
  let c0_i32_1072 : BitVec 32 := 0#32
  let v2085 : BitVec 1 := Scalar.cmpi .ne v2084 c0_i32_1072
  let v2086 : BitVec 1 := Scalar.andi v2083 v2085
  let v2072 : BitVec 32 := Scalar.divsi v2071 c128_i32_1067
  let c1_i32_1073 : BitVec 32 := 1#32
  let v2087 : BitVec 32 := Scalar.subi v2072 c1_i32_1073
  let v2088 : BitVec 32 := Scalar.select v2086 v2087 v2072
  let v2089 : Index := Scalar.indexCast v2088
  let c42_i32_1064 : BitVec 32 := 42#32
  let v2070 : BitVec 32 := Scalar.addi v2069 c42_i32_1064
  let v2090 : Index := Scalar.indexCast v2070
  let c0_1074 : Index := 0#32
  ![v2089.toNat, v2090.toNat, 0]

def k0_chk98 (v2069 : BitVec 32) (v2071 : BitVec 32) : Prop :=
  (∀ a, (k0_off648 v2069 v2071) a + S1x1x128.size a ≤ S250x128x128.size a)
theorem k0_off648_inb : ∀ (v2069 : BitVec 32) (v2071 : BitVec 32) (k0_hw98 : k0_chk98 v2069 v2071), ∀ a, (k0_off648 v2069 v2071) a + S1x1x128.size a ≤ S250x128x128.size a := fun v2069 v2071 k0_hw98 => k0_hw98

def k0_off649 (v2069 : BitVec 32) : Fin 2 → Nat :=
  let c42_i32_1064 : BitVec 32 := 42#32
  let v2070 : BitVec 32 := Scalar.addi v2069 c42_i32_1064
  let v2093 : Index := Scalar.indexCast v2070
  let c0_1075 : Index := 0#32
  ![v2093.toNat, 0]

def k0_chk99 (v2069 : BitVec 32) : Prop :=
  (∀ a, (k0_off649 v2069) a + S1x128.size a ≤ S128x128.size a)
theorem k0_off649_inb : ∀ (v2069 : BitVec 32) (k0_hw99 : k0_chk99 v2069), ∀ a, (k0_off649 v2069) a + S1x128.size a ≤ S128x128.size a := fun v2069 k0_hw99 => k0_hw99

def k0_off650 (v2109 : BitVec 32) (v2111 : BitVec 32) : Fin 3 → Nat :=
  let c0_i32_1088 : BitVec 32 := 0#32
  let v2113 : BitVec 1 := Scalar.cmpi .sgt v2111 c0_i32_1088
  let v2114 : BitVec 32 := Scalar.extui v2113
  let c0_i32_1089 : BitVec 32 := 0#32
  let v2115 : BitVec 1 := Scalar.cmpi .slt v2111 c0_i32_1089
  let v2116 : BitVec 32 := Scalar.extui v2115
  let v2117 : BitVec 32 := Scalar.subi v2114 v2116
  let c128_i32_1087 : BitVec 32 := 128#32
  let c0_i32_1090 : BitVec 32 := 0#32
  let v2118 : BitVec 1 := Scalar.cmpi .sgt c128_i32_1087 c0_i32_1090
  let v2119 : BitVec 32 := Scalar.extui v2118
  let c0_i32_1091 : BitVec 32 := 0#32
  let v2120 : BitVec 1 := Scalar.cmpi .slt c128_i32_1087 c0_i32_1091
  let v2121 : BitVec 32 := Scalar.extui v2120
  let v2122 : BitVec 32 := Scalar.subi v2119 v2121
  let v2123 : BitVec 1 := Scalar.cmpi .ne v2117 v2122
  let v2124 : BitVec 32 := Scalar.remsi v2111 c128_i32_1087
  let c0_i32_1092 : BitVec 32 := 0#32
  let v2125 : BitVec 1 := Scalar.cmpi .ne v2124 c0_i32_1092
  let v2126 : BitVec 1 := Scalar.andi v2123 v2125
  let v2112 : BitVec 32 := Scalar.divsi v2111 c128_i32_1087
  let c1_i32_1093 : BitVec 32 := 1#32
  let v2127 : BitVec 32 := Scalar.subi v2112 c1_i32_1093
  let v2128 : BitVec 32 := Scalar.select v2126 v2127 v2112
  let v2129 : Index := Scalar.indexCast v2128
  let c42_i32_1084 : BitVec 32 := 42#32
  let v2110 : BitVec 32 := Scalar.addi v2109 c42_i32_1084
  let v2130 : Index := Scalar.indexCast v2110
  let c0_1094 : Index := 0#32
  ![v2129.toNat, v2130.toNat, 0]

def k0_chk100 (v2109 : BitVec 32) (v2111 : BitVec 32) : Prop :=
  (∀ a, (k0_off650 v2109 v2111) a + S1x1x128.size a ≤ S250x128x128.size a)
theorem k0_off650_inb : ∀ (v2109 : BitVec 32) (v2111 : BitVec 32) (k0_hw100 : k0_chk100 v2109 v2111), ∀ a, (k0_off650 v2109 v2111) a + S1x1x128.size a ≤ S250x128x128.size a := fun v2109 v2111 k0_hw100 => k0_hw100

def k0_off651 (v2109 : BitVec 32) : Fin 2 → Nat :=
  let c42_i32_1084 : BitVec 32 := 42#32
  let v2110 : BitVec 32 := Scalar.addi v2109 c42_i32_1084
  let v2133 : Index := Scalar.indexCast v2110
  let c0_1095 : Index := 0#32
  ![v2133.toNat, 0]

def k0_chk101 (v2109 : BitVec 32) : Prop :=
  (∀ a, (k0_off651 v2109) a + S1x128.size a ≤ S128x128.size a)
theorem k0_off651_inb : ∀ (v2109 : BitVec 32) (k0_hw101 : k0_chk101 v2109), ∀ a, (k0_off651 v2109) a + S1x128.size a ≤ S128x128.size a := fun v2109 k0_hw101 => k0_hw101

def k0_off652 (v2149 : BitVec 32) (v2151 : BitVec 32) : Fin 3 → Nat :=
  let c0_i32_1108 : BitVec 32 := 0#32
  let v2153 : BitVec 1 := Scalar.cmpi .sgt v2151 c0_i32_1108
  let v2154 : BitVec 32 := Scalar.extui v2153
  let c0_i32_1109 : BitVec 32 := 0#32
  let v2155 : BitVec 1 := Scalar.cmpi .slt v2151 c0_i32_1109
  let v2156 : BitVec 32 := Scalar.extui v2155
  let v2157 : BitVec 32 := Scalar.subi v2154 v2156
  let c128_i32_1107 : BitVec 32 := 128#32
  let c0_i32_1110 : BitVec 32 := 0#32
  let v2158 : BitVec 1 := Scalar.cmpi .sgt c128_i32_1107 c0_i32_1110
  let v2159 : BitVec 32 := Scalar.extui v2158
  let c0_i32_1111 : BitVec 32 := 0#32
  let v2160 : BitVec 1 := Scalar.cmpi .slt c128_i32_1107 c0_i32_1111
  let v2161 : BitVec 32 := Scalar.extui v2160
  let v2162 : BitVec 32 := Scalar.subi v2159 v2161
  let v2163 : BitVec 1 := Scalar.cmpi .ne v2157 v2162
  let v2164 : BitVec 32 := Scalar.remsi v2151 c128_i32_1107
  let c0_i32_1112 : BitVec 32 := 0#32
  let v2165 : BitVec 1 := Scalar.cmpi .ne v2164 c0_i32_1112
  let v2166 : BitVec 1 := Scalar.andi v2163 v2165
  let v2152 : BitVec 32 := Scalar.divsi v2151 c128_i32_1107
  let c1_i32_1113 : BitVec 32 := 1#32
  let v2167 : BitVec 32 := Scalar.subi v2152 c1_i32_1113
  let v2168 : BitVec 32 := Scalar.select v2166 v2167 v2152
  let v2169 : Index := Scalar.indexCast v2168
  let c42_i32_1104 : BitVec 32 := 42#32
  let v2150 : BitVec 32 := Scalar.addi v2149 c42_i32_1104
  let v2170 : Index := Scalar.indexCast v2150
  let c0_1114 : Index := 0#32
  ![v2169.toNat, v2170.toNat, 0]

def k0_chk102 (v2149 : BitVec 32) (v2151 : BitVec 32) : Prop :=
  (∀ a, (k0_off652 v2149 v2151) a + S1x1x128.size a ≤ S250x128x128.size a)
theorem k0_off652_inb : ∀ (v2149 : BitVec 32) (v2151 : BitVec 32) (k0_hw102 : k0_chk102 v2149 v2151), ∀ a, (k0_off652 v2149 v2151) a + S1x1x128.size a ≤ S250x128x128.size a := fun v2149 v2151 k0_hw102 => k0_hw102

def k0_off653 (v2149 : BitVec 32) : Fin 2 → Nat :=
  let c42_i32_1104 : BitVec 32 := 42#32
  let v2150 : BitVec 32 := Scalar.addi v2149 c42_i32_1104
  let v2173 : Index := Scalar.indexCast v2150
  let c0_1115 : Index := 0#32
  ![v2173.toNat, 0]

def k0_chk103 (v2149 : BitVec 32) : Prop :=
  (∀ a, (k0_off653 v2149) a + S1x128.size a ≤ S128x128.size a)
theorem k0_off653_inb : ∀ (v2149 : BitVec 32) (k0_hw103 : k0_chk103 v2149), ∀ a, (k0_off653 v2149) a + S1x128.size a ≤ S128x128.size a := fun v2149 k0_hw103 => k0_hw103

def k0_off654 (v2189 : BitVec 32) (v2191 : BitVec 32) : Fin 3 → Nat :=
  let c0_i32_1128 : BitVec 32 := 0#32
  let v2193 : BitVec 1 := Scalar.cmpi .sgt v2191 c0_i32_1128
  let v2194 : BitVec 32 := Scalar.extui v2193
  let c0_i32_1129 : BitVec 32 := 0#32
  let v2195 : BitVec 1 := Scalar.cmpi .slt v2191 c0_i32_1129
  let v2196 : BitVec 32 := Scalar.extui v2195
  let v2197 : BitVec 32 := Scalar.subi v2194 v2196
  let c128_i32_1127 : BitVec 32 := 128#32
  let c0_i32_1130 : BitVec 32 := 0#32
  let v2198 : BitVec 1 := Scalar.cmpi .sgt c128_i32_1127 c0_i32_1130
  let v2199 : BitVec 32 := Scalar.extui v2198
  let c0_i32_1131 : BitVec 32 := 0#32
  let v2200 : BitVec 1 := Scalar.cmpi .slt c128_i32_1127 c0_i32_1131
  let v2201 : BitVec 32 := Scalar.extui v2200
  let v2202 : BitVec 32 := Scalar.subi v2199 v2201
  let v2203 : BitVec 1 := Scalar.cmpi .ne v2197 v2202
  let v2204 : BitVec 32 := Scalar.remsi v2191 c128_i32_1127
  let c0_i32_1132 : BitVec 32 := 0#32
  let v2205 : BitVec 1 := Scalar.cmpi .ne v2204 c0_i32_1132
  let v2206 : BitVec 1 := Scalar.andi v2203 v2205
  let v2192 : BitVec 32 := Scalar.divsi v2191 c128_i32_1127
  let c1_i32_1133 : BitVec 32 := 1#32
  let v2207 : BitVec 32 := Scalar.subi v2192 c1_i32_1133
  let v2208 : BitVec 32 := Scalar.select v2206 v2207 v2192
  let v2209 : Index := Scalar.indexCast v2208
  let c42_i32_1124 : BitVec 32 := 42#32
  let v2190 : BitVec 32 := Scalar.addi v2189 c42_i32_1124
  let v2210 : Index := Scalar.indexCast v2190
  let c0_1134 : Index := 0#32
  ![v2209.toNat, v2210.toNat, 0]

def k0_chk104 (v2189 : BitVec 32) (v2191 : BitVec 32) : Prop :=
  (∀ a, (k0_off654 v2189 v2191) a + S1x1x128.size a ≤ S250x128x128.size a)
theorem k0_off654_inb : ∀ (v2189 : BitVec 32) (v2191 : BitVec 32) (k0_hw104 : k0_chk104 v2189 v2191), ∀ a, (k0_off654 v2189 v2191) a + S1x1x128.size a ≤ S250x128x128.size a := fun v2189 v2191 k0_hw104 => k0_hw104

def k0_off655 (v2189 : BitVec 32) : Fin 2 → Nat :=
  let c42_i32_1124 : BitVec 32 := 42#32
  let v2190 : BitVec 32 := Scalar.addi v2189 c42_i32_1124
  let v2213 : Index := Scalar.indexCast v2190
  let c0_1135 : Index := 0#32
  ![v2213.toNat, 0]

def k0_chk105 (v2189 : BitVec 32) : Prop :=
  (∀ a, (k0_off655 v2189) a + S1x128.size a ≤ S128x128.size a)
theorem k0_off655_inb : ∀ (v2189 : BitVec 32) (k0_hw105 : k0_chk105 v2189), ∀ a, (k0_off655 v2189) a + S1x128.size a ≤ S128x128.size a := fun v2189 k0_hw105 => k0_hw105

def k0_off656 (v2229 : BitVec 32) (v2231 : BitVec 32) : Fin 3 → Nat :=
  let c0_i32_1148 : BitVec 32 := 0#32
  let v2233 : BitVec 1 := Scalar.cmpi .sgt v2231 c0_i32_1148
  let v2234 : BitVec 32 := Scalar.extui v2233
  let c0_i32_1149 : BitVec 32 := 0#32
  let v2235 : BitVec 1 := Scalar.cmpi .slt v2231 c0_i32_1149
  let v2236 : BitVec 32 := Scalar.extui v2235
  let v2237 : BitVec 32 := Scalar.subi v2234 v2236
  let c128_i32_1147 : BitVec 32 := 128#32
  let c0_i32_1150 : BitVec 32 := 0#32
  let v2238 : BitVec 1 := Scalar.cmpi .sgt c128_i32_1147 c0_i32_1150
  let v2239 : BitVec 32 := Scalar.extui v2238
  let c0_i32_1151 : BitVec 32 := 0#32
  let v2240 : BitVec 1 := Scalar.cmpi .slt c128_i32_1147 c0_i32_1151
  let v2241 : BitVec 32 := Scalar.extui v2240
  let v2242 : BitVec 32 := Scalar.subi v2239 v2241
  let v2243 : BitVec 1 := Scalar.cmpi .ne v2237 v2242
  let v2244 : BitVec 32 := Scalar.remsi v2231 c128_i32_1147
  let c0_i32_1152 : BitVec 32 := 0#32
  let v2245 : BitVec 1 := Scalar.cmpi .ne v2244 c0_i32_1152
  let v2246 : BitVec 1 := Scalar.andi v2243 v2245
  let v2232 : BitVec 32 := Scalar.divsi v2231 c128_i32_1147
  let c1_i32_1153 : BitVec 32 := 1#32
  let v2247 : BitVec 32 := Scalar.subi v2232 c1_i32_1153
  let v2248 : BitVec 32 := Scalar.select v2246 v2247 v2232
  let v2249 : Index := Scalar.indexCast v2248
  let c42_i32_1144 : BitVec 32 := 42#32
  let v2230 : BitVec 32 := Scalar.addi v2229 c42_i32_1144
  let v2250 : Index := Scalar.indexCast v2230
  let c0_1154 : Index := 0#32
  ![v2249.toNat, v2250.toNat, 0]

def k0_chk106 (v2229 : BitVec 32) (v2231 : BitVec 32) : Prop :=
  (∀ a, (k0_off656 v2229 v2231) a + S1x1x128.size a ≤ S250x128x128.size a)
theorem k0_off656_inb : ∀ (v2229 : BitVec 32) (v2231 : BitVec 32) (k0_hw106 : k0_chk106 v2229 v2231), ∀ a, (k0_off656 v2229 v2231) a + S1x1x128.size a ≤ S250x128x128.size a := fun v2229 v2231 k0_hw106 => k0_hw106

def k0_off657 (v2229 : BitVec 32) : Fin 2 → Nat :=
  let c42_i32_1144 : BitVec 32 := 42#32
  let v2230 : BitVec 32 := Scalar.addi v2229 c42_i32_1144
  let v2253 : Index := Scalar.indexCast v2230
  let c0_1155 : Index := 0#32
  ![v2253.toNat, 0]

def k0_chk107 (v2229 : BitVec 32) : Prop :=
  (∀ a, (k0_off657 v2229) a + S1x128.size a ≤ S128x128.size a)
theorem k0_off657_inb : ∀ (v2229 : BitVec 32) (k0_hw107 : k0_chk107 v2229), ∀ a, (k0_off657 v2229) a + S1x128.size a ≤ S128x128.size a := fun v2229 k0_hw107 => k0_hw107

def k0_off658 (v2269 : BitVec 32) (v2271 : BitVec 32) : Fin 3 → Nat :=
  let c0_i32_1168 : BitVec 32 := 0#32
  let v2273 : BitVec 1 := Scalar.cmpi .sgt v2271 c0_i32_1168
  let v2274 : BitVec 32 := Scalar.extui v2273
  let c0_i32_1169 : BitVec 32 := 0#32
  let v2275 : BitVec 1 := Scalar.cmpi .slt v2271 c0_i32_1169
  let v2276 : BitVec 32 := Scalar.extui v2275
  let v2277 : BitVec 32 := Scalar.subi v2274 v2276
  let c128_i32_1167 : BitVec 32 := 128#32
  let c0_i32_1170 : BitVec 32 := 0#32
  let v2278 : BitVec 1 := Scalar.cmpi .sgt c128_i32_1167 c0_i32_1170
  let v2279 : BitVec 32 := Scalar.extui v2278
  let c0_i32_1171 : BitVec 32 := 0#32
  let v2280 : BitVec 1 := Scalar.cmpi .slt c128_i32_1167 c0_i32_1171
  let v2281 : BitVec 32 := Scalar.extui v2280
  let v2282 : BitVec 32 := Scalar.subi v2279 v2281
  let v2283 : BitVec 1 := Scalar.cmpi .ne v2277 v2282
  let v2284 : BitVec 32 := Scalar.remsi v2271 c128_i32_1167
  let c0_i32_1172 : BitVec 32 := 0#32
  let v2285 : BitVec 1 := Scalar.cmpi .ne v2284 c0_i32_1172
  let v2286 : BitVec 1 := Scalar.andi v2283 v2285
  let v2272 : BitVec 32 := Scalar.divsi v2271 c128_i32_1167
  let c1_i32_1173 : BitVec 32 := 1#32
  let v2287 : BitVec 32 := Scalar.subi v2272 c1_i32_1173
  let v2288 : BitVec 32 := Scalar.select v2286 v2287 v2272
  let v2289 : Index := Scalar.indexCast v2288
  let c42_i32_1164 : BitVec 32 := 42#32
  let v2270 : BitVec 32 := Scalar.addi v2269 c42_i32_1164
  let v2290 : Index := Scalar.indexCast v2270
  let c0_1174 : Index := 0#32
  ![v2289.toNat, v2290.toNat, 0]

def k0_chk108 (v2269 : BitVec 32) (v2271 : BitVec 32) : Prop :=
  (∀ a, (k0_off658 v2269 v2271) a + S1x1x128.size a ≤ S250x128x128.size a)
theorem k0_off658_inb : ∀ (v2269 : BitVec 32) (v2271 : BitVec 32) (k0_hw108 : k0_chk108 v2269 v2271), ∀ a, (k0_off658 v2269 v2271) a + S1x1x128.size a ≤ S250x128x128.size a := fun v2269 v2271 k0_hw108 => k0_hw108

def k0_off659 (v2269 : BitVec 32) : Fin 2 → Nat :=
  let c42_i32_1164 : BitVec 32 := 42#32
  let v2270 : BitVec 32 := Scalar.addi v2269 c42_i32_1164
  let v2293 : Index := Scalar.indexCast v2270
  let c0_1175 : Index := 0#32
  ![v2293.toNat, 0]

def k0_chk109 (v2269 : BitVec 32) : Prop :=
  (∀ a, (k0_off659 v2269) a + S1x128.size a ≤ S128x128.size a)
theorem k0_off659_inb : ∀ (v2269 : BitVec 32) (k0_hw109 : k0_chk109 v2269), ∀ a, (k0_off659 v2269) a + S1x128.size a ≤ S128x128.size a := fun v2269 k0_hw109 => k0_hw109

def k0_off660 (v2309 : BitVec 32) (v2311 : BitVec 32) : Fin 3 → Nat :=
  let c0_i32_1188 : BitVec 32 := 0#32
  let v2313 : BitVec 1 := Scalar.cmpi .sgt v2311 c0_i32_1188
  let v2314 : BitVec 32 := Scalar.extui v2313
  let c0_i32_1189 : BitVec 32 := 0#32
  let v2315 : BitVec 1 := Scalar.cmpi .slt v2311 c0_i32_1189
  let v2316 : BitVec 32 := Scalar.extui v2315
  let v2317 : BitVec 32 := Scalar.subi v2314 v2316
  let c128_i32_1187 : BitVec 32 := 128#32
  let c0_i32_1190 : BitVec 32 := 0#32
  let v2318 : BitVec 1 := Scalar.cmpi .sgt c128_i32_1187 c0_i32_1190
  let v2319 : BitVec 32 := Scalar.extui v2318
  let c0_i32_1191 : BitVec 32 := 0#32
  let v2320 : BitVec 1 := Scalar.cmpi .slt c128_i32_1187 c0_i32_1191
  let v2321 : BitVec 32 := Scalar.extui v2320
  let v2322 : BitVec 32 := Scalar.subi v2319 v2321
  let v2323 : BitVec 1 := Scalar.cmpi .ne v2317 v2322
  let v2324 : BitVec 32 := Scalar.remsi v2311 c128_i32_1187
  let c0_i32_1192 : BitVec 32 := 0#32
  let v2325 : BitVec 1 := Scalar.cmpi .ne v2324 c0_i32_1192
  let v2326 : BitVec 1 := Scalar.andi v2323 v2325
  let v2312 : BitVec 32 := Scalar.divsi v2311 c128_i32_1187
  let c1_i32_1193 : BitVec 32 := 1#32
  let v2327 : BitVec 32 := Scalar.subi v2312 c1_i32_1193
  let v2328 : BitVec 32 := Scalar.select v2326 v2327 v2312
  let v2329 : Index := Scalar.indexCast v2328
  let c42_i32_1184 : BitVec 32 := 42#32
  let v2310 : BitVec 32 := Scalar.addi v2309 c42_i32_1184
  let v2330 : Index := Scalar.indexCast v2310
  let c0_1194 : Index := 0#32
  ![v2329.toNat, v2330.toNat, 0]

def k0_chk110 (v2309 : BitVec 32) (v2311 : BitVec 32) : Prop :=
  (∀ a, (k0_off660 v2309 v2311) a + S1x1x128.size a ≤ S250x128x128.size a)
theorem k0_off660_inb : ∀ (v2309 : BitVec 32) (v2311 : BitVec 32) (k0_hw110 : k0_chk110 v2309 v2311), ∀ a, (k0_off660 v2309 v2311) a + S1x1x128.size a ≤ S250x128x128.size a := fun v2309 v2311 k0_hw110 => k0_hw110

def k0_off661 (v2309 : BitVec 32) : Fin 2 → Nat :=
  let c42_i32_1184 : BitVec 32 := 42#32
  let v2310 : BitVec 32 := Scalar.addi v2309 c42_i32_1184
  let v2333 : Index := Scalar.indexCast v2310
  let c0_1195 : Index := 0#32
  ![v2333.toNat, 0]

def k0_chk111 (v2309 : BitVec 32) : Prop :=
  (∀ a, (k0_off661 v2309) a + S1x128.size a ≤ S128x128.size a)
theorem k0_off661_inb : ∀ (v2309 : BitVec 32) (k0_hw111 : k0_chk111 v2309), ∀ a, (k0_off661 v2309) a + S1x128.size a ≤ S128x128.size a := fun v2309 k0_hw111 => k0_hw111

def k0_off662 (v2349 : BitVec 32) (v2351 : BitVec 32) : Fin 3 → Nat :=
  let c0_i32_1208 : BitVec 32 := 0#32
  let v2353 : BitVec 1 := Scalar.cmpi .sgt v2351 c0_i32_1208
  let v2354 : BitVec 32 := Scalar.extui v2353
  let c0_i32_1209 : BitVec 32 := 0#32
  let v2355 : BitVec 1 := Scalar.cmpi .slt v2351 c0_i32_1209
  let v2356 : BitVec 32 := Scalar.extui v2355
  let v2357 : BitVec 32 := Scalar.subi v2354 v2356
  let c128_i32_1207 : BitVec 32 := 128#32
  let c0_i32_1210 : BitVec 32 := 0#32
  let v2358 : BitVec 1 := Scalar.cmpi .sgt c128_i32_1207 c0_i32_1210
  let v2359 : BitVec 32 := Scalar.extui v2358
  let c0_i32_1211 : BitVec 32 := 0#32
  let v2360 : BitVec 1 := Scalar.cmpi .slt c128_i32_1207 c0_i32_1211
  let v2361 : BitVec 32 := Scalar.extui v2360
  let v2362 : BitVec 32 := Scalar.subi v2359 v2361
  let v2363 : BitVec 1 := Scalar.cmpi .ne v2357 v2362
  let v2364 : BitVec 32 := Scalar.remsi v2351 c128_i32_1207
  let c0_i32_1212 : BitVec 32 := 0#32
  let v2365 : BitVec 1 := Scalar.cmpi .ne v2364 c0_i32_1212
  let v2366 : BitVec 1 := Scalar.andi v2363 v2365
  let v2352 : BitVec 32 := Scalar.divsi v2351 c128_i32_1207
  let c1_i32_1213 : BitVec 32 := 1#32
  let v2367 : BitVec 32 := Scalar.subi v2352 c1_i32_1213
  let v2368 : BitVec 32 := Scalar.select v2366 v2367 v2352
  let v2369 : Index := Scalar.indexCast v2368
  let c42_i32_1204 : BitVec 32 := 42#32
  let v2350 : BitVec 32 := Scalar.addi v2349 c42_i32_1204
  let v2370 : Index := Scalar.indexCast v2350
  let c0_1214 : Index := 0#32
  ![v2369.toNat, v2370.toNat, 0]

def k0_chk112 (v2349 : BitVec 32) (v2351 : BitVec 32) : Prop :=
  (∀ a, (k0_off662 v2349 v2351) a + S1x1x128.size a ≤ S250x128x128.size a)
theorem k0_off662_inb : ∀ (v2349 : BitVec 32) (v2351 : BitVec 32) (k0_hw112 : k0_chk112 v2349 v2351), ∀ a, (k0_off662 v2349 v2351) a + S1x1x128.size a ≤ S250x128x128.size a := fun v2349 v2351 k0_hw112 => k0_hw112

def k0_off663 (v2349 : BitVec 32) : Fin 2 → Nat :=
  let c42_i32_1204 : BitVec 32 := 42#32
  let v2350 : BitVec 32 := Scalar.addi v2349 c42_i32_1204
  let v2373 : Index := Scalar.indexCast v2350
  let c0_1215 : Index := 0#32
  ![v2373.toNat, 0]

def k0_chk113 (v2349 : BitVec 32) : Prop :=
  (∀ a, (k0_off663 v2349) a + S1x128.size a ≤ S128x128.size a)
theorem k0_off663_inb : ∀ (v2349 : BitVec 32) (k0_hw113 : k0_chk113 v2349), ∀ a, (k0_off663 v2349) a + S1x128.size a ≤ S128x128.size a := fun v2349 k0_hw113 => k0_hw113

def k0_off664 (v2389 : BitVec 32) (v2391 : BitVec 32) : Fin 3 → Nat :=
  let c0_i32_1228 : BitVec 32 := 0#32
  let v2393 : BitVec 1 := Scalar.cmpi .sgt v2391 c0_i32_1228
  let v2394 : BitVec 32 := Scalar.extui v2393
  let c0_i32_1229 : BitVec 32 := 0#32
  let v2395 : BitVec 1 := Scalar.cmpi .slt v2391 c0_i32_1229
  let v2396 : BitVec 32 := Scalar.extui v2395
  let v2397 : BitVec 32 := Scalar.subi v2394 v2396
  let c128_i32_1227 : BitVec 32 := 128#32
  let c0_i32_1230 : BitVec 32 := 0#32
  let v2398 : BitVec 1 := Scalar.cmpi .sgt c128_i32_1227 c0_i32_1230
  let v2399 : BitVec 32 := Scalar.extui v2398
  let c0_i32_1231 : BitVec 32 := 0#32
  let v2400 : BitVec 1 := Scalar.cmpi .slt c128_i32_1227 c0_i32_1231
  let v2401 : BitVec 32 := Scalar.extui v2400
  let v2402 : BitVec 32 := Scalar.subi v2399 v2401
  let v2403 : BitVec 1 := Scalar.cmpi .ne v2397 v2402
  let v2404 : BitVec 32 := Scalar.remsi v2391 c128_i32_1227
  let c0_i32_1232 : BitVec 32 := 0#32
  let v2405 : BitVec 1 := Scalar.cmpi .ne v2404 c0_i32_1232
  let v2406 : BitVec 1 := Scalar.andi v2403 v2405
  let v2392 : BitVec 32 := Scalar.divsi v2391 c128_i32_1227
  let c1_i32_1233 : BitVec 32 := 1#32
  let v2407 : BitVec 32 := Scalar.subi v2392 c1_i32_1233
  let v2408 : BitVec 32 := Scalar.select v2406 v2407 v2392
  let v2409 : Index := Scalar.indexCast v2408
  let c42_i32_1224 : BitVec 32 := 42#32
  let v2390 : BitVec 32 := Scalar.addi v2389 c42_i32_1224
  let v2410 : Index := Scalar.indexCast v2390
  let c0_1234 : Index := 0#32
  ![v2409.toNat, v2410.toNat, 0]

def k0_chk114 (v2389 : BitVec 32) (v2391 : BitVec 32) : Prop :=
  (∀ a, (k0_off664 v2389 v2391) a + S1x1x128.size a ≤ S250x128x128.size a)
theorem k0_off664_inb : ∀ (v2389 : BitVec 32) (v2391 : BitVec 32) (k0_hw114 : k0_chk114 v2389 v2391), ∀ a, (k0_off664 v2389 v2391) a + S1x1x128.size a ≤ S250x128x128.size a := fun v2389 v2391 k0_hw114 => k0_hw114

def k0_off665 (v2389 : BitVec 32) : Fin 2 → Nat :=
  let c42_i32_1224 : BitVec 32 := 42#32
  let v2390 : BitVec 32 := Scalar.addi v2389 c42_i32_1224
  let v2413 : Index := Scalar.indexCast v2390
  let c0_1235 : Index := 0#32
  ![v2413.toNat, 0]

def k0_chk115 (v2389 : BitVec 32) : Prop :=
  (∀ a, (k0_off665 v2389) a + S1x128.size a ≤ S128x128.size a)
theorem k0_off665_inb : ∀ (v2389 : BitVec 32) (k0_hw115 : k0_chk115 v2389), ∀ a, (k0_off665 v2389) a + S1x128.size a ≤ S128x128.size a := fun v2389 k0_hw115 => k0_hw115

def k0_off666 (v2429 : BitVec 32) (v2431 : BitVec 32) : Fin 3 → Nat :=
  let c0_i32_1248 : BitVec 32 := 0#32
  let v2433 : BitVec 1 := Scalar.cmpi .sgt v2431 c0_i32_1248
  let v2434 : BitVec 32 := Scalar.extui v2433
  let c0_i32_1249 : BitVec 32 := 0#32
  let v2435 : BitVec 1 := Scalar.cmpi .slt v2431 c0_i32_1249
  let v2436 : BitVec 32 := Scalar.extui v2435
  let v2437 : BitVec 32 := Scalar.subi v2434 v2436
  let c128_i32_1247 : BitVec 32 := 128#32
  let c0_i32_1250 : BitVec 32 := 0#32
  let v2438 : BitVec 1 := Scalar.cmpi .sgt c128_i32_1247 c0_i32_1250
  let v2439 : BitVec 32 := Scalar.extui v2438
  let c0_i32_1251 : BitVec 32 := 0#32
  let v2440 : BitVec 1 := Scalar.cmpi .slt c128_i32_1247 c0_i32_1251
  let v2441 : BitVec 32 := Scalar.extui v2440
  let v2442 : BitVec 32 := Scalar.subi v2439 v2441
  let v2443 : BitVec 1 := Scalar.cmpi .ne v2437 v2442
  let v2444 : BitVec 32 := Scalar.remsi v2431 c128_i32_1247
  let c0_i32_1252 : BitVec 32 := 0#32
  let v2445 : BitVec 1 := Scalar.cmpi .ne v2444 c0_i32_1252
  let v2446 : BitVec 1 := Scalar.andi v2443 v2445
  let v2432 : BitVec 32 := Scalar.divsi v2431 c128_i32_1247
  let c1_i32_1253 : BitVec 32 := 1#32
  let v2447 : BitVec 32 := Scalar.subi v2432 c1_i32_1253
  let v2448 : BitVec 32 := Scalar.select v2446 v2447 v2432
  let v2449 : Index := Scalar.indexCast v2448
  let c42_i32_1244 : BitVec 32 := 42#32
  let v2430 : BitVec 32 := Scalar.addi v2429 c42_i32_1244
  let v2450 : Index := Scalar.indexCast v2430
  let c0_1254 : Index := 0#32
  ![v2449.toNat, v2450.toNat, 0]

def k0_chk116 (v2429 : BitVec 32) (v2431 : BitVec 32) : Prop :=
  (∀ a, (k0_off666 v2429 v2431) a + S1x1x128.size a ≤ S250x128x128.size a)
theorem k0_off666_inb : ∀ (v2429 : BitVec 32) (v2431 : BitVec 32) (k0_hw116 : k0_chk116 v2429 v2431), ∀ a, (k0_off666 v2429 v2431) a + S1x1x128.size a ≤ S250x128x128.size a := fun v2429 v2431 k0_hw116 => k0_hw116

def k0_off667 (v2429 : BitVec 32) : Fin 2 → Nat :=
  let c42_i32_1244 : BitVec 32 := 42#32
  let v2430 : BitVec 32 := Scalar.addi v2429 c42_i32_1244
  let v2453 : Index := Scalar.indexCast v2430
  let c0_1255 : Index := 0#32
  ![v2453.toNat, 0]

def k0_chk117 (v2429 : BitVec 32) : Prop :=
  (∀ a, (k0_off667 v2429) a + S1x128.size a ≤ S128x128.size a)
theorem k0_off667_inb : ∀ (v2429 : BitVec 32) (k0_hw117 : k0_chk117 v2429), ∀ a, (k0_off667 v2429) a + S1x128.size a ≤ S128x128.size a := fun v2429 k0_hw117 => k0_hw117

def k0_off668 (v2469 : BitVec 32) (v2471 : BitVec 32) : Fin 3 → Nat :=
  let c0_i32_1268 : BitVec 32 := 0#32
  let v2473 : BitVec 1 := Scalar.cmpi .sgt v2471 c0_i32_1268
  let v2474 : BitVec 32 := Scalar.extui v2473
  let c0_i32_1269 : BitVec 32 := 0#32
  let v2475 : BitVec 1 := Scalar.cmpi .slt v2471 c0_i32_1269
  let v2476 : BitVec 32 := Scalar.extui v2475
  let v2477 : BitVec 32 := Scalar.subi v2474 v2476
  let c128_i32_1267 : BitVec 32 := 128#32
  let c0_i32_1270 : BitVec 32 := 0#32
  let v2478 : BitVec 1 := Scalar.cmpi .sgt c128_i32_1267 c0_i32_1270
  let v2479 : BitVec 32 := Scalar.extui v2478
  let c0_i32_1271 : BitVec 32 := 0#32
  let v2480 : BitVec 1 := Scalar.cmpi .slt c128_i32_1267 c0_i32_1271
  let v2481 : BitVec 32 := Scalar.extui v2480
  let v2482 : BitVec 32 := Scalar.subi v2479 v2481
  let v2483 : BitVec 1 := Scalar.cmpi .ne v2477 v2482
  let v2484 : BitVec 32 := Scalar.remsi v2471 c128_i32_1267
  let c0_i32_1272 : BitVec 32 := 0#32
  let v2485 : BitVec 1 := Scalar.cmpi .ne v2484 c0_i32_1272
  let v2486 : BitVec 1 := Scalar.andi v2483 v2485
  let v2472 : BitVec 32 := Scalar.divsi v2471 c128_i32_1267
  let c1_i32_1273 : BitVec 32 := 1#32
  let v2487 : BitVec 32 := Scalar.subi v2472 c1_i32_1273
  let v2488 : BitVec 32 := Scalar.select v2486 v2487 v2472
  let v2489 : Index := Scalar.indexCast v2488
  let c42_i32_1264 : BitVec 32 := 42#32
  let v2470 : BitVec 32 := Scalar.addi v2469 c42_i32_1264
  let v2490 : Index := Scalar.indexCast v2470
  let c0_1274 : Index := 0#32
  ![v2489.toNat, v2490.toNat, 0]

def k0_chk118 (v2469 : BitVec 32) (v2471 : BitVec 32) : Prop :=
  (∀ a, (k0_off668 v2469 v2471) a + S1x1x128.size a ≤ S250x128x128.size a)
theorem k0_off668_inb : ∀ (v2469 : BitVec 32) (v2471 : BitVec 32) (k0_hw118 : k0_chk118 v2469 v2471), ∀ a, (k0_off668 v2469 v2471) a + S1x1x128.size a ≤ S250x128x128.size a := fun v2469 v2471 k0_hw118 => k0_hw118

def k0_off669 (v2469 : BitVec 32) : Fin 2 → Nat :=
  let c42_i32_1264 : BitVec 32 := 42#32
  let v2470 : BitVec 32 := Scalar.addi v2469 c42_i32_1264
  let v2493 : Index := Scalar.indexCast v2470
  let c0_1275 : Index := 0#32
  ![v2493.toNat, 0]

def k0_chk119 (v2469 : BitVec 32) : Prop :=
  (∀ a, (k0_off669 v2469) a + S1x128.size a ≤ S128x128.size a)
theorem k0_off669_inb : ∀ (v2469 : BitVec 32) (k0_hw119 : k0_chk119 v2469), ∀ a, (k0_off669 v2469) a + S1x128.size a ≤ S128x128.size a := fun v2469 k0_hw119 => k0_hw119

def k0_off670 (v2509 : BitVec 32) (v2511 : BitVec 32) : Fin 3 → Nat :=
  let c0_i32_1288 : BitVec 32 := 0#32
  let v2513 : BitVec 1 := Scalar.cmpi .sgt v2511 c0_i32_1288
  let v2514 : BitVec 32 := Scalar.extui v2513
  let c0_i32_1289 : BitVec 32 := 0#32
  let v2515 : BitVec 1 := Scalar.cmpi .slt v2511 c0_i32_1289
  let v2516 : BitVec 32 := Scalar.extui v2515
  let v2517 : BitVec 32 := Scalar.subi v2514 v2516
  let c128_i32_1287 : BitVec 32 := 128#32
  let c0_i32_1290 : BitVec 32 := 0#32
  let v2518 : BitVec 1 := Scalar.cmpi .sgt c128_i32_1287 c0_i32_1290
  let v2519 : BitVec 32 := Scalar.extui v2518
  let c0_i32_1291 : BitVec 32 := 0#32
  let v2520 : BitVec 1 := Scalar.cmpi .slt c128_i32_1287 c0_i32_1291
  let v2521 : BitVec 32 := Scalar.extui v2520
  let v2522 : BitVec 32 := Scalar.subi v2519 v2521
  let v2523 : BitVec 1 := Scalar.cmpi .ne v2517 v2522
  let v2524 : BitVec 32 := Scalar.remsi v2511 c128_i32_1287
  let c0_i32_1292 : BitVec 32 := 0#32
  let v2525 : BitVec 1 := Scalar.cmpi .ne v2524 c0_i32_1292
  let v2526 : BitVec 1 := Scalar.andi v2523 v2525
  let v2512 : BitVec 32 := Scalar.divsi v2511 c128_i32_1287
  let c1_i32_1293 : BitVec 32 := 1#32
  let v2527 : BitVec 32 := Scalar.subi v2512 c1_i32_1293
  let v2528 : BitVec 32 := Scalar.select v2526 v2527 v2512
  let v2529 : Index := Scalar.indexCast v2528
  let c42_i32_1284 : BitVec 32 := 42#32
  let v2510 : BitVec 32 := Scalar.addi v2509 c42_i32_1284
  let v2530 : Index := Scalar.indexCast v2510
  let c0_1294 : Index := 0#32
  ![v2529.toNat, v2530.toNat, 0]

def k0_chk120 (v2509 : BitVec 32) (v2511 : BitVec 32) : Prop :=
  (∀ a, (k0_off670 v2509 v2511) a + S1x1x128.size a ≤ S250x128x128.size a)
theorem k0_off670_inb : ∀ (v2509 : BitVec 32) (v2511 : BitVec 32) (k0_hw120 : k0_chk120 v2509 v2511), ∀ a, (k0_off670 v2509 v2511) a + S1x1x128.size a ≤ S250x128x128.size a := fun v2509 v2511 k0_hw120 => k0_hw120

def k0_off671 (v2509 : BitVec 32) : Fin 2 → Nat :=
  let c42_i32_1284 : BitVec 32 := 42#32
  let v2510 : BitVec 32 := Scalar.addi v2509 c42_i32_1284
  let v2533 : Index := Scalar.indexCast v2510
  let c0_1295 : Index := 0#32
  ![v2533.toNat, 0]

def k0_chk121 (v2509 : BitVec 32) : Prop :=
  (∀ a, (k0_off671 v2509) a + S1x128.size a ≤ S128x128.size a)
theorem k0_off671_inb : ∀ (v2509 : BitVec 32) (k0_hw121 : k0_chk121 v2509), ∀ a, (k0_off671 v2509) a + S1x128.size a ≤ S128x128.size a := fun v2509 k0_hw121 => k0_hw121

def k0_off672 (v2549 : BitVec 32) (v2551 : BitVec 32) : Fin 3 → Nat :=
  let c0_i32_1308 : BitVec 32 := 0#32
  let v2553 : BitVec 1 := Scalar.cmpi .sgt v2551 c0_i32_1308
  let v2554 : BitVec 32 := Scalar.extui v2553
  let c0_i32_1309 : BitVec 32 := 0#32
  let v2555 : BitVec 1 := Scalar.cmpi .slt v2551 c0_i32_1309
  let v2556 : BitVec 32 := Scalar.extui v2555
  let v2557 : BitVec 32 := Scalar.subi v2554 v2556
  let c128_i32_1307 : BitVec 32 := 128#32
  let c0_i32_1310 : BitVec 32 := 0#32
  let v2558 : BitVec 1 := Scalar.cmpi .sgt c128_i32_1307 c0_i32_1310
  let v2559 : BitVec 32 := Scalar.extui v2558
  let c0_i32_1311 : BitVec 32 := 0#32
  let v2560 : BitVec 1 := Scalar.cmpi .slt c128_i32_1307 c0_i32_1311
  let v2561 : BitVec 32 := Scalar.extui v2560
  let v2562 : BitVec 32 := Scalar.subi v2559 v2561
  let v2563 : BitVec 1 := Scalar.cmpi .ne v2557 v2562
  let v2564 : BitVec 32 := Scalar.remsi v2551 c128_i32_1307
  let c0_i32_1312 : BitVec 32 := 0#32
  let v2565 : BitVec 1 := Scalar.cmpi .ne v2564 c0_i32_1312
  let v2566 : BitVec 1 := Scalar.andi v2563 v2565
  let v2552 : BitVec 32 := Scalar.divsi v2551 c128_i32_1307
  let c1_i32_1313 : BitVec 32 := 1#32
  let v2567 : BitVec 32 := Scalar.subi v2552 c1_i32_1313
  let v2568 : BitVec 32 := Scalar.select v2566 v2567 v2552
  let v2569 : Index := Scalar.indexCast v2568
  let c42_i32_1304 : BitVec 32 := 42#32
  let v2550 : BitVec 32 := Scalar.addi v2549 c42_i32_1304
  let v2570 : Index := Scalar.indexCast v2550
  let c0_1314 : Index := 0#32
  ![v2569.toNat, v2570.toNat, 0]

def k0_chk122 (v2549 : BitVec 32) (v2551 : BitVec 32) : Prop :=
  (∀ a, (k0_off672 v2549 v2551) a + S1x1x128.size a ≤ S250x128x128.size a)
theorem k0_off672_inb : ∀ (v2549 : BitVec 32) (v2551 : BitVec 32) (k0_hw122 : k0_chk122 v2549 v2551), ∀ a, (k0_off672 v2549 v2551) a + S1x1x128.size a ≤ S250x128x128.size a := fun v2549 v2551 k0_hw122 => k0_hw122

def k0_off673 (v2549 : BitVec 32) : Fin 2 → Nat :=
  let c42_i32_1304 : BitVec 32 := 42#32
  let v2550 : BitVec 32 := Scalar.addi v2549 c42_i32_1304
  let v2573 : Index := Scalar.indexCast v2550
  let c0_1315 : Index := 0#32
  ![v2573.toNat, 0]

def k0_chk123 (v2549 : BitVec 32) : Prop :=
  (∀ a, (k0_off673 v2549) a + S1x128.size a ≤ S128x128.size a)
theorem k0_off673_inb : ∀ (v2549 : BitVec 32) (k0_hw123 : k0_chk123 v2549), ∀ a, (k0_off673 v2549) a + S1x128.size a ≤ S128x128.size a := fun v2549 k0_hw123 => k0_hw123

def k0_off674 (v2589 : BitVec 32) (v2591 : BitVec 32) : Fin 3 → Nat :=
  let c0_i32_1328 : BitVec 32 := 0#32
  let v2593 : BitVec 1 := Scalar.cmpi .sgt v2591 c0_i32_1328
  let v2594 : BitVec 32 := Scalar.extui v2593
  let c0_i32_1329 : BitVec 32 := 0#32
  let v2595 : BitVec 1 := Scalar.cmpi .slt v2591 c0_i32_1329
  let v2596 : BitVec 32 := Scalar.extui v2595
  let v2597 : BitVec 32 := Scalar.subi v2594 v2596
  let c128_i32_1327 : BitVec 32 := 128#32
  let c0_i32_1330 : BitVec 32 := 0#32
  let v2598 : BitVec 1 := Scalar.cmpi .sgt c128_i32_1327 c0_i32_1330
  let v2599 : BitVec 32 := Scalar.extui v2598
  let c0_i32_1331 : BitVec 32 := 0#32
  let v2600 : BitVec 1 := Scalar.cmpi .slt c128_i32_1327 c0_i32_1331
  let v2601 : BitVec 32 := Scalar.extui v2600
  let v2602 : BitVec 32 := Scalar.subi v2599 v2601
  let v2603 : BitVec 1 := Scalar.cmpi .ne v2597 v2602
  let v2604 : BitVec 32 := Scalar.remsi v2591 c128_i32_1327
  let c0_i32_1332 : BitVec 32 := 0#32
  let v2605 : BitVec 1 := Scalar.cmpi .ne v2604 c0_i32_1332
  let v2606 : BitVec 1 := Scalar.andi v2603 v2605
  let v2592 : BitVec 32 := Scalar.divsi v2591 c128_i32_1327
  let c1_i32_1333 : BitVec 32 := 1#32
  let v2607 : BitVec 32 := Scalar.subi v2592 c1_i32_1333
  let v2608 : BitVec 32 := Scalar.select v2606 v2607 v2592
  let v2609 : Index := Scalar.indexCast v2608
  let c42_i32_1324 : BitVec 32 := 42#32
  let v2590 : BitVec 32 := Scalar.addi v2589 c42_i32_1324
  let v2610 : Index := Scalar.indexCast v2590
  let c0_1334 : Index := 0#32
  ![v2609.toNat, v2610.toNat, 0]

def k0_chk124 (v2589 : BitVec 32) (v2591 : BitVec 32) : Prop :=
  (∀ a, (k0_off674 v2589 v2591) a + S1x1x128.size a ≤ S250x128x128.size a)
theorem k0_off674_inb : ∀ (v2589 : BitVec 32) (v2591 : BitVec 32) (k0_hw124 : k0_chk124 v2589 v2591), ∀ a, (k0_off674 v2589 v2591) a + S1x1x128.size a ≤ S250x128x128.size a := fun v2589 v2591 k0_hw124 => k0_hw124

def k0_off675 (v2589 : BitVec 32) : Fin 2 → Nat :=
  let c42_i32_1324 : BitVec 32 := 42#32
  let v2590 : BitVec 32 := Scalar.addi v2589 c42_i32_1324
  let v2613 : Index := Scalar.indexCast v2590
  let c0_1335 : Index := 0#32
  ![v2613.toNat, 0]

def k0_chk125 (v2589 : BitVec 32) : Prop :=
  (∀ a, (k0_off675 v2589) a + S1x128.size a ≤ S128x128.size a)
theorem k0_off675_inb : ∀ (v2589 : BitVec 32) (k0_hw125 : k0_chk125 v2589), ∀ a, (k0_off675 v2589) a + S1x128.size a ≤ S128x128.size a := fun v2589 k0_hw125 => k0_hw125

def k0_off676 (v2629 : BitVec 32) (v2631 : BitVec 32) : Fin 3 → Nat :=
  let c0_i32_1348 : BitVec 32 := 0#32
  let v2633 : BitVec 1 := Scalar.cmpi .sgt v2631 c0_i32_1348
  let v2634 : BitVec 32 := Scalar.extui v2633
  let c0_i32_1349 : BitVec 32 := 0#32
  let v2635 : BitVec 1 := Scalar.cmpi .slt v2631 c0_i32_1349
  let v2636 : BitVec 32 := Scalar.extui v2635
  let v2637 : BitVec 32 := Scalar.subi v2634 v2636
  let c128_i32_1347 : BitVec 32 := 128#32
  let c0_i32_1350 : BitVec 32 := 0#32
  let v2638 : BitVec 1 := Scalar.cmpi .sgt c128_i32_1347 c0_i32_1350
  let v2639 : BitVec 32 := Scalar.extui v2638
  let c0_i32_1351 : BitVec 32 := 0#32
  let v2640 : BitVec 1 := Scalar.cmpi .slt c128_i32_1347 c0_i32_1351
  let v2641 : BitVec 32 := Scalar.extui v2640
  let v2642 : BitVec 32 := Scalar.subi v2639 v2641
  let v2643 : BitVec 1 := Scalar.cmpi .ne v2637 v2642
  let v2644 : BitVec 32 := Scalar.remsi v2631 c128_i32_1347
  let c0_i32_1352 : BitVec 32 := 0#32
  let v2645 : BitVec 1 := Scalar.cmpi .ne v2644 c0_i32_1352
  let v2646 : BitVec 1 := Scalar.andi v2643 v2645
  let v2632 : BitVec 32 := Scalar.divsi v2631 c128_i32_1347
  let c1_i32_1353 : BitVec 32 := 1#32
  let v2647 : BitVec 32 := Scalar.subi v2632 c1_i32_1353
  let v2648 : BitVec 32 := Scalar.select v2646 v2647 v2632
  let v2649 : Index := Scalar.indexCast v2648
  let c42_i32_1344 : BitVec 32 := 42#32
  let v2630 : BitVec 32 := Scalar.addi v2629 c42_i32_1344
  let v2650 : Index := Scalar.indexCast v2630
  let c0_1354 : Index := 0#32
  ![v2649.toNat, v2650.toNat, 0]

def k0_chk126 (v2629 : BitVec 32) (v2631 : BitVec 32) : Prop :=
  (∀ a, (k0_off676 v2629 v2631) a + S1x1x128.size a ≤ S250x128x128.size a)
theorem k0_off676_inb : ∀ (v2629 : BitVec 32) (v2631 : BitVec 32) (k0_hw126 : k0_chk126 v2629 v2631), ∀ a, (k0_off676 v2629 v2631) a + S1x1x128.size a ≤ S250x128x128.size a := fun v2629 v2631 k0_hw126 => k0_hw126

def k0_off677 (v2629 : BitVec 32) : Fin 2 → Nat :=
  let c42_i32_1344 : BitVec 32 := 42#32
  let v2630 : BitVec 32 := Scalar.addi v2629 c42_i32_1344
  let v2653 : Index := Scalar.indexCast v2630
  let c0_1355 : Index := 0#32
  ![v2653.toNat, 0]

def k0_chk127 (v2629 : BitVec 32) : Prop :=
  (∀ a, (k0_off677 v2629) a + S1x128.size a ≤ S128x128.size a)
theorem k0_off677_inb : ∀ (v2629 : BitVec 32) (k0_hw127 : k0_chk127 v2629), ∀ a, (k0_off677 v2629) a + S1x128.size a ≤ S128x128.size a := fun v2629 k0_hw127 => k0_hw127

def k0_off678 (v2669 : BitVec 32) (v2671 : BitVec 32) : Fin 3 → Nat :=
  let c0_i32_1368 : BitVec 32 := 0#32
  let v2673 : BitVec 1 := Scalar.cmpi .sgt v2671 c0_i32_1368
  let v2674 : BitVec 32 := Scalar.extui v2673
  let c0_i32_1369 : BitVec 32 := 0#32
  let v2675 : BitVec 1 := Scalar.cmpi .slt v2671 c0_i32_1369
  let v2676 : BitVec 32 := Scalar.extui v2675
  let v2677 : BitVec 32 := Scalar.subi v2674 v2676
  let c128_i32_1367 : BitVec 32 := 128#32
  let c0_i32_1370 : BitVec 32 := 0#32
  let v2678 : BitVec 1 := Scalar.cmpi .sgt c128_i32_1367 c0_i32_1370
  let v2679 : BitVec 32 := Scalar.extui v2678
  let c0_i32_1371 : BitVec 32 := 0#32
  let v2680 : BitVec 1 := Scalar.cmpi .slt c128_i32_1367 c0_i32_1371
  let v2681 : BitVec 32 := Scalar.extui v2680
  let v2682 : BitVec 32 := Scalar.subi v2679 v2681
  let v2683 : BitVec 1 := Scalar.cmpi .ne v2677 v2682
  let v2684 : BitVec 32 := Scalar.remsi v2671 c128_i32_1367
  let c0_i32_1372 : BitVec 32 := 0#32
  let v2685 : BitVec 1 := Scalar.cmpi .ne v2684 c0_i32_1372
  let v2686 : BitVec 1 := Scalar.andi v2683 v2685
  let v2672 : BitVec 32 := Scalar.divsi v2671 c128_i32_1367
  let c1_i32_1373 : BitVec 32 := 1#32
  let v2687 : BitVec 32 := Scalar.subi v2672 c1_i32_1373
  let v2688 : BitVec 32 := Scalar.select v2686 v2687 v2672
  let v2689 : Index := Scalar.indexCast v2688
  let c42_i32_1364 : BitVec 32 := 42#32
  let v2670 : BitVec 32 := Scalar.addi v2669 c42_i32_1364
  let v2690 : Index := Scalar.indexCast v2670
  let c0_1374 : Index := 0#32
  ![v2689.toNat, v2690.toNat, 0]

def k0_chk128 (v2669 : BitVec 32) (v2671 : BitVec 32) : Prop :=
  (∀ a, (k0_off678 v2669 v2671) a + S1x1x128.size a ≤ S250x128x128.size a)
theorem k0_off678_inb : ∀ (v2669 : BitVec 32) (v2671 : BitVec 32) (k0_hw128 : k0_chk128 v2669 v2671), ∀ a, (k0_off678 v2669 v2671) a + S1x1x128.size a ≤ S250x128x128.size a := fun v2669 v2671 k0_hw128 => k0_hw128

def k0_off679 (v2669 : BitVec 32) : Fin 2 → Nat :=
  let c42_i32_1364 : BitVec 32 := 42#32
  let v2670 : BitVec 32 := Scalar.addi v2669 c42_i32_1364
  let v2693 : Index := Scalar.indexCast v2670
  let c0_1375 : Index := 0#32
  ![v2693.toNat, 0]

def k0_chk129 (v2669 : BitVec 32) : Prop :=
  (∀ a, (k0_off679 v2669) a + S1x128.size a ≤ S128x128.size a)
theorem k0_off679_inb : ∀ (v2669 : BitVec 32) (k0_hw129 : k0_chk129 v2669), ∀ a, (k0_off679 v2669) a + S1x128.size a ≤ S128x128.size a := fun v2669 k0_hw129 => k0_hw129

def k0_off680 (v2709 : BitVec 32) (v2711 : BitVec 32) : Fin 3 → Nat :=
  let c0_i32_1388 : BitVec 32 := 0#32
  let v2713 : BitVec 1 := Scalar.cmpi .sgt v2711 c0_i32_1388
  let v2714 : BitVec 32 := Scalar.extui v2713
  let c0_i32_1389 : BitVec 32 := 0#32
  let v2715 : BitVec 1 := Scalar.cmpi .slt v2711 c0_i32_1389
  let v2716 : BitVec 32 := Scalar.extui v2715
  let v2717 : BitVec 32 := Scalar.subi v2714 v2716
  let c128_i32_1387 : BitVec 32 := 128#32
  let c0_i32_1390 : BitVec 32 := 0#32
  let v2718 : BitVec 1 := Scalar.cmpi .sgt c128_i32_1387 c0_i32_1390
  let v2719 : BitVec 32 := Scalar.extui v2718
  let c0_i32_1391 : BitVec 32 := 0#32
  let v2720 : BitVec 1 := Scalar.cmpi .slt c128_i32_1387 c0_i32_1391
  let v2721 : BitVec 32 := Scalar.extui v2720
  let v2722 : BitVec 32 := Scalar.subi v2719 v2721
  let v2723 : BitVec 1 := Scalar.cmpi .ne v2717 v2722
  let v2724 : BitVec 32 := Scalar.remsi v2711 c128_i32_1387
  let c0_i32_1392 : BitVec 32 := 0#32
  let v2725 : BitVec 1 := Scalar.cmpi .ne v2724 c0_i32_1392
  let v2726 : BitVec 1 := Scalar.andi v2723 v2725
  let v2712 : BitVec 32 := Scalar.divsi v2711 c128_i32_1387
  let c1_i32_1393 : BitVec 32 := 1#32
  let v2727 : BitVec 32 := Scalar.subi v2712 c1_i32_1393
  let v2728 : BitVec 32 := Scalar.select v2726 v2727 v2712
  let v2729 : Index := Scalar.indexCast v2728
  let c42_i32_1384 : BitVec 32 := 42#32
  let v2710 : BitVec 32 := Scalar.addi v2709 c42_i32_1384
  let v2730 : Index := Scalar.indexCast v2710
  let c0_1394 : Index := 0#32
  ![v2729.toNat, v2730.toNat, 0]

def k0_chk130 (v2709 : BitVec 32) (v2711 : BitVec 32) : Prop :=
  (∀ a, (k0_off680 v2709 v2711) a + S1x1x128.size a ≤ S250x128x128.size a)
theorem k0_off680_inb : ∀ (v2709 : BitVec 32) (v2711 : BitVec 32) (k0_hw130 : k0_chk130 v2709 v2711), ∀ a, (k0_off680 v2709 v2711) a + S1x1x128.size a ≤ S250x128x128.size a := fun v2709 v2711 k0_hw130 => k0_hw130

def k0_off681 (v2709 : BitVec 32) : Fin 2 → Nat :=
  let c42_i32_1384 : BitVec 32 := 42#32
  let v2710 : BitVec 32 := Scalar.addi v2709 c42_i32_1384
  let v2733 : Index := Scalar.indexCast v2710
  let c0_1395 : Index := 0#32
  ![v2733.toNat, 0]

def k0_chk131 (v2709 : BitVec 32) : Prop :=
  (∀ a, (k0_off681 v2709) a + S1x128.size a ≤ S128x128.size a)
theorem k0_off681_inb : ∀ (v2709 : BitVec 32) (k0_hw131 : k0_chk131 v2709), ∀ a, (k0_off681 v2709) a + S1x128.size a ≤ S128x128.size a := fun v2709 k0_hw131 => k0_hw131

def k0_off682 (v2749 : BitVec 32) (v2751 : BitVec 32) : Fin 3 → Nat :=
  let c0_i32_1408 : BitVec 32 := 0#32
  let v2753 : BitVec 1 := Scalar.cmpi .sgt v2751 c0_i32_1408
  let v2754 : BitVec 32 := Scalar.extui v2753
  let c0_i32_1409 : BitVec 32 := 0#32
  let v2755 : BitVec 1 := Scalar.cmpi .slt v2751 c0_i32_1409
  let v2756 : BitVec 32 := Scalar.extui v2755
  let v2757 : BitVec 32 := Scalar.subi v2754 v2756
  let c128_i32_1407 : BitVec 32 := 128#32
  let c0_i32_1410 : BitVec 32 := 0#32
  let v2758 : BitVec 1 := Scalar.cmpi .sgt c128_i32_1407 c0_i32_1410
  let v2759 : BitVec 32 := Scalar.extui v2758
  let c0_i32_1411 : BitVec 32 := 0#32
  let v2760 : BitVec 1 := Scalar.cmpi .slt c128_i32_1407 c0_i32_1411
  let v2761 : BitVec 32 := Scalar.extui v2760
  let v2762 : BitVec 32 := Scalar.subi v2759 v2761
  let v2763 : BitVec 1 := Scalar.cmpi .ne v2757 v2762
  let v2764 : BitVec 32 := Scalar.remsi v2751 c128_i32_1407
  let c0_i32_1412 : BitVec 32 := 0#32
  let v2765 : BitVec 1 := Scalar.cmpi .ne v2764 c0_i32_1412
  let v2766 : BitVec 1 := Scalar.andi v2763 v2765
  let v2752 : BitVec 32 := Scalar.divsi v2751 c128_i32_1407
  let c1_i32_1413 : BitVec 32 := 1#32
  let v2767 : BitVec 32 := Scalar.subi v2752 c1_i32_1413
  let v2768 : BitVec 32 := Scalar.select v2766 v2767 v2752
  let v2769 : Index := Scalar.indexCast v2768
  let c42_i32_1404 : BitVec 32 := 42#32
  let v2750 : BitVec 32 := Scalar.addi v2749 c42_i32_1404
  let v2770 : Index := Scalar.indexCast v2750
  let c0_1414 : Index := 0#32
  ![v2769.toNat, v2770.toNat, 0]

def k0_chk132 (v2749 : BitVec 32) (v2751 : BitVec 32) : Prop :=
  (∀ a, (k0_off682 v2749 v2751) a + S1x1x128.size a ≤ S250x128x128.size a)
theorem k0_off682_inb : ∀ (v2749 : BitVec 32) (v2751 : BitVec 32) (k0_hw132 : k0_chk132 v2749 v2751), ∀ a, (k0_off682 v2749 v2751) a + S1x1x128.size a ≤ S250x128x128.size a := fun v2749 v2751 k0_hw132 => k0_hw132

def k0_off683 (v2749 : BitVec 32) : Fin 2 → Nat :=
  let c42_i32_1404 : BitVec 32 := 42#32
  let v2750 : BitVec 32 := Scalar.addi v2749 c42_i32_1404
  let v2773 : Index := Scalar.indexCast v2750
  let c0_1415 : Index := 0#32
  ![v2773.toNat, 0]

def k0_chk133 (v2749 : BitVec 32) : Prop :=
  (∀ a, (k0_off683 v2749) a + S1x128.size a ≤ S128x128.size a)
theorem k0_off683_inb : ∀ (v2749 : BitVec 32) (k0_hw133 : k0_chk133 v2749), ∀ a, (k0_off683 v2749) a + S1x128.size a ≤ S128x128.size a := fun v2749 k0_hw133 => k0_hw133

def k0_off684 (v2789 : BitVec 32) (v2791 : BitVec 32) : Fin 3 → Nat :=
  let c0_i32_1428 : BitVec 32 := 0#32
  let v2793 : BitVec 1 := Scalar.cmpi .sgt v2791 c0_i32_1428
  let v2794 : BitVec 32 := Scalar.extui v2793
  let c0_i32_1429 : BitVec 32 := 0#32
  let v2795 : BitVec 1 := Scalar.cmpi .slt v2791 c0_i32_1429
  let v2796 : BitVec 32 := Scalar.extui v2795
  let v2797 : BitVec 32 := Scalar.subi v2794 v2796
  let c128_i32_1427 : BitVec 32 := 128#32
  let c0_i32_1430 : BitVec 32 := 0#32
  let v2798 : BitVec 1 := Scalar.cmpi .sgt c128_i32_1427 c0_i32_1430
  let v2799 : BitVec 32 := Scalar.extui v2798
  let c0_i32_1431 : BitVec 32 := 0#32
  let v2800 : BitVec 1 := Scalar.cmpi .slt c128_i32_1427 c0_i32_1431
  let v2801 : BitVec 32 := Scalar.extui v2800
  let v2802 : BitVec 32 := Scalar.subi v2799 v2801
  let v2803 : BitVec 1 := Scalar.cmpi .ne v2797 v2802
  let v2804 : BitVec 32 := Scalar.remsi v2791 c128_i32_1427
  let c0_i32_1432 : BitVec 32 := 0#32
  let v2805 : BitVec 1 := Scalar.cmpi .ne v2804 c0_i32_1432
  let v2806 : BitVec 1 := Scalar.andi v2803 v2805
  let v2792 : BitVec 32 := Scalar.divsi v2791 c128_i32_1427
  let c1_i32_1433 : BitVec 32 := 1#32
  let v2807 : BitVec 32 := Scalar.subi v2792 c1_i32_1433
  let v2808 : BitVec 32 := Scalar.select v2806 v2807 v2792
  let v2809 : Index := Scalar.indexCast v2808
  let c42_i32_1424 : BitVec 32 := 42#32
  let v2790 : BitVec 32 := Scalar.addi v2789 c42_i32_1424
  let v2810 : Index := Scalar.indexCast v2790
  let c0_1434 : Index := 0#32
  ![v2809.toNat, v2810.toNat, 0]

def k0_chk134 (v2789 : BitVec 32) (v2791 : BitVec 32) : Prop :=
  (∀ a, (k0_off684 v2789 v2791) a + S1x1x128.size a ≤ S250x128x128.size a)
theorem k0_off684_inb : ∀ (v2789 : BitVec 32) (v2791 : BitVec 32) (k0_hw134 : k0_chk134 v2789 v2791), ∀ a, (k0_off684 v2789 v2791) a + S1x1x128.size a ≤ S250x128x128.size a := fun v2789 v2791 k0_hw134 => k0_hw134

def k0_off685 (v2789 : BitVec 32) : Fin 2 → Nat :=
  let c42_i32_1424 : BitVec 32 := 42#32
  let v2790 : BitVec 32 := Scalar.addi v2789 c42_i32_1424
  let v2813 : Index := Scalar.indexCast v2790
  let c0_1435 : Index := 0#32
  ![v2813.toNat, 0]

def k0_chk135 (v2789 : BitVec 32) : Prop :=
  (∀ a, (k0_off685 v2789) a + S1x128.size a ≤ S128x128.size a)
theorem k0_off685_inb : ∀ (v2789 : BitVec 32) (k0_hw135 : k0_chk135 v2789), ∀ a, (k0_off685 v2789) a + S1x128.size a ≤ S128x128.size a := fun v2789 k0_hw135 => k0_hw135

def k0_off686 (v2829 : BitVec 32) (v2831 : BitVec 32) : Fin 3 → Nat :=
  let c0_i32_1448 : BitVec 32 := 0#32
  let v2833 : BitVec 1 := Scalar.cmpi .sgt v2831 c0_i32_1448
  let v2834 : BitVec 32 := Scalar.extui v2833
  let c0_i32_1449 : BitVec 32 := 0#32
  let v2835 : BitVec 1 := Scalar.cmpi .slt v2831 c0_i32_1449
  let v2836 : BitVec 32 := Scalar.extui v2835
  let v2837 : BitVec 32 := Scalar.subi v2834 v2836
  let c128_i32_1447 : BitVec 32 := 128#32
  let c0_i32_1450 : BitVec 32 := 0#32
  let v2838 : BitVec 1 := Scalar.cmpi .sgt c128_i32_1447 c0_i32_1450
  let v2839 : BitVec 32 := Scalar.extui v2838
  let c0_i32_1451 : BitVec 32 := 0#32
  let v2840 : BitVec 1 := Scalar.cmpi .slt c128_i32_1447 c0_i32_1451
  let v2841 : BitVec 32 := Scalar.extui v2840
  let v2842 : BitVec 32 := Scalar.subi v2839 v2841
  let v2843 : BitVec 1 := Scalar.cmpi .ne v2837 v2842
  let v2844 : BitVec 32 := Scalar.remsi v2831 c128_i32_1447
  let c0_i32_1452 : BitVec 32 := 0#32
  let v2845 : BitVec 1 := Scalar.cmpi .ne v2844 c0_i32_1452
  let v2846 : BitVec 1 := Scalar.andi v2843 v2845
  let v2832 : BitVec 32 := Scalar.divsi v2831 c128_i32_1447
  let c1_i32_1453 : BitVec 32 := 1#32
  let v2847 : BitVec 32 := Scalar.subi v2832 c1_i32_1453
  let v2848 : BitVec 32 := Scalar.select v2846 v2847 v2832
  let v2849 : Index := Scalar.indexCast v2848
  let c42_i32_1444 : BitVec 32 := 42#32
  let v2830 : BitVec 32 := Scalar.addi v2829 c42_i32_1444
  let v2850 : Index := Scalar.indexCast v2830
  let c0_1454 : Index := 0#32
  ![v2849.toNat, v2850.toNat, 0]

def k0_chk136 (v2829 : BitVec 32) (v2831 : BitVec 32) : Prop :=
  (∀ a, (k0_off686 v2829 v2831) a + S1x1x128.size a ≤ S250x128x128.size a)
theorem k0_off686_inb : ∀ (v2829 : BitVec 32) (v2831 : BitVec 32) (k0_hw136 : k0_chk136 v2829 v2831), ∀ a, (k0_off686 v2829 v2831) a + S1x1x128.size a ≤ S250x128x128.size a := fun v2829 v2831 k0_hw136 => k0_hw136

def k0_off687 (v2829 : BitVec 32) : Fin 2 → Nat :=
  let c42_i32_1444 : BitVec 32 := 42#32
  let v2830 : BitVec 32 := Scalar.addi v2829 c42_i32_1444
  let v2853 : Index := Scalar.indexCast v2830
  let c0_1455 : Index := 0#32
  ![v2853.toNat, 0]

def k0_chk137 (v2829 : BitVec 32) : Prop :=
  (∀ a, (k0_off687 v2829) a + S1x128.size a ≤ S128x128.size a)
theorem k0_off687_inb : ∀ (v2829 : BitVec 32) (k0_hw137 : k0_chk137 v2829), ∀ a, (k0_off687 v2829) a + S1x128.size a ≤ S128x128.size a := fun v2829 k0_hw137 => k0_hw137

def k0_off688 (v2869 : BitVec 32) (v2871 : BitVec 32) : Fin 3 → Nat :=
  let c0_i32_1468 : BitVec 32 := 0#32
  let v2873 : BitVec 1 := Scalar.cmpi .sgt v2871 c0_i32_1468
  let v2874 : BitVec 32 := Scalar.extui v2873
  let c0_i32_1469 : BitVec 32 := 0#32
  let v2875 : BitVec 1 := Scalar.cmpi .slt v2871 c0_i32_1469
  let v2876 : BitVec 32 := Scalar.extui v2875
  let v2877 : BitVec 32 := Scalar.subi v2874 v2876
  let c128_i32_1467 : BitVec 32 := 128#32
  let c0_i32_1470 : BitVec 32 := 0#32
  let v2878 : BitVec 1 := Scalar.cmpi .sgt c128_i32_1467 c0_i32_1470
  let v2879 : BitVec 32 := Scalar.extui v2878
  let c0_i32_1471 : BitVec 32 := 0#32
  let v2880 : BitVec 1 := Scalar.cmpi .slt c128_i32_1467 c0_i32_1471
  let v2881 : BitVec 32 := Scalar.extui v2880
  let v2882 : BitVec 32 := Scalar.subi v2879 v2881
  let v2883 : BitVec 1 := Scalar.cmpi .ne v2877 v2882
  let v2884 : BitVec 32 := Scalar.remsi v2871 c128_i32_1467
  let c0_i32_1472 : BitVec 32 := 0#32
  let v2885 : BitVec 1 := Scalar.cmpi .ne v2884 c0_i32_1472
  let v2886 : BitVec 1 := Scalar.andi v2883 v2885
  let v2872 : BitVec 32 := Scalar.divsi v2871 c128_i32_1467
  let c1_i32_1473 : BitVec 32 := 1#32
  let v2887 : BitVec 32 := Scalar.subi v2872 c1_i32_1473
  let v2888 : BitVec 32 := Scalar.select v2886 v2887 v2872
  let v2889 : Index := Scalar.indexCast v2888
  let c42_i32_1464 : BitVec 32 := 42#32
  let v2870 : BitVec 32 := Scalar.addi v2869 c42_i32_1464
  let v2890 : Index := Scalar.indexCast v2870
  let c0_1474 : Index := 0#32
  ![v2889.toNat, v2890.toNat, 0]

def k0_chk138 (v2869 : BitVec 32) (v2871 : BitVec 32) : Prop :=
  (∀ a, (k0_off688 v2869 v2871) a + S1x1x128.size a ≤ S250x128x128.size a)
theorem k0_off688_inb : ∀ (v2869 : BitVec 32) (v2871 : BitVec 32) (k0_hw138 : k0_chk138 v2869 v2871), ∀ a, (k0_off688 v2869 v2871) a + S1x1x128.size a ≤ S250x128x128.size a := fun v2869 v2871 k0_hw138 => k0_hw138

def k0_off689 (v2869 : BitVec 32) : Fin 2 → Nat :=
  let c42_i32_1464 : BitVec 32 := 42#32
  let v2870 : BitVec 32 := Scalar.addi v2869 c42_i32_1464
  let v2893 : Index := Scalar.indexCast v2870
  let c0_1475 : Index := 0#32
  ![v2893.toNat, 0]

def k0_chk139 (v2869 : BitVec 32) : Prop :=
  (∀ a, (k0_off689 v2869) a + S1x128.size a ≤ S128x128.size a)
theorem k0_off689_inb : ∀ (v2869 : BitVec 32) (k0_hw139 : k0_chk139 v2869), ∀ a, (k0_off689 v2869) a + S1x128.size a ≤ S128x128.size a := fun v2869 k0_hw139 => k0_hw139

def k0_off690 (v2909 : BitVec 32) (v2911 : BitVec 32) : Fin 3 → Nat :=
  let c0_i32_1488 : BitVec 32 := 0#32
  let v2913 : BitVec 1 := Scalar.cmpi .sgt v2911 c0_i32_1488
  let v2914 : BitVec 32 := Scalar.extui v2913
  let c0_i32_1489 : BitVec 32 := 0#32
  let v2915 : BitVec 1 := Scalar.cmpi .slt v2911 c0_i32_1489
  let v2916 : BitVec 32 := Scalar.extui v2915
  let v2917 : BitVec 32 := Scalar.subi v2914 v2916
  let c128_i32_1487 : BitVec 32 := 128#32
  let c0_i32_1490 : BitVec 32 := 0#32
  let v2918 : BitVec 1 := Scalar.cmpi .sgt c128_i32_1487 c0_i32_1490
  let v2919 : BitVec 32 := Scalar.extui v2918
  let c0_i32_1491 : BitVec 32 := 0#32
  let v2920 : BitVec 1 := Scalar.cmpi .slt c128_i32_1487 c0_i32_1491
  let v2921 : BitVec 32 := Scalar.extui v2920
  let v2922 : BitVec 32 := Scalar.subi v2919 v2921
  let v2923 : BitVec 1 := Scalar.cmpi .ne v2917 v2922
  let v2924 : BitVec 32 := Scalar.remsi v2911 c128_i32_1487
  let c0_i32_1492 : BitVec 32 := 0#32
  let v2925 : BitVec 1 := Scalar.cmpi .ne v2924 c0_i32_1492
  let v2926 : BitVec 1 := Scalar.andi v2923 v2925
  let v2912 : BitVec 32 := Scalar.divsi v2911 c128_i32_1487
  let c1_i32_1493 : BitVec 32 := 1#32
  let v2927 : BitVec 32 := Scalar.subi v2912 c1_i32_1493
  let v2928 : BitVec 32 := Scalar.select v2926 v2927 v2912
  let v2929 : Index := Scalar.indexCast v2928
  let c42_i32_1484 : BitVec 32 := 42#32
  let v2910 : BitVec 32 := Scalar.addi v2909 c42_i32_1484
  let v2930 : Index := Scalar.indexCast v2910
  let c0_1494 : Index := 0#32
  ![v2929.toNat, v2930.toNat, 0]

def k0_chk140 (v2909 : BitVec 32) (v2911 : BitVec 32) : Prop :=
  (∀ a, (k0_off690 v2909 v2911) a + S1x1x128.size a ≤ S250x128x128.size a)
theorem k0_off690_inb : ∀ (v2909 : BitVec 32) (v2911 : BitVec 32) (k0_hw140 : k0_chk140 v2909 v2911), ∀ a, (k0_off690 v2909 v2911) a + S1x1x128.size a ≤ S250x128x128.size a := fun v2909 v2911 k0_hw140 => k0_hw140

def k0_off691 (v2909 : BitVec 32) : Fin 2 → Nat :=
  let c42_i32_1484 : BitVec 32 := 42#32
  let v2910 : BitVec 32 := Scalar.addi v2909 c42_i32_1484
  let v2933 : Index := Scalar.indexCast v2910
  let c0_1495 : Index := 0#32
  ![v2933.toNat, 0]

def k0_chk141 (v2909 : BitVec 32) : Prop :=
  (∀ a, (k0_off691 v2909) a + S1x128.size a ≤ S128x128.size a)
theorem k0_off691_inb : ∀ (v2909 : BitVec 32) (k0_hw141 : k0_chk141 v2909), ∀ a, (k0_off691 v2909) a + S1x128.size a ≤ S128x128.size a := fun v2909 k0_hw141 => k0_hw141

def k0_off692 (v2949 : BitVec 32) (v2951 : BitVec 32) : Fin 3 → Nat :=
  let c0_i32_1508 : BitVec 32 := 0#32
  let v2953 : BitVec 1 := Scalar.cmpi .sgt v2951 c0_i32_1508
  let v2954 : BitVec 32 := Scalar.extui v2953
  let c0_i32_1509 : BitVec 32 := 0#32
  let v2955 : BitVec 1 := Scalar.cmpi .slt v2951 c0_i32_1509
  let v2956 : BitVec 32 := Scalar.extui v2955
  let v2957 : BitVec 32 := Scalar.subi v2954 v2956
  let c128_i32_1507 : BitVec 32 := 128#32
  let c0_i32_1510 : BitVec 32 := 0#32
  let v2958 : BitVec 1 := Scalar.cmpi .sgt c128_i32_1507 c0_i32_1510
  let v2959 : BitVec 32 := Scalar.extui v2958
  let c0_i32_1511 : BitVec 32 := 0#32
  let v2960 : BitVec 1 := Scalar.cmpi .slt c128_i32_1507 c0_i32_1511
  let v2961 : BitVec 32 := Scalar.extui v2960
  let v2962 : BitVec 32 := Scalar.subi v2959 v2961
  let v2963 : BitVec 1 := Scalar.cmpi .ne v2957 v2962
  let v2964 : BitVec 32 := Scalar.remsi v2951 c128_i32_1507
  let c0_i32_1512 : BitVec 32 := 0#32
  let v2965 : BitVec 1 := Scalar.cmpi .ne v2964 c0_i32_1512
  let v2966 : BitVec 1 := Scalar.andi v2963 v2965
  let v2952 : BitVec 32 := Scalar.divsi v2951 c128_i32_1507
  let c1_i32_1513 : BitVec 32 := 1#32
  let v2967 : BitVec 32 := Scalar.subi v2952 c1_i32_1513
  let v2968 : BitVec 32 := Scalar.select v2966 v2967 v2952
  let v2969 : Index := Scalar.indexCast v2968
  let c42_i32_1504 : BitVec 32 := 42#32
  let v2950 : BitVec 32 := Scalar.addi v2949 c42_i32_1504
  let v2970 : Index := Scalar.indexCast v2950
  let c0_1514 : Index := 0#32
  ![v2969.toNat, v2970.toNat, 0]

def k0_chk142 (v2949 : BitVec 32) (v2951 : BitVec 32) : Prop :=
  (∀ a, (k0_off692 v2949 v2951) a + S1x1x128.size a ≤ S250x128x128.size a)
theorem k0_off692_inb : ∀ (v2949 : BitVec 32) (v2951 : BitVec 32) (k0_hw142 : k0_chk142 v2949 v2951), ∀ a, (k0_off692 v2949 v2951) a + S1x1x128.size a ≤ S250x128x128.size a := fun v2949 v2951 k0_hw142 => k0_hw142

def k0_off693 (v2949 : BitVec 32) : Fin 2 → Nat :=
  let c42_i32_1504 : BitVec 32 := 42#32
  let v2950 : BitVec 32 := Scalar.addi v2949 c42_i32_1504
  let v2973 : Index := Scalar.indexCast v2950
  let c0_1515 : Index := 0#32
  ![v2973.toNat, 0]

def k0_chk143 (v2949 : BitVec 32) : Prop :=
  (∀ a, (k0_off693 v2949) a + S1x128.size a ≤ S128x128.size a)
theorem k0_off693_inb : ∀ (v2949 : BitVec 32) (k0_hw143 : k0_chk143 v2949), ∀ a, (k0_off693 v2949) a + S1x128.size a ≤ S128x128.size a := fun v2949 k0_hw143 => k0_hw143

def k0_off694 (v2989 : BitVec 32) (v2991 : BitVec 32) : Fin 3 → Nat :=
  let c0_i32_1528 : BitVec 32 := 0#32
  let v2993 : BitVec 1 := Scalar.cmpi .sgt v2991 c0_i32_1528
  let v2994 : BitVec 32 := Scalar.extui v2993
  let c0_i32_1529 : BitVec 32 := 0#32
  let v2995 : BitVec 1 := Scalar.cmpi .slt v2991 c0_i32_1529
  let v2996 : BitVec 32 := Scalar.extui v2995
  let v2997 : BitVec 32 := Scalar.subi v2994 v2996
  let c128_i32_1527 : BitVec 32 := 128#32
  let c0_i32_1530 : BitVec 32 := 0#32
  let v2998 : BitVec 1 := Scalar.cmpi .sgt c128_i32_1527 c0_i32_1530
  let v2999 : BitVec 32 := Scalar.extui v2998
  let c0_i32_1531 : BitVec 32 := 0#32
  let v3000 : BitVec 1 := Scalar.cmpi .slt c128_i32_1527 c0_i32_1531
  let v3001 : BitVec 32 := Scalar.extui v3000
  let v3002 : BitVec 32 := Scalar.subi v2999 v3001
  let v3003 : BitVec 1 := Scalar.cmpi .ne v2997 v3002
  let v3004 : BitVec 32 := Scalar.remsi v2991 c128_i32_1527
  let c0_i32_1532 : BitVec 32 := 0#32
  let v3005 : BitVec 1 := Scalar.cmpi .ne v3004 c0_i32_1532
  let v3006 : BitVec 1 := Scalar.andi v3003 v3005
  let v2992 : BitVec 32 := Scalar.divsi v2991 c128_i32_1527
  let c1_i32_1533 : BitVec 32 := 1#32
  let v3007 : BitVec 32 := Scalar.subi v2992 c1_i32_1533
  let v3008 : BitVec 32 := Scalar.select v3006 v3007 v2992
  let v3009 : Index := Scalar.indexCast v3008
  let c42_i32_1524 : BitVec 32 := 42#32
  let v2990 : BitVec 32 := Scalar.addi v2989 c42_i32_1524
  let v3010 : Index := Scalar.indexCast v2990
  let c0_1534 : Index := 0#32
  ![v3009.toNat, v3010.toNat, 0]

def k0_chk144 (v2989 : BitVec 32) (v2991 : BitVec 32) : Prop :=
  (∀ a, (k0_off694 v2989 v2991) a + S1x1x128.size a ≤ S250x128x128.size a)
theorem k0_off694_inb : ∀ (v2989 : BitVec 32) (v2991 : BitVec 32) (k0_hw144 : k0_chk144 v2989 v2991), ∀ a, (k0_off694 v2989 v2991) a + S1x1x128.size a ≤ S250x128x128.size a := fun v2989 v2991 k0_hw144 => k0_hw144

def k0_off695 (v2989 : BitVec 32) : Fin 2 → Nat :=
  let c42_i32_1524 : BitVec 32 := 42#32
  let v2990 : BitVec 32 := Scalar.addi v2989 c42_i32_1524
  let v3013 : Index := Scalar.indexCast v2990
  let c0_1535 : Index := 0#32
  ![v3013.toNat, 0]

def k0_chk145 (v2989 : BitVec 32) : Prop :=
  (∀ a, (k0_off695 v2989) a + S1x128.size a ≤ S128x128.size a)
theorem k0_off695_inb : ∀ (v2989 : BitVec 32) (k0_hw145 : k0_chk145 v2989), ∀ a, (k0_off695 v2989) a + S1x128.size a ≤ S128x128.size a := fun v2989 k0_hw145 => k0_hw145

def k0_off696 (v3029 : BitVec 32) (v3031 : BitVec 32) : Fin 3 → Nat :=
  let c0_i32_1548 : BitVec 32 := 0#32
  let v3033 : BitVec 1 := Scalar.cmpi .sgt v3031 c0_i32_1548
  let v3034 : BitVec 32 := Scalar.extui v3033
  let c0_i32_1549 : BitVec 32 := 0#32
  let v3035 : BitVec 1 := Scalar.cmpi .slt v3031 c0_i32_1549
  let v3036 : BitVec 32 := Scalar.extui v3035
  let v3037 : BitVec 32 := Scalar.subi v3034 v3036
  let c128_i32_1547 : BitVec 32 := 128#32
  let c0_i32_1550 : BitVec 32 := 0#32
  let v3038 : BitVec 1 := Scalar.cmpi .sgt c128_i32_1547 c0_i32_1550
  let v3039 : BitVec 32 := Scalar.extui v3038
  let c0_i32_1551 : BitVec 32 := 0#32
  let v3040 : BitVec 1 := Scalar.cmpi .slt c128_i32_1547 c0_i32_1551
  let v3041 : BitVec 32 := Scalar.extui v3040
  let v3042 : BitVec 32 := Scalar.subi v3039 v3041
  let v3043 : BitVec 1 := Scalar.cmpi .ne v3037 v3042
  let v3044 : BitVec 32 := Scalar.remsi v3031 c128_i32_1547
  let c0_i32_1552 : BitVec 32 := 0#32
  let v3045 : BitVec 1 := Scalar.cmpi .ne v3044 c0_i32_1552
  let v3046 : BitVec 1 := Scalar.andi v3043 v3045
  let v3032 : BitVec 32 := Scalar.divsi v3031 c128_i32_1547
  let c1_i32_1553 : BitVec 32 := 1#32
  let v3047 : BitVec 32 := Scalar.subi v3032 c1_i32_1553
  let v3048 : BitVec 32 := Scalar.select v3046 v3047 v3032
  let v3049 : Index := Scalar.indexCast v3048
  let c42_i32_1544 : BitVec 32 := 42#32
  let v3030 : BitVec 32 := Scalar.addi v3029 c42_i32_1544
  let v3050 : Index := Scalar.indexCast v3030
  let c0_1554 : Index := 0#32
  ![v3049.toNat, v3050.toNat, 0]

def k0_chk146 (v3029 : BitVec 32) (v3031 : BitVec 32) : Prop :=
  (∀ a, (k0_off696 v3029 v3031) a + S1x1x128.size a ≤ S250x128x128.size a)
theorem k0_off696_inb : ∀ (v3029 : BitVec 32) (v3031 : BitVec 32) (k0_hw146 : k0_chk146 v3029 v3031), ∀ a, (k0_off696 v3029 v3031) a + S1x1x128.size a ≤ S250x128x128.size a := fun v3029 v3031 k0_hw146 => k0_hw146

def k0_off697 (v3029 : BitVec 32) : Fin 2 → Nat :=
  let c42_i32_1544 : BitVec 32 := 42#32
  let v3030 : BitVec 32 := Scalar.addi v3029 c42_i32_1544
  let v3053 : Index := Scalar.indexCast v3030
  let c0_1555 : Index := 0#32
  ![v3053.toNat, 0]

def k0_chk147 (v3029 : BitVec 32) : Prop :=
  (∀ a, (k0_off697 v3029) a + S1x128.size a ≤ S128x128.size a)
theorem k0_off697_inb : ∀ (v3029 : BitVec 32) (k0_hw147 : k0_chk147 v3029), ∀ a, (k0_off697 v3029) a + S1x128.size a ≤ S128x128.size a := fun v3029 k0_hw147 => k0_hw147

def k0_off698 (v3069 : BitVec 32) (v3071 : BitVec 32) : Fin 3 → Nat :=
  let c0_i32_1568 : BitVec 32 := 0#32
  let v3073 : BitVec 1 := Scalar.cmpi .sgt v3071 c0_i32_1568
  let v3074 : BitVec 32 := Scalar.extui v3073
  let c0_i32_1569 : BitVec 32 := 0#32
  let v3075 : BitVec 1 := Scalar.cmpi .slt v3071 c0_i32_1569
  let v3076 : BitVec 32 := Scalar.extui v3075
  let v3077 : BitVec 32 := Scalar.subi v3074 v3076
  let c128_i32_1567 : BitVec 32 := 128#32
  let c0_i32_1570 : BitVec 32 := 0#32
  let v3078 : BitVec 1 := Scalar.cmpi .sgt c128_i32_1567 c0_i32_1570
  let v3079 : BitVec 32 := Scalar.extui v3078
  let c0_i32_1571 : BitVec 32 := 0#32
  let v3080 : BitVec 1 := Scalar.cmpi .slt c128_i32_1567 c0_i32_1571
  let v3081 : BitVec 32 := Scalar.extui v3080
  let v3082 : BitVec 32 := Scalar.subi v3079 v3081
  let v3083 : BitVec 1 := Scalar.cmpi .ne v3077 v3082
  let v3084 : BitVec 32 := Scalar.remsi v3071 c128_i32_1567
  let c0_i32_1572 : BitVec 32 := 0#32
  let v3085 : BitVec 1 := Scalar.cmpi .ne v3084 c0_i32_1572
  let v3086 : BitVec 1 := Scalar.andi v3083 v3085
  let v3072 : BitVec 32 := Scalar.divsi v3071 c128_i32_1567
  let c1_i32_1573 : BitVec 32 := 1#32
  let v3087 : BitVec 32 := Scalar.subi v3072 c1_i32_1573
  let v3088 : BitVec 32 := Scalar.select v3086 v3087 v3072
  let v3089 : Index := Scalar.indexCast v3088
  let c42_i32_1564 : BitVec 32 := 42#32
  let v3070 : BitVec 32 := Scalar.addi v3069 c42_i32_1564
  let v3090 : Index := Scalar.indexCast v3070
  let c0_1574 : Index := 0#32
  ![v3089.toNat, v3090.toNat, 0]

def k0_chk148 (v3069 : BitVec 32) (v3071 : BitVec 32) : Prop :=
  (∀ a, (k0_off698 v3069 v3071) a + S1x1x128.size a ≤ S250x128x128.size a)
theorem k0_off698_inb : ∀ (v3069 : BitVec 32) (v3071 : BitVec 32) (k0_hw148 : k0_chk148 v3069 v3071), ∀ a, (k0_off698 v3069 v3071) a + S1x1x128.size a ≤ S250x128x128.size a := fun v3069 v3071 k0_hw148 => k0_hw148

def k0_off699 (v3069 : BitVec 32) : Fin 2 → Nat :=
  let c42_i32_1564 : BitVec 32 := 42#32
  let v3070 : BitVec 32 := Scalar.addi v3069 c42_i32_1564
  let v3093 : Index := Scalar.indexCast v3070
  let c0_1575 : Index := 0#32
  ![v3093.toNat, 0]

def k0_chk149 (v3069 : BitVec 32) : Prop :=
  (∀ a, (k0_off699 v3069) a + S1x128.size a ≤ S128x128.size a)
theorem k0_off699_inb : ∀ (v3069 : BitVec 32) (k0_hw149 : k0_chk149 v3069), ∀ a, (k0_off699 v3069) a + S1x128.size a ≤ S128x128.size a := fun v3069 k0_hw149 => k0_hw149

def k0_off700 (v3109 : BitVec 32) (v3111 : BitVec 32) : Fin 3 → Nat :=
  let c0_i32_1588 : BitVec 32 := 0#32
  let v3113 : BitVec 1 := Scalar.cmpi .sgt v3111 c0_i32_1588
  let v3114 : BitVec 32 := Scalar.extui v3113
  let c0_i32_1589 : BitVec 32 := 0#32
  let v3115 : BitVec 1 := Scalar.cmpi .slt v3111 c0_i32_1589
  let v3116 : BitVec 32 := Scalar.extui v3115
  let v3117 : BitVec 32 := Scalar.subi v3114 v3116
  let c128_i32_1587 : BitVec 32 := 128#32
  let c0_i32_1590 : BitVec 32 := 0#32
  let v3118 : BitVec 1 := Scalar.cmpi .sgt c128_i32_1587 c0_i32_1590
  let v3119 : BitVec 32 := Scalar.extui v3118
  let c0_i32_1591 : BitVec 32 := 0#32
  let v3120 : BitVec 1 := Scalar.cmpi .slt c128_i32_1587 c0_i32_1591
  let v3121 : BitVec 32 := Scalar.extui v3120
  let v3122 : BitVec 32 := Scalar.subi v3119 v3121
  let v3123 : BitVec 1 := Scalar.cmpi .ne v3117 v3122
  let v3124 : BitVec 32 := Scalar.remsi v3111 c128_i32_1587
  let c0_i32_1592 : BitVec 32 := 0#32
  let v3125 : BitVec 1 := Scalar.cmpi .ne v3124 c0_i32_1592
  let v3126 : BitVec 1 := Scalar.andi v3123 v3125
  let v3112 : BitVec 32 := Scalar.divsi v3111 c128_i32_1587
  let c1_i32_1593 : BitVec 32 := 1#32
  let v3127 : BitVec 32 := Scalar.subi v3112 c1_i32_1593
  let v3128 : BitVec 32 := Scalar.select v3126 v3127 v3112
  let v3129 : Index := Scalar.indexCast v3128
  let c42_i32_1584 : BitVec 32 := 42#32
  let v3110 : BitVec 32 := Scalar.addi v3109 c42_i32_1584
  let v3130 : Index := Scalar.indexCast v3110
  let c0_1594 : Index := 0#32
  ![v3129.toNat, v3130.toNat, 0]

def k0_chk150 (v3109 : BitVec 32) (v3111 : BitVec 32) : Prop :=
  (∀ a, (k0_off700 v3109 v3111) a + S1x1x128.size a ≤ S250x128x128.size a)
theorem k0_off700_inb : ∀ (v3109 : BitVec 32) (v3111 : BitVec 32) (k0_hw150 : k0_chk150 v3109 v3111), ∀ a, (k0_off700 v3109 v3111) a + S1x1x128.size a ≤ S250x128x128.size a := fun v3109 v3111 k0_hw150 => k0_hw150

def k0_off701 (v3109 : BitVec 32) : Fin 2 → Nat :=
  let c42_i32_1584 : BitVec 32 := 42#32
  let v3110 : BitVec 32 := Scalar.addi v3109 c42_i32_1584
  let v3133 : Index := Scalar.indexCast v3110
  let c0_1595 : Index := 0#32
  ![v3133.toNat, 0]

def k0_chk151 (v3109 : BitVec 32) : Prop :=
  (∀ a, (k0_off701 v3109) a + S1x128.size a ≤ S128x128.size a)
theorem k0_off701_inb : ∀ (v3109 : BitVec 32) (k0_hw151 : k0_chk151 v3109), ∀ a, (k0_off701 v3109) a + S1x128.size a ≤ S128x128.size a := fun v3109 k0_hw151 => k0_hw151

def k0_off702 (v3149 : BitVec 32) (v3151 : BitVec 32) : Fin 3 → Nat :=
  let c0_i32_1608 : BitVec 32 := 0#32
  let v3153 : BitVec 1 := Scalar.cmpi .sgt v3151 c0_i32_1608
  let v3154 : BitVec 32 := Scalar.extui v3153
  let c0_i32_1609 : BitVec 32 := 0#32
  let v3155 : BitVec 1 := Scalar.cmpi .slt v3151 c0_i32_1609
  let v3156 : BitVec 32 := Scalar.extui v3155
  let v3157 : BitVec 32 := Scalar.subi v3154 v3156
  let c128_i32_1607 : BitVec 32 := 128#32
  let c0_i32_1610 : BitVec 32 := 0#32
  let v3158 : BitVec 1 := Scalar.cmpi .sgt c128_i32_1607 c0_i32_1610
  let v3159 : BitVec 32 := Scalar.extui v3158
  let c0_i32_1611 : BitVec 32 := 0#32
  let v3160 : BitVec 1 := Scalar.cmpi .slt c128_i32_1607 c0_i32_1611
  let v3161 : BitVec 32 := Scalar.extui v3160
  let v3162 : BitVec 32 := Scalar.subi v3159 v3161
  let v3163 : BitVec 1 := Scalar.cmpi .ne v3157 v3162
  let v3164 : BitVec 32 := Scalar.remsi v3151 c128_i32_1607
  let c0_i32_1612 : BitVec 32 := 0#32
  let v3165 : BitVec 1 := Scalar.cmpi .ne v3164 c0_i32_1612
  let v3166 : BitVec 1 := Scalar.andi v3163 v3165
  let v3152 : BitVec 32 := Scalar.divsi v3151 c128_i32_1607
  let c1_i32_1613 : BitVec 32 := 1#32
  let v3167 : BitVec 32 := Scalar.subi v3152 c1_i32_1613
  let v3168 : BitVec 32 := Scalar.select v3166 v3167 v3152
  let v3169 : Index := Scalar.indexCast v3168
  let c42_i32_1604 : BitVec 32 := 42#32
  let v3150 : BitVec 32 := Scalar.addi v3149 c42_i32_1604
  let v3170 : Index := Scalar.indexCast v3150
  let c0_1614 : Index := 0#32
  ![v3169.toNat, v3170.toNat, 0]

def k0_chk152 (v3149 : BitVec 32) (v3151 : BitVec 32) : Prop :=
  (∀ a, (k0_off702 v3149 v3151) a + S1x1x128.size a ≤ S250x128x128.size a)
theorem k0_off702_inb : ∀ (v3149 : BitVec 32) (v3151 : BitVec 32) (k0_hw152 : k0_chk152 v3149 v3151), ∀ a, (k0_off702 v3149 v3151) a + S1x1x128.size a ≤ S250x128x128.size a := fun v3149 v3151 k0_hw152 => k0_hw152

def k0_off703 (v3149 : BitVec 32) : Fin 2 → Nat :=
  let c42_i32_1604 : BitVec 32 := 42#32
  let v3150 : BitVec 32 := Scalar.addi v3149 c42_i32_1604
  let v3173 : Index := Scalar.indexCast v3150
  let c0_1615 : Index := 0#32
  ![v3173.toNat, 0]

def k0_chk153 (v3149 : BitVec 32) : Prop :=
  (∀ a, (k0_off703 v3149) a + S1x128.size a ≤ S128x128.size a)
theorem k0_off703_inb : ∀ (v3149 : BitVec 32) (k0_hw153 : k0_chk153 v3149), ∀ a, (k0_off703 v3149) a + S1x128.size a ≤ S128x128.size a := fun v3149 k0_hw153 => k0_hw153

def k0_off704 (v3189 : BitVec 32) (v3191 : BitVec 32) : Fin 3 → Nat :=
  let c0_i32_1628 : BitVec 32 := 0#32
  let v3193 : BitVec 1 := Scalar.cmpi .sgt v3191 c0_i32_1628
  let v3194 : BitVec 32 := Scalar.extui v3193
  let c0_i32_1629 : BitVec 32 := 0#32
  let v3195 : BitVec 1 := Scalar.cmpi .slt v3191 c0_i32_1629
  let v3196 : BitVec 32 := Scalar.extui v3195
  let v3197 : BitVec 32 := Scalar.subi v3194 v3196
  let c128_i32_1627 : BitVec 32 := 128#32
  let c0_i32_1630 : BitVec 32 := 0#32
  let v3198 : BitVec 1 := Scalar.cmpi .sgt c128_i32_1627 c0_i32_1630
  let v3199 : BitVec 32 := Scalar.extui v3198
  let c0_i32_1631 : BitVec 32 := 0#32
  let v3200 : BitVec 1 := Scalar.cmpi .slt c128_i32_1627 c0_i32_1631
  let v3201 : BitVec 32 := Scalar.extui v3200
  let v3202 : BitVec 32 := Scalar.subi v3199 v3201
  let v3203 : BitVec 1 := Scalar.cmpi .ne v3197 v3202
  let v3204 : BitVec 32 := Scalar.remsi v3191 c128_i32_1627
  let c0_i32_1632 : BitVec 32 := 0#32
  let v3205 : BitVec 1 := Scalar.cmpi .ne v3204 c0_i32_1632
  let v3206 : BitVec 1 := Scalar.andi v3203 v3205
  let v3192 : BitVec 32 := Scalar.divsi v3191 c128_i32_1627
  let c1_i32_1633 : BitVec 32 := 1#32
  let v3207 : BitVec 32 := Scalar.subi v3192 c1_i32_1633
  let v3208 : BitVec 32 := Scalar.select v3206 v3207 v3192
  let v3209 : Index := Scalar.indexCast v3208
  let c42_i32_1624 : BitVec 32 := 42#32
  let v3190 : BitVec 32 := Scalar.addi v3189 c42_i32_1624
  let v3210 : Index := Scalar.indexCast v3190
  let c0_1634 : Index := 0#32
  ![v3209.toNat, v3210.toNat, 0]

def k0_chk154 (v3189 : BitVec 32) (v3191 : BitVec 32) : Prop :=
  (∀ a, (k0_off704 v3189 v3191) a + S1x1x128.size a ≤ S250x128x128.size a)
theorem k0_off704_inb : ∀ (v3189 : BitVec 32) (v3191 : BitVec 32) (k0_hw154 : k0_chk154 v3189 v3191), ∀ a, (k0_off704 v3189 v3191) a + S1x1x128.size a ≤ S250x128x128.size a := fun v3189 v3191 k0_hw154 => k0_hw154

def k0_off705 (v3189 : BitVec 32) : Fin 2 → Nat :=
  let c42_i32_1624 : BitVec 32 := 42#32
  let v3190 : BitVec 32 := Scalar.addi v3189 c42_i32_1624
  let v3213 : Index := Scalar.indexCast v3190
  let c0_1635 : Index := 0#32
  ![v3213.toNat, 0]

def k0_chk155 (v3189 : BitVec 32) : Prop :=
  (∀ a, (k0_off705 v3189) a + S1x128.size a ≤ S128x128.size a)
theorem k0_off705_inb : ∀ (v3189 : BitVec 32) (k0_hw155 : k0_chk155 v3189), ∀ a, (k0_off705 v3189) a + S1x128.size a ≤ S128x128.size a := fun v3189 k0_hw155 => k0_hw155

def k0_off706 (v3229 : BitVec 32) (v3231 : BitVec 32) : Fin 3 → Nat :=
  let c0_i32_1648 : BitVec 32 := 0#32
  let v3233 : BitVec 1 := Scalar.cmpi .sgt v3231 c0_i32_1648
  let v3234 : BitVec 32 := Scalar.extui v3233
  let c0_i32_1649 : BitVec 32 := 0#32
  let v3235 : BitVec 1 := Scalar.cmpi .slt v3231 c0_i32_1649
  let v3236 : BitVec 32 := Scalar.extui v3235
  let v3237 : BitVec 32 := Scalar.subi v3234 v3236
  let c128_i32_1647 : BitVec 32 := 128#32
  let c0_i32_1650 : BitVec 32 := 0#32
  let v3238 : BitVec 1 := Scalar.cmpi .sgt c128_i32_1647 c0_i32_1650
  let v3239 : BitVec 32 := Scalar.extui v3238
  let c0_i32_1651 : BitVec 32 := 0#32
  let v3240 : BitVec 1 := Scalar.cmpi .slt c128_i32_1647 c0_i32_1651
  let v3241 : BitVec 32 := Scalar.extui v3240
  let v3242 : BitVec 32 := Scalar.subi v3239 v3241
  let v3243 : BitVec 1 := Scalar.cmpi .ne v3237 v3242
  let v3244 : BitVec 32 := Scalar.remsi v3231 c128_i32_1647
  let c0_i32_1652 : BitVec 32 := 0#32
  let v3245 : BitVec 1 := Scalar.cmpi .ne v3244 c0_i32_1652
  let v3246 : BitVec 1 := Scalar.andi v3243 v3245
  let v3232 : BitVec 32 := Scalar.divsi v3231 c128_i32_1647
  let c1_i32_1653 : BitVec 32 := 1#32
  let v3247 : BitVec 32 := Scalar.subi v3232 c1_i32_1653
  let v3248 : BitVec 32 := Scalar.select v3246 v3247 v3232
  let v3249 : Index := Scalar.indexCast v3248
  let c42_i32_1644 : BitVec 32 := 42#32
  let v3230 : BitVec 32 := Scalar.addi v3229 c42_i32_1644
  let v3250 : Index := Scalar.indexCast v3230
  let c0_1654 : Index := 0#32
  ![v3249.toNat, v3250.toNat, 0]

def k0_chk156 (v3229 : BitVec 32) (v3231 : BitVec 32) : Prop :=
  (∀ a, (k0_off706 v3229 v3231) a + S1x1x128.size a ≤ S250x128x128.size a)
theorem k0_off706_inb : ∀ (v3229 : BitVec 32) (v3231 : BitVec 32) (k0_hw156 : k0_chk156 v3229 v3231), ∀ a, (k0_off706 v3229 v3231) a + S1x1x128.size a ≤ S250x128x128.size a := fun v3229 v3231 k0_hw156 => k0_hw156

def k0_off707 (v3229 : BitVec 32) : Fin 2 → Nat :=
  let c42_i32_1644 : BitVec 32 := 42#32
  let v3230 : BitVec 32 := Scalar.addi v3229 c42_i32_1644
  let v3253 : Index := Scalar.indexCast v3230
  let c0_1655 : Index := 0#32
  ![v3253.toNat, 0]

def k0_chk157 (v3229 : BitVec 32) : Prop :=
  (∀ a, (k0_off707 v3229) a + S1x128.size a ≤ S128x128.size a)
theorem k0_off707_inb : ∀ (v3229 : BitVec 32) (k0_hw157 : k0_chk157 v3229), ∀ a, (k0_off707 v3229) a + S1x128.size a ≤ S128x128.size a := fun v3229 k0_hw157 => k0_hw157

def k0_off708 (v3269 : BitVec 32) (v3271 : BitVec 32) : Fin 3 → Nat :=
  let c0_i32_1668 : BitVec 32 := 0#32
  let v3273 : BitVec 1 := Scalar.cmpi .sgt v3271 c0_i32_1668
  let v3274 : BitVec 32 := Scalar.extui v3273
  let c0_i32_1669 : BitVec 32 := 0#32
  let v3275 : BitVec 1 := Scalar.cmpi .slt v3271 c0_i32_1669
  let v3276 : BitVec 32 := Scalar.extui v3275
  let v3277 : BitVec 32 := Scalar.subi v3274 v3276
  let c128_i32_1667 : BitVec 32 := 128#32
  let c0_i32_1670 : BitVec 32 := 0#32
  let v3278 : BitVec 1 := Scalar.cmpi .sgt c128_i32_1667 c0_i32_1670
  let v3279 : BitVec 32 := Scalar.extui v3278
  let c0_i32_1671 : BitVec 32 := 0#32
  let v3280 : BitVec 1 := Scalar.cmpi .slt c128_i32_1667 c0_i32_1671
  let v3281 : BitVec 32 := Scalar.extui v3280
  let v3282 : BitVec 32 := Scalar.subi v3279 v3281
  let v3283 : BitVec 1 := Scalar.cmpi .ne v3277 v3282
  let v3284 : BitVec 32 := Scalar.remsi v3271 c128_i32_1667
  let c0_i32_1672 : BitVec 32 := 0#32
  let v3285 : BitVec 1 := Scalar.cmpi .ne v3284 c0_i32_1672
  let v3286 : BitVec 1 := Scalar.andi v3283 v3285
  let v3272 : BitVec 32 := Scalar.divsi v3271 c128_i32_1667
  let c1_i32_1673 : BitVec 32 := 1#32
  let v3287 : BitVec 32 := Scalar.subi v3272 c1_i32_1673
  let v3288 : BitVec 32 := Scalar.select v3286 v3287 v3272
  let v3289 : Index := Scalar.indexCast v3288
  let c42_i32_1664 : BitVec 32 := 42#32
  let v3270 : BitVec 32 := Scalar.addi v3269 c42_i32_1664
  let v3290 : Index := Scalar.indexCast v3270
  let c0_1674 : Index := 0#32
  ![v3289.toNat, v3290.toNat, 0]

def k0_chk158 (v3269 : BitVec 32) (v3271 : BitVec 32) : Prop :=
  (∀ a, (k0_off708 v3269 v3271) a + S1x1x128.size a ≤ S250x128x128.size a)
theorem k0_off708_inb : ∀ (v3269 : BitVec 32) (v3271 : BitVec 32) (k0_hw158 : k0_chk158 v3269 v3271), ∀ a, (k0_off708 v3269 v3271) a + S1x1x128.size a ≤ S250x128x128.size a := fun v3269 v3271 k0_hw158 => k0_hw158

def k0_off709 (v3269 : BitVec 32) : Fin 2 → Nat :=
  let c42_i32_1664 : BitVec 32 := 42#32
  let v3270 : BitVec 32 := Scalar.addi v3269 c42_i32_1664
  let v3293 : Index := Scalar.indexCast v3270
  let c0_1675 : Index := 0#32
  ![v3293.toNat, 0]

def k0_chk159 (v3269 : BitVec 32) : Prop :=
  (∀ a, (k0_off709 v3269) a + S1x128.size a ≤ S128x128.size a)
theorem k0_off709_inb : ∀ (v3269 : BitVec 32) (k0_hw159 : k0_chk159 v3269), ∀ a, (k0_off709 v3269) a + S1x128.size a ≤ S128x128.size a := fun v3269 k0_hw159 => k0_hw159

def k0_off710 (v3309 : BitVec 32) (v3311 : BitVec 32) : Fin 3 → Nat :=
  let c0_i32_1688 : BitVec 32 := 0#32
  let v3313 : BitVec 1 := Scalar.cmpi .sgt v3311 c0_i32_1688
  let v3314 : BitVec 32 := Scalar.extui v3313
  let c0_i32_1689 : BitVec 32 := 0#32
  let v3315 : BitVec 1 := Scalar.cmpi .slt v3311 c0_i32_1689
  let v3316 : BitVec 32 := Scalar.extui v3315
  let v3317 : BitVec 32 := Scalar.subi v3314 v3316
  let c128_i32_1687 : BitVec 32 := 128#32
  let c0_i32_1690 : BitVec 32 := 0#32
  let v3318 : BitVec 1 := Scalar.cmpi .sgt c128_i32_1687 c0_i32_1690
  let v3319 : BitVec 32 := Scalar.extui v3318
  let c0_i32_1691 : BitVec 32 := 0#32
  let v3320 : BitVec 1 := Scalar.cmpi .slt c128_i32_1687 c0_i32_1691
  let v3321 : BitVec 32 := Scalar.extui v3320
  let v3322 : BitVec 32 := Scalar.subi v3319 v3321
  let v3323 : BitVec 1 := Scalar.cmpi .ne v3317 v3322
  let v3324 : BitVec 32 := Scalar.remsi v3311 c128_i32_1687
  let c0_i32_1692 : BitVec 32 := 0#32
  let v3325 : BitVec 1 := Scalar.cmpi .ne v3324 c0_i32_1692
  let v3326 : BitVec 1 := Scalar.andi v3323 v3325
  let v3312 : BitVec 32 := Scalar.divsi v3311 c128_i32_1687
  let c1_i32_1693 : BitVec 32 := 1#32
  let v3327 : BitVec 32 := Scalar.subi v3312 c1_i32_1693
  let v3328 : BitVec 32 := Scalar.select v3326 v3327 v3312
  let v3329 : Index := Scalar.indexCast v3328
  let c42_i32_1684 : BitVec 32 := 42#32
  let v3310 : BitVec 32 := Scalar.addi v3309 c42_i32_1684
  let v3330 : Index := Scalar.indexCast v3310
  let c0_1694 : Index := 0#32
  ![v3329.toNat, v3330.toNat, 0]

def k0_chk160 (v3309 : BitVec 32) (v3311 : BitVec 32) : Prop :=
  (∀ a, (k0_off710 v3309 v3311) a + S1x1x128.size a ≤ S250x128x128.size a)
theorem k0_off710_inb : ∀ (v3309 : BitVec 32) (v3311 : BitVec 32) (k0_hw160 : k0_chk160 v3309 v3311), ∀ a, (k0_off710 v3309 v3311) a + S1x1x128.size a ≤ S250x128x128.size a := fun v3309 v3311 k0_hw160 => k0_hw160

def k0_off711 (v3309 : BitVec 32) : Fin 2 → Nat :=
  let c42_i32_1684 : BitVec 32 := 42#32
  let v3310 : BitVec 32 := Scalar.addi v3309 c42_i32_1684
  let v3333 : Index := Scalar.indexCast v3310
  let c0_1695 : Index := 0#32
  ![v3333.toNat, 0]

def k0_chk161 (v3309 : BitVec 32) : Prop :=
  (∀ a, (k0_off711 v3309) a + S1x128.size a ≤ S128x128.size a)
theorem k0_off711_inb : ∀ (v3309 : BitVec 32) (k0_hw161 : k0_chk161 v3309), ∀ a, (k0_off711 v3309) a + S1x128.size a ≤ S128x128.size a := fun v3309 k0_hw161 => k0_hw161

def k0_off712 (v3349 : BitVec 32) (v3351 : BitVec 32) : Fin 3 → Nat :=
  let c0_i32_1708 : BitVec 32 := 0#32
  let v3353 : BitVec 1 := Scalar.cmpi .sgt v3351 c0_i32_1708
  let v3354 : BitVec 32 := Scalar.extui v3353
  let c0_i32_1709 : BitVec 32 := 0#32
  let v3355 : BitVec 1 := Scalar.cmpi .slt v3351 c0_i32_1709
  let v3356 : BitVec 32 := Scalar.extui v3355
  let v3357 : BitVec 32 := Scalar.subi v3354 v3356
  let c128_i32_1707 : BitVec 32 := 128#32
  let c0_i32_1710 : BitVec 32 := 0#32
  let v3358 : BitVec 1 := Scalar.cmpi .sgt c128_i32_1707 c0_i32_1710
  let v3359 : BitVec 32 := Scalar.extui v3358
  let c0_i32_1711 : BitVec 32 := 0#32
  let v3360 : BitVec 1 := Scalar.cmpi .slt c128_i32_1707 c0_i32_1711
  let v3361 : BitVec 32 := Scalar.extui v3360
  let v3362 : BitVec 32 := Scalar.subi v3359 v3361
  let v3363 : BitVec 1 := Scalar.cmpi .ne v3357 v3362
  let v3364 : BitVec 32 := Scalar.remsi v3351 c128_i32_1707
  let c0_i32_1712 : BitVec 32 := 0#32
  let v3365 : BitVec 1 := Scalar.cmpi .ne v3364 c0_i32_1712
  let v3366 : BitVec 1 := Scalar.andi v3363 v3365
  let v3352 : BitVec 32 := Scalar.divsi v3351 c128_i32_1707
  let c1_i32_1713 : BitVec 32 := 1#32
  let v3367 : BitVec 32 := Scalar.subi v3352 c1_i32_1713
  let v3368 : BitVec 32 := Scalar.select v3366 v3367 v3352
  let v3369 : Index := Scalar.indexCast v3368
  let c42_i32_1704 : BitVec 32 := 42#32
  let v3350 : BitVec 32 := Scalar.addi v3349 c42_i32_1704
  let v3370 : Index := Scalar.indexCast v3350
  let c0_1714 : Index := 0#32
  ![v3369.toNat, v3370.toNat, 0]

def k0_chk162 (v3349 : BitVec 32) (v3351 : BitVec 32) : Prop :=
  (∀ a, (k0_off712 v3349 v3351) a + S1x1x128.size a ≤ S250x128x128.size a)
theorem k0_off712_inb : ∀ (v3349 : BitVec 32) (v3351 : BitVec 32) (k0_hw162 : k0_chk162 v3349 v3351), ∀ a, (k0_off712 v3349 v3351) a + S1x1x128.size a ≤ S250x128x128.size a := fun v3349 v3351 k0_hw162 => k0_hw162

def k0_off713 (v3349 : BitVec 32) : Fin 2 → Nat :=
  let c42_i32_1704 : BitVec 32 := 42#32
  let v3350 : BitVec 32 := Scalar.addi v3349 c42_i32_1704
  let v3373 : Index := Scalar.indexCast v3350
  let c0_1715 : Index := 0#32
  ![v3373.toNat, 0]

def k0_chk163 (v3349 : BitVec 32) : Prop :=
  (∀ a, (k0_off713 v3349) a + S1x128.size a ≤ S128x128.size a)
theorem k0_off713_inb : ∀ (v3349 : BitVec 32) (k0_hw163 : k0_chk163 v3349), ∀ a, (k0_off713 v3349) a + S1x128.size a ≤ S128x128.size a := fun v3349 k0_hw163 => k0_hw163

def k0_off714 (v3389 : BitVec 32) (v3391 : BitVec 32) : Fin 3 → Nat :=
  let c0_i32_1728 : BitVec 32 := 0#32
  let v3393 : BitVec 1 := Scalar.cmpi .sgt v3391 c0_i32_1728
  let v3394 : BitVec 32 := Scalar.extui v3393
  let c0_i32_1729 : BitVec 32 := 0#32
  let v3395 : BitVec 1 := Scalar.cmpi .slt v3391 c0_i32_1729
  let v3396 : BitVec 32 := Scalar.extui v3395
  let v3397 : BitVec 32 := Scalar.subi v3394 v3396
  let c128_i32_1727 : BitVec 32 := 128#32
  let c0_i32_1730 : BitVec 32 := 0#32
  let v3398 : BitVec 1 := Scalar.cmpi .sgt c128_i32_1727 c0_i32_1730
  let v3399 : BitVec 32 := Scalar.extui v3398
  let c0_i32_1731 : BitVec 32 := 0#32
  let v3400 : BitVec 1 := Scalar.cmpi .slt c128_i32_1727 c0_i32_1731
  let v3401 : BitVec 32 := Scalar.extui v3400
  let v3402 : BitVec 32 := Scalar.subi v3399 v3401
  let v3403 : BitVec 1 := Scalar.cmpi .ne v3397 v3402
  let v3404 : BitVec 32 := Scalar.remsi v3391 c128_i32_1727
  let c0_i32_1732 : BitVec 32 := 0#32
  let v3405 : BitVec 1 := Scalar.cmpi .ne v3404 c0_i32_1732
  let v3406 : BitVec 1 := Scalar.andi v3403 v3405
  let v3392 : BitVec 32 := Scalar.divsi v3391 c128_i32_1727
  let c1_i32_1733 : BitVec 32 := 1#32
  let v3407 : BitVec 32 := Scalar.subi v3392 c1_i32_1733
  let v3408 : BitVec 32 := Scalar.select v3406 v3407 v3392
  let v3409 : Index := Scalar.indexCast v3408
  let c42_i32_1724 : BitVec 32 := 42#32
  let v3390 : BitVec 32 := Scalar.addi v3389 c42_i32_1724
  let v3410 : Index := Scalar.indexCast v3390
  let c0_1734 : Index := 0#32
  ![v3409.toNat, v3410.toNat, 0]

def k0_chk164 (v3389 : BitVec 32) (v3391 : BitVec 32) : Prop :=
  (∀ a, (k0_off714 v3389 v3391) a + S1x1x128.size a ≤ S250x128x128.size a)
theorem k0_off714_inb : ∀ (v3389 : BitVec 32) (v3391 : BitVec 32) (k0_hw164 : k0_chk164 v3389 v3391), ∀ a, (k0_off714 v3389 v3391) a + S1x1x128.size a ≤ S250x128x128.size a := fun v3389 v3391 k0_hw164 => k0_hw164

def k0_off715 (v3389 : BitVec 32) : Fin 2 → Nat :=
  let c42_i32_1724 : BitVec 32 := 42#32
  let v3390 : BitVec 32 := Scalar.addi v3389 c42_i32_1724
  let v3413 : Index := Scalar.indexCast v3390
  let c0_1735 : Index := 0#32
  ![v3413.toNat, 0]

def k0_chk165 (v3389 : BitVec 32) : Prop :=
  (∀ a, (k0_off715 v3389) a + S1x128.size a ≤ S128x128.size a)
theorem k0_off715_inb : ∀ (v3389 : BitVec 32) (k0_hw165 : k0_chk165 v3389), ∀ a, (k0_off715 v3389) a + S1x128.size a ≤ S128x128.size a := fun v3389 k0_hw165 => k0_hw165

def k0_off716 (v3429 : BitVec 32) (v3431 : BitVec 32) : Fin 3 → Nat :=
  let c0_i32_1748 : BitVec 32 := 0#32
  let v3433 : BitVec 1 := Scalar.cmpi .sgt v3431 c0_i32_1748
  let v3434 : BitVec 32 := Scalar.extui v3433
  let c0_i32_1749 : BitVec 32 := 0#32
  let v3435 : BitVec 1 := Scalar.cmpi .slt v3431 c0_i32_1749
  let v3436 : BitVec 32 := Scalar.extui v3435
  let v3437 : BitVec 32 := Scalar.subi v3434 v3436
  let c128_i32_1747 : BitVec 32 := 128#32
  let c0_i32_1750 : BitVec 32 := 0#32
  let v3438 : BitVec 1 := Scalar.cmpi .sgt c128_i32_1747 c0_i32_1750
  let v3439 : BitVec 32 := Scalar.extui v3438
  let c0_i32_1751 : BitVec 32 := 0#32
  let v3440 : BitVec 1 := Scalar.cmpi .slt c128_i32_1747 c0_i32_1751
  let v3441 : BitVec 32 := Scalar.extui v3440
  let v3442 : BitVec 32 := Scalar.subi v3439 v3441
  let v3443 : BitVec 1 := Scalar.cmpi .ne v3437 v3442
  let v3444 : BitVec 32 := Scalar.remsi v3431 c128_i32_1747
  let c0_i32_1752 : BitVec 32 := 0#32
  let v3445 : BitVec 1 := Scalar.cmpi .ne v3444 c0_i32_1752
  let v3446 : BitVec 1 := Scalar.andi v3443 v3445
  let v3432 : BitVec 32 := Scalar.divsi v3431 c128_i32_1747
  let c1_i32_1753 : BitVec 32 := 1#32
  let v3447 : BitVec 32 := Scalar.subi v3432 c1_i32_1753
  let v3448 : BitVec 32 := Scalar.select v3446 v3447 v3432
  let v3449 : Index := Scalar.indexCast v3448
  let c42_i32_1744 : BitVec 32 := 42#32
  let v3430 : BitVec 32 := Scalar.addi v3429 c42_i32_1744
  let v3450 : Index := Scalar.indexCast v3430
  let c0_1754 : Index := 0#32
  ![v3449.toNat, v3450.toNat, 0]

def k0_chk166 (v3429 : BitVec 32) (v3431 : BitVec 32) : Prop :=
  (∀ a, (k0_off716 v3429 v3431) a + S1x1x128.size a ≤ S250x128x128.size a)
theorem k0_off716_inb : ∀ (v3429 : BitVec 32) (v3431 : BitVec 32) (k0_hw166 : k0_chk166 v3429 v3431), ∀ a, (k0_off716 v3429 v3431) a + S1x1x128.size a ≤ S250x128x128.size a := fun v3429 v3431 k0_hw166 => k0_hw166

def k0_off717 (v3429 : BitVec 32) : Fin 2 → Nat :=
  let c42_i32_1744 : BitVec 32 := 42#32
  let v3430 : BitVec 32 := Scalar.addi v3429 c42_i32_1744
  let v3453 : Index := Scalar.indexCast v3430
  let c0_1755 : Index := 0#32
  ![v3453.toNat, 0]

def k0_chk167 (v3429 : BitVec 32) : Prop :=
  (∀ a, (k0_off717 v3429) a + S1x128.size a ≤ S128x128.size a)
theorem k0_off717_inb : ∀ (v3429 : BitVec 32) (k0_hw167 : k0_chk167 v3429), ∀ a, (k0_off717 v3429) a + S1x128.size a ≤ S128x128.size a := fun v3429 k0_hw167 => k0_hw167

def k0_off718 (v3469 : BitVec 32) (v3471 : BitVec 32) : Fin 3 → Nat :=
  let c0_i32_1768 : BitVec 32 := 0#32
  let v3473 : BitVec 1 := Scalar.cmpi .sgt v3471 c0_i32_1768
  let v3474 : BitVec 32 := Scalar.extui v3473
  let c0_i32_1769 : BitVec 32 := 0#32
  let v3475 : BitVec 1 := Scalar.cmpi .slt v3471 c0_i32_1769
  let v3476 : BitVec 32 := Scalar.extui v3475
  let v3477 : BitVec 32 := Scalar.subi v3474 v3476
  let c128_i32_1767 : BitVec 32 := 128#32
  let c0_i32_1770 : BitVec 32 := 0#32
  let v3478 : BitVec 1 := Scalar.cmpi .sgt c128_i32_1767 c0_i32_1770
  let v3479 : BitVec 32 := Scalar.extui v3478
  let c0_i32_1771 : BitVec 32 := 0#32
  let v3480 : BitVec 1 := Scalar.cmpi .slt c128_i32_1767 c0_i32_1771
  let v3481 : BitVec 32 := Scalar.extui v3480
  let v3482 : BitVec 32 := Scalar.subi v3479 v3481
  let v3483 : BitVec 1 := Scalar.cmpi .ne v3477 v3482
  let v3484 : BitVec 32 := Scalar.remsi v3471 c128_i32_1767
  let c0_i32_1772 : BitVec 32 := 0#32
  let v3485 : BitVec 1 := Scalar.cmpi .ne v3484 c0_i32_1772
  let v3486 : BitVec 1 := Scalar.andi v3483 v3485
  let v3472 : BitVec 32 := Scalar.divsi v3471 c128_i32_1767
  let c1_i32_1773 : BitVec 32 := 1#32
  let v3487 : BitVec 32 := Scalar.subi v3472 c1_i32_1773
  let v3488 : BitVec 32 := Scalar.select v3486 v3487 v3472
  let v3489 : Index := Scalar.indexCast v3488
  let c42_i32_1764 : BitVec 32 := 42#32
  let v3470 : BitVec 32 := Scalar.addi v3469 c42_i32_1764
  let v3490 : Index := Scalar.indexCast v3470
  let c0_1774 : Index := 0#32
  ![v3489.toNat, v3490.toNat, 0]

def k0_chk168 (v3469 : BitVec 32) (v3471 : BitVec 32) : Prop :=
  (∀ a, (k0_off718 v3469 v3471) a + S1x1x128.size a ≤ S250x128x128.size a)
theorem k0_off718_inb : ∀ (v3469 : BitVec 32) (v3471 : BitVec 32) (k0_hw168 : k0_chk168 v3469 v3471), ∀ a, (k0_off718 v3469 v3471) a + S1x1x128.size a ≤ S250x128x128.size a := fun v3469 v3471 k0_hw168 => k0_hw168

def k0_off719 (v3469 : BitVec 32) : Fin 2 → Nat :=
  let c42_i32_1764 : BitVec 32 := 42#32
  let v3470 : BitVec 32 := Scalar.addi v3469 c42_i32_1764
  let v3493 : Index := Scalar.indexCast v3470
  let c0_1775 : Index := 0#32
  ![v3493.toNat, 0]

def k0_chk169 (v3469 : BitVec 32) : Prop :=
  (∀ a, (k0_off719 v3469) a + S1x128.size a ≤ S128x128.size a)
theorem k0_off719_inb : ∀ (v3469 : BitVec 32) (k0_hw169 : k0_chk169 v3469), ∀ a, (k0_off719 v3469) a + S1x128.size a ≤ S128x128.size a := fun v3469 k0_hw169 => k0_hw169

def k0_off720 (v3509 : BitVec 32) (v3511 : BitVec 32) : Fin 3 → Nat :=
  let c0_i32_1788 : BitVec 32 := 0#32
  let v3513 : BitVec 1 := Scalar.cmpi .sgt v3511 c0_i32_1788
  let v3514 : BitVec 32 := Scalar.extui v3513
  let c0_i32_1789 : BitVec 32 := 0#32
  let v3515 : BitVec 1 := Scalar.cmpi .slt v3511 c0_i32_1789
  let v3516 : BitVec 32 := Scalar.extui v3515
  let v3517 : BitVec 32 := Scalar.subi v3514 v3516
  let c128_i32_1787 : BitVec 32 := 128#32
  let c0_i32_1790 : BitVec 32 := 0#32
  let v3518 : BitVec 1 := Scalar.cmpi .sgt c128_i32_1787 c0_i32_1790
  let v3519 : BitVec 32 := Scalar.extui v3518
  let c0_i32_1791 : BitVec 32 := 0#32
  let v3520 : BitVec 1 := Scalar.cmpi .slt c128_i32_1787 c0_i32_1791
  let v3521 : BitVec 32 := Scalar.extui v3520
  let v3522 : BitVec 32 := Scalar.subi v3519 v3521
  let v3523 : BitVec 1 := Scalar.cmpi .ne v3517 v3522
  let v3524 : BitVec 32 := Scalar.remsi v3511 c128_i32_1787
  let c0_i32_1792 : BitVec 32 := 0#32
  let v3525 : BitVec 1 := Scalar.cmpi .ne v3524 c0_i32_1792
  let v3526 : BitVec 1 := Scalar.andi v3523 v3525
  let v3512 : BitVec 32 := Scalar.divsi v3511 c128_i32_1787
  let c1_i32_1793 : BitVec 32 := 1#32
  let v3527 : BitVec 32 := Scalar.subi v3512 c1_i32_1793
  let v3528 : BitVec 32 := Scalar.select v3526 v3527 v3512
  let v3529 : Index := Scalar.indexCast v3528
  let c42_i32_1784 : BitVec 32 := 42#32
  let v3510 : BitVec 32 := Scalar.addi v3509 c42_i32_1784
  let v3530 : Index := Scalar.indexCast v3510
  let c0_1794 : Index := 0#32
  ![v3529.toNat, v3530.toNat, 0]

def k0_chk170 (v3509 : BitVec 32) (v3511 : BitVec 32) : Prop :=
  (∀ a, (k0_off720 v3509 v3511) a + S1x1x128.size a ≤ S250x128x128.size a)
theorem k0_off720_inb : ∀ (v3509 : BitVec 32) (v3511 : BitVec 32) (k0_hw170 : k0_chk170 v3509 v3511), ∀ a, (k0_off720 v3509 v3511) a + S1x1x128.size a ≤ S250x128x128.size a := fun v3509 v3511 k0_hw170 => k0_hw170

def k0_off721 (v3509 : BitVec 32) : Fin 2 → Nat :=
  let c42_i32_1784 : BitVec 32 := 42#32
  let v3510 : BitVec 32 := Scalar.addi v3509 c42_i32_1784
  let v3533 : Index := Scalar.indexCast v3510
  let c0_1795 : Index := 0#32
  ![v3533.toNat, 0]

def k0_chk171 (v3509 : BitVec 32) : Prop :=
  (∀ a, (k0_off721 v3509) a + S1x128.size a ≤ S128x128.size a)
theorem k0_off721_inb : ∀ (v3509 : BitVec 32) (k0_hw171 : k0_chk171 v3509), ∀ a, (k0_off721 v3509) a + S1x128.size a ≤ S128x128.size a := fun v3509 k0_hw171 => k0_hw171

def k0_off722 (v3549 : BitVec 32) (v3551 : BitVec 32) : Fin 3 → Nat :=
  let c0_i32_1807 : BitVec 32 := 0#32
  let v3553 : BitVec 1 := Scalar.cmpi .sgt v3551 c0_i32_1807
  let v3554 : BitVec 32 := Scalar.extui v3553
  let c0_i32_1808 : BitVec 32 := 0#32
  let v3555 : BitVec 1 := Scalar.cmpi .slt v3551 c0_i32_1808
  let v3556 : BitVec 32 := Scalar.extui v3555
  let v3557 : BitVec 32 := Scalar.subi v3554 v3556
  let c128_i32_1806 : BitVec 32 := 128#32
  let c0_i32_1809 : BitVec 32 := 0#32
  let v3558 : BitVec 1 := Scalar.cmpi .sgt c128_i32_1806 c0_i32_1809
  let v3559 : BitVec 32 := Scalar.extui v3558
  let c0_i32_1810 : BitVec 32 := 0#32
  let v3560 : BitVec 1 := Scalar.cmpi .slt c128_i32_1806 c0_i32_1810
  let v3561 : BitVec 32 := Scalar.extui v3560
  let v3562 : BitVec 32 := Scalar.subi v3559 v3561
  let v3563 : BitVec 1 := Scalar.cmpi .ne v3557 v3562
  let v3564 : BitVec 32 := Scalar.remsi v3551 c128_i32_1806
  let c0_i32_1811 : BitVec 32 := 0#32
  let v3565 : BitVec 1 := Scalar.cmpi .ne v3564 c0_i32_1811
  let v3566 : BitVec 1 := Scalar.andi v3563 v3565
  let v3552 : BitVec 32 := Scalar.divsi v3551 c128_i32_1806
  let c1_i32_1812 : BitVec 32 := 1#32
  let v3567 : BitVec 32 := Scalar.subi v3552 c1_i32_1812
  let v3568 : BitVec 32 := Scalar.select v3566 v3567 v3552
  let v3569 : Index := Scalar.indexCast v3568
  let c84_i32 : BitVec 32 := 84#32
  let v3550 : BitVec 32 := Scalar.addi v3549 c84_i32
  let v3570 : Index := Scalar.indexCast v3550
  let c0_1813 : Index := 0#32
  ![v3569.toNat, v3570.toNat, 0]

def k0_chk172 (v3549 : BitVec 32) (v3551 : BitVec 32) : Prop :=
  (∀ a, (k0_off722 v3549 v3551) a + S1x1x128.size a ≤ S250x128x128.size a)
theorem k0_off722_inb : ∀ (v3549 : BitVec 32) (v3551 : BitVec 32) (k0_hw172 : k0_chk172 v3549 v3551), ∀ a, (k0_off722 v3549 v3551) a + S1x1x128.size a ≤ S250x128x128.size a := fun v3549 v3551 k0_hw172 => k0_hw172

def k0_off723 (v3549 : BitVec 32) : Fin 2 → Nat :=
  let c84_i32 : BitVec 32 := 84#32
  let v3550 : BitVec 32 := Scalar.addi v3549 c84_i32
  let v3573 : Index := Scalar.indexCast v3550
  let c0_1814 : Index := 0#32
  ![v3573.toNat, 0]

def k0_chk173 (v3549 : BitVec 32) : Prop :=
  (∀ a, (k0_off723 v3549) a + S1x128.size a ≤ S128x128.size a)
theorem k0_off723_inb : ∀ (v3549 : BitVec 32) (k0_hw173 : k0_chk173 v3549), ∀ a, (k0_off723 v3549) a + S1x128.size a ≤ S128x128.size a := fun v3549 k0_hw173 => k0_hw173

def k0_off724 (v3589 : BitVec 32) (v3591 : BitVec 32) : Fin 3 → Nat :=
  let c0_i32_1827 : BitVec 32 := 0#32
  let v3593 : BitVec 1 := Scalar.cmpi .sgt v3591 c0_i32_1827
  let v3594 : BitVec 32 := Scalar.extui v3593
  let c0_i32_1828 : BitVec 32 := 0#32
  let v3595 : BitVec 1 := Scalar.cmpi .slt v3591 c0_i32_1828
  let v3596 : BitVec 32 := Scalar.extui v3595
  let v3597 : BitVec 32 := Scalar.subi v3594 v3596
  let c128_i32_1826 : BitVec 32 := 128#32
  let c0_i32_1829 : BitVec 32 := 0#32
  let v3598 : BitVec 1 := Scalar.cmpi .sgt c128_i32_1826 c0_i32_1829
  let v3599 : BitVec 32 := Scalar.extui v3598
  let c0_i32_1830 : BitVec 32 := 0#32
  let v3600 : BitVec 1 := Scalar.cmpi .slt c128_i32_1826 c0_i32_1830
  let v3601 : BitVec 32 := Scalar.extui v3600
  let v3602 : BitVec 32 := Scalar.subi v3599 v3601
  let v3603 : BitVec 1 := Scalar.cmpi .ne v3597 v3602
  let v3604 : BitVec 32 := Scalar.remsi v3591 c128_i32_1826
  let c0_i32_1831 : BitVec 32 := 0#32
  let v3605 : BitVec 1 := Scalar.cmpi .ne v3604 c0_i32_1831
  let v3606 : BitVec 1 := Scalar.andi v3603 v3605
  let v3592 : BitVec 32 := Scalar.divsi v3591 c128_i32_1826
  let c1_i32_1832 : BitVec 32 := 1#32
  let v3607 : BitVec 32 := Scalar.subi v3592 c1_i32_1832
  let v3608 : BitVec 32 := Scalar.select v3606 v3607 v3592
  let v3609 : Index := Scalar.indexCast v3608
  let c84_i32_1823 : BitVec 32 := 84#32
  let v3590 : BitVec 32 := Scalar.addi v3589 c84_i32_1823
  let v3610 : Index := Scalar.indexCast v3590
  let c0_1833 : Index := 0#32
  ![v3609.toNat, v3610.toNat, 0]

def k0_chk174 (v3589 : BitVec 32) (v3591 : BitVec 32) : Prop :=
  (∀ a, (k0_off724 v3589 v3591) a + S1x1x128.size a ≤ S250x128x128.size a)
theorem k0_off724_inb : ∀ (v3589 : BitVec 32) (v3591 : BitVec 32) (k0_hw174 : k0_chk174 v3589 v3591), ∀ a, (k0_off724 v3589 v3591) a + S1x1x128.size a ≤ S250x128x128.size a := fun v3589 v3591 k0_hw174 => k0_hw174

def k0_off725 (v3589 : BitVec 32) : Fin 2 → Nat :=
  let c84_i32_1823 : BitVec 32 := 84#32
  let v3590 : BitVec 32 := Scalar.addi v3589 c84_i32_1823
  let v3613 : Index := Scalar.indexCast v3590
  let c0_1834 : Index := 0#32
  ![v3613.toNat, 0]

def k0_chk175 (v3589 : BitVec 32) : Prop :=
  (∀ a, (k0_off725 v3589) a + S1x128.size a ≤ S128x128.size a)
theorem k0_off725_inb : ∀ (v3589 : BitVec 32) (k0_hw175 : k0_chk175 v3589), ∀ a, (k0_off725 v3589) a + S1x128.size a ≤ S128x128.size a := fun v3589 k0_hw175 => k0_hw175

def k0_off726 (v3629 : BitVec 32) (v3631 : BitVec 32) : Fin 3 → Nat :=
  let c0_i32_1847 : BitVec 32 := 0#32
  let v3633 : BitVec 1 := Scalar.cmpi .sgt v3631 c0_i32_1847
  let v3634 : BitVec 32 := Scalar.extui v3633
  let c0_i32_1848 : BitVec 32 := 0#32
  let v3635 : BitVec 1 := Scalar.cmpi .slt v3631 c0_i32_1848
  let v3636 : BitVec 32 := Scalar.extui v3635
  let v3637 : BitVec 32 := Scalar.subi v3634 v3636
  let c128_i32_1846 : BitVec 32 := 128#32
  let c0_i32_1849 : BitVec 32 := 0#32
  let v3638 : BitVec 1 := Scalar.cmpi .sgt c128_i32_1846 c0_i32_1849
  let v3639 : BitVec 32 := Scalar.extui v3638
  let c0_i32_1850 : BitVec 32 := 0#32
  let v3640 : BitVec 1 := Scalar.cmpi .slt c128_i32_1846 c0_i32_1850
  let v3641 : BitVec 32 := Scalar.extui v3640
  let v3642 : BitVec 32 := Scalar.subi v3639 v3641
  let v3643 : BitVec 1 := Scalar.cmpi .ne v3637 v3642
  let v3644 : BitVec 32 := Scalar.remsi v3631 c128_i32_1846
  let c0_i32_1851 : BitVec 32 := 0#32
  let v3645 : BitVec 1 := Scalar.cmpi .ne v3644 c0_i32_1851
  let v3646 : BitVec 1 := Scalar.andi v3643 v3645
  let v3632 : BitVec 32 := Scalar.divsi v3631 c128_i32_1846
  let c1_i32_1852 : BitVec 32 := 1#32
  let v3647 : BitVec 32 := Scalar.subi v3632 c1_i32_1852
  let v3648 : BitVec 32 := Scalar.select v3646 v3647 v3632
  let v3649 : Index := Scalar.indexCast v3648
  let c84_i32_1843 : BitVec 32 := 84#32
  let v3630 : BitVec 32 := Scalar.addi v3629 c84_i32_1843
  let v3650 : Index := Scalar.indexCast v3630
  let c0_1853 : Index := 0#32
  ![v3649.toNat, v3650.toNat, 0]

def k0_chk176 (v3629 : BitVec 32) (v3631 : BitVec 32) : Prop :=
  (∀ a, (k0_off726 v3629 v3631) a + S1x1x128.size a ≤ S250x128x128.size a)
theorem k0_off726_inb : ∀ (v3629 : BitVec 32) (v3631 : BitVec 32) (k0_hw176 : k0_chk176 v3629 v3631), ∀ a, (k0_off726 v3629 v3631) a + S1x1x128.size a ≤ S250x128x128.size a := fun v3629 v3631 k0_hw176 => k0_hw176

def k0_off727 (v3629 : BitVec 32) : Fin 2 → Nat :=
  let c84_i32_1843 : BitVec 32 := 84#32
  let v3630 : BitVec 32 := Scalar.addi v3629 c84_i32_1843
  let v3653 : Index := Scalar.indexCast v3630
  let c0_1854 : Index := 0#32
  ![v3653.toNat, 0]

def k0_chk177 (v3629 : BitVec 32) : Prop :=
  (∀ a, (k0_off727 v3629) a + S1x128.size a ≤ S128x128.size a)
theorem k0_off727_inb : ∀ (v3629 : BitVec 32) (k0_hw177 : k0_chk177 v3629), ∀ a, (k0_off727 v3629) a + S1x128.size a ≤ S128x128.size a := fun v3629 k0_hw177 => k0_hw177

def k0_off728 (v3669 : BitVec 32) (v3671 : BitVec 32) : Fin 3 → Nat :=
  let c0_i32_1867 : BitVec 32 := 0#32
  let v3673 : BitVec 1 := Scalar.cmpi .sgt v3671 c0_i32_1867
  let v3674 : BitVec 32 := Scalar.extui v3673
  let c0_i32_1868 : BitVec 32 := 0#32
  let v3675 : BitVec 1 := Scalar.cmpi .slt v3671 c0_i32_1868
  let v3676 : BitVec 32 := Scalar.extui v3675
  let v3677 : BitVec 32 := Scalar.subi v3674 v3676
  let c128_i32_1866 : BitVec 32 := 128#32
  let c0_i32_1869 : BitVec 32 := 0#32
  let v3678 : BitVec 1 := Scalar.cmpi .sgt c128_i32_1866 c0_i32_1869
  let v3679 : BitVec 32 := Scalar.extui v3678
  let c0_i32_1870 : BitVec 32 := 0#32
  let v3680 : BitVec 1 := Scalar.cmpi .slt c128_i32_1866 c0_i32_1870
  let v3681 : BitVec 32 := Scalar.extui v3680
  let v3682 : BitVec 32 := Scalar.subi v3679 v3681
  let v3683 : BitVec 1 := Scalar.cmpi .ne v3677 v3682
  let v3684 : BitVec 32 := Scalar.remsi v3671 c128_i32_1866
  let c0_i32_1871 : BitVec 32 := 0#32
  let v3685 : BitVec 1 := Scalar.cmpi .ne v3684 c0_i32_1871
  let v3686 : BitVec 1 := Scalar.andi v3683 v3685
  let v3672 : BitVec 32 := Scalar.divsi v3671 c128_i32_1866
  let c1_i32_1872 : BitVec 32 := 1#32
  let v3687 : BitVec 32 := Scalar.subi v3672 c1_i32_1872
  let v3688 : BitVec 32 := Scalar.select v3686 v3687 v3672
  let v3689 : Index := Scalar.indexCast v3688
  let c84_i32_1863 : BitVec 32 := 84#32
  let v3670 : BitVec 32 := Scalar.addi v3669 c84_i32_1863
  let v3690 : Index := Scalar.indexCast v3670
  let c0_1873 : Index := 0#32
  ![v3689.toNat, v3690.toNat, 0]

def k0_chk178 (v3669 : BitVec 32) (v3671 : BitVec 32) : Prop :=
  (∀ a, (k0_off728 v3669 v3671) a + S1x1x128.size a ≤ S250x128x128.size a)
theorem k0_off728_inb : ∀ (v3669 : BitVec 32) (v3671 : BitVec 32) (k0_hw178 : k0_chk178 v3669 v3671), ∀ a, (k0_off728 v3669 v3671) a + S1x1x128.size a ≤ S250x128x128.size a := fun v3669 v3671 k0_hw178 => k0_hw178

def k0_off729 (v3669 : BitVec 32) : Fin 2 → Nat :=
  let c84_i32_1863 : BitVec 32 := 84#32
  let v3670 : BitVec 32 := Scalar.addi v3669 c84_i32_1863
  let v3693 : Index := Scalar.indexCast v3670
  let c0_1874 : Index := 0#32
  ![v3693.toNat, 0]

def k0_chk179 (v3669 : BitVec 32) : Prop :=
  (∀ a, (k0_off729 v3669) a + S1x128.size a ≤ S128x128.size a)
theorem k0_off729_inb : ∀ (v3669 : BitVec 32) (k0_hw179 : k0_chk179 v3669), ∀ a, (k0_off729 v3669) a + S1x128.size a ≤ S128x128.size a := fun v3669 k0_hw179 => k0_hw179

def k0_off730 (v3709 : BitVec 32) (v3711 : BitVec 32) : Fin 3 → Nat :=
  let c0_i32_1887 : BitVec 32 := 0#32
  let v3713 : BitVec 1 := Scalar.cmpi .sgt v3711 c0_i32_1887
  let v3714 : BitVec 32 := Scalar.extui v3713
  let c0_i32_1888 : BitVec 32 := 0#32
  let v3715 : BitVec 1 := Scalar.cmpi .slt v3711 c0_i32_1888
  let v3716 : BitVec 32 := Scalar.extui v3715
  let v3717 : BitVec 32 := Scalar.subi v3714 v3716
  let c128_i32_1886 : BitVec 32 := 128#32
  let c0_i32_1889 : BitVec 32 := 0#32
  let v3718 : BitVec 1 := Scalar.cmpi .sgt c128_i32_1886 c0_i32_1889
  let v3719 : BitVec 32 := Scalar.extui v3718
  let c0_i32_1890 : BitVec 32 := 0#32
  let v3720 : BitVec 1 := Scalar.cmpi .slt c128_i32_1886 c0_i32_1890
  let v3721 : BitVec 32 := Scalar.extui v3720
  let v3722 : BitVec 32 := Scalar.subi v3719 v3721
  let v3723 : BitVec 1 := Scalar.cmpi .ne v3717 v3722
  let v3724 : BitVec 32 := Scalar.remsi v3711 c128_i32_1886
  let c0_i32_1891 : BitVec 32 := 0#32
  let v3725 : BitVec 1 := Scalar.cmpi .ne v3724 c0_i32_1891
  let v3726 : BitVec 1 := Scalar.andi v3723 v3725
  let v3712 : BitVec 32 := Scalar.divsi v3711 c128_i32_1886
  let c1_i32_1892 : BitVec 32 := 1#32
  let v3727 : BitVec 32 := Scalar.subi v3712 c1_i32_1892
  let v3728 : BitVec 32 := Scalar.select v3726 v3727 v3712
  let v3729 : Index := Scalar.indexCast v3728
  let c84_i32_1883 : BitVec 32 := 84#32
  let v3710 : BitVec 32 := Scalar.addi v3709 c84_i32_1883
  let v3730 : Index := Scalar.indexCast v3710
  let c0_1893 : Index := 0#32
  ![v3729.toNat, v3730.toNat, 0]

def k0_chk180 (v3709 : BitVec 32) (v3711 : BitVec 32) : Prop :=
  (∀ a, (k0_off730 v3709 v3711) a + S1x1x128.size a ≤ S250x128x128.size a)
theorem k0_off730_inb : ∀ (v3709 : BitVec 32) (v3711 : BitVec 32) (k0_hw180 : k0_chk180 v3709 v3711), ∀ a, (k0_off730 v3709 v3711) a + S1x1x128.size a ≤ S250x128x128.size a := fun v3709 v3711 k0_hw180 => k0_hw180

def k0_off731 (v3709 : BitVec 32) : Fin 2 → Nat :=
  let c84_i32_1883 : BitVec 32 := 84#32
  let v3710 : BitVec 32 := Scalar.addi v3709 c84_i32_1883
  let v3733 : Index := Scalar.indexCast v3710
  let c0_1894 : Index := 0#32
  ![v3733.toNat, 0]

def k0_chk181 (v3709 : BitVec 32) : Prop :=
  (∀ a, (k0_off731 v3709) a + S1x128.size a ≤ S128x128.size a)
theorem k0_off731_inb : ∀ (v3709 : BitVec 32) (k0_hw181 : k0_chk181 v3709), ∀ a, (k0_off731 v3709) a + S1x128.size a ≤ S128x128.size a := fun v3709 k0_hw181 => k0_hw181

def k0_off732 (v3749 : BitVec 32) (v3751 : BitVec 32) : Fin 3 → Nat :=
  let c0_i32_1907 : BitVec 32 := 0#32
  let v3753 : BitVec 1 := Scalar.cmpi .sgt v3751 c0_i32_1907
  let v3754 : BitVec 32 := Scalar.extui v3753
  let c0_i32_1908 : BitVec 32 := 0#32
  let v3755 : BitVec 1 := Scalar.cmpi .slt v3751 c0_i32_1908
  let v3756 : BitVec 32 := Scalar.extui v3755
  let v3757 : BitVec 32 := Scalar.subi v3754 v3756
  let c128_i32_1906 : BitVec 32 := 128#32
  let c0_i32_1909 : BitVec 32 := 0#32
  let v3758 : BitVec 1 := Scalar.cmpi .sgt c128_i32_1906 c0_i32_1909
  let v3759 : BitVec 32 := Scalar.extui v3758
  let c0_i32_1910 : BitVec 32 := 0#32
  let v3760 : BitVec 1 := Scalar.cmpi .slt c128_i32_1906 c0_i32_1910
  let v3761 : BitVec 32 := Scalar.extui v3760
  let v3762 : BitVec 32 := Scalar.subi v3759 v3761
  let v3763 : BitVec 1 := Scalar.cmpi .ne v3757 v3762
  let v3764 : BitVec 32 := Scalar.remsi v3751 c128_i32_1906
  let c0_i32_1911 : BitVec 32 := 0#32
  let v3765 : BitVec 1 := Scalar.cmpi .ne v3764 c0_i32_1911
  let v3766 : BitVec 1 := Scalar.andi v3763 v3765
  let v3752 : BitVec 32 := Scalar.divsi v3751 c128_i32_1906
  let c1_i32_1912 : BitVec 32 := 1#32
  let v3767 : BitVec 32 := Scalar.subi v3752 c1_i32_1912
  let v3768 : BitVec 32 := Scalar.select v3766 v3767 v3752
  let v3769 : Index := Scalar.indexCast v3768
  let c84_i32_1903 : BitVec 32 := 84#32
  let v3750 : BitVec 32 := Scalar.addi v3749 c84_i32_1903
  let v3770 : Index := Scalar.indexCast v3750
  let c0_1913 : Index := 0#32
  ![v3769.toNat, v3770.toNat, 0]

def k0_chk182 (v3749 : BitVec 32) (v3751 : BitVec 32) : Prop :=
  (∀ a, (k0_off732 v3749 v3751) a + S1x1x128.size a ≤ S250x128x128.size a)
theorem k0_off732_inb : ∀ (v3749 : BitVec 32) (v3751 : BitVec 32) (k0_hw182 : k0_chk182 v3749 v3751), ∀ a, (k0_off732 v3749 v3751) a + S1x1x128.size a ≤ S250x128x128.size a := fun v3749 v3751 k0_hw182 => k0_hw182

def k0_off733 (v3749 : BitVec 32) : Fin 2 → Nat :=
  let c84_i32_1903 : BitVec 32 := 84#32
  let v3750 : BitVec 32 := Scalar.addi v3749 c84_i32_1903
  let v3773 : Index := Scalar.indexCast v3750
  let c0_1914 : Index := 0#32
  ![v3773.toNat, 0]

def k0_chk183 (v3749 : BitVec 32) : Prop :=
  (∀ a, (k0_off733 v3749) a + S1x128.size a ≤ S128x128.size a)
theorem k0_off733_inb : ∀ (v3749 : BitVec 32) (k0_hw183 : k0_chk183 v3749), ∀ a, (k0_off733 v3749) a + S1x128.size a ≤ S128x128.size a := fun v3749 k0_hw183 => k0_hw183

def k0_off734 (v3789 : BitVec 32) (v3791 : BitVec 32) : Fin 3 → Nat :=
  let c0_i32_1927 : BitVec 32 := 0#32
  let v3793 : BitVec 1 := Scalar.cmpi .sgt v3791 c0_i32_1927
  let v3794 : BitVec 32 := Scalar.extui v3793
  let c0_i32_1928 : BitVec 32 := 0#32
  let v3795 : BitVec 1 := Scalar.cmpi .slt v3791 c0_i32_1928
  let v3796 : BitVec 32 := Scalar.extui v3795
  let v3797 : BitVec 32 := Scalar.subi v3794 v3796
  let c128_i32_1926 : BitVec 32 := 128#32
  let c0_i32_1929 : BitVec 32 := 0#32
  let v3798 : BitVec 1 := Scalar.cmpi .sgt c128_i32_1926 c0_i32_1929
  let v3799 : BitVec 32 := Scalar.extui v3798
  let c0_i32_1930 : BitVec 32 := 0#32
  let v3800 : BitVec 1 := Scalar.cmpi .slt c128_i32_1926 c0_i32_1930
  let v3801 : BitVec 32 := Scalar.extui v3800
  let v3802 : BitVec 32 := Scalar.subi v3799 v3801
  let v3803 : BitVec 1 := Scalar.cmpi .ne v3797 v3802
  let v3804 : BitVec 32 := Scalar.remsi v3791 c128_i32_1926
  let c0_i32_1931 : BitVec 32 := 0#32
  let v3805 : BitVec 1 := Scalar.cmpi .ne v3804 c0_i32_1931
  let v3806 : BitVec 1 := Scalar.andi v3803 v3805
  let v3792 : BitVec 32 := Scalar.divsi v3791 c128_i32_1926
  let c1_i32_1932 : BitVec 32 := 1#32
  let v3807 : BitVec 32 := Scalar.subi v3792 c1_i32_1932
  let v3808 : BitVec 32 := Scalar.select v3806 v3807 v3792
  let v3809 : Index := Scalar.indexCast v3808
  let c84_i32_1923 : BitVec 32 := 84#32
  let v3790 : BitVec 32 := Scalar.addi v3789 c84_i32_1923
  let v3810 : Index := Scalar.indexCast v3790
  let c0_1933 : Index := 0#32
  ![v3809.toNat, v3810.toNat, 0]

def k0_chk184 (v3789 : BitVec 32) (v3791 : BitVec 32) : Prop :=
  (∀ a, (k0_off734 v3789 v3791) a + S1x1x128.size a ≤ S250x128x128.size a)
theorem k0_off734_inb : ∀ (v3789 : BitVec 32) (v3791 : BitVec 32) (k0_hw184 : k0_chk184 v3789 v3791), ∀ a, (k0_off734 v3789 v3791) a + S1x1x128.size a ≤ S250x128x128.size a := fun v3789 v3791 k0_hw184 => k0_hw184

def k0_off735 (v3789 : BitVec 32) : Fin 2 → Nat :=
  let c84_i32_1923 : BitVec 32 := 84#32
  let v3790 : BitVec 32 := Scalar.addi v3789 c84_i32_1923
  let v3813 : Index := Scalar.indexCast v3790
  let c0_1934 : Index := 0#32
  ![v3813.toNat, 0]

def k0_chk185 (v3789 : BitVec 32) : Prop :=
  (∀ a, (k0_off735 v3789) a + S1x128.size a ≤ S128x128.size a)
theorem k0_off735_inb : ∀ (v3789 : BitVec 32) (k0_hw185 : k0_chk185 v3789), ∀ a, (k0_off735 v3789) a + S1x128.size a ≤ S128x128.size a := fun v3789 k0_hw185 => k0_hw185

def k0_off736 (v3829 : BitVec 32) (v3831 : BitVec 32) : Fin 3 → Nat :=
  let c0_i32_1947 : BitVec 32 := 0#32
  let v3833 : BitVec 1 := Scalar.cmpi .sgt v3831 c0_i32_1947
  let v3834 : BitVec 32 := Scalar.extui v3833
  let c0_i32_1948 : BitVec 32 := 0#32
  let v3835 : BitVec 1 := Scalar.cmpi .slt v3831 c0_i32_1948
  let v3836 : BitVec 32 := Scalar.extui v3835
  let v3837 : BitVec 32 := Scalar.subi v3834 v3836
  let c128_i32_1946 : BitVec 32 := 128#32
  let c0_i32_1949 : BitVec 32 := 0#32
  let v3838 : BitVec 1 := Scalar.cmpi .sgt c128_i32_1946 c0_i32_1949
  let v3839 : BitVec 32 := Scalar.extui v3838
  let c0_i32_1950 : BitVec 32 := 0#32
  let v3840 : BitVec 1 := Scalar.cmpi .slt c128_i32_1946 c0_i32_1950
  let v3841 : BitVec 32 := Scalar.extui v3840
  let v3842 : BitVec 32 := Scalar.subi v3839 v3841
  let v3843 : BitVec 1 := Scalar.cmpi .ne v3837 v3842
  let v3844 : BitVec 32 := Scalar.remsi v3831 c128_i32_1946
  let c0_i32_1951 : BitVec 32 := 0#32
  let v3845 : BitVec 1 := Scalar.cmpi .ne v3844 c0_i32_1951
  let v3846 : BitVec 1 := Scalar.andi v3843 v3845
  let v3832 : BitVec 32 := Scalar.divsi v3831 c128_i32_1946
  let c1_i32_1952 : BitVec 32 := 1#32
  let v3847 : BitVec 32 := Scalar.subi v3832 c1_i32_1952
  let v3848 : BitVec 32 := Scalar.select v3846 v3847 v3832
  let v3849 : Index := Scalar.indexCast v3848
  let c84_i32_1943 : BitVec 32 := 84#32
  let v3830 : BitVec 32 := Scalar.addi v3829 c84_i32_1943
  let v3850 : Index := Scalar.indexCast v3830
  let c0_1953 : Index := 0#32
  ![v3849.toNat, v3850.toNat, 0]

def k0_chk186 (v3829 : BitVec 32) (v3831 : BitVec 32) : Prop :=
  (∀ a, (k0_off736 v3829 v3831) a + S1x1x128.size a ≤ S250x128x128.size a)
theorem k0_off736_inb : ∀ (v3829 : BitVec 32) (v3831 : BitVec 32) (k0_hw186 : k0_chk186 v3829 v3831), ∀ a, (k0_off736 v3829 v3831) a + S1x1x128.size a ≤ S250x128x128.size a := fun v3829 v3831 k0_hw186 => k0_hw186

def k0_off737 (v3829 : BitVec 32) : Fin 2 → Nat :=
  let c84_i32_1943 : BitVec 32 := 84#32
  let v3830 : BitVec 32 := Scalar.addi v3829 c84_i32_1943
  let v3853 : Index := Scalar.indexCast v3830
  let c0_1954 : Index := 0#32
  ![v3853.toNat, 0]

def k0_chk187 (v3829 : BitVec 32) : Prop :=
  (∀ a, (k0_off737 v3829) a + S1x128.size a ≤ S128x128.size a)
theorem k0_off737_inb : ∀ (v3829 : BitVec 32) (k0_hw187 : k0_chk187 v3829), ∀ a, (k0_off737 v3829) a + S1x128.size a ≤ S128x128.size a := fun v3829 k0_hw187 => k0_hw187

def k0_off738 (v3869 : BitVec 32) (v3871 : BitVec 32) : Fin 3 → Nat :=
  let c0_i32_1967 : BitVec 32 := 0#32
  let v3873 : BitVec 1 := Scalar.cmpi .sgt v3871 c0_i32_1967
  let v3874 : BitVec 32 := Scalar.extui v3873
  let c0_i32_1968 : BitVec 32 := 0#32
  let v3875 : BitVec 1 := Scalar.cmpi .slt v3871 c0_i32_1968
  let v3876 : BitVec 32 := Scalar.extui v3875
  let v3877 : BitVec 32 := Scalar.subi v3874 v3876
  let c128_i32_1966 : BitVec 32 := 128#32
  let c0_i32_1969 : BitVec 32 := 0#32
  let v3878 : BitVec 1 := Scalar.cmpi .sgt c128_i32_1966 c0_i32_1969
  let v3879 : BitVec 32 := Scalar.extui v3878
  let c0_i32_1970 : BitVec 32 := 0#32
  let v3880 : BitVec 1 := Scalar.cmpi .slt c128_i32_1966 c0_i32_1970
  let v3881 : BitVec 32 := Scalar.extui v3880
  let v3882 : BitVec 32 := Scalar.subi v3879 v3881
  let v3883 : BitVec 1 := Scalar.cmpi .ne v3877 v3882
  let v3884 : BitVec 32 := Scalar.remsi v3871 c128_i32_1966
  let c0_i32_1971 : BitVec 32 := 0#32
  let v3885 : BitVec 1 := Scalar.cmpi .ne v3884 c0_i32_1971
  let v3886 : BitVec 1 := Scalar.andi v3883 v3885
  let v3872 : BitVec 32 := Scalar.divsi v3871 c128_i32_1966
  let c1_i32_1972 : BitVec 32 := 1#32
  let v3887 : BitVec 32 := Scalar.subi v3872 c1_i32_1972
  let v3888 : BitVec 32 := Scalar.select v3886 v3887 v3872
  let v3889 : Index := Scalar.indexCast v3888
  let c84_i32_1963 : BitVec 32 := 84#32
  let v3870 : BitVec 32 := Scalar.addi v3869 c84_i32_1963
  let v3890 : Index := Scalar.indexCast v3870
  let c0_1973 : Index := 0#32
  ![v3889.toNat, v3890.toNat, 0]

def k0_chk188 (v3869 : BitVec 32) (v3871 : BitVec 32) : Prop :=
  (∀ a, (k0_off738 v3869 v3871) a + S1x1x128.size a ≤ S250x128x128.size a)
theorem k0_off738_inb : ∀ (v3869 : BitVec 32) (v3871 : BitVec 32) (k0_hw188 : k0_chk188 v3869 v3871), ∀ a, (k0_off738 v3869 v3871) a + S1x1x128.size a ≤ S250x128x128.size a := fun v3869 v3871 k0_hw188 => k0_hw188

def k0_off739 (v3869 : BitVec 32) : Fin 2 → Nat :=
  let c84_i32_1963 : BitVec 32 := 84#32
  let v3870 : BitVec 32 := Scalar.addi v3869 c84_i32_1963
  let v3893 : Index := Scalar.indexCast v3870
  let c0_1974 : Index := 0#32
  ![v3893.toNat, 0]

def k0_chk189 (v3869 : BitVec 32) : Prop :=
  (∀ a, (k0_off739 v3869) a + S1x128.size a ≤ S128x128.size a)
theorem k0_off739_inb : ∀ (v3869 : BitVec 32) (k0_hw189 : k0_chk189 v3869), ∀ a, (k0_off739 v3869) a + S1x128.size a ≤ S128x128.size a := fun v3869 k0_hw189 => k0_hw189

def k0_off740 (v3909 : BitVec 32) (v3911 : BitVec 32) : Fin 3 → Nat :=
  let c0_i32_1987 : BitVec 32 := 0#32
  let v3913 : BitVec 1 := Scalar.cmpi .sgt v3911 c0_i32_1987
  let v3914 : BitVec 32 := Scalar.extui v3913
  let c0_i32_1988 : BitVec 32 := 0#32
  let v3915 : BitVec 1 := Scalar.cmpi .slt v3911 c0_i32_1988
  let v3916 : BitVec 32 := Scalar.extui v3915
  let v3917 : BitVec 32 := Scalar.subi v3914 v3916
  let c128_i32_1986 : BitVec 32 := 128#32
  let c0_i32_1989 : BitVec 32 := 0#32
  let v3918 : BitVec 1 := Scalar.cmpi .sgt c128_i32_1986 c0_i32_1989
  let v3919 : BitVec 32 := Scalar.extui v3918
  let c0_i32_1990 : BitVec 32 := 0#32
  let v3920 : BitVec 1 := Scalar.cmpi .slt c128_i32_1986 c0_i32_1990
  let v3921 : BitVec 32 := Scalar.extui v3920
  let v3922 : BitVec 32 := Scalar.subi v3919 v3921
  let v3923 : BitVec 1 := Scalar.cmpi .ne v3917 v3922
  let v3924 : BitVec 32 := Scalar.remsi v3911 c128_i32_1986
  let c0_i32_1991 : BitVec 32 := 0#32
  let v3925 : BitVec 1 := Scalar.cmpi .ne v3924 c0_i32_1991
  let v3926 : BitVec 1 := Scalar.andi v3923 v3925
  let v3912 : BitVec 32 := Scalar.divsi v3911 c128_i32_1986
  let c1_i32_1992 : BitVec 32 := 1#32
  let v3927 : BitVec 32 := Scalar.subi v3912 c1_i32_1992
  let v3928 : BitVec 32 := Scalar.select v3926 v3927 v3912
  let v3929 : Index := Scalar.indexCast v3928
  let c84_i32_1983 : BitVec 32 := 84#32
  let v3910 : BitVec 32 := Scalar.addi v3909 c84_i32_1983
  let v3930 : Index := Scalar.indexCast v3910
  let c0_1993 : Index := 0#32
  ![v3929.toNat, v3930.toNat, 0]

def k0_chk190 (v3909 : BitVec 32) (v3911 : BitVec 32) : Prop :=
  (∀ a, (k0_off740 v3909 v3911) a + S1x1x128.size a ≤ S250x128x128.size a)
theorem k0_off740_inb : ∀ (v3909 : BitVec 32) (v3911 : BitVec 32) (k0_hw190 : k0_chk190 v3909 v3911), ∀ a, (k0_off740 v3909 v3911) a + S1x1x128.size a ≤ S250x128x128.size a := fun v3909 v3911 k0_hw190 => k0_hw190

def k0_off741 (v3909 : BitVec 32) : Fin 2 → Nat :=
  let c84_i32_1983 : BitVec 32 := 84#32
  let v3910 : BitVec 32 := Scalar.addi v3909 c84_i32_1983
  let v3933 : Index := Scalar.indexCast v3910
  let c0_1994 : Index := 0#32
  ![v3933.toNat, 0]

def k0_chk191 (v3909 : BitVec 32) : Prop :=
  (∀ a, (k0_off741 v3909) a + S1x128.size a ≤ S128x128.size a)
theorem k0_off741_inb : ∀ (v3909 : BitVec 32) (k0_hw191 : k0_chk191 v3909), ∀ a, (k0_off741 v3909) a + S1x128.size a ≤ S128x128.size a := fun v3909 k0_hw191 => k0_hw191

def k0_off742 (v3949 : BitVec 32) (v3951 : BitVec 32) : Fin 3 → Nat :=
  let c0_i32_2007 : BitVec 32 := 0#32
  let v3953 : BitVec 1 := Scalar.cmpi .sgt v3951 c0_i32_2007
  let v3954 : BitVec 32 := Scalar.extui v3953
  let c0_i32_2008 : BitVec 32 := 0#32
  let v3955 : BitVec 1 := Scalar.cmpi .slt v3951 c0_i32_2008
  let v3956 : BitVec 32 := Scalar.extui v3955
  let v3957 : BitVec 32 := Scalar.subi v3954 v3956
  let c128_i32_2006 : BitVec 32 := 128#32
  let c0_i32_2009 : BitVec 32 := 0#32
  let v3958 : BitVec 1 := Scalar.cmpi .sgt c128_i32_2006 c0_i32_2009
  let v3959 : BitVec 32 := Scalar.extui v3958
  let c0_i32_2010 : BitVec 32 := 0#32
  let v3960 : BitVec 1 := Scalar.cmpi .slt c128_i32_2006 c0_i32_2010
  let v3961 : BitVec 32 := Scalar.extui v3960
  let v3962 : BitVec 32 := Scalar.subi v3959 v3961
  let v3963 : BitVec 1 := Scalar.cmpi .ne v3957 v3962
  let v3964 : BitVec 32 := Scalar.remsi v3951 c128_i32_2006
  let c0_i32_2011 : BitVec 32 := 0#32
  let v3965 : BitVec 1 := Scalar.cmpi .ne v3964 c0_i32_2011
  let v3966 : BitVec 1 := Scalar.andi v3963 v3965
  let v3952 : BitVec 32 := Scalar.divsi v3951 c128_i32_2006
  let c1_i32_2012 : BitVec 32 := 1#32
  let v3967 : BitVec 32 := Scalar.subi v3952 c1_i32_2012
  let v3968 : BitVec 32 := Scalar.select v3966 v3967 v3952
  let v3969 : Index := Scalar.indexCast v3968
  let c84_i32_2003 : BitVec 32 := 84#32
  let v3950 : BitVec 32 := Scalar.addi v3949 c84_i32_2003
  let v3970 : Index := Scalar.indexCast v3950
  let c0_2013 : Index := 0#32
  ![v3969.toNat, v3970.toNat, 0]

def k0_chk192 (v3949 : BitVec 32) (v3951 : BitVec 32) : Prop :=
  (∀ a, (k0_off742 v3949 v3951) a + S1x1x128.size a ≤ S250x128x128.size a)
theorem k0_off742_inb : ∀ (v3949 : BitVec 32) (v3951 : BitVec 32) (k0_hw192 : k0_chk192 v3949 v3951), ∀ a, (k0_off742 v3949 v3951) a + S1x1x128.size a ≤ S250x128x128.size a := fun v3949 v3951 k0_hw192 => k0_hw192

def k0_off743 (v3949 : BitVec 32) : Fin 2 → Nat :=
  let c84_i32_2003 : BitVec 32 := 84#32
  let v3950 : BitVec 32 := Scalar.addi v3949 c84_i32_2003
  let v3973 : Index := Scalar.indexCast v3950
  let c0_2014 : Index := 0#32
  ![v3973.toNat, 0]

def k0_chk193 (v3949 : BitVec 32) : Prop :=
  (∀ a, (k0_off743 v3949) a + S1x128.size a ≤ S128x128.size a)
theorem k0_off743_inb : ∀ (v3949 : BitVec 32) (k0_hw193 : k0_chk193 v3949), ∀ a, (k0_off743 v3949) a + S1x128.size a ≤ S128x128.size a := fun v3949 k0_hw193 => k0_hw193

def k0_off744 (v3989 : BitVec 32) (v3991 : BitVec 32) : Fin 3 → Nat :=
  let c0_i32_2027 : BitVec 32 := 0#32
  let v3993 : BitVec 1 := Scalar.cmpi .sgt v3991 c0_i32_2027
  let v3994 : BitVec 32 := Scalar.extui v3993
  let c0_i32_2028 : BitVec 32 := 0#32
  let v3995 : BitVec 1 := Scalar.cmpi .slt v3991 c0_i32_2028
  let v3996 : BitVec 32 := Scalar.extui v3995
  let v3997 : BitVec 32 := Scalar.subi v3994 v3996
  let c128_i32_2026 : BitVec 32 := 128#32
  let c0_i32_2029 : BitVec 32 := 0#32
  let v3998 : BitVec 1 := Scalar.cmpi .sgt c128_i32_2026 c0_i32_2029
  let v3999 : BitVec 32 := Scalar.extui v3998
  let c0_i32_2030 : BitVec 32 := 0#32
  let v4000 : BitVec 1 := Scalar.cmpi .slt c128_i32_2026 c0_i32_2030
  let v4001 : BitVec 32 := Scalar.extui v4000
  let v4002 : BitVec 32 := Scalar.subi v3999 v4001
  let v4003 : BitVec 1 := Scalar.cmpi .ne v3997 v4002
  let v4004 : BitVec 32 := Scalar.remsi v3991 c128_i32_2026
  let c0_i32_2031 : BitVec 32 := 0#32
  let v4005 : BitVec 1 := Scalar.cmpi .ne v4004 c0_i32_2031
  let v4006 : BitVec 1 := Scalar.andi v4003 v4005
  let v3992 : BitVec 32 := Scalar.divsi v3991 c128_i32_2026
  let c1_i32_2032 : BitVec 32 := 1#32
  let v4007 : BitVec 32 := Scalar.subi v3992 c1_i32_2032
  let v4008 : BitVec 32 := Scalar.select v4006 v4007 v3992
  let v4009 : Index := Scalar.indexCast v4008
  let c84_i32_2023 : BitVec 32 := 84#32
  let v3990 : BitVec 32 := Scalar.addi v3989 c84_i32_2023
  let v4010 : Index := Scalar.indexCast v3990
  let c0_2033 : Index := 0#32
  ![v4009.toNat, v4010.toNat, 0]

def k0_chk194 (v3989 : BitVec 32) (v3991 : BitVec 32) : Prop :=
  (∀ a, (k0_off744 v3989 v3991) a + S1x1x128.size a ≤ S250x128x128.size a)
theorem k0_off744_inb : ∀ (v3989 : BitVec 32) (v3991 : BitVec 32) (k0_hw194 : k0_chk194 v3989 v3991), ∀ a, (k0_off744 v3989 v3991) a + S1x1x128.size a ≤ S250x128x128.size a := fun v3989 v3991 k0_hw194 => k0_hw194

def k0_off745 (v3989 : BitVec 32) : Fin 2 → Nat :=
  let c84_i32_2023 : BitVec 32 := 84#32
  let v3990 : BitVec 32 := Scalar.addi v3989 c84_i32_2023
  let v4013 : Index := Scalar.indexCast v3990
  let c0_2034 : Index := 0#32
  ![v4013.toNat, 0]

def k0_chk195 (v3989 : BitVec 32) : Prop :=
  (∀ a, (k0_off745 v3989) a + S1x128.size a ≤ S128x128.size a)
theorem k0_off745_inb : ∀ (v3989 : BitVec 32) (k0_hw195 : k0_chk195 v3989), ∀ a, (k0_off745 v3989) a + S1x128.size a ≤ S128x128.size a := fun v3989 k0_hw195 => k0_hw195

def k0_off746 (v4029 : BitVec 32) (v4031 : BitVec 32) : Fin 3 → Nat :=
  let c0_i32_2047 : BitVec 32 := 0#32
  let v4033 : BitVec 1 := Scalar.cmpi .sgt v4031 c0_i32_2047
  let v4034 : BitVec 32 := Scalar.extui v4033
  let c0_i32_2048 : BitVec 32 := 0#32
  let v4035 : BitVec 1 := Scalar.cmpi .slt v4031 c0_i32_2048
  let v4036 : BitVec 32 := Scalar.extui v4035
  let v4037 : BitVec 32 := Scalar.subi v4034 v4036
  let c128_i32_2046 : BitVec 32 := 128#32
  let c0_i32_2049 : BitVec 32 := 0#32
  let v4038 : BitVec 1 := Scalar.cmpi .sgt c128_i32_2046 c0_i32_2049
  let v4039 : BitVec 32 := Scalar.extui v4038
  let c0_i32_2050 : BitVec 32 := 0#32
  let v4040 : BitVec 1 := Scalar.cmpi .slt c128_i32_2046 c0_i32_2050
  let v4041 : BitVec 32 := Scalar.extui v4040
  let v4042 : BitVec 32 := Scalar.subi v4039 v4041
  let v4043 : BitVec 1 := Scalar.cmpi .ne v4037 v4042
  let v4044 : BitVec 32 := Scalar.remsi v4031 c128_i32_2046
  let c0_i32_2051 : BitVec 32 := 0#32
  let v4045 : BitVec 1 := Scalar.cmpi .ne v4044 c0_i32_2051
  let v4046 : BitVec 1 := Scalar.andi v4043 v4045
  let v4032 : BitVec 32 := Scalar.divsi v4031 c128_i32_2046
  let c1_i32_2052 : BitVec 32 := 1#32
  let v4047 : BitVec 32 := Scalar.subi v4032 c1_i32_2052
  let v4048 : BitVec 32 := Scalar.select v4046 v4047 v4032
  let v4049 : Index := Scalar.indexCast v4048
  let c84_i32_2043 : BitVec 32 := 84#32
  let v4030 : BitVec 32 := Scalar.addi v4029 c84_i32_2043
  let v4050 : Index := Scalar.indexCast v4030
  let c0_2053 : Index := 0#32
  ![v4049.toNat, v4050.toNat, 0]

def k0_chk196 (v4029 : BitVec 32) (v4031 : BitVec 32) : Prop :=
  (∀ a, (k0_off746 v4029 v4031) a + S1x1x128.size a ≤ S250x128x128.size a)
theorem k0_off746_inb : ∀ (v4029 : BitVec 32) (v4031 : BitVec 32) (k0_hw196 : k0_chk196 v4029 v4031), ∀ a, (k0_off746 v4029 v4031) a + S1x1x128.size a ≤ S250x128x128.size a := fun v4029 v4031 k0_hw196 => k0_hw196

def k0_off747 (v4029 : BitVec 32) : Fin 2 → Nat :=
  let c84_i32_2043 : BitVec 32 := 84#32
  let v4030 : BitVec 32 := Scalar.addi v4029 c84_i32_2043
  let v4053 : Index := Scalar.indexCast v4030
  let c0_2054 : Index := 0#32
  ![v4053.toNat, 0]

def k0_chk197 (v4029 : BitVec 32) : Prop :=
  (∀ a, (k0_off747 v4029) a + S1x128.size a ≤ S128x128.size a)
theorem k0_off747_inb : ∀ (v4029 : BitVec 32) (k0_hw197 : k0_chk197 v4029), ∀ a, (k0_off747 v4029) a + S1x128.size a ≤ S128x128.size a := fun v4029 k0_hw197 => k0_hw197

def k0_off748 (v4069 : BitVec 32) (v4071 : BitVec 32) : Fin 3 → Nat :=
  let c0_i32_2067 : BitVec 32 := 0#32
  let v4073 : BitVec 1 := Scalar.cmpi .sgt v4071 c0_i32_2067
  let v4074 : BitVec 32 := Scalar.extui v4073
  let c0_i32_2068 : BitVec 32 := 0#32
  let v4075 : BitVec 1 := Scalar.cmpi .slt v4071 c0_i32_2068
  let v4076 : BitVec 32 := Scalar.extui v4075
  let v4077 : BitVec 32 := Scalar.subi v4074 v4076
  let c128_i32_2066 : BitVec 32 := 128#32
  let c0_i32_2069 : BitVec 32 := 0#32
  let v4078 : BitVec 1 := Scalar.cmpi .sgt c128_i32_2066 c0_i32_2069
  let v4079 : BitVec 32 := Scalar.extui v4078
  let c0_i32_2070 : BitVec 32 := 0#32
  let v4080 : BitVec 1 := Scalar.cmpi .slt c128_i32_2066 c0_i32_2070
  let v4081 : BitVec 32 := Scalar.extui v4080
  let v4082 : BitVec 32 := Scalar.subi v4079 v4081
  let v4083 : BitVec 1 := Scalar.cmpi .ne v4077 v4082
  let v4084 : BitVec 32 := Scalar.remsi v4071 c128_i32_2066
  let c0_i32_2071 : BitVec 32 := 0#32
  let v4085 : BitVec 1 := Scalar.cmpi .ne v4084 c0_i32_2071
  let v4086 : BitVec 1 := Scalar.andi v4083 v4085
  let v4072 : BitVec 32 := Scalar.divsi v4071 c128_i32_2066
  let c1_i32_2072 : BitVec 32 := 1#32
  let v4087 : BitVec 32 := Scalar.subi v4072 c1_i32_2072
  let v4088 : BitVec 32 := Scalar.select v4086 v4087 v4072
  let v4089 : Index := Scalar.indexCast v4088
  let c84_i32_2063 : BitVec 32 := 84#32
  let v4070 : BitVec 32 := Scalar.addi v4069 c84_i32_2063
  let v4090 : Index := Scalar.indexCast v4070
  let c0_2073 : Index := 0#32
  ![v4089.toNat, v4090.toNat, 0]

def k0_chk198 (v4069 : BitVec 32) (v4071 : BitVec 32) : Prop :=
  (∀ a, (k0_off748 v4069 v4071) a + S1x1x128.size a ≤ S250x128x128.size a)
theorem k0_off748_inb : ∀ (v4069 : BitVec 32) (v4071 : BitVec 32) (k0_hw198 : k0_chk198 v4069 v4071), ∀ a, (k0_off748 v4069 v4071) a + S1x1x128.size a ≤ S250x128x128.size a := fun v4069 v4071 k0_hw198 => k0_hw198

def k0_off749 (v4069 : BitVec 32) : Fin 2 → Nat :=
  let c84_i32_2063 : BitVec 32 := 84#32
  let v4070 : BitVec 32 := Scalar.addi v4069 c84_i32_2063
  let v4093 : Index := Scalar.indexCast v4070
  let c0_2074 : Index := 0#32
  ![v4093.toNat, 0]

def k0_chk199 (v4069 : BitVec 32) : Prop :=
  (∀ a, (k0_off749 v4069) a + S1x128.size a ≤ S128x128.size a)
theorem k0_off749_inb : ∀ (v4069 : BitVec 32) (k0_hw199 : k0_chk199 v4069), ∀ a, (k0_off749 v4069) a + S1x128.size a ≤ S128x128.size a := fun v4069 k0_hw199 => k0_hw199

def k0_off750 (v4109 : BitVec 32) (v4111 : BitVec 32) : Fin 3 → Nat :=
  let c0_i32_2087 : BitVec 32 := 0#32
  let v4113 : BitVec 1 := Scalar.cmpi .sgt v4111 c0_i32_2087
  let v4114 : BitVec 32 := Scalar.extui v4113
  let c0_i32_2088 : BitVec 32 := 0#32
  let v4115 : BitVec 1 := Scalar.cmpi .slt v4111 c0_i32_2088
  let v4116 : BitVec 32 := Scalar.extui v4115
  let v4117 : BitVec 32 := Scalar.subi v4114 v4116
  let c128_i32_2086 : BitVec 32 := 128#32
  let c0_i32_2089 : BitVec 32 := 0#32
  let v4118 : BitVec 1 := Scalar.cmpi .sgt c128_i32_2086 c0_i32_2089
  let v4119 : BitVec 32 := Scalar.extui v4118
  let c0_i32_2090 : BitVec 32 := 0#32
  let v4120 : BitVec 1 := Scalar.cmpi .slt c128_i32_2086 c0_i32_2090
  let v4121 : BitVec 32 := Scalar.extui v4120
  let v4122 : BitVec 32 := Scalar.subi v4119 v4121
  let v4123 : BitVec 1 := Scalar.cmpi .ne v4117 v4122
  let v4124 : BitVec 32 := Scalar.remsi v4111 c128_i32_2086
  let c0_i32_2091 : BitVec 32 := 0#32
  let v4125 : BitVec 1 := Scalar.cmpi .ne v4124 c0_i32_2091
  let v4126 : BitVec 1 := Scalar.andi v4123 v4125
  let v4112 : BitVec 32 := Scalar.divsi v4111 c128_i32_2086
  let c1_i32_2092 : BitVec 32 := 1#32
  let v4127 : BitVec 32 := Scalar.subi v4112 c1_i32_2092
  let v4128 : BitVec 32 := Scalar.select v4126 v4127 v4112
  let v4129 : Index := Scalar.indexCast v4128
  let c84_i32_2083 : BitVec 32 := 84#32
  let v4110 : BitVec 32 := Scalar.addi v4109 c84_i32_2083
  let v4130 : Index := Scalar.indexCast v4110
  let c0_2093 : Index := 0#32
  ![v4129.toNat, v4130.toNat, 0]

def k0_chk200 (v4109 : BitVec 32) (v4111 : BitVec 32) : Prop :=
  (∀ a, (k0_off750 v4109 v4111) a + S1x1x128.size a ≤ S250x128x128.size a)
theorem k0_off750_inb : ∀ (v4109 : BitVec 32) (v4111 : BitVec 32) (k0_hw200 : k0_chk200 v4109 v4111), ∀ a, (k0_off750 v4109 v4111) a + S1x1x128.size a ≤ S250x128x128.size a := fun v4109 v4111 k0_hw200 => k0_hw200

def k0_off751 (v4109 : BitVec 32) : Fin 2 → Nat :=
  let c84_i32_2083 : BitVec 32 := 84#32
  let v4110 : BitVec 32 := Scalar.addi v4109 c84_i32_2083
  let v4133 : Index := Scalar.indexCast v4110
  let c0_2094 : Index := 0#32
  ![v4133.toNat, 0]

def k0_chk201 (v4109 : BitVec 32) : Prop :=
  (∀ a, (k0_off751 v4109) a + S1x128.size a ≤ S128x128.size a)
theorem k0_off751_inb : ∀ (v4109 : BitVec 32) (k0_hw201 : k0_chk201 v4109), ∀ a, (k0_off751 v4109) a + S1x128.size a ≤ S128x128.size a := fun v4109 k0_hw201 => k0_hw201

def k0_off752 (v4149 : BitVec 32) (v4151 : BitVec 32) : Fin 3 → Nat :=
  let c0_i32_2107 : BitVec 32 := 0#32
  let v4153 : BitVec 1 := Scalar.cmpi .sgt v4151 c0_i32_2107
  let v4154 : BitVec 32 := Scalar.extui v4153
  let c0_i32_2108 : BitVec 32 := 0#32
  let v4155 : BitVec 1 := Scalar.cmpi .slt v4151 c0_i32_2108
  let v4156 : BitVec 32 := Scalar.extui v4155
  let v4157 : BitVec 32 := Scalar.subi v4154 v4156
  let c128_i32_2106 : BitVec 32 := 128#32
  let c0_i32_2109 : BitVec 32 := 0#32
  let v4158 : BitVec 1 := Scalar.cmpi .sgt c128_i32_2106 c0_i32_2109
  let v4159 : BitVec 32 := Scalar.extui v4158
  let c0_i32_2110 : BitVec 32 := 0#32
  let v4160 : BitVec 1 := Scalar.cmpi .slt c128_i32_2106 c0_i32_2110
  let v4161 : BitVec 32 := Scalar.extui v4160
  let v4162 : BitVec 32 := Scalar.subi v4159 v4161
  let v4163 : BitVec 1 := Scalar.cmpi .ne v4157 v4162
  let v4164 : BitVec 32 := Scalar.remsi v4151 c128_i32_2106
  let c0_i32_2111 : BitVec 32 := 0#32
  let v4165 : BitVec 1 := Scalar.cmpi .ne v4164 c0_i32_2111
  let v4166 : BitVec 1 := Scalar.andi v4163 v4165
  let v4152 : BitVec 32 := Scalar.divsi v4151 c128_i32_2106
  let c1_i32_2112 : BitVec 32 := 1#32
  let v4167 : BitVec 32 := Scalar.subi v4152 c1_i32_2112
  let v4168 : BitVec 32 := Scalar.select v4166 v4167 v4152
  let v4169 : Index := Scalar.indexCast v4168
  let c84_i32_2103 : BitVec 32 := 84#32
  let v4150 : BitVec 32 := Scalar.addi v4149 c84_i32_2103
  let v4170 : Index := Scalar.indexCast v4150
  let c0_2113 : Index := 0#32
  ![v4169.toNat, v4170.toNat, 0]

def k0_chk202 (v4149 : BitVec 32) (v4151 : BitVec 32) : Prop :=
  (∀ a, (k0_off752 v4149 v4151) a + S1x1x128.size a ≤ S250x128x128.size a)
theorem k0_off752_inb : ∀ (v4149 : BitVec 32) (v4151 : BitVec 32) (k0_hw202 : k0_chk202 v4149 v4151), ∀ a, (k0_off752 v4149 v4151) a + S1x1x128.size a ≤ S250x128x128.size a := fun v4149 v4151 k0_hw202 => k0_hw202

def k0_off753 (v4149 : BitVec 32) : Fin 2 → Nat :=
  let c84_i32_2103 : BitVec 32 := 84#32
  let v4150 : BitVec 32 := Scalar.addi v4149 c84_i32_2103
  let v4173 : Index := Scalar.indexCast v4150
  let c0_2114 : Index := 0#32
  ![v4173.toNat, 0]

def k0_chk203 (v4149 : BitVec 32) : Prop :=
  (∀ a, (k0_off753 v4149) a + S1x128.size a ≤ S128x128.size a)
theorem k0_off753_inb : ∀ (v4149 : BitVec 32) (k0_hw203 : k0_chk203 v4149), ∀ a, (k0_off753 v4149) a + S1x128.size a ≤ S128x128.size a := fun v4149 k0_hw203 => k0_hw203

def k0_off754 (v4189 : BitVec 32) (v4191 : BitVec 32) : Fin 3 → Nat :=
  let c0_i32_2127 : BitVec 32 := 0#32
  let v4193 : BitVec 1 := Scalar.cmpi .sgt v4191 c0_i32_2127
  let v4194 : BitVec 32 := Scalar.extui v4193
  let c0_i32_2128 : BitVec 32 := 0#32
  let v4195 : BitVec 1 := Scalar.cmpi .slt v4191 c0_i32_2128
  let v4196 : BitVec 32 := Scalar.extui v4195
  let v4197 : BitVec 32 := Scalar.subi v4194 v4196
  let c128_i32_2126 : BitVec 32 := 128#32
  let c0_i32_2129 : BitVec 32 := 0#32
  let v4198 : BitVec 1 := Scalar.cmpi .sgt c128_i32_2126 c0_i32_2129
  let v4199 : BitVec 32 := Scalar.extui v4198
  let c0_i32_2130 : BitVec 32 := 0#32
  let v4200 : BitVec 1 := Scalar.cmpi .slt c128_i32_2126 c0_i32_2130
  let v4201 : BitVec 32 := Scalar.extui v4200
  let v4202 : BitVec 32 := Scalar.subi v4199 v4201
  let v4203 : BitVec 1 := Scalar.cmpi .ne v4197 v4202
  let v4204 : BitVec 32 := Scalar.remsi v4191 c128_i32_2126
  let c0_i32_2131 : BitVec 32 := 0#32
  let v4205 : BitVec 1 := Scalar.cmpi .ne v4204 c0_i32_2131
  let v4206 : BitVec 1 := Scalar.andi v4203 v4205
  let v4192 : BitVec 32 := Scalar.divsi v4191 c128_i32_2126
  let c1_i32_2132 : BitVec 32 := 1#32
  let v4207 : BitVec 32 := Scalar.subi v4192 c1_i32_2132
  let v4208 : BitVec 32 := Scalar.select v4206 v4207 v4192
  let v4209 : Index := Scalar.indexCast v4208
  let c84_i32_2123 : BitVec 32 := 84#32
  let v4190 : BitVec 32 := Scalar.addi v4189 c84_i32_2123
  let v4210 : Index := Scalar.indexCast v4190
  let c0_2133 : Index := 0#32
  ![v4209.toNat, v4210.toNat, 0]

def k0_chk204 (v4189 : BitVec 32) (v4191 : BitVec 32) : Prop :=
  (∀ a, (k0_off754 v4189 v4191) a + S1x1x128.size a ≤ S250x128x128.size a)
theorem k0_off754_inb : ∀ (v4189 : BitVec 32) (v4191 : BitVec 32) (k0_hw204 : k0_chk204 v4189 v4191), ∀ a, (k0_off754 v4189 v4191) a + S1x1x128.size a ≤ S250x128x128.size a := fun v4189 v4191 k0_hw204 => k0_hw204

def k0_off755 (v4189 : BitVec 32) : Fin 2 → Nat :=
  let c84_i32_2123 : BitVec 32 := 84#32
  let v4190 : BitVec 32 := Scalar.addi v4189 c84_i32_2123
  let v4213 : Index := Scalar.indexCast v4190
  let c0_2134 : Index := 0#32
  ![v4213.toNat, 0]

def k0_chk205 (v4189 : BitVec 32) : Prop :=
  (∀ a, (k0_off755 v4189) a + S1x128.size a ≤ S128x128.size a)
theorem k0_off755_inb : ∀ (v4189 : BitVec 32) (k0_hw205 : k0_chk205 v4189), ∀ a, (k0_off755 v4189) a + S1x128.size a ≤ S128x128.size a := fun v4189 k0_hw205 => k0_hw205

def k0_off756 (v4229 : BitVec 32) (v4231 : BitVec 32) : Fin 3 → Nat :=
  let c0_i32_2147 : BitVec 32 := 0#32
  let v4233 : BitVec 1 := Scalar.cmpi .sgt v4231 c0_i32_2147
  let v4234 : BitVec 32 := Scalar.extui v4233
  let c0_i32_2148 : BitVec 32 := 0#32
  let v4235 : BitVec 1 := Scalar.cmpi .slt v4231 c0_i32_2148
  let v4236 : BitVec 32 := Scalar.extui v4235
  let v4237 : BitVec 32 := Scalar.subi v4234 v4236
  let c128_i32_2146 : BitVec 32 := 128#32
  let c0_i32_2149 : BitVec 32 := 0#32
  let v4238 : BitVec 1 := Scalar.cmpi .sgt c128_i32_2146 c0_i32_2149
  let v4239 : BitVec 32 := Scalar.extui v4238
  let c0_i32_2150 : BitVec 32 := 0#32
  let v4240 : BitVec 1 := Scalar.cmpi .slt c128_i32_2146 c0_i32_2150
  let v4241 : BitVec 32 := Scalar.extui v4240
  let v4242 : BitVec 32 := Scalar.subi v4239 v4241
  let v4243 : BitVec 1 := Scalar.cmpi .ne v4237 v4242
  let v4244 : BitVec 32 := Scalar.remsi v4231 c128_i32_2146
  let c0_i32_2151 : BitVec 32 := 0#32
  let v4245 : BitVec 1 := Scalar.cmpi .ne v4244 c0_i32_2151
  let v4246 : BitVec 1 := Scalar.andi v4243 v4245
  let v4232 : BitVec 32 := Scalar.divsi v4231 c128_i32_2146
  let c1_i32_2152 : BitVec 32 := 1#32
  let v4247 : BitVec 32 := Scalar.subi v4232 c1_i32_2152
  let v4248 : BitVec 32 := Scalar.select v4246 v4247 v4232
  let v4249 : Index := Scalar.indexCast v4248
  let c84_i32_2143 : BitVec 32 := 84#32
  let v4230 : BitVec 32 := Scalar.addi v4229 c84_i32_2143
  let v4250 : Index := Scalar.indexCast v4230
  let c0_2153 : Index := 0#32
  ![v4249.toNat, v4250.toNat, 0]

def k0_chk206 (v4229 : BitVec 32) (v4231 : BitVec 32) : Prop :=
  (∀ a, (k0_off756 v4229 v4231) a + S1x1x128.size a ≤ S250x128x128.size a)
theorem k0_off756_inb : ∀ (v4229 : BitVec 32) (v4231 : BitVec 32) (k0_hw206 : k0_chk206 v4229 v4231), ∀ a, (k0_off756 v4229 v4231) a + S1x1x128.size a ≤ S250x128x128.size a := fun v4229 v4231 k0_hw206 => k0_hw206

def k0_off757 (v4229 : BitVec 32) : Fin 2 → Nat :=
  let c84_i32_2143 : BitVec 32 := 84#32
  let v4230 : BitVec 32 := Scalar.addi v4229 c84_i32_2143
  let v4253 : Index := Scalar.indexCast v4230
  let c0_2154 : Index := 0#32
  ![v4253.toNat, 0]

def k0_chk207 (v4229 : BitVec 32) : Prop :=
  (∀ a, (k0_off757 v4229) a + S1x128.size a ≤ S128x128.size a)
theorem k0_off757_inb : ∀ (v4229 : BitVec 32) (k0_hw207 : k0_chk207 v4229), ∀ a, (k0_off757 v4229) a + S1x128.size a ≤ S128x128.size a := fun v4229 k0_hw207 => k0_hw207

def k0_off758 (v4269 : BitVec 32) (v4271 : BitVec 32) : Fin 3 → Nat :=
  let c0_i32_2167 : BitVec 32 := 0#32
  let v4273 : BitVec 1 := Scalar.cmpi .sgt v4271 c0_i32_2167
  let v4274 : BitVec 32 := Scalar.extui v4273
  let c0_i32_2168 : BitVec 32 := 0#32
  let v4275 : BitVec 1 := Scalar.cmpi .slt v4271 c0_i32_2168
  let v4276 : BitVec 32 := Scalar.extui v4275
  let v4277 : BitVec 32 := Scalar.subi v4274 v4276
  let c128_i32_2166 : BitVec 32 := 128#32
  let c0_i32_2169 : BitVec 32 := 0#32
  let v4278 : BitVec 1 := Scalar.cmpi .sgt c128_i32_2166 c0_i32_2169
  let v4279 : BitVec 32 := Scalar.extui v4278
  let c0_i32_2170 : BitVec 32 := 0#32
  let v4280 : BitVec 1 := Scalar.cmpi .slt c128_i32_2166 c0_i32_2170
  let v4281 : BitVec 32 := Scalar.extui v4280
  let v4282 : BitVec 32 := Scalar.subi v4279 v4281
  let v4283 : BitVec 1 := Scalar.cmpi .ne v4277 v4282
  let v4284 : BitVec 32 := Scalar.remsi v4271 c128_i32_2166
  let c0_i32_2171 : BitVec 32 := 0#32
  let v4285 : BitVec 1 := Scalar.cmpi .ne v4284 c0_i32_2171
  let v4286 : BitVec 1 := Scalar.andi v4283 v4285
  let v4272 : BitVec 32 := Scalar.divsi v4271 c128_i32_2166
  let c1_i32_2172 : BitVec 32 := 1#32
  let v4287 : BitVec 32 := Scalar.subi v4272 c1_i32_2172
  let v4288 : BitVec 32 := Scalar.select v4286 v4287 v4272
  let v4289 : Index := Scalar.indexCast v4288
  let c84_i32_2163 : BitVec 32 := 84#32
  let v4270 : BitVec 32 := Scalar.addi v4269 c84_i32_2163
  let v4290 : Index := Scalar.indexCast v4270
  let c0_2173 : Index := 0#32
  ![v4289.toNat, v4290.toNat, 0]

def k0_chk208 (v4269 : BitVec 32) (v4271 : BitVec 32) : Prop :=
  (∀ a, (k0_off758 v4269 v4271) a + S1x1x128.size a ≤ S250x128x128.size a)
theorem k0_off758_inb : ∀ (v4269 : BitVec 32) (v4271 : BitVec 32) (k0_hw208 : k0_chk208 v4269 v4271), ∀ a, (k0_off758 v4269 v4271) a + S1x1x128.size a ≤ S250x128x128.size a := fun v4269 v4271 k0_hw208 => k0_hw208

def k0_off759 (v4269 : BitVec 32) : Fin 2 → Nat :=
  let c84_i32_2163 : BitVec 32 := 84#32
  let v4270 : BitVec 32 := Scalar.addi v4269 c84_i32_2163
  let v4293 : Index := Scalar.indexCast v4270
  let c0_2174 : Index := 0#32
  ![v4293.toNat, 0]

def k0_chk209 (v4269 : BitVec 32) : Prop :=
  (∀ a, (k0_off759 v4269) a + S1x128.size a ≤ S128x128.size a)
theorem k0_off759_inb : ∀ (v4269 : BitVec 32) (k0_hw209 : k0_chk209 v4269), ∀ a, (k0_off759 v4269) a + S1x128.size a ≤ S128x128.size a := fun v4269 k0_hw209 => k0_hw209

def k0_off760 (v4309 : BitVec 32) (v4311 : BitVec 32) : Fin 3 → Nat :=
  let c0_i32_2187 : BitVec 32 := 0#32
  let v4313 : BitVec 1 := Scalar.cmpi .sgt v4311 c0_i32_2187
  let v4314 : BitVec 32 := Scalar.extui v4313
  let c0_i32_2188 : BitVec 32 := 0#32
  let v4315 : BitVec 1 := Scalar.cmpi .slt v4311 c0_i32_2188
  let v4316 : BitVec 32 := Scalar.extui v4315
  let v4317 : BitVec 32 := Scalar.subi v4314 v4316
  let c128_i32_2186 : BitVec 32 := 128#32
  let c0_i32_2189 : BitVec 32 := 0#32
  let v4318 : BitVec 1 := Scalar.cmpi .sgt c128_i32_2186 c0_i32_2189
  let v4319 : BitVec 32 := Scalar.extui v4318
  let c0_i32_2190 : BitVec 32 := 0#32
  let v4320 : BitVec 1 := Scalar.cmpi .slt c128_i32_2186 c0_i32_2190
  let v4321 : BitVec 32 := Scalar.extui v4320
  let v4322 : BitVec 32 := Scalar.subi v4319 v4321
  let v4323 : BitVec 1 := Scalar.cmpi .ne v4317 v4322
  let v4324 : BitVec 32 := Scalar.remsi v4311 c128_i32_2186
  let c0_i32_2191 : BitVec 32 := 0#32
  let v4325 : BitVec 1 := Scalar.cmpi .ne v4324 c0_i32_2191
  let v4326 : BitVec 1 := Scalar.andi v4323 v4325
  let v4312 : BitVec 32 := Scalar.divsi v4311 c128_i32_2186
  let c1_i32_2192 : BitVec 32 := 1#32
  let v4327 : BitVec 32 := Scalar.subi v4312 c1_i32_2192
  let v4328 : BitVec 32 := Scalar.select v4326 v4327 v4312
  let v4329 : Index := Scalar.indexCast v4328
  let c84_i32_2183 : BitVec 32 := 84#32
  let v4310 : BitVec 32 := Scalar.addi v4309 c84_i32_2183
  let v4330 : Index := Scalar.indexCast v4310
  let c0_2193 : Index := 0#32
  ![v4329.toNat, v4330.toNat, 0]

def k0_chk210 (v4309 : BitVec 32) (v4311 : BitVec 32) : Prop :=
  (∀ a, (k0_off760 v4309 v4311) a + S1x1x128.size a ≤ S250x128x128.size a)
theorem k0_off760_inb : ∀ (v4309 : BitVec 32) (v4311 : BitVec 32) (k0_hw210 : k0_chk210 v4309 v4311), ∀ a, (k0_off760 v4309 v4311) a + S1x1x128.size a ≤ S250x128x128.size a := fun v4309 v4311 k0_hw210 => k0_hw210

def k0_off761 (v4309 : BitVec 32) : Fin 2 → Nat :=
  let c84_i32_2183 : BitVec 32 := 84#32
  let v4310 : BitVec 32 := Scalar.addi v4309 c84_i32_2183
  let v4333 : Index := Scalar.indexCast v4310
  let c0_2194 : Index := 0#32
  ![v4333.toNat, 0]

def k0_chk211 (v4309 : BitVec 32) : Prop :=
  (∀ a, (k0_off761 v4309) a + S1x128.size a ≤ S128x128.size a)
theorem k0_off761_inb : ∀ (v4309 : BitVec 32) (k0_hw211 : k0_chk211 v4309), ∀ a, (k0_off761 v4309) a + S1x128.size a ≤ S128x128.size a := fun v4309 k0_hw211 => k0_hw211

def k0_off762 (v4349 : BitVec 32) (v4351 : BitVec 32) : Fin 3 → Nat :=
  let c0_i32_2207 : BitVec 32 := 0#32
  let v4353 : BitVec 1 := Scalar.cmpi .sgt v4351 c0_i32_2207
  let v4354 : BitVec 32 := Scalar.extui v4353
  let c0_i32_2208 : BitVec 32 := 0#32
  let v4355 : BitVec 1 := Scalar.cmpi .slt v4351 c0_i32_2208
  let v4356 : BitVec 32 := Scalar.extui v4355
  let v4357 : BitVec 32 := Scalar.subi v4354 v4356
  let c128_i32_2206 : BitVec 32 := 128#32
  let c0_i32_2209 : BitVec 32 := 0#32
  let v4358 : BitVec 1 := Scalar.cmpi .sgt c128_i32_2206 c0_i32_2209
  let v4359 : BitVec 32 := Scalar.extui v4358
  let c0_i32_2210 : BitVec 32 := 0#32
  let v4360 : BitVec 1 := Scalar.cmpi .slt c128_i32_2206 c0_i32_2210
  let v4361 : BitVec 32 := Scalar.extui v4360
  let v4362 : BitVec 32 := Scalar.subi v4359 v4361
  let v4363 : BitVec 1 := Scalar.cmpi .ne v4357 v4362
  let v4364 : BitVec 32 := Scalar.remsi v4351 c128_i32_2206
  let c0_i32_2211 : BitVec 32 := 0#32
  let v4365 : BitVec 1 := Scalar.cmpi .ne v4364 c0_i32_2211
  let v4366 : BitVec 1 := Scalar.andi v4363 v4365
  let v4352 : BitVec 32 := Scalar.divsi v4351 c128_i32_2206
  let c1_i32_2212 : BitVec 32 := 1#32
  let v4367 : BitVec 32 := Scalar.subi v4352 c1_i32_2212
  let v4368 : BitVec 32 := Scalar.select v4366 v4367 v4352
  let v4369 : Index := Scalar.indexCast v4368
  let c84_i32_2203 : BitVec 32 := 84#32
  let v4350 : BitVec 32 := Scalar.addi v4349 c84_i32_2203
  let v4370 : Index := Scalar.indexCast v4350
  let c0_2213 : Index := 0#32
  ![v4369.toNat, v4370.toNat, 0]

def k0_chk212 (v4349 : BitVec 32) (v4351 : BitVec 32) : Prop :=
  (∀ a, (k0_off762 v4349 v4351) a + S1x1x128.size a ≤ S250x128x128.size a)
theorem k0_off762_inb : ∀ (v4349 : BitVec 32) (v4351 : BitVec 32) (k0_hw212 : k0_chk212 v4349 v4351), ∀ a, (k0_off762 v4349 v4351) a + S1x1x128.size a ≤ S250x128x128.size a := fun v4349 v4351 k0_hw212 => k0_hw212

def k0_off763 (v4349 : BitVec 32) : Fin 2 → Nat :=
  let c84_i32_2203 : BitVec 32 := 84#32
  let v4350 : BitVec 32 := Scalar.addi v4349 c84_i32_2203
  let v4373 : Index := Scalar.indexCast v4350
  let c0_2214 : Index := 0#32
  ![v4373.toNat, 0]

def k0_chk213 (v4349 : BitVec 32) : Prop :=
  (∀ a, (k0_off763 v4349) a + S1x128.size a ≤ S128x128.size a)
theorem k0_off763_inb : ∀ (v4349 : BitVec 32) (k0_hw213 : k0_chk213 v4349), ∀ a, (k0_off763 v4349) a + S1x128.size a ≤ S128x128.size a := fun v4349 k0_hw213 => k0_hw213

def k0_off764 (v4389 : BitVec 32) (v4391 : BitVec 32) : Fin 3 → Nat :=
  let c0_i32_2227 : BitVec 32 := 0#32
  let v4393 : BitVec 1 := Scalar.cmpi .sgt v4391 c0_i32_2227
  let v4394 : BitVec 32 := Scalar.extui v4393
  let c0_i32_2228 : BitVec 32 := 0#32
  let v4395 : BitVec 1 := Scalar.cmpi .slt v4391 c0_i32_2228
  let v4396 : BitVec 32 := Scalar.extui v4395
  let v4397 : BitVec 32 := Scalar.subi v4394 v4396
  let c128_i32_2226 : BitVec 32 := 128#32
  let c0_i32_2229 : BitVec 32 := 0#32
  let v4398 : BitVec 1 := Scalar.cmpi .sgt c128_i32_2226 c0_i32_2229
  let v4399 : BitVec 32 := Scalar.extui v4398
  let c0_i32_2230 : BitVec 32 := 0#32
  let v4400 : BitVec 1 := Scalar.cmpi .slt c128_i32_2226 c0_i32_2230
  let v4401 : BitVec 32 := Scalar.extui v4400
  let v4402 : BitVec 32 := Scalar.subi v4399 v4401
  let v4403 : BitVec 1 := Scalar.cmpi .ne v4397 v4402
  let v4404 : BitVec 32 := Scalar.remsi v4391 c128_i32_2226
  let c0_i32_2231 : BitVec 32 := 0#32
  let v4405 : BitVec 1 := Scalar.cmpi .ne v4404 c0_i32_2231
  let v4406 : BitVec 1 := Scalar.andi v4403 v4405
  let v4392 : BitVec 32 := Scalar.divsi v4391 c128_i32_2226
  let c1_i32_2232 : BitVec 32 := 1#32
  let v4407 : BitVec 32 := Scalar.subi v4392 c1_i32_2232
  let v4408 : BitVec 32 := Scalar.select v4406 v4407 v4392
  let v4409 : Index := Scalar.indexCast v4408
  let c84_i32_2223 : BitVec 32 := 84#32
  let v4390 : BitVec 32 := Scalar.addi v4389 c84_i32_2223
  let v4410 : Index := Scalar.indexCast v4390
  let c0_2233 : Index := 0#32
  ![v4409.toNat, v4410.toNat, 0]

def k0_chk214 (v4389 : BitVec 32) (v4391 : BitVec 32) : Prop :=
  (∀ a, (k0_off764 v4389 v4391) a + S1x1x128.size a ≤ S250x128x128.size a)
theorem k0_off764_inb : ∀ (v4389 : BitVec 32) (v4391 : BitVec 32) (k0_hw214 : k0_chk214 v4389 v4391), ∀ a, (k0_off764 v4389 v4391) a + S1x1x128.size a ≤ S250x128x128.size a := fun v4389 v4391 k0_hw214 => k0_hw214

def k0_off765 (v4389 : BitVec 32) : Fin 2 → Nat :=
  let c84_i32_2223 : BitVec 32 := 84#32
  let v4390 : BitVec 32 := Scalar.addi v4389 c84_i32_2223
  let v4413 : Index := Scalar.indexCast v4390
  let c0_2234 : Index := 0#32
  ![v4413.toNat, 0]

def k0_chk215 (v4389 : BitVec 32) : Prop :=
  (∀ a, (k0_off765 v4389) a + S1x128.size a ≤ S128x128.size a)
theorem k0_off765_inb : ∀ (v4389 : BitVec 32) (k0_hw215 : k0_chk215 v4389), ∀ a, (k0_off765 v4389) a + S1x128.size a ≤ S128x128.size a := fun v4389 k0_hw215 => k0_hw215

def k0_off766 (v4429 : BitVec 32) (v4431 : BitVec 32) : Fin 3 → Nat :=
  let c0_i32_2247 : BitVec 32 := 0#32
  let v4433 : BitVec 1 := Scalar.cmpi .sgt v4431 c0_i32_2247
  let v4434 : BitVec 32 := Scalar.extui v4433
  let c0_i32_2248 : BitVec 32 := 0#32
  let v4435 : BitVec 1 := Scalar.cmpi .slt v4431 c0_i32_2248
  let v4436 : BitVec 32 := Scalar.extui v4435
  let v4437 : BitVec 32 := Scalar.subi v4434 v4436
  let c128_i32_2246 : BitVec 32 := 128#32
  let c0_i32_2249 : BitVec 32 := 0#32
  let v4438 : BitVec 1 := Scalar.cmpi .sgt c128_i32_2246 c0_i32_2249
  let v4439 : BitVec 32 := Scalar.extui v4438
  let c0_i32_2250 : BitVec 32 := 0#32
  let v4440 : BitVec 1 := Scalar.cmpi .slt c128_i32_2246 c0_i32_2250
  let v4441 : BitVec 32 := Scalar.extui v4440
  let v4442 : BitVec 32 := Scalar.subi v4439 v4441
  let v4443 : BitVec 1 := Scalar.cmpi .ne v4437 v4442
  let v4444 : BitVec 32 := Scalar.remsi v4431 c128_i32_2246
  let c0_i32_2251 : BitVec 32 := 0#32
  let v4445 : BitVec 1 := Scalar.cmpi .ne v4444 c0_i32_2251
  let v4446 : BitVec 1 := Scalar.andi v4443 v4445
  let v4432 : BitVec 32 := Scalar.divsi v4431 c128_i32_2246
  let c1_i32_2252 : BitVec 32 := 1#32
  let v4447 : BitVec 32 := Scalar.subi v4432 c1_i32_2252
  let v4448 : BitVec 32 := Scalar.select v4446 v4447 v4432
  let v4449 : Index := Scalar.indexCast v4448
  let c84_i32_2243 : BitVec 32 := 84#32
  let v4430 : BitVec 32 := Scalar.addi v4429 c84_i32_2243
  let v4450 : Index := Scalar.indexCast v4430
  let c0_2253 : Index := 0#32
  ![v4449.toNat, v4450.toNat, 0]

def k0_chk216 (v4429 : BitVec 32) (v4431 : BitVec 32) : Prop :=
  (∀ a, (k0_off766 v4429 v4431) a + S1x1x128.size a ≤ S250x128x128.size a)
theorem k0_off766_inb : ∀ (v4429 : BitVec 32) (v4431 : BitVec 32) (k0_hw216 : k0_chk216 v4429 v4431), ∀ a, (k0_off766 v4429 v4431) a + S1x1x128.size a ≤ S250x128x128.size a := fun v4429 v4431 k0_hw216 => k0_hw216

def k0_off767 (v4429 : BitVec 32) : Fin 2 → Nat :=
  let c84_i32_2243 : BitVec 32 := 84#32
  let v4430 : BitVec 32 := Scalar.addi v4429 c84_i32_2243
  let v4453 : Index := Scalar.indexCast v4430
  let c0_2254 : Index := 0#32
  ![v4453.toNat, 0]

def k0_chk217 (v4429 : BitVec 32) : Prop :=
  (∀ a, (k0_off767 v4429) a + S1x128.size a ≤ S128x128.size a)
theorem k0_off767_inb : ∀ (v4429 : BitVec 32) (k0_hw217 : k0_chk217 v4429), ∀ a, (k0_off767 v4429) a + S1x128.size a ≤ S128x128.size a := fun v4429 k0_hw217 => k0_hw217

def k0_off768 (v4469 : BitVec 32) (v4471 : BitVec 32) : Fin 3 → Nat :=
  let c0_i32_2267 : BitVec 32 := 0#32
  let v4473 : BitVec 1 := Scalar.cmpi .sgt v4471 c0_i32_2267
  let v4474 : BitVec 32 := Scalar.extui v4473
  let c0_i32_2268 : BitVec 32 := 0#32
  let v4475 : BitVec 1 := Scalar.cmpi .slt v4471 c0_i32_2268
  let v4476 : BitVec 32 := Scalar.extui v4475
  let v4477 : BitVec 32 := Scalar.subi v4474 v4476
  let c128_i32_2266 : BitVec 32 := 128#32
  let c0_i32_2269 : BitVec 32 := 0#32
  let v4478 : BitVec 1 := Scalar.cmpi .sgt c128_i32_2266 c0_i32_2269
  let v4479 : BitVec 32 := Scalar.extui v4478
  let c0_i32_2270 : BitVec 32 := 0#32
  let v4480 : BitVec 1 := Scalar.cmpi .slt c128_i32_2266 c0_i32_2270
  let v4481 : BitVec 32 := Scalar.extui v4480
  let v4482 : BitVec 32 := Scalar.subi v4479 v4481
  let v4483 : BitVec 1 := Scalar.cmpi .ne v4477 v4482
  let v4484 : BitVec 32 := Scalar.remsi v4471 c128_i32_2266
  let c0_i32_2271 : BitVec 32 := 0#32
  let v4485 : BitVec 1 := Scalar.cmpi .ne v4484 c0_i32_2271
  let v4486 : BitVec 1 := Scalar.andi v4483 v4485
  let v4472 : BitVec 32 := Scalar.divsi v4471 c128_i32_2266
  let c1_i32_2272 : BitVec 32 := 1#32
  let v4487 : BitVec 32 := Scalar.subi v4472 c1_i32_2272
  let v4488 : BitVec 32 := Scalar.select v4486 v4487 v4472
  let v4489 : Index := Scalar.indexCast v4488
  let c84_i32_2263 : BitVec 32 := 84#32
  let v4470 : BitVec 32 := Scalar.addi v4469 c84_i32_2263
  let v4490 : Index := Scalar.indexCast v4470
  let c0_2273 : Index := 0#32
  ![v4489.toNat, v4490.toNat, 0]

def k0_chk218 (v4469 : BitVec 32) (v4471 : BitVec 32) : Prop :=
  (∀ a, (k0_off768 v4469 v4471) a + S1x1x128.size a ≤ S250x128x128.size a)
theorem k0_off768_inb : ∀ (v4469 : BitVec 32) (v4471 : BitVec 32) (k0_hw218 : k0_chk218 v4469 v4471), ∀ a, (k0_off768 v4469 v4471) a + S1x1x128.size a ≤ S250x128x128.size a := fun v4469 v4471 k0_hw218 => k0_hw218

def k0_off769 (v4469 : BitVec 32) : Fin 2 → Nat :=
  let c84_i32_2263 : BitVec 32 := 84#32
  let v4470 : BitVec 32 := Scalar.addi v4469 c84_i32_2263
  let v4493 : Index := Scalar.indexCast v4470
  let c0_2274 : Index := 0#32
  ![v4493.toNat, 0]

def k0_chk219 (v4469 : BitVec 32) : Prop :=
  (∀ a, (k0_off769 v4469) a + S1x128.size a ≤ S128x128.size a)
theorem k0_off769_inb : ∀ (v4469 : BitVec 32) (k0_hw219 : k0_chk219 v4469), ∀ a, (k0_off769 v4469) a + S1x128.size a ≤ S128x128.size a := fun v4469 k0_hw219 => k0_hw219

def k0_off770 (v4509 : BitVec 32) (v4511 : BitVec 32) : Fin 3 → Nat :=
  let c0_i32_2287 : BitVec 32 := 0#32
  let v4513 : BitVec 1 := Scalar.cmpi .sgt v4511 c0_i32_2287
  let v4514 : BitVec 32 := Scalar.extui v4513
  let c0_i32_2288 : BitVec 32 := 0#32
  let v4515 : BitVec 1 := Scalar.cmpi .slt v4511 c0_i32_2288
  let v4516 : BitVec 32 := Scalar.extui v4515
  let v4517 : BitVec 32 := Scalar.subi v4514 v4516
  let c128_i32_2286 : BitVec 32 := 128#32
  let c0_i32_2289 : BitVec 32 := 0#32
  let v4518 : BitVec 1 := Scalar.cmpi .sgt c128_i32_2286 c0_i32_2289
  let v4519 : BitVec 32 := Scalar.extui v4518
  let c0_i32_2290 : BitVec 32 := 0#32
  let v4520 : BitVec 1 := Scalar.cmpi .slt c128_i32_2286 c0_i32_2290
  let v4521 : BitVec 32 := Scalar.extui v4520
  let v4522 : BitVec 32 := Scalar.subi v4519 v4521
  let v4523 : BitVec 1 := Scalar.cmpi .ne v4517 v4522
  let v4524 : BitVec 32 := Scalar.remsi v4511 c128_i32_2286
  let c0_i32_2291 : BitVec 32 := 0#32
  let v4525 : BitVec 1 := Scalar.cmpi .ne v4524 c0_i32_2291
  let v4526 : BitVec 1 := Scalar.andi v4523 v4525
  let v4512 : BitVec 32 := Scalar.divsi v4511 c128_i32_2286
  let c1_i32_2292 : BitVec 32 := 1#32
  let v4527 : BitVec 32 := Scalar.subi v4512 c1_i32_2292
  let v4528 : BitVec 32 := Scalar.select v4526 v4527 v4512
  let v4529 : Index := Scalar.indexCast v4528
  let c84_i32_2283 : BitVec 32 := 84#32
  let v4510 : BitVec 32 := Scalar.addi v4509 c84_i32_2283
  let v4530 : Index := Scalar.indexCast v4510
  let c0_2293 : Index := 0#32
  ![v4529.toNat, v4530.toNat, 0]

def k0_chk220 (v4509 : BitVec 32) (v4511 : BitVec 32) : Prop :=
  (∀ a, (k0_off770 v4509 v4511) a + S1x1x128.size a ≤ S250x128x128.size a)
theorem k0_off770_inb : ∀ (v4509 : BitVec 32) (v4511 : BitVec 32) (k0_hw220 : k0_chk220 v4509 v4511), ∀ a, (k0_off770 v4509 v4511) a + S1x1x128.size a ≤ S250x128x128.size a := fun v4509 v4511 k0_hw220 => k0_hw220

def k0_off771 (v4509 : BitVec 32) : Fin 2 → Nat :=
  let c84_i32_2283 : BitVec 32 := 84#32
  let v4510 : BitVec 32 := Scalar.addi v4509 c84_i32_2283
  let v4533 : Index := Scalar.indexCast v4510
  let c0_2294 : Index := 0#32
  ![v4533.toNat, 0]

def k0_chk221 (v4509 : BitVec 32) : Prop :=
  (∀ a, (k0_off771 v4509) a + S1x128.size a ≤ S128x128.size a)
theorem k0_off771_inb : ∀ (v4509 : BitVec 32) (k0_hw221 : k0_chk221 v4509), ∀ a, (k0_off771 v4509) a + S1x128.size a ≤ S128x128.size a := fun v4509 k0_hw221 => k0_hw221

def k0_off772 (v4549 : BitVec 32) (v4551 : BitVec 32) : Fin 3 → Nat :=
  let c0_i32_2307 : BitVec 32 := 0#32
  let v4553 : BitVec 1 := Scalar.cmpi .sgt v4551 c0_i32_2307
  let v4554 : BitVec 32 := Scalar.extui v4553
  let c0_i32_2308 : BitVec 32 := 0#32
  let v4555 : BitVec 1 := Scalar.cmpi .slt v4551 c0_i32_2308
  let v4556 : BitVec 32 := Scalar.extui v4555
  let v4557 : BitVec 32 := Scalar.subi v4554 v4556
  let c128_i32_2306 : BitVec 32 := 128#32
  let c0_i32_2309 : BitVec 32 := 0#32
  let v4558 : BitVec 1 := Scalar.cmpi .sgt c128_i32_2306 c0_i32_2309
  let v4559 : BitVec 32 := Scalar.extui v4558
  let c0_i32_2310 : BitVec 32 := 0#32
  let v4560 : BitVec 1 := Scalar.cmpi .slt c128_i32_2306 c0_i32_2310
  let v4561 : BitVec 32 := Scalar.extui v4560
  let v4562 : BitVec 32 := Scalar.subi v4559 v4561
  let v4563 : BitVec 1 := Scalar.cmpi .ne v4557 v4562
  let v4564 : BitVec 32 := Scalar.remsi v4551 c128_i32_2306
  let c0_i32_2311 : BitVec 32 := 0#32
  let v4565 : BitVec 1 := Scalar.cmpi .ne v4564 c0_i32_2311
  let v4566 : BitVec 1 := Scalar.andi v4563 v4565
  let v4552 : BitVec 32 := Scalar.divsi v4551 c128_i32_2306
  let c1_i32_2312 : BitVec 32 := 1#32
  let v4567 : BitVec 32 := Scalar.subi v4552 c1_i32_2312
  let v4568 : BitVec 32 := Scalar.select v4566 v4567 v4552
  let v4569 : Index := Scalar.indexCast v4568
  let c84_i32_2303 : BitVec 32 := 84#32
  let v4550 : BitVec 32 := Scalar.addi v4549 c84_i32_2303
  let v4570 : Index := Scalar.indexCast v4550
  let c0_2313 : Index := 0#32
  ![v4569.toNat, v4570.toNat, 0]

def k0_chk222 (v4549 : BitVec 32) (v4551 : BitVec 32) : Prop :=
  (∀ a, (k0_off772 v4549 v4551) a + S1x1x128.size a ≤ S250x128x128.size a)
theorem k0_off772_inb : ∀ (v4549 : BitVec 32) (v4551 : BitVec 32) (k0_hw222 : k0_chk222 v4549 v4551), ∀ a, (k0_off772 v4549 v4551) a + S1x1x128.size a ≤ S250x128x128.size a := fun v4549 v4551 k0_hw222 => k0_hw222

def k0_off773 (v4549 : BitVec 32) : Fin 2 → Nat :=
  let c84_i32_2303 : BitVec 32 := 84#32
  let v4550 : BitVec 32 := Scalar.addi v4549 c84_i32_2303
  let v4573 : Index := Scalar.indexCast v4550
  let c0_2314 : Index := 0#32
  ![v4573.toNat, 0]

def k0_chk223 (v4549 : BitVec 32) : Prop :=
  (∀ a, (k0_off773 v4549) a + S1x128.size a ≤ S128x128.size a)
theorem k0_off773_inb : ∀ (v4549 : BitVec 32) (k0_hw223 : k0_chk223 v4549), ∀ a, (k0_off773 v4549) a + S1x128.size a ≤ S128x128.size a := fun v4549 k0_hw223 => k0_hw223

def k0_off774 (v4589 : BitVec 32) (v4591 : BitVec 32) : Fin 3 → Nat :=
  let c0_i32_2327 : BitVec 32 := 0#32
  let v4593 : BitVec 1 := Scalar.cmpi .sgt v4591 c0_i32_2327
  let v4594 : BitVec 32 := Scalar.extui v4593
  let c0_i32_2328 : BitVec 32 := 0#32
  let v4595 : BitVec 1 := Scalar.cmpi .slt v4591 c0_i32_2328
  let v4596 : BitVec 32 := Scalar.extui v4595
  let v4597 : BitVec 32 := Scalar.subi v4594 v4596
  let c128_i32_2326 : BitVec 32 := 128#32
  let c0_i32_2329 : BitVec 32 := 0#32
  let v4598 : BitVec 1 := Scalar.cmpi .sgt c128_i32_2326 c0_i32_2329
  let v4599 : BitVec 32 := Scalar.extui v4598
  let c0_i32_2330 : BitVec 32 := 0#32
  let v4600 : BitVec 1 := Scalar.cmpi .slt c128_i32_2326 c0_i32_2330
  let v4601 : BitVec 32 := Scalar.extui v4600
  let v4602 : BitVec 32 := Scalar.subi v4599 v4601
  let v4603 : BitVec 1 := Scalar.cmpi .ne v4597 v4602
  let v4604 : BitVec 32 := Scalar.remsi v4591 c128_i32_2326
  let c0_i32_2331 : BitVec 32 := 0#32
  let v4605 : BitVec 1 := Scalar.cmpi .ne v4604 c0_i32_2331
  let v4606 : BitVec 1 := Scalar.andi v4603 v4605
  let v4592 : BitVec 32 := Scalar.divsi v4591 c128_i32_2326
  let c1_i32_2332 : BitVec 32 := 1#32
  let v4607 : BitVec 32 := Scalar.subi v4592 c1_i32_2332
  let v4608 : BitVec 32 := Scalar.select v4606 v4607 v4592
  let v4609 : Index := Scalar.indexCast v4608
  let c84_i32_2323 : BitVec 32 := 84#32
  let v4590 : BitVec 32 := Scalar.addi v4589 c84_i32_2323
  let v4610 : Index := Scalar.indexCast v4590
  let c0_2333 : Index := 0#32
  ![v4609.toNat, v4610.toNat, 0]

def k0_chk224 (v4589 : BitVec 32) (v4591 : BitVec 32) : Prop :=
  (∀ a, (k0_off774 v4589 v4591) a + S1x1x128.size a ≤ S250x128x128.size a)
theorem k0_off774_inb : ∀ (v4589 : BitVec 32) (v4591 : BitVec 32) (k0_hw224 : k0_chk224 v4589 v4591), ∀ a, (k0_off774 v4589 v4591) a + S1x1x128.size a ≤ S250x128x128.size a := fun v4589 v4591 k0_hw224 => k0_hw224

def k0_off775 (v4589 : BitVec 32) : Fin 2 → Nat :=
  let c84_i32_2323 : BitVec 32 := 84#32
  let v4590 : BitVec 32 := Scalar.addi v4589 c84_i32_2323
  let v4613 : Index := Scalar.indexCast v4590
  let c0_2334 : Index := 0#32
  ![v4613.toNat, 0]

def k0_chk225 (v4589 : BitVec 32) : Prop :=
  (∀ a, (k0_off775 v4589) a + S1x128.size a ≤ S128x128.size a)
theorem k0_off775_inb : ∀ (v4589 : BitVec 32) (k0_hw225 : k0_chk225 v4589), ∀ a, (k0_off775 v4589) a + S1x128.size a ≤ S128x128.size a := fun v4589 k0_hw225 => k0_hw225

def k0_off776 (v4629 : BitVec 32) (v4631 : BitVec 32) : Fin 3 → Nat :=
  let c0_i32_2347 : BitVec 32 := 0#32
  let v4633 : BitVec 1 := Scalar.cmpi .sgt v4631 c0_i32_2347
  let v4634 : BitVec 32 := Scalar.extui v4633
  let c0_i32_2348 : BitVec 32 := 0#32
  let v4635 : BitVec 1 := Scalar.cmpi .slt v4631 c0_i32_2348
  let v4636 : BitVec 32 := Scalar.extui v4635
  let v4637 : BitVec 32 := Scalar.subi v4634 v4636
  let c128_i32_2346 : BitVec 32 := 128#32
  let c0_i32_2349 : BitVec 32 := 0#32
  let v4638 : BitVec 1 := Scalar.cmpi .sgt c128_i32_2346 c0_i32_2349
  let v4639 : BitVec 32 := Scalar.extui v4638
  let c0_i32_2350 : BitVec 32 := 0#32
  let v4640 : BitVec 1 := Scalar.cmpi .slt c128_i32_2346 c0_i32_2350
  let v4641 : BitVec 32 := Scalar.extui v4640
  let v4642 : BitVec 32 := Scalar.subi v4639 v4641
  let v4643 : BitVec 1 := Scalar.cmpi .ne v4637 v4642
  let v4644 : BitVec 32 := Scalar.remsi v4631 c128_i32_2346
  let c0_i32_2351 : BitVec 32 := 0#32
  let v4645 : BitVec 1 := Scalar.cmpi .ne v4644 c0_i32_2351
  let v4646 : BitVec 1 := Scalar.andi v4643 v4645
  let v4632 : BitVec 32 := Scalar.divsi v4631 c128_i32_2346
  let c1_i32_2352 : BitVec 32 := 1#32
  let v4647 : BitVec 32 := Scalar.subi v4632 c1_i32_2352
  let v4648 : BitVec 32 := Scalar.select v4646 v4647 v4632
  let v4649 : Index := Scalar.indexCast v4648
  let c84_i32_2343 : BitVec 32 := 84#32
  let v4630 : BitVec 32 := Scalar.addi v4629 c84_i32_2343
  let v4650 : Index := Scalar.indexCast v4630
  let c0_2353 : Index := 0#32
  ![v4649.toNat, v4650.toNat, 0]

def k0_chk226 (v4629 : BitVec 32) (v4631 : BitVec 32) : Prop :=
  (∀ a, (k0_off776 v4629 v4631) a + S1x1x128.size a ≤ S250x128x128.size a)
theorem k0_off776_inb : ∀ (v4629 : BitVec 32) (v4631 : BitVec 32) (k0_hw226 : k0_chk226 v4629 v4631), ∀ a, (k0_off776 v4629 v4631) a + S1x1x128.size a ≤ S250x128x128.size a := fun v4629 v4631 k0_hw226 => k0_hw226

def k0_off777 (v4629 : BitVec 32) : Fin 2 → Nat :=
  let c84_i32_2343 : BitVec 32 := 84#32
  let v4630 : BitVec 32 := Scalar.addi v4629 c84_i32_2343
  let v4653 : Index := Scalar.indexCast v4630
  let c0_2354 : Index := 0#32
  ![v4653.toNat, 0]

def k0_chk227 (v4629 : BitVec 32) : Prop :=
  (∀ a, (k0_off777 v4629) a + S1x128.size a ≤ S128x128.size a)
theorem k0_off777_inb : ∀ (v4629 : BitVec 32) (k0_hw227 : k0_chk227 v4629), ∀ a, (k0_off777 v4629) a + S1x128.size a ≤ S128x128.size a := fun v4629 k0_hw227 => k0_hw227

def k0_off778 (v4669 : BitVec 32) (v4671 : BitVec 32) : Fin 3 → Nat :=
  let c0_i32_2367 : BitVec 32 := 0#32
  let v4673 : BitVec 1 := Scalar.cmpi .sgt v4671 c0_i32_2367
  let v4674 : BitVec 32 := Scalar.extui v4673
  let c0_i32_2368 : BitVec 32 := 0#32
  let v4675 : BitVec 1 := Scalar.cmpi .slt v4671 c0_i32_2368
  let v4676 : BitVec 32 := Scalar.extui v4675
  let v4677 : BitVec 32 := Scalar.subi v4674 v4676
  let c128_i32_2366 : BitVec 32 := 128#32
  let c0_i32_2369 : BitVec 32 := 0#32
  let v4678 : BitVec 1 := Scalar.cmpi .sgt c128_i32_2366 c0_i32_2369
  let v4679 : BitVec 32 := Scalar.extui v4678
  let c0_i32_2370 : BitVec 32 := 0#32
  let v4680 : BitVec 1 := Scalar.cmpi .slt c128_i32_2366 c0_i32_2370
  let v4681 : BitVec 32 := Scalar.extui v4680
  let v4682 : BitVec 32 := Scalar.subi v4679 v4681
  let v4683 : BitVec 1 := Scalar.cmpi .ne v4677 v4682
  let v4684 : BitVec 32 := Scalar.remsi v4671 c128_i32_2366
  let c0_i32_2371 : BitVec 32 := 0#32
  let v4685 : BitVec 1 := Scalar.cmpi .ne v4684 c0_i32_2371
  let v4686 : BitVec 1 := Scalar.andi v4683 v4685
  let v4672 : BitVec 32 := Scalar.divsi v4671 c128_i32_2366
  let c1_i32_2372 : BitVec 32 := 1#32
  let v4687 : BitVec 32 := Scalar.subi v4672 c1_i32_2372
  let v4688 : BitVec 32 := Scalar.select v4686 v4687 v4672
  let v4689 : Index := Scalar.indexCast v4688
  let c84_i32_2363 : BitVec 32 := 84#32
  let v4670 : BitVec 32 := Scalar.addi v4669 c84_i32_2363
  let v4690 : Index := Scalar.indexCast v4670
  let c0_2373 : Index := 0#32
  ![v4689.toNat, v4690.toNat, 0]

def k0_chk228 (v4669 : BitVec 32) (v4671 : BitVec 32) : Prop :=
  (∀ a, (k0_off778 v4669 v4671) a + S1x1x128.size a ≤ S250x128x128.size a)
theorem k0_off778_inb : ∀ (v4669 : BitVec 32) (v4671 : BitVec 32) (k0_hw228 : k0_chk228 v4669 v4671), ∀ a, (k0_off778 v4669 v4671) a + S1x1x128.size a ≤ S250x128x128.size a := fun v4669 v4671 k0_hw228 => k0_hw228

def k0_off779 (v4669 : BitVec 32) : Fin 2 → Nat :=
  let c84_i32_2363 : BitVec 32 := 84#32
  let v4670 : BitVec 32 := Scalar.addi v4669 c84_i32_2363
  let v4693 : Index := Scalar.indexCast v4670
  let c0_2374 : Index := 0#32
  ![v4693.toNat, 0]

def k0_chk229 (v4669 : BitVec 32) : Prop :=
  (∀ a, (k0_off779 v4669) a + S1x128.size a ≤ S128x128.size a)
theorem k0_off779_inb : ∀ (v4669 : BitVec 32) (k0_hw229 : k0_chk229 v4669), ∀ a, (k0_off779 v4669) a + S1x128.size a ≤ S128x128.size a := fun v4669 k0_hw229 => k0_hw229

def k0_off780 (v4709 : BitVec 32) (v4711 : BitVec 32) : Fin 3 → Nat :=
  let c0_i32_2387 : BitVec 32 := 0#32
  let v4713 : BitVec 1 := Scalar.cmpi .sgt v4711 c0_i32_2387
  let v4714 : BitVec 32 := Scalar.extui v4713
  let c0_i32_2388 : BitVec 32 := 0#32
  let v4715 : BitVec 1 := Scalar.cmpi .slt v4711 c0_i32_2388
  let v4716 : BitVec 32 := Scalar.extui v4715
  let v4717 : BitVec 32 := Scalar.subi v4714 v4716
  let c128_i32_2386 : BitVec 32 := 128#32
  let c0_i32_2389 : BitVec 32 := 0#32
  let v4718 : BitVec 1 := Scalar.cmpi .sgt c128_i32_2386 c0_i32_2389
  let v4719 : BitVec 32 := Scalar.extui v4718
  let c0_i32_2390 : BitVec 32 := 0#32
  let v4720 : BitVec 1 := Scalar.cmpi .slt c128_i32_2386 c0_i32_2390
  let v4721 : BitVec 32 := Scalar.extui v4720
  let v4722 : BitVec 32 := Scalar.subi v4719 v4721
  let v4723 : BitVec 1 := Scalar.cmpi .ne v4717 v4722
  let v4724 : BitVec 32 := Scalar.remsi v4711 c128_i32_2386
  let c0_i32_2391 : BitVec 32 := 0#32
  let v4725 : BitVec 1 := Scalar.cmpi .ne v4724 c0_i32_2391
  let v4726 : BitVec 1 := Scalar.andi v4723 v4725
  let v4712 : BitVec 32 := Scalar.divsi v4711 c128_i32_2386
  let c1_i32_2392 : BitVec 32 := 1#32
  let v4727 : BitVec 32 := Scalar.subi v4712 c1_i32_2392
  let v4728 : BitVec 32 := Scalar.select v4726 v4727 v4712
  let v4729 : Index := Scalar.indexCast v4728
  let c84_i32_2383 : BitVec 32 := 84#32
  let v4710 : BitVec 32 := Scalar.addi v4709 c84_i32_2383
  let v4730 : Index := Scalar.indexCast v4710
  let c0_2393 : Index := 0#32
  ![v4729.toNat, v4730.toNat, 0]

def k0_chk230 (v4709 : BitVec 32) (v4711 : BitVec 32) : Prop :=
  (∀ a, (k0_off780 v4709 v4711) a + S1x1x128.size a ≤ S250x128x128.size a)
theorem k0_off780_inb : ∀ (v4709 : BitVec 32) (v4711 : BitVec 32) (k0_hw230 : k0_chk230 v4709 v4711), ∀ a, (k0_off780 v4709 v4711) a + S1x1x128.size a ≤ S250x128x128.size a := fun v4709 v4711 k0_hw230 => k0_hw230

def k0_off781 (v4709 : BitVec 32) : Fin 2 → Nat :=
  let c84_i32_2383 : BitVec 32 := 84#32
  let v4710 : BitVec 32 := Scalar.addi v4709 c84_i32_2383
  let v4733 : Index := Scalar.indexCast v4710
  let c0_2394 : Index := 0#32
  ![v4733.toNat, 0]

def k0_chk231 (v4709 : BitVec 32) : Prop :=
  (∀ a, (k0_off781 v4709) a + S1x128.size a ≤ S128x128.size a)
theorem k0_off781_inb : ∀ (v4709 : BitVec 32) (k0_hw231 : k0_chk231 v4709), ∀ a, (k0_off781 v4709) a + S1x128.size a ≤ S128x128.size a := fun v4709 k0_hw231 => k0_hw231

def k0_off782 (v4749 : BitVec 32) (v4751 : BitVec 32) : Fin 3 → Nat :=
  let c0_i32_2407 : BitVec 32 := 0#32
  let v4753 : BitVec 1 := Scalar.cmpi .sgt v4751 c0_i32_2407
  let v4754 : BitVec 32 := Scalar.extui v4753
  let c0_i32_2408 : BitVec 32 := 0#32
  let v4755 : BitVec 1 := Scalar.cmpi .slt v4751 c0_i32_2408
  let v4756 : BitVec 32 := Scalar.extui v4755
  let v4757 : BitVec 32 := Scalar.subi v4754 v4756
  let c128_i32_2406 : BitVec 32 := 128#32
  let c0_i32_2409 : BitVec 32 := 0#32
  let v4758 : BitVec 1 := Scalar.cmpi .sgt c128_i32_2406 c0_i32_2409
  let v4759 : BitVec 32 := Scalar.extui v4758
  let c0_i32_2410 : BitVec 32 := 0#32
  let v4760 : BitVec 1 := Scalar.cmpi .slt c128_i32_2406 c0_i32_2410
  let v4761 : BitVec 32 := Scalar.extui v4760
  let v4762 : BitVec 32 := Scalar.subi v4759 v4761
  let v4763 : BitVec 1 := Scalar.cmpi .ne v4757 v4762
  let v4764 : BitVec 32 := Scalar.remsi v4751 c128_i32_2406
  let c0_i32_2411 : BitVec 32 := 0#32
  let v4765 : BitVec 1 := Scalar.cmpi .ne v4764 c0_i32_2411
  let v4766 : BitVec 1 := Scalar.andi v4763 v4765
  let v4752 : BitVec 32 := Scalar.divsi v4751 c128_i32_2406
  let c1_i32_2412 : BitVec 32 := 1#32
  let v4767 : BitVec 32 := Scalar.subi v4752 c1_i32_2412
  let v4768 : BitVec 32 := Scalar.select v4766 v4767 v4752
  let v4769 : Index := Scalar.indexCast v4768
  let c84_i32_2403 : BitVec 32 := 84#32
  let v4750 : BitVec 32 := Scalar.addi v4749 c84_i32_2403
  let v4770 : Index := Scalar.indexCast v4750
  let c0_2413 : Index := 0#32
  ![v4769.toNat, v4770.toNat, 0]

def k0_chk232 (v4749 : BitVec 32) (v4751 : BitVec 32) : Prop :=
  (∀ a, (k0_off782 v4749 v4751) a + S1x1x128.size a ≤ S250x128x128.size a)
theorem k0_off782_inb : ∀ (v4749 : BitVec 32) (v4751 : BitVec 32) (k0_hw232 : k0_chk232 v4749 v4751), ∀ a, (k0_off782 v4749 v4751) a + S1x1x128.size a ≤ S250x128x128.size a := fun v4749 v4751 k0_hw232 => k0_hw232

def k0_off783 (v4749 : BitVec 32) : Fin 2 → Nat :=
  let c84_i32_2403 : BitVec 32 := 84#32
  let v4750 : BitVec 32 := Scalar.addi v4749 c84_i32_2403
  let v4773 : Index := Scalar.indexCast v4750
  let c0_2414 : Index := 0#32
  ![v4773.toNat, 0]

def k0_chk233 (v4749 : BitVec 32) : Prop :=
  (∀ a, (k0_off783 v4749) a + S1x128.size a ≤ S128x128.size a)
theorem k0_off783_inb : ∀ (v4749 : BitVec 32) (k0_hw233 : k0_chk233 v4749), ∀ a, (k0_off783 v4749) a + S1x128.size a ≤ S128x128.size a := fun v4749 k0_hw233 => k0_hw233

def k0_off784 (v4789 : BitVec 32) (v4791 : BitVec 32) : Fin 3 → Nat :=
  let c0_i32_2427 : BitVec 32 := 0#32
  let v4793 : BitVec 1 := Scalar.cmpi .sgt v4791 c0_i32_2427
  let v4794 : BitVec 32 := Scalar.extui v4793
  let c0_i32_2428 : BitVec 32 := 0#32
  let v4795 : BitVec 1 := Scalar.cmpi .slt v4791 c0_i32_2428
  let v4796 : BitVec 32 := Scalar.extui v4795
  let v4797 : BitVec 32 := Scalar.subi v4794 v4796
  let c128_i32_2426 : BitVec 32 := 128#32
  let c0_i32_2429 : BitVec 32 := 0#32
  let v4798 : BitVec 1 := Scalar.cmpi .sgt c128_i32_2426 c0_i32_2429
  let v4799 : BitVec 32 := Scalar.extui v4798
  let c0_i32_2430 : BitVec 32 := 0#32
  let v4800 : BitVec 1 := Scalar.cmpi .slt c128_i32_2426 c0_i32_2430
  let v4801 : BitVec 32 := Scalar.extui v4800
  let v4802 : BitVec 32 := Scalar.subi v4799 v4801
  let v4803 : BitVec 1 := Scalar.cmpi .ne v4797 v4802
  let v4804 : BitVec 32 := Scalar.remsi v4791 c128_i32_2426
  let c0_i32_2431 : BitVec 32 := 0#32
  let v4805 : BitVec 1 := Scalar.cmpi .ne v4804 c0_i32_2431
  let v4806 : BitVec 1 := Scalar.andi v4803 v4805
  let v4792 : BitVec 32 := Scalar.divsi v4791 c128_i32_2426
  let c1_i32_2432 : BitVec 32 := 1#32
  let v4807 : BitVec 32 := Scalar.subi v4792 c1_i32_2432
  let v4808 : BitVec 32 := Scalar.select v4806 v4807 v4792
  let v4809 : Index := Scalar.indexCast v4808
  let c84_i32_2423 : BitVec 32 := 84#32
  let v4790 : BitVec 32 := Scalar.addi v4789 c84_i32_2423
  let v4810 : Index := Scalar.indexCast v4790
  let c0_2433 : Index := 0#32
  ![v4809.toNat, v4810.toNat, 0]

def k0_chk234 (v4789 : BitVec 32) (v4791 : BitVec 32) : Prop :=
  (∀ a, (k0_off784 v4789 v4791) a + S1x1x128.size a ≤ S250x128x128.size a)
theorem k0_off784_inb : ∀ (v4789 : BitVec 32) (v4791 : BitVec 32) (k0_hw234 : k0_chk234 v4789 v4791), ∀ a, (k0_off784 v4789 v4791) a + S1x1x128.size a ≤ S250x128x128.size a := fun v4789 v4791 k0_hw234 => k0_hw234

def k0_off785 (v4789 : BitVec 32) : Fin 2 → Nat :=
  let c84_i32_2423 : BitVec 32 := 84#32
  let v4790 : BitVec 32 := Scalar.addi v4789 c84_i32_2423
  let v4813 : Index := Scalar.indexCast v4790
  let c0_2434 : Index := 0#32
  ![v4813.toNat, 0]

def k0_chk235 (v4789 : BitVec 32) : Prop :=
  (∀ a, (k0_off785 v4789) a + S1x128.size a ≤ S128x128.size a)
theorem k0_off785_inb : ∀ (v4789 : BitVec 32) (k0_hw235 : k0_chk235 v4789), ∀ a, (k0_off785 v4789) a + S1x128.size a ≤ S128x128.size a := fun v4789 k0_hw235 => k0_hw235

def k0_off786 (v4829 : BitVec 32) (v4831 : BitVec 32) : Fin 3 → Nat :=
  let c0_i32_2447 : BitVec 32 := 0#32
  let v4833 : BitVec 1 := Scalar.cmpi .sgt v4831 c0_i32_2447
  let v4834 : BitVec 32 := Scalar.extui v4833
  let c0_i32_2448 : BitVec 32 := 0#32
  let v4835 : BitVec 1 := Scalar.cmpi .slt v4831 c0_i32_2448
  let v4836 : BitVec 32 := Scalar.extui v4835
  let v4837 : BitVec 32 := Scalar.subi v4834 v4836
  let c128_i32_2446 : BitVec 32 := 128#32
  let c0_i32_2449 : BitVec 32 := 0#32
  let v4838 : BitVec 1 := Scalar.cmpi .sgt c128_i32_2446 c0_i32_2449
  let v4839 : BitVec 32 := Scalar.extui v4838
  let c0_i32_2450 : BitVec 32 := 0#32
  let v4840 : BitVec 1 := Scalar.cmpi .slt c128_i32_2446 c0_i32_2450
  let v4841 : BitVec 32 := Scalar.extui v4840
  let v4842 : BitVec 32 := Scalar.subi v4839 v4841
  let v4843 : BitVec 1 := Scalar.cmpi .ne v4837 v4842
  let v4844 : BitVec 32 := Scalar.remsi v4831 c128_i32_2446
  let c0_i32_2451 : BitVec 32 := 0#32
  let v4845 : BitVec 1 := Scalar.cmpi .ne v4844 c0_i32_2451
  let v4846 : BitVec 1 := Scalar.andi v4843 v4845
  let v4832 : BitVec 32 := Scalar.divsi v4831 c128_i32_2446
  let c1_i32_2452 : BitVec 32 := 1#32
  let v4847 : BitVec 32 := Scalar.subi v4832 c1_i32_2452
  let v4848 : BitVec 32 := Scalar.select v4846 v4847 v4832
  let v4849 : Index := Scalar.indexCast v4848
  let c84_i32_2443 : BitVec 32 := 84#32
  let v4830 : BitVec 32 := Scalar.addi v4829 c84_i32_2443
  let v4850 : Index := Scalar.indexCast v4830
  let c0_2453 : Index := 0#32
  ![v4849.toNat, v4850.toNat, 0]

def k0_chk236 (v4829 : BitVec 32) (v4831 : BitVec 32) : Prop :=
  (∀ a, (k0_off786 v4829 v4831) a + S1x1x128.size a ≤ S250x128x128.size a)
theorem k0_off786_inb : ∀ (v4829 : BitVec 32) (v4831 : BitVec 32) (k0_hw236 : k0_chk236 v4829 v4831), ∀ a, (k0_off786 v4829 v4831) a + S1x1x128.size a ≤ S250x128x128.size a := fun v4829 v4831 k0_hw236 => k0_hw236

def k0_off787 (v4829 : BitVec 32) : Fin 2 → Nat :=
  let c84_i32_2443 : BitVec 32 := 84#32
  let v4830 : BitVec 32 := Scalar.addi v4829 c84_i32_2443
  let v4853 : Index := Scalar.indexCast v4830
  let c0_2454 : Index := 0#32
  ![v4853.toNat, 0]

def k0_chk237 (v4829 : BitVec 32) : Prop :=
  (∀ a, (k0_off787 v4829) a + S1x128.size a ≤ S128x128.size a)
theorem k0_off787_inb : ∀ (v4829 : BitVec 32) (k0_hw237 : k0_chk237 v4829), ∀ a, (k0_off787 v4829) a + S1x128.size a ≤ S128x128.size a := fun v4829 k0_hw237 => k0_hw237

def k0_off788 (v4869 : BitVec 32) (v4871 : BitVec 32) : Fin 3 → Nat :=
  let c0_i32_2467 : BitVec 32 := 0#32
  let v4873 : BitVec 1 := Scalar.cmpi .sgt v4871 c0_i32_2467
  let v4874 : BitVec 32 := Scalar.extui v4873
  let c0_i32_2468 : BitVec 32 := 0#32
  let v4875 : BitVec 1 := Scalar.cmpi .slt v4871 c0_i32_2468
  let v4876 : BitVec 32 := Scalar.extui v4875
  let v4877 : BitVec 32 := Scalar.subi v4874 v4876
  let c128_i32_2466 : BitVec 32 := 128#32
  let c0_i32_2469 : BitVec 32 := 0#32
  let v4878 : BitVec 1 := Scalar.cmpi .sgt c128_i32_2466 c0_i32_2469
  let v4879 : BitVec 32 := Scalar.extui v4878
  let c0_i32_2470 : BitVec 32 := 0#32
  let v4880 : BitVec 1 := Scalar.cmpi .slt c128_i32_2466 c0_i32_2470
  let v4881 : BitVec 32 := Scalar.extui v4880
  let v4882 : BitVec 32 := Scalar.subi v4879 v4881
  let v4883 : BitVec 1 := Scalar.cmpi .ne v4877 v4882
  let v4884 : BitVec 32 := Scalar.remsi v4871 c128_i32_2466
  let c0_i32_2471 : BitVec 32 := 0#32
  let v4885 : BitVec 1 := Scalar.cmpi .ne v4884 c0_i32_2471
  let v4886 : BitVec 1 := Scalar.andi v4883 v4885
  let v4872 : BitVec 32 := Scalar.divsi v4871 c128_i32_2466
  let c1_i32_2472 : BitVec 32 := 1#32
  let v4887 : BitVec 32 := Scalar.subi v4872 c1_i32_2472
  let v4888 : BitVec 32 := Scalar.select v4886 v4887 v4872
  let v4889 : Index := Scalar.indexCast v4888
  let c84_i32_2463 : BitVec 32 := 84#32
  let v4870 : BitVec 32 := Scalar.addi v4869 c84_i32_2463
  let v4890 : Index := Scalar.indexCast v4870
  let c0_2473 : Index := 0#32
  ![v4889.toNat, v4890.toNat, 0]

def k0_chk238 (v4869 : BitVec 32) (v4871 : BitVec 32) : Prop :=
  (∀ a, (k0_off788 v4869 v4871) a + S1x1x128.size a ≤ S250x128x128.size a)
theorem k0_off788_inb : ∀ (v4869 : BitVec 32) (v4871 : BitVec 32) (k0_hw238 : k0_chk238 v4869 v4871), ∀ a, (k0_off788 v4869 v4871) a + S1x1x128.size a ≤ S250x128x128.size a := fun v4869 v4871 k0_hw238 => k0_hw238

def k0_off789 (v4869 : BitVec 32) : Fin 2 → Nat :=
  let c84_i32_2463 : BitVec 32 := 84#32
  let v4870 : BitVec 32 := Scalar.addi v4869 c84_i32_2463
  let v4893 : Index := Scalar.indexCast v4870
  let c0_2474 : Index := 0#32
  ![v4893.toNat, 0]

def k0_chk239 (v4869 : BitVec 32) : Prop :=
  (∀ a, (k0_off789 v4869) a + S1x128.size a ≤ S128x128.size a)
theorem k0_off789_inb : ∀ (v4869 : BitVec 32) (k0_hw239 : k0_chk239 v4869), ∀ a, (k0_off789 v4869) a + S1x128.size a ≤ S128x128.size a := fun v4869 k0_hw239 => k0_hw239

def k0_off790 (v4909 : BitVec 32) (v4911 : BitVec 32) : Fin 3 → Nat :=
  let c0_i32_2487 : BitVec 32 := 0#32
  let v4913 : BitVec 1 := Scalar.cmpi .sgt v4911 c0_i32_2487
  let v4914 : BitVec 32 := Scalar.extui v4913
  let c0_i32_2488 : BitVec 32 := 0#32
  let v4915 : BitVec 1 := Scalar.cmpi .slt v4911 c0_i32_2488
  let v4916 : BitVec 32 := Scalar.extui v4915
  let v4917 : BitVec 32 := Scalar.subi v4914 v4916
  let c128_i32_2486 : BitVec 32 := 128#32
  let c0_i32_2489 : BitVec 32 := 0#32
  let v4918 : BitVec 1 := Scalar.cmpi .sgt c128_i32_2486 c0_i32_2489
  let v4919 : BitVec 32 := Scalar.extui v4918
  let c0_i32_2490 : BitVec 32 := 0#32
  let v4920 : BitVec 1 := Scalar.cmpi .slt c128_i32_2486 c0_i32_2490
  let v4921 : BitVec 32 := Scalar.extui v4920
  let v4922 : BitVec 32 := Scalar.subi v4919 v4921
  let v4923 : BitVec 1 := Scalar.cmpi .ne v4917 v4922
  let v4924 : BitVec 32 := Scalar.remsi v4911 c128_i32_2486
  let c0_i32_2491 : BitVec 32 := 0#32
  let v4925 : BitVec 1 := Scalar.cmpi .ne v4924 c0_i32_2491
  let v4926 : BitVec 1 := Scalar.andi v4923 v4925
  let v4912 : BitVec 32 := Scalar.divsi v4911 c128_i32_2486
  let c1_i32_2492 : BitVec 32 := 1#32
  let v4927 : BitVec 32 := Scalar.subi v4912 c1_i32_2492
  let v4928 : BitVec 32 := Scalar.select v4926 v4927 v4912
  let v4929 : Index := Scalar.indexCast v4928
  let c84_i32_2483 : BitVec 32 := 84#32
  let v4910 : BitVec 32 := Scalar.addi v4909 c84_i32_2483
  let v4930 : Index := Scalar.indexCast v4910
  let c0_2493 : Index := 0#32
  ![v4929.toNat, v4930.toNat, 0]

def k0_chk240 (v4909 : BitVec 32) (v4911 : BitVec 32) : Prop :=
  (∀ a, (k0_off790 v4909 v4911) a + S1x1x128.size a ≤ S250x128x128.size a)
theorem k0_off790_inb : ∀ (v4909 : BitVec 32) (v4911 : BitVec 32) (k0_hw240 : k0_chk240 v4909 v4911), ∀ a, (k0_off790 v4909 v4911) a + S1x1x128.size a ≤ S250x128x128.size a := fun v4909 v4911 k0_hw240 => k0_hw240

def k0_off791 (v4909 : BitVec 32) : Fin 2 → Nat :=
  let c84_i32_2483 : BitVec 32 := 84#32
  let v4910 : BitVec 32 := Scalar.addi v4909 c84_i32_2483
  let v4933 : Index := Scalar.indexCast v4910
  let c0_2494 : Index := 0#32
  ![v4933.toNat, 0]

def k0_chk241 (v4909 : BitVec 32) : Prop :=
  (∀ a, (k0_off791 v4909) a + S1x128.size a ≤ S128x128.size a)
theorem k0_off791_inb : ∀ (v4909 : BitVec 32) (k0_hw241 : k0_chk241 v4909), ∀ a, (k0_off791 v4909) a + S1x128.size a ≤ S128x128.size a := fun v4909 k0_hw241 => k0_hw241

def k0_off792 (v4949 : BitVec 32) (v4951 : BitVec 32) : Fin 3 → Nat :=
  let c0_i32_2507 : BitVec 32 := 0#32
  let v4953 : BitVec 1 := Scalar.cmpi .sgt v4951 c0_i32_2507
  let v4954 : BitVec 32 := Scalar.extui v4953
  let c0_i32_2508 : BitVec 32 := 0#32
  let v4955 : BitVec 1 := Scalar.cmpi .slt v4951 c0_i32_2508
  let v4956 : BitVec 32 := Scalar.extui v4955
  let v4957 : BitVec 32 := Scalar.subi v4954 v4956
  let c128_i32_2506 : BitVec 32 := 128#32
  let c0_i32_2509 : BitVec 32 := 0#32
  let v4958 : BitVec 1 := Scalar.cmpi .sgt c128_i32_2506 c0_i32_2509
  let v4959 : BitVec 32 := Scalar.extui v4958
  let c0_i32_2510 : BitVec 32 := 0#32
  let v4960 : BitVec 1 := Scalar.cmpi .slt c128_i32_2506 c0_i32_2510
  let v4961 : BitVec 32 := Scalar.extui v4960
  let v4962 : BitVec 32 := Scalar.subi v4959 v4961
  let v4963 : BitVec 1 := Scalar.cmpi .ne v4957 v4962
  let v4964 : BitVec 32 := Scalar.remsi v4951 c128_i32_2506
  let c0_i32_2511 : BitVec 32 := 0#32
  let v4965 : BitVec 1 := Scalar.cmpi .ne v4964 c0_i32_2511
  let v4966 : BitVec 1 := Scalar.andi v4963 v4965
  let v4952 : BitVec 32 := Scalar.divsi v4951 c128_i32_2506
  let c1_i32_2512 : BitVec 32 := 1#32
  let v4967 : BitVec 32 := Scalar.subi v4952 c1_i32_2512
  let v4968 : BitVec 32 := Scalar.select v4966 v4967 v4952
  let v4969 : Index := Scalar.indexCast v4968
  let c84_i32_2503 : BitVec 32 := 84#32
  let v4950 : BitVec 32 := Scalar.addi v4949 c84_i32_2503
  let v4970 : Index := Scalar.indexCast v4950
  let c0_2513 : Index := 0#32
  ![v4969.toNat, v4970.toNat, 0]

def k0_chk242 (v4949 : BitVec 32) (v4951 : BitVec 32) : Prop :=
  (∀ a, (k0_off792 v4949 v4951) a + S1x1x128.size a ≤ S250x128x128.size a)
theorem k0_off792_inb : ∀ (v4949 : BitVec 32) (v4951 : BitVec 32) (k0_hw242 : k0_chk242 v4949 v4951), ∀ a, (k0_off792 v4949 v4951) a + S1x1x128.size a ≤ S250x128x128.size a := fun v4949 v4951 k0_hw242 => k0_hw242

def k0_off793 (v4949 : BitVec 32) : Fin 2 → Nat :=
  let c84_i32_2503 : BitVec 32 := 84#32
  let v4950 : BitVec 32 := Scalar.addi v4949 c84_i32_2503
  let v4973 : Index := Scalar.indexCast v4950
  let c0_2514 : Index := 0#32
  ![v4973.toNat, 0]

def k0_chk243 (v4949 : BitVec 32) : Prop :=
  (∀ a, (k0_off793 v4949) a + S1x128.size a ≤ S128x128.size a)
theorem k0_off793_inb : ∀ (v4949 : BitVec 32) (k0_hw243 : k0_chk243 v4949), ∀ a, (k0_off793 v4949) a + S1x128.size a ≤ S128x128.size a := fun v4949 k0_hw243 => k0_hw243

def k0_off794 (v4989 : BitVec 32) (v4991 : BitVec 32) : Fin 3 → Nat :=
  let c0_i32_2527 : BitVec 32 := 0#32
  let v4993 : BitVec 1 := Scalar.cmpi .sgt v4991 c0_i32_2527
  let v4994 : BitVec 32 := Scalar.extui v4993
  let c0_i32_2528 : BitVec 32 := 0#32
  let v4995 : BitVec 1 := Scalar.cmpi .slt v4991 c0_i32_2528
  let v4996 : BitVec 32 := Scalar.extui v4995
  let v4997 : BitVec 32 := Scalar.subi v4994 v4996
  let c128_i32_2526 : BitVec 32 := 128#32
  let c0_i32_2529 : BitVec 32 := 0#32
  let v4998 : BitVec 1 := Scalar.cmpi .sgt c128_i32_2526 c0_i32_2529
  let v4999 : BitVec 32 := Scalar.extui v4998
  let c0_i32_2530 : BitVec 32 := 0#32
  let v5000 : BitVec 1 := Scalar.cmpi .slt c128_i32_2526 c0_i32_2530
  let v5001 : BitVec 32 := Scalar.extui v5000
  let v5002 : BitVec 32 := Scalar.subi v4999 v5001
  let v5003 : BitVec 1 := Scalar.cmpi .ne v4997 v5002
  let v5004 : BitVec 32 := Scalar.remsi v4991 c128_i32_2526
  let c0_i32_2531 : BitVec 32 := 0#32
  let v5005 : BitVec 1 := Scalar.cmpi .ne v5004 c0_i32_2531
  let v5006 : BitVec 1 := Scalar.andi v5003 v5005
  let v4992 : BitVec 32 := Scalar.divsi v4991 c128_i32_2526
  let c1_i32_2532 : BitVec 32 := 1#32
  let v5007 : BitVec 32 := Scalar.subi v4992 c1_i32_2532
  let v5008 : BitVec 32 := Scalar.select v5006 v5007 v4992
  let v5009 : Index := Scalar.indexCast v5008
  let c84_i32_2523 : BitVec 32 := 84#32
  let v4990 : BitVec 32 := Scalar.addi v4989 c84_i32_2523
  let v5010 : Index := Scalar.indexCast v4990
  let c0_2533 : Index := 0#32
  ![v5009.toNat, v5010.toNat, 0]

def k0_chk244 (v4989 : BitVec 32) (v4991 : BitVec 32) : Prop :=
  (∀ a, (k0_off794 v4989 v4991) a + S1x1x128.size a ≤ S250x128x128.size a)
theorem k0_off794_inb : ∀ (v4989 : BitVec 32) (v4991 : BitVec 32) (k0_hw244 : k0_chk244 v4989 v4991), ∀ a, (k0_off794 v4989 v4991) a + S1x1x128.size a ≤ S250x128x128.size a := fun v4989 v4991 k0_hw244 => k0_hw244

def k0_off795 (v4989 : BitVec 32) : Fin 2 → Nat :=
  let c84_i32_2523 : BitVec 32 := 84#32
  let v4990 : BitVec 32 := Scalar.addi v4989 c84_i32_2523
  let v5013 : Index := Scalar.indexCast v4990
  let c0_2534 : Index := 0#32
  ![v5013.toNat, 0]

def k0_chk245 (v4989 : BitVec 32) : Prop :=
  (∀ a, (k0_off795 v4989) a + S1x128.size a ≤ S128x128.size a)
theorem k0_off795_inb : ∀ (v4989 : BitVec 32) (k0_hw245 : k0_chk245 v4989), ∀ a, (k0_off795 v4989) a + S1x128.size a ≤ S128x128.size a := fun v4989 k0_hw245 => k0_hw245

def k0_off796 (v5029 : BitVec 32) (v5031 : BitVec 32) : Fin 3 → Nat :=
  let c0_i32_2547 : BitVec 32 := 0#32
  let v5033 : BitVec 1 := Scalar.cmpi .sgt v5031 c0_i32_2547
  let v5034 : BitVec 32 := Scalar.extui v5033
  let c0_i32_2548 : BitVec 32 := 0#32
  let v5035 : BitVec 1 := Scalar.cmpi .slt v5031 c0_i32_2548
  let v5036 : BitVec 32 := Scalar.extui v5035
  let v5037 : BitVec 32 := Scalar.subi v5034 v5036
  let c128_i32_2546 : BitVec 32 := 128#32
  let c0_i32_2549 : BitVec 32 := 0#32
  let v5038 : BitVec 1 := Scalar.cmpi .sgt c128_i32_2546 c0_i32_2549
  let v5039 : BitVec 32 := Scalar.extui v5038
  let c0_i32_2550 : BitVec 32 := 0#32
  let v5040 : BitVec 1 := Scalar.cmpi .slt c128_i32_2546 c0_i32_2550
  let v5041 : BitVec 32 := Scalar.extui v5040
  let v5042 : BitVec 32 := Scalar.subi v5039 v5041
  let v5043 : BitVec 1 := Scalar.cmpi .ne v5037 v5042
  let v5044 : BitVec 32 := Scalar.remsi v5031 c128_i32_2546
  let c0_i32_2551 : BitVec 32 := 0#32
  let v5045 : BitVec 1 := Scalar.cmpi .ne v5044 c0_i32_2551
  let v5046 : BitVec 1 := Scalar.andi v5043 v5045
  let v5032 : BitVec 32 := Scalar.divsi v5031 c128_i32_2546
  let c1_i32_2552 : BitVec 32 := 1#32
  let v5047 : BitVec 32 := Scalar.subi v5032 c1_i32_2552
  let v5048 : BitVec 32 := Scalar.select v5046 v5047 v5032
  let v5049 : Index := Scalar.indexCast v5048
  let c84_i32_2543 : BitVec 32 := 84#32
  let v5030 : BitVec 32 := Scalar.addi v5029 c84_i32_2543
  let v5050 : Index := Scalar.indexCast v5030
  let c0_2553 : Index := 0#32
  ![v5049.toNat, v5050.toNat, 0]

def k0_chk246 (v5029 : BitVec 32) (v5031 : BitVec 32) : Prop :=
  (∀ a, (k0_off796 v5029 v5031) a + S1x1x128.size a ≤ S250x128x128.size a)
theorem k0_off796_inb : ∀ (v5029 : BitVec 32) (v5031 : BitVec 32) (k0_hw246 : k0_chk246 v5029 v5031), ∀ a, (k0_off796 v5029 v5031) a + S1x1x128.size a ≤ S250x128x128.size a := fun v5029 v5031 k0_hw246 => k0_hw246

def k0_off797 (v5029 : BitVec 32) : Fin 2 → Nat :=
  let c84_i32_2543 : BitVec 32 := 84#32
  let v5030 : BitVec 32 := Scalar.addi v5029 c84_i32_2543
  let v5053 : Index := Scalar.indexCast v5030
  let c0_2554 : Index := 0#32
  ![v5053.toNat, 0]

def k0_chk247 (v5029 : BitVec 32) : Prop :=
  (∀ a, (k0_off797 v5029) a + S1x128.size a ≤ S128x128.size a)
theorem k0_off797_inb : ∀ (v5029 : BitVec 32) (k0_hw247 : k0_chk247 v5029), ∀ a, (k0_off797 v5029) a + S1x128.size a ≤ S128x128.size a := fun v5029 k0_hw247 => k0_hw247

def k0_off798 (v5069 : BitVec 32) (v5071 : BitVec 32) : Fin 3 → Nat :=
  let c0_i32_2567 : BitVec 32 := 0#32
  let v5073 : BitVec 1 := Scalar.cmpi .sgt v5071 c0_i32_2567
  let v5074 : BitVec 32 := Scalar.extui v5073
  let c0_i32_2568 : BitVec 32 := 0#32
  let v5075 : BitVec 1 := Scalar.cmpi .slt v5071 c0_i32_2568
  let v5076 : BitVec 32 := Scalar.extui v5075
  let v5077 : BitVec 32 := Scalar.subi v5074 v5076
  let c128_i32_2566 : BitVec 32 := 128#32
  let c0_i32_2569 : BitVec 32 := 0#32
  let v5078 : BitVec 1 := Scalar.cmpi .sgt c128_i32_2566 c0_i32_2569
  let v5079 : BitVec 32 := Scalar.extui v5078
  let c0_i32_2570 : BitVec 32 := 0#32
  let v5080 : BitVec 1 := Scalar.cmpi .slt c128_i32_2566 c0_i32_2570
  let v5081 : BitVec 32 := Scalar.extui v5080
  let v5082 : BitVec 32 := Scalar.subi v5079 v5081
  let v5083 : BitVec 1 := Scalar.cmpi .ne v5077 v5082
  let v5084 : BitVec 32 := Scalar.remsi v5071 c128_i32_2566
  let c0_i32_2571 : BitVec 32 := 0#32
  let v5085 : BitVec 1 := Scalar.cmpi .ne v5084 c0_i32_2571
  let v5086 : BitVec 1 := Scalar.andi v5083 v5085
  let v5072 : BitVec 32 := Scalar.divsi v5071 c128_i32_2566
  let c1_i32_2572 : BitVec 32 := 1#32
  let v5087 : BitVec 32 := Scalar.subi v5072 c1_i32_2572
  let v5088 : BitVec 32 := Scalar.select v5086 v5087 v5072
  let v5089 : Index := Scalar.indexCast v5088
  let c84_i32_2563 : BitVec 32 := 84#32
  let v5070 : BitVec 32 := Scalar.addi v5069 c84_i32_2563
  let v5090 : Index := Scalar.indexCast v5070
  let c0_2573 : Index := 0#32
  ![v5089.toNat, v5090.toNat, 0]

def k0_chk248 (v5069 : BitVec 32) (v5071 : BitVec 32) : Prop :=
  (∀ a, (k0_off798 v5069 v5071) a + S1x1x128.size a ≤ S250x128x128.size a)
theorem k0_off798_inb : ∀ (v5069 : BitVec 32) (v5071 : BitVec 32) (k0_hw248 : k0_chk248 v5069 v5071), ∀ a, (k0_off798 v5069 v5071) a + S1x1x128.size a ≤ S250x128x128.size a := fun v5069 v5071 k0_hw248 => k0_hw248

def k0_off799 (v5069 : BitVec 32) : Fin 2 → Nat :=
  let c84_i32_2563 : BitVec 32 := 84#32
  let v5070 : BitVec 32 := Scalar.addi v5069 c84_i32_2563
  let v5093 : Index := Scalar.indexCast v5070
  let c0_2574 : Index := 0#32
  ![v5093.toNat, 0]

def k0_chk249 (v5069 : BitVec 32) : Prop :=
  (∀ a, (k0_off799 v5069) a + S1x128.size a ≤ S128x128.size a)
theorem k0_off799_inb : ∀ (v5069 : BitVec 32) (k0_hw249 : k0_chk249 v5069), ∀ a, (k0_off799 v5069) a + S1x128.size a ≤ S128x128.size a := fun v5069 k0_hw249 => k0_hw249

def k0_off800 (v5109 : BitVec 32) (v5111 : BitVec 32) : Fin 3 → Nat :=
  let c0_i32_2587 : BitVec 32 := 0#32
  let v5113 : BitVec 1 := Scalar.cmpi .sgt v5111 c0_i32_2587
  let v5114 : BitVec 32 := Scalar.extui v5113
  let c0_i32_2588 : BitVec 32 := 0#32
  let v5115 : BitVec 1 := Scalar.cmpi .slt v5111 c0_i32_2588
  let v5116 : BitVec 32 := Scalar.extui v5115
  let v5117 : BitVec 32 := Scalar.subi v5114 v5116
  let c128_i32_2586 : BitVec 32 := 128#32
  let c0_i32_2589 : BitVec 32 := 0#32
  let v5118 : BitVec 1 := Scalar.cmpi .sgt c128_i32_2586 c0_i32_2589
  let v5119 : BitVec 32 := Scalar.extui v5118
  let c0_i32_2590 : BitVec 32 := 0#32
  let v5120 : BitVec 1 := Scalar.cmpi .slt c128_i32_2586 c0_i32_2590
  let v5121 : BitVec 32 := Scalar.extui v5120
  let v5122 : BitVec 32 := Scalar.subi v5119 v5121
  let v5123 : BitVec 1 := Scalar.cmpi .ne v5117 v5122
  let v5124 : BitVec 32 := Scalar.remsi v5111 c128_i32_2586
  let c0_i32_2591 : BitVec 32 := 0#32
  let v5125 : BitVec 1 := Scalar.cmpi .ne v5124 c0_i32_2591
  let v5126 : BitVec 1 := Scalar.andi v5123 v5125
  let v5112 : BitVec 32 := Scalar.divsi v5111 c128_i32_2586
  let c1_i32_2592 : BitVec 32 := 1#32
  let v5127 : BitVec 32 := Scalar.subi v5112 c1_i32_2592
  let v5128 : BitVec 32 := Scalar.select v5126 v5127 v5112
  let v5129 : Index := Scalar.indexCast v5128
  let c84_i32_2583 : BitVec 32 := 84#32
  let v5110 : BitVec 32 := Scalar.addi v5109 c84_i32_2583
  let v5130 : Index := Scalar.indexCast v5110
  let c0_2593 : Index := 0#32
  ![v5129.toNat, v5130.toNat, 0]

def k0_chk250 (v5109 : BitVec 32) (v5111 : BitVec 32) : Prop :=
  (∀ a, (k0_off800 v5109 v5111) a + S1x1x128.size a ≤ S250x128x128.size a)
theorem k0_off800_inb : ∀ (v5109 : BitVec 32) (v5111 : BitVec 32) (k0_hw250 : k0_chk250 v5109 v5111), ∀ a, (k0_off800 v5109 v5111) a + S1x1x128.size a ≤ S250x128x128.size a := fun v5109 v5111 k0_hw250 => k0_hw250

def k0_off801 (v5109 : BitVec 32) : Fin 2 → Nat :=
  let c84_i32_2583 : BitVec 32 := 84#32
  let v5110 : BitVec 32 := Scalar.addi v5109 c84_i32_2583
  let v5133 : Index := Scalar.indexCast v5110
  let c0_2594 : Index := 0#32
  ![v5133.toNat, 0]

def k0_chk251 (v5109 : BitVec 32) : Prop :=
  (∀ a, (k0_off801 v5109) a + S1x128.size a ≤ S128x128.size a)
theorem k0_off801_inb : ∀ (v5109 : BitVec 32) (k0_hw251 : k0_chk251 v5109), ∀ a, (k0_off801 v5109) a + S1x128.size a ≤ S128x128.size a := fun v5109 k0_hw251 => k0_hw251

def k0_off802 (v5149 : BitVec 32) (v5151 : BitVec 32) : Fin 3 → Nat :=
  let c0_i32_2607 : BitVec 32 := 0#32
  let v5153 : BitVec 1 := Scalar.cmpi .sgt v5151 c0_i32_2607
  let v5154 : BitVec 32 := Scalar.extui v5153
  let c0_i32_2608 : BitVec 32 := 0#32
  let v5155 : BitVec 1 := Scalar.cmpi .slt v5151 c0_i32_2608
  let v5156 : BitVec 32 := Scalar.extui v5155
  let v5157 : BitVec 32 := Scalar.subi v5154 v5156
  let c128_i32_2606 : BitVec 32 := 128#32
  let c0_i32_2609 : BitVec 32 := 0#32
  let v5158 : BitVec 1 := Scalar.cmpi .sgt c128_i32_2606 c0_i32_2609
  let v5159 : BitVec 32 := Scalar.extui v5158
  let c0_i32_2610 : BitVec 32 := 0#32
  let v5160 : BitVec 1 := Scalar.cmpi .slt c128_i32_2606 c0_i32_2610
  let v5161 : BitVec 32 := Scalar.extui v5160
  let v5162 : BitVec 32 := Scalar.subi v5159 v5161
  let v5163 : BitVec 1 := Scalar.cmpi .ne v5157 v5162
  let v5164 : BitVec 32 := Scalar.remsi v5151 c128_i32_2606
  let c0_i32_2611 : BitVec 32 := 0#32
  let v5165 : BitVec 1 := Scalar.cmpi .ne v5164 c0_i32_2611
  let v5166 : BitVec 1 := Scalar.andi v5163 v5165
  let v5152 : BitVec 32 := Scalar.divsi v5151 c128_i32_2606
  let c1_i32_2612 : BitVec 32 := 1#32
  let v5167 : BitVec 32 := Scalar.subi v5152 c1_i32_2612
  let v5168 : BitVec 32 := Scalar.select v5166 v5167 v5152
  let v5169 : Index := Scalar.indexCast v5168
  let c84_i32_2603 : BitVec 32 := 84#32
  let v5150 : BitVec 32 := Scalar.addi v5149 c84_i32_2603
  let v5170 : Index := Scalar.indexCast v5150
  let c0_2613 : Index := 0#32
  ![v5169.toNat, v5170.toNat, 0]

def k0_chk252 (v5149 : BitVec 32) (v5151 : BitVec 32) : Prop :=
  (∀ a, (k0_off802 v5149 v5151) a + S1x1x128.size a ≤ S250x128x128.size a)
theorem k0_off802_inb : ∀ (v5149 : BitVec 32) (v5151 : BitVec 32) (k0_hw252 : k0_chk252 v5149 v5151), ∀ a, (k0_off802 v5149 v5151) a + S1x1x128.size a ≤ S250x128x128.size a := fun v5149 v5151 k0_hw252 => k0_hw252

def k0_off803 (v5149 : BitVec 32) : Fin 2 → Nat :=
  let c84_i32_2603 : BitVec 32 := 84#32
  let v5150 : BitVec 32 := Scalar.addi v5149 c84_i32_2603
  let v5173 : Index := Scalar.indexCast v5150
  let c0_2614 : Index := 0#32
  ![v5173.toNat, 0]

def k0_chk253 (v5149 : BitVec 32) : Prop :=
  (∀ a, (k0_off803 v5149) a + S1x128.size a ≤ S128x128.size a)
theorem k0_off803_inb : ∀ (v5149 : BitVec 32) (k0_hw253 : k0_chk253 v5149), ∀ a, (k0_off803 v5149) a + S1x128.size a ≤ S128x128.size a := fun v5149 k0_hw253 => k0_hw253

def k0_off804 (v5189 : BitVec 32) (v5191 : BitVec 32) : Fin 3 → Nat :=
  let c0_i32_2627 : BitVec 32 := 0#32
  let v5193 : BitVec 1 := Scalar.cmpi .sgt v5191 c0_i32_2627
  let v5194 : BitVec 32 := Scalar.extui v5193
  let c0_i32_2628 : BitVec 32 := 0#32
  let v5195 : BitVec 1 := Scalar.cmpi .slt v5191 c0_i32_2628
  let v5196 : BitVec 32 := Scalar.extui v5195
  let v5197 : BitVec 32 := Scalar.subi v5194 v5196
  let c128_i32_2626 : BitVec 32 := 128#32
  let c0_i32_2629 : BitVec 32 := 0#32
  let v5198 : BitVec 1 := Scalar.cmpi .sgt c128_i32_2626 c0_i32_2629
  let v5199 : BitVec 32 := Scalar.extui v5198
  let c0_i32_2630 : BitVec 32 := 0#32
  let v5200 : BitVec 1 := Scalar.cmpi .slt c128_i32_2626 c0_i32_2630
  let v5201 : BitVec 32 := Scalar.extui v5200
  let v5202 : BitVec 32 := Scalar.subi v5199 v5201
  let v5203 : BitVec 1 := Scalar.cmpi .ne v5197 v5202
  let v5204 : BitVec 32 := Scalar.remsi v5191 c128_i32_2626
  let c0_i32_2631 : BitVec 32 := 0#32
  let v5205 : BitVec 1 := Scalar.cmpi .ne v5204 c0_i32_2631
  let v5206 : BitVec 1 := Scalar.andi v5203 v5205
  let v5192 : BitVec 32 := Scalar.divsi v5191 c128_i32_2626
  let c1_i32_2632 : BitVec 32 := 1#32
  let v5207 : BitVec 32 := Scalar.subi v5192 c1_i32_2632
  let v5208 : BitVec 32 := Scalar.select v5206 v5207 v5192
  let v5209 : Index := Scalar.indexCast v5208
  let c84_i32_2623 : BitVec 32 := 84#32
  let v5190 : BitVec 32 := Scalar.addi v5189 c84_i32_2623
  let v5210 : Index := Scalar.indexCast v5190
  let c0_2633 : Index := 0#32
  ![v5209.toNat, v5210.toNat, 0]

def k0_chk254 (v5189 : BitVec 32) (v5191 : BitVec 32) : Prop :=
  (∀ a, (k0_off804 v5189 v5191) a + S1x1x128.size a ≤ S250x128x128.size a)
theorem k0_off804_inb : ∀ (v5189 : BitVec 32) (v5191 : BitVec 32) (k0_hw254 : k0_chk254 v5189 v5191), ∀ a, (k0_off804 v5189 v5191) a + S1x1x128.size a ≤ S250x128x128.size a := fun v5189 v5191 k0_hw254 => k0_hw254

def k0_off805 (v5189 : BitVec 32) : Fin 2 → Nat :=
  let c84_i32_2623 : BitVec 32 := 84#32
  let v5190 : BitVec 32 := Scalar.addi v5189 c84_i32_2623
  let v5213 : Index := Scalar.indexCast v5190
  let c0_2634 : Index := 0#32
  ![v5213.toNat, 0]

def k0_chk255 (v5189 : BitVec 32) : Prop :=
  (∀ a, (k0_off805 v5189) a + S1x128.size a ≤ S128x128.size a)
theorem k0_off805_inb : ∀ (v5189 : BitVec 32) (k0_hw255 : k0_chk255 v5189), ∀ a, (k0_off805 v5189) a + S1x128.size a ≤ S128x128.size a := fun v5189 k0_hw255 => k0_hw255

abbrev stage0_0 : Fin 1 → Memref sig .tc .smem S3x42 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S3x42 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x42x6656 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x42 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x42 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x42 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x42 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x42x6656 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x42x52 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "log2e_over_temperature" => some (((Real.log 2)⁻¹ * (16777216 / 11744051) : ℝ) : EReal)
  | _ => none
-- ==== ReferenceIdeal.lean ====
abbrev S3x42x6656 : Shape := ⟨3, ![3, 42, 6656]⟩
abbrev S3x42 : Shape := ⟨2, ![3, 42]⟩
abbrev S6656x32000 : Shape := ⟨2, ![6656, 32000]⟩
abbrev S52x32000 : Shape := ⟨2, ![52, 32000]⟩
abbrev S3x42x52 : Shape := ⟨3, ![3, 42, 52]⟩
abbrev S3x42x52x128 : Shape := ⟨4, ![3, 42, 52, 128]⟩
abbrev S3x42x52x1 : Shape := ⟨4, ![3, 42, 52, 1]⟩
abbrev S52x128x32000 : Shape := ⟨3, ![52, 128, 32000]⟩
abbrev S52x1x32000 : Shape := ⟨3, ![52, 1, 32000]⟩
abbrev S3x42x32000 : Shape := ⟨3, ![3, 42, 32000]⟩
abbrev S_ : Shape := ⟨0, ![]⟩
abbrev S3x42x1 : Shape := ⟨3, ![3, 42, 1]⟩
abbrev S42 : Shape := ⟨1, ![42]⟩
abbrev S3 : Shape := ⟨1, ![3]⟩
abbrev S3x1 : Shape := ⟨2, ![3, 1]⟩
abbrev S3x42x3 : Shape := ⟨3, ![3, 42, 3]⟩
abbrev S1 : Shape := ⟨1, ![1]⟩
abbrev S1x1x1 : Shape := ⟨3, ![1, 1, 1]⟩

abbrev nBuf : Space → Nat
  | .hbm => 387
  | .vmem => 7
  | .smem => 0
  | _ => 0

abbrev hbmTy0_0 (i : Nat) : BufTy := match i % 128 with
  | 0 => ⟨S3x42x6656, .bf16⟩
  | 1 => ⟨S3x42, .i32⟩
  | 2 => ⟨S3x42, .i32⟩
  | 3 => ⟨S6656x32000, .fp8e4m3⟩
  | 4 => ⟨S52x32000, .f32⟩
  | 5 => ⟨S3x42x6656, .fp8e4m3⟩
  | 6 => ⟨S3x42x52, .f32⟩
  | 7 => ⟨S3x42x6656, .bf16⟩
  | 8 => ⟨S6656x32000, .bf16⟩
  | 9 => ⟨S3x42x32000, .f32⟩
  | 10 => ⟨S_, .f32⟩
  | 11 => ⟨S3x42x32000, .f32⟩
  | 12 => ⟨S3x42x32000, .f32⟩
  | 13 => ⟨S_, .f32⟩
  | 14 => ⟨S3x42, .f32⟩
  | 15 => ⟨S3x42x1, .f32⟩
  | 16 => ⟨S3x42x32000, .f32⟩
  | 17 => ⟨S3x42x32000, .f32⟩
  | 18 => ⟨S3x42x32000, .f32⟩
  | 19 => ⟨S_, .f32⟩
  | 20 => ⟨S3x42, .f32⟩
  | 21 => ⟨S3x42x1, .f32⟩
  | 22 => ⟨S3x42x1, .f32⟩
  | 23 => ⟨S3x42x1, .f32⟩
  | 24 => ⟨S3x42x32000, .f32⟩
  | 25 => ⟨S3x42x32000, .f32⟩
  | 26 => ⟨S3x42, .f32⟩
  | 27 => ⟨S3x42x32000, .f32⟩
  | 28 => ⟨S3x42x32000, .f32⟩
  | 29 => ⟨S_, .f32⟩
  | 30 => ⟨S3x42, .f32⟩
  | 31 => ⟨S3x42, .f32⟩
  | 32 => ⟨S42, .i32⟩
  | 33 => ⟨S_, .i32⟩
  | 34 => ⟨S42, .i32⟩
  | 35 => ⟨S42, .i1⟩
  | 36 => ⟨S3, .i32⟩
  | 37 => ⟨S3x1, .i32⟩
  | 38 => ⟨S_, .i32⟩
  | 39 => ⟨S3x1, .i32⟩
  | 40 => ⟨S3x1, .i1⟩
  | 41 => ⟨S_, .i32⟩
  | 42 => ⟨S3x1, .i32⟩
  | 43 => ⟨S3x1, .i32⟩
  | 44 => ⟨S3x1, .i32⟩
  | 45 => ⟨S_, .i32⟩
  | 46 => ⟨S3x42, .i32⟩
  | 47 => ⟨S3x42, .i1⟩
  | 48 => ⟨S_, .i32⟩
  | 49 => ⟨S3x42, .i32⟩
  | 50 => ⟨S3x42, .i32⟩
  | 51 => ⟨S3x42, .i32⟩
  | 52 => ⟨S_, .i32⟩
  | 53 => ⟨S3x42, .i32⟩
  | 54 => ⟨S3x42, .i1⟩
  | 55 => ⟨S_, .i32⟩
  | 56 => ⟨S3x42, .i32⟩
  | 57 => ⟨S3x42, .i32⟩
  | 58 => ⟨S3x42, .i32⟩
  | 59 => ⟨S3x42, .i32⟩
  | 60 => ⟨S3x42x1, .i32⟩
  | 61 => ⟨S3x42x1, .i32⟩
  | 62 => ⟨S3x42x1, .i32⟩
  | 63 => ⟨S3x42x3, .i32⟩
  | 64 => ⟨S3x42, .f32⟩
  | 65 => ⟨S_, .i32⟩
  | 66 => ⟨S3x42, .i32⟩
  | 67 => ⟨S3x42, .i1⟩
  | 68 => ⟨S_, .i32⟩
  | 69 => ⟨S3x42, .i32⟩
  | 70 => ⟨S3x42, .i32⟩
  | 71 => ⟨S3x42, .i32⟩
  | 72 => ⟨S3x42x1, .i32⟩
  | 73 => ⟨S1, .i32⟩
  | 74 => ⟨S_, .i32⟩
  | 75 => ⟨S3x42x1, .i32⟩
  | 76 => ⟨S3x42x1, .i1⟩
  | 77 => ⟨S1x1x1, .i32⟩
  | 78 => ⟨S3x42x1, .i32⟩
  | 79 => ⟨S3x42x1, .i1⟩
  | 80 => ⟨S3x42x1, .i1⟩
  | 81 => ⟨S_, .i1⟩
  | 82 => ⟨S3x42, .i1⟩
  | 83 => ⟨S3x42, .f32⟩
  | 84 => ⟨S_, .f32⟩
  | 85 => ⟨S3x42, .f32⟩
  | 86 => ⟨S3x42, .f32⟩
  | 87 => ⟨S3x42, .f32⟩
  | 88 => ⟨S3x42, .f32⟩
  | 89 => ⟨S_, .f32⟩
  | 90 => ⟨S3x42, .f32⟩
  | 91 => ⟨S3x42, .f32⟩
  | 92 => ⟨S_, .f32⟩
  | 93 => ⟨S3x42, .f32⟩
  | 94 => ⟨S3x42, .f32⟩
  | 95 => ⟨S3x42, .f32⟩
  | 96 => ⟨S3x42, .f32⟩
  | 97 => ⟨S_, .f32⟩
  | 98 => ⟨S_, .f32⟩
  | 99 => ⟨S3x42, .i1⟩
  | 100 => ⟨S3x42, .f32⟩
  | 101 => ⟨S3x42, .f32⟩
  | 102 => ⟨S_, .f32⟩
  | 103 => ⟨S_, .f32⟩
  | 104 => ⟨S3x42, .i1⟩
  | 105 => ⟨S3x42, .f32⟩
  | 106 => ⟨S3x42, .f32⟩
  | 107 => ⟨S_, .f32⟩
  | 108 => ⟨S_, .f32⟩
  | 109 => ⟨S3x42, .i1⟩
  | 110 => ⟨S3x42, .f32⟩
  | 111 => ⟨S3x42, .f32⟩
  | 112 => ⟨S_, .i32⟩
  | 113 => ⟨S3x42, .i32⟩
  | 114 => ⟨S3x42, .i1⟩
  | 115 => ⟨S_, .i32⟩
  | 116 => ⟨S3x42, .i32⟩
  | 117 => ⟨S3x42, .i32⟩
  | 118 => ⟨S3x42, .i32⟩
  | 119 => ⟨S3x42x1, .i32⟩
  | 120 => ⟨S1, .i32⟩
  | 121 => ⟨S_, .i32⟩
  | 122 => ⟨S3x42x1, .i32⟩
  | 123 => ⟨S3x42x1, .i1⟩
  | 124 => ⟨S1x1x1, .i32⟩
  | 125 => ⟨S3x42x1, .i32⟩
  | 126 => ⟨S3x42x1, .i1⟩
  | 127 => ⟨S3x42x1, .i1⟩
  | _ => ⟨S3x42x6656, .bf16⟩

abbrev hbmTy0_1 (i : Nat) : BufTy := match i % 128 with
  | 0 => ⟨S_, .i1⟩
  | 1 => ⟨S3x42, .i1⟩
  | 2 => ⟨S3x42, .f32⟩
  | 3 => ⟨S_, .f32⟩
  | 4 => ⟨S3x42, .f32⟩
  | 5 => ⟨S3x42, .f32⟩
  | 6 => ⟨S3x42, .f32⟩
  | 7 => ⟨S_, .i32⟩
  | 8 => ⟨S3x42, .i32⟩
  | 9 => ⟨S3x42, .i1⟩
  | 10 => ⟨S_, .i32⟩
  | 11 => ⟨S3x42, .i32⟩
  | 12 => ⟨S3x42, .i32⟩
  | 13 => ⟨S3x42, .i32⟩
  | 14 => ⟨S3x42x1, .i32⟩
  | 15 => ⟨S1, .i32⟩
  | 16 => ⟨S_, .i32⟩
  | 17 => ⟨S3x42x1, .i32⟩
  | 18 => ⟨S3x42x1, .i1⟩
  | 19 => ⟨S1x1x1, .i32⟩
  | 20 => ⟨S3x42x1, .i32⟩
  | 21 => ⟨S3x42x1, .i1⟩
  | 22 => ⟨S3x42x1, .i1⟩
  | 23 => ⟨S_, .i1⟩
  | 24 => ⟨S3x42, .i1⟩
  | 25 => ⟨S3x42, .i32⟩
  | 26 => ⟨S_, .i32⟩
  | 27 => ⟨S3x42, .i32⟩
  | 28 => ⟨S3x42, .i32⟩
  | 29 => ⟨S_, .i32⟩
  | 30 => ⟨S3x42, .i32⟩
  | 31 => ⟨S3x42, .i1⟩
  | 32 => ⟨S_, .i32⟩
  | 33 => ⟨S3x42, .i32⟩
  | 34 => ⟨S3x42, .i32⟩
  | 35 => ⟨S3x42, .i32⟩
  | 36 => ⟨S3x42x1, .i32⟩
  | 37 => ⟨S1, .i32⟩
  | 38 => ⟨S_, .i32⟩
  | 39 => ⟨S3x42x1, .i32⟩
  | 40 => ⟨S3x42x1, .i1⟩
  | 41 => ⟨S1x1x1, .i32⟩
  | 42 => ⟨S3x42x1, .i32⟩
  | 43 => ⟨S3x42x1, .i1⟩
  | 44 => ⟨S3x42x1, .i1⟩
  | 45 => ⟨S_, .i1⟩
  | 46 => ⟨S3x42, .i1⟩
  | 47 => ⟨S3x42, .f32⟩
  | 48 => ⟨S_, .f32⟩
  | 49 => ⟨S3x42, .f32⟩
  | 50 => ⟨S3x42, .f32⟩
  | 51 => ⟨S3x42, .f32⟩
  | 52 => ⟨S_, .i32⟩
  | 53 => ⟨S3x42, .i32⟩
  | 54 => ⟨S3x42, .i1⟩
  | 55 => ⟨S_, .i32⟩
  | 56 => ⟨S3x42, .i32⟩
  | 57 => ⟨S3x42, .i32⟩
  | 58 => ⟨S3x42, .i32⟩
  | 59 => ⟨S3x42x1, .i32⟩
  | 60 => ⟨S1, .i32⟩
  | 61 => ⟨S_, .i32⟩
  | 62 => ⟨S3x42x1, .i32⟩
  | 63 => ⟨S3x42x1, .i1⟩
  | 64 => ⟨S1x1x1, .i32⟩
  | 65 => ⟨S3x42x1, .i32⟩
  | 66 => ⟨S3x42x1, .i1⟩
  | 67 => ⟨S3x42x1, .i1⟩
  | 68 => ⟨S_, .i1⟩
  | 69 => ⟨S3x42, .i1⟩
  | 70 => ⟨S3x42, .i32⟩
  | 71 => ⟨S_, .i32⟩
  | 72 => ⟨S3x42, .i32⟩
  | 73 => ⟨S3x42, .i32⟩
  | 74 => ⟨S_, .i32⟩
  | 75 => ⟨S3x42, .i32⟩
  | 76 => ⟨S3x42, .i1⟩
  | 77 => ⟨S_, .i32⟩
  | 78 => ⟨S3x42, .i32⟩
  | 79 => ⟨S3x42, .i32⟩
  | 80 => ⟨S3x42, .i32⟩
  | 81 => ⟨S3x42x1, .i32⟩
  | 82 => ⟨S1, .i32⟩
  | 83 => ⟨S_, .i32⟩
  | 84 => ⟨S3x42x1, .i32⟩
  | 85 => ⟨S3x42x1, .i1⟩
  | 86 => ⟨S1x1x1, .i32⟩
  | 87 => ⟨S3x42x1, .i32⟩
  | 88 => ⟨S3x42x1, .i1⟩
  | 89 => ⟨S3x42x1, .i1⟩
  | 90 => ⟨S_, .i1⟩
  | 91 => ⟨S3x42, .i1⟩
  | 92 => ⟨S3x42, .f32⟩
  | 93 => ⟨S_, .f32⟩
  | 94 => ⟨S3x42, .f32⟩
  | 95 => ⟨S3x42, .f32⟩
  | 96 => ⟨S3x42, .f32⟩
  | 97 => ⟨S_, .i32⟩
  | 98 => ⟨S3x42, .i32⟩
  | 99 => ⟨S3x42, .i1⟩
  | 100 => ⟨S_, .i32⟩
  | 101 => ⟨S3x42, .i32⟩
  | 102 => ⟨S3x42, .i32⟩
  | 103 => ⟨S3x42, .i32⟩
  | 104 => ⟨S3x42x1, .i32⟩
  | 105 => ⟨S1, .i32⟩
  | 106 => ⟨S_, .i32⟩
  | 107 => ⟨S3x42x1, .i32⟩
  | 108 => ⟨S3x42x1, .i1⟩
  | 109 => ⟨S1x1x1, .i32⟩
  | 110 => ⟨S3x42x1, .i32⟩
  | 111 => ⟨S3x42x1, .i1⟩
  | 112 => ⟨S3x42x1, .i1⟩
  | 113 => ⟨S_, .i1⟩
  | 114 => ⟨S3x42, .i1⟩
  | 115 => ⟨S3x42, .i32⟩
  | 116 => ⟨S_, .i32⟩
  | 117 => ⟨S3x42, .i32⟩
  | 118 => ⟨S3x42, .i32⟩
  | 119 => ⟨S_, .i32⟩
  | 120 => ⟨S3x42, .i32⟩
  | 121 => ⟨S3x42, .i1⟩
  | 122 => ⟨S_, .i32⟩
  | 123 => ⟨S3x42, .i32⟩
  | 124 => ⟨S3x42, .i32⟩
  | 125 => ⟨S3x42, .i32⟩
  | 126 => ⟨S3x42x1, .i32⟩
  | 127 => ⟨S1, .i32⟩
  | _ => ⟨S3x42x6656, .bf16⟩

abbrev hbmTy0_2 (i : Nat) : BufTy := match i % 128 with
  | 0 => ⟨S_, .i32⟩
  | 1 => ⟨S3x42x1, .i32⟩
  | 2 => ⟨S3x42x1, .i1⟩
  | 3 => ⟨S1x1x1, .i32⟩
  | 4 => ⟨S3x42x1, .i32⟩
  | 5 => ⟨S3x42x1, .i1⟩
  | 6 => ⟨S3x42x1, .i1⟩
  | 7 => ⟨S_, .i1⟩
  | 8 => ⟨S3x42, .i1⟩
  | 9 => ⟨S3x42, .f32⟩
  | 10 => ⟨S_, .f32⟩
  | 11 => ⟨S3x42, .f32⟩
  | 12 => ⟨S3x42, .f32⟩
  | 13 => ⟨S3x42, .f32⟩
  | 14 => ⟨S_, .i32⟩
  | 15 => ⟨S3x42, .i32⟩
  | 16 => ⟨S3x42, .i1⟩
  | 17 => ⟨S_, .i32⟩
  | 18 => ⟨S3x42, .i32⟩
  | 19 => ⟨S3x42, .i32⟩
  | 20 => ⟨S3x42, .i32⟩
  | 21 => ⟨S3x42x1, .i32⟩
  | 22 => ⟨S1, .i32⟩
  | 23 => ⟨S_, .i32⟩
  | 24 => ⟨S3x42x1, .i32⟩
  | 25 => ⟨S3x42x1, .i1⟩
  | 26 => ⟨S1x1x1, .i32⟩
  | 27 => ⟨S3x42x1, .i32⟩
  | 28 => ⟨S3x42x1, .i1⟩
  | 29 => ⟨S3x42x1, .i1⟩
  | 30 => ⟨S_, .i1⟩
  | 31 => ⟨S3x42, .i1⟩
  | 32 => ⟨S3x42, .i32⟩
  | 33 => ⟨S_, .i32⟩
  | 34 => ⟨S3x42, .i32⟩
  | 35 => ⟨S3x42, .i32⟩
  | 36 => ⟨S_, .i32⟩
  | 37 => ⟨S3x42, .i32⟩
  | 38 => ⟨S3x42, .i1⟩
  | 39 => ⟨S_, .i32⟩
  | 40 => ⟨S3x42, .i32⟩
  | 41 => ⟨S3x42, .i32⟩
  | 42 => ⟨S3x42, .i32⟩
  | 43 => ⟨S3x42x1, .i32⟩
  | 44 => ⟨S1, .i32⟩
  | 45 => ⟨S_, .i32⟩
  | 46 => ⟨S3x42x1, .i32⟩
  | 47 => ⟨S3x42x1, .i1⟩
  | 48 => ⟨S1x1x1, .i32⟩
  | 49 => ⟨S3x42x1, .i32⟩
  | 50 => ⟨S3x42x1, .i1⟩
  | 51 => ⟨S3x42x1, .i1⟩
  | 52 => ⟨S_, .i1⟩
  | 53 => ⟨S3x42, .i1⟩
  | 54 => ⟨S3x42, .f32⟩
  | 55 => ⟨S_, .f32⟩
  | 56 => ⟨S3x42, .f32⟩
  | 57 => ⟨S3x42, .f32⟩
  | 58 => ⟨S3x42, .f32⟩
  | 59 => ⟨S_, .i32⟩
  | 60 => ⟨S3x42, .i32⟩
  | 61 => ⟨S3x42, .i1⟩
  | 62 => ⟨S_, .i32⟩
  | 63 => ⟨S3x42, .i32⟩
  | 64 => ⟨S3x42, .i32⟩
  | 65 => ⟨S3x42, .i32⟩
  | 66 => ⟨S3x42x1, .i32⟩
  | 67 => ⟨S1, .i32⟩
  | 68 => ⟨S_, .i32⟩
  | 69 => ⟨S3x42x1, .i32⟩
  | 70 => ⟨S3x42x1, .i1⟩
  | 71 => ⟨S1x1x1, .i32⟩
  | 72 => ⟨S3x42x1, .i32⟩
  | 73 => ⟨S3x42x1, .i1⟩
  | 74 => ⟨S3x42x1, .i1⟩
  | 75 => ⟨S_, .i1⟩
  | 76 => ⟨S3x42, .i1⟩
  | 77 => ⟨S3x42, .i32⟩
  | 78 => ⟨S_, .i32⟩
  | 79 => ⟨S3x42, .i32⟩
  | 80 => ⟨S3x42, .i32⟩
  | 81 => ⟨S_, .i32⟩
  | 82 => ⟨S3x42, .i32⟩
  | 83 => ⟨S3x42, .i1⟩
  | 84 => ⟨S_, .i32⟩
  | 85 => ⟨S3x42, .i32⟩
  | 86 => ⟨S3x42, .i32⟩
  | 87 => ⟨S3x42, .i32⟩
  | 88 => ⟨S3x42x1, .i32⟩
  | 89 => ⟨S1, .i32⟩
  | 90 => ⟨S_, .i32⟩
  | 91 => ⟨S3x42x1, .i32⟩
  | 92 => ⟨S3x42x1, .i1⟩
  | 93 => ⟨S1x1x1, .i32⟩
  | 94 => ⟨S3x42x1, .i32⟩
  | 95 => ⟨S3x42x1, .i1⟩
  | 96 => ⟨S3x42x1, .i1⟩
  | 97 => ⟨S_, .i1⟩
  | 98 => ⟨S3x42, .i1⟩
  | 99 => ⟨S3x42, .f32⟩
  | 100 => ⟨S_, .f32⟩
  | 101 => ⟨S3x42, .f32⟩
  | 102 => ⟨S3x42, .f32⟩
  | 103 => ⟨S3x42, .f32⟩
  | 104 => ⟨S_, .i32⟩
  | 105 => ⟨S3x42, .i32⟩
  | 106 => ⟨S3x42, .i1⟩
  | 107 => ⟨S_, .i32⟩
  | 108 => ⟨S3x42, .i32⟩
  | 109 => ⟨S3x42, .i32⟩
  | 110 => ⟨S3x42, .i32⟩
  | 111 => ⟨S3x42x1, .i32⟩
  | 112 => ⟨S1, .i32⟩
  | 113 => ⟨S_, .i32⟩
  | 114 => ⟨S3x42x1, .i32⟩
  | 115 => ⟨S3x42x1, .i1⟩
  | 116 => ⟨S1x1x1, .i32⟩
  | 117 => ⟨S3x42x1, .i32⟩
  | 118 => ⟨S3x42x1, .i1⟩
  | 119 => ⟨S3x42x1, .i1⟩
  | 120 => ⟨S_, .i1⟩
  | 121 => ⟨S3x42, .i1⟩
  | 122 => ⟨S3x42, .i32⟩
  | 123 => ⟨S_, .i32⟩
  | 124 => ⟨S3x42, .i32⟩
  | 125 => ⟨S3x42, .i32⟩
  | 126 => ⟨S_, .f32⟩
  | 127 => ⟨S_, .f32⟩
  | _ => ⟨S3x42x6656, .bf16⟩

abbrev hbmTy0_3 (i : Nat) : BufTy := match i % 128 with
  | 0 => ⟨S3x42, .i1⟩
  | 1 => ⟨S3x42, .f32⟩
  | 2 => ⟨S3x42, .f32⟩
  | _ => ⟨S3x42x6656, .bf16⟩

abbrev hbmTy (i : Nat) : BufTy := match i / 128 with
  | 0 => hbmTy0_0 i
  | 1 => hbmTy0_1 i
  | 2 => hbmTy0_2 i
  | 3 => hbmTy0_3 i
  | _ => ⟨S3x42x6656, .bf16⟩

abbrev bufTy : (tb : Table) → Fin (tcTables nBuf tb) → BufTy
  | .hbm, ⟨i, _⟩ => hbmTy i
  | .local _ .vmem, ⟨0, _⟩ => ⟨S3x42x6656, .bf16⟩
  | .local _ .vmem, ⟨1, _⟩ => ⟨S6656x32000, .fp8e4m3⟩
  | .local _ .vmem, ⟨2, _⟩ => ⟨S52x32000, .f32⟩
  | .local _ .vmem, ⟨3, _⟩ => ⟨S3x42x6656, .fp8e4m3⟩
  | .local _ .vmem, ⟨4, _⟩ => ⟨S3x42x52, .f32⟩
  | .local _ .vmem, ⟨5, _⟩ => ⟨S3x42x6656, .bf16⟩
  | .local _ .vmem, ⟨6, _⟩ => ⟨S6656x32000, .bf16⟩
  | _, _ => ⟨S3x42x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_3 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call0_c : Ref sig .tc := ⟨.hbm, 65, rfl⟩
abbrev main_call0_v0 : Ref sig .tc := ⟨.hbm, 66, rfl⟩
abbrev main_call0_v1 : Ref sig .tc := ⟨.hbm, 67, rfl⟩
abbrev main_call0_c_0 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_v5 : Ref sig .tc := ⟨.hbm, 72, rfl⟩
abbrev main_call0_c_1 : Ref sig .tc := ⟨.hbm, 73, rfl⟩
abbrev main_call0_c_2 : Ref sig .tc := ⟨.hbm, 74, rfl⟩
abbrev main_call0_v6 : Ref sig .tc := ⟨.hbm, 75, rfl⟩
abbrev main_call0_v7 : Ref sig .tc := ⟨.hbm, 76, rfl⟩
abbrev main_call0_v8 : Ref sig .tc := ⟨.hbm, 77, rfl⟩
abbrev main_call0_v9 : Ref sig .tc := ⟨.hbm, 78, rfl⟩
abbrev main_call0_v10 : Ref sig .tc := ⟨.hbm, 79, rfl⟩
abbrev main_call0_v11 : Ref sig .tc := ⟨.hbm, 80, rfl⟩
abbrev main_call0_c_3 : Ref sig .tc := ⟨.hbm, 81, rfl⟩
abbrev main_call0_v12 : Ref sig .tc := ⟨.hbm, 82, rfl⟩
abbrev main_call0_v13 : Ref sig .tc := ⟨.hbm, 83, rfl⟩
abbrev main_call0_cst : Ref sig .tc := ⟨.hbm, 84, rfl⟩
abbrev main_call0_v14 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_cst_9 : Ref sig .tc := ⟨.hbm, 89, rfl⟩
abbrev main_v49 : Ref sig .tc := ⟨.hbm, 90, rfl⟩
abbrev main_v50 : Ref sig .tc := ⟨.hbm, 91, rfl⟩
abbrev main_cst_10 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_cst_11 : Ref sig .tc := ⟨.hbm, 97, rfl⟩
abbrev main_call1_v0 : Ref sig .tc := ⟨.hbm, 98, rfl⟩
abbrev main_call1_v1 : Ref sig .tc := ⟨.hbm, 99, rfl⟩
abbrev main_call1_v2 : Ref sig .tc := ⟨.hbm, 100, rfl⟩
abbrev main_v55 : Ref sig .tc := ⟨.hbm, 101, rfl⟩
abbrev main_cst_12 : Ref sig .tc := ⟨.hbm, 102, rfl⟩
abbrev main_call2_v0 : Ref sig .tc := ⟨.hbm, 103, rfl⟩
abbrev main_call2_v1 : Ref sig .tc := ⟨.hbm, 104, rfl⟩
abbrev main_call2_v2 : Ref sig .tc := ⟨.hbm, 105, rfl⟩
abbrev main_v56 : Ref sig .tc := ⟨.hbm, 106, rfl⟩
abbrev main_cst_13 : Ref sig .tc := ⟨.hbm, 107, rfl⟩
abbrev main_call3_v0 : Ref sig .tc := ⟨.hbm, 108, rfl⟩
abbrev main_call3_v1 : Ref sig .tc := ⟨.hbm, 109, rfl⟩
abbrev main_call3_v2 : Ref sig .tc := ⟨.hbm, 110, rfl⟩
abbrev main_v57 : Ref sig .tc := ⟨.hbm, 111, rfl⟩
abbrev main_call4_c : Ref sig .tc := ⟨.hbm, 112, rfl⟩
abbrev main_call4_v0 : Ref sig .tc := ⟨.hbm, 113, rfl⟩
abbrev main_call4_v1 : Ref sig .tc := ⟨.hbm, 114, rfl⟩
abbrev main_call4_c_0 : Ref sig .tc := ⟨.hbm, 115, rfl⟩
abbrev main_call4_v2 : Ref sig .tc := ⟨.hbm, 116, rfl⟩
abbrev main_call4_v3 : Ref sig .tc := ⟨.hbm, 117, rfl⟩
abbrev main_call4_v4 : Ref sig .tc := ⟨.hbm, 118, rfl⟩
abbrev main_call4_v5 : Ref sig .tc := ⟨.hbm, 119, rfl⟩
abbrev main_call4_c_1 : Ref sig .tc := ⟨.hbm, 120, rfl⟩
abbrev main_call4_c_2 : Ref sig .tc := ⟨.hbm, 121, rfl⟩
abbrev main_call4_v6 : Ref sig .tc := ⟨.hbm, 122, rfl⟩
abbrev main_call4_v7 : Ref sig .tc := ⟨.hbm, 123, rfl⟩
abbrev main_call4_v8 : Ref sig .tc := ⟨.hbm, 124, rfl⟩
abbrev main_call4_v9 : Ref sig .tc := ⟨.hbm, 125, rfl⟩
abbrev main_call4_v10 : Ref sig .tc := ⟨.hbm, 126, rfl⟩
abbrev main_call4_v11 : Ref sig .tc := ⟨.hbm, 127, rfl⟩
abbrev main_call4_c_3 : Ref sig .tc := ⟨.hbm, 128, rfl⟩
abbrev main_call4_v12 : Ref sig .tc := ⟨.hbm, 129, rfl⟩
abbrev main_call4_v13 : Ref sig .tc := ⟨.hbm, 130, rfl⟩
abbrev main_call4_cst : Ref sig .tc := ⟨.hbm, 131, rfl⟩
abbrev main_call4_v14 : Ref sig .tc := ⟨.hbm, 132, rfl⟩
abbrev main_v58 : Ref sig .tc := ⟨.hbm, 133, rfl⟩
abbrev main_v59 : Ref sig .tc := ⟨.hbm, 134, rfl⟩
abbrev main_call5_c : Ref sig .tc := ⟨.hbm, 135, rfl⟩
abbrev main_call5_v0 : Ref sig .tc := ⟨.hbm, 136, rfl⟩
abbrev main_call5_v1 : Ref sig .tc := ⟨.hbm, 137, rfl⟩
abbrev main_call5_c_0 : Ref sig .tc := ⟨.hbm, 138, rfl⟩
abbrev main_call5_v2 : Ref sig .tc := ⟨.hbm, 139, rfl⟩
abbrev main_call5_v3 : Ref sig .tc := ⟨.hbm, 140, rfl⟩
abbrev main_call5_v4 : Ref sig .tc := ⟨.hbm, 141, rfl⟩
abbrev main_call5_v5 : Ref sig .tc := ⟨.hbm, 142, rfl⟩
abbrev main_call5_c_1 : Ref sig .tc := ⟨.hbm, 143, rfl⟩
abbrev main_call5_c_2 : Ref sig .tc := ⟨.hbm, 144, rfl⟩
abbrev main_call5_v6 : Ref sig .tc := ⟨.hbm, 145, rfl⟩
abbrev main_call5_v7 : Ref sig .tc := ⟨.hbm, 146, rfl⟩
abbrev main_call5_v8 : Ref sig .tc := ⟨.hbm, 147, rfl⟩
abbrev main_call5_v9 : Ref sig .tc := ⟨.hbm, 148, rfl⟩
abbrev main_call5_v10 : Ref sig .tc := ⟨.hbm, 149, rfl⟩
abbrev main_call5_v11 : Ref sig .tc := ⟨.hbm, 150, rfl⟩
abbrev main_call5_c_3 : Ref sig .tc := ⟨.hbm, 151, rfl⟩
abbrev main_call5_v12 : Ref sig .tc := ⟨.hbm, 152, rfl⟩
abbrev main_call5_v13 : Ref sig .tc := ⟨.hbm, 153, rfl⟩
abbrev main_call5_c_4 : Ref sig .tc := ⟨.hbm, 154, rfl⟩
abbrev main_call5_v14 : Ref sig .tc := ⟨.hbm, 155, rfl⟩
abbrev main_v60 : Ref sig .tc := ⟨.hbm, 156, rfl⟩
abbrev main_call6_c : Ref sig .tc := ⟨.hbm, 157, rfl⟩
abbrev main_call6_v0 : Ref sig .tc := ⟨.hbm, 158, rfl⟩
abbrev main_call6_v1 : Ref sig .tc := ⟨.hbm, 159, rfl⟩
abbrev main_call6_c_0 : Ref sig .tc := ⟨.hbm, 160, rfl⟩
abbrev main_call6_v2 : Ref sig .tc := ⟨.hbm, 161, rfl⟩
abbrev main_call6_v3 : Ref sig .tc := ⟨.hbm, 162, rfl⟩
abbrev main_call6_v4 : Ref sig .tc := ⟨.hbm, 163, rfl⟩
abbrev main_call6_v5 : Ref sig .tc := ⟨.hbm, 164, rfl⟩
abbrev main_call6_c_1 : Ref sig .tc := ⟨.hbm, 165, rfl⟩
abbrev main_call6_c_2 : Ref sig .tc := ⟨.hbm, 166, rfl⟩
abbrev main_call6_v6 : Ref sig .tc := ⟨.hbm, 167, rfl⟩
abbrev main_call6_v7 : Ref sig .tc := ⟨.hbm, 168, rfl⟩
abbrev main_call6_v8 : Ref sig .tc := ⟨.hbm, 169, rfl⟩
abbrev main_call6_v9 : Ref sig .tc := ⟨.hbm, 170, rfl⟩
abbrev main_call6_v10 : Ref sig .tc := ⟨.hbm, 171, rfl⟩
abbrev main_call6_v11 : Ref sig .tc := ⟨.hbm, 172, rfl⟩
abbrev main_call6_c_3 : Ref sig .tc := ⟨.hbm, 173, rfl⟩
abbrev main_call6_v12 : Ref sig .tc := ⟨.hbm, 174, rfl⟩
abbrev main_call6_v13 : Ref sig .tc := ⟨.hbm, 175, rfl⟩
abbrev main_call6_cst : Ref sig .tc := ⟨.hbm, 176, rfl⟩
abbrev main_call6_v14 : Ref sig .tc := ⟨.hbm, 177, rfl⟩
abbrev main_v61 : Ref sig .tc := ⟨.hbm, 178, rfl⟩
abbrev main_v62 : Ref sig .tc := ⟨.hbm, 179, rfl⟩
abbrev main_call7_c : Ref sig .tc := ⟨.hbm, 180, rfl⟩
abbrev main_call7_v0 : Ref sig .tc := ⟨.hbm, 181, rfl⟩
abbrev main_call7_v1 : Ref sig .tc := ⟨.hbm, 182, rfl⟩
abbrev main_call7_c_0 : Ref sig .tc := ⟨.hbm, 183, rfl⟩
abbrev main_call7_v2 : Ref sig .tc := ⟨.hbm, 184, rfl⟩
abbrev main_call7_v3 : Ref sig .tc := ⟨.hbm, 185, rfl⟩
abbrev main_call7_v4 : Ref sig .tc := ⟨.hbm, 186, rfl⟩
abbrev main_call7_v5 : Ref sig .tc := ⟨.hbm, 187, rfl⟩
abbrev main_call7_c_1 : Ref sig .tc := ⟨.hbm, 188, rfl⟩
abbrev main_call7_c_2 : Ref sig .tc := ⟨.hbm, 189, rfl⟩
abbrev main_call7_v6 : Ref sig .tc := ⟨.hbm, 190, rfl⟩
abbrev main_call7_v7 : Ref sig .tc := ⟨.hbm, 191, rfl⟩
abbrev main_call7_v8 : Ref sig .tc := ⟨.hbm, 192, rfl⟩
abbrev main_call7_v9 : Ref sig .tc := ⟨.hbm, 193, rfl⟩
abbrev main_call7_v10 : Ref sig .tc := ⟨.hbm, 194, rfl⟩
abbrev main_call7_v11 : Ref sig .tc := ⟨.hbm, 195, rfl⟩
abbrev main_call7_c_3 : Ref sig .tc := ⟨.hbm, 196, rfl⟩
abbrev main_call7_v12 : Ref sig .tc := ⟨.hbm, 197, rfl⟩
abbrev main_call7_v13 : Ref sig .tc := ⟨.hbm, 198, rfl⟩
abbrev main_call7_c_4 : Ref sig .tc := ⟨.hbm, 199, rfl⟩
abbrev main_call7_v14 : Ref sig .tc := ⟨.hbm, 200, rfl⟩
abbrev main_v63 : Ref sig .tc := ⟨.hbm, 201, rfl⟩
abbrev main_call8_c : Ref sig .tc := ⟨.hbm, 202, rfl⟩
abbrev main_call8_v0 : Ref sig .tc := ⟨.hbm, 203, rfl⟩
abbrev main_call8_v1 : Ref sig .tc := ⟨.hbm, 204, rfl⟩
abbrev main_call8_c_0 : Ref sig .tc := ⟨.hbm, 205, rfl⟩
abbrev main_call8_v2 : Ref sig .tc := ⟨.hbm, 206, rfl⟩
abbrev main_call8_v3 : Ref sig .tc := ⟨.hbm, 207, rfl⟩
abbrev main_call8_v4 : Ref sig .tc := ⟨.hbm, 208, rfl⟩
abbrev main_call8_v5 : Ref sig .tc := ⟨.hbm, 209, rfl⟩
abbrev main_call8_c_1 : Ref sig .tc := ⟨.hbm, 210, rfl⟩
abbrev main_call8_c_2 : Ref sig .tc := ⟨.hbm, 211, rfl⟩
abbrev main_call8_v6 : Ref sig .tc := ⟨.hbm, 212, rfl⟩
abbrev main_call8_v7 : Ref sig .tc := ⟨.hbm, 213, rfl⟩
abbrev main_call8_v8 : Ref sig .tc := ⟨.hbm, 214, rfl⟩
abbrev main_call8_v9 : Ref sig .tc := ⟨.hbm, 215, rfl⟩
abbrev main_call8_v10 : Ref sig .tc := ⟨.hbm, 216, rfl⟩
abbrev main_call8_v11 : Ref sig .tc := ⟨.hbm, 217, rfl⟩
abbrev main_call8_c_3 : Ref sig .tc := ⟨.hbm, 218, rfl⟩
abbrev main_call8_v12 : Ref sig .tc := ⟨.hbm, 219, rfl⟩
abbrev main_call8_v13 : Ref sig .tc := ⟨.hbm, 220, rfl⟩
abbrev main_call8_cst : Ref sig .tc := ⟨.hbm, 221, rfl⟩
abbrev main_call8_v14 : Ref sig .tc := ⟨.hbm, 222, rfl⟩
abbrev main_v64 : Ref sig .tc := ⟨.hbm, 223, rfl⟩
abbrev main_v65 : Ref sig .tc := ⟨.hbm, 224, rfl⟩
abbrev main_call9_c : Ref sig .tc := ⟨.hbm, 225, rfl⟩
abbrev main_call9_v0 : Ref sig .tc := ⟨.hbm, 226, rfl⟩
abbrev main_call9_v1 : Ref sig .tc := ⟨.hbm, 227, rfl⟩
abbrev main_call9_c_0 : Ref sig .tc := ⟨.hbm, 228, rfl⟩
abbrev main_call9_v2 : Ref sig .tc := ⟨.hbm, 229, rfl⟩
abbrev main_call9_v3 : Ref sig .tc := ⟨.hbm, 230, rfl⟩
abbrev main_call9_v4 : Ref sig .tc := ⟨.hbm, 231, rfl⟩
abbrev main_call9_v5 : Ref sig .tc := ⟨.hbm, 232, rfl⟩
abbrev main_call9_c_1 : Ref sig .tc := ⟨.hbm, 233, rfl⟩
abbrev main_call9_c_2 : Ref sig .tc := ⟨.hbm, 234, rfl⟩
abbrev main_call9_v6 : Ref sig .tc := ⟨.hbm, 235, rfl⟩
abbrev main_call9_v7 : Ref sig .tc := ⟨.hbm, 236, rfl⟩
abbrev main_call9_v8 : Ref sig .tc := ⟨.hbm, 237, rfl⟩
abbrev main_call9_v9 : Ref sig .tc := ⟨.hbm, 238, rfl⟩
abbrev main_call9_v10 : Ref sig .tc := ⟨.hbm, 239, rfl⟩
abbrev main_call9_v11 : Ref sig .tc := ⟨.hbm, 240, rfl⟩
abbrev main_call9_c_3 : Ref sig .tc := ⟨.hbm, 241, rfl⟩
abbrev main_call9_v12 : Ref sig .tc := ⟨.hbm, 242, rfl⟩
abbrev main_call9_v13 : Ref sig .tc := ⟨.hbm, 243, rfl⟩
abbrev main_call9_c_4 : Ref sig .tc := ⟨.hbm, 244, rfl⟩
abbrev main_call9_v14 : Ref sig .tc := ⟨.hbm, 245, rfl⟩
abbrev main_v66 : Ref sig .tc := ⟨.hbm, 246, rfl⟩
abbrev main_call10_c : Ref sig .tc := ⟨.hbm, 247, rfl⟩
abbrev main_call10_v0 : Ref sig .tc := ⟨.hbm, 248, rfl⟩
abbrev main_call10_v1 : Ref sig .tc := ⟨.hbm, 249, rfl⟩
abbrev main_call10_c_0 : Ref sig .tc := ⟨.hbm, 250, rfl⟩
abbrev main_call10_v2 : Ref sig .tc := ⟨.hbm, 251, rfl⟩
abbrev main_call10_v3 : Ref sig .tc := ⟨.hbm, 252, rfl⟩
abbrev main_call10_v4 : Ref sig .tc := ⟨.hbm, 253, rfl⟩
abbrev main_call10_v5 : Ref sig .tc := ⟨.hbm, 254, rfl⟩
abbrev main_call10_c_1 : Ref sig .tc := ⟨.hbm, 255, rfl⟩
abbrev main_call10_c_2 : Ref sig .tc := ⟨.hbm, 256, rfl⟩
abbrev main_call10_v6 : Ref sig .tc := ⟨.hbm, 257, rfl⟩
abbrev main_call10_v7 : Ref sig .tc := ⟨.hbm, 258, rfl⟩
abbrev main_call10_v8 : Ref sig .tc := ⟨.hbm, 259, rfl⟩
abbrev main_call10_v9 : Ref sig .tc := ⟨.hbm, 260, rfl⟩
abbrev main_call10_v10 : Ref sig .tc := ⟨.hbm, 261, rfl⟩
abbrev main_call10_v11 : Ref sig .tc := ⟨.hbm, 262, rfl⟩
abbrev main_call10_c_3 : Ref sig .tc := ⟨.hbm, 263, rfl⟩
abbrev main_call10_v12 : Ref sig .tc := ⟨.hbm, 264, rfl⟩
abbrev main_call10_v13 : Ref sig .tc := ⟨.hbm, 265, rfl⟩
abbrev main_call10_cst : Ref sig .tc := ⟨.hbm, 266, rfl⟩
abbrev main_call10_v14 : Ref sig .tc := ⟨.hbm, 267, rfl⟩
abbrev main_v67 : Ref sig .tc := ⟨.hbm, 268, rfl⟩
abbrev main_v68 : Ref sig .tc := ⟨.hbm, 269, rfl⟩
abbrev main_call11_c : Ref sig .tc := ⟨.hbm, 270, rfl⟩
abbrev main_call11_v0 : Ref sig .tc := ⟨.hbm, 271, rfl⟩
abbrev main_call11_v1 : Ref sig .tc := ⟨.hbm, 272, rfl⟩
abbrev main_call11_c_0 : Ref sig .tc := ⟨.hbm, 273, rfl⟩
abbrev main_call11_v2 : Ref sig .tc := ⟨.hbm, 274, rfl⟩
abbrev main_call11_v3 : Ref sig .tc := ⟨.hbm, 275, rfl⟩
abbrev main_call11_v4 : Ref sig .tc := ⟨.hbm, 276, rfl⟩
abbrev main_call11_v5 : Ref sig .tc := ⟨.hbm, 277, rfl⟩
abbrev main_call11_c_1 : Ref sig .tc := ⟨.hbm, 278, rfl⟩
abbrev main_call11_c_2 : Ref sig .tc := ⟨.hbm, 279, rfl⟩
abbrev main_call11_v6 : Ref sig .tc := ⟨.hbm, 280, rfl⟩
abbrev main_call11_v7 : Ref sig .tc := ⟨.hbm, 281, rfl⟩
abbrev main_call11_v8 : Ref sig .tc := ⟨.hbm, 282, rfl⟩
abbrev main_call11_v9 : Ref sig .tc := ⟨.hbm, 283, rfl⟩
abbrev main_call11_v10 : Ref sig .tc := ⟨.hbm, 284, rfl⟩
abbrev main_call11_v11 : Ref sig .tc := ⟨.hbm, 285, rfl⟩
abbrev main_call11_c_3 : Ref sig .tc := ⟨.hbm, 286, rfl⟩
abbrev main_call11_v12 : Ref sig .tc := ⟨.hbm, 287, rfl⟩
abbrev main_call11_v13 : Ref sig .tc := ⟨.hbm, 288, rfl⟩
abbrev main_call11_c_4 : Ref sig .tc := ⟨.hbm, 289, rfl⟩
abbrev main_call11_v14 : Ref sig .tc := ⟨.hbm, 290, rfl⟩
abbrev main_v69 : Ref sig .tc := ⟨.hbm, 291, rfl⟩
abbrev main_call12_c : Ref sig .tc := ⟨.hbm, 292, rfl⟩
abbrev main_call12_v0 : Ref sig .tc := ⟨.hbm, 293, rfl⟩
abbrev main_call12_v1 : Ref sig .tc := ⟨.hbm, 294, rfl⟩
abbrev main_call12_c_0 : Ref sig .tc := ⟨.hbm, 295, rfl⟩
abbrev main_call12_v2 : Ref sig .tc := ⟨.hbm, 296, rfl⟩
abbrev main_call12_v3 : Ref sig .tc := ⟨.hbm, 297, rfl⟩
abbrev main_call12_v4 : Ref sig .tc := ⟨.hbm, 298, rfl⟩
abbrev main_call12_v5 : Ref sig .tc := ⟨.hbm, 299, rfl⟩
abbrev main_call12_c_1 : Ref sig .tc := ⟨.hbm, 300, rfl⟩
abbrev main_call12_c_2 : Ref sig .tc := ⟨.hbm, 301, rfl⟩
abbrev main_call12_v6 : Ref sig .tc := ⟨.hbm, 302, rfl⟩
abbrev main_call12_v7 : Ref sig .tc := ⟨.hbm, 303, rfl⟩
abbrev main_call12_v8 : Ref sig .tc := ⟨.hbm, 304, rfl⟩
abbrev main_call12_v9 : Ref sig .tc := ⟨.hbm, 305, rfl⟩
abbrev main_call12_v10 : Ref sig .tc := ⟨.hbm, 306, rfl⟩
abbrev main_call12_v11 : Ref sig .tc := ⟨.hbm, 307, rfl⟩
abbrev main_call12_c_3 : Ref sig .tc := ⟨.hbm, 308, rfl⟩
abbrev main_call12_v12 : Ref sig .tc := ⟨.hbm, 309, rfl⟩
abbrev main_call12_v13 : Ref sig .tc := ⟨.hbm, 310, rfl⟩
abbrev main_call12_cst : Ref sig .tc := ⟨.hbm, 311, rfl⟩
abbrev main_call12_v14 : Ref sig .tc := ⟨.hbm, 312, rfl⟩
abbrev main_v70 : Ref sig .tc := ⟨.hbm, 313, rfl⟩
abbrev main_v71 : Ref sig .tc := ⟨.hbm, 314, rfl⟩
abbrev main_call13_c : Ref sig .tc := ⟨.hbm, 315, rfl⟩
abbrev main_call13_v0 : Ref sig .tc := ⟨.hbm, 316, rfl⟩
abbrev main_call13_v1 : Ref sig .tc := ⟨.hbm, 317, rfl⟩
abbrev main_call13_c_0 : Ref sig .tc := ⟨.hbm, 318, rfl⟩
abbrev main_call13_v2 : Ref sig .tc := ⟨.hbm, 319, rfl⟩
abbrev main_call13_v3 : Ref sig .tc := ⟨.hbm, 320, rfl⟩
abbrev main_call13_v4 : Ref sig .tc := ⟨.hbm, 321, rfl⟩
abbrev main_call13_v5 : Ref sig .tc := ⟨.hbm, 322, rfl⟩
abbrev main_call13_c_1 : Ref sig .tc := ⟨.hbm, 323, rfl⟩
abbrev main_call13_c_2 : Ref sig .tc := ⟨.hbm, 324, rfl⟩
abbrev main_call13_v6 : Ref sig .tc := ⟨.hbm, 325, rfl⟩
abbrev main_call13_v7 : Ref sig .tc := ⟨.hbm, 326, rfl⟩
abbrev main_call13_v8 : Ref sig .tc := ⟨.hbm, 327, rfl⟩
abbrev main_call13_v9 : Ref sig .tc := ⟨.hbm, 328, rfl⟩
abbrev main_call13_v10 : Ref sig .tc := ⟨.hbm, 329, rfl⟩
abbrev main_call13_v11 : Ref sig .tc := ⟨.hbm, 330, rfl⟩
abbrev main_call13_c_3 : Ref sig .tc := ⟨.hbm, 331, rfl⟩
abbrev main_call13_v12 : Ref sig .tc := ⟨.hbm, 332, rfl⟩
abbrev main_call13_v13 : Ref sig .tc := ⟨.hbm, 333, rfl⟩
abbrev main_call13_c_4 : Ref sig .tc := ⟨.hbm, 334, rfl⟩
abbrev main_call13_v14 : Ref sig .tc := ⟨.hbm, 335, rfl⟩
abbrev main_v72 : Ref sig .tc := ⟨.hbm, 336, rfl⟩
abbrev main_call14_c : Ref sig .tc := ⟨.hbm, 337, rfl⟩
abbrev main_call14_v0 : Ref sig .tc := ⟨.hbm, 338, rfl⟩
abbrev main_call14_v1 : Ref sig .tc := ⟨.hbm, 339, rfl⟩
abbrev main_call14_c_0 : Ref sig .tc := ⟨.hbm, 340, rfl⟩
abbrev main_call14_v2 : Ref sig .tc := ⟨.hbm, 341, rfl⟩
abbrev main_call14_v3 : Ref sig .tc := ⟨.hbm, 342, rfl⟩
abbrev main_call14_v4 : Ref sig .tc := ⟨.hbm, 343, rfl⟩
abbrev main_call14_v5 : Ref sig .tc := ⟨.hbm, 344, rfl⟩
abbrev main_call14_c_1 : Ref sig .tc := ⟨.hbm, 345, rfl⟩
abbrev main_call14_c_2 : Ref sig .tc := ⟨.hbm, 346, rfl⟩
abbrev main_call14_v6 : Ref sig .tc := ⟨.hbm, 347, rfl⟩
abbrev main_call14_v7 : Ref sig .tc := ⟨.hbm, 348, rfl⟩
abbrev main_call14_v8 : Ref sig .tc := ⟨.hbm, 349, rfl⟩
abbrev main_call14_v9 : Ref sig .tc := ⟨.hbm, 350, rfl⟩
abbrev main_call14_v10 : Ref sig .tc := ⟨.hbm, 351, rfl⟩
abbrev main_call14_v11 : Ref sig .tc := ⟨.hbm, 352, rfl⟩
abbrev main_call14_c_3 : Ref sig .tc := ⟨.hbm, 353, rfl⟩
abbrev main_call14_v12 : Ref sig .tc := ⟨.hbm, 354, rfl⟩
abbrev main_call14_v13 : Ref sig .tc := ⟨.hbm, 355, rfl⟩
abbrev main_call14_cst : Ref sig .tc := ⟨.hbm, 356, rfl⟩
abbrev main_call14_v14 : Ref sig .tc := ⟨.hbm, 357, rfl⟩
abbrev main_v73 : Ref sig .tc := ⟨.hbm, 358, rfl⟩
abbrev main_v74 : Ref sig .tc := ⟨.hbm, 359, rfl⟩
abbrev main_call15_c : Ref sig .tc := ⟨.hbm, 360, rfl⟩
abbrev main_call15_v0 : Ref sig .tc := ⟨.hbm, 361, rfl⟩
abbrev main_call15_v1 : Ref sig .tc := ⟨.hbm, 362, rfl⟩
abbrev main_call15_c_0 : Ref sig .tc := ⟨.hbm, 363, rfl⟩
abbrev main_call15_v2 : Ref sig .tc := ⟨.hbm, 364, rfl⟩
abbrev main_call15_v3 : Ref sig .tc := ⟨.hbm, 365, rfl⟩
abbrev main_call15_v4 : Ref sig .tc := ⟨.hbm, 366, rfl⟩
abbrev main_call15_v5 : Ref sig .tc := ⟨.hbm, 367, rfl⟩
abbrev main_call15_c_1 : Ref sig .tc := ⟨.hbm, 368, rfl⟩
abbrev main_call15_c_2 : Ref sig .tc := ⟨.hbm, 369, rfl⟩
abbrev main_call15_v6 : Ref sig .tc := ⟨.hbm, 370, rfl⟩
abbrev main_call15_v7 : Ref sig .tc := ⟨.hbm, 371, rfl⟩
abbrev main_call15_v8 : Ref sig .tc := ⟨.hbm, 372, rfl⟩
abbrev main_call15_v9 : Ref sig .tc := ⟨.hbm, 373, rfl⟩
abbrev main_call15_v10 : Ref sig .tc := ⟨.hbm, 374, rfl⟩
abbrev main_call15_v11 : Ref sig .tc := ⟨.hbm, 375, rfl⟩
abbrev main_call15_c_3 : Ref sig .tc := ⟨.hbm, 376, rfl⟩
abbrev main_call15_v12 : Ref sig .tc := ⟨.hbm, 377, rfl⟩
abbrev main_call15_v13 : Ref sig .tc := ⟨.hbm, 378, rfl⟩
abbrev main_call15_c_4 : Ref sig .tc := ⟨.hbm, 379, rfl⟩
abbrev main_call15_v14 : Ref sig .tc := ⟨.hbm, 380, rfl⟩
abbrev main_v75 : Ref sig .tc := ⟨.hbm, 381, rfl⟩
abbrev main_cst_14 : Ref sig .tc := ⟨.hbm, 382, rfl⟩
abbrev main_call16_v0 : Ref sig .tc := ⟨.hbm, 383, rfl⟩
abbrev main_call16_v1 : Ref sig .tc := ⟨.hbm, 384, rfl⟩
abbrev main_call16_v2 : Ref sig .tc := ⟨.hbm, 385, rfl⟩
abbrev main_v76 : Ref sig .tc := ⟨.hbm, 386, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "ln2" => some ((Real.log 2 : ℝ) : EReal)
  | "temperature" => some ((7 / 10 : ℝ) : EReal)
  | _ => none

abbrev grid0 : Pipeline.Grid := .none

abbrev stage0_0 : Fin 1 → Memref sig .tc .vmem S3x42x6656 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6656x32000 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S52x32000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x42x6656 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x42x52 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x42x6656 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6656x32000 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Run.Rolled.lean ====
/-
  THE CHUNK BODY, ROLLED UP. The printed program writes the body of the chunk loop out statement by statement; here
  the same statements stand as a few small programs with symbolic indices (one scaled weight block, one product, one
  tile, one row group of the softmax), put in sequence by `Scf.forFrom`. `Rolled/…Eq` modules prove the two equal.
-/
module

public import proofs.«01_k».proof.Proof.Gen.KernelIdeal
public import Idealize.ShloMosaic.Lib.Scf

@[expose] public section

noncomputable section

namespace Cert.KernelIdeal.Run

open Idealize.ShloMosaic Idealize.SL.Sem
open Idealize.ShloMosaic.RefSig (ofTc tcTables tileCredit tileCredit_eq_zero tileCredit_pos)
open Facts₀ Facts

variable {F : FTy → Type} [FloatOps F] [Named F]

/-- The programs of the TensorCore's body. -/
abbrev TP (F : FTy → Type) [FloatOps F] (α : Type) := Prog (TpuEff nD τ sig (Elt F) Λ₀ .tc) α

/-! ## Values -/

/-- One block of 128 weight rows, scaled: codes times the row of scales. -/
def deq (s : Vec F S1x1x256 .f32) (w : Vec F S1x128x256 .fp8e4m3) : FVec F S128x256 .bf16 :=
  shapeCast S128x256
    (mulf (shapeCast S8x16x256 (extf .bf16 (shapeCast S128x256 w shapeCasts_S1x128x256_S128x256) bitsLt_fp8e4m3_bf16) shapeCasts_S128x256_S8x16x256)
      (broadcastTo S8x16x256 (shapeCast S1x16x256
        (truncf .bf16 (broadcastTo S16x256 (shapeCast S1x256 (shapeCast S1x256 s shapeCasts_S1x1x256_S1x256) shapeCasts_S1x256_S1x256) broadcasts_S1x256_S16x256) bitsLt_bf16_f32)
        shapeCasts_S16x256_S1x16x256) broadcasts_S1x16x256_S8x16x256))
    shapeCasts_S8x16x256_S128x256

/-- The product of one 256-column block of activations with two scaled weight blocks. -/
def prod2 (x : Vec F S128x256 .bf16) (a b : FVec F S128x256 .bf16) : FVec F S128x256 .f32 :=
  matmul dot_S128x256_S256x256_S128x256_1_0_0_1_n_n none x
    (concatenate S256x256 0 [⟨S128x256, a⟩, ⟨S128x256, b⟩] concatenates_S128x256_S128x256_S256x256_d0)
    (constant S128x256 .f32 0x00000000#32)

/-- The accumulated product at base two. -/
def scaled (acc : FVec F S128x256 .f32) : FVec F S128x256 .f32 :=
  mulf acc (broadcast S128x256 (Named.named κ "log2e_over_temperature" 0x4003E74F#32))
def half0 (acc : FVec F S128x256 .f32) : FVec F S1x128x128 .f32 :=
  shapeCast S1x128x128 (extractStridedSlice S128x128 ![0, 0] (scaled acc) slices_S128x256_o0_0_S128x128) shapeCasts_S128x128_S1x128x128
def half1 (acc : FVec F S128x256 .f32) : FVec F S1x128x128 .f32 :=
  shapeCast S1x128x128 (extractStridedSlice S128x128 ![0, 128] (scaled acc) slices_S128x256_o0_128_S128x128) shapeCasts_S128x128_S1x128x128

/-- The maximum of the row group after ten more blocks. -/
def maxStep (m : FVec F S32x128 .f32) (z : Fin 10 → FVec F S32x128 .f32) : FVec F S32x128 .f32 :=
  maximumf (maximumf (maximumf (maximumf (maximumf (maximumf (maximumf (maximumf (maximumf (maximumf m (z 0)) (z 1)) (z 2)) (z 3)) (z 4)) (z 5)) (z 6)) (z 7)) (z 8)) (z 9)
/-- One block's term of the sum of exponentials. -/
def sTerm (m' z s : FVec F S32x128 .f32) : FVec F S32x128 .f32 := addf s (exp2 (subf z m'))
/-- One block's term of the sum of exponentials times exponents. -/
def tTerm (m' z t : FVec F S32x128 .f32) : FVec F S32x128 .f32 := addf t (mulf (exp2 (subf z m')) (subf z m'))
/-- The old sum rescaled to the new maximum. -/
def sBase (m m' s : FVec F S32x128 .f32) : FVec F S32x128 .f32 := mulf s (exp2 (subf m m'))
def tBase (m m' s t : FVec F S32x128 .f32) : FVec F S32x128 .f32 := mulf (addf t (mulf s (subf m m'))) (exp2 (subf m m'))
def sStep (m m' s : FVec F S32x128 .f32) (z : Fin 10 → FVec F S32x128 .f32) : FVec F S32x128 .f32 :=
  sTerm m' (z 9) (sTerm m' (z 8) (sTerm m' (z 7) (sTerm m' (z 6) (sTerm m' (z 5) (sTerm m' (z 4) (sTerm m' (z 3) (sTerm m' (z 2) (sTerm m' (z 1) (sTerm m' (z 0) (sBase m m' s))))))))))
def tStep (m m' s t : FVec F S32x128 .f32) (z : Fin 10 → FVec F S32x128 .f32) : FVec F S32x128 .f32 :=
  tTerm m' (z 9) (tTerm m' (z 8) (tTerm m' (z 7) (tTerm m' (z 6) (tTerm m' (z 5) (tTerm m' (z 4) (tTerm m' (z 3) (tTerm m' (z 2) (tTerm m' (z 1) (tTerm m' (z 0) (tBase m m' s t))))))))))

/-! ## Rectangles -/

theorem inb3 {A B C a b c x y z : Nat} (hx : x + a ≤ A) (hy : y + b ≤ B) (hz : z + c ≤ C) :
    ∀ i, (![x, y, z] : Fin 3 → Nat) i + (⟨3, ![a, b, c]⟩ : Shape).size i ≤ (⟨3, ![A, B, C]⟩ : Shape).size i := by
  intro i; fin_cases i <;> assumption
theorem inb2 {A B a b x y : Nat} (hx : x + a ≤ A) (hy : y + b ≤ B) :
    ∀ i, (![x, y] : Fin 2 → Nat) i + (⟨2, ![a, b]⟩ : Shape).size i ≤ (⟨2, ![A, B]⟩ : Shape).size i := by
  intro i; fin_cases i <;> assumption

abbrev scaleRect (sl : Fin 3) (kb : Fin 52) (t : Fin 5) : Rect S3x52x1280 :=
  Rect.unit (s := S3x52x1280) ![sl.val, kb.val, 256 * t.val] S1x1x256.size (inb3 (by omega) (by omega) (by omega))
abbrev weightRect (sl : Fin 3) (kb : Fin 52) (t : Fin 5) : Rect S3x6656x1280 :=
  Rect.unit (s := S3x6656x1280) ![sl.val, 128 * kb.val, 256 * t.val] S1x128x256.size (inb3 (by omega) (by omega) (by omega))
abbrev actRect (k : Fin 26) : Rect S128x6656 :=
  Rect.unit (s := S128x6656) ![0, 256 * k.val] S128x256.size (inb2 (by omega) (by omega))
abbrev zRect (j : Fin 250) : Rect S250x128x128 :=
  Rect.unit (s := S250x128x128) ![j.val, 0, 0] S1x128x128.size (inb3 (by omega) (by omega) (by omega))
abbrev zGroupRect (j : Fin 250) (r : Fin 4) : Rect S250x128x128 :=
  Rect.unit (s := S250x128x128) ![j.val, 32 * r.val, 0] S1x32x128.size (inb3 (by omega) (by omega) (by omega))
abbrev groupRect (r : Fin 4) : Rect S128x128 :=
  Rect.unit (s := S128x128) ![32 * r.val, 0] S32x128.size (inb2 (by omega) (by omega))

/-! ## Programs

Written in continuation style: each takes what the program does next. -/

/-- A loop over a list of indices, carrying a value. -/
def seqK {α : Type} {n : Nat} {σ : Type} (f : Fin n → σ → (σ → TP F α) → TP F α) : List (Fin n) → σ → (σ → TP F α) → TP F α
  | [], acc, K => K acc
  | k :: ks, acc, K => f k acc fun acc' => seqK f ks acc' K

/-- A vector load at a rectangle. -/
abbrev ld {α : Type} {s : Shape} {e : EltTy} (m : Memref sig .tc .vmem s e) (r : Rect s) (h : 0 < r.shape.numel)
    (K : Vec F r.shape e → TP F α) : TP F α := .op (.load m r.toLoadRect (View.loadsAt_vmem h)) K

/-- A vector store of 32-bit elements over a rectangle, after the load of what it replaces. -/
abbrev st {α : Type} {s : Shape} (m : Memref sig .tc .vmem s .f32) (r : Rect s) (h : 0 < r.shape.numel) (w : Vec F r.shape .f32)
    (K : TP F α) : TP F α :=
  ld m r h fun _ => .op (.store m r w Finset.univ (View.stores_vmem_bits_univ h rfl) (.inl rfl)) fun _ => K

section
variable {α : Type} (arg11 : Memref sig .tc .vmem S3x6656x1280 .fp8e4m3) (arg12 : Memref sig .tc .vmem S3x52x1280 .f32)
  (arg14 : Memref sig .tc .vmem S128x6656 .bf16) (arg15 : Memref sig .tc .vmem S250x128x128 .f32)
  (arg16 arg17 arg18 : Memref sig .tc .vmem S128x128 .f32)

/-- One weight block read from slot `sl` and scaled. -/
def wblockK (sl : Fin 3) (t : Fin 5) (kb : Fin 52) (K : FVec F S128x256 .bf16 → TP F α) : TP F α :=
  ld arg12 (scaleRect sl kb t) h_S1x1x256 fun s => ld arg11 (weightRect sl kb t) h_S1x128x256 fun w => K (deq s w)

/-- One of the 26 products of a tile. -/
def prodK (sl : Fin 3) (t : Fin 5) (k : Fin 26) (K : FVec F S128x256 .f32 → TP F α) : TP F α :=
  wblockK arg11 arg12 sl t ⟨2 * k.val, by omega⟩ fun a =>
  wblockK arg11 arg12 sl t ⟨2 * k.val + 1, by omega⟩ fun b =>
  ld arg14 (actRect k) h_S128x256 fun x => K (prod2 x a b)

/-- The products of a tile, summed in order. -/
def accK (sl : Fin 3) (t : Fin 5) (K : FVec F S128x256 .f32 → TP F α) : TP F α :=
  prodK arg11 arg12 arg14 sl t 0 fun p =>
  seqK (fun k acc K => prodK arg11 arg12 arg14 sl t k fun q => K (addf acc q))
    [1, 2, 3, 4, 5, 6, 7, 8, 9, 10, 11, 12, 13, 14, 15, 16, 17, 18, 19, 20, 21, 22, 23, 24, 25] p K

/-- A tile: its products summed, scaled and stored as two blocks of 128 columns. -/
def tileK (sl : Fin 3) (zst : Fin 5 → Fin 2 → Fin 250) (t : Fin 5) (K : TP F α) : TP F α :=
  accK arg11 arg12 arg14 sl t fun acc =>
  st arg15 (zRect (zst t 0)) h_S1x128x128 (half0 acc) <| st arg15 (zRect (zst t 1)) h_S1x128x128 (half1 acc) K

/-- The ten blocks' values at one row group. -/
def zvals (v : Fin 10 → Vec F S1x32x128 .f32) (i : Fin 10) : FVec F S32x128 .f32 := shapeCast S32x128 (v i) shapeCasts_S1x32x128_S32x128

/-- The softmax of one row group, from the values loaded. -/
def groupK' (r : Fin 4) (z : Fin 10 → FVec F S32x128 .f32) (K : TP F α) : TP F α :=
  ld arg16 (groupRect r) h_S32x128 fun m => ld arg17 (groupRect r) h_S32x128 fun s => ld arg18 (groupRect r) h_S32x128 fun t =>
  st arg16 (groupRect r) h_S32x128 (shapeCast S32x128 (maxStep m z) shapeCasts_S32x128_S32x128) <|
  st arg17 (groupRect r) h_S32x128 (shapeCast S32x128 (sStep m (maxStep m z) s z) shapeCasts_S32x128_S32x128) <|
  st arg18 (groupRect r) h_S32x128 (shapeCast S32x128 (tStep m (maxStep m z) s t z) shapeCasts_S32x128_S32x128) K

/-- One row group of the online softmax: 32 rows against the chunk's ten blocks. -/
def groupK (zld : Fin 10 → Fin 250) (r : Fin 4) (K : TP F α) : TP F α :=
  ld arg15 (zGroupRect (zld 0) r) h_S1x32x128 fun v0 => ld arg15 (zGroupRect (zld 1) r) h_S1x32x128 fun v1 =>
  ld arg15 (zGroupRect (zld 2) r) h_S1x32x128 fun v2 => ld arg15 (zGroupRect (zld 3) r) h_S1x32x128 fun v3 =>
  ld arg15 (zGroupRect (zld 4) r) h_S1x32x128 fun v4 => ld arg15 (zGroupRect (zld 5) r) h_S1x32x128 fun v5 =>
  ld arg15 (zGroupRect (zld 6) r) h_S1x32x128 fun v6 => ld arg15 (zGroupRect (zld 7) r) h_S1x32x128 fun v7 =>
  ld arg15 (zGroupRect (zld 8) r) h_S1x32x128 fun v8 => ld arg15 (zGroupRect (zld 9) r) h_S1x32x128 fun v9 =>
  groupK' arg16 arg17 arg18 r (zvals ![v0, v1, v2, v3, v4, v5, v6, v7, v8, v9]) K

end

section
variable {α : Type} (arg3 : Memref sig .tc .hbm S6656x32000 .fp8e4m3) (harg3 : arg3.IsWhole) (arg4 : Memref sig .tc .hbm S52x32000 .f32)
  (arg11 : Memref sig .tc .vmem S3x6656x1280 .fp8e4m3) (harg11 : arg11.IsWhole) (arg12 : Memref sig .tc .vmem S3x52x1280 .f32)
  (arg14 : Memref sig .tc .vmem S128x6656 .bf16) (arg15 : Memref sig .tc .vmem S250x128x128 .f32)
  (arg16 arg17 arg18 : Memref sig .tc .vmem S128x128 .f32) (arg24 arg25 : DmaSems sig S3)

/-- The slot of chunk `k`, by the words the body computes it with. -/
def slotW (k : Fin k0_t5_loop.trips) : Fin 3 := ⟨k0_off19 k 0, by have h : k0_off19 k 0 + 1 ≤ 3 := k0_off19_inb k 0; omega⟩
/-- The block of scores a tile's half is stored to. -/
def zstW (k : Fin k0_t5_loop.trips) (t : Fin 5) (q : Fin 2) : Fin 250 :=
  ⟨k0_off128 k (BitVec.ofNat 32 (2 * t.val)) (BitVec.ofNat 32 q.val) 0, by
    have := k0_off128_inb k t q 0; simp [S250x128x128, S1x128x128] at this ⊢; omega⟩
/-- The block of scores the softmax reads `j`-th. -/
def zldW (k : Fin k0_t5_loop.trips) (j : Fin 10) : Fin 250 :=
  ⟨k0_off545 k (BitVec.ofNat 32 j.val) 0, by
    have := k0_off545_inb k j 0; simp [S250x128x128, S1x32x128] at this ⊢; omega⟩

/-- Wait for chunk `k`'s two copies. -/
def waitK (k : Fin k0_t5_loop.trips) (K : TP F α) : TP F α :=
  .op (.waitDma2 ((arg24.slice (Rect.unit (s := S3) (k0_off19 k) S1.size (k0_off19_inb k))).squeeze S_ squeezes_S1_S_).sem
    (arg3.slice (Rect.unit (s := S6656x32000) (k0_off21 k) S6656x1280.size (k0_off21_inb k)) (fun _ => rfl))
    ((arg11.slice (Rect.unit (s := S3x6656x1280) (k0_off20 k) S1x6656x1280.size (k0_off20_inb k)) (fun _ => rfl)).squeeze S6656x1280 squeezes_S1x6656x1280_S6656x1280)
    (harg3.wordExact_slice rfl _ (k0_off21_wordsfp8e4m3 k)) ((harg11.wordExact_slice rfl _ (k0_off20_wordsfp8e4m3 k)).reshape _ _)) fun _ =>
  .op (.waitDma2 ((arg25.slice (Rect.unit (s := S3) (k0_off19 k) S1.size (k0_off19_inb k))).squeeze S_ squeezes_S1_S_).sem
    (arg4.slice (Rect.unit (s := S52x32000) (k0_off23 k) S52x1280.size (k0_off23_inb k)) (fun _ => rfl))
    ((arg12.slice (Rect.unit (s := S3x52x1280) (k0_off22 k) S1x52x1280.size (k0_off22_inb k)) (fun _ => rfl)).squeeze S52x1280 squeezes_S1x52x1280_S52x1280)
    (View.wordExact_bits rfl) ((View.wordExact_bits rfl).reshape _ _)) fun _ => K

/-- Start chunk `k + 3`'s two copies, if there is such a chunk. -/
def issueP (k : Fin k0_t5_loop.trips) : TP F PUnit := do
  if h : k0_cond1 k = 1#1 then do
    Prog.lift (.enqueueDma (arg3.slice (Rect.unit (s := S6656x32000) (k0_off551 k) S6656x1280.size (k0_off551_inb k h)) (fun _ => rfl))
      (.here ((arg11.slice (Rect.unit (s := S3x6656x1280) (k0_off550 k) S1x6656x1280.size (k0_off550_inb k h)) (fun _ => rfl)).squeeze S6656x1280 squeezes_S1x6656x1280_S6656x1280))
      (.dma ((arg24.slice (Rect.unit (s := S3) (k0_off549 k) S1.size (k0_off549_inb k h))).squeeze S_ squeezes_S1_S_).sem)
      (harg3.wordExact_slice rfl _ (k0_off551_wordsfp8e4m3 k h)) ((harg11.wordExact_slice rfl _ (k0_off550_wordsfp8e4m3 k h)).reshape _ _) ⟨Or.inl rfl, trivial⟩)
    Prog.lift (.enqueueDma (arg4.slice (Rect.unit (s := S52x32000) (k0_off553 k) S52x1280.size (k0_off553_inb k h)) (fun _ => rfl))
      (.here ((arg12.slice (Rect.unit (s := S3x52x1280) (k0_off552 k) S1x52x1280.size (k0_off552_inb k h)) (fun _ => rfl)).squeeze S52x1280 squeezes_S1x52x1280_S52x1280))
      (.dma ((arg25.slice (Rect.unit (s := S3) (k0_off549 k) S1.size (k0_off549_inb k h))).squeeze S_ squeezes_S1_S_).sem)
      (View.wordExact_bits rfl) ((View.wordExact_bits rfl).reshape _ _) ⟨Or.inl rfl, trivial⟩)
    pure ⟨⟩
  else do
    pure ⟨⟩
  pure ⟨⟩

/-- The chunk body. -/
def chunkP (k : Fin k0_t5_loop.trips) : TP F PUnit :=
  waitK arg3 harg3 arg4 arg11 harg11 arg12 arg24 arg25 k <|
  seqK (fun t (_ : PUnit) K => tileK arg11 arg12 arg14 arg15 (slotW k) (zstW k) t (K ⟨⟩)) [0, 1, 2, 3, 4] ⟨⟩ fun _ =>
  seqK (fun r (_ : PUnit) K => groupK arg15 arg16 arg17 arg18 (zldW k) r (K ⟨⟩)) [0, 1, 2, 3] ⟨⟩ fun _ =>
  issueP arg3 harg3 arg4 arg11 harg11 arg12 arg24 arg25 k
end

end Cert.KernelIdeal.Run
-- ==== Proof.Run.Head.lean ====
/-
  THE REST OF THE KERNEL, ROLLED UP: the first three copies, the table of ancestors, the quantiser, the casts of the
  activations, and, after the chunk loop, the reduction of the running sums, the 126 picks and the four stores.
-/
module

public import proofs.«01_k».proof.Proof.Run.Rolled

@[expose] public section

noncomputable section

namespace Cert.KernelIdeal.Run

open Idealize.ShloMosaic Idealize.SL.Sem
open Idealize.ShloMosaic.RefSig (ofTc tcTables tileCredit tileCredit_eq_zero tileCredit_pos)
open Facts₀ Facts

variable {F : FTy → Type} [FloatOps F] [Named F]

/-! ## Values -/

/-- A row of the ancestors' table: the parent's row with the node itself added. -/
def ancRow (v36 : IVec S1x128 32) (w : BitVec 32) (row : Vec F S1x128 .f32) : FVec F S1x128 .f32 :=
  shapeCast S1x128 (select (cmpi .eq v36 (broadcast S1x128 w)) (broadcast S1x128 (Scalar.ofBits .f32 0x3F800000#32)) row) shapeCasts_S1x128_S1x128

/-- A block of activations as 32-bit floats. -/
def xblk (x : Vec F S1x42x128 .bf16) : FVec F S42x128 .f32 := extf .f32 (shapeCast S42x128 x shapeCasts_S1x42x128_S42x128) bitsLt_bf16_f32
/-- Its largest magnitude per row over 448. -/
def yblk (x : Vec F S1x42x128 .bf16) : FVec F S42x1 .f32 :=
  mulf (shapeCast S42x1 (multiReduction .maximumf [1] S42 (absf (xblk x)) 0xFF800000#32 reduces_S42x128_S42 (.inl rfl) rfl) shapeCasts_S42_S42x1)
    (broadcast S42x1 (Scalar.ofBits .f32 0x3B124925#32))
/-- One step of the search for the exponent field. -/
def bisStep (w : BitVec 32) (y : FVec F S42x1 .f32) (f : IVec S42x1 32) : IVec S42x1 32 :=
  select (cmpf .oge y (bitcastToFloat .f32 (shli (addi f (broadcast S42x1 w)) (broadcast S42x1 23#32)))) (addi f (broadcast S42x1 w)) f
/-- The exponent field. -/
def field (y : FVec F S42x1 .f32) : IVec S42x1 32 :=
  bisStep 1#32 y (bisStep 2#32 y (bisStep 4#32 y (bisStep 8#32 y (bisStep 16#32 y (bisStep 32#32 y (bisStep 64#32 y (bisStep 128#32 y (broadcast S42x1 0#32))))))))
/-- The exponent of the scale. -/
def expo (f : IVec S42x1 32) : IVec S42x1 32 :=
  select (ori (cmpi .eq f (broadcast S42x1 0#32)) (cmpi .eq f (broadcast S42x1 255#32))) (broadcast S42x1 0#32) (subi f (broadcast S42x1 126#32))
/-- Two to the exponent, and its inverse. -/
def pow2 (e : IVec S42x1 32) : FVec F S42x1 .f32 := bitcastToFloat .f32 (shli (addi e (broadcast S42x1 127#32)) (broadcast S42x1 23#32))
def ipow2 (e : IVec S42x1 32) : FVec F S42x1 .f32 := bitcastToFloat .f32 (shli (subi (broadcast S42x1 127#32) e) (broadcast S42x1 23#32))
/-- The block's scales. -/
def qscale (x : Vec F S1x42x128 .bf16) : FVec F S42x1 .f32 := pow2 (expo (field (yblk x)))
/-- The block's codes. -/
def qcode (x : Vec F S1x42x128 .bf16) : FVec F S42x128 .fp8e4m3 :=
  truncf .fp8e4m3 (minimumf (broadcast S42x128 (Scalar.ofBits .f32 0x43E00000#32)) (maximumf (broadcast S42x128 (Scalar.ofBits .f32 0xC3E00000#32))
    (mulf (xblk x) (broadcastTo S42x128 (ipow2 (expo (field (yblk x)))) broadcasts_S42x1_S42x128)))) bitsLt_fp8e4m3_f32
/-- The block's values after the quantiser. -/
def qval (x : Vec F S1x42x128 .bf16) : FVec F S42x128 .f32 :=
  shapeCast S42x128 (mulf (extf .f32 (qcode x) bitsLt_fp8e4m3_f32) (broadcastTo S42x128 (qscale x) broadcasts_S42x1_S42x128)) shapeCasts_S42x128_S42x128
/-- The scales collected so far, with one more column. -/
def qcol (v46 : IVec S42x128 32) (w : BitVec 32) (x : Vec F S1x42x128 .bf16) (acc : FVec F S42x128 .f32) : FVec F S42x128 .f32 :=
  select (cmpi .eq v46 (broadcast S42x128 w)) (broadcastTo S42x128 (shapeCast S42x1 (qscale x) shapeCasts_S42x1_S42x1) broadcasts_S42x1_S42x128) acc

/-- The first 52 columns. -/
def cols52 (v : FVec F S42x128 .f32) : FVec F S42x52 .f32 := extractStridedSlice S42x52 ![0, 0] v slices_S42x128_o0_0_S42x52

/-! The reduction of the running sums. -/
def rmax (m : Vec F S128x128 .f32) : FVec F S128x1 .f32 := shapeCast S128x1 (multiReduction .maximumf [1] S128 m 0xFF800000#32 reduces_S128x128_S128 (.inl rfl) rfl) shapeCasts_S128_S128x1
def rdif (m : Vec F S128x128 .f32) : FVec F S128x128 .f32 := subf m (broadcastTo S128x128 (rmax m) broadcasts_S128x1_S128x128)
def rsum (m s : Vec F S128x128 .f32) : FVec F S128x1 .f32 :=
  shapeCast S128x1 (multiReduction .add [1] S128 (mulf s (exp2 (rdif m))) 0x00000000#32 reduces_S128x128_S128 (.inl rfl) rfl) shapeCasts_S128_S128x1
def rtot (m s t : Vec F S128x128 .f32) : FVec F S128x1 .f32 :=
  shapeCast S128x1 (multiReduction .add [1] S128 (mulf (addf t (mulf s (rdif m))) (exp2 (rdif m))) 0x00000000#32 reduces_S128x128_S128 (.inl rfl) rfl) shapeCasts_S128_S128x1
def rlog (m s : Vec F S128x128 .f32) : FVec F S128x1 .f32 := mulf (log (rsum m s)) (broadcast S128x1 (Named.named κ "log2e" 0x3FB8AA3B#32))
/-- The entropy of each row. -/
def rent (m s t : Vec F S128x128 .f32) : FVec F S128x1 .f32 :=
  mulf (broadcast S128x1 (Named.named κ "ln2" 0x3F317218#32)) (subf (rlog m s) (divf (rtot m s t) (rsum m s)))
/-- The logarithm of each row's normaliser, at base two. -/
def rlse (m s : Vec F S128x128 .f32) : FVec F S128x1 .f32 := addf (rmax m) (rlog m s)
/-- A column spread over a tile. -/
def spread (v : FVec F S128x1 .f32) : FVec F S128x128 .f32 := broadcastTo S128x128 (shapeCast S128x1 v shapeCasts_S128x1_S128x1) broadcasts_S128x1_S128x128
def same128 (v : FVec F S128x128 .f32) : FVec F S128x128 .f32 := shapeCast S128x128 v shapeCasts_S128x128_S128x128

/-- The picked score of a token against its parent's normaliser. -/
def pickVal (v180 : IVec S1x128 32) (w : BitVec 32) (z : Vec F S1x1x128 .f32) (l : Vec F S1x128 .f32) : FVec F S1x128 .f32 :=
  shapeCast S1x128 (select (cmpi .eq v180 (broadcast S1x128 (Scalar.remsi w 128#32)))
    (subf (shapeCast S1x128 z shapeCasts_S1x1x128_S1x128) l) (broadcast S1x128 (Scalar.ofBits .f32 0x00000000#32))) shapeCasts_S1x128_S1x128

/-! The last tile: four results side by side. -/
def rootMask : IVec S128x128 1 :=
  cmpi .eq (remsi (iota .tc S128x128 32 [0] iota_S128x128_d0_w32) (broadcast S128x128 42#32)) (broadcast S128x128 0#32)
def colIota : IVec S128x128 32 := iota .tc S128x128 32 [1] iota_S128x128_d1_w32
def zero128 : FVec F S128x128 .f32 := broadcast S128x128 (Scalar.ofBits .f32 0x00000000#32)
def lpTile (pick : Vec F S128x128 .f32) : FVec F S128x128 .f32 :=
  spread (mulf (broadcast S128x1 (Named.named κ "ln2" 0x3F317218#32))
    (shapeCast S128x1 (multiReduction .add [1] S128 pick 0x00000000#32 reduces_S128x128_S128 (.inl rfl) rfl) shapeCasts_S128_S128x1))
def marginTile (lp : FVec F S128x128 .f32) (hp : Vec F S128x128 .f32) : FVec F S128x128 .f32 :=
  select rootMask zero128 (subf (exp lp) (minimumf (broadcast S128x128 (Scalar.ofBits .f32 0x3DB851EC#32))
    (mulf (broadcast S128x128 (Scalar.ofBits .f32 0x3E99999A#32)) (exp (subf zero128 hp)))))
def pmTile (mg : FVec F S128x128 .f32) (anc : Vec F S128x128 .f32) : FVec F S128x128 .f32 :=
  select rootMask zero128 (spread (shapeCast S128x1 (multiReduction .minimumf [1] S128
    (select (cmpf .ogt anc (broadcast S128x128 (Scalar.ofBits .f32 0x3F000000#32))) (transpose S128x128 [1, 0] mg transposes_S128x128_p1_0_S128x128)
      (broadcast S128x128 (Scalar.ofBits .f32 0x7F800000#32))) 0x7F800000#32 reduces_S128x128_S128 (.inl rfl) rfl) shapeCasts_S128_S128x1))
def outTile (ent : FVec F S128x1 .f32) (lp mg pm : FVec F S128x128 .f32) : FVec F S128x128 .f32 :=
  transpose S128x128 [1, 0] (select (cmpi .eq colIota (broadcast S128x128 0#32)) (spread ent)
    (select (cmpi .eq colIota (broadcast S128x128 1#32)) (select rootMask zero128 lp)
      (select (cmpi .eq colIota (broadcast S128x128 2#32)) mg pm))) transposes_S128x128_p1_0_S128x128

/-! ## Programs -/

/-- The word of scalar memory at a rectangle of one element. -/
abbrev sw {α : Type} (m : Memref sig .tc .smem S3x42 .i32) (o : Fin 2 → Nat) (h : ∀ a, o a + S1x1.size a ≤ S3x42.size a)
    (K : BitVec 32 → TP F α) : TP F α :=
  smemLoadElt m (Rect.unit (s := S3x42) o S1x1.size h) (View.loads_smem_one rfl numel1_S1x1) (Shape.Idx.first (numel1_S1x1.symm ▸ Nat.one_pos)) K
/-- An assumption. -/
abbrev asm {α : Type} (P : Prop) (d : Decidable P) (K : P → TP F α) : TP F α := .op (.assume P d) fun h => K h.down
/-- A store of narrower elements, after the load of what it replaces. -/
abbrev stn {α : Type} {s : Shape} {e : EltTy} (m : Memref sig .tc .vmem s e) (r : Rect s) (h : 0 < r.shape.numel)
    (hs : (m.access r).StoreExact Finset.univ) (w : Vec F r.shape e) (K : TP F α) : TP F α :=
  ld m r h fun _ => .op (.store m r w Finset.univ (View.stores_vmem h hs (fun _ => rfl)) (.inl rfl)) fun _ => K

abbrev whole128 : Rect S128x128 := Rect.unit (s := S128x128) ![0, 0] S128x128.size inb_S128x128_S128x128_0_0
abbrev pad128 : Rect S128x128 := Rect.unit (s := S128x128) ![126, 0] S2x128.size inb_S128x128_S2x128_126_0
abbrev rowRect (i : Fin 126) : Rect S128x128 := Rect.unit (s := S128x128) ![i.val, 0] S1x128.size (inb2 (by omega) (by omega))
abbrev castRect (i : Fin 13) : Rect S128x6656 := Rect.unit (s := S128x6656) ![0, 512 * i.val] S128x512.size (inb2 (by omega) (by omega))
abbrev outRect (b : Fin 3) : Rect S3x42 := Rect.unit (s := S3x42) ![b.val, 0] S1x42.size (inb2 (by omega) (by omega))

theorem castPacked (i : Fin 13) : (castRect i).PackedRows (EltTy.packing .bf16) := by
  fin_cases i
  · exact packedbf16_S128x6656_S128x512_0_0
  · exact packedbf16_S128x6656_S128x512_0_512
  · exact packedbf16_S128x6656_S128x512_0_1024
  · exact packedbf16_S128x6656_S128x512_0_1536
  · exact packedbf16_S128x6656_S128x512_0_2048
  · exact packedbf16_S128x6656_S128x512_0_2560
  · exact packedbf16_S128x6656_S128x512_0_3072
  · exact packedbf16_S128x6656_S128x512_0_3584
  · exact packedbf16_S128x6656_S128x512_0_4096
  · exact packedbf16_S128x6656_S128x512_0_4608
  · exact packedbf16_S128x6656_S128x512_0_5120
  · exact packedbf16_S128x6656_S128x512_0_5632
  · exact packedbf16_S128x6656_S128x512_0_6144

section
variable {α : Type} (arg3 : Memref sig .tc .hbm S6656x32000 .fp8e4m3) (harg3 : arg3.IsWhole) (arg4 : Memref sig .tc .hbm S52x32000 .f32)
  (arg11 : Memref sig .tc .vmem S3x6656x1280 .fp8e4m3) (harg11 : arg11.IsWhole) (arg12 : Memref sig .tc .vmem S3x52x1280 .f32)
  (arg24 arg25 : DmaSems sig S3)

/-- Start the copy of a chunk of weights into a slot. -/
def copyW (oc : Fin 2 → Nat) (hc : ∀ a, oc a + S6656x1280.size a ≤ S6656x32000.size a) (os : Fin 3 → Nat) (hs : ∀ a, os a + S1x6656x1280.size a ≤ S3x6656x1280.size a)
    (om : Fin 1 → Nat) (hm : ∀ a, om a + S1.size a ≤ S3.size a)
    (wc : (Rect.unit (s := S6656x32000) oc S6656x1280.size hc).WholeWords (EltTy.packing .fp8e4m3))
    (ws : (Rect.unit (s := S3x6656x1280) os S1x6656x1280.size hs).WholeWords (EltTy.packing .fp8e4m3)) (K : TP F α) : TP F α :=
  .op (.enqueueDma (arg3.slice (Rect.unit (s := S6656x32000) oc S6656x1280.size hc) (fun _ => rfl))
      (.here ((arg11.slice (Rect.unit (s := S3x6656x1280) os S1x6656x1280.size hs) (fun _ => rfl)).squeeze S6656x1280 squeezes_S1x6656x1280_S6656x1280))
      (.dma ((arg24.slice (Rect.unit (s := S3) om S1.size hm)).squeeze S_ squeezes_S1_S_).sem)
      (harg3.wordExact_slice rfl _ wc) ((harg11.wordExact_slice rfl _ ws).reshape _ _) ⟨Or.inl rfl, trivial⟩) fun _ => K

/-- Start the copy of a chunk of scales into a slot. -/
def copyS (oc : Fin 2 → Nat) (hc : ∀ a, oc a + S52x1280.size a ≤ S52x32000.size a) (os : Fin 3 → Nat) (hs : ∀ a, os a + S1x52x1280.size a ≤ S3x52x1280.size a)
    (om : Fin 1 → Nat) (hm : ∀ a, om a + S1.size a ≤ S3.size a) (K : TP F α) : TP F α :=
  .op (.enqueueDma (arg4.slice (Rect.unit (s := S52x32000) oc S52x1280.size hc) (fun _ => rfl))
      (.here ((arg12.slice (Rect.unit (s := S3x52x1280) os S1x52x1280.size hs) (fun _ => rfl)).squeeze S52x1280 squeezes_S1x52x1280_S52x1280))
      (.dma ((arg25.slice (Rect.unit (s := S3) om S1.size hm)).squeeze S_ squeezes_S1_S_).sem)
      (View.wordExact_bits rfl) ((View.wordExact_bits rfl).reshape _ _) ⟨Or.inl rfl, trivial⟩) fun _ => K

/-- The first copies: chunks 0 and 1, and the weights of chunk 2. -/
def prologP : TP F PUnit :=
  copyW arg3 harg3 arg11 harg11 arg24 ![0, 0] inb_S6656x32000_S6656x1280_0_0 (k0_off2 0#32) (k0_off2_inb 0) (k0_off1 0#32) (k0_off1_inb 0) wordsfp8e4m3_S6656x32000_S6656x1280_0_0 (k0_off2_wordsfp8e4m3 0) <|
  copyS arg4 arg12 arg25 ![0, 0] inb_S52x32000_S52x1280_0_0 (k0_off3 0#32) (k0_off3_inb 0) (k0_off1 0#32) (k0_off1_inb 0) <|
  copyW arg3 harg3 arg11 harg11 arg24 ![0, 1280] inb_S6656x32000_S6656x1280_0_1280 (k0_off2 1#32) (k0_off2_inb 1) (k0_off1 1#32) (k0_off1_inb 1) wordsfp8e4m3_S6656x32000_S6656x1280_0_1280 (k0_off2_wordsfp8e4m3 1) <|
  copyS arg4 arg12 arg25 ![0, 1280] inb_S52x32000_S52x1280_0_1280 (k0_off3 1#32) (k0_off3_inb 1) (k0_off1 1#32) (k0_off1_inb 1) <|
  copyW arg3 harg3 arg11 harg11 arg24 ![0, 2560] inb_S6656x32000_S6656x1280_0_2560 (k0_off2 2#32) (k0_off2_inb 2) (k0_off1 2#32) (k0_off1_inb 2) wordsfp8e4m3_S6656x32000_S6656x1280_0_2560 (k0_off2_wordsfp8e4m3 2) <|
  .ret ⟨⟩

end

section
variable {α : Type} (arg0 arg1 : Memref sig .tc .smem S3x42 .i32) (arg2 : Memref sig .tc .vmem S3x42x6656 .bf16)
  (arg4 : Memref sig .tc .hbm S52x32000 .f32) (arg9 : Memref sig .tc .vmem S3x42x6656 .fp8e4m3) (harg9 : arg9.IsWhole)
  (arg10 : Memref sig .tc .vmem S3x42x52 .f32) (arg12 : Memref sig .tc .vmem S3x52x1280 .f32)
  (arg13 : Memref sig .tc .vmem S128x6656 .f32) (arg14 : Memref sig .tc .vmem S128x6656 .bf16) (harg14 : arg14.IsWhole)
  (arg16 arg17 arg18 arg19 : Memref sig .tc .vmem S128x128 .f32) (arg25 : DmaSems sig S3)

/-- One row of the ancestors' table. -/
def ancK (v36 : IVec S1x128 32) (o : Fin 2 → Nat) (h : ∀ a, o a + S1x1.size a ≤ S3x42.size a) (P : BitVec 32 → Prop) (d : ∀ v, Decidable (P v))
    (op : BitVec 32 → Fin 2 → Nat) (hp : ∀ v, P v → ∀ a, op v a + S1x128.size a ≤ S128x128.size a)
    (os : Fin 2 → Nat) (hs : ∀ a, os a + S1x128.size a ≤ S128x128.size a) (w : BitVec 32) (K : TP F α) : TP F α :=
  sw arg0 o h fun v => asm (P v) (d v) fun hv =>
  ld arg19 (Rect.unit (s := S128x128) (op v) S1x128.size (hp v hv)) h_S1x128 fun row =>
  st arg19 (Rect.unit (s := S128x128) os S1x128.size hs) h_S1x128 (ancRow v36 w row) K

/-- The ancestors of one node of each of the three trees. -/
def ancP (v36 : IVec S1x128 32) (k : Fin k0_t1_loop.trips) : TP F PUnit :=
  ancK arg0 arg19 v36 (k0_off4 k) (k0_off4_inb k) k0_chk1 k0_chk1.dec k0_off5 k0_off5_inb (k0_off6 k) (k0_off6_inb k) (Scalar.addi 0#32 (Scf.iv 1#32 1#32 k)) <|
  ancK arg0 arg19 v36 (k0_off7 k) (k0_off7_inb k) k0_chk2 k0_chk2.dec k0_off8 k0_off8_inb (k0_off9 k) (k0_off9_inb k) (Scalar.addi 42#32 (Scf.iv 1#32 1#32 k)) <|
  ancK arg0 arg19 v36 (k0_off10 k) (k0_off10_inb k) k0_chk3 k0_chk3.dec k0_off11 k0_off11_inb (k0_off12 k) (k0_off12_inb k) (Scalar.addi 84#32 (Scf.iv 1#32 1#32 k)) <|
  .ret ⟨⟩

/-- One block of activations of one tree, quantised. -/
def quantP (v46 : IVec S42x128 32) (ox : Fin 3 → Nat) (hx : ∀ a, ox a + S1x42x128.size a ≤ S3x42x6656.size a)
    (tx : (Rect.unit (s := S3x42x6656) ox S1x42x128.size hx).PackedTiles)
    (of : Fin 2 → Nat) (hf : ∀ a, of a + S42x128.size a ≤ S128x6656.size a) (w : BitVec 32) (acc : FVec F S42x128 .f32) : TP F (FVec F S42x128 .f32) :=
  ld arg2 (Rect.unit (s := S3x42x6656) ox S1x42x128.size hx) h_S1x42x128 fun x =>
  stn arg9 (Rect.unit (s := S3x42x6656) ox S1x42x128.size hx) h_S1x42x128 (harg9.storeExact_slice_tiles rfl _ tx)
    (shapeCast S1x42x128 (qcode x) shapeCasts_S42x128_S1x42x128) <|
  st arg13 (Rect.unit (s := S128x6656) of S42x128.size hf) h_S42x128 (qval x) <|
  .ret (qcol v46 w x acc)

def iota46 : IVec S42x128 32 := iota .tc S42x128 32 [1] iota_S42x128_d1_w32
def iota36 : IVec S1x128 32 := iota .tc S1x128 32 [1] iota_S1x128_d1_w32
def zero42 : FVec F S42x128 .f32 := broadcast S42x128 (Scalar.ofBits .f32 0x00000000#32)
abbrev scaleOut (b : Fin 3) : Rect S3x42x52 := Rect.unit (s := S3x42x52) ![b.val, 0, 0] S1x42x52.size (inb3 (by omega) (by omega) (by omega))
def up52 (v : FVec F S42x52 .f32) : FVec F S1x42x52 .f32 := shapeCast S1x42x52 v shapeCasts_S42x52_S1x42x52
def zeroPad : FVec F S2x6656 .f32 := shapeCast S2x6656 (broadcast S2x6656 (Scalar.ofBits .f32 0x00000000#32)) shapeCasts_S2x6656_S2x6656

/-- The last first copy, the table of ancestors, and the first two trees quantised. -/
def ancQuantP : TP F (Σ' (v46 : IVec S42x128 32), FVec F S42x52 .f32) :=
  copyS arg4 arg12 arg25 ![0, 2560] inb_S52x32000_S52x1280_0_2560 (k0_off3 2#32) (k0_off3_inb 2) (k0_off1 2#32) (k0_off1_inb 2) <|
  st arg19 whole128 h_S128x128 (same128 zero128) <|
  bind (Scf.Loop.for k0_t1_loop k0_t1_ok ⟨⟩ fun k _ => ancP arg0 arg19 iota36 k) fun _ =>
  st arg13 (Rect.unit (s := S128x6656) ![126, 0] S2x6656.size inb_S128x6656_S2x6656_126_0) h_S2x6656 zeroPad <|
  bind (Scf.Loop.for k0_t2_loop k0_t2_ok zero42 fun k acc =>
    quantP arg2 arg9 harg9 arg13 iota46 (k0_off13 k) (k0_off13_inb k) (k0_off13_tilesfp8e4m3 k) (k0_off14 k) (k0_off14_inb k) (Scf.iv 0#32 1#32 k) acc) fun v49 =>
  st arg10 (scaleOut 0) h_S1x42x52 (up52 (cols52 v49)) <|
  bind (Scf.Loop.for k0_t3_loop k0_t3_ok zero42 fun k acc =>
    quantP arg2 arg9 harg9 arg13 iota46 (k0_off15 k) (k0_off15_inb k) (k0_off15_tilesfp8e4m3 k) (k0_off16 k) (k0_off16_inb k) (Scf.iv 0#32 1#32 k) acc) fun v56 =>
  .ret ⟨iota46, cols52 v56⟩

/-- A block of 512 columns of activations read as 16-bit floats. -/
def cast512 (v : Vec F S128x512 .f32) : FVec F S128x512 .bf16 := shapeCast S128x512 (truncf .bf16 v bitsLt_bf16_f32) shapeCasts_S128x512_S128x512
def castLd (i : Fin 13) (K : FVec F S128x512 .bf16 → TP F α) : TP F α :=
  ld arg13 (castRect i) h_S128x512 fun v => ld arg14 (castRect i) h_S128x512 fun _ => K (cast512 v)
def castSt (i : Fin 13) (w : FVec F S128x512 .bf16) (K : TP F α) : TP F α :=
  .op (.store arg14 (castRect i) w Finset.univ (View.stores_vmem h_S128x512 (harg14.storeExact_slice rfl _ (castPacked i)) (fun _ => rfl)) (.inl rfl)) fun _ => K
def castK (i : Fin 13) (K : TP F α) : TP F α := castLd arg13 arg14 i fun w => castSt arg14 harg14 i w K

/-- The third tree quantised, and the first casts. -/
def quantCastP (v46 : IVec S42x128 32) (v57 : FVec F S42x52 .f32) : TP F (FVec F S128x512 .bf16) :=
  st arg10 (scaleOut 1) h_S1x42x52 (up52 v57) <|
  bind (Scf.Loop.for k0_t4_loop k0_t4_ok zero42 fun k acc =>
    quantP arg2 arg9 harg9 arg13 v46 (k0_off17 k) (k0_off17_inb k) (k0_off17_tilesfp8e4m3 k) (k0_off18 k) (k0_off18_inb k) (Scf.iv 0#32 1#32 k) acc) fun v63 =>
  st arg10 (scaleOut 2) h_S1x42x52 (up52 (cols52 v63)) <|
  castK arg13 arg14 harg14 0 <| castK arg13 arg14 harg14 1 <| castK arg13 arg14 harg14 2 <|
  castLd arg13 arg14 3 fun w => .ret w

/-- More casts. -/
def castsP (v87 : FVec F S128x512 .bf16) : TP F (FVec F S128x512 .bf16) :=
  castSt arg14 harg14 3 v87 <|
  castK arg13 arg14 harg14 4 <| castK arg13 arg14 harg14 5 <| castK arg13 arg14 harg14 6 <| castK arg13 arg14 harg14 7 <| castK arg13 arg14 harg14 8 <|
  castLd arg13 arg14 9 fun w => .ret w

def negBig : FVec F S128x128 .f32 := same128 (broadcast S128x128 (Scalar.ofBits .f32 0xF149F2CA#32))

/-- The last casts and the running sums' first values. -/
def initK (v117 : FVec F S128x512 .bf16) (K : TP F α) : TP F α :=
  castSt arg14 harg14 9 v117 <| castK arg13 arg14 harg14 10 <| castK arg13 arg14 harg14 11 <| castK arg13 arg14 harg14 12 <|
  st arg16 whole128 h_S128x128 negBig <| st arg17 whole128 h_S128x128 (same128 zero128) <| st arg18 whole128 h_S128x128 (same128 zero128) K
end

section
variable {α : Type} (arg0 arg1 : Memref sig .tc .smem S3x42 .i32)
  (arg5 arg6 arg7 arg8 : Memref sig .tc .vmem S3x42 .f32)
  (arg15 : Memref sig .tc .vmem S250x128x128 .f32)
  (arg16 arg17 arg18 arg19 arg20 arg21 arg22 arg23 : Memref sig .tc .vmem S128x128 .f32)

/-- Where a pick reads the scores. -/
def pickOff (b : BitVec 32) (v w : BitVec 32) : Fin 3 → Nat :=
  ![(Scalar.indexCast (Scalar.select (Scalar.andi (Scalar.cmpi .ne (Scalar.subi (Scalar.extui (Scalar.cmpi .sgt w 0#32)) (Scalar.extui (Scalar.cmpi .slt w 0#32)))
        (Scalar.subi (Scalar.extui (Scalar.cmpi .sgt 128#32 0#32)) (Scalar.extui (Scalar.cmpi .slt 128#32 0#32)))) (Scalar.cmpi .ne (Scalar.remsi w 128#32) 0#32))
      (Scalar.subi (Scalar.divsi w 128#32) 1#32) (Scalar.divsi w 128#32))).toNat, (Scalar.indexCast (Scalar.addi v b)).toNat, 0]
def pickChk (b : BitVec 32) (v w : BitVec 32) : Prop := ∀ a, pickOff b v w a + S1x1x128.size a ≤ S250x128x128.size a
def pickChk.dec (b : BitVec 32) (v w : BitVec 32) : Decidable (pickChk b v w) := decidable_of_iff' _ (Iff.of_eq (pickChk.eq_1 b v w))
/-- The parent's row. -/
def parOff (b : BitVec 32) (v : BitVec 32) : Fin 2 → Nat := ![(Scalar.indexCast (Scalar.addi v b)).toNat, 0]
def parChk (b : BitVec 32) (v : BitVec 32) : Prop := ∀ a, parOff b v a + S1x128.size a ≤ S128x128.size a
def parChk.dec (b : BitVec 32) (v : BitVec 32) : Decidable (parChk b v) := decidable_of_iff' _ (Iff.of_eq (parChk.eq_1 b v))

theorem wordInb (i : Fin 126) : ∀ a, (![i.val / 42, i.val % 42] : Fin 2 → Nat) a + S1x1.size a ≤ S3x42.size a := inb2 (by omega) (by omega)

/-- One pick: a node's token among its parent's scores, and the parent's entropy. -/
def pickK (i : Fin 126) (K : TP F α) : TP F α :=
  sw arg0 ![i.val / 42, i.val % 42] (wordInb i) fun v =>
  asm (parChk (BitVec.ofNat 32 (42 * (i.val / 42))) v) (parChk.dec _ v) fun hv =>
  sw arg1 ![i.val / 42, i.val % 42] (wordInb i) fun w =>
  asm (pickChk (BitVec.ofNat 32 (42 * (i.val / 42))) v w) (pickChk.dec _ v w) fun hw =>
  ld arg15 (Rect.unit (s := S250x128x128) (pickOff (BitVec.ofNat 32 (42 * (i.val / 42))) v w) S1x1x128.size hw) h_S1x1x128 fun z =>
  ld arg22 (Rect.unit (s := S128x128) (parOff (BitVec.ofNat 32 (42 * (i.val / 42))) v) S1x128.size hv) h_S1x128 fun l =>
  st arg20 (rowRect i) h_S1x128 (pickVal iota36 w z l) <|
  ld arg23 (Rect.unit (s := S128x128) (parOff (BitVec.ofNat 32 (42 * (i.val / 42))) v) S1x128.size hv) h_S1x128 fun e =>
  st arg21 (rowRect i) h_S1x128 (shapeCast S1x128 e shapeCasts_S1x128_S1x128) K

def zero2 : FVec F S2x128 .f32 := shapeCast S2x128 (broadcast S2x128 (Scalar.ofBits .f32 0x00000000#32)) shapeCasts_S2x128_S2x128

/-- The 42 entries of one result for one tree, out of the last tile. -/
def outRow (o : FVec F S128x128 .f32) (q : Fin 4) (b : Fin 3) : FVec F S1x42 .f32 :=
  extractStridedSlice S1x42 ![q.val, 42 * b.val] o (by
    fin_cases q <;> fin_cases b
    · exact slices_S128x128_o0_0_S1x42
    · exact slices_S128x128_o0_42_S1x42
    · exact slices_S128x128_o0_84_S1x42
    · exact slices_S128x128_o1_0_S1x42
    · exact slices_S128x128_o1_42_S1x42
    · exact slices_S128x128_o1_84_S1x42
    · exact slices_S128x128_o2_0_S1x42
    · exact slices_S128x128_o2_42_S1x42
    · exact slices_S128x128_o2_84_S1x42
    · exact slices_S128x128_o3_0_S1x42
    · exact slices_S128x128_o3_42_S1x42
    · exact slices_S128x128_o3_84_S1x42)

/-- The four results of one tree stored. -/
def outK (o : FVec F S128x128 .f32) (b : Fin 3) (K : TP F α) : TP F α :=
  st arg5 (outRect b) h_S1x42 (outRow o 0 b) <| st arg6 (outRect b) h_S1x42 (outRow o 1 b) <|
  st arg7 (outRect b) h_S1x42 (outRow o 2 b) <| st arg8 (outRect b) h_S1x42 (outRow o 3 b) K

/-- The last reads and the stores of the results. -/
def finishK (ent : FVec F S128x1 .f32) (K : TP F α) : TP F α :=
  ld arg20 whole128 h_S128x128 fun pick => ld arg21 whole128 h_S128x128 fun hp => ld arg19 whole128 h_S128x128 fun anc =>
  seqK (fun b (_ : PUnit) K => outK arg5 arg6 arg7 arg8
    (outTile ent (lpTile pick) (marginTile (lpTile pick) hp) (pmTile (marginTile (lpTile pick) hp) anc)) b (K ⟨⟩)) [0, 1, 2] ⟨⟩ fun _ => K

/-- The reduction of the running sums. -/
def reduceK (K : FVec F S128x1 .f32 → TP F α) : TP F α :=
  ld arg16 whole128 h_S128x128 fun m => ld arg17 whole128 h_S128x128 fun s => ld arg18 whole128 h_S128x128 fun t =>
  st arg22 whole128 h_S128x128 (same128 (spread (rlse m s))) <| st arg23 whole128 h_S128x128 (same128 (spread (rent m s t))) <|
  st arg20 pad128 h_S2x128 zero2 <| st arg21 pad128 h_S2x128 zero2 <| K (rent m s t)

def all126 : List (Fin 126) := [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125]

/-- All that follows the chunk loop. -/
def tailP : TP F PUnit :=
  reduceK arg16 arg17 arg18 arg20 arg21 arg22 arg23 fun ent =>
  seqK (fun i (_ : PUnit) K => pickK arg0 arg1 arg15 arg20 arg21 arg22 arg23 i (K ⟨⟩)) all126 ⟨⟩ fun _ =>
  finishK arg5 arg6 arg7 arg8 arg19 arg20 arg21 ent (.ret ⟨⟩)
end

end Cert.KernelIdeal.Run
-- ==== Proof.Run.Own.lean ====
/-
  BUFFERS OWNED AT CONTENTS: the steps of the rolled program, each stated as taking contents to contents.
-/
module

public import proofs.«01_k».proof.Proof.Run.Head
public import proofs.«01_k».proof.Proof.Gen.KernelIdeal.Launch
public import Idealize.ShloMosaic.Lib.Pipeline.Frame
public import Idealize.ShloMosaic.Lib.Ring
public import Idealize.ShloMosaic.Lib.Transfers
public import Idealize.ShloMosaic.Lib.Tactic

@[expose] public section

noncomputable section

namespace Cert.KernelIdeal.Run

open Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F] [Named F]

/-- The assertions of the proof. -/
abbrev SP (F : FTy → Type) : Type := sProp (MT nD τ sig Unit (Elt F) ℕ (UD sig nD τ) ℕ)
abbrev 𝒱₀ : Variants := Variants.none

/-- A memref owned in full, its contents read through it being `X`. -/
abbrev own (c : Dev nD) {sp : Space} {sh : Shape} {e : EltTy} (m : Memref sig .tc sp sh e) (X : sh.Idx → Elt F e) : SP F :=
  owns (c : Thread nD τ) m fullShare X

/-- What it takes for a program of the core to end in `Q`. -/
abbrev W (c : Dev nD) {α : Type} (p : TP F α) (Q : α → SP F) : SP F :=
  wp frame (wpE (defs₀ (F := F)) 𝒱₀ (c : Thread nD τ) none) Set.univ p Q

/-- Contents with a box replaced. -/
def upd {s : Shape} {α : Type} (off sz : Fin s.rank → ℕ) (X : s.Idx → α) (w : (⟨s.rank, sz⟩ : Shape).Idx → α) : s.Idx → α :=
  fun y => if h : ∀ a, off a ≤ (y a).val ∧ (y a).val < off a + sz a then w (fun a => ⟨(y a).val - off a, by have := h a; show _ < sz a; omega⟩) else X y

theorem emb_unit_val {s : Shape} (off sz : Fin s.rank → ℕ) (inb : ∀ a, off a + sz a ≤ s.size a) (x : (Rect.unit off sz inb).shape.Idx) (a : Fin s.rank) :
    ((Rect.unit off sz inb).emb x a).val = off a + (x a).val := by
  show off a + 1 * (x a).val = _; omega

theorem read_write_unit {sp : Space} {s : Shape} {e : EltTy} {Val : EltTy → Type} (v : View sig .tc sp s e) (off sz : Fin s.rank → ℕ)
    (inb : ∀ a, off a + sz a ≤ s.size a) (f : v.ty.Contents Val) (w : (Rect.unit off sz inb).shape.Idx → Val e) :
    v.read Val ((v.slice (Rect.unit off sz inb)).write Val f w Finset.univ) = upd off sz (v.read Val f) w := by
  funext y
  unfold upd
  split_ifs with h
  · have hy : y = (Rect.unit off sz inb).emb (fun a => ⟨(y a).val - off a, by have := h a; show _ < sz a; omega⟩) := by
      funext a; apply Fin.ext; have := h a; rw [emb_unit_val]; show _ = off a + ((y a).val - off a); omega
    conv_lhs => rw [hy]
    rw [View.read_slice_write_emb _ _ _ (Finset.mem_univ _)]
  · apply View.read_slice_write_of_not_mem
    intro hm
    rw [Finset.mem_map] at hm
    obtain ⟨x, -, rfl⟩ := hm
    apply h; intro a
    have := (x a).isLt
    rw [emb_unit_val]
    exact ⟨by omega, by have h2 : (x a).val < sz a := this; omega⟩

section Steps
variable (c : Dev nD) {α : Type} {Q : α → SP F}

theorem own_load {cs : CoreSpace} {s : Shape} {e : EltTy} (m : Memref sig .tc cs s e) (r : Rect s) {hl : m.view.LoadsAt r.toLoadRect} (X : s.Idx → Elt F e)
    (K : Vec F r.shape e → TP F α) :
    own c m X ⊢ iprop((own c m X -∗ W c (K (fun i => X (r.emb i))) Q) -∗ W c (.op (.load m r.toLoadRect hl) K) Q) := by
  unfold own owns
  iintro ⟨%f, %hf, H⟩ HK
  subst hf
  have hS : (m.access r).set ⊆ m.view.set := View.set_slice_subset _ _
  iapply (wp_load_rect 𝒱₀ (c : Thread nD τ) none Set.univ (m := m) (r := r) hS) $$ H
  iintro H
  iapply HK
  iexists f
  isplitr; · ipureintro; rfl
  iexact H

theorem own_store {cs : CoreSpace} {s : Shape} {e : EltTy} (m : Memref sig .tc cs s e) (off sz : Fin s.rank → ℕ)
    (inb : ∀ a, off a + sz a ≤ s.size a) {hx} {hm} (X : s.Idx → Elt F e) (w : Vec F (Rect.unit off sz inb).shape e) (K : PUnit → TP F α) :
    own c m X ⊢ iprop((own c m (upd off sz X w) -∗ W c (K ⟨⟩) Q) -∗ W c (.op (.store m (Rect.unit off sz inb) w Finset.univ hx hm) K) Q) := by
  unfold own owns
  iintro ⟨%f, %hf, H⟩ HK
  subst hf
  have hS : (m.access (Rect.unit off sz inb)).setOn Finset.univ ⊆ m.view.set := View.set_slice_subset _ _
  iapply (wp_store 𝒱₀ (c : Thread nD τ) none Set.univ (m := m) (r := Rect.unit off sz inb) hS) $$ H
  iintro H
  iapply HK
  iexists _
  isplitr; · ipureintro; exact read_write_unit m.view off sz inb f w
  iexact H

theorem own_ld {s : Shape} {e : EltTy} (m : Memref sig .tc .vmem s e) (r : Rect s) (h : 0 < r.shape.numel) (X : s.Idx → Elt F e) (K : Vec F r.shape e → TP F α) :
    own c m X ⊢ iprop((own c m X -∗ W c (K (fun i => X (r.emb i))) Q) -∗ W c (ld m r h K) Q) :=
  own_load c m r X K

theorem own_st {s : Shape} (m : Memref sig .tc .vmem s .f32) (off sz : Fin s.rank → ℕ) (inb : ∀ a, off a + sz a ≤ s.size a)
    (h : 0 < (Rect.unit off sz inb).shape.numel) (X : s.Idx → Elt F .f32) (w : Vec F (Rect.unit off sz inb).shape .f32) (K : TP F α) :
    own c m X ⊢ iprop((own c m (upd off sz X w) -∗ W c K Q) -∗ W c (st m (Rect.unit off sz inb) h w K) Q) := by
  iintro H HK
  iapply (own_ld c m (Rect.unit off sz inb) h X (fun _ => .op (.store m (Rect.unit off sz inb) w Finset.univ (View.stores_vmem_bits_univ h rfl) (.inl rfl)) fun _ => K)) $$ H
  iintro H
  iapply (own_store c m off sz inb X w (fun _ => K)) $$ H
  iexact HK

theorem own_stn {s : Shape} {e : EltTy} (m : Memref sig .tc .vmem s e) (off sz : Fin s.rank → ℕ) (inb : ∀ a, off a + sz a ≤ s.size a)
    (h : 0 < (Rect.unit off sz inb).shape.numel) (hs : (m.access (Rect.unit off sz inb)).StoreExact Finset.univ) (X : s.Idx → Elt F e)
    (w : Vec F (Rect.unit off sz inb).shape e) (K : TP F α) :
    own c m X ⊢ iprop((own c m (upd off sz X w) -∗ W c K Q) -∗ W c (stn m (Rect.unit off sz inb) h hs w K) Q) := by
  iintro H HK
  iapply (own_ld c m (Rect.unit off sz inb) h X (fun _ => .op (.store m (Rect.unit off sz inb) w Finset.univ (View.stores_vmem h hs (fun _ => rfl)) (.inl rfl)) fun _ => K)) $$ H
  iintro H
  iapply (own_store c m off sz inb X w (fun _ => K)) $$ H
  iexact HK

/-- The word a scalar read takes. -/
def wordAt (X : S3x42.Idx → BitVec 32) (o : Fin 2 → ℕ) (h : ∀ a, o a + S1x1.size a ≤ S3x42.size a) : BitVec 32 :=
  X ((Rect.unit (s := S3x42) o S1x1.size h).emb (Shape.Idx.first (numel1_S1x1.symm ▸ Nat.one_pos)))

theorem own_sw (m : Memref sig .tc .smem S3x42 .i32) (o : Fin 2 → ℕ) (h : ∀ a, o a + S1x1.size a ≤ S3x42.size a) (X : S3x42.Idx → Elt F .i32)
    (K : BitVec 32 → TP F α) :
    own c m X ⊢ iprop((own c m X -∗ W c (K (wordAt X o h)) Q) -∗ W c (sw m o h K) Q) := by
  unfold own owns
  iintro ⟨%f, %hf, H⟩ HK
  subst hf
  have hS : (m.access (Rect.unit (s := S3x42) o S1x1.size h)).set ⊆ m.view.set := View.set_slice_subset _ _
  iapply (wp_smemLoadElt 𝒱₀ (c : Thread nD τ) none Set.univ (m := m) hS) $$ H
  iintro H
  iapply HK
  iexists f
  isplitr; · ipureintro; rfl
  iexact H

theorem W_asm {P : Prop} {d : Decidable P} (h : P) (K : P → TP F α) : W c (K h) Q ⊢ W c (asm P d K) Q :=
  wp_assume (defs := defs₀ (F := F)) 𝒱₀ (c : Thread nD τ) none Set.univ (P := P) (k := fun h => K h.down) h

theorem W_ret (a : α) : Q a ⊢ W c (.ret a) Q := by
  show Q a ⊢ wp _ _ _ (.ret a) Q
  rw [wp_ret]
  iintro H; imodintro; iexact H

/-- A sequence of programs that take the state `s` to `T k s`. -/
theorem W_seqK {n : ℕ} {σ : Type} (f : Fin n → PUnit → (PUnit → TP F α) → TP F α) (S : σ → SP F) (T : Fin n → σ → σ)
    (hf : ∀ k s (K : TP F α), S s ⊢ iprop((S (T k s) -∗ W c K Q) -∗ W c (f k ⟨⟩ fun _ => K) Q)) (K : PUnit → TP F α) :
    ∀ (ks : List (Fin n)) (s : σ), S s ⊢ iprop((S (ks.foldl (fun s k => T k s) s) -∗ W c (K ⟨⟩) Q) -∗ W c (seqK f ks ⟨⟩ K) Q)
  | [], s => by simp only [seqK, List.foldl_nil]; iintro H HK; iapply HK; iexact H
  | k :: ks, s => by
    simp only [seqK, List.foldl_cons]
    iintro H HK
    iapply (hf k s (seqK f ks ⟨⟩ K)) $$ H
    iintro H
    iapply (W_seqK f S T hf K ks (T k s)) $$ H
    iexact HK

/-- A sequence of programs that leave the state and take the value `a` to `T k a`. -/
theorem W_seqK_val {n : ℕ} {β : Type} (f : Fin n → β → (β → TP F α) → TP F α) (S : SP F) (T : Fin n → β → β)
    (hf : ∀ k a (K : β → TP F α), S ⊢ iprop((S -∗ W c (K (T k a)) Q) -∗ W c (f k a K) Q)) (K : β → TP F α) :
    ∀ (ks : List (Fin n)) (a : β), S ⊢ iprop((S -∗ W c (K (ks.foldl (fun a k => T k a) a)) Q) -∗ W c (seqK f ks a K) Q)
  | [], a => by simp only [seqK, List.foldl_nil]; iintro H HK; iapply HK; iexact H
  | k :: ks, a => by
    simp only [seqK, List.foldl_cons]
    iintro H HK
    iapply (hf k a (fun a' => seqK f ks a' K)) $$ H
    iintro H
    iapply (W_seqK_val f S T hf K ks (T k a)) $$ H
    iexact HK

end Steps

end Cert.KernelIdeal.Run
-- ==== Proof.Run.Slots.lean ====
/-
  THE THREE SLOTS OF THE COPIES: a slot owned as a matrix of its own, what a read inside it sees, and a copy started
  and waited for.
-/
module

public import proofs.«01_k».proof.Proof.Run.Own
public import Idealize.ShloMosaic.Lib.ValueLayout

@[expose] public section

noncomputable section

namespace Cert.KernelIdeal.Run

open Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F] [Named F]

section Slot
variable {A B C : ℕ} {e : EltTy}

/-- Slot `sl` of a ring of matrices. -/
abbrev slotRect (sl : Fin A) : Rect (⟨3, ![A, B, C]⟩ : Shape) :=
  Rect.unit (s := ⟨3, ![A, B, C]⟩) ![sl.val, 0, 0] (⟨3, ![1, B, C]⟩ : Shape).size (inb3 (by omega) (by omega) (by omega))

abbrev slotM (m : Memref sig .tc .vmem ⟨3, ![A, B, C]⟩ e) (hq : (⟨3, ![1, B, C]⟩ : Shape).Squeezes ⟨2, ![B, C]⟩) (sl : Fin A) :
    Memref sig .tc .vmem ⟨2, ![B, C]⟩ e := (m.slice (slotRect sl) (fun _ => rfl)).squeeze ⟨2, ![B, C]⟩ hq

theorem slot_emb (m : Memref sig .tc .vmem ⟨3, ![A, B, C]⟩ e) (hq : (⟨3, ![1, B, C]⟩ : Shape).Squeezes ⟨2, ![B, C]⟩) (sl : Fin A) (i : Fin B) (j : Fin C) :
    (slotM m hq sl).view.emb (ix2 i j) = m.view.emb (ix3 sl i j) := by
  have h := shapeCast_1ab_ab_apply (α := (⟨3, ![1, B, C]⟩ : Shape).Idx) (fun x => x) hq.numel_eq i j
  have h2 : Shape.reshapeEquiv hq.numel_eq (ix2 i j) = ix3 (0 : Fin 1) i j := h
  show m.view.emb ((slotRect sl).emb (Shape.reshapeEquiv _ (ix2 i j))) = _
  rw [h2]
  congr 1
  funext a; apply Fin.ext
  rw [emb_unit_val]
  fin_cases a
  · rfl
  · show 0 + i.val = i.val; omega
  · show 0 + j.val = j.val; omega

/-- A load of a box of a ring of matrices that lies in slot `sl`. -/
theorem own_load_slot (c : Dev nD) {α : Type} {Q : α → SP F} (m : Memref sig .tc .vmem ⟨3, ![A, B, C]⟩ e)
    (hq : (⟨3, ![1, B, C]⟩ : Shape).Squeezes ⟨2, ![B, C]⟩) (sl : Fin A) (y z b d : ℕ) (hy : y + b ≤ B) (hz : z + d ≤ C)
    (inb : ∀ a, (![sl.val, y, z] : Fin 3 → ℕ) a + (⟨3, ![1, b, d]⟩ : Shape).size a ≤ (⟨3, ![A, B, C]⟩ : Shape).size a)
    (h : 0 < (Rect.unit (s := ⟨3, ![A, B, C]⟩) ![sl.val, y, z] (⟨3, ![1, b, d]⟩ : Shape).size inb).shape.numel)
    (X : (⟨2, ![B, C]⟩ : Shape).Idx → Elt F e) (K : Vec F ⟨3, ![1, b, d]⟩ e → TP F α) :
    own c (slotM m hq sl) X ⊢ iprop((own c (slotM m hq sl) X -∗
        W c (K (fun i => X (ix2 ⟨y + (i 1).val, by have h1 : (i 1).val < b := (i 1).isLt; omega⟩ ⟨z + (i 2).val, by have h1 : (i 2).val < d := (i 2).isLt; omega⟩))) Q)
      -∗ W c (ld m (Rect.unit (s := ⟨3, ![A, B, C]⟩) ![sl.val, y, z] (⟨3, ![1, b, d]⟩ : Shape).size inb) h K) Q) := by
  unfold own owns
  iintro ⟨%f, %hf, H⟩ HK
  subst hf
  have hemb : ∀ i : (⟨3, ![1, b, d]⟩ : Shape).Idx,
      m.view.emb ((Rect.unit (s := ⟨3, ![A, B, C]⟩) ![sl.val, y, z] (⟨3, ![1, b, d]⟩ : Shape).size inb).emb i)
        = (slotM m hq sl).view.emb (ix2 ⟨y + (i 1).val, by have h1 : (i 1).val < b := (i 1).isLt; omega⟩ ⟨z + (i 2).val, by have h1 : (i 2).val < d := (i 2).isLt; omega⟩) := by
    intro i
    rw [slot_emb]
    congr 1
    funext a; apply Fin.ext
    rw [emb_unit_val]
    fin_cases a
    · have h1 : (i 0).val < 1 := (i 0).isLt
      show sl.val + (i 0).val = sl.val; omega
    · rfl
    · rfl
  have hS : (m.access (Rect.unit (s := ⟨3, ![A, B, C]⟩) ![sl.val, y, z] (⟨3, ![1, b, d]⟩ : Shape).size inb)).set ⊆ (slotM m hq sl).view.set := by
    intro x hx
    rw [View.set, Finset.mem_map] at hx
    obtain ⟨i, -, rfl⟩ := hx
    have := hemb i
    rw [View.set, Finset.mem_map]
    exact ⟨_, Finset.mem_univ _, this.symm⟩
  iapply (wp_load_rect 𝒱₀ (c : Thread nD τ) none Set.univ (m := m) hS) $$ H
  iintro H
  have hr : (m.access (Rect.unit (s := ⟨3, ![A, B, C]⟩) ![sl.val, y, z] (⟨3, ![1, b, d]⟩ : Shape).size inb)).read (Elt F) f
      = fun i => (slotM m hq sl).view.read (Elt F) f (ix2 ⟨y + (i 1).val, by have h1 : (i 1).val < b := (i 1).isLt; omega⟩ ⟨z + (i 2).val, by have h1 : (i 2).val < d := (i 2).isLt; omega⟩) := by
    funext i
    have := hemb i
    show _root_.cast _ (f (m.view.emb ((Rect.unit (s := ⟨3, ![A, B, C]⟩) ![sl.val, y, z] (⟨3, ![1, b, d]⟩ : Shape).size inb).emb i))) = _root_.cast _ (f ((slotM m hq sl).view.emb _))
    rw [← this]
  rw [hr]
  iapply HK
  iexists f
  isplitr; · ipureintro; rfl
  iexact H

end Slot

section Copy
variable (c : Dev nD) {α : Type} {Q : α → SP F} {sp sp' : Space} {s : Shape} {e : EltTy}

/-- The counters' place in the proof's algebra. -/
abbrev EC : UEmb Counters (MT nD τ sig Unit (Elt F) ℕ (UD sig nD τ) ℕ) := countersEmb (U := UD sig nD τ)

/-- A copy in flight: it will bring the destination at the source's contents, and the source back. -/
abbrev fly (src : Memref sig .tc sp s e) (dst : Memref sig .tc sp' s e) (sem : DmaSem sig) (X : s.Idx → Elt F e) : SP F :=
  Transfers.Flight EC (c : Thread nD τ) (.dma sem) () dst.view.dmaCredit iprop(own c dst X ∗ own c src X)

theorem own_copy (src : Memref sig .tc sp s e) (dst : Memref sig .tc sp' s e) (sem : DmaSem sig) (hpos : 0 < s.numel)
    {hsrc : src.view.WordExact} {hdst : dst.view.WordExact} {hsem : DmaTarget.Typed sp (.dma sem) (.here dst : DmaTarget nD τ sig .tc sp' s e)}
    (X : s.Idx → Elt F e) (K : PUnit → TP F α) :
    iprop(own c src X ∗ (∃ Y, own c dst Y) ∗ semVal ((c : Thread nD τ), .dma sem) 0) ⊢
      iprop((fly c src dst sem X -∗ W c (K ⟨⟩) Q) -∗ W c (.op (.enqueueDma src (.here dst) (.dma sem) hsrc hdst hsem) K) Q) := by
  unfold own owns
  iintro ⟨⟨%fs, %hf, Hs⟩, ⟨%Y, %fd, %hfd, Hd⟩, Hv⟩ HK
  subst hf
  iapply (Transfers.wp_dmaLocal EC 𝒱₀ (c : Thread nD τ) none () dst.view.dmaCredit rfl (View.dmaCredit_pos _ hpos) (src := src) (dst := dst) subset_rfl) $$ [Hs Hd Hv]
  · isplitl [Hs]; · iexact Hs
    isplitl [Hd]; · iexact Hd
    iexact Hv
  iintro HF
  iapply HK
  iapply (Transfers.Flight_mono EC (c : Thread nD τ) ?_) $$ HF
  unfold own owns
  iintro ⟨Hd, Hs⟩
  isplitl [Hd]
  · iexists (dst.view.write (Elt F) fd (src.view.read (Elt F) fs) Finset.univ)
    isplitr
    · ipureintro
      exact View.read_write_univ _ _
    · iexact Hd
  · iexists fs
    isplitr; · ipureintro; rfl
    iexact Hs

theorem own_wait (src : Memref sig .tc sp s e) (dst : Memref sig .tc sp' s e) (sem : DmaSem sig)
    {hsrc : src.view.WordExact} {hdst : dst.view.WordExact} (X : s.Idx → Elt F e) (K : PUnit → TP F α) :
    iprop(fly c src dst sem X ∗ (∃ Wt, owes (c : Thread nD τ) 0 Wt)) ⊢
      iprop((iprop(own c dst X ∗ own c src X ∗ semVal ((c : Thread nD τ), .dma sem) 0 ∗ (∃ Wt, owes (c : Thread nD τ) 0 Wt)) -∗ W c (K ⟨⟩) Q)
        -∗ W c (.op (.waitDma2 sem src dst hsrc hdst) K) Q) := by
  iintro ⟨HF, ⟨%Wt, HO⟩⟩ HK
  iapply (Transfers.wp_waitLocal EC 𝒱₀ (c : Thread nD τ) none () rfl) $$ [HF HO]
  · isplitl [HF] <;> iassumption
  iintro ⟨⟨Hd, Hs⟩, Hv, HO⟩
  iapply HK
  isplitl [Hd]; · iexact Hd
  isplitl [Hs]; · iexact Hs
  isplitl [Hv]; · iexact Hv
  iexists _; iexact HO

end Copy
end Cert.KernelIdeal.Run
-- ==== Proof.Run.Segs.lean ====
/-
  THE SEGMENTS OF THE KERNEL as functions of contents: what the chunk body, the quantiser, the casts, the table of
  ancestors, the reduction, the picks and the last stores make of the buffers they are given.
-/
module

public import proofs.«01_k».proof.Proof.Run.Slots

@[expose] public section

noncomputable section

namespace Cert.KernelIdeal.Run

open Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! ## The chunk body -/

/-- The scaled weight block `kb` of tile `t`. -/
def wblockF (Wk : S6656x1280.Idx → Elt F .fp8e4m3) (Sk : S52x1280.Idx → Elt F .f32) (t : Fin 5) (kb : Fin 52) : FVec F S128x256 .bf16 :=
  deq (fun i => Sk (ix2 ⟨kb.val + (i 1).val, by have h1 : (i 1).val < 1 := (i 1).isLt; omega⟩ ⟨256 * t.val + (i 2).val, by have h1 : (i 2).val < 256 := (i 2).isLt; omega⟩))
    (fun i => Wk (ix2 ⟨128 * kb.val + (i 1).val, by have h1 : (i 1).val < 128 := (i 1).isLt; omega⟩ ⟨256 * t.val + (i 2).val, by have h1 : (i 2).val < 256 := (i 2).isLt; omega⟩))
/-- One product. -/
def prodF (X : S128x6656.Idx → Elt F .bf16) (Wk : S6656x1280.Idx → Elt F .fp8e4m3) (Sk : S52x1280.Idx → Elt F .f32) (t : Fin 5) (k : Fin 26) : FVec F S128x256 .f32 :=
  prod2 (fun i => X ((actRect k).emb i)) (wblockF Wk Sk t ⟨2 * k.val, by omega⟩) (wblockF Wk Sk t ⟨2 * k.val + 1, by omega⟩)
/-- A tile's scores. -/
def accF (X : S128x6656.Idx → Elt F .bf16) (Wk : S6656x1280.Idx → Elt F .fp8e4m3) (Sk : S52x1280.Idx → Elt F .f32) (t : Fin 5) : FVec F S128x256 .f32 :=
  ([1, 2, 3, 4, 5, 6, 7, 8, 9, 10, 11, 12, 13, 14, 15, 16, 17, 18, 19, 20, 21, 22, 23, 24, 25] : List (Fin 26)).foldl
    (fun acc k => addf acc (prodF X Wk Sk t k)) (prodF X Wk Sk t 0)
/-- The block of scores `j` replaced. -/
def zset (z : S250x128x128.Idx → Elt F .f32) (j : Fin 250) (w : FVec F S1x128x128 .f32) : S250x128x128.Idx → Elt F .f32 :=
  upd (s := S250x128x128) ![j.val, 0, 0] S1x128x128.size z w
/-- The scores after a tile. -/
def tileF (X : S128x6656.Idx → Elt F .bf16) (Wk : S6656x1280.Idx → Elt F .fp8e4m3) (Sk : S52x1280.Idx → Elt F .f32) (zst : Fin 5 → Fin 2 → Fin 250)
    (t : Fin 5) (z : S250x128x128.Idx → Elt F .f32) : S250x128x128.Idx → Elt F .f32 :=
  zset (zset z (zst t 0) (half0 (accF X Wk Sk t))) (zst t 1) (half1 (accF X Wk Sk t))
/-- The scores after a chunk. -/
def tilesF (X : S128x6656.Idx → Elt F .bf16) (Wk : S6656x1280.Idx → Elt F .fp8e4m3) (Sk : S52x1280.Idx → Elt F .f32) (zst : Fin 5 → Fin 2 → Fin 250)
    (z : S250x128x128.Idx → Elt F .f32) : S250x128x128.Idx → Elt F .f32 :=
  ([0, 1, 2, 3, 4] : List (Fin 5)).foldl (fun z t => tileF X Wk Sk zst t z) z

/-- The running maximum, sum, and sum of exponents. -/
abbrev Stats (F : FTy → Type) : Type := (S128x128.Idx → Elt F .f32) × (S128x128.Idx → Elt F .f32) × (S128x128.Idx → Elt F .f32)

def rowsF (X : S128x128.Idx → Elt F .f32) (r : Fin 4) : Vec F S32x128 .f32 := fun i => X ((groupRect r).emb i)
def setRows (r : Fin 4) (X : S128x128.Idx → Elt F .f32) (w : FVec F S32x128 .f32) : S128x128.Idx → Elt F .f32 :=
  upd (s := S128x128) ![32 * r.val, 0] S32x128.size X (shapeCast S32x128 w shapeCasts_S32x128_S32x128)
def zgroupF (z : S250x128x128.Idx → Elt F .f32) (zld : Fin 10 → Fin 250) (r : Fin 4) : Fin 10 → FVec F S32x128 .f32 :=
  zvals ![fun i => z ((zGroupRect (zld 0) r).emb i), fun i => z ((zGroupRect (zld 1) r).emb i), fun i => z ((zGroupRect (zld 2) r).emb i),
    fun i => z ((zGroupRect (zld 3) r).emb i), fun i => z ((zGroupRect (zld 4) r).emb i), fun i => z ((zGroupRect (zld 5) r).emb i),
    fun i => z ((zGroupRect (zld 6) r).emb i), fun i => z ((zGroupRect (zld 7) r).emb i), fun i => z ((zGroupRect (zld 8) r).emb i),
    fun i => z ((zGroupRect (zld 9) r).emb i)]
/-- The statistics after one row group. -/
def groupF (z : S250x128x128.Idx → Elt F .f32) (zld : Fin 10 → Fin 250) (r : Fin 4) (p : Stats F) : Stats F :=
  (setRows r p.1 (maxStep (rowsF p.1 r) (zgroupF z zld r)),
   setRows r p.2.1 (sStep (rowsF p.1 r) (maxStep (rowsF p.1 r) (zgroupF z zld r)) (rowsF p.2.1 r) (zgroupF z zld r)),
   setRows r p.2.2 (tStep (rowsF p.1 r) (maxStep (rowsF p.1 r) (zgroupF z zld r)) (rowsF p.2.1 r) (rowsF p.2.2 r) (zgroupF z zld r)))
/-- The statistics after a chunk. -/
def groupsF (z : S250x128x128.Idx → Elt F .f32) (zld : Fin 10 → Fin 250) (p : Stats F) : Stats F :=
  ([0, 1, 2, 3] : List (Fin 4)).foldl (fun p r => groupF z zld r p) p

section Chunk
variable (c : Dev nD) {α : Type} {Q : α → SP F} (arg11 : Memref sig .tc .vmem S3x6656x1280 .fp8e4m3) (arg12 : Memref sig .tc .vmem S3x52x1280 .f32)
  (arg14 : Memref sig .tc .vmem S128x6656 .bf16) (arg15 : Memref sig .tc .vmem S250x128x128 .f32)
  (arg16 arg17 arg18 : Memref sig .tc .vmem S128x128 .f32)
  (sl : Fin 3) (X : S128x6656.Idx → Elt F .bf16) (Wk : S6656x1280.Idx → Elt F .fp8e4m3) (Sk : S52x1280.Idx → Elt F .f32)

abbrev slotWt (sl : Fin 3) : Memref sig .tc .vmem S6656x1280 .fp8e4m3 := slotM (A := 3) (B := 6656) (C := 1280) arg11 squeezes_S1x6656x1280_S6656x1280 sl
abbrev slotSc (sl : Fin 3) : Memref sig .tc .vmem S52x1280 .f32 := slotM (A := 3) (B := 52) (C := 1280) arg12 squeezes_S1x52x1280_S52x1280 sl

theorem own_wblock (t : Fin 5) (kb : Fin 52) (K : FVec F S128x256 .bf16 → TP F α) :
    iprop(own c (slotWt arg11 sl) Wk ∗ own c (slotSc arg12 sl) Sk) ⊢
      iprop((iprop(own c (slotWt arg11 sl) Wk ∗ own c (slotSc arg12 sl) Sk) -∗ W c (K (wblockF Wk Sk t kb)) Q) -∗ W c (wblockK arg11 arg12 sl t kb K) Q) := by
  unfold wblockK
  iintro ⟨HW, HS⟩ HK
  iapply (own_load_slot c (A := 3) (B := 52) (C := 1280) arg12 squeezes_S1x52x1280_S52x1280 sl kb.val (256 * t.val) 1 256 (by omega) (by omega) _ _ Sk _) $$ HS
  iintro HS
  iapply (own_load_slot c (A := 3) (B := 6656) (C := 1280) arg11 squeezes_S1x6656x1280_S6656x1280 sl (128 * kb.val) (256 * t.val) 128 256 (by omega) (by omega) _ _ Wk _) $$ HW
  iintro HW
  iapply HK
  isplitl [HW] <;> iassumption

/-- What a tile reads. -/
abbrev tileIn : SP F := iprop(own c (slotWt arg11 sl) Wk ∗ own c (slotSc arg12 sl) Sk ∗ own c arg14 X)

theorem own_prod (t : Fin 5) (k : Fin 26) (K : FVec F S128x256 .f32 → TP F α) :
    tileIn c arg11 arg12 arg14 sl X Wk Sk ⊢
      iprop((tileIn c arg11 arg12 arg14 sl X Wk Sk -∗ W c (K (prodF X Wk Sk t k)) Q) -∗ W c (prodK arg11 arg12 arg14 sl t k K) Q) := by
  unfold prodK
  iintro ⟨HW, HS, HX⟩ HK
  iapply (own_wblock c arg11 arg12 sl Wk Sk t _ _) $$ [HW HS]; · isplitl [HW] <;> iassumption
  iintro ⟨HW, HS⟩
  iapply (own_wblock c arg11 arg12 sl Wk Sk t _ _) $$ [HW HS]; · isplitl [HW] <;> iassumption
  iintro ⟨HW, HS⟩
  iapply (own_ld c arg14 (actRect k) h_S128x256 X _) $$ HX
  iintro HX
  iapply HK
  isplitl [HW]; · iexact HW
  isplitl [HS] <;> iassumption

theorem own_acc (t : Fin 5) (K : FVec F S128x256 .f32 → TP F α) :
    tileIn c arg11 arg12 arg14 sl X Wk Sk ⊢
      iprop((tileIn c arg11 arg12 arg14 sl X Wk Sk -∗ W c (K (accF X Wk Sk t)) Q) -∗ W c (accK arg11 arg12 arg14 sl t K) Q) := by
  unfold accK
  iintro H HK
  iapply (own_prod c arg11 arg12 arg14 sl X Wk Sk t 0 _) $$ H
  iintro H
  iapply (W_seqK_val c _ (tileIn c arg11 arg12 arg14 sl X Wk Sk) (fun k acc => addf acc (prodF X Wk Sk t k))
    (fun k a K => own_prod c arg11 arg12 arg14 sl X Wk Sk t k (fun q => K (addf a q))) K _ _) $$ H
  iexact HK

theorem own_tile (zst : Fin 5 → Fin 2 → Fin 250) (t : Fin 5) (z : S250x128x128.Idx → Elt F .f32) (K : TP F α) :
    iprop(tileIn c arg11 arg12 arg14 sl X Wk Sk ∗ own c arg15 z) ⊢
      iprop((iprop(tileIn c arg11 arg12 arg14 sl X Wk Sk ∗ own c arg15 (tileF X Wk Sk zst t z)) -∗ W c K Q)
        -∗ W c (tileK arg11 arg12 arg14 arg15 sl zst t K) Q) := by
  unfold tileK
  iintro ⟨H, HZ⟩ HK
  iapply (own_acc c arg11 arg12 arg14 sl X Wk Sk t _) $$ H
  iintro H
  iapply (own_st c arg15 ![(zst t 0).val, 0, 0] S1x128x128.size _ h_S1x128x128 z (half0 (accF X Wk Sk t)) _) $$ HZ
  iintro HZ
  iapply (own_st c arg15 ![(zst t 1).val, 0, 0] S1x128x128.size _ h_S1x128x128 _ (half1 (accF X Wk Sk t)) _) $$ HZ
  iintro HZ
  iapply HK
  isplitl [H]; · iexact H
  iexact HZ

/-- The scores and the statistics a row group holds. -/
abbrev groupIn (z : S250x128x128.Idx → Elt F .f32) (p : Stats F) : SP F :=
  iprop(own c arg15 z ∗ own c arg16 p.1 ∗ own c arg17 p.2.1 ∗ own c arg18 p.2.2)

theorem own_group (z : S250x128x128.Idx → Elt F .f32) (zld : Fin 10 → Fin 250) (r : Fin 4) (p : Stats F) (K : TP F α) :
    groupIn c arg15 arg16 arg17 arg18 z p ⊢
      iprop((groupIn c arg15 arg16 arg17 arg18 z (groupF z zld r p) -∗ W c K Q) -∗ W c (groupK arg15 arg16 arg17 arg18 zld r K) Q) := by
  unfold groupK groupK'
  iintro ⟨HZ, Hm, Hs, Ht⟩ HK
  iapply (own_ld c arg15 (zGroupRect (zld 0) r) h_S1x32x128 z _) $$ HZ; iintro HZ
  iapply (own_ld c arg15 (zGroupRect (zld 1) r) h_S1x32x128 z _) $$ HZ; iintro HZ
  iapply (own_ld c arg15 (zGroupRect (zld 2) r) h_S1x32x128 z _) $$ HZ; iintro HZ
  iapply (own_ld c arg15 (zGroupRect (zld 3) r) h_S1x32x128 z _) $$ HZ; iintro HZ
  iapply (own_ld c arg15 (zGroupRect (zld 4) r) h_S1x32x128 z _) $$ HZ; iintro HZ
  iapply (own_ld c arg15 (zGroupRect (zld 5) r) h_S1x32x128 z _) $$ HZ; iintro HZ
  iapply (own_ld c arg15 (zGroupRect (zld 6) r) h_S1x32x128 z _) $$ HZ; iintro HZ
  iapply (own_ld c arg15 (zGroupRect (zld 7) r) h_S1x32x128 z _) $$ HZ; iintro HZ
  iapply (own_ld c arg15 (zGroupRect (zld 8) r) h_S1x32x128 z _) $$ HZ; iintro HZ
  iapply (own_ld c arg15 (zGroupRect (zld 9) r) h_S1x32x128 z _) $$ HZ; iintro HZ
  iapply (own_ld c arg16 (groupRect r) h_S32x128 p.1 _) $$ Hm; iintro Hm
  iapply (own_ld c arg17 (groupRect r) h_S32x128 p.2.1 _) $$ Hs; iintro Hs
  iapply (own_ld c arg18 (groupRect r) h_S32x128 p.2.2 _) $$ Ht; iintro Ht
  iapply (own_st c arg16 ![32 * r.val, 0] S32x128.size _ h_S32x128 p.1 _ _) $$ Hm; iintro Hm
  iapply (own_st c arg17 ![32 * r.val, 0] S32x128.size _ h_S32x128 p.2.1 _ _) $$ Hs; iintro Hs
  iapply (own_st c arg18 ![32 * r.val, 0] S32x128.size _ h_S32x128 p.2.2 _ _) $$ Ht; iintro Ht
  iapply HK
  isplitl [HZ]; · iexact HZ
  isplitl [Hm]; · iexact Hm
  isplitl [Hs]; · iexact Hs
  iexact Ht

end Chunk
end Cert.KernelIdeal.Run
-- ==== Proof.Run.Ring.lean ====
/-
  THE CHUNK LOOP: three chunks' copies are under way or arrived at any time; one trip waits for its chunk's two copies,
  takes the chunk in, and starts the copies of the chunk three further on.
-/
module

public import proofs.«01_k».proof.Proof.Run.Segs

@[expose] public section

noncomputable section

namespace Cert.KernelIdeal.Run

open Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

theorem trips5 : k0_t5_loop.trips = 25 := by decide

/-- The columns of chunk `j`. -/
abbrev colW (j : Fin 25) : Rect S6656x32000 := Rect.unit (s := S6656x32000) ![0, 1280 * j.val] S6656x1280.size (inb2 (by omega) (by omega))
abbrev colS (j : Fin 25) : Rect S52x32000 := Rect.unit (s := S52x32000) ![0, 1280 * j.val] S52x1280.size (inb2 (by omega) (by omega))
def wcol (XW : S6656x32000.Idx → Elt F .fp8e4m3) (j : Fin 25) : S6656x1280.Idx → Elt F .fp8e4m3 := fun i => XW ((colW j).emb i)
def scol (XS : S52x32000.Idx → Elt F .f32) (j : Fin 25) : S52x1280.Idx → Elt F .f32 := fun i => XS ((colS j).emb i)

theorem inb1 (sl : Fin 3) : ∀ a, (![sl.val] : Fin 1 → ℕ) a + S1.size a ≤ S3.size a := by
  intro a; fin_cases a; show sl.val + 1 ≤ 3; omega

/-- The semaphore of slot `sl`. -/
abbrev semAt (a : DmaSems sig S3) (sl : Fin 3) : DmaSem sig := ((a.slice (Rect.unit (s := S3) ![sl.val] S1.size (inb1 sl))).squeeze S_ squeezes_S1_S_).sem

section
variable (c : Dev nD) {α : Type} {Q : α → SP F} (arg3 : Memref sig .tc .hbm S6656x32000 .fp8e4m3) (harg3 : arg3.IsWhole)
  (arg4 : Memref sig .tc .hbm S52x32000 .f32)
  (arg11 : Memref sig .tc .vmem S3x6656x1280 .fp8e4m3) (harg11 : arg11.IsWhole) (arg12 : Memref sig .tc .vmem S3x52x1280 .f32)
  (arg14 : Memref sig .tc .vmem S128x6656 .bf16) (arg15 : Memref sig .tc .vmem S250x128x128 .f32)
  (arg16 arg17 arg18 : Memref sig .tc .vmem S128x128 .f32) (arg24 arg25 : DmaSems sig S3)
  (XW : S6656x32000.Idx → Elt F .fp8e4m3) (XS : S52x32000.Idx → Elt F .f32)

abbrev srcW (j : Fin 25) : Memref sig .tc .hbm S6656x1280 .fp8e4m3 := arg3.slice (colW j) (fun _ => rfl)
abbrev srcS (j : Fin 25) : Memref sig .tc .hbm S52x1280 .f32 := arg4.slice (colS j) (fun _ => rfl)
abbrev flyW (j : Fin 25) (sl : Fin 3) : SP F := fly c (srcW arg3 j) (slotWt arg11 sl) (semAt arg24 sl) (wcol XW j)
abbrev flyS (j : Fin 25) (sl : Fin 3) : SP F := fly c (srcS arg4 j) (slotSc arg12 sl) (semAt arg25 sl) (scol XS j)
/-- A slot at rest. -/
abbrev restW (sl : Fin 3) : SP F := iprop((∃ Y, own c (slotWt arg11 sl) Y) ∗ semVal ((c : Thread nD τ), .dma (semAt arg24 sl)) 0)
abbrev restS (sl : Fin 3) : SP F := iprop((∃ Y, own c (slotSc arg12 sl) Y) ∗ semVal ((c : Thread nD τ), .dma (semAt arg25 sl)) 0)
abbrev homeW (j : Fin 25) : SP F := own c (srcW arg3 j) (wcol XW j)
abbrev homeS (j : Fin 25) : SP F := own c (srcS arg4 j) (scol XS j)

theorem own_copyW (j : Fin 25) (sl : Fin 3) {oc hc os hs om hm wc ws} (h1 : oc = ![0, 1280 * j.val]) (h2 : os = ![sl.val, 0, 0]) (h3 : om = ![sl.val]) (K : TP F α) :
    iprop(homeW c arg3 XW j ∗ restW c arg11 arg24 sl) ⊢
      iprop((flyW c arg3 arg11 arg24 XW j sl -∗ W c K Q) -∗ W c (copyW arg3 harg3 arg11 harg11 arg24 oc hc os hs om hm wc ws K) Q) := by
  subst h1 h2 h3
  unfold copyW
  exact own_copy c (srcW arg3 j) (slotWt arg11 sl) (semAt arg24 sl) (by decide) (wcol XW j) (fun _ => K)

theorem own_copyS (j : Fin 25) (sl : Fin 3) {oc hc os hs om hm} (h1 : oc = ![0, 1280 * j.val]) (h2 : os = ![sl.val, 0, 0]) (h3 : om = ![sl.val]) (K : TP F α) :
    iprop(homeS c arg4 XS j ∗ restS c arg12 arg25 sl) ⊢
      iprop((flyS c arg4 arg12 arg25 XS j sl -∗ W c K Q) -∗ W c (copyS arg4 arg12 arg25 oc hc os hs om hm K) Q) := by
  subst h1 h2 h3
  unfold copyS
  exact own_copy c (srcS arg4 j) (slotSc arg12 sl) (semAt arg25 sl) (by decide) (scol XS j) (fun _ => K)

/-- The waits of one trip. -/
def waitWK (oc : Fin 2 → Nat) (hc : ∀ a, oc a + S6656x1280.size a ≤ S6656x32000.size a) (os : Fin 3 → Nat) (hs : ∀ a, os a + S1x6656x1280.size a ≤ S3x6656x1280.size a)
    (om : Fin 1 → Nat) (hm : ∀ a, om a + S1.size a ≤ S3.size a)
    (wc : (Rect.unit (s := S6656x32000) oc S6656x1280.size hc).WholeWords (EltTy.packing .fp8e4m3))
    (ws : (Rect.unit (s := S3x6656x1280) os S1x6656x1280.size hs).WholeWords (EltTy.packing .fp8e4m3)) (K : TP F α) : TP F α :=
  .op (.waitDma2 ((arg24.slice (Rect.unit (s := S3) om S1.size hm)).squeeze S_ squeezes_S1_S_).sem
    (arg3.slice (Rect.unit (s := S6656x32000) oc S6656x1280.size hc) (fun _ => rfl))
    ((arg11.slice (Rect.unit (s := S3x6656x1280) os S1x6656x1280.size hs) (fun _ => rfl)).squeeze S6656x1280 squeezes_S1x6656x1280_S6656x1280)
    (harg3.wordExact_slice rfl _ wc) ((harg11.wordExact_slice rfl _ ws).reshape _ _)) fun _ => K

def waitSK (oc : Fin 2 → Nat) (hc : ∀ a, oc a + S52x1280.size a ≤ S52x32000.size a) (os : Fin 3 → Nat) (hs : ∀ a, os a + S1x52x1280.size a ≤ S3x52x1280.size a)
    (om : Fin 1 → Nat) (hm : ∀ a, om a + S1.size a ≤ S3.size a) (K : TP F α) : TP F α :=
  .op (.waitDma2 ((arg25.slice (Rect.unit (s := S3) om S1.size hm)).squeeze S_ squeezes_S1_S_).sem
    (arg4.slice (Rect.unit (s := S52x32000) oc S52x1280.size hc) (fun _ => rfl))
    ((arg12.slice (Rect.unit (s := S3x52x1280) os S1x52x1280.size hs) (fun _ => rfl)).squeeze S52x1280 squeezes_S1x52x1280_S52x1280)
    (View.wordExact_bits rfl) ((View.wordExact_bits rfl).reshape _ _)) fun _ => K

abbrev dues : SP F := iprop(∃ Wt, owes (c : Thread nD τ) 0 Wt)

theorem own_waitW (j : Fin 25) (sl : Fin 3) {oc hc os hs om hm wc ws} (h1 : oc = ![0, 1280 * j.val]) (h2 : os = ![sl.val, 0, 0]) (h3 : om = ![sl.val]) (K : TP F α) :
    iprop(flyW c arg3 arg11 arg24 XW j sl ∗ dues c) ⊢
      iprop((iprop(own c (slotWt arg11 sl) (wcol XW j) ∗ homeW c arg3 XW j ∗ semVal ((c : Thread nD τ), .dma (semAt arg24 sl)) 0 ∗ dues c) -∗ W c K Q)
        -∗ W c (waitWK arg3 harg3 arg11 harg11 arg24 oc hc os hs om hm wc ws K) Q) := by
  subst h1 h2 h3
  unfold waitWK
  exact own_wait c (srcW arg3 j) (slotWt arg11 sl) (semAt arg24 sl) (wcol XW j) (fun _ => K)

theorem own_waitS (j : Fin 25) (sl : Fin 3) {oc hc os hs om hm} (h1 : oc = ![0, 1280 * j.val]) (h2 : os = ![sl.val, 0, 0]) (h3 : om = ![sl.val]) (K : TP F α) :
    iprop(flyS c arg4 arg12 arg25 XS j sl ∗ dues c) ⊢
      iprop((iprop(own c (slotSc arg12 sl) (scol XS j) ∗ homeS c arg4 XS j ∗ semVal ((c : Thread nD τ), .dma (semAt arg25 sl)) 0 ∗ dues c) -∗ W c K Q)
        -∗ W c (waitSK arg4 arg12 arg25 oc hc os hs om hm K) Q) := by
  subst h1 h2 h3
  unfold waitSK
  exact own_wait c (srcS arg4 j) (slotSc arg12 sl) (semAt arg25 sl) (scol XS j) (fun _ => K)

theorem waitK_eq (k : Fin k0_t5_loop.trips) (K : TP F α) : waitK arg3 harg3 arg4 arg11 harg11 arg12 arg24 arg25 k K =
    waitWK arg3 harg3 arg11 harg11 arg24 (k0_off21 k) (k0_off21_inb k) (k0_off20 k) (k0_off20_inb k) (k0_off19 k) (k0_off19_inb k) (k0_off21_wordsfp8e4m3 k) (k0_off20_wordsfp8e4m3 k)
      (waitSK arg4 arg12 arg25 (k0_off23 k) (k0_off23_inb k) (k0_off22 k) (k0_off22_inb k) (k0_off19 k) (k0_off19_inb k) K) := rfl

theorem issueP_eq (k : Fin k0_t5_loop.trips) : issueP (F := F) arg3 harg3 arg4 arg11 harg11 arg12 arg24 arg25 k =
    if h : k0_cond1 k = 1#1 then
      copyW arg3 harg3 arg11 harg11 arg24 (k0_off551 k) (k0_off551_inb k h) (k0_off550 k) (k0_off550_inb k h) (k0_off549 k) (k0_off549_inb k h) (k0_off551_wordsfp8e4m3 k h) (k0_off550_wordsfp8e4m3 k h)
        (copyS arg4 arg12 arg25 (k0_off553 k) (k0_off553_inb k h) (k0_off552 k) (k0_off552_inb k h) (k0_off549 k) (k0_off549_inb k h) (.ret ⟨⟩))
    else .ret ⟨⟩ := by
  unfold issueP
  split <;> rfl

theorem cond1_iff : ∀ k : Fin k0_t5_loop.trips, k0_cond1 k = 1#1 ↔ k.val + 3 < 25 := by decide +kernel

/-! ## One trip -/

/-- A chunk's place in the ring: its copies under way, or, past the last chunk, the slot at rest. -/
def inSlot (j : ℕ) : SP F :=
  if h : j < 25 then iprop(flyW c arg3 arg11 arg24 XW ⟨j, h⟩ ⟨j % 3, by omega⟩ ∗ flyS c arg4 arg12 arg25 XS ⟨j, h⟩ ⟨j % 3, by omega⟩)
  else iprop(restW c arg11 arg24 ⟨j % 3, by omega⟩ ∗ restS c arg12 arg25 ⟨j % 3, by omega⟩)

abbrev home (j : Fin 25) : SP F := iprop(homeW c arg3 XW j ∗ homeS c arg4 XS j)
def away (k : ℕ) : Finset (Fin 25) := Finset.univ.filter fun j => j.val < k ∨ k + 3 ≤ j.val
/-- The chunks not in the ring. -/
abbrev homes (k : ℕ) : SP F := bigSep (away k) (home c arg3 arg4 XW XS)

theorem bigSep_ins {S : Finset (Fin 25)} {j : Fin 25} (h : j ∉ S) (Φ : Fin 25 → SP F) : bigSep (insert j S) Φ = iprop(Φ j ∗ bigSep S Φ) := bigSep_insert h

theorem homes_last (k : ℕ) (hk : k < 25) (h : ¬ k + 3 < 25) :
    iprop(homes c arg3 arg4 XW XS k ∗ home c arg3 arg4 XW XS ⟨k, hk⟩) ⊢ homes c arg3 arg4 XW XS (k + 1) := by
  have he : away (k + 1) = insert ⟨k, hk⟩ (away k) := by
    ext j; simp only [away, Finset.mem_filter, Finset.mem_univ, true_and, Finset.mem_insert, Fin.ext_iff]; omega
  have hn : (⟨k, hk⟩ : Fin 25) ∉ away k := by simp [away]
  unfold homes
  rw [he, bigSep_ins hn]
  iintro ⟨A, B⟩
  isplitl [B] <;> iassumption

theorem homes_swap (k : ℕ) (hk : k < 25) (h : k + 3 < 25) :
    iprop(homes c arg3 arg4 XW XS k ∗ home c arg3 arg4 XW XS ⟨k, hk⟩) ⊢ iprop(homes c arg3 arg4 XW XS (k + 1) ∗ home c arg3 arg4 XW XS ⟨k + 3, h⟩) := by
  have he : insert ⟨k + 3, h⟩ (away (k + 1)) = insert ⟨k, hk⟩ (away k) := by
    ext j; simp only [away, Finset.mem_filter, Finset.mem_univ, true_and, Finset.mem_insert, Fin.ext_iff]; omega
  have hn : (⟨k, hk⟩ : Fin 25) ∉ away k := by simp [away]
  have hn' : (⟨k + 3, h⟩ : Fin 25) ∉ away (k + 1) := by simp only [away, Finset.mem_filter, Finset.mem_univ, true_and]; omega
  have e : bigSep (insert (⟨k + 3, h⟩ : Fin 25) (away (k + 1))) (home c arg3 arg4 XW XS) = bigSep (insert ⟨k, hk⟩ (away k)) (home c arg3 arg4 XW XS) := by rw [he]
  rw [bigSep_ins hn, bigSep_ins hn'] at e
  iintro ⟨A, B⟩
  ihave C := (show iprop(home c arg3 arg4 XW XS ⟨k, hk⟩ ∗ homes c arg3 arg4 XW XS k) ⊢ iprop(home c arg3 arg4 XW XS ⟨k + 3, h⟩ ∗ homes c arg3 arg4 XW XS (k + 1)) from by unfold homes; rw [e]) $$ [A B]
  · isplitl [B] <;> iassumption
  icases C with ⟨C, D⟩
  isplitl [D] <;> iassumption

/-- The ring before trip `k`. -/
def ring (k : ℕ) : SP F :=
  iprop(inSlot c arg3 arg4 arg11 arg12 arg24 arg25 XW XS k ∗ inSlot c arg3 arg4 arg11 arg12 arg24 arg25 XW XS (k + 1)
    ∗ inSlot c arg3 arg4 arg11 arg12 arg24 arg25 XW XS (k + 2) ∗ homes c arg3 arg4 XW XS k ∗ dues c)

/-- The scores and the statistics. -/
abbrev CState (F : FTy → Type) : Type := (S250x128x128.Idx → Elt F .f32) × Stats F
variable (X : S128x6656.Idx → Elt F .bf16)
def idx25 (k : Fin k0_t5_loop.trips) : Fin 25 := ⟨k.val, trips5 ▸ k.isLt⟩
/-- What a trip makes of them. -/
def chunkF (k : Fin k0_t5_loop.trips) (p : CState F) : CState F :=
  (tilesF X (wcol XW (idx25 k)) (scol XS (idx25 k)) (zstW k) p.1,
   groupsF (tilesF X (wcol XW (idx25 k)) (scol XS (idx25 k)) (zstW k) p.1) (zldW k) p.2)
/-- The state before trip `k`. -/
def chunkIter (p : CState F) : ℕ → CState F
  | 0 => p
  | k + 1 => if h : k < k0_t5_loop.trips then chunkF XW XS X ⟨k, h⟩ (chunkIter p k) else chunkIter p k

abbrev chunkInv (p : CState F) (k : ℕ) : SP F :=
  iprop(ring c arg3 arg4 arg11 arg12 arg24 arg25 XW XS k ∗ own c arg14 X
    ∗ groupIn c arg15 arg16 arg17 arg18 (chunkIter XW XS X p k).1 (chunkIter XW XS X p k).2)

theorem own_chunk (p : CState F) (k : Fin k0_t5_loop.trips) (Q : PUnit → SP F) :
    chunkInv c arg3 arg4 arg11 arg12 arg14 arg15 arg16 arg17 arg18 arg24 arg25 XW XS X p k.val ⊢
      iprop((chunkInv c arg3 arg4 arg11 arg12 arg14 arg15 arg16 arg17 arg18 arg24 arg25 XW XS X p (k.val + 1) -∗ Q ⟨⟩)
        -∗ W c (chunkP arg3 harg3 arg4 arg11 harg11 arg12 arg14 arg15 arg16 arg17 arg18 arg24 arg25 k) Q) := by
  have hk : k.val < 25 := trips5 ▸ k.isLt
  have hsl : slotW k = ⟨k.val % 3, by omega⟩ := by
    apply Fin.ext; show k0_off19 k 0 = _; rw [k0_off19_eq]; rfl
  unfold chunkP chunkInv ring
  rw [waitK_eq, hsl]
  have hin : inSlot c arg3 arg4 arg11 arg12 arg24 arg25 XW XS k.val = iprop(flyW c arg3 arg11 arg24 XW ⟨k.val, hk⟩ ⟨k.val % 3, by omega⟩ ∗ flyS c arg4 arg12 arg25 XS ⟨k.val, hk⟩ ⟨k.val % 3, by omega⟩) := by
    unfold inSlot; rw [dif_pos hk]
  rw [hin]
  have hst : chunkIter XW XS X p (k.val + 1) = chunkF XW XS X k (chunkIter XW XS X p k.val) := by
    show (if h : k.val < k0_t5_loop.trips then _ else _) = _; rw [dif_pos k.isLt]
  rw [hst]
  generalize chunkIter XW XS X p k.val = q
  iintro ⟨⟨⟨HfW, HfS⟩, Hs1, Hs2, Hh, HO⟩, HX, HZ, Hst⟩ HQ
  iapply (own_waitW c arg3 harg3 arg11 harg11 arg24 XW ⟨k.val, hk⟩ ⟨k.val % 3, by omega⟩ (k0_off21_eq k) (k0_off20_eq k) (k0_off19_eq k) _) $$ [HfW HO]
  · isplitl [HfW] <;> iassumption
  iintro ⟨HW, HhW, HvW, HO⟩
  iapply (own_waitS c arg4 arg12 arg25 XS ⟨k.val, hk⟩ ⟨k.val % 3, by omega⟩ (k0_off23_eq k) (k0_off22_eq k) (k0_off19_eq k) _) $$ [HfS HO]
  · isplitl [HfS] <;> iassumption
  iintro ⟨HS, HhS, HvS, HO⟩
  iapply (W_seqK c _ (fun z => iprop(tileIn c arg11 arg12 arg14 ⟨k.val % 3, by omega⟩ X (wcol XW ⟨k.val, hk⟩) (scol XS ⟨k.val, hk⟩) ∗ own c arg15 z))
    (fun t z => tileF X (wcol XW ⟨k.val, hk⟩) (scol XS ⟨k.val, hk⟩) (zstW k) t z)
    (fun t z K => own_tile c arg11 arg12 arg14 arg15 _ X _ _ (zstW k) t z K) _ _ q.1) $$ [HW HS HX HZ]
  · isplitr [HZ]
    · isplitl [HW]; · iexact HW
      isplitl [HS] <;> iassumption
    · iexact HZ
  iintro ⟨⟨HW, HS, HX⟩, HZ⟩
  iapply (W_seqK c _ (fun s => groupIn c arg15 arg16 arg17 arg18 (tilesF X (wcol XW ⟨k.val, hk⟩) (scol XS ⟨k.val, hk⟩) (zstW k) q.1) s)
    (fun r s => groupF _ (zldW k) r s) (fun r s K => own_group c arg15 arg16 arg17 arg18 _ (zldW k) r s K) _ _ q.2) $$ [HZ Hst]
  · isplitl [HZ]; · iexact HZ
    iexact Hst
  iintro Hst
  rw [issueP_eq]
  by_cases h3 : k.val + 3 < 25
  · rw [dif_pos ((cond1_iff k).2 h3)]
    have e3 : (k.val + 3) % 3 = k.val % 3 := by omega
    ihave Hh := (homes_swap c arg3 arg4 XW XS k.val hk h3) $$ [Hh HhW HhS]
    · isplitl [Hh]; · iexact Hh
      isplitl [HhW] <;> iassumption
    icases Hh with ⟨Hh, HhW, HhS⟩
    iapply (own_copyW c arg3 harg3 arg11 harg11 arg24 XW ⟨k.val + 3, h3⟩ ⟨k.val % 3, by omega⟩ ((k0_off551_eq k).trans (by rfl)) ((k0_off550_eq k).trans (by rw [e3])) ((k0_off549_eq k).trans (by rw [e3])) _) $$ [HhW HW HvW]
    · isplitl [HhW]; · iexact HhW
      isplitl [HW]; · iexists _; iexact HW
      iexact HvW
    iintro HfW
    iapply (own_copyS c arg4 arg12 arg25 XS ⟨k.val + 3, h3⟩ ⟨k.val % 3, by omega⟩ ((k0_off553_eq k).trans (by rfl)) ((k0_off552_eq k).trans (by rw [e3])) ((k0_off549_eq k).trans (by rw [e3])) _) $$ [HhS HS HvS]
    · isplitl [HhS]; · iexact HhS
      isplitl [HS]; · iexists _; iexact HS
      iexact HvS
    iintro HfS
    have hin3 : inSlot c arg3 arg4 arg11 arg12 arg24 arg25 XW XS (k.val + 1 + 2) = iprop(flyW c arg3 arg11 arg24 XW ⟨k.val + 3, h3⟩ ⟨k.val % 3, by omega⟩ ∗ flyS c arg4 arg12 arg25 XS ⟨k.val + 3, h3⟩ ⟨k.val % 3, by omega⟩) := by
      show inSlot c arg3 arg4 arg11 arg12 arg24 arg25 XW XS (k.val + 3) = _
      unfold inSlot; rw [dif_pos h3]; simp only [e3]
    iapply (W_ret c _)
    iapply HQ
    rw [hin3]
    isplitr [HX Hst]
    · isplitl [Hs1]; · iexact Hs1
      isplitl [Hs2]; · iexact Hs2
      isplitl [HfW HfS]; · isplitl [HfW] <;> iassumption
      isplitl [Hh] <;> iassumption
    isplitl [HX]; · iexact HX
    iexact Hst
  · rw [dif_neg (fun h => h3 ((cond1_iff k).1 h))]
    have e3 : (k.val + 3) % 3 = k.val % 3 := by omega
    ihave Hh := (homes_last c arg3 arg4 XW XS k.val hk h3) $$ [Hh HhW HhS]
    · isplitl [Hh]; · iexact Hh
      isplitl [HhW] <;> iassumption
    have hin3 : inSlot c arg3 arg4 arg11 arg12 arg24 arg25 XW XS (k.val + 1 + 2) = iprop(restW c arg11 arg24 ⟨k.val % 3, by omega⟩ ∗ restS c arg12 arg25 ⟨k.val % 3, by omega⟩) := by
      show inSlot c arg3 arg4 arg11 arg12 arg24 arg25 XW XS (k.val + 3) = _
      unfold inSlot; rw [dif_neg h3]; simp only [e3]
    iapply (W_ret c _)
    iapply HQ
    rw [hin3]
    isplitr [HX Hst]
    · isplitl [Hs1]; · iexact Hs1
      isplitl [Hs2]; · iexact Hs2
      isplitl [HW HvW HS HvS]
      · isplitl [HW HvW]
        · isplitl [HW]; · iexists _; iexact HW
          iexact HvW
        · isplitl [HS]; · iexists _; iexact HS
          iexact HvS
      isplitl [Hh] <;> iassumption
    isplitl [HX]; · iexact HX
    iexact Hst

end
end Cert.KernelIdeal.Run
-- ==== Proof.Run.Segs2.lean ====
/-
  THE SEGMENTS OUTSIDE THE CHUNK LOOP as functions of contents: the table of ancestors, the quantiser, the casts, the
  reduction of the running sums, the picks and the last stores.
-/
module

public import proofs.«01_k».proof.Proof.Run.Ring

@[expose] public section

noncomputable section

namespace Cert.KernelIdeal.Run

open Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- `k` steps of a loop of `n`. -/
def iterF {n : ℕ} {σ : Type} (T : Fin n → σ → σ) (s : σ) : ℕ → σ
  | 0 => s
  | k + 1 => if h : k < n then T ⟨k, h⟩ (iterF T s k) else iterF T s k

theorem iterF_succ {n : ℕ} {σ : Type} (T : Fin n → σ → σ) (s : σ) (k : Fin n) : iterF T s (k.val + 1) = T k (iterF T s k.val) := by
  show (if h : k.val < n then _ else _) = _; rw [dif_pos k.isLt]

section Loops
variable (c : Dev nD) {α : Type} {Q : α → SP F}

/-- A counted loop whose trips take state and carried value by a function. -/
theorem W_loop {w : ℕ} (l : Scf.Loop w) (hok : l.OK) {β σ : Type} (init : β) (body : Fin l.trips → β → TP F β) (S : σ → SP F)
    (T : Fin l.trips → σ × β → σ × β)
    (hb : ∀ k p (Q' : β → SP F), S p.1 ⊢ iprop((S (T k p).1 -∗ Q' (T k p).2) -∗ W c (body k p.2) Q')) (s : σ) (K : β → TP F α) :
    S s ⊢ iprop((S (iterF T (s, init) l.trips).1 -∗ W c (K (iterF T (s, init) l.trips).2) Q) -∗ W c (bind (Scf.Loop.for l hok init body) K) Q) := by
  iintro H HK
  iapply (Scf.wp_for_bind frame (wpE (defs₀ (F := F)) 𝒱₀ (c : Thread nD τ) none) Set.univ l.lb l.ub l.st hok init body
    (fun k acc => iprop(⌜acc = (iterF T (s, init) k).2⌝ ∗ S (iterF T (s, init) k).1)) ?_) $$ [H]
  · intro k acc
    iintro ⟨%hacc, H⟩
    subst hacc
    iapply (hb k (iterF T (s, init) k.val) _) $$ H
    iintro H
    rw [iterF_succ]
    isplitr; · ipureintro; rfl
    iexact H
  · rw [show iterF T (s, init) 0 = (s, init) from rfl]
    isplitr; · ipureintro; rfl
    iexact H
  iintro %acc ⟨%hacc, H⟩
  subst hacc
  iapply HK
  iexact H
end Loops

/-! ## The table of ancestors -/

def ancF (v36 : IVec S1x128 32) (o : Fin 2 → Nat) (h : ∀ a, o a + S1x1.size a ≤ S3x42.size a) (P : BitVec 32 → Prop) (d : ∀ v, Decidable (P v))
    (op : BitVec 32 → Fin 2 → Nat) (hp : ∀ v, P v → ∀ a, op v a + S1x128.size a ≤ S128x128.size a)
    (os : Fin 2 → Nat) (w : BitVec 32) (X0 : S3x42.Idx → BitVec 32) (X : S128x128.Idx → Elt F .f32) : S128x128.Idx → Elt F .f32 :=
  haveI := d (wordAt X0 o h)
  if hv : P (wordAt X0 o h) then
    upd (s := S128x128) os S1x128.size X (ancRow v36 w fun i => X ((Rect.unit (s := S128x128) (op (wordAt X0 o h)) S1x128.size (hp _ hv)).emb i))
  else X

/-- One trip's three rows. -/
def ancTripF (v36 : IVec S1x128 32) (X0 : S3x42.Idx → BitVec 32) (k : Fin k0_t1_loop.trips) (X : S128x128.Idx → Elt F .f32) : S128x128.Idx → Elt F .f32 :=
  ancF v36 (k0_off10 k) (k0_off10_inb k) k0_chk3 k0_chk3.dec k0_off11 k0_off11_inb (k0_off12 k) (Scalar.addi 84#32 (Scf.iv 1#32 1#32 k)) X0 <|
  ancF v36 (k0_off7 k) (k0_off7_inb k) k0_chk2 k0_chk2.dec k0_off8 k0_off8_inb (k0_off9 k) (Scalar.addi 42#32 (Scf.iv 1#32 1#32 k)) X0 <|
  ancF v36 (k0_off4 k) (k0_off4_inb k) k0_chk1 k0_chk1.dec k0_off5 k0_off5_inb (k0_off6 k) (Scalar.addi 0#32 (Scf.iv 1#32 1#32 k)) X0 X

/-- The parents are in range where the table reads them. -/
def AncOk (X0 : S3x42.Idx → BitVec 32) : Prop := ∀ k : Fin k0_t1_loop.trips,
  k0_chk1 (wordAt X0 (k0_off4 k) (k0_off4_inb k)) ∧ k0_chk2 (wordAt X0 (k0_off7 k) (k0_off7_inb k)) ∧ k0_chk3 (wordAt X0 (k0_off10 k) (k0_off10_inb k))

section Anc
variable (c : Dev nD) {α : Type} {Q : α → SP F} (arg0 : Memref sig .tc .smem S3x42 .i32) (arg19 : Memref sig .tc .vmem S128x128 .f32) (X0 : S3x42.Idx → BitVec 32)

theorem own_anc (v36 : IVec S1x128 32) (o : Fin 2 → Nat) (h : ∀ a, o a + S1x1.size a ≤ S3x42.size a) (P : BitVec 32 → Prop) (d : ∀ v, Decidable (P v))
    (op : BitVec 32 → Fin 2 → Nat) (hp : ∀ v, P v → ∀ a, op v a + S1x128.size a ≤ S128x128.size a)
    (os : Fin 2 → Nat) (hs : ∀ a, os a + S1x128.size a ≤ S128x128.size a) (w : BitVec 32) (X : S128x128.Idx → Elt F .f32) (hv : P (wordAt X0 o h)) (K : TP F α) :
    iprop(own (F := F) c arg0 X0 ∗ own c arg19 X) ⊢ iprop((iprop(own (F := F) c arg0 X0 ∗ own c arg19 (ancF v36 o h P d op hp os w X0 X)) -∗ W c K Q)
      -∗ W c (ancK arg0 arg19 v36 o h P d op hp os hs w K) Q) := by
  unfold ancK
  iintro ⟨H0, HX⟩ HK
  iapply (own_sw c arg0 o h X0 _) $$ H0
  iintro H0
  iapply (W_asm c hv _)
  iapply (own_ld c arg19 _ h_S1x128 X _) $$ HX
  iintro HX
  iapply (own_st c arg19 os S1x128.size hs h_S1x128 X _ _) $$ HX
  iintro HX
  iapply HK
  isplitl [H0]; · iexact H0
  unfold ancF
  rw [dif_pos hv]
  iexact HX

theorem own_ancP (v36 : IVec S1x128 32) (k : Fin k0_t1_loop.trips) (hok : AncOk X0) (X : S128x128.Idx → Elt F .f32) (Q' : PUnit → SP F) :
    iprop(own (F := F) c arg0 X0 ∗ own c arg19 X) ⊢ iprop((iprop(own (F := F) c arg0 X0 ∗ own c arg19 (ancTripF v36 X0 k X)) -∗ Q' ⟨⟩)
      -∗ W c (ancP arg0 arg19 v36 k) Q') := by
  unfold ancP
  iintro H HK
  iapply (own_anc c arg0 arg19 X0 v36 _ _ _ _ _ _ _ _ _ X (hok k).1 _) $$ H
  iintro H
  iapply (own_anc c arg0 arg19 X0 v36 _ _ _ _ _ _ _ _ _ _ (hok k).2.1 _) $$ H
  iintro H
  iapply (own_anc c arg0 arg19 X0 v36 _ _ _ _ _ _ _ _ _ _ (hok k).2.2 _) $$ H
  iintro H
  iapply (W_ret c _)
  iapply HK
  iexact H
end Anc

/-! ## The quantiser -/

/-- The codes and the quantised values. -/
abbrev QState (F : FTy → Type) : Type := (S3x42x6656.Idx → Elt F .fp8e4m3) × (S128x6656.Idx → Elt F .f32)

def quantF (v46 : IVec S42x128 32) (ox : Fin 3 → Nat) (hx : ∀ a, ox a + S1x42x128.size a ≤ S3x42x6656.size a) (of : Fin 2 → Nat) (w : BitVec 32)
    (Xin : S3x42x6656.Idx → Elt F .bf16) (p : QState F × FVec F S42x128 .f32) : QState F × FVec F S42x128 .f32 :=
  ((upd (s := S3x42x6656) ox S1x42x128.size p.1.1 (shapeCast S1x42x128 (qcode fun i => Xin ((Rect.unit (s := S3x42x6656) ox S1x42x128.size hx).emb i)) shapeCasts_S42x128_S1x42x128),
    upd (s := S128x6656) of S42x128.size p.1.2 (qval fun i => Xin ((Rect.unit (s := S3x42x6656) ox S1x42x128.size hx).emb i))),
   qcol v46 w (fun i => Xin ((Rect.unit (s := S3x42x6656) ox S1x42x128.size hx).emb i)) p.2)

section Quant
variable (c : Dev nD) {α : Type} {Q : α → SP F} (arg2 : Memref sig .tc .vmem S3x42x6656 .bf16) (arg9 : Memref sig .tc .vmem S3x42x6656 .fp8e4m3) (harg9 : arg9.IsWhole)
  (arg13 : Memref sig .tc .vmem S128x6656 .f32) (Xin : S3x42x6656.Idx → Elt F .bf16)

theorem own_quant (v46 : IVec S42x128 32) (ox : Fin 3 → Nat) (hx : ∀ a, ox a + S1x42x128.size a ≤ S3x42x6656.size a)
    (tx : (Rect.unit (s := S3x42x6656) ox S1x42x128.size hx).PackedTiles)
    (of : Fin 2 → Nat) (hf : ∀ a, of a + S42x128.size a ≤ S128x6656.size a) (w : BitVec 32) (p : QState F × FVec F S42x128 .f32) (Q' : FVec F S42x128 .f32 → SP F) :
    iprop(own c arg2 Xin ∗ own c arg9 p.1.1 ∗ own c arg13 p.1.2) ⊢
      iprop((iprop(own c arg2 Xin ∗ own c arg9 (quantF v46 ox hx of w Xin p).1.1 ∗ own c arg13 (quantF v46 ox hx of w Xin p).1.2) -∗ Q' (quantF v46 ox hx of w Xin p).2)
        -∗ W c (quantP arg2 arg9 harg9 arg13 v46 ox hx tx of hf w p.2) Q') := by
  have key : ∀ a, a = (quantF v46 ox hx of w Xin p).2 → Q' (quantF v46 ox hx of w Xin p).2 ⊢ W c (.ret a) Q' := by
    intro a ha; rw [ha]; exact W_ret c _
  unfold quantP
  iintro ⟨H2, H9, H13⟩ HK
  iapply (own_ld c arg2 _ h_S1x42x128 Xin _) $$ H2
  iintro H2
  iapply (own_stn c arg9 ox S1x42x128.size hx h_S1x42x128 _ p.1.1 _ _) $$ H9
  iintro H9
  iapply (own_st c arg13 of S42x128.size hf h_S42x128 p.1.2 _ _) $$ H13
  iintro H13
  iapply (key _ rfl)
  iapply HK
  isplitl [H2]; · iexact H2
  isplitl [H9]; · iexact H9
  iexact H13
end Quant

/-! ## The casts -/

def castBlk (xf : S128x6656.Idx → Elt F .f32) (i : Fin 13) : FVec F S128x512 .bf16 := cast512 fun j => xf ((castRect i).emb j)
def castF (xf : S128x6656.Idx → Elt F .f32) (i : Fin 13) (Y : S128x6656.Idx → Elt F .bf16) : S128x6656.Idx → Elt F .bf16 :=
  upd (s := S128x6656) ![0, 512 * i.val] S128x512.size Y (castBlk xf i)

section Cast
variable (c : Dev nD) {α : Type} {Q : α → SP F} (arg13 : Memref sig .tc .vmem S128x6656 .f32) (arg14 : Memref sig .tc .vmem S128x6656 .bf16) (harg14 : arg14.IsWhole)
  (xf : S128x6656.Idx → Elt F .f32)

theorem own_castLd (i : Fin 13) (Y : S128x6656.Idx → Elt F .bf16) (K : FVec F S128x512 .bf16 → TP F α) :
    iprop(own c arg13 xf ∗ own c arg14 Y) ⊢ iprop((iprop(own c arg13 xf ∗ own c arg14 Y) -∗ W c (K (castBlk xf i)) Q) -∗ W c (castLd arg13 arg14 i K) Q) := by
  unfold castLd
  iintro ⟨H, HY⟩ HK
  iapply (own_ld c arg13 _ h_S128x512 xf _) $$ H
  iintro H
  iapply (own_ld c arg14 _ h_S128x512 Y _) $$ HY
  iintro HY
  iapply HK
  isplitl [H] <;> iassumption

theorem own_castSt (i : Fin 13) (Y : S128x6656.Idx → Elt F .bf16) (K : TP F α) :
    iprop(own c arg13 xf ∗ own c arg14 Y) ⊢ iprop((iprop(own c arg13 xf ∗ own c arg14 (castF xf i Y)) -∗ W c K Q) -∗ W c (castSt arg14 harg14 i (castBlk xf i) K) Q) := by
  unfold castSt
  iintro ⟨H, HY⟩ HK
  iapply (own_store c arg14 ![0, 512 * i.val] S128x512.size _ Y (castBlk xf i) (fun _ => K)) $$ HY
  iintro HY
  iapply HK
  isplitl [H]; · iexact H
  iexact HY

theorem own_cast (i : Fin 13) (Y : S128x6656.Idx → Elt F .bf16) (K : TP F α) :
    iprop(own c arg13 xf ∗ own c arg14 Y) ⊢ iprop((iprop(own c arg13 xf ∗ own c arg14 (castF xf i Y)) -∗ W c K Q) -∗ W c (castK arg13 arg14 harg14 i K) Q) := by
  unfold castK
  iintro H HK
  iapply (own_castLd c arg13 arg14 xf i Y _) $$ H
  iintro H
  iapply (own_castSt c arg13 arg14 harg14 xf i Y K) $$ H
  iexact HK
end Cast

/-! ## The tail -/

def setAll (X : S128x128.Idx → Elt F .f32) (w : FVec F S128x128 .f32) : S128x128.Idx → Elt F .f32 := upd (s := S128x128) ![0, 0] S128x128.size X w
def getAll (X : S128x128.Idx → Elt F .f32) : Vec F S128x128 .f32 := fun i => X (whole128.emb i)
def setPad (X : S128x128.Idx → Elt F .f32) : S128x128.Idx → Elt F .f32 := upd (s := S128x128) ![126, 0] S2x128.size X zero2

/-- The parents and tokens are in range where the picks read them. -/
def PickOk (X0 X1 : S3x42.Idx → BitVec 32) : Prop := ∀ i : Fin 126,
  parChk (BitVec.ofNat 32 (42 * (i.val / 42))) (wordAt X0 ![i.val / 42, i.val % 42] (wordInb i)) ∧
  pickChk (BitVec.ofNat 32 (42 * (i.val / 42))) (wordAt X0 ![i.val / 42, i.val % 42] (wordInb i)) (wordAt X1 ![i.val / 42, i.val % 42] (wordInb i))

/-- One pick. -/
def pickF (X0 X1 : S3x42.Idx → BitVec 32) (hok : PickOk X0 X1) (z : S250x128x128.Idx → Elt F .f32) (L E : S128x128.Idx → Elt F .f32) (i : Fin 126)
    (p : (S128x128.Idx → Elt F .f32) × (S128x128.Idx → Elt F .f32)) : (S128x128.Idx → Elt F .f32) × (S128x128.Idx → Elt F .f32) :=
  (upd (s := S128x128) ![i.val, 0] S1x128.size p.1 (pickVal iota36 (wordAt X1 ![i.val / 42, i.val % 42] (wordInb i))
      (fun j => z ((Rect.unit (s := S250x128x128) (pickOff (BitVec.ofNat 32 (42 * (i.val / 42))) (wordAt X0 ![i.val / 42, i.val % 42] (wordInb i)) (wordAt X1 ![i.val / 42, i.val % 42] (wordInb i))) S1x1x128.size (hok i).2).emb j))
      (fun j => L ((Rect.unit (s := S128x128) (parOff (BitVec.ofNat 32 (42 * (i.val / 42))) (wordAt X0 ![i.val / 42, i.val % 42] (wordInb i))) S1x128.size (hok i).1).emb j))),
   upd (s := S128x128) ![i.val, 0] S1x128.size p.2 (shapeCast S1x128
      (fun j => E ((Rect.unit (s := S128x128) (parOff (BitVec.ofNat 32 (42 * (i.val / 42))) (wordAt X0 ![i.val / 42, i.val % 42] (wordInb i))) S1x128.size (hok i).1).emb j)) shapeCasts_S1x128_S1x128))

section Tail
variable (c : Dev nD) {α : Type} {Q : α → SP F} (arg0 arg1 : Memref sig .tc .smem S3x42 .i32)
  (arg5 arg6 arg7 arg8 : Memref sig .tc .vmem S3x42 .f32)
  (arg15 : Memref sig .tc .vmem S250x128x128 .f32)
  (arg16 arg17 arg18 arg19 arg20 arg21 arg22 arg23 : Memref sig .tc .vmem S128x128 .f32)
  (X0 X1 : S3x42.Idx → BitVec 32) (hok : PickOk X0 X1) (z : S250x128x128.Idx → Elt F .f32) (L E : S128x128.Idx → Elt F .f32)

abbrev pickIn (p : (S128x128.Idx → Elt F .f32) × (S128x128.Idx → Elt F .f32)) : SP F :=
  iprop(own (F := F) c arg0 X0 ∗ own (F := F) c arg1 X1 ∗ own c arg15 z ∗ own c arg22 L ∗ own c arg23 E ∗ own c arg20 p.1 ∗ own c arg21 p.2)

theorem own_pick (i : Fin 126) (p : (S128x128.Idx → Elt F .f32) × (S128x128.Idx → Elt F .f32)) (K : TP F α) :
    pickIn c arg0 arg1 arg15 arg20 arg21 arg22 arg23 X0 X1 z L E p ⊢
      iprop((pickIn c arg0 arg1 arg15 arg20 arg21 arg22 arg23 X0 X1 z L E (pickF X0 X1 hok z L E i p) -∗ W c K Q)
        -∗ W c (pickK arg0 arg1 arg15 arg20 arg21 arg22 arg23 i K) Q) := by
  unfold pickK
  iintro ⟨H0, H1, HZ, HL, HE, HP, HH⟩ HK
  iapply (own_sw c arg0 _ _ X0 _) $$ H0; iintro H0
  iapply (W_asm c (hok i).1 _)
  iapply (own_sw c arg1 _ _ X1 _) $$ H1; iintro H1
  iapply (W_asm c (hok i).2 _)
  iapply (own_ld c arg15 _ h_S1x1x128 z _) $$ HZ; iintro HZ
  iapply (own_ld c arg22 _ h_S1x128 L _) $$ HL; iintro HL
  iapply (own_st c arg20 ![i.val, 0] S1x128.size _ h_S1x128 p.1 _ _) $$ HP; iintro HP
  iapply (own_ld c arg23 _ h_S1x128 E _) $$ HE; iintro HE
  iapply (own_st c arg21 ![i.val, 0] S1x128.size _ h_S1x128 p.2 _ _) $$ HH; iintro HH
  iapply HK
  isplitl [H0]; · iexact H0
  isplitl [H1]; · iexact H1
  isplitl [HZ]; · iexact HZ
  isplitl [HL]; · iexact HL
  isplitl [HE]; · iexact HE
  isplitl [HP]; · iexact HP
  iexact HH

/-- The reduction's four stores. -/
theorem own_reduce (st : Stats F) (J20 J21 J22 J23 : S128x128.Idx → Elt F .f32) (K : FVec F S128x1 .f32 → TP F α) :
    iprop(own c arg16 st.1 ∗ own c arg17 st.2.1 ∗ own c arg18 st.2.2 ∗ own c arg20 J20 ∗ own c arg21 J21 ∗ own c arg22 J22 ∗ own c arg23 J23) ⊢
      iprop((iprop(own c arg16 st.1 ∗ own c arg17 st.2.1 ∗ own c arg18 st.2.2 ∗ own c arg20 (setPad J20) ∗ own c arg21 (setPad J21)
          ∗ own c arg22 (setAll J22 (same128 (spread (rlse (getAll st.1) (getAll st.2.1)))))
          ∗ own c arg23 (setAll J23 (same128 (spread (rent (getAll st.1) (getAll st.2.1) (getAll st.2.2))))))
          -∗ W c (K (rent (getAll st.1) (getAll st.2.1) (getAll st.2.2))) Q)
        -∗ W c (reduceK arg16 arg17 arg18 arg20 arg21 arg22 arg23 K) Q) := by
  unfold reduceK
  iintro ⟨Hm, Hs, Ht, H20, H21, H22, H23⟩ HK
  iapply (own_ld c arg16 _ h_S128x128 st.1 _) $$ Hm; iintro Hm
  iapply (own_ld c arg17 _ h_S128x128 st.2.1 _) $$ Hs; iintro Hs
  iapply (own_ld c arg18 _ h_S128x128 st.2.2 _) $$ Ht; iintro Ht
  iapply (own_st c arg22 ![0, 0] S128x128.size _ h_S128x128 J22 _ _) $$ H22; iintro H22
  iapply (own_st c arg23 ![0, 0] S128x128.size _ h_S128x128 J23 _ _) $$ H23; iintro H23
  iapply (own_st c arg20 ![126, 0] S2x128.size _ h_S2x128 J20 _ _) $$ H20; iintro H20
  iapply (own_st c arg21 ![126, 0] S2x128.size _ h_S2x128 J21 _ _) $$ H21; iintro H21
  iapply HK
  isplitl [Hm]; · iexact Hm
  isplitl [Hs]; · iexact Hs
  isplitl [Ht]; · iexact Ht
  isplitl [H20]; · iexact H20
  isplitl [H21]; · iexact H21
  isplitl [H22]; · iexact H22
  iexact H23

/-- The four results. -/
abbrev Outs (F : FTy → Type) : Type := (S3x42.Idx → Elt F .f32) × (S3x42.Idx → Elt F .f32) × (S3x42.Idx → Elt F .f32) × (S3x42.Idx → Elt F .f32)
def outF (o : FVec F S128x128 .f32) (b : Fin 3) (p : Outs F) : Outs F :=
  (upd (s := S3x42) ![b.val, 0] S1x42.size p.1 (outRow o 0 b), upd (s := S3x42) ![b.val, 0] S1x42.size p.2.1 (outRow o 1 b),
   upd (s := S3x42) ![b.val, 0] S1x42.size p.2.2.1 (outRow o 2 b), upd (s := S3x42) ![b.val, 0] S1x42.size p.2.2.2 (outRow o 3 b))
abbrev outIn (p : Outs F) : SP F := iprop(own c arg5 p.1 ∗ own c arg6 p.2.1 ∗ own c arg7 p.2.2.1 ∗ own c arg8 p.2.2.2)

theorem own_out (o : FVec F S128x128 .f32) (b : Fin 3) (p : Outs F) (K : TP F α) :
    outIn c arg5 arg6 arg7 arg8 p ⊢ iprop((outIn c arg5 arg6 arg7 arg8 (outF o b p) -∗ W c K Q) -∗ W c (outK arg5 arg6 arg7 arg8 o b K) Q) := by
  unfold outK
  iintro ⟨H5, H6, H7, H8⟩ HK
  iapply (own_st c arg5 ![b.val, 0] S1x42.size _ h_S1x42 p.1 _ _) $$ H5; iintro H5
  iapply (own_st c arg6 ![b.val, 0] S1x42.size _ h_S1x42 p.2.1 _ _) $$ H6; iintro H6
  iapply (own_st c arg7 ![b.val, 0] S1x42.size _ h_S1x42 p.2.2.1 _ _) $$ H7; iintro H7
  iapply (own_st c arg8 ![b.val, 0] S1x42.size _ h_S1x42 p.2.2.2 _ _) $$ H8; iintro H8
  iapply HK
  isplitl [H5]; · iexact H5
  isplitl [H6]; · iexact H6
  isplitl [H7]; · iexact H7
  iexact H8

/-- The last tile. -/
def lastF (ent : FVec F S128x1 .f32) (pick hp anc : S128x128.Idx → Elt F .f32) : FVec F S128x128 .f32 :=
  outTile ent (lpTile (getAll pick)) (marginTile (lpTile (getAll pick)) (getAll hp)) (pmTile (marginTile (lpTile (getAll pick)) (getAll hp)) (getAll anc))
def outsF (o : FVec F S128x128 .f32) (p : Outs F) : Outs F := ([0, 1, 2] : List (Fin 3)).foldl (fun p b => outF o b p) p

theorem own_finish (ent : FVec F S128x1 .f32) (pick hp anc : S128x128.Idx → Elt F .f32) (p : Outs F) (K : TP F α) :
    iprop(outIn c arg5 arg6 arg7 arg8 p ∗ own c arg20 pick ∗ own c arg21 hp ∗ own c arg19 anc) ⊢
      iprop((iprop(outIn c arg5 arg6 arg7 arg8 (outsF (lastF ent pick hp anc) p) ∗ own c arg20 pick ∗ own c arg21 hp ∗ own c arg19 anc) -∗ W c K Q)
        -∗ W c (finishK arg5 arg6 arg7 arg8 arg19 arg20 arg21 ent K) Q) := by
  unfold finishK
  iintro ⟨HO, H20, H21, H19⟩ HK
  iapply (own_ld c arg20 _ h_S128x128 pick _) $$ H20; iintro H20
  iapply (own_ld c arg21 _ h_S128x128 hp _) $$ H21; iintro H21
  iapply (own_ld c arg19 _ h_S128x128 anc _) $$ H19; iintro H19
  iapply (W_seqK c _ (outIn c arg5 arg6 arg7 arg8) (outF (lastF ent pick hp anc)) (fun b p K => own_out c arg5 arg6 arg7 arg8 (lastF ent pick hp anc) b p K) _ _ p) $$ HO
  iintro HO
  iapply HK
  isplitl [HO]; · iexact HO
  isplitl [H20]; · iexact H20
  isplitl [H21] <;> iassumption
end Tail

end Cert.KernelIdeal.Run
-- ==== Proof.Run.Split.lean ====
/-
  A BUFFER AND ITS PARTS: a ring of matrices owned as its slots, and an array owned as its chunks of columns.
-/
module

public import proofs.«01_k».proof.Proof.Run.Segs2

@[expose] public section

noncomputable section

namespace Cert.KernelIdeal.Run

open Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.ShloMosaic.Pipeline (UD)
open Idealize.SL.BI.BIBase Idealize.SL.BI.Laws Idealize.SL.ProofMode Idealize.SL.Sem

variable {F : FTy → Type} [FloatOps F] [Named F] [∀ e, Nonempty (Elt F e)]

theorem bigSep_three (Φ : Fin 3 → SP F) : bigSep Finset.univ Φ = iprop(Φ 0 ∗ Φ 1 ∗ Φ 2) :=
  bigSep_univ_eq_bigSepL [0, 1, 2] (by decide) (by decide) Φ

section Slot
variable {A B C : ℕ} {e : EltTy} (c : Dev nD) (m : Memref sig .tc .vmem ⟨3, ![A, B, C]⟩ e) (hq : (⟨3, ![1, B, C]⟩ : Shape).Squeezes ⟨2, ![B, C]⟩)

theorem slot_disj (s t : Fin A) (h : s ≠ t) : Disjoint (slotRect (A := A) (B := B) (C := C) s).set (slotRect (A := A) (B := B) (C := C) t).set := by
  rw [Finset.disjoint_left]
  intro i hi hj
  have h1 := (Rect.mem_set_unit.1 hi) 0
  have h2 := (Rect.mem_set_unit.1 hj) 0
  apply h; apply Fin.ext
  have a1 : s.val ≤ (i 0).val ∧ (i 0).val < s.val + 1 := h1
  have a2 : t.val ≤ (i 0).val ∧ (i 0).val < t.val + 1 := h2
  omega

theorem slot_cover : Finset.univ.biUnion (fun s : Fin A => (slotRect (A := A) (B := B) (C := C) s).set) = Finset.univ := by
  ext i
  simp only [Finset.mem_biUnion, Finset.mem_univ, true_and, iff_true]
  refine ⟨i 0, Rect.mem_set_unit.2 fun a => ?_⟩
  have h1 := (i a).isLt
  fin_cases a
  · exact ⟨le_refl _, Nat.lt_succ_self _⟩
  · exact ⟨Nat.zero_le _, by show (i 1).val < 0 + B; have : (i 1).val < B := (i 1).isLt; omega⟩
  · exact ⟨Nat.zero_le _, by show (i 2).val < 0 + C; have : (i 2).val < C := (i 2).isLt; omega⟩

theorem slot_part (s : Fin A) (X : (slotRect (A := A) (B := B) (C := C) s).shape.Idx → Elt F e) :
    (owns (c : Thread nD τ) (m.slice (slotRect s) (fun _ => rfl)) fullShare X : SP F) ⊢ (iprop(∃ Y, own c (slotM m hq s) Y) : SP F) := by
  have hset : (slotM m hq s).view.set = (m.slice (slotRect s) (fun _ => rfl)).view.set := View.set_reshape _ _
  unfold own owns
  rw [hset]
  iintro ⟨%f, %hf, H⟩
  iexists _, f
  isplitr
  · ipureintro; rfl
  · iexact H

theorem slots_split (J : (⟨3, ![A, B, C]⟩ : Shape).Idx → Elt F e) :
    own c m J ⊢ bigSep Finset.univ fun s : Fin A => (iprop(∃ Y, own c (slotM m hq s) Y) : SP F) :=
  (owns_rects (c : Thread nD τ) m fullShare slotRect (fun _ _ => rfl) slot_disj slot_cover J).trans (bigSep_mono fun s _ => slot_part c m hq s _)

theorem slot_whole (s : Fin A) (Ys : Fin A → (⟨2, ![B, C]⟩ : Shape).Idx → Elt F e) :
    (own c (slotM m hq s) (Ys s) : SP F) ⊢ (owns (c : Thread nD τ) (m.slice (slotRect s) (fun _ => rfl)) fullShare
      (fun j => (fun y => Ys (y 0) (ix2 (y 1) (y 2)) : (⟨3, ![A, B, C]⟩ : Shape).Idx → Elt F e) ((slotRect s).emb j)) : SP F) := by
  have hset : (slotM m hq s).view.set = (m.slice (slotRect s) (fun _ => rfl)).view.set := View.set_reshape _ _
  unfold own owns
  rw [hset]
  iintro ⟨%f, %hf, H⟩
  iexists f
  isplitr
  · ipureintro
    funext j
    have hj : (slotRect s).emb j = ix3 s (j 1) (j 2) := by
      funext a; apply Fin.ext; rw [emb_unit_val]
      have h0 : (j 0).val < 1 := (j 0).isLt
      fin_cases a
      · show s.val + (j 0).val = s.val; omega
      · show 0 + (j 1).val = (j 1).val; omega
      · show 0 + (j 2).val = (j 2).val; omega
    show _root_.cast _ (f (m.view.emb ((slotRect s).emb j))) = Ys ((slotRect s).emb j 0) (ix2 ((slotRect s).emb j 1) ((slotRect s).emb j 2))
    rw [hj]
    show _ = Ys s (ix2 (j 1) (j 2))
    rw [← hf]
    show _ = _root_.cast _ (f ((slotM m hq s).view.emb (ix2 (j 1) (j 2))))
    exact congrArg (fun i => _root_.cast _ (f i)) (slot_emb m hq s (j 1) (j 2)).symm
  · iexact H

theorem slots_join : bigSep Finset.univ (fun s : Fin A => (iprop(∃ Y, own c (slotM m hq s) Y) : SP F)) ⊢ iprop(∃ J, own (F := F) c m J) := by
  refine (bigSep_exists_pi _ _).trans ?_
  have key : ∀ Ys : Fin A → (⟨2, ![B, C]⟩ : Shape).Idx → Elt F e, bigSep Finset.univ (fun s => (own c (slotM m hq s) (Ys s) : SP F))
      ⊢ own c m (fun y => Ys (y 0) (ix2 (y 1) (y 2)) : (⟨3, ![A, B, C]⟩ : Shape).Idx → Elt F e) := by
    intro Ys
    have k1 := bigSep_mono (s := Finset.univ) (Φ := fun s => (own c (slotM m hq s) (Ys s) : SP F))
      (Ψ := fun s => (owns (c : Thread nD τ) (m.slice (slotRect s) (fun _ => rfl)) fullShare
        (fun j => (fun y => Ys (y 0) (ix2 (y 1) (y 2)) : (⟨3, ![A, B, C]⟩ : Shape).Idx → Elt F e) ((slotRect s).emb j)) : SP F))
      (fun s _ => slot_whole c m hq s Ys)
    have k2 := owns_of_rects (Ix := Unit) (Name := ℕ) (U := UD sig nD τ) (Lvl := ℕ) (c : Thread nD τ) m fullShare slotRect (fun _ _ => rfl) slot_disj slot_cover (fun y => Ys (y 0) (ix2 (y 1) (y 2)) : (⟨3, ![A, B, C]⟩ : Shape).Idx → Elt F e)
    exact k1.trans k2
  exact exists_elim fun Ys => (key Ys).trans (exists_intro _)
end Slot

section Cols
variable (c : Dev nD) (arg3 : Memref sig .tc .hbm S6656x32000 .fp8e4m3) (arg4 : Memref sig .tc .hbm S52x32000 .f32)
  (XW : S6656x32000.Idx → Elt F .fp8e4m3) (XS : S52x32000.Idx → Elt F .f32)

theorem colW_disj (s t : Fin 25) (h : s ≠ t) : Disjoint (colW s).set (colW t).set := by
  rw [Finset.disjoint_left]
  intro i hi hj
  have h1 := (Rect.mem_set_unit.1 hi) 1
  have h2 := (Rect.mem_set_unit.1 hj) 1
  apply h; apply Fin.ext
  have a1 : 1280 * s.val ≤ (i 1).val ∧ (i 1).val < 1280 * s.val + 1280 := h1
  have a2 : 1280 * t.val ≤ (i 1).val ∧ (i 1).val < 1280 * t.val + 1280 := h2
  omega

theorem colW_cover : Finset.univ.biUnion (fun s : Fin 25 => (colW s).set) = Finset.univ := by
  ext i
  simp only [Finset.mem_biUnion, Finset.mem_univ, true_and, iff_true]
  have h1 : (i 1).val < 32000 := (i 1).isLt
  have h0 : (i 0).val < 6656 := (i 0).isLt
  refine ⟨⟨(i 1).val / 1280, by omega⟩, Rect.mem_set_unit.2 fun a => ?_⟩
  fin_cases a
  · exact ⟨Nat.zero_le _, by show (i 0).val < 0 + 6656; omega⟩
  · exact ⟨by show 1280 * ((i 1).val / 1280) ≤ (i 1).val; omega, by show (i 1).val < 1280 * ((i 1).val / 1280) + 1280; omega⟩

theorem colS_disj (s t : Fin 25) (h : s ≠ t) : Disjoint (colS s).set (colS t).set := by
  rw [Finset.disjoint_left]
  intro i hi hj
  have h1 := (Rect.mem_set_unit.1 hi) 1
  have h2 := (Rect.mem_set_unit.1 hj) 1
  apply h; apply Fin.ext
  have a1 : 1280 * s.val ≤ (i 1).val ∧ (i 1).val < 1280 * s.val + 1280 := h1
  have a2 : 1280 * t.val ≤ (i 1).val ∧ (i 1).val < 1280 * t.val + 1280 := h2
  omega

theorem colS_cover : Finset.univ.biUnion (fun s : Fin 25 => (colS s).set) = Finset.univ := by
  ext i
  simp only [Finset.mem_biUnion, Finset.mem_univ, true_and, iff_true]
  have h1 : (i 1).val < 32000 := (i 1).isLt
  have h0 : (i 0).val < 52 := (i 0).isLt
  refine ⟨⟨(i 1).val / 1280, by omega⟩, Rect.mem_set_unit.2 fun a => ?_⟩
  fin_cases a
  · exact ⟨Nat.zero_le _, by show (i 0).val < 0 + 52; omega⟩
  · exact ⟨by show 1280 * ((i 1).val / 1280) ≤ (i 1).val; omega, by show (i 1).val < 1280 * ((i 1).val / 1280) + 1280; omega⟩

theorem homes_all : iprop(own (F := F) c arg3 XW ∗ own c arg4 XS) ⊢ bigSep Finset.univ (home c arg3 arg4 XW XS) := by
  unfold home
  rw [show bigSep Finset.univ (fun j : Fin 25 => (iprop(homeW c arg3 XW j ∗ homeS c arg4 XS j) : SP F))
    = iprop(bigSep Finset.univ (homeW c arg3 XW) ∗ bigSep Finset.univ (homeS c arg4 XS)) from bigSep_sep _ _ _]
  iintro ⟨A, B⟩
  isplitl [A]
  · iapply (owns_rects (c : Thread nD τ) arg3 fullShare colW (fun _ _ => rfl) colW_disj colW_cover XW) $$ A
  · iapply (owns_rects (c : Thread nD τ) arg4 fullShare colS (fun _ _ => rfl) colS_disj colS_cover XS) $$ B

theorem homes_back : bigSep Finset.univ (home c arg3 arg4 XW XS) ⊢ iprop(own (F := F) c arg3 XW ∗ own c arg4 XS) := by
  unfold home
  rw [show bigSep Finset.univ (fun j : Fin 25 => (iprop(homeW c arg3 XW j ∗ homeS c arg4 XS j) : SP F))
    = iprop(bigSep Finset.univ (homeW c arg3 XW) ∗ bigSep Finset.univ (homeS c arg4 XS)) from bigSep_sep _ _ _]
  iintro ⟨A, B⟩
  isplitl [A]
  · iapply (show bigSep Finset.univ (homeW c arg3 XW) ⊢ own (F := F) c arg3 XW from owns_of_rects (c : Thread nD τ) arg3 fullShare colW (fun _ _ => rfl) colW_disj colW_cover XW) $$ A
  · iapply (show bigSep Finset.univ (homeS c arg4 XS) ⊢ own (F := F) c arg4 XS from owns_of_rects (c : Thread nD τ) arg4 fullShare colS (fun _ _ => rfl) colS_disj colS_cover XS) $$ B

/-- The first three chunks apart from the rest. -/
theorem homes_first : bigSep Finset.univ (home c arg3 arg4 XW XS) ⊢
    iprop(home c arg3 arg4 XW XS 0 ∗ home c arg3 arg4 XW XS 1 ∗ home c arg3 arg4 XW XS 2 ∗ homes (F := F) c arg3 arg4 XW XS 0) := by
  have hu : (Finset.univ : Finset (Fin 25)) = insert 0 (insert 1 (insert 2 (away 0))) := by decide
  rw [hu, bigSep_ins (by decide), bigSep_ins (by decide), bigSep_ins (by decide)]

theorem homes_end : homes (F := F) c arg3 arg4 XW XS 25 ⊢ bigSep Finset.univ (home c arg3 arg4 XW XS) := by
  have hu : away 25 = (Finset.univ : Finset (Fin 25)) := by decide
  unfold homes
  rw [hu]
end Cols

end Cert.KernelIdeal.Run
-- ==== Proof.Run.Body.lean ====
/-
  THE BODY as a function of the contents of its buffers: what each part leaves, and the whole.
-/
module

public import proofs.«01_k».proof.Proof.Run.Split

@[expose] public section

noncomputable section

namespace Cert.KernelIdeal.Run

open Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

/-! ## What the parts leave -/

/-- The table of ancestors. -/
def ancAll (X0 : S3x42.Idx → BitVec 32) (J : S128x128.Idx → Elt F .f32) : S128x128.Idx → Elt F .f32 :=
  (iterF (fun (k : Fin k0_t1_loop.trips) (p : (S128x128.Idx → Elt F .f32) × PUnit) => (ancTripF iota36 X0 k p.1, ⟨⟩)) (setAll J (same128 zero128), ⟨⟩) k0_t1_loop.trips).1

/-- The first tree's codes, values and scales; the second's and the third's. -/
def quantA (Xin : S3x42x6656.Idx → Elt F .bf16) (s : QState F) : QState F × FVec F S42x128 .f32 :=
  iterF (fun k p => quantF iota46 (k0_off13 k) (k0_off13_inb k) (k0_off14 k) (Scf.iv 0#32 1#32 k) Xin p) (s, zero42) k0_t2_loop.trips
def quantB (Xin : S3x42x6656.Idx → Elt F .bf16) (s : QState F) : QState F × FVec F S42x128 .f32 :=
  iterF (fun k p => quantF iota46 (k0_off15 k) (k0_off15_inb k) (k0_off16 k) (Scf.iv 0#32 1#32 k) Xin p) (s, zero42) k0_t3_loop.trips
def quantC (Xin : S3x42x6656.Idx → Elt F .bf16) (s : QState F) : QState F × FVec F S42x128 .f32 :=
  iterF (fun k p => quantF iota46 (k0_off17 k) (k0_off17_inb k) (k0_off18 k) (Scf.iv 0#32 1#32 k) Xin p) (s, zero42) k0_t4_loop.trips

def setScale (b : Fin 3) (v : FVec F S42x128 .f32) (X : S3x42x52.Idx → Elt F .f32) : S3x42x52.Idx → Elt F .f32 :=
  upd (s := S3x42x52) ![b.val, 0, 0] S1x42x52.size X (up52 (cols52 v))
def padXf (X : S128x6656.Idx → Elt F .f32) : S128x6656.Idx → Elt F .f32 := upd (s := S128x6656) ![126, 0] S2x6656.size X zeroPad

/-- The codes, values and scales of the three trees. -/
def quant1 (Xin : S3x42x6656.Idx → Elt F .bf16) (J9 : S3x42x6656.Idx → Elt F .fp8e4m3) (J13 : S128x6656.Idx → Elt F .f32) := quantA Xin (J9, padXf J13)
def quant2 (Xin : S3x42x6656.Idx → Elt F .bf16) (J9 : S3x42x6656.Idx → Elt F .fp8e4m3) (J13 : S128x6656.Idx → Elt F .f32) := quantB Xin (quant1 Xin J9 J13).1
def quant3 (Xin : S3x42x6656.Idx → Elt F .bf16) (J9 : S3x42x6656.Idx → Elt F .fp8e4m3) (J13 : S128x6656.Idx → Elt F .f32) := quantC Xin (quant2 Xin J9 J13).1
def scalesAll (Xin : S3x42x6656.Idx → Elt F .bf16) (J9 : S3x42x6656.Idx → Elt F .fp8e4m3) (J13 : S128x6656.Idx → Elt F .f32) (J10 : S3x42x52.Idx → Elt F .f32) :
    S3x42x52.Idx → Elt F .f32 :=
  setScale 2 (quant3 Xin J9 J13).2 (setScale 1 (quant2 Xin J9 J13).2 (setScale 0 (quant1 Xin J9 J13).2 J10))

/-- The activations as 16-bit floats. -/
def xwAll (xf : S128x6656.Idx → Elt F .f32) (J14 : S128x6656.Idx → Elt F .bf16) : S128x6656.Idx → Elt F .bf16 :=
  castF xf 12 <| castF xf 11 <| castF xf 10 <| castF xf 9 <| castF xf 8 <| castF xf 7 <| castF xf 6 <| castF xf 5 <| castF xf 4 <| castF xf 3 <| castF xf 2 <| castF xf 1 <| castF xf 0 J14

/-- The running sums' first values. -/
def stats0 (st : Stats F) : Stats F := (setAll st.1 negBig, setAll st.2.1 (same128 zero128), setAll st.2.2 (same128 zero128))

/-- The four results, from the statistics and the scores. -/
def picksAll (X0 X1 : S3x42.Idx → BitVec 32) (hok : PickOk X0 X1) (z : S250x128x128.Idx → Elt F .f32) (st : Stats F) (J20 J21 J22 J23 : S128x128.Idx → Elt F .f32) :
    (S128x128.Idx → Elt F .f32) × (S128x128.Idx → Elt F .f32) :=
  all126.foldl (fun p i => pickF X0 X1 hok z (setAll J22 (same128 (spread (rlse (getAll st.1) (getAll st.2.1)))))
    (setAll J23 (same128 (spread (rent (getAll st.1) (getAll st.2.1) (getAll st.2.2))))) i p) (setPad J20, setPad J21)
def outsAll (X0 X1 : S3x42.Idx → BitVec 32) (hok : PickOk X0 X1) (z : S250x128x128.Idx → Elt F .f32) (st : Stats F) (anc : S128x128.Idx → Elt F .f32)
    (J20 J21 J22 J23 : S128x128.Idx → Elt F .f32) (o : Outs F) : Outs F :=
  outsF (lastF (rent (getAll st.1) (getAll st.2.1) (getAll st.2.2)) (picksAll X0 X1 hok z st J20 J21 J22 J23).1 (picksAll X0 X1 hok z st J20 J21 J22 J23).2 anc) o

/-! ## The parts -/

section Parts
variable (c : Dev nD) {α : Type}

theorem W_bind {β : Type} (p : TP F β) (K : β → TP F α) (Q : α → SP F) : W c p (fun a => W c (K a) Q) ⊢ W c (bind p K) Q := by
  unfold W; rw [wp_bind]

variable (arg0 arg1 : Memref sig .tc .smem S3x42 .i32) (arg2 : Memref sig .tc .vmem S3x42x6656 .bf16)
  (arg3 : Memref sig .tc .hbm S6656x32000 .fp8e4m3) (harg3 : arg3.IsWhole) (arg4 : Memref sig .tc .hbm S52x32000 .f32)
  (arg5 arg6 arg7 arg8 : Memref sig .tc .vmem S3x42 .f32) (arg9 : Memref sig .tc .vmem S3x42x6656 .fp8e4m3) (harg9 : arg9.IsWhole)
  (arg10 : Memref sig .tc .vmem S3x42x52 .f32) (arg11 : Memref sig .tc .vmem S3x6656x1280 .fp8e4m3) (harg11 : arg11.IsWhole)
  (arg12 : Memref sig .tc .vmem S3x52x1280 .f32) (arg13 : Memref sig .tc .vmem S128x6656 .f32) (arg14 : Memref sig .tc .vmem S128x6656 .bf16) (harg14 : arg14.IsWhole)
  (arg15 : Memref sig .tc .vmem S250x128x128 .f32) (arg16 arg17 arg18 arg19 arg20 arg21 arg22 arg23 : Memref sig .tc .vmem S128x128 .f32)
  (arg24 arg25 : DmaSems sig S3)
  (X0 X1 : S3x42.Idx → BitVec 32) (Xin : S3x42x6656.Idx → Elt F .bf16) (XW : S6656x32000.Idx → Elt F .fp8e4m3) (XS : S52x32000.Idx → Elt F .f32)

theorem own_prolog (Q : PUnit → SP F) :
    iprop((homeW c arg3 XW 0 ∗ restW c arg11 arg24 0) ∗ (homeS c arg4 XS 0 ∗ restS c arg12 arg25 0) ∗ (homeW c arg3 XW 1 ∗ restW c arg11 arg24 1)
        ∗ (homeS c arg4 XS 1 ∗ restS c arg12 arg25 1) ∗ (homeW c arg3 XW 2 ∗ restW c arg11 arg24 2)) ⊢
      iprop((iprop(flyW c arg3 arg11 arg24 XW 0 0 ∗ flyS c arg4 arg12 arg25 XS 0 0 ∗ flyW c arg3 arg11 arg24 XW 1 1 ∗ flyS c arg4 arg12 arg25 XS 1 1
          ∗ flyW c arg3 arg11 arg24 XW 2 2) -∗ Q ⟨⟩)
        -∗ W c (prologP arg3 harg3 arg4 arg11 harg11 arg12 arg24 arg25) Q) := by
  unfold prologP
  iintro ⟨A, B, C, D, E⟩ HQ
  iapply (own_copyW c arg3 harg3 arg11 harg11 arg24 XW 0 0 rfl (k0_off2_eq 0) (k0_off1_eq 0) _) $$ A
  iintro A
  iapply (own_copyS c arg4 arg12 arg25 XS 0 0 rfl (k0_off3_eq 0) (k0_off1_eq 0) _) $$ B
  iintro B
  iapply (own_copyW c arg3 harg3 arg11 harg11 arg24 XW 1 1 rfl (k0_off2_eq 1) (k0_off1_eq 1) _) $$ C
  iintro C
  iapply (own_copyS c arg4 arg12 arg25 XS 1 1 rfl (k0_off3_eq 1) (k0_off1_eq 1) _) $$ D
  iintro D
  iapply (own_copyW c arg3 harg3 arg11 harg11 arg24 XW 2 2 rfl (k0_off2_eq 2) (k0_off1_eq 2) _) $$ E
  iintro E
  iapply (W_ret c _)
  iapply HQ
  isplitl [A]; · iexact A
  isplitl [B]; · iexact B
  isplitl [C]; · iexact C
  isplitl [D]; · iexact D
  iexact E

theorem own_ancQuant (hok : AncOk X0) (J19 : S128x128.Idx → Elt F .f32) (J9 : S3x42x6656.Idx → Elt F .fp8e4m3) (J13 : S128x6656.Idx → Elt F .f32)
    (J10 : S3x42x52.Idx → Elt F .f32) (Q : (Σ' (v46 : IVec S42x128 32), FVec F S42x52 .f32) → SP F) :
    iprop((homeS c arg4 XS 2 ∗ restS c arg12 arg25 2) ∗ own (F := F) c arg0 X0 ∗ own c arg19 J19 ∗ own c arg2 Xin ∗ own c arg9 J9 ∗ own c arg13 J13 ∗ own c arg10 J10) ⊢
      iprop((iprop(flyS c arg4 arg12 arg25 XS 2 2 ∗ own (F := F) c arg0 X0 ∗ own c arg19 (ancAll X0 J19) ∗ own c arg2 Xin ∗ own c arg9 (quant2 Xin J9 J13).1.1
          ∗ own c arg13 (quant2 Xin J9 J13).1.2 ∗ own c arg10 (setScale 0 (quant1 Xin J9 J13).2 J10)) -∗ Q ⟨iota46, cols52 (quant2 Xin J9 J13).2⟩)
        -∗ W c (ancQuantP arg0 arg2 arg4 arg9 harg9 arg10 arg12 arg13 arg19 arg25) Q) := by
  have key : ∀ a, a = (⟨iota46, cols52 (quant2 Xin J9 J13).2⟩ : Σ' (v46 : IVec S42x128 32), FVec F S42x52 .f32) → Q ⟨iota46, cols52 (quant2 Xin J9 J13).2⟩ ⊢ W c (.ret a) Q := by
    intro a ha; rw [ha]; exact W_ret c _
  unfold ancQuantP
  iintro ⟨HS, H0, H19, H2, H9, H13, H10⟩ HQ
  iapply (own_copyS c arg4 arg12 arg25 XS 2 2 rfl (k0_off3_eq 2) (k0_off1_eq 2) _) $$ HS
  iintro HS
  iapply (own_st c arg19 ![0, 0] S128x128.size _ h_S128x128 J19 _ _) $$ H19
  iintro H19
  iapply (W_loop c k0_t1_loop k0_t1_ok (⟨⟩ : PUnit) (fun k _ => ancP arg0 arg19 iota36 k) (fun Y => iprop(own (F := F) c arg0 X0 ∗ own c arg19 Y))
    (fun (k : Fin k0_t1_loop.trips) (p : (S128x128.Idx → Elt F .f32) × PUnit) => (ancTripF iota36 X0 k p.1, ⟨⟩))
    (fun k p Q' => own_ancP c arg0 arg19 X0 _ k hok p.1 Q') (setAll J19 (same128 zero128)) _) $$ [H0 H19]
  · isplitl [H0]; · iexact H0
    iexact H19
  iintro ⟨H0, H19⟩
  iapply (own_st c arg13 ![126, 0] S2x6656.size _ h_S2x6656 J13 _ _) $$ H13
  iintro H13
  iapply (W_loop c k0_t2_loop k0_t2_ok (zero42 (F := F)) (fun k acc => quantP arg2 arg9 harg9 arg13 iota46 (k0_off13 k) (k0_off13_inb k) (k0_off13_tilesfp8e4m3 k) (k0_off14 k) (k0_off14_inb k) (Scf.iv 0#32 1#32 k) acc)
    (fun s : QState F => iprop(own c arg2 Xin ∗ own c arg9 s.1 ∗ own c arg13 s.2))
    (fun k p => quantF iota46 (k0_off13 k) (k0_off13_inb k) (k0_off14 k) (Scf.iv 0#32 1#32 k) Xin p)
    (fun k p Q' => own_quant c arg2 arg9 harg9 arg13 Xin iota46 _ _ _ _ _ _ p Q') (J9, padXf J13) _) $$ [H2 H9 H13]
  · isplitl [H2]; · iexact H2
    isplitl [H9]; · iexact H9
    iexact H13
  iintro ⟨H2, H9, H13⟩
  iapply (own_st c arg10 ![0, 0, 0] S1x42x52.size _ h_S1x42x52 J10 _ _) $$ H10
  iintro H10
  iapply (W_loop c k0_t3_loop k0_t3_ok (zero42 (F := F)) (fun k acc => quantP arg2 arg9 harg9 arg13 iota46 (k0_off15 k) (k0_off15_inb k) (k0_off15_tilesfp8e4m3 k) (k0_off16 k) (k0_off16_inb k) (Scf.iv 0#32 1#32 k) acc)
    (fun s : QState F => iprop(own c arg2 Xin ∗ own c arg9 s.1 ∗ own c arg13 s.2))
    (fun k p => quantF iota46 (k0_off15 k) (k0_off15_inb k) (k0_off16 k) (Scf.iv 0#32 1#32 k) Xin p)
    (fun k p Q' => own_quant c arg2 arg9 harg9 arg13 Xin iota46 _ _ _ _ _ _ p Q') (quant1 Xin J9 J13).1 _) $$ [H2 H9 H13]
  · isplitl [H2]; · iexact H2
    isplitl [H9]; · iexact H9
    iexact H13
  iintro ⟨H2, H9, H13⟩
  iapply (key _ rfl)
  iapply HQ
  isplitl [HS]; · iexact HS
  isplitl [H0]; · iexact H0
  isplitl [H19]; · iexact H19
  isplitl [H2]; · iexact H2
  isplitl [H9]; · iexact H9
  isplitl [H13]; · iexact H13
  iexact H10

theorem own_quantCast (J9 : S3x42x6656.Idx → Elt F .fp8e4m3) (J13 : S128x6656.Idx → Elt F .f32)
    (J10 : S3x42x52.Idx → Elt F .f32) (J14 : S128x6656.Idx → Elt F .bf16) (Q : FVec F S128x512 .bf16 → SP F) :
    iprop(own c arg2 Xin ∗ own c arg9 (quant2 Xin J9 J13).1.1 ∗ own c arg13 (quant2 Xin J9 J13).1.2 ∗ own c arg10 (setScale 0 (quant1 Xin J9 J13).2 J10) ∗ own c arg14 J14) ⊢
      iprop((iprop(own c arg2 Xin ∗ own c arg9 (quant3 Xin J9 J13).1.1 ∗ own c arg13 (quant3 Xin J9 J13).1.2 ∗ own c arg10 (scalesAll Xin J9 J13 J10)
          ∗ own c arg14 (castF (quant3 Xin J9 J13).1.2 2 <| castF (quant3 Xin J9 J13).1.2 1 <| castF (quant3 Xin J9 J13).1.2 0 J14)) -∗ Q (castBlk (quant3 Xin J9 J13).1.2 3))
        -∗ W c (quantCastP arg2 arg9 harg9 arg10 arg13 arg14 harg14 iota46 (cols52 (quant2 Xin J9 J13).2)) Q) := by
  unfold quantCastP
  iintro ⟨H2, H9, H13, H10, H14⟩ HQ
  iapply (own_st c arg10 ![1, 0, 0] S1x42x52.size _ h_S1x42x52 _ _ _) $$ H10
  iintro H10
  iapply (W_loop c k0_t4_loop k0_t4_ok (zero42 (F := F)) (fun k acc => quantP arg2 arg9 harg9 arg13 iota46 (k0_off17 k) (k0_off17_inb k) (k0_off17_tilesfp8e4m3 k) (k0_off18 k) (k0_off18_inb k) (Scf.iv 0#32 1#32 k) acc)
    (fun s : QState F => iprop(own c arg2 Xin ∗ own c arg9 s.1 ∗ own c arg13 s.2))
    (fun k p => quantF iota46 (k0_off17 k) (k0_off17_inb k) (k0_off18 k) (Scf.iv 0#32 1#32 k) Xin p)
    (fun k p Q' => own_quant c arg2 arg9 harg9 arg13 Xin iota46 _ _ _ _ _ _ p Q') (quant2 Xin J9 J13).1 _) $$ [H2 H9 H13]
  · isplitl [H2]; · iexact H2
    isplitl [H9]; · iexact H9
    iexact H13
  iintro ⟨H2, H9, H13⟩
  iapply (own_st c arg10 ![2, 0, 0] S1x42x52.size _ h_S1x42x52 _ _ _) $$ H10
  iintro H10
  iapply (own_cast c arg13 arg14 harg14 (quant3 Xin J9 J13).1.2 0 J14 _) $$ [H13 H14]
  · isplitl [H13]; · iexact H13
    iexact H14
  iintro H
  iapply (own_cast c arg13 arg14 harg14 (quant3 Xin J9 J13).1.2 1 _ _) $$ H
  iintro H
  iapply (own_cast c arg13 arg14 harg14 (quant3 Xin J9 J13).1.2 2 _ _) $$ H
  iintro H
  iapply (own_castLd c arg13 arg14 (quant3 Xin J9 J13).1.2 3 _ _) $$ H
  iintro ⟨H13, H14⟩
  iapply (W_ret c _)
  iapply HQ
  isplitl [H2]; · iexact H2
  isplitl [H9]; · iexact H9
  isplitl [H13]; · iexact H13
  isplitl [H10]; · iexact H10
  iexact H14

theorem own_casts (xf : S128x6656.Idx → Elt F .f32) (Y : S128x6656.Idx → Elt F .bf16) (Q : FVec F S128x512 .bf16 → SP F) :
    iprop(own c arg13 xf ∗ own c arg14 Y) ⊢
      iprop((iprop(own c arg13 xf ∗ own c arg14 (castF xf 8 <| castF xf 7 <| castF xf 6 <| castF xf 5 <| castF xf 4 <| castF xf 3 Y)) -∗ Q (castBlk xf 9))
        -∗ W c (castsP arg13 arg14 harg14 (castBlk xf 3)) Q) := by
  unfold castsP
  iintro H HQ
  iapply (own_castSt c arg13 arg14 harg14 xf 3 _ _) $$ H
  iintro H
  iapply (own_cast c arg13 arg14 harg14 xf 4 _ _) $$ H
  iintro H
  iapply (own_cast c arg13 arg14 harg14 xf 5 _ _) $$ H
  iintro H
  iapply (own_cast c arg13 arg14 harg14 xf 6 _ _) $$ H
  iintro H
  iapply (own_cast c arg13 arg14 harg14 xf 7 _ _) $$ H
  iintro H
  iapply (own_cast c arg13 arg14 harg14 xf 8 _ _) $$ H
  iintro H
  iapply (own_castLd c arg13 arg14 xf 9 _ _) $$ H
  iintro H
  iapply (W_ret c _)
  iapply HQ
  iexact H

theorem own_init (xf : S128x6656.Idx → Elt F .f32) (Y : S128x6656.Idx → Elt F .bf16) (st : Stats F) (K : TP F α) (Q : α → SP F) :
    iprop((own c arg13 xf ∗ own c arg14 Y) ∗ own c arg16 st.1 ∗ own c arg17 st.2.1 ∗ own c arg18 st.2.2) ⊢
      iprop((iprop((own c arg13 xf ∗ own c arg14 (castF xf 12 <| castF xf 11 <| castF xf 10 <| castF xf 9 Y)) ∗ own c arg16 (stats0 st).1 ∗ own c arg17 (stats0 st).2.1
          ∗ own c arg18 (stats0 st).2.2) -∗ W c K Q)
        -∗ W c (initK arg13 arg14 harg14 arg16 arg17 arg18 (castBlk xf 9) K) Q) := by
  unfold initK
  iintro ⟨H, H16, H17, H18⟩ HQ
  iapply (own_castSt c arg13 arg14 harg14 xf 9 _ _) $$ H
  iintro H
  iapply (own_cast c arg13 arg14 harg14 xf 10 _ _) $$ H
  iintro H
  iapply (own_cast c arg13 arg14 harg14 xf 11 _ _) $$ H
  iintro H
  iapply (own_cast c arg13 arg14 harg14 xf 12 _ _) $$ H
  iintro H
  iapply (own_st c arg16 ![0, 0] S128x128.size _ h_S128x128 st.1 _ _) $$ H16
  iintro H16
  iapply (own_st c arg17 ![0, 0] S128x128.size _ h_S128x128 st.2.1 _ _) $$ H17
  iintro H17
  iapply (own_st c arg18 ![0, 0] S128x128.size _ h_S128x128 st.2.2 _ _) $$ H18
  iintro H18
  iapply HQ
  isplitl [H]; · iexact H
  isplitl [H16]; · iexact H16
  isplitl [H17]; · iexact H17
  iexact H18

/-- The chunk loop. -/
theorem own_chunks (X : S128x6656.Idx → Elt F .bf16) (p : CState F) (K : PUnit → TP F α) (Q : α → SP F) :
    chunkInv c arg3 arg4 arg11 arg12 arg14 arg15 arg16 arg17 arg18 arg24 arg25 XW XS X p 0 ⊢
      iprop((chunkInv c arg3 arg4 arg11 arg12 arg14 arg15 arg16 arg17 arg18 arg24 arg25 XW XS X p 25 -∗ W c (K ⟨⟩) Q)
        -∗ W c (bind (Scf.Loop.for k0_t5_loop k0_t5_ok ⟨⟩ fun k _ =>
    chunkP arg3 harg3 arg4 arg11 harg11 arg12 arg14 arg15 arg16 arg17 arg18 arg24 arg25 k) K) Q) := by
  iintro H HK
  iapply (Scf.wp_for_bind frame (wpE (defs₀ (F := F)) 𝒱₀ (c : Thread nD τ) none) Set.univ k0_t5_loop.lb k0_t5_loop.ub k0_t5_loop.st k0_t5_ok (⟨⟩ : PUnit) _
    (fun k _ => chunkInv c arg3 arg4 arg11 arg12 arg14 arg15 arg16 arg17 arg18 arg24 arg25 XW XS X p k) ?_) $$ H
  · intro k acc
    iintro H
    iapply (own_chunk c arg3 harg3 arg4 arg11 harg11 arg12 arg14 arg15 arg16 arg17 arg18 arg24 arg25 XW XS X p k _) $$ H
    iintro H
    iexact H
  iintro %acc H
  iapply HK
  rw [show Scf.trips k0_t5_loop.lb k0_t5_loop.ub k0_t5_loop.st = 25 from trips5]
  iexact H

abbrev tailIn (z : S250x128x128.Idx → Elt F .f32) (st : Stats F) (anc J20 J21 J22 J23 : S128x128.Idx → Elt F .f32) (o : Outs F) : SP F :=
  iprop(own (F := F) c arg0 X0 ∗ own (F := F) c arg1 X1 ∗ own c arg15 z ∗ own c arg16 st.1 ∗ own c arg17 st.2.1 ∗ own c arg18 st.2.2 ∗ own c arg19 anc
    ∗ own c arg20 J20 ∗ own c arg21 J21 ∗ own c arg22 J22 ∗ own c arg23 J23 ∗ outIn c arg5 arg6 arg7 arg8 o)

theorem own_tail (hok : PickOk X0 X1) (z : S250x128x128.Idx → Elt F .f32) (st : Stats F) (anc J20 J21 J22 J23 : S128x128.Idx → Elt F .f32) (o : Outs F) (Q : PUnit → SP F) :
    tailIn c arg0 arg1 arg5 arg6 arg7 arg8 arg15 arg16 arg17 arg18 arg19 arg20 arg21 arg22 arg23 X0 X1 z st anc J20 J21 J22 J23 o ⊢
      iprop((iprop(∃ J20' J21' J22' J23', tailIn c arg0 arg1 arg5 arg6 arg7 arg8 arg15 arg16 arg17 arg18 arg19 arg20 arg21 arg22 arg23 X0 X1 z st anc J20' J21' J22' J23'
          (outsAll X0 X1 hok z st anc J20 J21 J22 J23 o)) -∗ Q ⟨⟩)
        -∗ W c (tailP arg0 arg1 arg5 arg6 arg7 arg8 arg15 arg16 arg17 arg18 arg19 arg20 arg21 arg22 arg23) Q) := by
  unfold tailP
  iintro ⟨H0, H1, HZ, H16, H17, H18, H19, H20, H21, H22, H23, HO⟩ HQ
  iapply (own_reduce c arg16 arg17 arg18 arg20 arg21 arg22 arg23 st J20 J21 J22 J23 _) $$ [H16 H17 H18 H20 H21 H22 H23]
  · isplitl [H16]; · iexact H16
    isplitl [H17]; · iexact H17
    isplitl [H18]; · iexact H18
    isplitl [H20]; · iexact H20
    isplitl [H21]; · iexact H21
    isplitl [H22]; · iexact H22
    iexact H23
  iintro ⟨H16, H17, H18, H20, H21, H22, H23⟩
  iapply (W_seqK c _ (fun p => pickIn c arg0 arg1 arg15 arg20 arg21 arg22 arg23 X0 X1 z (setAll J22 (same128 (spread (rlse (getAll st.1) (getAll st.2.1)))))
      (setAll J23 (same128 (spread (rent (getAll st.1) (getAll st.2.1) (getAll st.2.2))))) p) _
    (fun i p K => own_pick c arg0 arg1 arg15 arg20 arg21 arg22 arg23 X0 X1 hok z _ _ i p K) _ all126 (setPad J20, setPad J21)) $$ [H0 H1 HZ H22 H23 H20 H21]
  · isplitl [H0]; · iexact H0
    isplitl [H1]; · iexact H1
    isplitl [HZ]; · iexact HZ
    isplitl [H22]; · iexact H22
    isplitl [H23]; · iexact H23
    isplitl [H20]; · iexact H20
    iexact H21
  iintro ⟨H0, H1, HZ, H22, H23, H20, H21⟩
  iapply (own_finish c arg5 arg6 arg7 arg8 arg19 arg20 arg21 (rent (getAll st.1) (getAll st.2.1) (getAll st.2.2)) (picksAll X0 X1 hok z st J20 J21 J22 J23).1
    (picksAll X0 X1 hok z st J20 J21 J22 J23).2 anc o _) $$ [HO H20 H21 H19]
  · isplitl [HO]; · iexact HO
    isplitl [H20]; · iexact H20
    isplitl [H21]; · iexact H21
    iexact H19
  iintro ⟨HO, H20, H21, H19⟩
  iapply (W_ret c _)
  iapply HQ
  iexists _, _, _, _
  isplitl [H0]; · iexact H0
  isplitl [H1]; · iexact H1
  isplitl [HZ]; · iexact HZ
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact HO
end Parts

end Cert.KernelIdeal.Run
-- ==== Proof.Run.EqA.lean ====
/-
  THE PROGRAM BEFORE THE CHUNK LOOP IS THE ROLLED ONE
-/
module

public import proofs.«01_k».proof.Proof.Run.Head

@[expose] public section

set_option maxHeartbeats 40000000
set_option maxRecDepth 100000

noncomputable section

namespace Cert.KernelIdeal.Run

open Idealize.ShloMosaic Idealize.SL.Sem
open Facts₀ Facts

variable {F : FTy → Type} [FloatOps F] [Named F]

section
variable (arg0 : Memref sig .tc .smem S3x42 .i32) (harg0 : arg0.IsWhole) (arg1 : Memref sig .tc .smem S3x42 .i32) (harg1 : arg1.IsWhole) (arg2 : Memref sig .tc .vmem S3x42x6656 .bf16) (harg2 : arg2.IsWhole) (arg3 : Memref sig .tc .hbm S6656x32000 .fp8e4m3) (harg3 : arg3.IsWhole) (arg4 : Memref sig .tc .hbm S52x32000 .f32) (harg4 : arg4.IsWhole) (arg5 : Memref sig .tc .vmem S3x42 .f32) (harg5 : arg5.IsWhole) (arg6 : Memref sig .tc .vmem S3x42 .f32) (harg6 : arg6.IsWhole) (arg7 : Memref sig .tc .vmem S3x42 .f32) (harg7 : arg7.IsWhole) (arg8 : Memref sig .tc .vmem S3x42 .f32) (harg8 : arg8.IsWhole) (arg9 : Memref sig .tc .vmem S3x42x6656 .fp8e4m3) (harg9 : arg9.IsWhole) (arg10 : Memref sig .tc .vmem S3x42x52 .f32) (harg10 : arg10.IsWhole) (arg11 : Memref sig .tc .vmem S3x6656x1280 .fp8e4m3) (harg11 : arg11.IsWhole) (arg12 : Memref sig .tc .vmem S3x52x1280 .f32) (harg12 : arg12.IsWhole) (arg13 : Memref sig .tc .vmem S128x6656 .f32) (harg13 : arg13.IsWhole) (arg14 : Memref sig .tc .vmem S128x6656 .bf16) (harg14 : arg14.IsWhole) (arg15 : Memref sig .tc .vmem S250x128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S128x128 .f32) (harg22 : arg22.IsWhole) (arg23 : Memref sig .tc .vmem S128x128 .f32) (harg23 : arg23.IsWhole) (arg24 : DmaSems sig S3) (arg25 : DmaSems sig S3)

theorem part122_eq : k0_part122 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 = prologP arg3 harg3 arg4 arg11 harg11 arg12 arg24 arg25 := by rfl

theorem part123_eq : k0_part123 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 =
    ancQuantP arg0 arg2 arg4 arg9 harg9 arg10 arg12 arg13 arg19 arg25 := by rfl

theorem part124_eq (v46 : IVec S42x128 32) (v57 : FVec F S42x52 .f32) : k0_part124 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v46 v57 =
    quantCastP arg2 arg9 harg9 arg10 arg13 arg14 harg14 v46 v57 := by rfl

theorem part125_eq (v87 : FVec F S128x512 .bf16) : k0_part125 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v87 = castsP arg13 arg14 harg14 v87 := by rfl
end

end Cert.KernelIdeal.Run
-- ==== Proof.Run.EqB.lean ====
/-
  THE CHUNK LOOP IS THE ROLLED ONE
-/
module

public import proofs.«01_k».proof.Proof.Run.Head

@[expose] public section

set_option maxHeartbeats 40000000
set_option maxRecDepth 100000

noncomputable section

namespace Cert.KernelIdeal.Run

open Idealize.ShloMosaic Idealize.SL.Sem
open Facts₀ Facts

variable {F : FTy → Type} [FloatOps F] [Named F]

section
variable (arg0 : Memref sig .tc .smem S3x42 .i32) (harg0 : arg0.IsWhole) (arg1 : Memref sig .tc .smem S3x42 .i32) (harg1 : arg1.IsWhole) (arg2 : Memref sig .tc .vmem S3x42x6656 .bf16) (harg2 : arg2.IsWhole) (arg3 : Memref sig .tc .hbm S6656x32000 .fp8e4m3) (harg3 : arg3.IsWhole) (arg4 : Memref sig .tc .hbm S52x32000 .f32) (harg4 : arg4.IsWhole) (arg5 : Memref sig .tc .vmem S3x42 .f32) (harg5 : arg5.IsWhole) (arg6 : Memref sig .tc .vmem S3x42 .f32) (harg6 : arg6.IsWhole) (arg7 : Memref sig .tc .vmem S3x42 .f32) (harg7 : arg7.IsWhole) (arg8 : Memref sig .tc .vmem S3x42 .f32) (harg8 : arg8.IsWhole) (arg9 : Memref sig .tc .vmem S3x42x6656 .fp8e4m3) (harg9 : arg9.IsWhole) (arg10 : Memref sig .tc .vmem S3x42x52 .f32) (harg10 : arg10.IsWhole) (arg11 : Memref sig .tc .vmem S3x6656x1280 .fp8e4m3) (harg11 : arg11.IsWhole) (arg12 : Memref sig .tc .vmem S3x52x1280 .f32) (harg12 : arg12.IsWhole) (arg13 : Memref sig .tc .vmem S128x6656 .f32) (harg13 : arg13.IsWhole) (arg14 : Memref sig .tc .vmem S128x6656 .bf16) (harg14 : arg14.IsWhole) (arg15 : Memref sig .tc .vmem S250x128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S128x128 .f32) (harg22 : arg22.IsWhole) (arg23 : Memref sig .tc .vmem S128x128 .f32) (harg23 : arg23.IsWhole) (arg24 : DmaSems sig S3) (arg25 : DmaSems sig S3)

/-- The last casts, the running sums' first values, and the chunk loop. -/
def chunksP (v117 : FVec F S128x512 .bf16) : TP F PUnit :=
  initK arg13 arg14 harg14 arg16 arg17 arg18 v117 <|
  bind (Scf.Loop.for k0_t5_loop k0_t5_ok ⟨⟩ fun k _ =>
    chunkP arg3 harg3 arg4 arg11 harg11 arg12 arg14 arg15 arg16 arg17 arg18 arg24 arg25 k) fun _ => .ret ⟨⟩

theorem part126_eq (v117 : FVec F S128x512 .bf16) : k0_part126 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v117 =
    chunksP arg3 harg3 arg4 arg11 harg11 arg12 arg13 arg14 harg14 arg15 arg16 arg17 arg18 arg24 arg25 v117 := by rfl
end

end Cert.KernelIdeal.Run
-- ==== Proof.Run.EqC.lean ====
/-
  THE PROGRAM AFTER THE CHUNK LOOP IS THE ROLLED ONE
-/
module

public import proofs.«01_k».proof.Proof.Run.Head

@[expose] public section

set_option maxHeartbeats 40000000
set_option maxRecDepth 100000

noncomputable section

namespace Cert.KernelIdeal.Run

open Idealize.ShloMosaic Idealize.SL.Sem
open Facts₀ Facts

variable {F : FTy → Type} [FloatOps F] [Named F]

section
variable (arg0 : Memref sig .tc .smem S3x42 .i32) (harg0 : arg0.IsWhole) (arg1 : Memref sig .tc .smem S3x42 .i32) (harg1 : arg1.IsWhole) (arg2 : Memref sig .tc .vmem S3x42x6656 .bf16) (harg2 : arg2.IsWhole) (arg3 : Memref sig .tc .hbm S6656x32000 .fp8e4m3) (harg3 : arg3.IsWhole) (arg4 : Memref sig .tc .hbm S52x32000 .f32) (harg4 : arg4.IsWhole) (arg5 : Memref sig .tc .vmem S3x42 .f32) (harg5 : arg5.IsWhole) (arg6 : Memref sig .tc .vmem S3x42 .f32) (harg6 : arg6.IsWhole) (arg7 : Memref sig .tc .vmem S3x42 .f32) (harg7 : arg7.IsWhole) (arg8 : Memref sig .tc .vmem S3x42 .f32) (harg8 : arg8.IsWhole) (arg9 : Memref sig .tc .vmem S3x42x6656 .fp8e4m3) (harg9 : arg9.IsWhole) (arg10 : Memref sig .tc .vmem S3x42x52 .f32) (harg10 : arg10.IsWhole) (arg11 : Memref sig .tc .vmem S3x6656x1280 .fp8e4m3) (harg11 : arg11.IsWhole) (arg12 : Memref sig .tc .vmem S3x52x1280 .f32) (harg12 : arg12.IsWhole) (arg13 : Memref sig .tc .vmem S128x6656 .f32) (harg13 : arg13.IsWhole) (arg14 : Memref sig .tc .vmem S128x6656 .bf16) (harg14 : arg14.IsWhole) (arg15 : Memref sig .tc .vmem S250x128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S128x128 .f32) (harg22 : arg22.IsWhole) (arg23 : Memref sig .tc .vmem S128x128 .f32) (harg23 : arg23.IsWhole) (arg24 : DmaSems sig S3) (arg25 : DmaSems sig S3)

theorem cc0_eq : cc0_medusa_accept (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 =
    bind (k0_part122 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25) fun _ => bind (k0_part123 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25) fun r =>
    bind (k0_part124 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 r.1 r.2) fun v87 => bind (k0_part125 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v87) fun v117 =>
    bind (k0_part126 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v117) fun _ =>
    tailP arg0 arg1 arg5 arg6 arg7 arg8 arg15 arg16 arg17 arg18 arg19 arg20 arg21 arg22 arg23 := by
  unfold cc0_medusa_accept k0_part266
  refine (Prog.bind_assoc _ _ _).trans (congrArg _ (funext fun _ => ?_))
  refine (Prog.bind_assoc _ _ _).trans (congrArg _ (funext fun _ => ?_))
  refine (Prog.bind_assoc _ _ _).trans (congrArg _ (funext fun _ => ?_))
  refine (Prog.bind_assoc _ _ _).trans (congrArg _ (funext fun _ => ?_))
  refine (Prog.bind_assoc _ _ _).trans (congrArg _ (funext fun _ => ?_))
  rfl
end

end Cert.KernelIdeal.Run
-- ==== Proof.Run.Whole.lean ====
/-
  THE WHOLE BODY, from its buffers at any contents to its buffers at the results.
-/
module

public import proofs.«01_k».proof.Proof.Run.Body
public import proofs.«01_k».proof.Proof.Run.EqA
public import proofs.«01_k».proof.Proof.Run.EqB
public import proofs.«01_k».proof.Proof.Run.EqC

@[expose] public section

noncomputable section

namespace Cert.KernelIdeal.Run

open Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

/-- What the buffers hold when the body starts, the ring's apart. -/
structure Junk (F : FTy → Type) where
  o : Outs F
  j9 : S3x42x6656.Idx → Elt F .fp8e4m3
  j10 : S3x42x52.Idx → Elt F .f32
  j13 : S128x6656.Idx → Elt F .f32
  j14 : S128x6656.Idx → Elt F .bf16
  j15 : S250x128x128.Idx → Elt F .f32
  st : Stats F
  j19 : S128x128.Idx → Elt F .f32
  j20 : S128x128.Idx → Elt F .f32
  j21 : S128x128.Idx → Elt F .f32
  j22 : S128x128.Idx → Elt F .f32
  j23 : S128x128.Idx → Elt F .f32

section
variable (X0 X1 : S3x42.Idx → BitVec 32) (Xin : S3x42x6656.Idx → Elt F .bf16) (XW : S6656x32000.Idx → Elt F .fp8e4m3) (XS : S52x32000.Idx → Elt F .f32) (j : Junk F)

def codesOf : S3x42x6656.Idx → Elt F .fp8e4m3 := (quant3 Xin j.j9 j.j13).1.1
def scalesOf : S3x42x52.Idx → Elt F .f32 := scalesAll Xin j.j9 j.j13 j.j10
def xfOf : S128x6656.Idx → Elt F .f32 := (quant3 Xin j.j9 j.j13).1.2
def xwOf : S128x6656.Idx → Elt F .bf16 := xwAll (xfOf Xin j) j.j14
def chunksOf : CState F := chunkIter XW XS (xwOf Xin j) (j.j15, stats0 j.st) 25
def outOf (hok : PickOk X0 X1) : Outs F :=
  outsAll X0 X1 hok (chunksOf Xin XW XS j).1 (chunksOf Xin XW XS j).2 (ancAll X0 j.j19) j.j20 j.j21 j.j22 j.j23 j.o
end

section
variable (c : Dev nD) (arg0 : Memref sig .tc .smem S3x42 .i32) (harg0 : arg0.IsWhole) (arg1 : Memref sig .tc .smem S3x42 .i32) (harg1 : arg1.IsWhole) (arg2 : Memref sig .tc .vmem S3x42x6656 .bf16) (harg2 : arg2.IsWhole) (arg3 : Memref sig .tc .hbm S6656x32000 .fp8e4m3) (harg3 : arg3.IsWhole) (arg4 : Memref sig .tc .hbm S52x32000 .f32) (harg4 : arg4.IsWhole) (arg5 : Memref sig .tc .vmem S3x42 .f32) (harg5 : arg5.IsWhole) (arg6 : Memref sig .tc .vmem S3x42 .f32) (harg6 : arg6.IsWhole) (arg7 : Memref sig .tc .vmem S3x42 .f32) (harg7 : arg7.IsWhole) (arg8 : Memref sig .tc .vmem S3x42 .f32) (harg8 : arg8.IsWhole) (arg9 : Memref sig .tc .vmem S3x42x6656 .fp8e4m3) (harg9 : arg9.IsWhole) (arg10 : Memref sig .tc .vmem S3x42x52 .f32) (harg10 : arg10.IsWhole) (arg11 : Memref sig .tc .vmem S3x6656x1280 .fp8e4m3) (harg11 : arg11.IsWhole) (arg12 : Memref sig .tc .vmem S3x52x1280 .f32) (harg12 : arg12.IsWhole) (arg13 : Memref sig .tc .vmem S128x6656 .f32) (harg13 : arg13.IsWhole) (arg14 : Memref sig .tc .vmem S128x6656 .bf16) (harg14 : arg14.IsWhole) (arg15 : Memref sig .tc .vmem S250x128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S128x128 .f32) (harg22 : arg22.IsWhole) (arg23 : Memref sig .tc .vmem S128x128 .f32) (harg23 : arg23.IsWhole) (arg24 : DmaSems sig S3) (arg25 : DmaSems sig S3)
  (X0 X1 : S3x42.Idx → BitVec 32) (Xin : S3x42x6656.Idx → Elt F .bf16) (XW : S6656x32000.Idx → Elt F .fp8e4m3) (XS : S52x32000.Idx → Elt F .f32)

/-- The semaphores of a ring at zero. -/
abbrev sems0 (a : DmaSems sig S3) : SP F :=
  iprop(semVal ((c : Thread nD τ), .dma (semAt a 0)) 0 ∗ semVal ((c : Thread nD τ), .dma (semAt a 1)) 0 ∗ semVal ((c : Thread nD τ), .dma (semAt a 2)) 0)

/-- The inputs, the results at given contents, the ring's buffers at any, the scratch buffers at given contents, the semaphores at zero. -/
abbrev bodyAt (o : Outs F) (j9 : S3x42x6656.Idx → Elt F .fp8e4m3) (j10 : S3x42x52.Idx → Elt F .f32) (j : Junk F) : SP F :=
  iprop((own (F := F) c arg0 X0 ∗ own (F := F) c arg1 X1 ∗ own c arg2 Xin ∗ own c arg3 XW ∗ own c arg4 XS) ∗ (outIn c arg5 arg6 arg7 arg8 o ∗ own c arg9 j9 ∗ own c arg10 j10)
    ∗ (∃ J, own (F := F) c arg11 J) ∗ (∃ J, own (F := F) c arg12 J) ∗ own c arg13 j.j13 ∗ own c arg14 j.j14 ∗ own c arg15 j.j15
    ∗ own c arg16 j.st.1 ∗ own c arg17 j.st.2.1 ∗ own c arg18 j.st.2.2 ∗ own c arg19 j.j19 ∗ own c arg20 j.j20 ∗ own c arg21 j.j21 ∗ own c arg22 j.j22 ∗ own c arg23 j.j23
    ∗ sems0 c arg24 ∗ sems0 c arg25 ∗ dues c)

theorem inSlot_lt (k : ℕ) (h : k < 25) : inSlot c arg3 arg4 arg11 arg12 arg24 arg25 XW XS k
    = iprop(flyW c arg3 arg11 arg24 XW ⟨k, h⟩ ⟨k % 3, by omega⟩ ∗ flyS c arg4 arg12 arg25 XS ⟨k, h⟩ ⟨k % 3, by omega⟩) := by
  unfold inSlot; rw [dif_pos h]
theorem inSlot_ge (k : ℕ) (h : ¬ k < 25) : inSlot c arg3 arg4 arg11 arg12 arg24 arg25 XW XS k
    = iprop(restW c arg11 arg24 ⟨k % 3, by omega⟩ ∗ restS c arg12 arg25 ⟨k % 3, by omega⟩) := by
  unfold inSlot; rw [dif_neg h]

theorem own_body (hanc : AncOk X0) (hok : PickOk X0 X1) (j : Junk F) (Q : PUnit → SP F) :
    bodyAt c arg0 arg1 arg2 arg3 arg4 arg5 arg6 arg7 arg8 arg9 arg10 arg11 arg12 arg13 arg14 arg15 arg16 arg17 arg18 arg19 arg20 arg21 arg22 arg23 arg24 arg25 X0 X1 Xin XW XS j.o j.j9 j.j10 j ⊢
      iprop((iprop(∃ j', bodyAt c arg0 arg1 arg2 arg3 arg4 arg5 arg6 arg7 arg8 arg9 arg10 arg11 arg12 arg13 arg14 arg15 arg16 arg17 arg18 arg19 arg20 arg21 arg22 arg23 arg24 arg25 X0 X1 Xin XW XS (outOf X0 X1 Xin XW XS j hok) (codesOf Xin j) (scalesOf Xin j) j') -∗ Q ⟨⟩)
        -∗ W c (cc0_medusa_accept (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25) Q) := by
  rw [cc0_eq]
  iintro ⟨⟨H0, H1, H2, H3, H4⟩, ⟨HO, H9, H10⟩, ⟨%J11, H11⟩, ⟨%J12, H12⟩, H13, H14, H15, H16, H17, H18, H19, H20, H21, H22, H23, ⟨V0, V1, V2⟩, ⟨U0, U1, U2⟩, HD⟩ HQ
  ihave H11 := (show own c arg11 J11 ⊢ iprop((∃ Y, own (F := F) c (slotWt arg11 0) Y) ∗ (∃ Y, own (F := F) c (slotWt arg11 1) Y) ∗ (∃ Y, own (F := F) c (slotWt arg11 2) Y)) from
    (slots_split c arg11 squeezes_S1x6656x1280_S6656x1280 J11).trans (Entails.of_eq (bigSep_three _))) $$ H11
  icases H11 with ⟨R0, R1, R2⟩
  ihave H12 := (show own c arg12 J12 ⊢ iprop((∃ Y, own (F := F) c (slotSc arg12 0) Y) ∗ (∃ Y, own (F := F) c (slotSc arg12 1) Y) ∗ (∃ Y, own (F := F) c (slotSc arg12 2) Y)) from
    (slots_split c arg12 squeezes_S1x52x1280_S52x1280 J12).trans (Entails.of_eq (bigSep_three _))) $$ H12
  icases H12 with ⟨T0, T1, T2⟩
  ihave HH := ((homes_all c arg3 arg4 XW XS).trans (homes_first c arg3 arg4 XW XS)) $$ [H3 H4]
  · isplitl [H3]; · iexact H3
    iexact H4
  icases HH with ⟨⟨A0, B0⟩, ⟨A1, B1⟩, ⟨A2, B2⟩, HH⟩
  iapply (W_bind c _ _ _)
  rw [part122_eq]
  iapply (own_prolog c arg3 harg3 arg4 arg11 harg11 arg12 arg24 arg25 XW XS _) $$ [R0 R1 R2 T0 T1 V0 V1 V2 U0 U1 A0 B0 A1 B1 A2]
  · isplitl [A0 R0 V0]
    · isplitl [A0]; · iexact A0
      isplitl [R0]; · iexact R0
      iexact V0
    isplitl [B0 T0 U0]
    · isplitl [B0]; · iexact B0
      isplitl [T0]; · iexact T0
      iexact U0
    isplitl [A1 R1 V1]
    · isplitl [A1]; · iexact A1
      isplitl [R1]; · iexact R1
      iexact V1
    isplitl [B1 T1 U1]
    · isplitl [B1]; · iexact B1
      isplitl [T1]; · iexact T1
      iexact U1
    isplitl [A2]; · iexact A2
    isplitl [R2]; · iexact R2
    iexact V2
  iintro ⟨FW0, FS0, FW1, FS1, FW2⟩
  iapply (W_bind c _ _ _)
  rw [part123_eq]
  iapply (own_ancQuant c arg0 arg2 arg4 arg9 harg9 arg10 arg12 arg13 arg19 arg25 X0 Xin XS hanc j.j19 j.j9 j.j13 j.j10 _) $$ [B2 T2 U2 H0 H19 H2 H9 H13 H10]
  · isplitl [B2 T2 U2]
    · isplitl [B2]; · iexact B2
      isplitl [T2]; · iexact T2
      iexact U2
    isplitl [H0]; · iexact H0
    isplitl [H19]; · iexact H19
    isplitl [H2]; · iexact H2
    isplitl [H9]; · iexact H9
    isplitl [H13]; · iexact H13
    iexact H10
  iintro ⟨FS2, H0, H19, H2, H9, H13, H10⟩
  iapply (W_bind c _ _ _)
  rw [part124_eq]
  iapply (own_quantCast c arg2 arg9 harg9 arg10 arg13 arg14 harg14 Xin j.j9 j.j13 j.j10 j.j14 _) $$ [H2 H9 H13 H10 H14]
  · isplitl [H2]; · iexact H2
    isplitl [H9]; · iexact H9
    isplitl [H13]; · iexact H13
    isplitl [H10]; · iexact H10
    iexact H14
  iintro ⟨H2, H9, H13, H10, H14⟩
  iapply (W_bind c _ _ _)
  rw [part125_eq]
  iapply (own_casts c arg13 arg14 harg14 (quant3 Xin j.j9 j.j13).1.2 _ _) $$ [H13 H14]
  · isplitl [H13]; · iexact H13
    iexact H14
  iintro H
  iapply (W_bind c _ _ _)
  rw [part126_eq]
  unfold chunksP
  iapply (own_init c arg13 arg14 harg14 arg16 arg17 arg18 (quant3 Xin j.j9 j.j13).1.2 _ j.st _ _) $$ [H H16 H17 H18]
  · isplitl [H]; · iexact H
    isplitl [H16]; · iexact H16
    isplitl [H17]; · iexact H17
    iexact H18
  iintro ⟨⟨H13, H14⟩, H16, H17, H18⟩
  iapply (own_chunks c arg3 harg3 arg4 arg11 harg11 arg12 arg14 arg15 arg16 arg17 arg18 arg24 arg25 XW XS (xwOf Xin j) (j.j15, stats0 j.st) _ _) $$ [FW0 FS0 FW1 FS1 FW2 FS2 HH HD H14 H15 H16 H17 H18]
  · unfold chunkInv ring
    rw [inSlot_lt c arg3 arg4 arg11 arg12 arg24 arg25 XW XS 0 (by omega), inSlot_lt c arg3 arg4 arg11 arg12 arg24 arg25 XW XS (0 + 1) (by omega), inSlot_lt c arg3 arg4 arg11 arg12 arg24 arg25 XW XS (0 + 2) (by omega)]
    isplitr [H14 H15 H16 H17 H18]
    · isplitl [FW0 FS0]
      · isplitl [FW0]; · iexact FW0
        iexact FS0
      isplitl [FW1 FS1]
      · isplitl [FW1]; · iexact FW1
        iexact FS1
      isplitl [FW2 FS2]
      · isplitl [FW2]; · iexact FW2
        iexact FS2
      isplitl [HH]; · iexact HH
      iexact HD
    isplitl [H14]; · iexact H14
    isplitl [H15]; · iexact H15
    isplitl [H16]; · iexact H16
    isplitl [H17]; · iexact H17
    iexact H18
  unfold chunkInv ring
  rw [inSlot_ge c arg3 arg4 arg11 arg12 arg24 arg25 XW XS 25 (by omega), inSlot_ge c arg3 arg4 arg11 arg12 arg24 arg25 XW XS (25 + 1) (by omega), inSlot_ge c arg3 arg4 arg11 arg12 arg24 arg25 XW XS (25 + 2) (by omega)]
  iintro ⟨⟨⟨⟨R1, V1⟩, ⟨T1, U1⟩⟩, ⟨⟨R2, V2⟩, ⟨T2, U2⟩⟩, ⟨⟨R0, V0⟩, ⟨T0, U0⟩⟩, HH, HD⟩, H14, H15, H16, H17, H18⟩
  iapply (W_ret c _)
  iapply (own_tail c arg0 arg1 arg5 arg6 arg7 arg8 arg15 arg16 arg17 arg18 arg19 arg20 arg21 arg22 arg23 X0 X1 hok (chunksOf Xin XW XS j).1 (chunksOf Xin XW XS j).2
    (ancAll X0 j.j19) j.j20 j.j21 j.j22 j.j23 j.o _) $$ [H0 H1 H15 H16 H17 H18 H19 H20 H21 H22 H23 HO]
  · isplitl [H0]; · iexact H0
    isplitl [H1]; · iexact H1
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iexact HO
  iintro ⟨%k20, %k21, %k22, %k23, H0, H1, H15, H16, H17, H18, H19, H20, H21, H22, H23, HO⟩
  ihave H34 := ((homes_end c arg3 arg4 XW XS).trans (homes_back c arg3 arg4 XW XS)) $$ HH
  icases H34 with ⟨H3, H4⟩
  ihave H11 := (show iprop((∃ Y, own (F := F) c (slotWt arg11 0) Y) ∗ (∃ Y, own (F := F) c (slotWt arg11 1) Y) ∗ (∃ Y, own (F := F) c (slotWt arg11 2) Y)) ⊢ iprop(∃ J, own (F := F) c arg11 J) from
    (Entails.of_eq (bigSep_three _).symm).trans (slots_join c arg11 squeezes_S1x6656x1280_S6656x1280)) $$ [R0 R1 R2]
  · isplitl [R0]; · iexact R0
    isplitl [R1]; · iexact R1
    iexact R2
  ihave H12 := (show iprop((∃ Y, own (F := F) c (slotSc arg12 0) Y) ∗ (∃ Y, own (F := F) c (slotSc arg12 1) Y) ∗ (∃ Y, own (F := F) c (slotSc arg12 2) Y)) ⊢ iprop(∃ J, own (F := F) c arg12 J) from
    (Entails.of_eq (bigSep_three _).symm).trans (slots_join c arg12 squeezes_S1x52x1280_S52x1280)) $$ [T0 T1 T2]
  · isplitl [T0]; · iexact T0
    isplitl [T1]; · iexact T1
    iexact T2
  iapply HQ
  iexists (⟨j.o, j.j9, j.j10, xfOf Xin j, xwOf Xin j, (chunksOf Xin XW XS j).1, (chunksOf Xin XW XS j).2, ancAll X0 j.j19, k20, k21, k22, k23⟩ : Junk F)
  isplitl [H0 H1 H2 H3 H4]
  · isplitl [H0]; · iexact H0
    isplitl [H1]; · iexact H1
    isplitl [H2]; · iexact H2
    isplitl [H3]; · iexact H3
    iexact H4
  isplitl [HO H9 H10]
  · isplitl [HO]; · iexact HO
    isplitl [H9]; · iexact H9
    iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [V0 V1 V2]
  · isplitl [V0]; · iexact V0
    isplitl [V1]; · iexact V1
    iexact V2
  isplitl [U0 U1 U2]
  · isplitl [U0]; · iexact U0
    isplitl [U1]; · iexact U1
    iexact U2
  iexact HD
end

end Cert.KernelIdeal.Run
-- ==== Proof.Run.Launch.lean ====
/-
  THE LAUNCH: the body under the pipeline, and what every final state holds.
-/
module

public import proofs.«01_k».proof.Proof.Run.Whole
public import proofs.«01_k».proof.Proof.Gen.KernelIdeal.Frame
public import Idealize.ShloMosaic.Lib.Pipeline.Frame
public import Idealize.ShloMosaic.Lib.Pipeline.ArrRel

@[expose] public section

noncomputable section

namespace Cert.KernelIdeal.Run

open Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD RDat)

variable {F : FTy → Type} [FloatOps F] [Named F] [∀ e, Nonempty (Elt F e)]
variable (m : (ℓ : Loc nD τ sig) → Buf (Elt F) ℓ) (ρ : Dev nD → PrngReg)

/-! ## The kernel's own semaphores, the operands it copies itself, and the scratch buffers -/

abbrev osem0 : Fin 6 → SemLoc sig := fun j => (![SemLoc.dma 9, SemLoc.dma 10, SemLoc.dma 11, SemLoc.dma 12, SemLoc.dma 13, SemLoc.dma 14] : Fin 6 → SemLoc sig) j
theorem ownSemFacts0 : Pipeline.OwnSemFacts spec0 osem0 := by decide

theorem sem13_0 : semAt cc0_scratch13 0 = (9 : DmaSem sig) := by decide
theorem sem13_1 : semAt cc0_scratch13 1 = (10 : DmaSem sig) := by decide
theorem sem13_2 : semAt cc0_scratch13 2 = (11 : DmaSem sig) := by decide
theorem sem14_0 : semAt cc0_scratch14 0 = (12 : DmaSem sig) := by decide
theorem sem14_1 : semAt cc0_scratch14 1 = (13 : DmaSem sig) := by decide
theorem sem14_2 : semAt cc0_scratch14 2 = (14 : DmaSem sig) := by decide

theorem sems13_eq (c : Dev nD) : (sems0 c cc0_scratch13 : SP F)
    = iprop(semVal ((c : Thread nD τ), SemLoc.dma 9) 0 ∗ semVal ((c : Thread nD τ), SemLoc.dma 10) 0 ∗ semVal ((c : Thread nD τ), SemLoc.dma 11) 0) := by
  unfold sems0; rw [sem13_0, sem13_1, sem13_2]
theorem sems14_eq (c : Dev nD) : (sems0 c cc0_scratch14 : SP F)
    = iprop(semVal ((c : Thread nD τ), SemLoc.dma 12) 0 ∗ semVal ((c : Thread nD τ), SemLoc.dma 13) 0 ∗ semVal ((c : Thread nD τ), SemLoc.dma 14) 0) := by
  unfold sems0; rw [sem14_0, sem14_1, sem14_2]

theorem ownSems_eq (c : Dev nD) :
    (Pipeline.ownSems0 (Ix := Unit) (Name := ℕ) (U := UD sig nD τ) (Lvl := ℕ) (Val := Elt F) (τ := τ) osem0 c : SP F)
      = iprop(semVal ((c : Thread nD τ), SemLoc.dma 9) 0 ∗ semVal ((c : Thread nD τ), SemLoc.dma 10) 0 ∗ semVal ((c : Thread nD τ), SemLoc.dma 11) 0
          ∗ semVal ((c : Thread nD τ), SemLoc.dma 12) 0 ∗ semVal ((c : Thread nD τ), SemLoc.dma 13) 0 ∗ semVal ((c : Thread nD τ), SemLoc.dma 14) 0) := by
  rw [Pipeline.ownSems0_eq_of_list c osem0 [0, 1, 2, 3, 4, 5] (by decide) (by decide)]; rfl

def H0 : Finset (Ref sig .tc) := {main_arg3, main_arg4}
theorem H0_sub : H0 ⊆ Pipeline.restRefs sig spec0 := by decide
theorem hbm_eq (c : Dev nD) :
    (bigSep H0 (fun b => ((c : Thread nD τ).loc b) ↦{fullShare} V m c b) : SP F)
      = iprop((((c : Thread nD τ).loc main_arg3) ↦{fullShare} V m c main_arg3) ∗ (((c : Thread nD τ).loc main_arg4) ↦{fullShare} V m c main_arg4)) := by
  rw [BI.bigSep_eq_bigSepL_of_eq [main_arg3, main_arg4] (by decide) (by decide)]; rfl

/-- A buffer whole, at some contents. -/
abbrev any (c : Dev nD) (b : Ref sig .tc) : SP F := iprop(∃ f : Buf (Elt F) ((c : Thread nD τ).loc b), ((c : Thread nD τ).loc b) ↦{fullShare} f)

theorem any_own (c : Dev nD) (b : Ref sig .tc) : (any c b : SP F) = iprop(∃ d, own c (Memref.whole b) d) := by
  unfold own; simp only [owns_whole]

/-! ## The operands, as the body finds them -/

def in0 (c : Dev nD) : S3x42.Idx → BitVec 32 := iblk m c 0 t0_0
def in1 (c : Dev nD) : S3x42.Idx → BitVec 32 := iblk m c 1 t0_0
def in2 (c : Dev nD) : S3x42x6656.Idx → Elt F .bf16 := iblk m c 2 t0_0
def in3 (c : Dev nD) : S6656x32000.Idx → Elt F .fp8e4m3 := m ((c : Thread nD τ).loc main_arg3)
def in4 (c : Dev nD) : S52x32000.Idx → Elt F .f32 := m ((c : Thread nD τ).loc main_arg4)

theorem in0_apply (c : Dev nD) (i : S3x42.Idx) : in0 m c i = m ((c : Thread nD τ).loc main_arg1) i := by
  unfold in0 iblk; rw [View.read_apply]
  show m _ _ = m _ _
  congr 1
  funext a; apply Fin.ext
  show 0 * _ + _ = _
  simp

theorem in1_apply (c : Dev nD) (i : S3x42.Idx) : in1 m c i = m ((c : Thread nD τ).loc main_arg2) i := by
  unfold in1 iblk; rw [View.read_apply]
  show m _ _ = m _ _
  congr 1
  funext a; apply Fin.ext
  show 0 * _ + _ = _
  simp
theorem in2_apply (c : Dev nD) (i : S3x42x6656.Idx) : in2 m c i = m ((c : Thread nD τ).loc main_arg0) i := by
  unfold in2 iblk; rw [View.read_apply]
  show m _ _ = m _ _
  congr 1
  funext a; apply Fin.ext
  show 0 * _ + _ = _
  simp

/-- The words the body reads as positions are in range, on every core. -/
abbrev PreOK : Prop := ∀ c : Dev nD, AncOk (in0 m c) ∧ PickOk (in0 m c) (in1 m c)

/-- What the region holds between points: the scratch buffers at any contents, the kernel's own semaphores at zero, the two
    operands it copies itself. -/
theorem PhiD_eq (c : Dev nD) :
    (Pipeline.ΦD osem0 spec0 H0 (V m) c : SP F)
      = iprop((any c cc0_scratch0 ∗ any c cc0_scratch1 ∗ any c cc0_scratch2 ∗ any c cc0_scratch3 ∗ any c cc0_scratch4 ∗ any c cc0_scratch5 ∗ any c cc0_scratch6
            ∗ any c cc0_scratch7 ∗ any c cc0_scratch8 ∗ any c cc0_scratch9 ∗ any c cc0_scratch10 ∗ any c cc0_scratch11 ∗ any c cc0_scratch12) ∗ (∃ r, prngReg c r)
          ∗ (semVal ((c : Thread nD τ), SemLoc.dma 9) 0 ∗ semVal ((c : Thread nD τ), SemLoc.dma 10) 0 ∗ semVal ((c : Thread nD τ), SemLoc.dma 11) 0
          ∗ semVal ((c : Thread nD τ), SemLoc.dma 12) 0 ∗ semVal ((c : Thread nD τ), SemLoc.dma 13) 0 ∗ semVal ((c : Thread nD τ), SemLoc.dma 14) 0)
          ∗ ((((c : Thread nD τ).loc main_arg3) ↦{fullShare} V m c main_arg3) ∗ (((c : Thread nD τ).loc main_arg4) ↦{fullShare} V m c main_arg4))) := by
  rw [Pipeline.ΦD_eq, scopedRest0_eq, ownSems_eq, hbm_eq]

theorem pt_own (c : Dev nD) (b : Ref sig .tc) (X : b.ty.shape.Idx → Elt F b.ty.elt) : ((((c : Thread nD τ).loc b) ↦{fullShare} X) : SP F) ⊢ own c (Memref.whole b) X := by
  unfold own; rw [owns_whole_eq]
  iintro H
  iexists X
  isplitr; · ipureintro; rfl
  iexact H
theorem own_pt (c : Dev nD) (b : Ref sig .tc) (X : b.ty.shape.Idx → Elt F b.ty.elt) : own c (Memref.whole b) X ⊢ ((((c : Thread nD τ).loc b) ↦{fullShare} X) : SP F) := by
  unfold own; rw [owns_whole_eq]
  iintro ⟨%f, %hf, H⟩
  subst hf
  iexact H
theorem home3_in (c : Dev nD) : ((((c : Thread nD τ).loc main_arg3) ↦{fullShare} V m c main_arg3) : SP F) ⊢ own c (Memref.whole main_arg3) (in3 m c) := pt_own c main_arg3 _
theorem home3_out (c : Dev nD) : own c (Memref.whole main_arg3) (in3 m c) ⊢ ((((c : Thread nD τ).loc main_arg3) ↦{fullShare} V m c main_arg3) : SP F) := own_pt c main_arg3 _
theorem home4_in (c : Dev nD) : ((((c : Thread nD τ).loc main_arg4) ↦{fullShare} V m c main_arg4) : SP F) ⊢ own c (Memref.whole main_arg4) (in4 m c) := pt_own c main_arg4 _
theorem home4_out (c : Dev nD) : own c (Memref.whole main_arg4) (in4 m c) ⊢ ((((c : Thread nD τ).loc main_arg4) ↦{fullShare} V m c main_arg4) : SP F) := own_pt c main_arg4 _

/-! ## The relation of each window's contents after the body to those before -/

variable (hok : PreOK m)

abbrev resOut (c : Dev nD) (j : Junk F) : Outs F := outOf (in0 m c) (in1 m c) (in2 m c) (in3 m c) (in4 m c) j (hok c).2

def rdat (c : Dev nD) : RDat τ (Elt F) Unit ℕ (UD sig nD τ) ℕ cfg0 c where
  A w := V m c (Pipeline.arrRef spec0 w)
  after w t Y X := match w, Y, X with
    | ⟨0, _⟩, Y, X => X = Y
    | ⟨1, _⟩, Y, X => X = Y
    | ⟨2, _⟩, Y, X => X = Y
    | ⟨3, _⟩, _, X => ∃ j : Junk F, X = (resOut m hok c j).1
    | ⟨4, _⟩, _, X => ∃ j : Junk F, X = (resOut m hok c j).2.1
    | ⟨5, _⟩, _, X => ∃ j : Junk F, X = (resOut m hok c j).2.2.1
    | ⟨6, _⟩, _, X => ∃ j : Junk F, X = (resOut m hok c j).2.2.2
    | ⟨7, _⟩, _, X => ∃ j : Junk F, X = codesOf (in2 m c) j
    | ⟨8, _⟩, _, X => ∃ j : Junk F, X = scalesOf (in2 m c) j
  Φ _ := Pipeline.ΦD osem0 spec0 H0 (V m) c
  q _ := fullShare
  owed _ := 0

theorem finds0 (c : Dev nD) (t : Fin cfg0.N) (X) (h : (rdat m hok c).Finds 0 t X) : X = in0 m c := by
  obtain ⟨d, rfl⟩ := ((rdat m hok c).finds_of_fetch (fetch0_0 t) X).mp h
  rw [show t = t0_0 from fin_N0 t]; unfold RDat.fetched RDat.blockOf in0 iblk; dsimp only [rdat]; rfl
theorem finds1 (c : Dev nD) (t : Fin cfg0.N) (X) (h : (rdat m hok c).Finds 1 t X) : X = in1 m c := by
  obtain ⟨d, rfl⟩ := ((rdat m hok c).finds_of_fetch (fetch0_1 t) X).mp h
  rw [show t = t0_0 from fin_N0 t]; unfold RDat.fetched RDat.blockOf in1 iblk; dsimp only [rdat]; rfl
theorem finds2 (c : Dev nD) (t : Fin cfg0.N) (X) (h : (rdat m hok c).Finds 2 t X) : X = in2 m c := by
  obtain ⟨d, rfl⟩ := ((rdat m hok c).finds_of_fetch (fetch0_2 t) X).mp h
  rw [show t = t0_0 from fin_N0 t]; unfold RDat.fetched RDat.blockOf in2 iblk; dsimp only [rdat]; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

abbrev pre (c : Dev nD) (t : Fin cfg0.N) (y3 y4 y5 y6 : S3x42.Idx → Elt F .f32) (y7 : S3x42x6656.Idx → Elt F .fp8e4m3) (y8 : S3x42x52.Idx → Elt F .f32) : SP F :=
  iprop(own (F := F) c (win0_0.stage (cfg0.slots t 0)) (in0 m c) ∗ own (F := F) c (win0_1.stage (cfg0.slots t 1)) (in1 m c) ∗ own c (win0_2.stage (cfg0.slots t 2)) (in2 m c)
    ∗ own c (win0_3.stage (cfg0.slots t 3)) y3 ∗ own c (win0_4.stage (cfg0.slots t 4)) y4 ∗ own c (win0_5.stage (cfg0.slots t 5)) y5 ∗ own c (win0_6.stage (cfg0.slots t 6)) y6
    ∗ own c (win0_7.stage (cfg0.slots t 7)) y7 ∗ own c (win0_8.stage (cfg0.slots t 8)) y8)

theorem sound_body (c : Dev nD) (t : Fin cfg0.N) (y3 y4 y5 y6 : S3x42.Idx → Elt F .f32) (y7 : S3x42x6656.Idx → Elt F .fp8e4m3) (y8 : S3x42x52.Idx → Elt F .f32) :
    iprop(Pipeline.ΦD osem0 spec0 H0 (V m) c ∗ dues c ∗ pre m c t y3 y4 y5 y6 y7 y8)
      ⊢ W c (bodyAt0 (F := F) t) (fun _ => iprop(Pipeline.ΦD osem0 spec0 H0 (V m) c ∗ dues c
          ∗ ∃ j : Junk F, pre m c t (resOut m hok c j).1 (resOut m hok c j).2.1 (resOut m hok c j).2.2.1 (resOut m hok c j).2.2.2 (codesOf (in2 m c) j) (scalesOf (in2 m c) j))) := by
  rw [PhiD_eq]
  simp only [any_own]
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩, ⟨%s9, S9⟩, ⟨%s10, S10⟩, ⟨%s11, S11⟩, ⟨%s12, S12⟩⟩, Hg,
    ⟨V0, V1, V2, U0, U1, U2⟩, ⟨A3, A4⟩⟩, HD, ⟨A0, A1, A2, B3, B4, B5, B6, B7, B8⟩⟩
  ihave A3 := (home3_in m c) $$ A3
  ihave A4 := (home4_in m c) $$ A4
  iapply (own_body c _ _ _ _ _ _ _ _ _ _ _ _ _ _ _ _ _ _ _ _ _ _ _ _ _ _ _ _ _ _ _ _ _ _ _ _ _ _ _ _ _ _ _ _ _ _ _ _ cc0_scratch13 cc0_scratch14
    (in0 m c) (in1 m c) (in2 m c) (in3 m c) (in4 m c) (hok c).1 (hok c).2
    ⟨(y3, y4, y5, y6), y7, y8, s2, s3, s4, (s5, s6, s7), s8, s9, s10, s11, s12⟩ _) $$ [S0 S1 S2 S3 S4 S5 S6 S7 S8 S9 S10 S11 S12 V0 V1 V2 U0 U1 U2 A3 A4 HD A0 A1 A2 B3 B4 B5 B6 B7 B8]
  · isplitl [A0 A1 A2 A3 A4]
    · isplitl [A0]; · iexact A0
      isplitl [A1]; · iexact A1
      isplitl [A2]; · iexact A2
      isplitl [A3]; · iexact A3
      iexact A4
    isplitl [B3 B4 B5 B6 B7 B8]
    · isplitl [B3 B4 B5 B6]
      · isplitl [B3]; · iexact B3
        isplitl [B4]; · iexact B4
        isplitl [B5]; · iexact B5
        iexact B6
      isplitl [B7]; · iexact B7
      iexact B8
    isplitl [S0]; · iexists s0; iexact S0
    isplitl [S1]; · iexists s1; iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [V0 V1 V2]
    · iapply (Entails.of_eq (sems13_eq c).symm)
      isplitl [V0]; · iexact V0
      isplitl [V1]; · iexact V1
      iexact V2
    isplitl [U0 U1 U2]
    · iapply (Entails.of_eq (sems14_eq c).symm)
      isplitl [U0]; · iexact U0
      isplitl [U1]; · iexact U1
      iexact U2
    iexact HD
  iintro ⟨%j', ⟨A0, A1, A2, A3, A4⟩, ⟨⟨B3, B4, B5, B6⟩, B7, B8⟩, S0, S1, S2, S3, S4, S5, S6, S7, S8, S9, S10, S11, S12, HV, HU, HD⟩
  ihave HV := (Entails.of_eq (sems13_eq c)) $$ HV
  ihave HU := (Entails.of_eq (sems14_eq c)) $$ HU
  icases HV with ⟨V0, V1, V2⟩
  icases HU with ⟨U0, U1, U2⟩
  ihave A3 := (home3_out m c) $$ A3
  ihave A4 := (home4_out m c) $$ A4
  isplitl [S0 S1 S2 S3 S4 S5 S6 S7 S8 S9 S10 S11 S12 Hg V0 V1 V2 U0 U1 U2 A3 A4]
  · isplitl [S0 S1 S2 S3 S4 S5 S6 S7 S8 S9 S10 S11 S12]
    · isplitl [S0]; · iexact S0
      isplitl [S1]; · iexact S1
      isplitl [S2]; · iexists j'.j13; iexact S2
      isplitl [S3]; · iexists j'.j14; iexact S3
      isplitl [S4]; · iexists j'.j15; iexact S4
      isplitl [S5]; · iexists j'.st.1; iexact S5
      isplitl [S6]; · iexists j'.st.2.1; iexact S6
      isplitl [S7]; · iexists j'.st.2.2; iexact S7
      isplitl [S8]; · iexists j'.j19; iexact S8
      isplitl [S9]; · iexists j'.j20; iexact S9
      isplitl [S10]; · iexists j'.j21; iexact S10
      isplitl [S11]; · iexists j'.j22; iexact S11
      iexists j'.j23; iexact S12
    isplitl [Hg]; · iexact Hg
    isplitl [V0 V1 V2 U0 U1 U2]
    · isplitl [V0]; · iexact V0
      isplitl [V1]; · iexact V1
      isplitl [V2]; · iexact V2
      isplitl [U0]; · iexact U0
      isplitl [U1]; · iexact U1
      iexact U2
    isplitl [A3]; · iexact A3
    iexact A4
  isplitl [HD]; · iexact HD
  iexists (⟨(y3, y4, y5, y6), y7, y8, s2, s3, s4, (s5, s6, s7), s8, s9, s10, s11, s12⟩ : Junk F)
  isplitl [A0]; · iexact A0
  isplitl [A1]; · iexact A1
  isplitl [A2]; · iexact A2
  isplitl [B3]; · iexact B3
  isplitl [B4]; · iexact B4
  isplitl [B5]; · iexact B5
  isplitl [B6]; · iexact B6
  isplitl [B7]; · iexact B7
  iexact B8

theorem body_obligation (c : Dev nD) : (rdat m hok c).BodyObligation (defs₀ (F := F)) 𝒱₀ () Set.univ := fun t Y hY => by
  rw [bigSep_W0, bigSep_W0, defs₀_row]
  rw [finds0 m hok c t _ (hY 0), finds1 m hok c t _ (hY 1), finds2 m hok c t _ (hY 2)]
  refine triple_restated (sound_body m hok c t (Y 3) (Y 4) (Y 5) (Y 6) (Y 7) (Y 8)) rfl ?_ fun _ => ?_
  · unfold RDat.owesAt Pipeline.owesWithin
    rw [show (rdat m hok c).Φ t.castSucc = Pipeline.ΦD osem0 spec0 H0 (V m) c from rfl, show (rdat m hok c).owed t.castSucc = 0 from rfl]
    iintro ⟨HP, ⟨%Wt, -, HO⟩, HB⟩
    isplitl [HP]; · iexact HP
    isplitl [HO]; · iexists Wt; iexact HO
    iexact HB
  · unfold RDat.owesAt Pipeline.owesWithin
    rw [show (rdat m hok c).Φ t.succ = Pipeline.ΦD osem0 spec0 H0 (V m) c from rfl, show (rdat m hok c).owed t.succ = 0 from rfl]
    iintro ⟨HP, ⟨%Wt, HO⟩, ⟨%j, B0, B1, B2, B3, B4, B5, B6, B7, B8⟩⟩
    isplitl [HP]; · iexact HP
    isplitl [HO]
    · iexists Wt; isplitr; · ipureintro; exact fun _ _ => Or.inl trivial
      iexact HO
    isplitl [B0]; · iexists (in0 m c); isplitr; · ipureintro; exact rfl
                    iexact B0
    isplitl [B1]; · iexists (in1 m c); isplitr; · ipureintro; exact rfl
                    iexact B1
    isplitl [B2]; · iexists (in2 m c); isplitr; · ipureintro; exact rfl
                    iexact B2
    isplitl [B3]; · iexists (resOut m hok c j).1; isplitr; · ipureintro; exact ⟨j, rfl⟩
                    iexact B3
    isplitl [B4]; · iexists (resOut m hok c j).2.1; isplitr; · ipureintro; exact ⟨j, rfl⟩
                    iexact B4
    isplitl [B5]; · iexists (resOut m hok c j).2.2.1; isplitr; · ipureintro; exact ⟨j, rfl⟩
                    iexact B5
    isplitl [B6]; · iexists (resOut m hok c j).2.2.2; isplitr; · ipureintro; exact ⟨j, rfl⟩
                    iexact B6
    isplitl [B7]; · iexists (codesOf (in2 m c) j); isplitr; · ipureintro; exact ⟨j, rfl⟩
                    iexact B7
    iexists (scalesOf (in2 m c) j); isplitr; · ipureintro; exact ⟨j, rfl⟩
    iexact B8

/-! ## The run -/

theorem hmainD (𝒱 : Variants) :
    Pipeline.HMain (Ix := Unit) (Name := ℕ) (U := UD sig nD τ) (Lvl := ℕ) cfgs 0 defs₀ 𝒱 m (main (F := F)) (V m) :=
  Pipeline.hmain_region cfgs 0 defs₀ 𝒱 m main fun c => (main_chain c).trans rfl

set_option backward.isDefEq.respectTransparency.types false in
/-- From any memory with zero counters whose words are in range: every weakly fair execution of @main terminates, and every final
    state has each window's array at contents the body may leave, every other array unchanged, every semaphore counter at zero. -/
theorem run_main :
    θ_run defs (onTc (τ := τ) (main (F := F))) (s₀ m ρ)
      (fun r => RDat.FramePost (cfgs 0) (rdat m hok) (V m) r ∧ r.2.sem = fun _ => 0) :=
  RDat.θ_run_frame_dma (Q' := _) cfgs (0 : Fin 1) launch0 osem0 defs₀ 𝒱₀ (rdat m hok) ownSemFacts0 H0 H0_sub m ρ main
    (hbody := body_obligation m hok) (hshare := fun c => (rdat m hok c).share_full fun _ => rfl)
    (howed := fun _ _ => rfl) (V := V m) (hmain := hmainD m 𝒱₀) (hA := fun _ _ => rfl)
    (hin := fun _ => .rfl) (hout := fun _ => .rfl)

include hok in
/-- The arguments end unchanged, every semaphore counter at zero. -/
theorem run_frame :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c =>
    ⟨(congrFun ((rdat m hok c).ArrAt_in 2 rfl _) _).mp ((h.1 c).1 2), (congrFun ((rdat m hok c).ArrAt_in 0 rfl _) _).mp ((h.1 c).1 0), (congrFun ((rdat m hok c).ArrAt_in 1 rfl _) _).mp ((h.1 c).1 1),
      (h.1 c).2 main_arg3 (Pipeline.mem_restRefs_of main_arg3 (by decide) (by decide)), (h.1 c).2 main_arg4 (Pipeline.mem_restRefs_of main_arg4 (by decide) (by decide))⟩, h.2⟩)
    (run_main m ρ hok)

end Cert.KernelIdeal.Run
-- ==== Proof.Run.Range.lean ====
/-
  THE WORDS IN RANGE: what the precondition says of the parents and the tokens, and that the positions computed of them lie in their arrays.
-/
module

public import proofs.«01_k».proof.Proof.Run.Launch
public import proofs.«01_k».proof.Proof.Gen.Pre_tree_in_range

@[expose] public section

noncomputable section

namespace Cert.KernelIdeal.Run

open Cert.KernelIdeal.Gen
open Idealize.ShloMosaic Idealize.ShloMosaic.ValueIdx
open Idealize.ShloMosaic.TcCoe
open Idealize.SL.Sem

/-- A parent lies before its node (the root's is the root), a token in the vocabulary. -/
def InRange (X0 X1 : S3x42.Idx → BitVec 32) : Prop :=
  ∀ (b : Fin 3) (n : Fin 42), (X0 (ix2 b n)).toNat ≤ n.val - 1 ∧ (X1 (ix2 b n)).toNat < 32000

theorem wordAt_ix2 (X : S3x42.Idx → BitVec 32) (o : Fin 2 → ℕ) (h : ∀ a, o a + S1x1.size a ≤ S3x42.size a) (b : Fin 3) (n : Fin 42) (e : o = ![b.val, n.val]) :
    wordAt X o h = X (ix2 b n) := by
  subst e
  unfold wordAt
  congr 1
  funext a; apply Fin.ext
  fin_cases a <;> rfl

theorem toNat_add_of {v : BitVec 32} {b : ℕ} (hv : v.toNat ≤ 41) (hb : b ≤ 84) : (v + BitVec.ofNat 32 b).toNat = v.toNat + b := by
  rw [BitVec.toNat_add, BitVec.toNat_ofNat]; omega

theorem row_ok {v : BitVec 32} {b : ℕ} (hv : v.toNat ≤ 41) (hb : b ≤ 84) : parChk (BitVec.ofNat 32 b) v := by
  unfold parChk parOff
  intro a
  have e : (Scalar.indexCast (Scalar.addi v (BitVec.ofNat 32 b))).toNat = v.toNat + b := toNat_add_of hv hb
  fin_cases a
  · show (Scalar.indexCast (Scalar.addi v (BitVec.ofNat 32 b))).toNat + 1 ≤ 128
    rw [e]; omega
  · show 0 + 128 ≤ 128; omega

theorem ancOk {X0 X1 : S3x42.Idx → BitVec 32} (h : InRange X0 X1) : AncOk X0 := by
  intro k
  have hk : k.val < 41 := k.isLt
  have g : ∀ b : Fin 3, (X0 (ix2 b ⟨k.val + 1, by omega⟩)).toNat ≤ 41 := fun b => by
    have := (h b ⟨k.val + 1, by omega⟩).1
    simp only at this; omega
  rw [wordAt_ix2 X0 _ _ 0 ⟨k.val + 1, by omega⟩ (k0_off4_eq k), wordAt_ix2 X0 _ _ 1 ⟨k.val + 1, by omega⟩ (k0_off7_eq k), wordAt_ix2 X0 _ _ 2 ⟨k.val + 1, by omega⟩ (k0_off10_eq k)]
  exact ⟨row_ok (b := 0) (g 0) (by omega), row_ok (b := 42) (g 1) (by omega), row_ok (b := 84) (g 2) (by omega)⟩

/-- The token's row group: division by 128 of a nonnegative word, as the program computes it. -/
theorem group_toNat {w : BitVec 32} (hw : w.toNat < 32000) :
    (Scalar.indexCast (Scalar.select (Scalar.andi (Scalar.cmpi .ne (Scalar.subi (Scalar.extui (Scalar.cmpi .sgt w 0#32)) (Scalar.extui (Scalar.cmpi .slt w 0#32)))
        (Scalar.subi (Scalar.extui (Scalar.cmpi .sgt 128#32 0#32)) (Scalar.extui (Scalar.cmpi .slt 128#32 0#32)))) (Scalar.cmpi .ne (Scalar.remsi w 128#32) 0#32))
      (Scalar.subi (Scalar.divsi w 128#32) 1#32) (Scalar.divsi w 128#32)) : BitVec 32).toNat = w.toNat / 128 := by
  have hm : w.msb = false := by rw [BitVec.msb_eq_decide]; simp only [decide_eq_false_iff_not, not_le]; omega
  have hi : w.toInt = w.toNat := by rw [BitVec.toInt_eq_toNat_of_msb hm]
  have hd : Scalar.divsi w 128#32 = BitVec.ofNat 32 (w.toNat / 128) := by
    show IntOp.divsi .scalar w 128#32 = _
    unfold IntOp.divsi
    rw [if_neg (by unfold IntOp.SDivCorner; intro hc; rcases hc with hc | hc <;> revert hc <;> simp)]
    apply BitVec.eq_of_toNat_eq
    rw [BitVec.sdiv_eq, hm]
    show (w / 128#32).toNat = _
    rw [BitVec.toNat_udiv, BitVec.toNat_ofNat]
    show w.toNat / 128 = (w.toNat / 128) % 4294967296
    omega
  have hr : Scalar.remsi w 128#32 = BitVec.ofNat 32 (w.toNat % 128) := by
    show IntOp.remsi .scalar w 128#32 = _
    unfold IntOp.remsi
    rw [if_neg (by unfold IntOp.SDivCorner; intro hc; rcases hc with hc | hc <;> revert hc <;> simp)]
    apply BitVec.eq_of_toNat_eq
    rw [BitVec.srem_eq, hm]
    show (w % 128#32).toNat = _
    rw [BitVec.toNat_umod, BitVec.toNat_ofNat]
    show w.toNat % 128 = (w.toNat % 128) % 4294967296
    omega
  have hlt : Scalar.cmpi .slt w 0#32 = 0#1 := by
    show BitVec.ofBool (w.slt 0#32) = 0#1
    rw [BitVec.slt_eq_decide, hi, decide_eq_false (by show ¬((w.toNat : ℤ) < 0); omega)]
    rfl
  have hone : Scalar.subi (Scalar.extui (Scalar.cmpi .sgt 128#32 0#32)) (Scalar.extui (Scalar.cmpi .slt 128#32 0#32)) = 1#32 := by decide
  have hnat : (BitVec.ofNat 32 (w.toNat / 128)).toNat = w.toNat / 128 := by rw [BitVec.toNat_ofNat]; omega
  rw [hlt, hone, hd, hr]
  by_cases h0 : w.toNat = 0
  · rw [h0]
    have hw0 : w = 0#32 := BitVec.eq_of_toNat_eq (by rw [h0]; rfl)
    rw [hw0]; decide
  · have hgt : Scalar.cmpi .sgt w 0#32 = 1#1 := by
      show BitVec.ofBool ((0#32).slt w) = 1#1
      rw [BitVec.slt_eq_decide, hi]
      have : (0#32).toInt < (w.toNat : ℤ) := by
        show (0 : ℤ) < _
        omega
      rw [decide_eq_true this]; rfl
    rw [hgt]
    have hz : Scalar.andi (Scalar.cmpi .ne (Scalar.subi (Scalar.extui 1#1) (Scalar.extui 0#1)) 1#32) (Scalar.cmpi .ne (BitVec.ofNat 32 (w.toNat % 128)) 0#32) = 0#1 := by
      have : Scalar.cmpi .ne (Scalar.subi (Scalar.extui 1#1) (Scalar.extui 0#1)) 1#32 = 0#1 := by decide
      rw [this]
      show 0#1 &&& _ = 0#1
      exact BitVec.zero_and
    rw [hz]
    exact hnat

theorem pickOk {X0 X1 : S3x42.Idx → BitVec 32} (h : InRange X0 X1) : PickOk X0 X1 := by
  intro i
  have g := h ⟨i.val / 42, by omega⟩ ⟨i.val % 42, by omega⟩
  rw [wordAt_ix2 X0 _ _ ⟨i.val / 42, by omega⟩ ⟨i.val % 42, by omega⟩ rfl, wordAt_ix2 X1 _ _ ⟨i.val / 42, by omega⟩ ⟨i.val % 42, by omega⟩ rfl]
  have g1 : (X0 (ix2 ⟨i.val / 42, by omega⟩ ⟨i.val % 42, by omega⟩)).toNat ≤ 41 := by
    have := g.1; simp only at this; omega
  refine ⟨row_ok g1 (by omega), ?_⟩
  unfold pickChk pickOff
  intro a
  fin_cases a
  · show (Scalar.indexCast _ : BitVec 32).toNat + 1 ≤ 250
    rw [group_toNat g.2]; have := g.2; omega
  · show (Scalar.indexCast (Scalar.addi _ (BitVec.ofNat 32 _))).toNat + 1 ≤ 128
    have e := toNat_add_of (b := 42 * (i.val / 42)) g1 (by omega)
    refine le_trans (Nat.add_le_add_right (le_of_eq e) 1) ?_; omega
  · show 0 + 128 ≤ 128; omega

theorem preOK {F : FTy → Type} [FloatOps F] [Named F] [∀ e, Nonempty (Elt F e)] (m : (ℓ : Loc nD τ sig) → Buf (Elt F) ℓ)
    (h : ∀ c : Dev nD, InRange (in0 m c) (in1 m c)) : PreOK m := fun c => ⟨ancOk (h c), pickOk (h c)⟩

/-- What the predicate `tree_in_range` says. -/
theorem inRange_of_fn {F : FTy → Type} [FloatOps F] (x : FVec F Cert.Pre_tree_in_range.S3x42x6656 .bf16) (X0 X1 : IVec Cert.Pre_tree_in_range.S3x42 32)
    (w : FVec F Cert.Pre_tree_in_range.S6656x32000 .fp8e4m3) (s : FVec F Cert.Pre_tree_in_range.S52x32000 .f32)
    (h : ∀ i, Cert.Pre_tree_in_range.fn x X0 X1 w s i = 1#1) : InRange X0 X1 := by
  intro b n
  have e := h (ix2 b n)
  simp only [Cert.Pre_tree_in_range.fn, andi, cmpi, broadcastInDim, constantI, iotaInDim, subi, maxsi] at e
  have ha : ∀ (p q : Bool), IntOp.andi (BitVec.ofBool p) (BitVec.ofBool q) = BitVec.ofBool (p && q) := by
    intro p q; cases p <;> cases q <;> decide
  have ho : ∀ p : Bool, (BitVec.ofBool p = 1#1) ↔ p = true := fun p => by cases p <;> decide
  simp only [IntOp.cmpi, ha, ho, Bool.and_eq_true, BitVec.sle_eq_decide, decide_eq_true_eq, BitVec.slt_eq_decide] at e
  obtain ⟨⟨e0, e1⟩, e2, e3⟩ := e
  have hn : ∀ n : Fin 42, (IntOp.maxsi (IntOp.subi (BitVec.ofNat 32 n.val) 1#32) 0#32).toInt = ((n.val - 1 : ℕ) : ℤ) := by decide
  have e1' : (X0 (ix2 b n)).toInt ≤ ((n.val - 1 : ℕ) : ℤ) := (hn n) ▸ e1
  have e0' : 0 ≤ (X0 (ix2 b n)).toInt := e0
  have e2' : 0 ≤ (X1 (ix2 b n)).toInt := e2
  have e3' : (X1 (ix2 b n)).toInt < 32000 := e3
  have hnn : ∀ w : BitVec 32, 0 ≤ w.toInt → w.toInt = w.toNat := fun w hw => by
    rw [BitVec.toInt_eq_toNat_cond] at hw ⊢
    split_ifs at hw ⊢ with hc
    · rfl
    · have := w.isLt; omega
  rw [hnn _ e0'] at e1'
  rw [hnn _ e2'] at e3'
  exact ⟨by exact_mod_cast e1', by exact_mod_cast e3'⟩

end Cert.KernelIdeal.Run
-- ==== Proof.RunK.Rolled.lean ====
/-
  THE CHUNK BODY, ROLLED UP. The printed program writes the body of the chunk loop out statement by statement; here
  the same statements stand as a few small programs with symbolic indices (one scaled weight block, one product, one
  tile, one row group of the softmax), put in sequence by `Scf.forFrom`. `Rolled/…Eq` modules prove the two equal.
-/
module

public import proofs.«01_k».proof.Proof.Gen.Kernel
public import Idealize.ShloMosaic.Lib.Scf

@[expose] public section

noncomputable section

namespace Cert.Kernel.Run

open Idealize.ShloMosaic Idealize.SL.Sem
open Idealize.ShloMosaic.RefSig (ofTc tcTables tileCredit tileCredit_eq_zero tileCredit_pos)
open Facts₀ Facts

variable {F : FTy → Type} [FloatOps F]

/-- The programs of the TensorCore's body. -/
abbrev TP (F : FTy → Type) [FloatOps F] (α : Type) := Prog (TpuEff nD τ sig (Elt F) Λ₀ .tc) α

/-! ## Values -/

/-- One block of 128 weight rows, scaled: codes times the row of scales. -/
def deq (s : Vec F S1x1x256 .f32) (w : Vec F S1x128x256 .fp8e4m3) : FVec F S128x256 .bf16 :=
  shapeCast S128x256
    (mulf (shapeCast S8x16x256 (extf .bf16 (shapeCast S128x256 w shapeCasts_S1x128x256_S128x256) bitsLt_fp8e4m3_bf16) shapeCasts_S128x256_S8x16x256)
      (broadcastTo S8x16x256 (shapeCast S1x16x256
        (truncf .bf16 (broadcastTo S16x256 (shapeCast S1x256 (shapeCast S1x256 s shapeCasts_S1x1x256_S1x256) shapeCasts_S1x256_S1x256) broadcasts_S1x256_S16x256) bitsLt_bf16_f32)
        shapeCasts_S16x256_S1x16x256) broadcasts_S1x16x256_S8x16x256))
    shapeCasts_S8x16x256_S128x256

/-- The product of one 256-column block of activations with two scaled weight blocks. -/
def prod2 (x : Vec F S128x256 .bf16) (a b : FVec F S128x256 .bf16) : FVec F S128x256 .f32 :=
  matmul dot_S128x256_S256x256_S128x256_1_0_0_1_n_n none x
    (concatenate S256x256 0 [⟨S128x256, a⟩, ⟨S128x256, b⟩] concatenates_S128x256_S128x256_S256x256_d0)
    (constant S128x256 .f32 0x00000000#32)

/-- The accumulated product at base two. -/
def scaled (acc : FVec F S128x256 .f32) : FVec F S128x256 .f32 :=
  mulf acc (broadcast S128x256 (Scalar.ofBits .f32 0x4003E74F#32))
def half0 (acc : FVec F S128x256 .f32) : FVec F S1x128x128 .f32 :=
  shapeCast S1x128x128 (extractStridedSlice S128x128 ![0, 0] (scaled acc) slices_S128x256_o0_0_S128x128) shapeCasts_S128x128_S1x128x128
def half1 (acc : FVec F S128x256 .f32) : FVec F S1x128x128 .f32 :=
  shapeCast S1x128x128 (extractStridedSlice S128x128 ![0, 128] (scaled acc) slices_S128x256_o0_128_S128x128) shapeCasts_S128x128_S1x128x128

/-- The maximum of the row group after ten more blocks. -/
def maxStep (m : FVec F S32x128 .f32) (z : Fin 10 → FVec F S32x128 .f32) : FVec F S32x128 .f32 :=
  maximumf (maximumf (maximumf (maximumf (maximumf (maximumf (maximumf (maximumf (maximumf (maximumf m (z 0)) (z 1)) (z 2)) (z 3)) (z 4)) (z 5)) (z 6)) (z 7)) (z 8)) (z 9)
/-- One block's term of the sum of exponentials. -/
def sTerm (m' z s : FVec F S32x128 .f32) : FVec F S32x128 .f32 := addf s (exp2 (subf z m'))
/-- One block's term of the sum of exponentials times exponents. -/
def tTerm (m' z t : FVec F S32x128 .f32) : FVec F S32x128 .f32 := addf t (mulf (exp2 (subf z m')) (subf z m'))
/-- The old sum rescaled to the new maximum. -/
def sBase (m m' s : FVec F S32x128 .f32) : FVec F S32x128 .f32 := mulf s (exp2 (subf m m'))
def tBase (m m' s t : FVec F S32x128 .f32) : FVec F S32x128 .f32 := mulf (addf t (mulf s (subf m m'))) (exp2 (subf m m'))
def sStep (m m' s : FVec F S32x128 .f32) (z : Fin 10 → FVec F S32x128 .f32) : FVec F S32x128 .f32 :=
  sTerm m' (z 9) (sTerm m' (z 8) (sTerm m' (z 7) (sTerm m' (z 6) (sTerm m' (z 5) (sTerm m' (z 4) (sTerm m' (z 3) (sTerm m' (z 2) (sTerm m' (z 1) (sTerm m' (z 0) (sBase m m' s))))))))))
def tStep (m m' s t : FVec F S32x128 .f32) (z : Fin 10 → FVec F S32x128 .f32) : FVec F S32x128 .f32 :=
  tTerm m' (z 9) (tTerm m' (z 8) (tTerm m' (z 7) (tTerm m' (z 6) (tTerm m' (z 5) (tTerm m' (z 4) (tTerm m' (z 3) (tTerm m' (z 2) (tTerm m' (z 1) (tTerm m' (z 0) (tBase m m' s t))))))))))

/-! ## Rectangles -/

theorem inb3 {A B C a b c x y z : Nat} (hx : x + a ≤ A) (hy : y + b ≤ B) (hz : z + c ≤ C) :
    ∀ i, (![x, y, z] : Fin 3 → Nat) i + (⟨3, ![a, b, c]⟩ : Shape).size i ≤ (⟨3, ![A, B, C]⟩ : Shape).size i := by
  intro i; fin_cases i <;> assumption
theorem inb2 {A B a b x y : Nat} (hx : x + a ≤ A) (hy : y + b ≤ B) :
    ∀ i, (![x, y] : Fin 2 → Nat) i + (⟨2, ![a, b]⟩ : Shape).size i ≤ (⟨2, ![A, B]⟩ : Shape).size i := by
  intro i; fin_cases i <;> assumption

abbrev scaleRect (sl : Fin 3) (kb : Fin 52) (t : Fin 5) : Rect S3x52x1280 :=
  Rect.unit (s := S3x52x1280) ![sl.val, kb.val, 256 * t.val] S1x1x256.size (inb3 (by omega) (by omega) (by omega))
abbrev weightRect (sl : Fin 3) (kb : Fin 52) (t : Fin 5) : Rect S3x6656x1280 :=
  Rect.unit (s := S3x6656x1280) ![sl.val, 128 * kb.val, 256 * t.val] S1x128x256.size (inb3 (by omega) (by omega) (by omega))
abbrev actRect (k : Fin 26) : Rect S128x6656 :=
  Rect.unit (s := S128x6656) ![0, 256 * k.val] S128x256.size (inb2 (by omega) (by omega))
abbrev zRect (j : Fin 250) : Rect S250x128x128 :=
  Rect.unit (s := S250x128x128) ![j.val, 0, 0] S1x128x128.size (inb3 (by omega) (by omega) (by omega))
abbrev zGroupRect (j : Fin 250) (r : Fin 4) : Rect S250x128x128 :=
  Rect.unit (s := S250x128x128) ![j.val, 32 * r.val, 0] S1x32x128.size (inb3 (by omega) (by omega) (by omega))
abbrev groupRect (r : Fin 4) : Rect S128x128 :=
  Rect.unit (s := S128x128) ![32 * r.val, 0] S32x128.size (inb2 (by omega) (by omega))

/-! ## Programs

Written in continuation style: each takes what the program does next. -/

/-- A loop over a list of indices, carrying a value. -/
def seqK {α : Type} {n : Nat} {σ : Type} (f : Fin n → σ → (σ → TP F α) → TP F α) : List (Fin n) → σ → (σ → TP F α) → TP F α
  | [], acc, K => K acc
  | k :: ks, acc, K => f k acc fun acc' => seqK f ks acc' K

/-- A vector load at a rectangle. -/
abbrev ld {α : Type} {s : Shape} {e : EltTy} (m : Memref sig .tc .vmem s e) (r : Rect s) (h : 0 < r.shape.numel)
    (K : Vec F r.shape e → TP F α) : TP F α := .op (.load m r.toLoadRect (View.loadsAt_vmem h)) K

/-- A vector store of 32-bit elements over a rectangle, after the load of what it replaces. -/
abbrev st {α : Type} {s : Shape} (m : Memref sig .tc .vmem s .f32) (r : Rect s) (h : 0 < r.shape.numel) (w : Vec F r.shape .f32)
    (K : TP F α) : TP F α :=
  ld m r h fun _ => .op (.store m r w Finset.univ (View.stores_vmem_bits_univ h rfl) (.inl rfl)) fun _ => K

section
variable {α : Type} (arg11 : Memref sig .tc .vmem S3x6656x1280 .fp8e4m3) (arg12 : Memref sig .tc .vmem S3x52x1280 .f32)
  (arg14 : Memref sig .tc .vmem S128x6656 .bf16) (arg15 : Memref sig .tc .vmem S250x128x128 .f32)
  (arg16 arg17 arg18 : Memref sig .tc .vmem S128x128 .f32)

/-- One weight block read from slot `sl` and scaled. -/
def wblockK (sl : Fin 3) (t : Fin 5) (kb : Fin 52) (K : FVec F S128x256 .bf16 → TP F α) : TP F α :=
  ld arg12 (scaleRect sl kb t) h_S1x1x256 fun s => ld arg11 (weightRect sl kb t) h_S1x128x256 fun w => K (deq s w)

/-- One of the 26 products of a tile. -/
def prodK (sl : Fin 3) (t : Fin 5) (k : Fin 26) (K : FVec F S128x256 .f32 → TP F α) : TP F α :=
  wblockK arg11 arg12 sl t ⟨2 * k.val, by omega⟩ fun a =>
  wblockK arg11 arg12 sl t ⟨2 * k.val + 1, by omega⟩ fun b =>
  ld arg14 (actRect k) h_S128x256 fun x => K (prod2 x a b)

/-- The products of a tile, summed in order. -/
def accK (sl : Fin 3) (t : Fin 5) (K : FVec F S128x256 .f32 → TP F α) : TP F α :=
  prodK arg11 arg12 arg14 sl t 0 fun p =>
  seqK (fun k acc K => prodK arg11 arg12 arg14 sl t k fun q => K (addf acc q))
    [1, 2, 3, 4, 5, 6, 7, 8, 9, 10, 11, 12, 13, 14, 15, 16, 17, 18, 19, 20, 21, 22, 23, 24, 25] p K

/-- A tile: its products summed, scaled and stored as two blocks of 128 columns. -/
def tileK (sl : Fin 3) (zst : Fin 5 → Fin 2 → Fin 250) (t : Fin 5) (K : TP F α) : TP F α :=
  accK arg11 arg12 arg14 sl t fun acc =>
  st arg15 (zRect (zst t 0)) h_S1x128x128 (half0 acc) <| st arg15 (zRect (zst t 1)) h_S1x128x128 (half1 acc) K

/-- The ten blocks' values at one row group. -/
def zvals (v : Fin 10 → Vec F S1x32x128 .f32) (i : Fin 10) : FVec F S32x128 .f32 := shapeCast S32x128 (v i) shapeCasts_S1x32x128_S32x128

/-- The softmax of one row group, from the values loaded. -/
def groupK' (r : Fin 4) (z : Fin 10 → FVec F S32x128 .f32) (K : TP F α) : TP F α :=
  ld arg16 (groupRect r) h_S32x128 fun m => ld arg17 (groupRect r) h_S32x128 fun s => ld arg18 (groupRect r) h_S32x128 fun t =>
  st arg16 (groupRect r) h_S32x128 (shapeCast S32x128 (maxStep m z) shapeCasts_S32x128_S32x128) <|
  st arg17 (groupRect r) h_S32x128 (shapeCast S32x128 (sStep m (maxStep m z) s z) shapeCasts_S32x128_S32x128) <|
  st arg18 (groupRect r) h_S32x128 (shapeCast S32x128 (tStep m (maxStep m z) s t z) shapeCasts_S32x128_S32x128) K

/-- One row group of the online softmax: 32 rows against the chunk's ten blocks. -/
def groupK (zld : Fin 10 → Fin 250) (r : Fin 4) (K : TP F α) : TP F α :=
  ld arg15 (zGroupRect (zld 0) r) h_S1x32x128 fun v0 => ld arg15 (zGroupRect (zld 1) r) h_S1x32x128 fun v1 =>
  ld arg15 (zGroupRect (zld 2) r) h_S1x32x128 fun v2 => ld arg15 (zGroupRect (zld 3) r) h_S1x32x128 fun v3 =>
  ld arg15 (zGroupRect (zld 4) r) h_S1x32x128 fun v4 => ld arg15 (zGroupRect (zld 5) r) h_S1x32x128 fun v5 =>
  ld arg15 (zGroupRect (zld 6) r) h_S1x32x128 fun v6 => ld arg15 (zGroupRect (zld 7) r) h_S1x32x128 fun v7 =>
  ld arg15 (zGroupRect (zld 8) r) h_S1x32x128 fun v8 => ld arg15 (zGroupRect (zld 9) r) h_S1x32x128 fun v9 =>
  groupK' arg16 arg17 arg18 r (zvals ![v0, v1, v2, v3, v4, v5, v6, v7, v8, v9]) K

end

section
variable {α : Type} (arg3 : Memref sig .tc .hbm S6656x32000 .fp8e4m3) (harg3 : arg3.IsWhole) (arg4 : Memref sig .tc .hbm S52x32000 .f32)
  (arg11 : Memref sig .tc .vmem S3x6656x1280 .fp8e4m3) (harg11 : arg11.IsWhole) (arg12 : Memref sig .tc .vmem S3x52x1280 .f32)
  (arg14 : Memref sig .tc .vmem S128x6656 .bf16) (arg15 : Memref sig .tc .vmem S250x128x128 .f32)
  (arg16 arg17 arg18 : Memref sig .tc .vmem S128x128 .f32) (arg24 arg25 : DmaSems sig S3)

/-- The slot of chunk `k`, by the words the body computes it with. -/
def slotW (k : Fin k0_t5_loop.trips) : Fin 3 := ⟨k0_off19 k 0, by have h : k0_off19 k 0 + 1 ≤ 3 := k0_off19_inb k 0; omega⟩
/-- The block of scores a tile's half is stored to. -/
def zstW (k : Fin k0_t5_loop.trips) (t : Fin 5) (q : Fin 2) : Fin 250 :=
  ⟨k0_off128 k (BitVec.ofNat 32 (2 * t.val)) (BitVec.ofNat 32 q.val) 0, by
    have := k0_off128_inb k t q 0; simp [S250x128x128, S1x128x128] at this ⊢; omega⟩
/-- The block of scores the softmax reads `j`-th. -/
def zldW (k : Fin k0_t5_loop.trips) (j : Fin 10) : Fin 250 :=
  ⟨k0_off545 k (BitVec.ofNat 32 j.val) 0, by
    have := k0_off545_inb k j 0; simp [S250x128x128, S1x32x128] at this ⊢; omega⟩

/-- Wait for chunk `k`'s two copies. -/
def waitK (k : Fin k0_t5_loop.trips) (K : TP F α) : TP F α :=
  .op (.waitDma2 ((arg24.slice (Rect.unit (s := S3) (k0_off19 k) S1.size (k0_off19_inb k))).squeeze S_ squeezes_S1_S_).sem
    (arg3.slice (Rect.unit (s := S6656x32000) (k0_off21 k) S6656x1280.size (k0_off21_inb k)) (fun _ => rfl))
    ((arg11.slice (Rect.unit (s := S3x6656x1280) (k0_off20 k) S1x6656x1280.size (k0_off20_inb k)) (fun _ => rfl)).squeeze S6656x1280 squeezes_S1x6656x1280_S6656x1280)
    (harg3.wordExact_slice rfl _ (k0_off21_wordsfp8e4m3 k)) ((harg11.wordExact_slice rfl _ (k0_off20_wordsfp8e4m3 k)).reshape _ _)) fun _ =>
  .op (.waitDma2 ((arg25.slice (Rect.unit (s := S3) (k0_off19 k) S1.size (k0_off19_inb k))).squeeze S_ squeezes_S1_S_).sem
    (arg4.slice (Rect.unit (s := S52x32000) (k0_off23 k) S52x1280.size (k0_off23_inb k)) (fun _ => rfl))
    ((arg12.slice (Rect.unit (s := S3x52x1280) (k0_off22 k) S1x52x1280.size (k0_off22_inb k)) (fun _ => rfl)).squeeze S52x1280 squeezes_S1x52x1280_S52x1280)
    (View.wordExact_bits rfl) ((View.wordExact_bits rfl).reshape _ _)) fun _ => K

/-- Start chunk `k + 3`'s two copies, if there is such a chunk. -/
def issueP (k : Fin k0_t5_loop.trips) : TP F PUnit := do
  if h : k0_cond1 k = 1#1 then do
    Prog.lift (.enqueueDma (arg3.slice (Rect.unit (s := S6656x32000) (k0_off551 k) S6656x1280.size (k0_off551_inb k h)) (fun _ => rfl))
      (.here ((arg11.slice (Rect.unit (s := S3x6656x1280) (k0_off550 k) S1x6656x1280.size (k0_off550_inb k h)) (fun _ => rfl)).squeeze S6656x1280 squeezes_S1x6656x1280_S6656x1280))
      (.dma ((arg24.slice (Rect.unit (s := S3) (k0_off549 k) S1.size (k0_off549_inb k h))).squeeze S_ squeezes_S1_S_).sem)
      (harg3.wordExact_slice rfl _ (k0_off551_wordsfp8e4m3 k h)) ((harg11.wordExact_slice rfl _ (k0_off550_wordsfp8e4m3 k h)).reshape _ _) ⟨Or.inl rfl, trivial⟩)
    Prog.lift (.enqueueDma (arg4.slice (Rect.unit (s := S52x32000) (k0_off553 k) S52x1280.size (k0_off553_inb k h)) (fun _ => rfl))
      (.here ((arg12.slice (Rect.unit (s := S3x52x1280) (k0_off552 k) S1x52x1280.size (k0_off552_inb k h)) (fun _ => rfl)).squeeze S52x1280 squeezes_S1x52x1280_S52x1280))
      (.dma ((arg25.slice (Rect.unit (s := S3) (k0_off549 k) S1.size (k0_off549_inb k h))).squeeze S_ squeezes_S1_S_).sem)
      (View.wordExact_bits rfl) ((View.wordExact_bits rfl).reshape _ _) ⟨Or.inl rfl, trivial⟩)
    pure ⟨⟩
  else do
    pure ⟨⟩
  pure ⟨⟩

/-- The chunk body. -/
def chunkP (k : Fin k0_t5_loop.trips) : TP F PUnit :=
  waitK arg3 harg3 arg4 arg11 harg11 arg12 arg24 arg25 k <|
  seqK (fun t (_ : PUnit) K => tileK arg11 arg12 arg14 arg15 (slotW k) (zstW k) t (K ⟨⟩)) [0, 1, 2, 3, 4] ⟨⟩ fun _ =>
  seqK (fun r (_ : PUnit) K => groupK arg15 arg16 arg17 arg18 (zldW k) r (K ⟨⟩)) [0, 1, 2, 3] ⟨⟩ fun _ =>
  issueP arg3 harg3 arg4 arg11 harg11 arg12 arg24 arg25 k
end

end Cert.Kernel.Run
-- ==== Proof.RunK.Head.lean ====
/-
  THE REST OF THE KERNEL, ROLLED UP: the first three copies, the table of ancestors, the quantiser, the casts of the
  activations, and, after the chunk loop, the reduction of the running sums, the 126 picks and the four stores.
-/
module

public import proofs.«01_k».proof.Proof.RunK.Rolled

@[expose] public section

noncomputable section

namespace Cert.Kernel.Run

open Idealize.ShloMosaic Idealize.SL.Sem
open Idealize.ShloMosaic.RefSig (ofTc tcTables tileCredit tileCredit_eq_zero tileCredit_pos)
open Facts₀ Facts

variable {F : FTy → Type} [FloatOps F]

/-! ## Values -/

/-- A row of the ancestors' table: the parent's row with the node itself added. -/
def ancRow (v36 : IVec S1x128 32) (w : BitVec 32) (row : Vec F S1x128 .f32) : FVec F S1x128 .f32 :=
  shapeCast S1x128 (select (cmpi .eq v36 (broadcast S1x128 w)) (broadcast S1x128 (Scalar.ofBits .f32 0x3F800000#32)) row) shapeCasts_S1x128_S1x128

/-- A block of activations as 32-bit floats. -/
def xblk (x : Vec F S1x42x128 .bf16) : FVec F S42x128 .f32 := extf .f32 (shapeCast S42x128 x shapeCasts_S1x42x128_S42x128) bitsLt_bf16_f32
/-- Its largest magnitude per row over 448. -/
def yblk (x : Vec F S1x42x128 .bf16) : FVec F S42x1 .f32 :=
  mulf (shapeCast S42x1 (multiReduction .maximumf [1] S42 (absf (xblk x)) 0xFF800000#32 reduces_S42x128_S42 (.inl rfl) rfl) shapeCasts_S42_S42x1)
    (broadcast S42x1 (Scalar.ofBits .f32 0x3B124925#32))
/-- One step of the search for the exponent field. -/
def bisStep (w : BitVec 32) (y : FVec F S42x1 .f32) (f : IVec S42x1 32) : IVec S42x1 32 :=
  select (cmpf .oge y (bitcastToFloat .f32 (shli (addi f (broadcast S42x1 w)) (broadcast S42x1 23#32)))) (addi f (broadcast S42x1 w)) f
/-- The exponent field. -/
def field (y : FVec F S42x1 .f32) : IVec S42x1 32 :=
  bisStep 1#32 y (bisStep 2#32 y (bisStep 4#32 y (bisStep 8#32 y (bisStep 16#32 y (bisStep 32#32 y (bisStep 64#32 y (bisStep 128#32 y (broadcast S42x1 0#32))))))))
/-- The exponent of the scale. -/
def expo (f : IVec S42x1 32) : IVec S42x1 32 :=
  select (ori (cmpi .eq f (broadcast S42x1 0#32)) (cmpi .eq f (broadcast S42x1 255#32))) (broadcast S42x1 0#32) (subi f (broadcast S42x1 126#32))
/-- Two to the exponent, and its inverse. -/
def pow2 (e : IVec S42x1 32) : FVec F S42x1 .f32 := bitcastToFloat .f32 (shli (addi e (broadcast S42x1 127#32)) (broadcast S42x1 23#32))
def ipow2 (e : IVec S42x1 32) : FVec F S42x1 .f32 := bitcastToFloat .f32 (shli (subi (broadcast S42x1 127#32) e) (broadcast S42x1 23#32))
/-- The block's scales. -/
def qscale (x : Vec F S1x42x128 .bf16) : FVec F S42x1 .f32 := pow2 (expo (field (yblk x)))
/-- The block's codes. -/
def qcode (x : Vec F S1x42x128 .bf16) : FVec F S42x128 .fp8e4m3 :=
  truncf .fp8e4m3 (minimumf (broadcast S42x128 (Scalar.ofBits .f32 0x43E00000#32)) (maximumf (broadcast S42x128 (Scalar.ofBits .f32 0xC3E00000#32))
    (mulf (xblk x) (broadcastTo S42x128 (ipow2 (expo (field (yblk x)))) broadcasts_S42x1_S42x128)))) bitsLt_fp8e4m3_f32
/-- The block's values after the quantiser. -/
def qval (x : Vec F S1x42x128 .bf16) : FVec F S42x128 .f32 :=
  shapeCast S42x128 (mulf (extf .f32 (qcode x) bitsLt_fp8e4m3_f32) (broadcastTo S42x128 (qscale x) broadcasts_S42x1_S42x128)) shapeCasts_S42x128_S42x128
/-- The scales collected so far, with one more column. -/
def qcol (v46 : IVec S42x128 32) (w : BitVec 32) (x : Vec F S1x42x128 .bf16) (acc : FVec F S42x128 .f32) : FVec F S42x128 .f32 :=
  select (cmpi .eq v46 (broadcast S42x128 w)) (broadcastTo S42x128 (shapeCast S42x1 (qscale x) shapeCasts_S42x1_S42x1) broadcasts_S42x1_S42x128) acc

/-- The first 52 columns. -/
def cols52 (v : FVec F S42x128 .f32) : FVec F S42x52 .f32 := extractStridedSlice S42x52 ![0, 0] v slices_S42x128_o0_0_S42x52

/-! The reduction of the running sums. -/
def rmax (m : Vec F S128x128 .f32) : FVec F S128x1 .f32 := shapeCast S128x1 (multiReduction .maximumf [1] S128 m 0xFF800000#32 reduces_S128x128_S128 (.inl rfl) rfl) shapeCasts_S128_S128x1
def rdif (m : Vec F S128x128 .f32) : FVec F S128x128 .f32 := subf m (broadcastTo S128x128 (rmax m) broadcasts_S128x1_S128x128)
def rsum (m s : Vec F S128x128 .f32) : FVec F S128x1 .f32 :=
  shapeCast S128x1 (multiReduction .add [1] S128 (mulf s (exp2 (rdif m))) 0x00000000#32 reduces_S128x128_S128 (.inl rfl) rfl) shapeCasts_S128_S128x1
def rtot (m s t : Vec F S128x128 .f32) : FVec F S128x1 .f32 :=
  shapeCast S128x1 (multiReduction .add [1] S128 (mulf (addf t (mulf s (rdif m))) (exp2 (rdif m))) 0x00000000#32 reduces_S128x128_S128 (.inl rfl) rfl) shapeCasts_S128_S128x1
def rlog (m s : Vec F S128x128 .f32) : FVec F S128x1 .f32 := mulf (log (rsum m s)) (broadcast S128x1 (Scalar.ofBits .f32 0x3FB8AA3B#32))
/-- The entropy of each row. -/
def rent (m s t : Vec F S128x128 .f32) : FVec F S128x1 .f32 :=
  mulf (broadcast S128x1 (Scalar.ofBits .f32 0x3F317218#32)) (subf (rlog m s) (divf (rtot m s t) (rsum m s)))
/-- The logarithm of each row's normaliser, at base two. -/
def rlse (m s : Vec F S128x128 .f32) : FVec F S128x1 .f32 := addf (rmax m) (rlog m s)
/-- A column spread over a tile. -/
def spread (v : FVec F S128x1 .f32) : FVec F S128x128 .f32 := broadcastTo S128x128 (shapeCast S128x1 v shapeCasts_S128x1_S128x1) broadcasts_S128x1_S128x128
def same128 (v : FVec F S128x128 .f32) : FVec F S128x128 .f32 := shapeCast S128x128 v shapeCasts_S128x128_S128x128

/-- The picked score of a token against its parent's normaliser. -/
def pickVal (v180 : IVec S1x128 32) (w : BitVec 32) (z : Vec F S1x1x128 .f32) (l : Vec F S1x128 .f32) : FVec F S1x128 .f32 :=
  shapeCast S1x128 (select (cmpi .eq v180 (broadcast S1x128 (Scalar.remsi w 128#32)))
    (subf (shapeCast S1x128 z shapeCasts_S1x1x128_S1x128) l) (broadcast S1x128 (Scalar.ofBits .f32 0x00000000#32))) shapeCasts_S1x128_S1x128

/-! The last tile: four results side by side. -/
def rootMask : IVec S128x128 1 :=
  cmpi .eq (remsi (iota .tc S128x128 32 [0] iota_S128x128_d0_w32) (broadcast S128x128 42#32)) (broadcast S128x128 0#32)
def colIota : IVec S128x128 32 := iota .tc S128x128 32 [1] iota_S128x128_d1_w32
def zero128 : FVec F S128x128 .f32 := broadcast S128x128 (Scalar.ofBits .f32 0x00000000#32)
def lpTile (pick : Vec F S128x128 .f32) : FVec F S128x128 .f32 :=
  spread (mulf (broadcast S128x1 (Scalar.ofBits .f32 0x3F317218#32))
    (shapeCast S128x1 (multiReduction .add [1] S128 pick 0x00000000#32 reduces_S128x128_S128 (.inl rfl) rfl) shapeCasts_S128_S128x1))
def marginTile (lp : FVec F S128x128 .f32) (hp : Vec F S128x128 .f32) : FVec F S128x128 .f32 :=
  select rootMask zero128 (subf (exp lp) (minimumf (broadcast S128x128 (Scalar.ofBits .f32 0x3DB851EC#32))
    (mulf (broadcast S128x128 (Scalar.ofBits .f32 0x3E99999A#32)) (exp (subf zero128 hp)))))
def pmTile (mg : FVec F S128x128 .f32) (anc : Vec F S128x128 .f32) : FVec F S128x128 .f32 :=
  select rootMask zero128 (spread (shapeCast S128x1 (multiReduction .minimumf [1] S128
    (select (cmpf .ogt anc (broadcast S128x128 (Scalar.ofBits .f32 0x3F000000#32))) (transpose S128x128 [1, 0] mg transposes_S128x128_p1_0_S128x128)
      (broadcast S128x128 (Scalar.ofBits .f32 0x7F800000#32))) 0x7F800000#32 reduces_S128x128_S128 (.inl rfl) rfl) shapeCasts_S128_S128x1))
def outTile (ent : FVec F S128x1 .f32) (lp mg pm : FVec F S128x128 .f32) : FVec F S128x128 .f32 :=
  transpose S128x128 [1, 0] (select (cmpi .eq colIota (broadcast S128x128 0#32)) (spread ent)
    (select (cmpi .eq colIota (broadcast S128x128 1#32)) (select rootMask zero128 lp)
      (select (cmpi .eq colIota (broadcast S128x128 2#32)) mg pm))) transposes_S128x128_p1_0_S128x128

/-! ## Programs -/

/-- The word of scalar memory at a rectangle of one element. -/
abbrev sw {α : Type} (m : Memref sig .tc .smem S3x42 .i32) (o : Fin 2 → Nat) (h : ∀ a, o a + S1x1.size a ≤ S3x42.size a)
    (K : BitVec 32 → TP F α) : TP F α :=
  smemLoadElt m (Rect.unit (s := S3x42) o S1x1.size h) (View.loads_smem_one rfl numel1_S1x1) (Shape.Idx.first (numel1_S1x1.symm ▸ Nat.one_pos)) K
/-- An assumption. -/
abbrev asm {α : Type} (P : Prop) (d : Decidable P) (K : P → TP F α) : TP F α := .op (.assume P d) fun h => K h.down
/-- A store of narrower elements, after the load of what it replaces. -/
abbrev stn {α : Type} {s : Shape} {e : EltTy} (m : Memref sig .tc .vmem s e) (r : Rect s) (h : 0 < r.shape.numel)
    (hs : (m.access r).StoreExact Finset.univ) (w : Vec F r.shape e) (K : TP F α) : TP F α :=
  ld m r h fun _ => .op (.store m r w Finset.univ (View.stores_vmem h hs (fun _ => rfl)) (.inl rfl)) fun _ => K

abbrev whole128 : Rect S128x128 := Rect.unit (s := S128x128) ![0, 0] S128x128.size inb_S128x128_S128x128_0_0
abbrev pad128 : Rect S128x128 := Rect.unit (s := S128x128) ![126, 0] S2x128.size inb_S128x128_S2x128_126_0
abbrev rowRect (i : Fin 126) : Rect S128x128 := Rect.unit (s := S128x128) ![i.val, 0] S1x128.size (inb2 (by omega) (by omega))
abbrev castRect (i : Fin 13) : Rect S128x6656 := Rect.unit (s := S128x6656) ![0, 512 * i.val] S128x512.size (inb2 (by omega) (by omega))
abbrev outRect (b : Fin 3) : Rect S3x42 := Rect.unit (s := S3x42) ![b.val, 0] S1x42.size (inb2 (by omega) (by omega))

theorem castPacked (i : Fin 13) : (castRect i).PackedRows (EltTy.packing .bf16) := by
  fin_cases i
  · exact packedbf16_S128x6656_S128x512_0_0
  · exact packedbf16_S128x6656_S128x512_0_512
  · exact packedbf16_S128x6656_S128x512_0_1024
  · exact packedbf16_S128x6656_S128x512_0_1536
  · exact packedbf16_S128x6656_S128x512_0_2048
  · exact packedbf16_S128x6656_S128x512_0_2560
  · exact packedbf16_S128x6656_S128x512_0_3072
  · exact packedbf16_S128x6656_S128x512_0_3584
  · exact packedbf16_S128x6656_S128x512_0_4096
  · exact packedbf16_S128x6656_S128x512_0_4608
  · exact packedbf16_S128x6656_S128x512_0_5120
  · exact packedbf16_S128x6656_S128x512_0_5632
  · exact packedbf16_S128x6656_S128x512_0_6144

section
variable {α : Type} (arg3 : Memref sig .tc .hbm S6656x32000 .fp8e4m3) (harg3 : arg3.IsWhole) (arg4 : Memref sig .tc .hbm S52x32000 .f32)
  (arg11 : Memref sig .tc .vmem S3x6656x1280 .fp8e4m3) (harg11 : arg11.IsWhole) (arg12 : Memref sig .tc .vmem S3x52x1280 .f32)
  (arg24 arg25 : DmaSems sig S3)

/-- Start the copy of a chunk of weights into a slot. -/
def copyW (oc : Fin 2 → Nat) (hc : ∀ a, oc a + S6656x1280.size a ≤ S6656x32000.size a) (os : Fin 3 → Nat) (hs : ∀ a, os a + S1x6656x1280.size a ≤ S3x6656x1280.size a)
    (om : Fin 1 → Nat) (hm : ∀ a, om a + S1.size a ≤ S3.size a)
    (wc : (Rect.unit (s := S6656x32000) oc S6656x1280.size hc).WholeWords (EltTy.packing .fp8e4m3))
    (ws : (Rect.unit (s := S3x6656x1280) os S1x6656x1280.size hs).WholeWords (EltTy.packing .fp8e4m3)) (K : TP F α) : TP F α :=
  .op (.enqueueDma (arg3.slice (Rect.unit (s := S6656x32000) oc S6656x1280.size hc) (fun _ => rfl))
      (.here ((arg11.slice (Rect.unit (s := S3x6656x1280) os S1x6656x1280.size hs) (fun _ => rfl)).squeeze S6656x1280 squeezes_S1x6656x1280_S6656x1280))
      (.dma ((arg24.slice (Rect.unit (s := S3) om S1.size hm)).squeeze S_ squeezes_S1_S_).sem)
      (harg3.wordExact_slice rfl _ wc) ((harg11.wordExact_slice rfl _ ws).reshape _ _) ⟨Or.inl rfl, trivial⟩) fun _ => K

/-- Start the copy of a chunk of scales into a slot. -/
def copyS (oc : Fin 2 → Nat) (hc : ∀ a, oc a + S52x1280.size a ≤ S52x32000.size a) (os : Fin 3 → Nat) (hs : ∀ a, os a + S1x52x1280.size a ≤ S3x52x1280.size a)
    (om : Fin 1 → Nat) (hm : ∀ a, om a + S1.size a ≤ S3.size a) (K : TP F α) : TP F α :=
  .op (.enqueueDma (arg4.slice (Rect.unit (s := S52x32000) oc S52x1280.size hc) (fun _ => rfl))
      (.here ((arg12.slice (Rect.unit (s := S3x52x1280) os S1x52x1280.size hs) (fun _ => rfl)).squeeze S52x1280 squeezes_S1x52x1280_S52x1280))
      (.dma ((arg25.slice (Rect.unit (s := S3) om S1.size hm)).squeeze S_ squeezes_S1_S_).sem)
      (View.wordExact_bits rfl) ((View.wordExact_bits rfl).reshape _ _) ⟨Or.inl rfl, trivial⟩) fun _ => K

/-- The first copies: chunks 0 and 1, and the weights of chunk 2. -/
def prologP : TP F PUnit :=
  copyW arg3 harg3 arg11 harg11 arg24 ![0, 0] inb_S6656x32000_S6656x1280_0_0 (k0_off2 0#32) (k0_off2_inb 0) (k0_off1 0#32) (k0_off1_inb 0) wordsfp8e4m3_S6656x32000_S6656x1280_0_0 (k0_off2_wordsfp8e4m3 0) <|
  copyS arg4 arg12 arg25 ![0, 0] inb_S52x32000_S52x1280_0_0 (k0_off3 0#32) (k0_off3_inb 0) (k0_off1 0#32) (k0_off1_inb 0) <|
  copyW arg3 harg3 arg11 harg11 arg24 ![0, 1280] inb_S6656x32000_S6656x1280_0_1280 (k0_off2 1#32) (k0_off2_inb 1) (k0_off1 1#32) (k0_off1_inb 1) wordsfp8e4m3_S6656x32000_S6656x1280_0_1280 (k0_off2_wordsfp8e4m3 1) <|
  copyS arg4 arg12 arg25 ![0, 1280] inb_S52x32000_S52x1280_0_1280 (k0_off3 1#32) (k0_off3_inb 1) (k0_off1 1#32) (k0_off1_inb 1) <|
  copyW arg3 harg3 arg11 harg11 arg24 ![0, 2560] inb_S6656x32000_S6656x1280_0_2560 (k0_off2 2#32) (k0_off2_inb 2) (k0_off1 2#32) (k0_off1_inb 2) wordsfp8e4m3_S6656x32000_S6656x1280_0_2560 (k0_off2_wordsfp8e4m3 2) <|
  .ret ⟨⟩

end

section
variable {α : Type} (arg0 arg1 : Memref sig .tc .smem S3x42 .i32) (arg2 : Memref sig .tc .vmem S3x42x6656 .bf16)
  (arg4 : Memref sig .tc .hbm S52x32000 .f32) (arg9 : Memref sig .tc .vmem S3x42x6656 .fp8e4m3) (harg9 : arg9.IsWhole)
  (arg10 : Memref sig .tc .vmem S3x42x52 .f32) (arg12 : Memref sig .tc .vmem S3x52x1280 .f32)
  (arg13 : Memref sig .tc .vmem S128x6656 .f32) (arg14 : Memref sig .tc .vmem S128x6656 .bf16) (harg14 : arg14.IsWhole)
  (arg16 arg17 arg18 arg19 : Memref sig .tc .vmem S128x128 .f32) (arg25 : DmaSems sig S3)

/-- One row of the ancestors' table. -/
def ancK (v36 : IVec S1x128 32) (o : Fin 2 → Nat) (h : ∀ a, o a + S1x1.size a ≤ S3x42.size a) (P : BitVec 32 → Prop) (d : ∀ v, Decidable (P v))
    (op : BitVec 32 → Fin 2 → Nat) (hp : ∀ v, P v → ∀ a, op v a + S1x128.size a ≤ S128x128.size a)
    (os : Fin 2 → Nat) (hs : ∀ a, os a + S1x128.size a ≤ S128x128.size a) (w : BitVec 32) (K : TP F α) : TP F α :=
  sw arg0 o h fun v => asm (P v) (d v) fun hv =>
  ld arg19 (Rect.unit (s := S128x128) (op v) S1x128.size (hp v hv)) h_S1x128 fun row =>
  st arg19 (Rect.unit (s := S128x128) os S1x128.size hs) h_S1x128 (ancRow v36 w row) K

/-- The ancestors of one node of each of the three trees. -/
def ancP (v36 : IVec S1x128 32) (k : Fin k0_t1_loop.trips) : TP F PUnit :=
  ancK arg0 arg19 v36 (k0_off4 k) (k0_off4_inb k) k0_chk1 k0_chk1.dec k0_off5 k0_off5_inb (k0_off6 k) (k0_off6_inb k) (Scalar.addi 0#32 (Scf.iv 1#32 1#32 k)) <|
  ancK arg0 arg19 v36 (k0_off7 k) (k0_off7_inb k) k0_chk2 k0_chk2.dec k0_off8 k0_off8_inb (k0_off9 k) (k0_off9_inb k) (Scalar.addi 42#32 (Scf.iv 1#32 1#32 k)) <|
  ancK arg0 arg19 v36 (k0_off10 k) (k0_off10_inb k) k0_chk3 k0_chk3.dec k0_off11 k0_off11_inb (k0_off12 k) (k0_off12_inb k) (Scalar.addi 84#32 (Scf.iv 1#32 1#32 k)) <|
  .ret ⟨⟩

/-- One block of activations of one tree, quantised. -/
def quantP (v46 : IVec S42x128 32) (ox : Fin 3 → Nat) (hx : ∀ a, ox a + S1x42x128.size a ≤ S3x42x6656.size a)
    (tx : (Rect.unit (s := S3x42x6656) ox S1x42x128.size hx).PackedTiles)
    (of : Fin 2 → Nat) (hf : ∀ a, of a + S42x128.size a ≤ S128x6656.size a) (w : BitVec 32) (acc : FVec F S42x128 .f32) : TP F (FVec F S42x128 .f32) :=
  ld arg2 (Rect.unit (s := S3x42x6656) ox S1x42x128.size hx) h_S1x42x128 fun x =>
  stn arg9 (Rect.unit (s := S3x42x6656) ox S1x42x128.size hx) h_S1x42x128 (harg9.storeExact_slice_tiles rfl _ tx)
    (shapeCast S1x42x128 (qcode x) shapeCasts_S42x128_S1x42x128) <|
  st arg13 (Rect.unit (s := S128x6656) of S42x128.size hf) h_S42x128 (qval x) <|
  .ret (qcol v46 w x acc)

def iota46 : IVec S42x128 32 := iota .tc S42x128 32 [1] iota_S42x128_d1_w32
def iota36 : IVec S1x128 32 := iota .tc S1x128 32 [1] iota_S1x128_d1_w32
def zero42 : FVec F S42x128 .f32 := broadcast S42x128 (Scalar.ofBits .f32 0x00000000#32)
abbrev scaleOut (b : Fin 3) : Rect S3x42x52 := Rect.unit (s := S3x42x52) ![b.val, 0, 0] S1x42x52.size (inb3 (by omega) (by omega) (by omega))
def up52 (v : FVec F S42x52 .f32) : FVec F S1x42x52 .f32 := shapeCast S1x42x52 v shapeCasts_S42x52_S1x42x52
def zeroPad : FVec F S2x6656 .f32 := shapeCast S2x6656 (broadcast S2x6656 (Scalar.ofBits .f32 0x00000000#32)) shapeCasts_S2x6656_S2x6656

/-- The last first copy, the table of ancestors, and the first two trees quantised. -/
def ancQuantP : TP F (Σ' (v46 : IVec S42x128 32), FVec F S42x52 .f32) :=
  copyS arg4 arg12 arg25 ![0, 2560] inb_S52x32000_S52x1280_0_2560 (k0_off3 2#32) (k0_off3_inb 2) (k0_off1 2#32) (k0_off1_inb 2) <|
  st arg19 whole128 h_S128x128 (same128 zero128) <|
  bind (Scf.Loop.for k0_t1_loop k0_t1_ok ⟨⟩ fun k _ => ancP arg0 arg19 iota36 k) fun _ =>
  st arg13 (Rect.unit (s := S128x6656) ![126, 0] S2x6656.size inb_S128x6656_S2x6656_126_0) h_S2x6656 zeroPad <|
  bind (Scf.Loop.for k0_t2_loop k0_t2_ok zero42 fun k acc =>
    quantP arg2 arg9 harg9 arg13 iota46 (k0_off13 k) (k0_off13_inb k) (k0_off13_tilesfp8e4m3 k) (k0_off14 k) (k0_off14_inb k) (Scf.iv 0#32 1#32 k) acc) fun v49 =>
  st arg10 (scaleOut 0) h_S1x42x52 (up52 (cols52 v49)) <|
  bind (Scf.Loop.for k0_t3_loop k0_t3_ok zero42 fun k acc =>
    quantP arg2 arg9 harg9 arg13 iota46 (k0_off15 k) (k0_off15_inb k) (k0_off15_tilesfp8e4m3 k) (k0_off16 k) (k0_off16_inb k) (Scf.iv 0#32 1#32 k) acc) fun v56 =>
  .ret ⟨iota46, cols52 v56⟩

/-- A block of 512 columns of activations read as 16-bit floats. -/
def cast512 (v : Vec F S128x512 .f32) : FVec F S128x512 .bf16 := shapeCast S128x512 (truncf .bf16 v bitsLt_bf16_f32) shapeCasts_S128x512_S128x512
def castLd (i : Fin 13) (K : FVec F S128x512 .bf16 → TP F α) : TP F α :=
  ld arg13 (castRect i) h_S128x512 fun v => ld arg14 (castRect i) h_S128x512 fun _ => K (cast512 v)
def castSt (i : Fin 13) (w : FVec F S128x512 .bf16) (K : TP F α) : TP F α :=
  .op (.store arg14 (castRect i) w Finset.univ (View.stores_vmem h_S128x512 (harg14.storeExact_slice rfl _ (castPacked i)) (fun _ => rfl)) (.inl rfl)) fun _ => K
def castK (i : Fin 13) (K : TP F α) : TP F α := castLd arg13 arg14 i fun w => castSt arg14 harg14 i w K

/-- The third tree quantised, and the first casts. -/
def quantCastP (v46 : IVec S42x128 32) (v57 : FVec F S42x52 .f32) : TP F (FVec F S128x512 .bf16) :=
  st arg10 (scaleOut 1) h_S1x42x52 (up52 v57) <|
  bind (Scf.Loop.for k0_t4_loop k0_t4_ok zero42 fun k acc =>
    quantP arg2 arg9 harg9 arg13 v46 (k0_off17 k) (k0_off17_inb k) (k0_off17_tilesfp8e4m3 k) (k0_off18 k) (k0_off18_inb k) (Scf.iv 0#32 1#32 k) acc) fun v63 =>
  st arg10 (scaleOut 2) h_S1x42x52 (up52 (cols52 v63)) <|
  castK arg13 arg14 harg14 0 <| castK arg13 arg14 harg14 1 <| castK arg13 arg14 harg14 2 <|
  castLd arg13 arg14 3 fun w => .ret w

/-- More casts. -/
def castsP (v87 : FVec F S128x512 .bf16) : TP F (FVec F S128x512 .bf16) :=
  castSt arg14 harg14 3 v87 <|
  castK arg13 arg14 harg14 4 <| castK arg13 arg14 harg14 5 <| castK arg13 arg14 harg14 6 <| castK arg13 arg14 harg14 7 <| castK arg13 arg14 harg14 8 <|
  castLd arg13 arg14 9 fun w => .ret w

def negBig : FVec F S128x128 .f32 := same128 (broadcast S128x128 (Scalar.ofBits .f32 0xF149F2CA#32))

/-- The last casts and the running sums' first values. -/
def initK (v117 : FVec F S128x512 .bf16) (K : TP F α) : TP F α :=
  castSt arg14 harg14 9 v117 <| castK arg13 arg14 harg14 10 <| castK arg13 arg14 harg14 11 <| castK arg13 arg14 harg14 12 <|
  st arg16 whole128 h_S128x128 negBig <| st arg17 whole128 h_S128x128 (same128 zero128) <| st arg18 whole128 h_S128x128 (same128 zero128) K
end

section
variable {α : Type} (arg0 arg1 : Memref sig .tc .smem S3x42 .i32)
  (arg5 arg6 arg7 arg8 : Memref sig .tc .vmem S3x42 .f32)
  (arg15 : Memref sig .tc .vmem S250x128x128 .f32)
  (arg16 arg17 arg18 arg19 arg20 arg21 arg22 arg23 : Memref sig .tc .vmem S128x128 .f32)

/-- Where a pick reads the scores. -/
def pickOff (b : BitVec 32) (v w : BitVec 32) : Fin 3 → Nat :=
  ![(Scalar.indexCast (Scalar.select (Scalar.andi (Scalar.cmpi .ne (Scalar.subi (Scalar.extui (Scalar.cmpi .sgt w 0#32)) (Scalar.extui (Scalar.cmpi .slt w 0#32)))
        (Scalar.subi (Scalar.extui (Scalar.cmpi .sgt 128#32 0#32)) (Scalar.extui (Scalar.cmpi .slt 128#32 0#32)))) (Scalar.cmpi .ne (Scalar.remsi w 128#32) 0#32))
      (Scalar.subi (Scalar.divsi w 128#32) 1#32) (Scalar.divsi w 128#32))).toNat, (Scalar.indexCast (Scalar.addi v b)).toNat, 0]
def pickChk (b : BitVec 32) (v w : BitVec 32) : Prop := ∀ a, pickOff b v w a + S1x1x128.size a ≤ S250x128x128.size a
def pickChk.dec (b : BitVec 32) (v w : BitVec 32) : Decidable (pickChk b v w) := decidable_of_iff' _ (Iff.of_eq (pickChk.eq_1 b v w))
/-- The parent's row. -/
def parOff (b : BitVec 32) (v : BitVec 32) : Fin 2 → Nat := ![(Scalar.indexCast (Scalar.addi v b)).toNat, 0]
def parChk (b : BitVec 32) (v : BitVec 32) : Prop := ∀ a, parOff b v a + S1x128.size a ≤ S128x128.size a
def parChk.dec (b : BitVec 32) (v : BitVec 32) : Decidable (parChk b v) := decidable_of_iff' _ (Iff.of_eq (parChk.eq_1 b v))

theorem wordInb (i : Fin 126) : ∀ a, (![i.val / 42, i.val % 42] : Fin 2 → Nat) a + S1x1.size a ≤ S3x42.size a := inb2 (by omega) (by omega)

/-- One pick: a node's token among its parent's scores, and the parent's entropy. -/
def pickK (i : Fin 126) (K : TP F α) : TP F α :=
  sw arg0 ![i.val / 42, i.val % 42] (wordInb i) fun v =>
  asm (parChk (BitVec.ofNat 32 (42 * (i.val / 42))) v) (parChk.dec _ v) fun hv =>
  sw arg1 ![i.val / 42, i.val % 42] (wordInb i) fun w =>
  asm (pickChk (BitVec.ofNat 32 (42 * (i.val / 42))) v w) (pickChk.dec _ v w) fun hw =>
  ld arg15 (Rect.unit (s := S250x128x128) (pickOff (BitVec.ofNat 32 (42 * (i.val / 42))) v w) S1x1x128.size hw) h_S1x1x128 fun z =>
  ld arg22 (Rect.unit (s := S128x128) (parOff (BitVec.ofNat 32 (42 * (i.val / 42))) v) S1x128.size hv) h_S1x128 fun l =>
  st arg20 (rowRect i) h_S1x128 (pickVal iota36 w z l) <|
  ld arg23 (Rect.unit (s := S128x128) (parOff (BitVec.ofNat 32 (42 * (i.val / 42))) v) S1x128.size hv) h_S1x128 fun e =>
  st arg21 (rowRect i) h_S1x128 (shapeCast S1x128 e shapeCasts_S1x128_S1x128) K

def zero2 : FVec F S2x128 .f32 := shapeCast S2x128 (broadcast S2x128 (Scalar.ofBits .f32 0x00000000#32)) shapeCasts_S2x128_S2x128

/-- The 42 entries of one result for one tree, out of the last tile. -/
def outRow (o : FVec F S128x128 .f32) (q : Fin 4) (b : Fin 3) : FVec F S1x42 .f32 :=
  extractStridedSlice S1x42 ![q.val, 42 * b.val] o (by
    fin_cases q <;> fin_cases b
    · exact slices_S128x128_o0_0_S1x42
    · exact slices_S128x128_o0_42_S1x42
    · exact slices_S128x128_o0_84_S1x42
    · exact slices_S128x128_o1_0_S1x42
    · exact slices_S128x128_o1_42_S1x42
    · exact slices_S128x128_o1_84_S1x42
    · exact slices_S128x128_o2_0_S1x42
    · exact slices_S128x128_o2_42_S1x42
    · exact slices_S128x128_o2_84_S1x42
    · exact slices_S128x128_o3_0_S1x42
    · exact slices_S128x128_o3_42_S1x42
    · exact slices_S128x128_o3_84_S1x42)

/-- The four results of one tree stored. -/
def outK (o : FVec F S128x128 .f32) (b : Fin 3) (K : TP F α) : TP F α :=
  st arg5 (outRect b) h_S1x42 (outRow o 0 b) <| st arg6 (outRect b) h_S1x42 (outRow o 1 b) <|
  st arg7 (outRect b) h_S1x42 (outRow o 2 b) <| st arg8 (outRect b) h_S1x42 (outRow o 3 b) K

/-- The last reads and the stores of the results. -/
def finishK (ent : FVec F S128x1 .f32) (K : TP F α) : TP F α :=
  ld arg20 whole128 h_S128x128 fun pick => ld arg21 whole128 h_S128x128 fun hp => ld arg19 whole128 h_S128x128 fun anc =>
  seqK (fun b (_ : PUnit) K => outK arg5 arg6 arg7 arg8
    (outTile ent (lpTile pick) (marginTile (lpTile pick) hp) (pmTile (marginTile (lpTile pick) hp) anc)) b (K ⟨⟩)) [0, 1, 2] ⟨⟩ fun _ => K

/-- The reduction of the running sums. -/
def reduceK (K : FVec F S128x1 .f32 → TP F α) : TP F α :=
  ld arg16 whole128 h_S128x128 fun m => ld arg17 whole128 h_S128x128 fun s => ld arg18 whole128 h_S128x128 fun t =>
  st arg22 whole128 h_S128x128 (same128 (spread (rlse m s))) <| st arg23 whole128 h_S128x128 (same128 (spread (rent m s t))) <|
  st arg20 pad128 h_S2x128 zero2 <| st arg21 pad128 h_S2x128 zero2 <| K (rent m s t)

def all126 : List (Fin 126) := [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125]

/-- All that follows the chunk loop. -/
def tailP : TP F PUnit :=
  reduceK arg16 arg17 arg18 arg20 arg21 arg22 arg23 fun ent =>
  seqK (fun i (_ : PUnit) K => pickK arg0 arg1 arg15 arg20 arg21 arg22 arg23 i (K ⟨⟩)) all126 ⟨⟩ fun _ =>
  finishK arg5 arg6 arg7 arg8 arg19 arg20 arg21 ent (.ret ⟨⟩)
end

end Cert.Kernel.Run
-- ==== Proof.RunK.Own.lean ====
/-
  BUFFERS OWNED AT CONTENTS: the steps of the rolled program, each stated as taking contents to contents.
-/
module

public import proofs.«01_k».proof.Proof.RunK.Head
public import proofs.«01_k».proof.Proof.Gen.Kernel.Launch
public import Idealize.ShloMosaic.Lib.Pipeline.Frame
public import Idealize.ShloMosaic.Lib.Ring
public import Idealize.ShloMosaic.Lib.Transfers
public import Idealize.ShloMosaic.Lib.Tactic

@[expose] public section

noncomputable section

namespace Cert.Kernel.Run

open Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

/-- The assertions of the proof. -/
abbrev SP (F : FTy → Type) : Type := sProp (MT nD τ sig Unit (Elt F) ℕ (UD sig nD τ) ℕ)
abbrev 𝒱₀ : Variants := Variants.none

/-- A memref owned in full, its contents read through it being `X`. -/
abbrev own (c : Dev nD) {sp : Space} {sh : Shape} {e : EltTy} (m : Memref sig .tc sp sh e) (X : sh.Idx → Elt F e) : SP F :=
  owns (c : Thread nD τ) m fullShare X

/-- What it takes for a program of the core to end in `Q`. -/
abbrev W (c : Dev nD) {α : Type} (p : TP F α) (Q : α → SP F) : SP F :=
  wp frame (wpE (defs₀ (F := F)) 𝒱₀ (c : Thread nD τ) none) Set.univ p Q

/-- Contents with a box replaced. -/
def upd {s : Shape} {α : Type} (off sz : Fin s.rank → ℕ) (X : s.Idx → α) (w : (⟨s.rank, sz⟩ : Shape).Idx → α) : s.Idx → α :=
  fun y => if h : ∀ a, off a ≤ (y a).val ∧ (y a).val < off a + sz a then w (fun a => ⟨(y a).val - off a, by have := h a; show _ < sz a; omega⟩) else X y

theorem emb_unit_val {s : Shape} (off sz : Fin s.rank → ℕ) (inb : ∀ a, off a + sz a ≤ s.size a) (x : (Rect.unit off sz inb).shape.Idx) (a : Fin s.rank) :
    ((Rect.unit off sz inb).emb x a).val = off a + (x a).val := by
  show off a + 1 * (x a).val = _; omega

theorem read_write_unit {sp : Space} {s : Shape} {e : EltTy} {Val : EltTy → Type} (v : View sig .tc sp s e) (off sz : Fin s.rank → ℕ)
    (inb : ∀ a, off a + sz a ≤ s.size a) (f : v.ty.Contents Val) (w : (Rect.unit off sz inb).shape.Idx → Val e) :
    v.read Val ((v.slice (Rect.unit off sz inb)).write Val f w Finset.univ) = upd off sz (v.read Val f) w := by
  funext y
  unfold upd
  split_ifs with h
  · have hy : y = (Rect.unit off sz inb).emb (fun a => ⟨(y a).val - off a, by have := h a; show _ < sz a; omega⟩) := by
      funext a; apply Fin.ext; have := h a; rw [emb_unit_val]; show _ = off a + ((y a).val - off a); omega
    conv_lhs => rw [hy]
    rw [View.read_slice_write_emb _ _ _ (Finset.mem_univ _)]
  · apply View.read_slice_write_of_not_mem
    intro hm
    rw [Finset.mem_map] at hm
    obtain ⟨x, -, rfl⟩ := hm
    apply h; intro a
    have := (x a).isLt
    rw [emb_unit_val]
    exact ⟨by omega, by have h2 : (x a).val < sz a := this; omega⟩

section Steps
variable (c : Dev nD) {α : Type} {Q : α → SP F}

theorem own_load {cs : CoreSpace} {s : Shape} {e : EltTy} (m : Memref sig .tc cs s e) (r : Rect s) {hl : m.view.LoadsAt r.toLoadRect} (X : s.Idx → Elt F e)
    (K : Vec F r.shape e → TP F α) :
    own c m X ⊢ iprop((own c m X -∗ W c (K (fun i => X (r.emb i))) Q) -∗ W c (.op (.load m r.toLoadRect hl) K) Q) := by
  unfold own owns
  iintro ⟨%f, %hf, H⟩ HK
  subst hf
  have hS : (m.access r).set ⊆ m.view.set := View.set_slice_subset _ _
  iapply (wp_load_rect 𝒱₀ (c : Thread nD τ) none Set.univ (m := m) (r := r) hS) $$ H
  iintro H
  iapply HK
  iexists f
  isplitr; · ipureintro; rfl
  iexact H

theorem own_store {cs : CoreSpace} {s : Shape} {e : EltTy} (m : Memref sig .tc cs s e) (off sz : Fin s.rank → ℕ)
    (inb : ∀ a, off a + sz a ≤ s.size a) {hx} {hm} (X : s.Idx → Elt F e) (w : Vec F (Rect.unit off sz inb).shape e) (K : PUnit → TP F α) :
    own c m X ⊢ iprop((own c m (upd off sz X w) -∗ W c (K ⟨⟩) Q) -∗ W c (.op (.store m (Rect.unit off sz inb) w Finset.univ hx hm) K) Q) := by
  unfold own owns
  iintro ⟨%f, %hf, H⟩ HK
  subst hf
  have hS : (m.access (Rect.unit off sz inb)).setOn Finset.univ ⊆ m.view.set := View.set_slice_subset _ _
  iapply (wp_store 𝒱₀ (c : Thread nD τ) none Set.univ (m := m) (r := Rect.unit off sz inb) hS) $$ H
  iintro H
  iapply HK
  iexists _
  isplitr; · ipureintro; exact read_write_unit m.view off sz inb f w
  iexact H

theorem own_ld {s : Shape} {e : EltTy} (m : Memref sig .tc .vmem s e) (r : Rect s) (h : 0 < r.shape.numel) (X : s.Idx → Elt F e) (K : Vec F r.shape e → TP F α) :
    own c m X ⊢ iprop((own c m X -∗ W c (K (fun i => X (r.emb i))) Q) -∗ W c (ld m r h K) Q) :=
  own_load c m r X K

theorem own_st {s : Shape} (m : Memref sig .tc .vmem s .f32) (off sz : Fin s.rank → ℕ) (inb : ∀ a, off a + sz a ≤ s.size a)
    (h : 0 < (Rect.unit off sz inb).shape.numel) (X : s.Idx → Elt F .f32) (w : Vec F (Rect.unit off sz inb).shape .f32) (K : TP F α) :
    own c m X ⊢ iprop((own c m (upd off sz X w) -∗ W c K Q) -∗ W c (st m (Rect.unit off sz inb) h w K) Q) := by
  iintro H HK
  iapply (own_ld c m (Rect.unit off sz inb) h X (fun _ => .op (.store m (Rect.unit off sz inb) w Finset.univ (View.stores_vmem_bits_univ h rfl) (.inl rfl)) fun _ => K)) $$ H
  iintro H
  iapply (own_store c m off sz inb X w (fun _ => K)) $$ H
  iexact HK

theorem own_stn {s : Shape} {e : EltTy} (m : Memref sig .tc .vmem s e) (off sz : Fin s.rank → ℕ) (inb : ∀ a, off a + sz a ≤ s.size a)
    (h : 0 < (Rect.unit off sz inb).shape.numel) (hs : (m.access (Rect.unit off sz inb)).StoreExact Finset.univ) (X : s.Idx → Elt F e)
    (w : Vec F (Rect.unit off sz inb).shape e) (K : TP F α) :
    own c m X ⊢ iprop((own c m (upd off sz X w) -∗ W c K Q) -∗ W c (stn m (Rect.unit off sz inb) h hs w K) Q) := by
  iintro H HK
  iapply (own_ld c m (Rect.unit off sz inb) h X (fun _ => .op (.store m (Rect.unit off sz inb) w Finset.univ (View.stores_vmem h hs (fun _ => rfl)) (.inl rfl)) fun _ => K)) $$ H
  iintro H
  iapply (own_store c m off sz inb X w (fun _ => K)) $$ H
  iexact HK

/-- The word a scalar read takes. -/
def wordAt (X : S3x42.Idx → BitVec 32) (o : Fin 2 → ℕ) (h : ∀ a, o a + S1x1.size a ≤ S3x42.size a) : BitVec 32 :=
  X ((Rect.unit (s := S3x42) o S1x1.size h).emb (Shape.Idx.first (numel1_S1x1.symm ▸ Nat.one_pos)))

theorem own_sw (m : Memref sig .tc .smem S3x42 .i32) (o : Fin 2 → ℕ) (h : ∀ a, o a + S1x1.size a ≤ S3x42.size a) (X : S3x42.Idx → Elt F .i32)
    (K : BitVec 32 → TP F α) :
    own c m X ⊢ iprop((own c m X -∗ W c (K (wordAt X o h)) Q) -∗ W c (sw m o h K) Q) := by
  unfold own owns
  iintro ⟨%f, %hf, H⟩ HK
  subst hf
  have hS : (m.access (Rect.unit (s := S3x42) o S1x1.size h)).set ⊆ m.view.set := View.set_slice_subset _ _
  iapply (wp_smemLoadElt 𝒱₀ (c : Thread nD τ) none Set.univ (m := m) hS) $$ H
  iintro H
  iapply HK
  iexists f
  isplitr; · ipureintro; rfl
  iexact H

theorem W_asm {P : Prop} {d : Decidable P} (h : P) (K : P → TP F α) : W c (K h) Q ⊢ W c (asm P d K) Q :=
  wp_assume (defs := defs₀ (F := F)) 𝒱₀ (c : Thread nD τ) none Set.univ (P := P) (k := fun h => K h.down) h

theorem W_ret (a : α) : Q a ⊢ W c (.ret a) Q := by
  show Q a ⊢ wp _ _ _ (.ret a) Q
  rw [wp_ret]
  iintro H; imodintro; iexact H

/-- A sequence of programs that take the state `s` to `T k s`. -/
theorem W_seqK {n : ℕ} {σ : Type} (f : Fin n → PUnit → (PUnit → TP F α) → TP F α) (S : σ → SP F) (T : Fin n → σ → σ)
    (hf : ∀ k s (K : TP F α), S s ⊢ iprop((S (T k s) -∗ W c K Q) -∗ W c (f k ⟨⟩ fun _ => K) Q)) (K : PUnit → TP F α) :
    ∀ (ks : List (Fin n)) (s : σ), S s ⊢ iprop((S (ks.foldl (fun s k => T k s) s) -∗ W c (K ⟨⟩) Q) -∗ W c (seqK f ks ⟨⟩ K) Q)
  | [], s => by simp only [seqK, List.foldl_nil]; iintro H HK; iapply HK; iexact H
  | k :: ks, s => by
    simp only [seqK, List.foldl_cons]
    iintro H HK
    iapply (hf k s (seqK f ks ⟨⟩ K)) $$ H
    iintro H
    iapply (W_seqK f S T hf K ks (T k s)) $$ H
    iexact HK

/-- A sequence of programs that leave the state and take the value `a` to `T k a`. -/
theorem W_seqK_val {n : ℕ} {β : Type} (f : Fin n → β → (β → TP F α) → TP F α) (S : SP F) (T : Fin n → β → β)
    (hf : ∀ k a (K : β → TP F α), S ⊢ iprop((S -∗ W c (K (T k a)) Q) -∗ W c (f k a K) Q)) (K : β → TP F α) :
    ∀ (ks : List (Fin n)) (a : β), S ⊢ iprop((S -∗ W c (K (ks.foldl (fun a k => T k a) a)) Q) -∗ W c (seqK f ks a K) Q)
  | [], a => by simp only [seqK, List.foldl_nil]; iintro H HK; iapply HK; iexact H
  | k :: ks, a => by
    simp only [seqK, List.foldl_cons]
    iintro H HK
    iapply (hf k a (fun a' => seqK f ks a' K)) $$ H
    iintro H
    iapply (W_seqK_val f S T hf K ks (T k a)) $$ H
    iexact HK

end Steps

end Cert.Kernel.Run
-- ==== Proof.RunK.Slots.lean ====
/-
  THE THREE SLOTS OF THE COPIES: a slot owned as a matrix of its own, what a read inside it sees, and a copy started
  and waited for.
-/
module

public import proofs.«01_k».proof.Proof.RunK.Own
public import Idealize.ShloMosaic.Lib.ValueLayout

@[expose] public section

noncomputable section

namespace Cert.Kernel.Run

open Cert.Kernel.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

section Slot
variable {A B C : ℕ} {e : EltTy}

/-- Slot `sl` of a ring of matrices. -/
abbrev slotRect (sl : Fin A) : Rect (⟨3, ![A, B, C]⟩ : Shape) :=
  Rect.unit (s := ⟨3, ![A, B, C]⟩) ![sl.val, 0, 0] (⟨3, ![1, B, C]⟩ : Shape).size (inb3 (by omega) (by omega) (by omega))

abbrev slotM (m : Memref sig .tc .vmem ⟨3, ![A, B, C]⟩ e) (hq : (⟨3, ![1, B, C]⟩ : Shape).Squeezes ⟨2, ![B, C]⟩) (sl : Fin A) :
    Memref sig .tc .vmem ⟨2, ![B, C]⟩ e := (m.slice (slotRect sl) (fun _ => rfl)).squeeze ⟨2, ![B, C]⟩ hq

theorem slot_emb (m : Memref sig .tc .vmem ⟨3, ![A, B, C]⟩ e) (hq : (⟨3, ![1, B, C]⟩ : Shape).Squeezes ⟨2, ![B, C]⟩) (sl : Fin A) (i : Fin B) (j : Fin C) :
    (slotM m hq sl).view.emb (ix2 i j) = m.view.emb (ix3 sl i j) := by
  have h := shapeCast_1ab_ab_apply (α := (⟨3, ![1, B, C]⟩ : Shape).Idx) (fun x => x) hq.numel_eq i j
  have h2 : Shape.reshapeEquiv hq.numel_eq (ix2 i j) = ix3 (0 : Fin 1) i j := h
  show m.view.emb ((slotRect sl).emb (Shape.reshapeEquiv _ (ix2 i j))) = _
  rw [h2]
  congr 1
  funext a; apply Fin.ext
  rw [emb_unit_val]
  fin_cases a
  · rfl
  · show 0 + i.val = i.val; omega
  · show 0 + j.val = j.val; omega

/-- A load of a box of a ring of matrices that lies in slot `sl`. -/
theorem own_load_slot (c : Dev nD) {α : Type} {Q : α → SP F} (m : Memref sig .tc .vmem ⟨3, ![A, B, C]⟩ e)
    (hq : (⟨3, ![1, B, C]⟩ : Shape).Squeezes ⟨2, ![B, C]⟩) (sl : Fin A) (y z b d : ℕ) (hy : y + b ≤ B) (hz : z + d ≤ C)
    (inb : ∀ a, (![sl.val, y, z] : Fin 3 → ℕ) a + (⟨3, ![1, b, d]⟩ : Shape).size a ≤ (⟨3, ![A, B, C]⟩ : Shape).size a)
    (h : 0 < (Rect.unit (s := ⟨3, ![A, B, C]⟩) ![sl.val, y, z] (⟨3, ![1, b, d]⟩ : Shape).size inb).shape.numel)
    (X : (⟨2, ![B, C]⟩ : Shape).Idx → Elt F e) (K : Vec F ⟨3, ![1, b, d]⟩ e → TP F α) :
    own c (slotM m hq sl) X ⊢ iprop((own c (slotM m hq sl) X -∗
        W c (K (fun i => X (ix2 ⟨y + (i 1).val, by have h1 : (i 1).val < b := (i 1).isLt; omega⟩ ⟨z + (i 2).val, by have h1 : (i 2).val < d := (i 2).isLt; omega⟩))) Q)
      -∗ W c (ld m (Rect.unit (s := ⟨3, ![A, B, C]⟩) ![sl.val, y, z] (⟨3, ![1, b, d]⟩ : Shape).size inb) h K) Q) := by
  unfold own owns
  iintro ⟨%f, %hf, H⟩ HK
  subst hf
  have hemb : ∀ i : (⟨3, ![1, b, d]⟩ : Shape).Idx,
      m.view.emb ((Rect.unit (s := ⟨3, ![A, B, C]⟩) ![sl.val, y, z] (⟨3, ![1, b, d]⟩ : Shape).size inb).emb i)
        = (slotM m hq sl).view.emb (ix2 ⟨y + (i 1).val, by have h1 : (i 1).val < b := (i 1).isLt; omega⟩ ⟨z + (i 2).val, by have h1 : (i 2).val < d := (i 2).isLt; omega⟩) := by
    intro i
    rw [slot_emb]
    congr 1
    funext a; apply Fin.ext
    rw [emb_unit_val]
    fin_cases a
    · have h1 : (i 0).val < 1 := (i 0).isLt
      show sl.val + (i 0).val = sl.val; omega
    · rfl
    · rfl
  have hS : (m.access (Rect.unit (s := ⟨3, ![A, B, C]⟩) ![sl.val, y, z] (⟨3, ![1, b, d]⟩ : Shape).size inb)).set ⊆ (slotM m hq sl).view.set := by
    intro x hx
    rw [View.set, Finset.mem_map] at hx
    obtain ⟨i, -, rfl⟩ := hx
    have := hemb i
    rw [View.set, Finset.mem_map]
    exact ⟨_, Finset.mem_univ _, this.symm⟩
  iapply (wp_load_rect 𝒱₀ (c : Thread nD τ) none Set.univ (m := m) hS) $$ H
  iintro H
  have hr : (m.access (Rect.unit (s := ⟨3, ![A, B, C]⟩) ![sl.val, y, z] (⟨3, ![1, b, d]⟩ : Shape).size inb)).read (Elt F) f
      = fun i => (slotM m hq sl).view.read (Elt F) f (ix2 ⟨y + (i 1).val, by have h1 : (i 1).val < b := (i 1).isLt; omega⟩ ⟨z + (i 2).val, by have h1 : (i 2).val < d := (i 2).isLt; omega⟩) := by
    funext i
    have := hemb i
    show _root_.cast _ (f (m.view.emb ((Rect.unit (s := ⟨3, ![A, B, C]⟩) ![sl.val, y, z] (⟨3, ![1, b, d]⟩ : Shape).size inb).emb i))) = _root_.cast _ (f ((slotM m hq sl).view.emb _))
    rw [← this]
  rw [hr]
  iapply HK
  iexists f
  isplitr; · ipureintro; rfl
  iexact H

end Slot

section Copy
variable (c : Dev nD) {α : Type} {Q : α → SP F} {sp sp' : Space} {s : Shape} {e : EltTy}

/-- The counters' place in the proof's algebra. -/
abbrev EC : UEmb Counters (MT nD τ sig Unit (Elt F) ℕ (UD sig nD τ) ℕ) := countersEmb (U := UD sig nD τ)

/-- A copy in flight: it will bring the destination at the source's contents, and the source back. -/
abbrev fly (src : Memref sig .tc sp s e) (dst : Memref sig .tc sp' s e) (sem : DmaSem sig) (X : s.Idx → Elt F e) : SP F :=
  Transfers.Flight EC (c : Thread nD τ) (.dma sem) () dst.view.dmaCredit iprop(own c dst X ∗ own c src X)

theorem own_copy (src : Memref sig .tc sp s e) (dst : Memref sig .tc sp' s e) (sem : DmaSem sig) (hpos : 0 < s.numel)
    {hsrc : src.view.WordExact} {hdst : dst.view.WordExact} {hsem : DmaTarget.Typed sp (.dma sem) (.here dst : DmaTarget nD τ sig .tc sp' s e)}
    (X : s.Idx → Elt F e) (K : PUnit → TP F α) :
    iprop(own c src X ∗ (∃ Y, own c dst Y) ∗ semVal ((c : Thread nD τ), .dma sem) 0) ⊢
      iprop((fly c src dst sem X -∗ W c (K ⟨⟩) Q) -∗ W c (.op (.enqueueDma src (.here dst) (.dma sem) hsrc hdst hsem) K) Q) := by
  unfold own owns
  iintro ⟨⟨%fs, %hf, Hs⟩, ⟨%Y, %fd, %hfd, Hd⟩, Hv⟩ HK
  subst hf
  iapply (Transfers.wp_dmaLocal EC 𝒱₀ (c : Thread nD τ) none () dst.view.dmaCredit rfl (View.dmaCredit_pos _ hpos) (src := src) (dst := dst) subset_rfl) $$ [Hs Hd Hv]
  · isplitl [Hs]; · iexact Hs
    isplitl [Hd]; · iexact Hd
    iexact Hv
  iintro HF
  iapply HK
  iapply (Transfers.Flight_mono EC (c : Thread nD τ) ?_) $$ HF
  unfold own owns
  iintro ⟨Hd, Hs⟩
  isplitl [Hd]
  · iexists (dst.view.write (Elt F) fd (src.view.read (Elt F) fs) Finset.univ)
    isplitr
    · ipureintro
      exact View.read_write_univ _ _
    · iexact Hd
  · iexists fs
    isplitr; · ipureintro; rfl
    iexact Hs

theorem own_wait (src : Memref sig .tc sp s e) (dst : Memref sig .tc sp' s e) (sem : DmaSem sig)
    {hsrc : src.view.WordExact} {hdst : dst.view.WordExact} (X : s.Idx → Elt F e) (K : PUnit → TP F α) :
    iprop(fly c src dst sem X ∗ (∃ Wt, owes (c : Thread nD τ) 0 Wt)) ⊢
      iprop((iprop(own c dst X ∗ own c src X ∗ semVal ((c : Thread nD τ), .dma sem) 0 ∗ (∃ Wt, owes (c : Thread nD τ) 0 Wt)) -∗ W c (K ⟨⟩) Q)
        -∗ W c (.op (.waitDma2 sem src dst hsrc hdst) K) Q) := by
  iintro ⟨HF, ⟨%Wt, HO⟩⟩ HK
  iapply (Transfers.wp_waitLocal EC 𝒱₀ (c : Thread nD τ) none () rfl) $$ [HF HO]
  · isplitl [HF] <;> iassumption
  iintro ⟨⟨Hd, Hs⟩, Hv, HO⟩
  iapply HK
  isplitl [Hd]; · iexact Hd
  isplitl [Hs]; · iexact Hs
  isplitl [Hv]; · iexact Hv
  iexists _; iexact HO

end Copy
end Cert.Kernel.Run
-- ==== Proof.RunK.Segs.lean ====
/-
  THE SEGMENTS OF THE KERNEL as functions of contents: what the chunk body, the quantiser, the casts, the table of
  ancestors, the reduction, the picks and the last stores make of the buffers they are given.
-/
module

public import proofs.«01_k».proof.Proof.RunK.Slots

@[expose] public section

noncomputable section

namespace Cert.Kernel.Run

open Cert.Kernel.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The chunk body -/

/-- The scaled weight block `kb` of tile `t`. -/
def wblockF (Wk : S6656x1280.Idx → Elt F .fp8e4m3) (Sk : S52x1280.Idx → Elt F .f32) (t : Fin 5) (kb : Fin 52) : FVec F S128x256 .bf16 :=
  deq (fun i => Sk (ix2 ⟨kb.val + (i 1).val, by have h1 : (i 1).val < 1 := (i 1).isLt; omega⟩ ⟨256 * t.val + (i 2).val, by have h1 : (i 2).val < 256 := (i 2).isLt; omega⟩))
    (fun i => Wk (ix2 ⟨128 * kb.val + (i 1).val, by have h1 : (i 1).val < 128 := (i 1).isLt; omega⟩ ⟨256 * t.val + (i 2).val, by have h1 : (i 2).val < 256 := (i 2).isLt; omega⟩))
/-- One product. -/
def prodF (X : S128x6656.Idx → Elt F .bf16) (Wk : S6656x1280.Idx → Elt F .fp8e4m3) (Sk : S52x1280.Idx → Elt F .f32) (t : Fin 5) (k : Fin 26) : FVec F S128x256 .f32 :=
  prod2 (fun i => X ((actRect k).emb i)) (wblockF Wk Sk t ⟨2 * k.val, by omega⟩) (wblockF Wk Sk t ⟨2 * k.val + 1, by omega⟩)
/-- A tile's scores. -/
def accF (X : S128x6656.Idx → Elt F .bf16) (Wk : S6656x1280.Idx → Elt F .fp8e4m3) (Sk : S52x1280.Idx → Elt F .f32) (t : Fin 5) : FVec F S128x256 .f32 :=
  ([1, 2, 3, 4, 5, 6, 7, 8, 9, 10, 11, 12, 13, 14, 15, 16, 17, 18, 19, 20, 21, 22, 23, 24, 25] : List (Fin 26)).foldl
    (fun acc k => addf acc (prodF X Wk Sk t k)) (prodF X Wk Sk t 0)
/-- The block of scores `j` replaced. -/
def zset (z : S250x128x128.Idx → Elt F .f32) (j : Fin 250) (w : FVec F S1x128x128 .f32) : S250x128x128.Idx → Elt F .f32 :=
  upd (s := S250x128x128) ![j.val, 0, 0] S1x128x128.size z w
/-- The scores after a tile. -/
def tileF (X : S128x6656.Idx → Elt F .bf16) (Wk : S6656x1280.Idx → Elt F .fp8e4m3) (Sk : S52x1280.Idx → Elt F .f32) (zst : Fin 5 → Fin 2 → Fin 250)
    (t : Fin 5) (z : S250x128x128.Idx → Elt F .f32) : S250x128x128.Idx → Elt F .f32 :=
  zset (zset z (zst t 0) (half0 (accF X Wk Sk t))) (zst t 1) (half1 (accF X Wk Sk t))
/-- The scores after a chunk. -/
def tilesF (X : S128x6656.Idx → Elt F .bf16) (Wk : S6656x1280.Idx → Elt F .fp8e4m3) (Sk : S52x1280.Idx → Elt F .f32) (zst : Fin 5 → Fin 2 → Fin 250)
    (z : S250x128x128.Idx → Elt F .f32) : S250x128x128.Idx → Elt F .f32 :=
  ([0, 1, 2, 3, 4] : List (Fin 5)).foldl (fun z t => tileF X Wk Sk zst t z) z

/-- The running maximum, sum, and sum of exponents. -/
abbrev Stats (F : FTy → Type) : Type := (S128x128.Idx → Elt F .f32) × (S128x128.Idx → Elt F .f32) × (S128x128.Idx → Elt F .f32)

def rowsF (X : S128x128.Idx → Elt F .f32) (r : Fin 4) : Vec F S32x128 .f32 := fun i => X ((groupRect r).emb i)
def setRows (r : Fin 4) (X : S128x128.Idx → Elt F .f32) (w : FVec F S32x128 .f32) : S128x128.Idx → Elt F .f32 :=
  upd (s := S128x128) ![32 * r.val, 0] S32x128.size X (shapeCast S32x128 w shapeCasts_S32x128_S32x128)
def zgroupF (z : S250x128x128.Idx → Elt F .f32) (zld : Fin 10 → Fin 250) (r : Fin 4) : Fin 10 → FVec F S32x128 .f32 :=
  zvals ![fun i => z ((zGroupRect (zld 0) r).emb i), fun i => z ((zGroupRect (zld 1) r).emb i), fun i => z ((zGroupRect (zld 2) r).emb i),
    fun i => z ((zGroupRect (zld 3) r).emb i), fun i => z ((zGroupRect (zld 4) r).emb i), fun i => z ((zGroupRect (zld 5) r).emb i),
    fun i => z ((zGroupRect (zld 6) r).emb i), fun i => z ((zGroupRect (zld 7) r).emb i), fun i => z ((zGroupRect (zld 8) r).emb i),
    fun i => z ((zGroupRect (zld 9) r).emb i)]
/-- The statistics after one row group. -/
def groupF (z : S250x128x128.Idx → Elt F .f32) (zld : Fin 10 → Fin 250) (r : Fin 4) (p : Stats F) : Stats F :=
  (setRows r p.1 (maxStep (rowsF p.1 r) (zgroupF z zld r)),
   setRows r p.2.1 (sStep (rowsF p.1 r) (maxStep (rowsF p.1 r) (zgroupF z zld r)) (rowsF p.2.1 r) (zgroupF z zld r)),
   setRows r p.2.2 (tStep (rowsF p.1 r) (maxStep (rowsF p.1 r) (zgroupF z zld r)) (rowsF p.2.1 r) (rowsF p.2.2 r) (zgroupF z zld r)))
/-- The statistics after a chunk. -/
def groupsF (z : S250x128x128.Idx → Elt F .f32) (zld : Fin 10 → Fin 250) (p : Stats F) : Stats F :=
  ([0, 1, 2, 3] : List (Fin 4)).foldl (fun p r => groupF z zld r p) p

section Chunk
variable (c : Dev nD) {α : Type} {Q : α → SP F} (arg11 : Memref sig .tc .vmem S3x6656x1280 .fp8e4m3) (arg12 : Memref sig .tc .vmem S3x52x1280 .f32)
  (arg14 : Memref sig .tc .vmem S128x6656 .bf16) (arg15 : Memref sig .tc .vmem S250x128x128 .f32)
  (arg16 arg17 arg18 : Memref sig .tc .vmem S128x128 .f32)
  (sl : Fin 3) (X : S128x6656.Idx → Elt F .bf16) (Wk : S6656x1280.Idx → Elt F .fp8e4m3) (Sk : S52x1280.Idx → Elt F .f32)

abbrev slotWt (sl : Fin 3) : Memref sig .tc .vmem S6656x1280 .fp8e4m3 := slotM (A := 3) (B := 6656) (C := 1280) arg11 squeezes_S1x6656x1280_S6656x1280 sl
abbrev slotSc (sl : Fin 3) : Memref sig .tc .vmem S52x1280 .f32 := slotM (A := 3) (B := 52) (C := 1280) arg12 squeezes_S1x52x1280_S52x1280 sl

theorem own_wblock (t : Fin 5) (kb : Fin 52) (K : FVec F S128x256 .bf16 → TP F α) :
    iprop(own c (slotWt arg11 sl) Wk ∗ own c (slotSc arg12 sl) Sk) ⊢
      iprop((iprop(own c (slotWt arg11 sl) Wk ∗ own c (slotSc arg12 sl) Sk) -∗ W c (K (wblockF Wk Sk t kb)) Q) -∗ W c (wblockK arg11 arg12 sl t kb K) Q) := by
  unfold wblockK
  iintro ⟨HW, HS⟩ HK
  iapply (own_load_slot c (A := 3) (B := 52) (C := 1280) arg12 squeezes_S1x52x1280_S52x1280 sl kb.val (256 * t.val) 1 256 (by omega) (by omega) _ _ Sk _) $$ HS
  iintro HS
  iapply (own_load_slot c (A := 3) (B := 6656) (C := 1280) arg11 squeezes_S1x6656x1280_S6656x1280 sl (128 * kb.val) (256 * t.val) 128 256 (by omega) (by omega) _ _ Wk _) $$ HW
  iintro HW
  iapply HK
  isplitl [HW] <;> iassumption

/-- What a tile reads. -/
abbrev tileIn : SP F := iprop(own c (slotWt arg11 sl) Wk ∗ own c (slotSc arg12 sl) Sk ∗ own c arg14 X)

theorem own_prod (t : Fin 5) (k : Fin 26) (K : FVec F S128x256 .f32 → TP F α) :
    tileIn c arg11 arg12 arg14 sl X Wk Sk ⊢
      iprop((tileIn c arg11 arg12 arg14 sl X Wk Sk -∗ W c (K (prodF X Wk Sk t k)) Q) -∗ W c (prodK arg11 arg12 arg14 sl t k K) Q) := by
  unfold prodK
  iintro ⟨HW, HS, HX⟩ HK
  iapply (own_wblock c arg11 arg12 sl Wk Sk t _ _) $$ [HW HS]; · isplitl [HW] <;> iassumption
  iintro ⟨HW, HS⟩
  iapply (own_wblock c arg11 arg12 sl Wk Sk t _ _) $$ [HW HS]; · isplitl [HW] <;> iassumption
  iintro ⟨HW, HS⟩
  iapply (own_ld c arg14 (actRect k) h_S128x256 X _) $$ HX
  iintro HX
  iapply HK
  isplitl [HW]; · iexact HW
  isplitl [HS] <;> iassumption

theorem own_acc (t : Fin 5) (K : FVec F S128x256 .f32 → TP F α) :
    tileIn c arg11 arg12 arg14 sl X Wk Sk ⊢
      iprop((tileIn c arg11 arg12 arg14 sl X Wk Sk -∗ W c (K (accF X Wk Sk t)) Q) -∗ W c (accK arg11 arg12 arg14 sl t K) Q) := by
  unfold accK
  iintro H HK
  iapply (own_prod c arg11 arg12 arg14 sl X Wk Sk t 0 _) $$ H
  iintro H
  iapply (W_seqK_val c _ (tileIn c arg11 arg12 arg14 sl X Wk Sk) (fun k acc => addf acc (prodF X Wk Sk t k))
    (fun k a K => own_prod c arg11 arg12 arg14 sl X Wk Sk t k (fun q => K (addf a q))) K _ _) $$ H
  iexact HK

theorem own_tile (zst : Fin 5 → Fin 2 → Fin 250) (t : Fin 5) (z : S250x128x128.Idx → Elt F .f32) (K : TP F α) :
    iprop(tileIn c arg11 arg12 arg14 sl X Wk Sk ∗ own c arg15 z) ⊢
      iprop((iprop(tileIn c arg11 arg12 arg14 sl X Wk Sk ∗ own c arg15 (tileF X Wk Sk zst t z)) -∗ W c K Q)
        -∗ W c (tileK arg11 arg12 arg14 arg15 sl zst t K) Q) := by
  unfold tileK
  iintro ⟨H, HZ⟩ HK
  iapply (own_acc c arg11 arg12 arg14 sl X Wk Sk t _) $$ H
  iintro H
  iapply (own_st c arg15 ![(zst t 0).val, 0, 0] S1x128x128.size _ h_S1x128x128 z (half0 (accF X Wk Sk t)) _) $$ HZ
  iintro HZ
  iapply (own_st c arg15 ![(zst t 1).val, 0, 0] S1x128x128.size _ h_S1x128x128 _ (half1 (accF X Wk Sk t)) _) $$ HZ
  iintro HZ
  iapply HK
  isplitl [H]; · iexact H
  iexact HZ

/-- The scores and the statistics a row group holds. -/
abbrev groupIn (z : S250x128x128.Idx → Elt F .f32) (p : Stats F) : SP F :=
  iprop(own c arg15 z ∗ own c arg16 p.1 ∗ own c arg17 p.2.1 ∗ own c arg18 p.2.2)

theorem own_group (z : S250x128x128.Idx → Elt F .f32) (zld : Fin 10 → Fin 250) (r : Fin 4) (p : Stats F) (K : TP F α) :
    groupIn c arg15 arg16 arg17 arg18 z p ⊢
      iprop((groupIn c arg15 arg16 arg17 arg18 z (groupF z zld r p) -∗ W c K Q) -∗ W c (groupK arg15 arg16 arg17 arg18 zld r K) Q) := by
  unfold groupK groupK'
  iintro ⟨HZ, Hm, Hs, Ht⟩ HK
  iapply (own_ld c arg15 (zGroupRect (zld 0) r) h_S1x32x128 z _) $$ HZ; iintro HZ
  iapply (own_ld c arg15 (zGroupRect (zld 1) r) h_S1x32x128 z _) $$ HZ; iintro HZ
  iapply (own_ld c arg15 (zGroupRect (zld 2) r) h_S1x32x128 z _) $$ HZ; iintro HZ
  iapply (own_ld c arg15 (zGroupRect (zld 3) r) h_S1x32x128 z _) $$ HZ; iintro HZ
  iapply (own_ld c arg15 (zGroupRect (zld 4) r) h_S1x32x128 z _) $$ HZ; iintro HZ
  iapply (own_ld c arg15 (zGroupRect (zld 5) r) h_S1x32x128 z _) $$ HZ; iintro HZ
  iapply (own_ld c arg15 (zGroupRect (zld 6) r) h_S1x32x128 z _) $$ HZ; iintro HZ
  iapply (own_ld c arg15 (zGroupRect (zld 7) r) h_S1x32x128 z _) $$ HZ; iintro HZ
  iapply (own_ld c arg15 (zGroupRect (zld 8) r) h_S1x32x128 z _) $$ HZ; iintro HZ
  iapply (own_ld c arg15 (zGroupRect (zld 9) r) h_S1x32x128 z _) $$ HZ; iintro HZ
  iapply (own_ld c arg16 (groupRect r) h_S32x128 p.1 _) $$ Hm; iintro Hm
  iapply (own_ld c arg17 (groupRect r) h_S32x128 p.2.1 _) $$ Hs; iintro Hs
  iapply (own_ld c arg18 (groupRect r) h_S32x128 p.2.2 _) $$ Ht; iintro Ht
  iapply (own_st c arg16 ![32 * r.val, 0] S32x128.size _ h_S32x128 p.1 _ _) $$ Hm; iintro Hm
  iapply (own_st c arg17 ![32 * r.val, 0] S32x128.size _ h_S32x128 p.2.1 _ _) $$ Hs; iintro Hs
  iapply (own_st c arg18 ![32 * r.val, 0] S32x128.size _ h_S32x128 p.2.2 _ _) $$ Ht; iintro Ht
  iapply HK
  isplitl [HZ]; · iexact HZ
  isplitl [Hm]; · iexact Hm
  isplitl [Hs]; · iexact Hs
  iexact Ht

end Chunk
end Cert.Kernel.Run
-- ==== Proof.RunK.Ring.lean ====
/-
  THE CHUNK LOOP: three chunks' copies are under way or arrived at any time; one trip waits for its chunk's two copies,
  takes the chunk in, and starts the copies of the chunk three further on.
-/
module

public import proofs.«01_k».proof.Proof.RunK.Segs

@[expose] public section

noncomputable section

namespace Cert.Kernel.Run

open Cert.Kernel.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

theorem trips5 : k0_t5_loop.trips = 25 := by decide

/-- The columns of chunk `j`. -/
abbrev colW (j : Fin 25) : Rect S6656x32000 := Rect.unit (s := S6656x32000) ![0, 1280 * j.val] S6656x1280.size (inb2 (by omega) (by omega))
abbrev colS (j : Fin 25) : Rect S52x32000 := Rect.unit (s := S52x32000) ![0, 1280 * j.val] S52x1280.size (inb2 (by omega) (by omega))
def wcol (XW : S6656x32000.Idx → Elt F .fp8e4m3) (j : Fin 25) : S6656x1280.Idx → Elt F .fp8e4m3 := fun i => XW ((colW j).emb i)
def scol (XS : S52x32000.Idx → Elt F .f32) (j : Fin 25) : S52x1280.Idx → Elt F .f32 := fun i => XS ((colS j).emb i)

theorem inb1 (sl : Fin 3) : ∀ a, (![sl.val] : Fin 1 → ℕ) a + S1.size a ≤ S3.size a := by
  intro a; fin_cases a; show sl.val + 1 ≤ 3; omega

/-- The semaphore of slot `sl`. -/
abbrev semAt (a : DmaSems sig S3) (sl : Fin 3) : DmaSem sig := ((a.slice (Rect.unit (s := S3) ![sl.val] S1.size (inb1 sl))).squeeze S_ squeezes_S1_S_).sem

section
variable (c : Dev nD) {α : Type} {Q : α → SP F} (arg3 : Memref sig .tc .hbm S6656x32000 .fp8e4m3) (harg3 : arg3.IsWhole)
  (arg4 : Memref sig .tc .hbm S52x32000 .f32)
  (arg11 : Memref sig .tc .vmem S3x6656x1280 .fp8e4m3) (harg11 : arg11.IsWhole) (arg12 : Memref sig .tc .vmem S3x52x1280 .f32)
  (arg14 : Memref sig .tc .vmem S128x6656 .bf16) (arg15 : Memref sig .tc .vmem S250x128x128 .f32)
  (arg16 arg17 arg18 : Memref sig .tc .vmem S128x128 .f32) (arg24 arg25 : DmaSems sig S3)
  (XW : S6656x32000.Idx → Elt F .fp8e4m3) (XS : S52x32000.Idx → Elt F .f32)

abbrev srcW (j : Fin 25) : Memref sig .tc .hbm S6656x1280 .fp8e4m3 := arg3.slice (colW j) (fun _ => rfl)
abbrev srcS (j : Fin 25) : Memref sig .tc .hbm S52x1280 .f32 := arg4.slice (colS j) (fun _ => rfl)
abbrev flyW (j : Fin 25) (sl : Fin 3) : SP F := fly c (srcW arg3 j) (slotWt arg11 sl) (semAt arg24 sl) (wcol XW j)
abbrev flyS (j : Fin 25) (sl : Fin 3) : SP F := fly c (srcS arg4 j) (slotSc arg12 sl) (semAt arg25 sl) (scol XS j)
/-- A slot at rest. -/
abbrev restW (sl : Fin 3) : SP F := iprop((∃ Y, own c (slotWt arg11 sl) Y) ∗ semVal ((c : Thread nD τ), .dma (semAt arg24 sl)) 0)
abbrev restS (sl : Fin 3) : SP F := iprop((∃ Y, own c (slotSc arg12 sl) Y) ∗ semVal ((c : Thread nD τ), .dma (semAt arg25 sl)) 0)
abbrev homeW (j : Fin 25) : SP F := own c (srcW arg3 j) (wcol XW j)
abbrev homeS (j : Fin 25) : SP F := own c (srcS arg4 j) (scol XS j)

theorem own_copyW (j : Fin 25) (sl : Fin 3) {oc hc os hs om hm wc ws} (h1 : oc = ![0, 1280 * j.val]) (h2 : os = ![sl.val, 0, 0]) (h3 : om = ![sl.val]) (K : TP F α) :
    iprop(homeW c arg3 XW j ∗ restW c arg11 arg24 sl) ⊢
      iprop((flyW c arg3 arg11 arg24 XW j sl -∗ W c K Q) -∗ W c (copyW arg3 harg3 arg11 harg11 arg24 oc hc os hs om hm wc ws K) Q) := by
  subst h1 h2 h3
  unfold copyW
  exact own_copy c (srcW arg3 j) (slotWt arg11 sl) (semAt arg24 sl) (by decide) (wcol XW j) (fun _ => K)

theorem own_copyS (j : Fin 25) (sl : Fin 3) {oc hc os hs om hm} (h1 : oc = ![0, 1280 * j.val]) (h2 : os = ![sl.val, 0, 0]) (h3 : om = ![sl.val]) (K : TP F α) :
    iprop(homeS c arg4 XS j ∗ restS c arg12 arg25 sl) ⊢
      iprop((flyS c arg4 arg12 arg25 XS j sl -∗ W c K Q) -∗ W c (copyS arg4 arg12 arg25 oc hc os hs om hm K) Q) := by
  subst h1 h2 h3
  unfold copyS
  exact own_copy c (srcS arg4 j) (slotSc arg12 sl) (semAt arg25 sl) (by decide) (scol XS j) (fun _ => K)

/-- The waits of one trip. -/
def waitWK (oc : Fin 2 → Nat) (hc : ∀ a, oc a + S6656x1280.size a ≤ S6656x32000.size a) (os : Fin 3 → Nat) (hs : ∀ a, os a + S1x6656x1280.size a ≤ S3x6656x1280.size a)
    (om : Fin 1 → Nat) (hm : ∀ a, om a + S1.size a ≤ S3.size a)
    (wc : (Rect.unit (s := S6656x32000) oc S6656x1280.size hc).WholeWords (EltTy.packing .fp8e4m3))
    (ws : (Rect.unit (s := S3x6656x1280) os S1x6656x1280.size hs).WholeWords (EltTy.packing .fp8e4m3)) (K : TP F α) : TP F α :=
  .op (.waitDma2 ((arg24.slice (Rect.unit (s := S3) om S1.size hm)).squeeze S_ squeezes_S1_S_).sem
    (arg3.slice (Rect.unit (s := S6656x32000) oc S6656x1280.size hc) (fun _ => rfl))
    ((arg11.slice (Rect.unit (s := S3x6656x1280) os S1x6656x1280.size hs) (fun _ => rfl)).squeeze S6656x1280 squeezes_S1x6656x1280_S6656x1280)
    (harg3.wordExact_slice rfl _ wc) ((harg11.wordExact_slice rfl _ ws).reshape _ _)) fun _ => K

def waitSK (oc : Fin 2 → Nat) (hc : ∀ a, oc a + S52x1280.size a ≤ S52x32000.size a) (os : Fin 3 → Nat) (hs : ∀ a, os a + S1x52x1280.size a ≤ S3x52x1280.size a)
    (om : Fin 1 → Nat) (hm : ∀ a, om a + S1.size a ≤ S3.size a) (K : TP F α) : TP F α :=
  .op (.waitDma2 ((arg25.slice (Rect.unit (s := S3) om S1.size hm)).squeeze S_ squeezes_S1_S_).sem
    (arg4.slice (Rect.unit (s := S52x32000) oc S52x1280.size hc) (fun _ => rfl))
    ((arg12.slice (Rect.unit (s := S3x52x1280) os S1x52x1280.size hs) (fun _ => rfl)).squeeze S52x1280 squeezes_S1x52x1280_S52x1280)
    (View.wordExact_bits rfl) ((View.wordExact_bits rfl).reshape _ _)) fun _ => K

abbrev dues : SP F := iprop(∃ Wt, owes (c : Thread nD τ) 0 Wt)

theorem own_waitW (j : Fin 25) (sl : Fin 3) {oc hc os hs om hm wc ws} (h1 : oc = ![0, 1280 * j.val]) (h2 : os = ![sl.val, 0, 0]) (h3 : om = ![sl.val]) (K : TP F α) :
    iprop(flyW c arg3 arg11 arg24 XW j sl ∗ dues c) ⊢
      iprop((iprop(own c (slotWt arg11 sl) (wcol XW j) ∗ homeW c arg3 XW j ∗ semVal ((c : Thread nD τ), .dma (semAt arg24 sl)) 0 ∗ dues c) -∗ W c K Q)
        -∗ W c (waitWK arg3 harg3 arg11 harg11 arg24 oc hc os hs om hm wc ws K) Q) := by
  subst h1 h2 h3
  unfold waitWK
  exact own_wait c (srcW arg3 j) (slotWt arg11 sl) (semAt arg24 sl) (wcol XW j) (fun _ => K)

theorem own_waitS (j : Fin 25) (sl : Fin 3) {oc hc os hs om hm} (h1 : oc = ![0, 1280 * j.val]) (h2 : os = ![sl.val, 0, 0]) (h3 : om = ![sl.val]) (K : TP F α) :
    iprop(flyS c arg4 arg12 arg25 XS j sl ∗ dues c) ⊢
      iprop((iprop(own c (slotSc arg12 sl) (scol XS j) ∗ homeS c arg4 XS j ∗ semVal ((c : Thread nD τ), .dma (semAt arg25 sl)) 0 ∗ dues c) -∗ W c K Q)
        -∗ W c (waitSK arg4 arg12 arg25 oc hc os hs om hm K) Q) := by
  subst h1 h2 h3
  unfold waitSK
  exact own_wait c (srcS arg4 j) (slotSc arg12 sl) (semAt arg25 sl) (scol XS j) (fun _ => K)

theorem waitK_eq (k : Fin k0_t5_loop.trips) (K : TP F α) : waitK arg3 harg3 arg4 arg11 harg11 arg12 arg24 arg25 k K =
    waitWK arg3 harg3 arg11 harg11 arg24 (k0_off21 k) (k0_off21_inb k) (k0_off20 k) (k0_off20_inb k) (k0_off19 k) (k0_off19_inb k) (k0_off21_wordsfp8e4m3 k) (k0_off20_wordsfp8e4m3 k)
      (waitSK arg4 arg12 arg25 (k0_off23 k) (k0_off23_inb k) (k0_off22 k) (k0_off22_inb k) (k0_off19 k) (k0_off19_inb k) K) := rfl

theorem issueP_eq (k : Fin k0_t5_loop.trips) : issueP (F := F) arg3 harg3 arg4 arg11 harg11 arg12 arg24 arg25 k =
    if h : k0_cond1 k = 1#1 then
      copyW arg3 harg3 arg11 harg11 arg24 (k0_off551 k) (k0_off551_inb k h) (k0_off550 k) (k0_off550_inb k h) (k0_off549 k) (k0_off549_inb k h) (k0_off551_wordsfp8e4m3 k h) (k0_off550_wordsfp8e4m3 k h)
        (copyS arg4 arg12 arg25 (k0_off553 k) (k0_off553_inb k h) (k0_off552 k) (k0_off552_inb k h) (k0_off549 k) (k0_off549_inb k h) (.ret ⟨⟩))
    else .ret ⟨⟩ := by
  unfold issueP
  split <;> rfl

theorem cond1_iff : ∀ k : Fin k0_t5_loop.trips, k0_cond1 k = 1#1 ↔ k.val + 3 < 25 := by decide +kernel

/-! ## One trip -/

/-- A chunk's place in the ring: its copies under way, or, past the last chunk, the slot at rest. -/
def inSlot (j : ℕ) : SP F :=
  if h : j < 25 then iprop(flyW c arg3 arg11 arg24 XW ⟨j, h⟩ ⟨j % 3, by omega⟩ ∗ flyS c arg4 arg12 arg25 XS ⟨j, h⟩ ⟨j % 3, by omega⟩)
  else iprop(restW c arg11 arg24 ⟨j % 3, by omega⟩ ∗ restS c arg12 arg25 ⟨j % 3, by omega⟩)

abbrev home (j : Fin 25) : SP F := iprop(homeW c arg3 XW j ∗ homeS c arg4 XS j)
def away (k : ℕ) : Finset (Fin 25) := Finset.univ.filter fun j => j.val < k ∨ k + 3 ≤ j.val
/-- The chunks not in the ring. -/
abbrev homes (k : ℕ) : SP F := bigSep (away k) (home c arg3 arg4 XW XS)

theorem bigSep_ins {S : Finset (Fin 25)} {j : Fin 25} (h : j ∉ S) (Φ : Fin 25 → SP F) : bigSep (insert j S) Φ = iprop(Φ j ∗ bigSep S Φ) := bigSep_insert h

theorem homes_last (k : ℕ) (hk : k < 25) (h : ¬ k + 3 < 25) :
    iprop(homes c arg3 arg4 XW XS k ∗ home c arg3 arg4 XW XS ⟨k, hk⟩) ⊢ homes c arg3 arg4 XW XS (k + 1) := by
  have he : away (k + 1) = insert ⟨k, hk⟩ (away k) := by
    ext j; simp only [away, Finset.mem_filter, Finset.mem_univ, true_and, Finset.mem_insert, Fin.ext_iff]; omega
  have hn : (⟨k, hk⟩ : Fin 25) ∉ away k := by simp [away]
  unfold homes
  rw [he, bigSep_ins hn]
  iintro ⟨A, B⟩
  isplitl [B] <;> iassumption

theorem homes_swap (k : ℕ) (hk : k < 25) (h : k + 3 < 25) :
    iprop(homes c arg3 arg4 XW XS k ∗ home c arg3 arg4 XW XS ⟨k, hk⟩) ⊢ iprop(homes c arg3 arg4 XW XS (k + 1) ∗ home c arg3 arg4 XW XS ⟨k + 3, h⟩) := by
  have he : insert ⟨k + 3, h⟩ (away (k + 1)) = insert ⟨k, hk⟩ (away k) := by
    ext j; simp only [away, Finset.mem_filter, Finset.mem_univ, true_and, Finset.mem_insert, Fin.ext_iff]; omega
  have hn : (⟨k, hk⟩ : Fin 25) ∉ away k := by simp [away]
  have hn' : (⟨k + 3, h⟩ : Fin 25) ∉ away (k + 1) := by simp only [away, Finset.mem_filter, Finset.mem_univ, true_and]; omega
  have e : bigSep (insert (⟨k + 3, h⟩ : Fin 25) (away (k + 1))) (home c arg3 arg4 XW XS) = bigSep (insert ⟨k, hk⟩ (away k)) (home c arg3 arg4 XW XS) := by rw [he]
  rw [bigSep_ins hn, bigSep_ins hn'] at e
  iintro ⟨A, B⟩
  ihave C := (show iprop(home c arg3 arg4 XW XS ⟨k, hk⟩ ∗ homes c arg3 arg4 XW XS k) ⊢ iprop(home c arg3 arg4 XW XS ⟨k + 3, h⟩ ∗ homes c arg3 arg4 XW XS (k + 1)) from by unfold homes; rw [e]) $$ [A B]
  · isplitl [B] <;> iassumption
  icases C with ⟨C, D⟩
  isplitl [D] <;> iassumption

/-- The ring before trip `k`. -/
def ring (k : ℕ) : SP F :=
  iprop(inSlot c arg3 arg4 arg11 arg12 arg24 arg25 XW XS k ∗ inSlot c arg3 arg4 arg11 arg12 arg24 arg25 XW XS (k + 1)
    ∗ inSlot c arg3 arg4 arg11 arg12 arg24 arg25 XW XS (k + 2) ∗ homes c arg3 arg4 XW XS k ∗ dues c)

/-- The scores and the statistics. -/
abbrev CState (F : FTy → Type) : Type := (S250x128x128.Idx → Elt F .f32) × Stats F
variable (X : S128x6656.Idx → Elt F .bf16)
def idx25 (k : Fin k0_t5_loop.trips) : Fin 25 := ⟨k.val, trips5 ▸ k.isLt⟩
/-- What a trip makes of them. -/
def chunkF (k : Fin k0_t5_loop.trips) (p : CState F) : CState F :=
  (tilesF X (wcol XW (idx25 k)) (scol XS (idx25 k)) (zstW k) p.1,
   groupsF (tilesF X (wcol XW (idx25 k)) (scol XS (idx25 k)) (zstW k) p.1) (zldW k) p.2)
/-- The state before trip `k`. -/
def chunkIter (p : CState F) : ℕ → CState F
  | 0 => p
  | k + 1 => if h : k < k0_t5_loop.trips then chunkF XW XS X ⟨k, h⟩ (chunkIter p k) else chunkIter p k

abbrev chunkInv (p : CState F) (k : ℕ) : SP F :=
  iprop(ring c arg3 arg4 arg11 arg12 arg24 arg25 XW XS k ∗ own c arg14 X
    ∗ groupIn c arg15 arg16 arg17 arg18 (chunkIter XW XS X p k).1 (chunkIter XW XS X p k).2)

theorem own_chunk (p : CState F) (k : Fin k0_t5_loop.trips) (Q : PUnit → SP F) :
    chunkInv c arg3 arg4 arg11 arg12 arg14 arg15 arg16 arg17 arg18 arg24 arg25 XW XS X p k.val ⊢
      iprop((chunkInv c arg3 arg4 arg11 arg12 arg14 arg15 arg16 arg17 arg18 arg24 arg25 XW XS X p (k.val + 1) -∗ Q ⟨⟩)
        -∗ W c (chunkP arg3 harg3 arg4 arg11 harg11 arg12 arg14 arg15 arg16 arg17 arg18 arg24 arg25 k) Q) := by
  have hk : k.val < 25 := trips5 ▸ k.isLt
  have hsl : slotW k = ⟨k.val % 3, by omega⟩ := by
    apply Fin.ext; show k0_off19 k 0 = _; rw [k0_off19_eq]; rfl
  unfold chunkP chunkInv ring
  rw [waitK_eq, hsl]
  have hin : inSlot c arg3 arg4 arg11 arg12 arg24 arg25 XW XS k.val = iprop(flyW c arg3 arg11 arg24 XW ⟨k.val, hk⟩ ⟨k.val % 3, by omega⟩ ∗ flyS c arg4 arg12 arg25 XS ⟨k.val, hk⟩ ⟨k.val % 3, by omega⟩) := by
    unfold inSlot; rw [dif_pos hk]
  rw [hin]
  have hst : chunkIter XW XS X p (k.val + 1) = chunkF XW XS X k (chunkIter XW XS X p k.val) := by
    show (if h : k.val < k0_t5_loop.trips then _ else _) = _; rw [dif_pos k.isLt]
  rw [hst]
  generalize chunkIter XW XS X p k.val = q
  iintro ⟨⟨⟨HfW, HfS⟩, Hs1, Hs2, Hh, HO⟩, HX, HZ, Hst⟩ HQ
  iapply (own_waitW c arg3 harg3 arg11 harg11 arg24 XW ⟨k.val, hk⟩ ⟨k.val % 3, by omega⟩ (k0_off21_eq k) (k0_off20_eq k) (k0_off19_eq k) _) $$ [HfW HO]
  · isplitl [HfW] <;> iassumption
  iintro ⟨HW, HhW, HvW, HO⟩
  iapply (own_waitS c arg4 arg12 arg25 XS ⟨k.val, hk⟩ ⟨k.val % 3, by omega⟩ (k0_off23_eq k) (k0_off22_eq k) (k0_off19_eq k) _) $$ [HfS HO]
  · isplitl [HfS] <;> iassumption
  iintro ⟨HS, HhS, HvS, HO⟩
  iapply (W_seqK c _ (fun z => iprop(tileIn c arg11 arg12 arg14 ⟨k.val % 3, by omega⟩ X (wcol XW ⟨k.val, hk⟩) (scol XS ⟨k.val, hk⟩) ∗ own c arg15 z))
    (fun t z => tileF X (wcol XW ⟨k.val, hk⟩) (scol XS ⟨k.val, hk⟩) (zstW k) t z)
    (fun t z K => own_tile c arg11 arg12 arg14 arg15 _ X _ _ (zstW k) t z K) _ _ q.1) $$ [HW HS HX HZ]
  · isplitr [HZ]
    · isplitl [HW]; · iexact HW
      isplitl [HS] <;> iassumption
    · iexact HZ
  iintro ⟨⟨HW, HS, HX⟩, HZ⟩
  iapply (W_seqK c _ (fun s => groupIn c arg15 arg16 arg17 arg18 (tilesF X (wcol XW ⟨k.val, hk⟩) (scol XS ⟨k.val, hk⟩) (zstW k) q.1) s)
    (fun r s => groupF _ (zldW k) r s) (fun r s K => own_group c arg15 arg16 arg17 arg18 _ (zldW k) r s K) _ _ q.2) $$ [HZ Hst]
  · isplitl [HZ]; · iexact HZ
    iexact Hst
  iintro Hst
  rw [issueP_eq]
  by_cases h3 : k.val + 3 < 25
  · rw [dif_pos ((cond1_iff k).2 h3)]
    have e3 : (k.val + 3) % 3 = k.val % 3 := by omega
    ihave Hh := (homes_swap c arg3 arg4 XW XS k.val hk h3) $$ [Hh HhW HhS]
    · isplitl [Hh]; · iexact Hh
      isplitl [HhW] <;> iassumption
    icases Hh with ⟨Hh, HhW, HhS⟩
    iapply (own_copyW c arg3 harg3 arg11 harg11 arg24 XW ⟨k.val + 3, h3⟩ ⟨k.val % 3, by omega⟩ ((k0_off551_eq k).trans (by rfl)) ((k0_off550_eq k).trans (by rw [e3])) ((k0_off549_eq k).trans (by rw [e3])) _) $$ [HhW HW HvW]
    · isplitl [HhW]; · iexact HhW
      isplitl [HW]; · iexists _; iexact HW
      iexact HvW
    iintro HfW
    iapply (own_copyS c arg4 arg12 arg25 XS ⟨k.val + 3, h3⟩ ⟨k.val % 3, by omega⟩ ((k0_off553_eq k).trans (by rfl)) ((k0_off552_eq k).trans (by rw [e3])) ((k0_off549_eq k).trans (by rw [e3])) _) $$ [HhS HS HvS]
    · isplitl [HhS]; · iexact HhS
      isplitl [HS]; · iexists _; iexact HS
      iexact HvS
    iintro HfS
    have hin3 : inSlot c arg3 arg4 arg11 arg12 arg24 arg25 XW XS (k.val + 1 + 2) = iprop(flyW c arg3 arg11 arg24 XW ⟨k.val + 3, h3⟩ ⟨k.val % 3, by omega⟩ ∗ flyS c arg4 arg12 arg25 XS ⟨k.val + 3, h3⟩ ⟨k.val % 3, by omega⟩) := by
      show inSlot c arg3 arg4 arg11 arg12 arg24 arg25 XW XS (k.val + 3) = _
      unfold inSlot; rw [dif_pos h3]; simp only [e3]
    iapply (W_ret c _)
    iapply HQ
    rw [hin3]
    isplitr [HX Hst]
    · isplitl [Hs1]; · iexact Hs1
      isplitl [Hs2]; · iexact Hs2
      isplitl [HfW HfS]; · isplitl [HfW] <;> iassumption
      isplitl [Hh] <;> iassumption
    isplitl [HX]; · iexact HX
    iexact Hst
  · rw [dif_neg (fun h => h3 ((cond1_iff k).1 h))]
    have e3 : (k.val + 3) % 3 = k.val % 3 := by omega
    ihave Hh := (homes_last c arg3 arg4 XW XS k.val hk h3) $$ [Hh HhW HhS]
    · isplitl [Hh]; · iexact Hh
      isplitl [HhW] <;> iassumption
    have hin3 : inSlot c arg3 arg4 arg11 arg12 arg24 arg25 XW XS (k.val + 1 + 2) = iprop(restW c arg11 arg24 ⟨k.val % 3, by omega⟩ ∗ restS c arg12 arg25 ⟨k.val % 3, by omega⟩) := by
      show inSlot c arg3 arg4 arg11 arg12 arg24 arg25 XW XS (k.val + 3) = _
      unfold inSlot; rw [dif_neg h3]; simp only [e3]
    iapply (W_ret c _)
    iapply HQ
    rw [hin3]
    isplitr [HX Hst]
    · isplitl [Hs1]; · iexact Hs1
      isplitl [Hs2]; · iexact Hs2
      isplitl [HW HvW HS HvS]
      · isplitl [HW HvW]
        · isplitl [HW]; · iexists _; iexact HW
          iexact HvW
        · isplitl [HS]; · iexists _; iexact HS
          iexact HvS
      isplitl [Hh] <;> iassumption
    isplitl [HX]; · iexact HX
    iexact Hst

end
end Cert.Kernel.Run
-- ==== Proof.RunK.Segs2.lean ====
/-
  THE SEGMENTS OUTSIDE THE CHUNK LOOP as functions of contents: the table of ancestors, the quantiser, the casts, the
  reduction of the running sums, the picks and the last stores.
-/
module

public import proofs.«01_k».proof.Proof.RunK.Ring

@[expose] public section

noncomputable section

namespace Cert.Kernel.Run

open Cert.Kernel.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- `k` steps of a loop of `n`. -/
def iterF {n : ℕ} {σ : Type} (T : Fin n → σ → σ) (s : σ) : ℕ → σ
  | 0 => s
  | k + 1 => if h : k < n then T ⟨k, h⟩ (iterF T s k) else iterF T s k

theorem iterF_succ {n : ℕ} {σ : Type} (T : Fin n → σ → σ) (s : σ) (k : Fin n) : iterF T s (k.val + 1) = T k (iterF T s k.val) := by
  show (if h : k.val < n then _ else _) = _; rw [dif_pos k.isLt]

section Loops
variable (c : Dev nD) {α : Type} {Q : α → SP F}

/-- A counted loop whose trips take state and carried value by a function. -/
theorem W_loop {w : ℕ} (l : Scf.Loop w) (hok : l.OK) {β σ : Type} (init : β) (body : Fin l.trips → β → TP F β) (S : σ → SP F)
    (T : Fin l.trips → σ × β → σ × β)
    (hb : ∀ k p (Q' : β → SP F), S p.1 ⊢ iprop((S (T k p).1 -∗ Q' (T k p).2) -∗ W c (body k p.2) Q')) (s : σ) (K : β → TP F α) :
    S s ⊢ iprop((S (iterF T (s, init) l.trips).1 -∗ W c (K (iterF T (s, init) l.trips).2) Q) -∗ W c (bind (Scf.Loop.for l hok init body) K) Q) := by
  iintro H HK
  iapply (Scf.wp_for_bind frame (wpE (defs₀ (F := F)) 𝒱₀ (c : Thread nD τ) none) Set.univ l.lb l.ub l.st hok init body
    (fun k acc => iprop(⌜acc = (iterF T (s, init) k).2⌝ ∗ S (iterF T (s, init) k).1)) ?_) $$ [H]
  · intro k acc
    iintro ⟨%hacc, H⟩
    subst hacc
    iapply (hb k (iterF T (s, init) k.val) _) $$ H
    iintro H
    rw [iterF_succ]
    isplitr; · ipureintro; rfl
    iexact H
  · rw [show iterF T (s, init) 0 = (s, init) from rfl]
    isplitr; · ipureintro; rfl
    iexact H
  iintro %acc ⟨%hacc, H⟩
  subst hacc
  iapply HK
  iexact H
end Loops

/-! ## The table of ancestors -/

def ancF (v36 : IVec S1x128 32) (o : Fin 2 → Nat) (h : ∀ a, o a + S1x1.size a ≤ S3x42.size a) (P : BitVec 32 → Prop) (d : ∀ v, Decidable (P v))
    (op : BitVec 32 → Fin 2 → Nat) (hp : ∀ v, P v → ∀ a, op v a + S1x128.size a ≤ S128x128.size a)
    (os : Fin 2 → Nat) (w : BitVec 32) (X0 : S3x42.Idx → BitVec 32) (X : S128x128.Idx → Elt F .f32) : S128x128.Idx → Elt F .f32 :=
  haveI := d (wordAt X0 o h)
  if hv : P (wordAt X0 o h) then
    upd (s := S128x128) os S1x128.size X (ancRow v36 w fun i => X ((Rect.unit (s := S128x128) (op (wordAt X0 o h)) S1x128.size (hp _ hv)).emb i))
  else X

/-- One trip's three rows. -/
def ancTripF (v36 : IVec S1x128 32) (X0 : S3x42.Idx → BitVec 32) (k : Fin k0_t1_loop.trips) (X : S128x128.Idx → Elt F .f32) : S128x128.Idx → Elt F .f32 :=
  ancF v36 (k0_off10 k) (k0_off10_inb k) k0_chk3 k0_chk3.dec k0_off11 k0_off11_inb (k0_off12 k) (Scalar.addi 84#32 (Scf.iv 1#32 1#32 k)) X0 <|
  ancF v36 (k0_off7 k) (k0_off7_inb k) k0_chk2 k0_chk2.dec k0_off8 k0_off8_inb (k0_off9 k) (Scalar.addi 42#32 (Scf.iv 1#32 1#32 k)) X0 <|
  ancF v36 (k0_off4 k) (k0_off4_inb k) k0_chk1 k0_chk1.dec k0_off5 k0_off5_inb (k0_off6 k) (Scalar.addi 0#32 (Scf.iv 1#32 1#32 k)) X0 X

/-- The parents are in range where the table reads them. -/
def AncOk (X0 : S3x42.Idx → BitVec 32) : Prop := ∀ k : Fin k0_t1_loop.trips,
  k0_chk1 (wordAt X0 (k0_off4 k) (k0_off4_inb k)) ∧ k0_chk2 (wordAt X0 (k0_off7 k) (k0_off7_inb k)) ∧ k0_chk3 (wordAt X0 (k0_off10 k) (k0_off10_inb k))

section Anc
variable (c : Dev nD) {α : Type} {Q : α → SP F} (arg0 : Memref sig .tc .smem S3x42 .i32) (arg19 : Memref sig .tc .vmem S128x128 .f32) (X0 : S3x42.Idx → BitVec 32)

theorem own_anc (v36 : IVec S1x128 32) (o : Fin 2 → Nat) (h : ∀ a, o a + S1x1.size a ≤ S3x42.size a) (P : BitVec 32 → Prop) (d : ∀ v, Decidable (P v))
    (op : BitVec 32 → Fin 2 → Nat) (hp : ∀ v, P v → ∀ a, op v a + S1x128.size a ≤ S128x128.size a)
    (os : Fin 2 → Nat) (hs : ∀ a, os a + S1x128.size a ≤ S128x128.size a) (w : BitVec 32) (X : S128x128.Idx → Elt F .f32) (hv : P (wordAt X0 o h)) (K : TP F α) :
    iprop(own (F := F) c arg0 X0 ∗ own c arg19 X) ⊢ iprop((iprop(own (F := F) c arg0 X0 ∗ own c arg19 (ancF v36 o h P d op hp os w X0 X)) -∗ W c K Q)
      -∗ W c (ancK arg0 arg19 v36 o h P d op hp os hs w K) Q) := by
  unfold ancK
  iintro ⟨H0, HX⟩ HK
  iapply (own_sw c arg0 o h X0 _) $$ H0
  iintro H0
  iapply (W_asm c hv _)
  iapply (own_ld c arg19 _ h_S1x128 X _) $$ HX
  iintro HX
  iapply (own_st c arg19 os S1x128.size hs h_S1x128 X _ _) $$ HX
  iintro HX
  iapply HK
  isplitl [H0]; · iexact H0
  unfold ancF
  rw [dif_pos hv]
  iexact HX

theorem own_ancP (v36 : IVec S1x128 32) (k : Fin k0_t1_loop.trips) (hok : AncOk X0) (X : S128x128.Idx → Elt F .f32) (Q' : PUnit → SP F) :
    iprop(own (F := F) c arg0 X0 ∗ own c arg19 X) ⊢ iprop((iprop(own (F := F) c arg0 X0 ∗ own c arg19 (ancTripF v36 X0 k X)) -∗ Q' ⟨⟩)
      -∗ W c (ancP arg0 arg19 v36 k) Q') := by
  unfold ancP
  iintro H HK
  iapply (own_anc c arg0 arg19 X0 v36 _ _ _ _ _ _ _ _ _ X (hok k).1 _) $$ H
  iintro H
  iapply (own_anc c arg0 arg19 X0 v36 _ _ _ _ _ _ _ _ _ _ (hok k).2.1 _) $$ H
  iintro H
  iapply (own_anc c arg0 arg19 X0 v36 _ _ _ _ _ _ _ _ _ _ (hok k).2.2 _) $$ H
  iintro H
  iapply (W_ret c _)
  iapply HK
  iexact H
end Anc

/-! ## The quantiser -/

/-- The codes and the quantised values. -/
abbrev QState (F : FTy → Type) : Type := (S3x42x6656.Idx → Elt F .fp8e4m3) × (S128x6656.Idx → Elt F .f32)

def quantF (v46 : IVec S42x128 32) (ox : Fin 3 → Nat) (hx : ∀ a, ox a + S1x42x128.size a ≤ S3x42x6656.size a) (of : Fin 2 → Nat) (w : BitVec 32)
    (Xin : S3x42x6656.Idx → Elt F .bf16) (p : QState F × FVec F S42x128 .f32) : QState F × FVec F S42x128 .f32 :=
  ((upd (s := S3x42x6656) ox S1x42x128.size p.1.1 (shapeCast S1x42x128 (qcode fun i => Xin ((Rect.unit (s := S3x42x6656) ox S1x42x128.size hx).emb i)) shapeCasts_S42x128_S1x42x128),
    upd (s := S128x6656) of S42x128.size p.1.2 (qval fun i => Xin ((Rect.unit (s := S3x42x6656) ox S1x42x128.size hx).emb i))),
   qcol v46 w (fun i => Xin ((Rect.unit (s := S3x42x6656) ox S1x42x128.size hx).emb i)) p.2)

section Quant
variable (c : Dev nD) {α : Type} {Q : α → SP F} (arg2 : Memref sig .tc .vmem S3x42x6656 .bf16) (arg9 : Memref sig .tc .vmem S3x42x6656 .fp8e4m3) (harg9 : arg9.IsWhole)
  (arg13 : Memref sig .tc .vmem S128x6656 .f32) (Xin : S3x42x6656.Idx → Elt F .bf16)

theorem own_quant (v46 : IVec S42x128 32) (ox : Fin 3 → Nat) (hx : ∀ a, ox a + S1x42x128.size a ≤ S3x42x6656.size a)
    (tx : (Rect.unit (s := S3x42x6656) ox S1x42x128.size hx).PackedTiles)
    (of : Fin 2 → Nat) (hf : ∀ a, of a + S42x128.size a ≤ S128x6656.size a) (w : BitVec 32) (p : QState F × FVec F S42x128 .f32) (Q' : FVec F S42x128 .f32 → SP F) :
    iprop(own c arg2 Xin ∗ own c arg9 p.1.1 ∗ own c arg13 p.1.2) ⊢
      iprop((iprop(own c arg2 Xin ∗ own c arg9 (quantF v46 ox hx of w Xin p).1.1 ∗ own c arg13 (quantF v46 ox hx of w Xin p).1.2) -∗ Q' (quantF v46 ox hx of w Xin p).2)
        -∗ W c (quantP arg2 arg9 harg9 arg13 v46 ox hx tx of hf w p.2) Q') := by
  have key : ∀ a, a = (quantF v46 ox hx of w Xin p).2 → Q' (quantF v46 ox hx of w Xin p).2 ⊢ W c (.ret a) Q' := by
    intro a ha; rw [ha]; exact W_ret c _
  unfold quantP
  iintro ⟨H2, H9, H13⟩ HK
  iapply (own_ld c arg2 _ h_S1x42x128 Xin _) $$ H2
  iintro H2
  iapply (own_stn c arg9 ox S1x42x128.size hx h_S1x42x128 _ p.1.1 _ _) $$ H9
  iintro H9
  iapply (own_st c arg13 of S42x128.size hf h_S42x128 p.1.2 _ _) $$ H13
  iintro H13
  iapply (key _ rfl)
  iapply HK
  isplitl [H2]; · iexact H2
  isplitl [H9]; · iexact H9
  iexact H13
end Quant

/-! ## The casts -/

def castBlk (xf : S128x6656.Idx → Elt F .f32) (i : Fin 13) : FVec F S128x512 .bf16 := cast512 fun j => xf ((castRect i).emb j)
def castF (xf : S128x6656.Idx → Elt F .f32) (i : Fin 13) (Y : S128x6656.Idx → Elt F .bf16) : S128x6656.Idx → Elt F .bf16 :=
  upd (s := S128x6656) ![0, 512 * i.val] S128x512.size Y (castBlk xf i)

section Cast
variable (c : Dev nD) {α : Type} {Q : α → SP F} (arg13 : Memref sig .tc .vmem S128x6656 .f32) (arg14 : Memref sig .tc .vmem S128x6656 .bf16) (harg14 : arg14.IsWhole)
  (xf : S128x6656.Idx → Elt F .f32)

theorem own_castLd (i : Fin 13) (Y : S128x6656.Idx → Elt F .bf16) (K : FVec F S128x512 .bf16 → TP F α) :
    iprop(own c arg13 xf ∗ own c arg14 Y) ⊢ iprop((iprop(own c arg13 xf ∗ own c arg14 Y) -∗ W c (K (castBlk xf i)) Q) -∗ W c (castLd arg13 arg14 i K) Q) := by
  unfold castLd
  iintro ⟨H, HY⟩ HK
  iapply (own_ld c arg13 _ h_S128x512 xf _) $$ H
  iintro H
  iapply (own_ld c arg14 _ h_S128x512 Y _) $$ HY
  iintro HY
  iapply HK
  isplitl [H] <;> iassumption

theorem own_castSt (i : Fin 13) (Y : S128x6656.Idx → Elt F .bf16) (K : TP F α) :
    iprop(own c arg13 xf ∗ own c arg14 Y) ⊢ iprop((iprop(own c arg13 xf ∗ own c arg14 (castF xf i Y)) -∗ W c K Q) -∗ W c (castSt arg14 harg14 i (castBlk xf i) K) Q) := by
  unfold castSt
  iintro ⟨H, HY⟩ HK
  iapply (own_store c arg14 ![0, 512 * i.val] S128x512.size _ Y (castBlk xf i) (fun _ => K)) $$ HY
  iintro HY
  iapply HK
  isplitl [H]; · iexact H
  iexact HY

theorem own_cast (i : Fin 13) (Y : S128x6656.Idx → Elt F .bf16) (K : TP F α) :
    iprop(own c arg13 xf ∗ own c arg14 Y) ⊢ iprop((iprop(own c arg13 xf ∗ own c arg14 (castF xf i Y)) -∗ W c K Q) -∗ W c (castK arg13 arg14 harg14 i K) Q) := by
  unfold castK
  iintro H HK
  iapply (own_castLd c arg13 arg14 xf i Y _) $$ H
  iintro H
  iapply (own_castSt c arg13 arg14 harg14 xf i Y K) $$ H
  iexact HK
end Cast

/-! ## The tail -/

def setAll (X : S128x128.Idx → Elt F .f32) (w : FVec F S128x128 .f32) : S128x128.Idx → Elt F .f32 := upd (s := S128x128) ![0, 0] S128x128.size X w
def getAll (X : S128x128.Idx → Elt F .f32) : Vec F S128x128 .f32 := fun i => X (whole128.emb i)
def setPad (X : S128x128.Idx → Elt F .f32) : S128x128.Idx → Elt F .f32 := upd (s := S128x128) ![126, 0] S2x128.size X zero2

/-- The parents and tokens are in range where the picks read them. -/
def PickOk (X0 X1 : S3x42.Idx → BitVec 32) : Prop := ∀ i : Fin 126,
  parChk (BitVec.ofNat 32 (42 * (i.val / 42))) (wordAt X0 ![i.val / 42, i.val % 42] (wordInb i)) ∧
  pickChk (BitVec.ofNat 32 (42 * (i.val / 42))) (wordAt X0 ![i.val / 42, i.val % 42] (wordInb i)) (wordAt X1 ![i.val / 42, i.val % 42] (wordInb i))

/-- One pick. -/
def pickF (X0 X1 : S3x42.Idx → BitVec 32) (hok : PickOk X0 X1) (z : S250x128x128.Idx → Elt F .f32) (L E : S128x128.Idx → Elt F .f32) (i : Fin 126)
    (p : (S128x128.Idx → Elt F .f32) × (S128x128.Idx → Elt F .f32)) : (S128x128.Idx → Elt F .f32) × (S128x128.Idx → Elt F .f32) :=
  (upd (s := S128x128) ![i.val, 0] S1x128.size p.1 (pickVal iota36 (wordAt X1 ![i.val / 42, i.val % 42] (wordInb i))
      (fun j => z ((Rect.unit (s := S250x128x128) (pickOff (BitVec.ofNat 32 (42 * (i.val / 42))) (wordAt X0 ![i.val / 42, i.val % 42] (wordInb i)) (wordAt X1 ![i.val / 42, i.val % 42] (wordInb i))) S1x1x128.size (hok i).2).emb j))
      (fun j => L ((Rect.unit (s := S128x128) (parOff (BitVec.ofNat 32 (42 * (i.val / 42))) (wordAt X0 ![i.val / 42, i.val % 42] (wordInb i))) S1x128.size (hok i).1).emb j))),
   upd (s := S128x128) ![i.val, 0] S1x128.size p.2 (shapeCast S1x128
      (fun j => E ((Rect.unit (s := S128x128) (parOff (BitVec.ofNat 32 (42 * (i.val / 42))) (wordAt X0 ![i.val / 42, i.val % 42] (wordInb i))) S1x128.size (hok i).1).emb j)) shapeCasts_S1x128_S1x128))

section Tail
variable (c : Dev nD) {α : Type} {Q : α → SP F} (arg0 arg1 : Memref sig .tc .smem S3x42 .i32)
  (arg5 arg6 arg7 arg8 : Memref sig .tc .vmem S3x42 .f32)
  (arg15 : Memref sig .tc .vmem S250x128x128 .f32)
  (arg16 arg17 arg18 arg19 arg20 arg21 arg22 arg23 : Memref sig .tc .vmem S128x128 .f32)
  (X0 X1 : S3x42.Idx → BitVec 32) (hok : PickOk X0 X1) (z : S250x128x128.Idx → Elt F .f32) (L E : S128x128.Idx → Elt F .f32)

abbrev pickIn (p : (S128x128.Idx → Elt F .f32) × (S128x128.Idx → Elt F .f32)) : SP F :=
  iprop(own (F := F) c arg0 X0 ∗ own (F := F) c arg1 X1 ∗ own c arg15 z ∗ own c arg22 L ∗ own c arg23 E ∗ own c arg20 p.1 ∗ own c arg21 p.2)

theorem own_pick (i : Fin 126) (p : (S128x128.Idx → Elt F .f32) × (S128x128.Idx → Elt F .f32)) (K : TP F α) :
    pickIn c arg0 arg1 arg15 arg20 arg21 arg22 arg23 X0 X1 z L E p ⊢
      iprop((pickIn c arg0 arg1 arg15 arg20 arg21 arg22 arg23 X0 X1 z L E (pickF X0 X1 hok z L E i p) -∗ W c K Q)
        -∗ W c (pickK arg0 arg1 arg15 arg20 arg21 arg22 arg23 i K) Q) := by
  unfold pickK
  iintro ⟨H0, H1, HZ, HL, HE, HP, HH⟩ HK
  iapply (own_sw c arg0 _ _ X0 _) $$ H0; iintro H0
  iapply (W_asm c (hok i).1 _)
  iapply (own_sw c arg1 _ _ X1 _) $$ H1; iintro H1
  iapply (W_asm c (hok i).2 _)
  iapply (own_ld c arg15 _ h_S1x1x128 z _) $$ HZ; iintro HZ
  iapply (own_ld c arg22 _ h_S1x128 L _) $$ HL; iintro HL
  iapply (own_st c arg20 ![i.val, 0] S1x128.size _ h_S1x128 p.1 _ _) $$ HP; iintro HP
  iapply (own_ld c arg23 _ h_S1x128 E _) $$ HE; iintro HE
  iapply (own_st c arg21 ![i.val, 0] S1x128.size _ h_S1x128 p.2 _ _) $$ HH; iintro HH
  iapply HK
  isplitl [H0]; · iexact H0
  isplitl [H1]; · iexact H1
  isplitl [HZ]; · iexact HZ
  isplitl [HL]; · iexact HL
  isplitl [HE]; · iexact HE
  isplitl [HP]; · iexact HP
  iexact HH

/-- The reduction's four stores. -/
theorem own_reduce (st : Stats F) (J20 J21 J22 J23 : S128x128.Idx → Elt F .f32) (K : FVec F S128x1 .f32 → TP F α) :
    iprop(own c arg16 st.1 ∗ own c arg17 st.2.1 ∗ own c arg18 st.2.2 ∗ own c arg20 J20 ∗ own c arg21 J21 ∗ own c arg22 J22 ∗ own c arg23 J23) ⊢
      iprop((iprop(own c arg16 st.1 ∗ own c arg17 st.2.1 ∗ own c arg18 st.2.2 ∗ own c arg20 (setPad J20) ∗ own c arg21 (setPad J21)
          ∗ own c arg22 (setAll J22 (same128 (spread (rlse (getAll st.1) (getAll st.2.1)))))
          ∗ own c arg23 (setAll J23 (same128 (spread (rent (getAll st.1) (getAll st.2.1) (getAll st.2.2))))))
          -∗ W c (K (rent (getAll st.1) (getAll st.2.1) (getAll st.2.2))) Q)
        -∗ W c (reduceK arg16 arg17 arg18 arg20 arg21 arg22 arg23 K) Q) := by
  unfold reduceK
  iintro ⟨Hm, Hs, Ht, H20, H21, H22, H23⟩ HK
  iapply (own_ld c arg16 _ h_S128x128 st.1 _) $$ Hm; iintro Hm
  iapply (own_ld c arg17 _ h_S128x128 st.2.1 _) $$ Hs; iintro Hs
  iapply (own_ld c arg18 _ h_S128x128 st.2.2 _) $$ Ht; iintro Ht
  iapply (own_st c arg22 ![0, 0] S128x128.size _ h_S128x128 J22 _ _) $$ H22; iintro H22
  iapply (own_st c arg23 ![0, 0] S128x128.size _ h_S128x128 J23 _ _) $$ H23; iintro H23
  iapply (own_st c arg20 ![126, 0] S2x128.size _ h_S2x128 J20 _ _) $$ H20; iintro H20
  iapply (own_st c arg21 ![126, 0] S2x128.size _ h_S2x128 J21 _ _) $$ H21; iintro H21
  iapply HK
  isplitl [Hm]; · iexact Hm
  isplitl [Hs]; · iexact Hs
  isplitl [Ht]; · iexact Ht
  isplitl [H20]; · iexact H20
  isplitl [H21]; · iexact H21
  isplitl [H22]; · iexact H22
  iexact H23

/-- The four results. -/
abbrev Outs (F : FTy → Type) : Type := (S3x42.Idx → Elt F .f32) × (S3x42.Idx → Elt F .f32) × (S3x42.Idx → Elt F .f32) × (S3x42.Idx → Elt F .f32)
def outF (o : FVec F S128x128 .f32) (b : Fin 3) (p : Outs F) : Outs F :=
  (upd (s := S3x42) ![b.val, 0] S1x42.size p.1 (outRow o 0 b), upd (s := S3x42) ![b.val, 0] S1x42.size p.2.1 (outRow o 1 b),
   upd (s := S3x42) ![b.val, 0] S1x42.size p.2.2.1 (outRow o 2 b), upd (s := S3x42) ![b.val, 0] S1x42.size p.2.2.2 (outRow o 3 b))
abbrev outIn (p : Outs F) : SP F := iprop(own c arg5 p.1 ∗ own c arg6 p.2.1 ∗ own c arg7 p.2.2.1 ∗ own c arg8 p.2.2.2)

theorem own_out (o : FVec F S128x128 .f32) (b : Fin 3) (p : Outs F) (K : TP F α) :
    outIn c arg5 arg6 arg7 arg8 p ⊢ iprop((outIn c arg5 arg6 arg7 arg8 (outF o b p) -∗ W c K Q) -∗ W c (outK arg5 arg6 arg7 arg8 o b K) Q) := by
  unfold outK
  iintro ⟨H5, H6, H7, H8⟩ HK
  iapply (own_st c arg5 ![b.val, 0] S1x42.size _ h_S1x42 p.1 _ _) $$ H5; iintro H5
  iapply (own_st c arg6 ![b.val, 0] S1x42.size _ h_S1x42 p.2.1 _ _) $$ H6; iintro H6
  iapply (own_st c arg7 ![b.val, 0] S1x42.size _ h_S1x42 p.2.2.1 _ _) $$ H7; iintro H7
  iapply (own_st c arg8 ![b.val, 0] S1x42.size _ h_S1x42 p.2.2.2 _ _) $$ H8; iintro H8
  iapply HK
  isplitl [H5]; · iexact H5
  isplitl [H6]; · iexact H6
  isplitl [H7]; · iexact H7
  iexact H8

/-- The last tile. -/
def lastF (ent : FVec F S128x1 .f32) (pick hp anc : S128x128.Idx → Elt F .f32) : FVec F S128x128 .f32 :=
  outTile ent (lpTile (getAll pick)) (marginTile (lpTile (getAll pick)) (getAll hp)) (pmTile (marginTile (lpTile (getAll pick)) (getAll hp)) (getAll anc))
def outsF (o : FVec F S128x128 .f32) (p : Outs F) : Outs F := ([0, 1, 2] : List (Fin 3)).foldl (fun p b => outF o b p) p

theorem own_finish (ent : FVec F S128x1 .f32) (pick hp anc : S128x128.Idx → Elt F .f32) (p : Outs F) (K : TP F α) :
    iprop(outIn c arg5 arg6 arg7 arg8 p ∗ own c arg20 pick ∗ own c arg21 hp ∗ own c arg19 anc) ⊢
      iprop((iprop(outIn c arg5 arg6 arg7 arg8 (outsF (lastF ent pick hp anc) p) ∗ own c arg20 pick ∗ own c arg21 hp ∗ own c arg19 anc) -∗ W c K Q)
        -∗ W c (finishK arg5 arg6 arg7 arg8 arg19 arg20 arg21 ent K) Q) := by
  unfold finishK
  iintro ⟨HO, H20, H21, H19⟩ HK
  iapply (own_ld c arg20 _ h_S128x128 pick _) $$ H20; iintro H20
  iapply (own_ld c arg21 _ h_S128x128 hp _) $$ H21; iintro H21
  iapply (own_ld c arg19 _ h_S128x128 anc _) $$ H19; iintro H19
  iapply (W_seqK c _ (outIn c arg5 arg6 arg7 arg8) (outF (lastF ent pick hp anc)) (fun b p K => own_out c arg5 arg6 arg7 arg8 (lastF ent pick hp anc) b p K) _ _ p) $$ HO
  iintro HO
  iapply HK
  isplitl [HO]; · iexact HO
  isplitl [H20]; · iexact H20
  isplitl [H21] <;> iassumption
end Tail

end Cert.Kernel.Run
-- ==== Proof.RunK.Split.lean ====
/-
  A BUFFER AND ITS PARTS: a ring of matrices owned as its slots, and an array owned as its chunks of columns.
-/
module

public import proofs.«01_k».proof.Proof.RunK.Segs2

@[expose] public section

noncomputable section

namespace Cert.Kernel.Run

open Cert.Kernel.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.ShloMosaic.Pipeline (UD)
open Idealize.SL.BI.BIBase Idealize.SL.BI.Laws Idealize.SL.ProofMode Idealize.SL.Sem

variable {F : FTy → Type} [FloatOps F] [∀ e, Nonempty (Elt F e)]

theorem bigSep_three (Φ : Fin 3 → SP F) : bigSep Finset.univ Φ = iprop(Φ 0 ∗ Φ 1 ∗ Φ 2) :=
  bigSep_univ_eq_bigSepL [0, 1, 2] (by decide) (by decide) Φ

section Slot
variable {A B C : ℕ} {e : EltTy} (c : Dev nD) (m : Memref sig .tc .vmem ⟨3, ![A, B, C]⟩ e) (hq : (⟨3, ![1, B, C]⟩ : Shape).Squeezes ⟨2, ![B, C]⟩)

theorem slot_disj (s t : Fin A) (h : s ≠ t) : Disjoint (slotRect (A := A) (B := B) (C := C) s).set (slotRect (A := A) (B := B) (C := C) t).set := by
  rw [Finset.disjoint_left]
  intro i hi hj
  have h1 := (Rect.mem_set_unit.1 hi) 0
  have h2 := (Rect.mem_set_unit.1 hj) 0
  apply h; apply Fin.ext
  have a1 : s.val ≤ (i 0).val ∧ (i 0).val < s.val + 1 := h1
  have a2 : t.val ≤ (i 0).val ∧ (i 0).val < t.val + 1 := h2
  omega

theorem slot_cover : Finset.univ.biUnion (fun s : Fin A => (slotRect (A := A) (B := B) (C := C) s).set) = Finset.univ := by
  ext i
  simp only [Finset.mem_biUnion, Finset.mem_univ, true_and, iff_true]
  refine ⟨i 0, Rect.mem_set_unit.2 fun a => ?_⟩
  have h1 := (i a).isLt
  fin_cases a
  · exact ⟨le_refl _, Nat.lt_succ_self _⟩
  · exact ⟨Nat.zero_le _, by show (i 1).val < 0 + B; have : (i 1).val < B := (i 1).isLt; omega⟩
  · exact ⟨Nat.zero_le _, by show (i 2).val < 0 + C; have : (i 2).val < C := (i 2).isLt; omega⟩

theorem slot_part (s : Fin A) (X : (slotRect (A := A) (B := B) (C := C) s).shape.Idx → Elt F e) :
    (owns (c : Thread nD τ) (m.slice (slotRect s) (fun _ => rfl)) fullShare X : SP F) ⊢ (iprop(∃ Y, own c (slotM m hq s) Y) : SP F) := by
  have hset : (slotM m hq s).view.set = (m.slice (slotRect s) (fun _ => rfl)).view.set := View.set_reshape _ _
  unfold own owns
  rw [hset]
  iintro ⟨%f, %hf, H⟩
  iexists _, f
  isplitr
  · ipureintro; rfl
  · iexact H

theorem slots_split (J : (⟨3, ![A, B, C]⟩ : Shape).Idx → Elt F e) :
    own c m J ⊢ bigSep Finset.univ fun s : Fin A => (iprop(∃ Y, own c (slotM m hq s) Y) : SP F) :=
  (owns_rects (c : Thread nD τ) m fullShare slotRect (fun _ _ => rfl) slot_disj slot_cover J).trans (bigSep_mono fun s _ => slot_part c m hq s _)

theorem slot_whole (s : Fin A) (Ys : Fin A → (⟨2, ![B, C]⟩ : Shape).Idx → Elt F e) :
    (own c (slotM m hq s) (Ys s) : SP F) ⊢ (owns (c : Thread nD τ) (m.slice (slotRect s) (fun _ => rfl)) fullShare
      (fun j => (fun y => Ys (y 0) (ix2 (y 1) (y 2)) : (⟨3, ![A, B, C]⟩ : Shape).Idx → Elt F e) ((slotRect s).emb j)) : SP F) := by
  have hset : (slotM m hq s).view.set = (m.slice (slotRect s) (fun _ => rfl)).view.set := View.set_reshape _ _
  unfold own owns
  rw [hset]
  iintro ⟨%f, %hf, H⟩
  iexists f
  isplitr
  · ipureintro
    funext j
    have hj : (slotRect s).emb j = ix3 s (j 1) (j 2) := by
      funext a; apply Fin.ext; rw [emb_unit_val]
      have h0 : (j 0).val < 1 := (j 0).isLt
      fin_cases a
      · show s.val + (j 0).val = s.val; omega
      · show 0 + (j 1).val = (j 1).val; omega
      · show 0 + (j 2).val = (j 2).val; omega
    show _root_.cast _ (f (m.view.emb ((slotRect s).emb j))) = Ys ((slotRect s).emb j 0) (ix2 ((slotRect s).emb j 1) ((slotRect s).emb j 2))
    rw [hj]
    show _ = Ys s (ix2 (j 1) (j 2))
    rw [← hf]
    show _ = _root_.cast _ (f ((slotM m hq s).view.emb (ix2 (j 1) (j 2))))
    exact congrArg (fun i => _root_.cast _ (f i)) (slot_emb m hq s (j 1) (j 2)).symm
  · iexact H

theorem slots_join : bigSep Finset.univ (fun s : Fin A => (iprop(∃ Y, own c (slotM m hq s) Y) : SP F)) ⊢ iprop(∃ J, own (F := F) c m J) := by
  refine (bigSep_exists_pi _ _).trans ?_
  have key : ∀ Ys : Fin A → (⟨2, ![B, C]⟩ : Shape).Idx → Elt F e, bigSep Finset.univ (fun s => (own c (slotM m hq s) (Ys s) : SP F))
      ⊢ own c m (fun y => Ys (y 0) (ix2 (y 1) (y 2)) : (⟨3, ![A, B, C]⟩ : Shape).Idx → Elt F e) := by
    intro Ys
    have k1 := bigSep_mono (s := Finset.univ) (Φ := fun s => (own c (slotM m hq s) (Ys s) : SP F))
      (Ψ := fun s => (owns (c : Thread nD τ) (m.slice (slotRect s) (fun _ => rfl)) fullShare
        (fun j => (fun y => Ys (y 0) (ix2 (y 1) (y 2)) : (⟨3, ![A, B, C]⟩ : Shape).Idx → Elt F e) ((slotRect s).emb j)) : SP F))
      (fun s _ => slot_whole c m hq s Ys)
    have k2 := owns_of_rects (Ix := Unit) (Name := ℕ) (U := UD sig nD τ) (Lvl := ℕ) (c : Thread nD τ) m fullShare slotRect (fun _ _ => rfl) slot_disj slot_cover (fun y => Ys (y 0) (ix2 (y 1) (y 2)) : (⟨3, ![A, B, C]⟩ : Shape).Idx → Elt F e)
    exact k1.trans k2
  exact exists_elim fun Ys => (key Ys).trans (exists_intro _)
end Slot

section Cols
variable (c : Dev nD) (arg3 : Memref sig .tc .hbm S6656x32000 .fp8e4m3) (arg4 : Memref sig .tc .hbm S52x32000 .f32)
  (XW : S6656x32000.Idx → Elt F .fp8e4m3) (XS : S52x32000.Idx → Elt F .f32)

theorem colW_disj (s t : Fin 25) (h : s ≠ t) : Disjoint (colW s).set (colW t).set := by
  rw [Finset.disjoint_left]
  intro i hi hj
  have h1 := (Rect.mem_set_unit.1 hi) 1
  have h2 := (Rect.mem_set_unit.1 hj) 1
  apply h; apply Fin.ext
  have a1 : 1280 * s.val ≤ (i 1).val ∧ (i 1).val < 1280 * s.val + 1280 := h1
  have a2 : 1280 * t.val ≤ (i 1).val ∧ (i 1).val < 1280 * t.val + 1280 := h2
  omega

theorem colW_cover : Finset.univ.biUnion (fun s : Fin 25 => (colW s).set) = Finset.univ := by
  ext i
  simp only [Finset.mem_biUnion, Finset.mem_univ, true_and, iff_true]
  have h1 : (i 1).val < 32000 := (i 1).isLt
  have h0 : (i 0).val < 6656 := (i 0).isLt
  refine ⟨⟨(i 1).val / 1280, by omega⟩, Rect.mem_set_unit.2 fun a => ?_⟩
  fin_cases a
  · exact ⟨Nat.zero_le _, by show (i 0).val < 0 + 6656; omega⟩
  · exact ⟨by show 1280 * ((i 1).val / 1280) ≤ (i 1).val; omega, by show (i 1).val < 1280 * ((i 1).val / 1280) + 1280; omega⟩

theorem colS_disj (s t : Fin 25) (h : s ≠ t) : Disjoint (colS s).set (colS t).set := by
  rw [Finset.disjoint_left]
  intro i hi hj
  have h1 := (Rect.mem_set_unit.1 hi) 1
  have h2 := (Rect.mem_set_unit.1 hj) 1
  apply h; apply Fin.ext
  have a1 : 1280 * s.val ≤ (i 1).val ∧ (i 1).val < 1280 * s.val + 1280 := h1
  have a2 : 1280 * t.val ≤ (i 1).val ∧ (i 1).val < 1280 * t.val + 1280 := h2
  omega

theorem colS_cover : Finset.univ.biUnion (fun s : Fin 25 => (colS s).set) = Finset.univ := by
  ext i
  simp only [Finset.mem_biUnion, Finset.mem_univ, true_and, iff_true]
  have h1 : (i 1).val < 32000 := (i 1).isLt
  have h0 : (i 0).val < 52 := (i 0).isLt
  refine ⟨⟨(i 1).val / 1280, by omega⟩, Rect.mem_set_unit.2 fun a => ?_⟩
  fin_cases a
  · exact ⟨Nat.zero_le _, by show (i 0).val < 0 + 52; omega⟩
  · exact ⟨by show 1280 * ((i 1).val / 1280) ≤ (i 1).val; omega, by show (i 1).val < 1280 * ((i 1).val / 1280) + 1280; omega⟩

theorem homes_all : iprop(own (F := F) c arg3 XW ∗ own c arg4 XS) ⊢ bigSep Finset.univ (home c arg3 arg4 XW XS) := by
  unfold home
  rw [show bigSep Finset.univ (fun j : Fin 25 => (iprop(homeW c arg3 XW j ∗ homeS c arg4 XS j) : SP F))
    = iprop(bigSep Finset.univ (homeW c arg3 XW) ∗ bigSep Finset.univ (homeS c arg4 XS)) from bigSep_sep _ _ _]
  iintro ⟨A, B⟩
  isplitl [A]
  · iapply (owns_rects (c : Thread nD τ) arg3 fullShare colW (fun _ _ => rfl) colW_disj colW_cover XW) $$ A
  · iapply (owns_rects (c : Thread nD τ) arg4 fullShare colS (fun _ _ => rfl) colS_disj colS_cover XS) $$ B

theorem homes_back : bigSep Finset.univ (home c arg3 arg4 XW XS) ⊢ iprop(own (F := F) c arg3 XW ∗ own c arg4 XS) := by
  unfold home
  rw [show bigSep Finset.univ (fun j : Fin 25 => (iprop(homeW c arg3 XW j ∗ homeS c arg4 XS j) : SP F))
    = iprop(bigSep Finset.univ (homeW c arg3 XW) ∗ bigSep Finset.univ (homeS c arg4 XS)) from bigSep_sep _ _ _]
  iintro ⟨A, B⟩
  isplitl [A]
  · iapply (show bigSep Finset.univ (homeW c arg3 XW) ⊢ own (F := F) c arg3 XW from owns_of_rects (c : Thread nD τ) arg3 fullShare colW (fun _ _ => rfl) colW_disj colW_cover XW) $$ A
  · iapply (show bigSep Finset.univ (homeS c arg4 XS) ⊢ own (F := F) c arg4 XS from owns_of_rects (c : Thread nD τ) arg4 fullShare colS (fun _ _ => rfl) colS_disj colS_cover XS) $$ B

/-- The first three chunks apart from the rest. -/
theorem homes_first : bigSep Finset.univ (home c arg3 arg4 XW XS) ⊢
    iprop(home c arg3 arg4 XW XS 0 ∗ home c arg3 arg4 XW XS 1 ∗ home c arg3 arg4 XW XS 2 ∗ homes (F := F) c arg3 arg4 XW XS 0) := by
  have hu : (Finset.univ : Finset (Fin 25)) = insert 0 (insert 1 (insert 2 (away 0))) := by decide
  rw [hu, bigSep_ins (by decide), bigSep_ins (by decide), bigSep_ins (by decide)]

theorem homes_end : homes (F := F) c arg3 arg4 XW XS 25 ⊢ bigSep Finset.univ (home c arg3 arg4 XW XS) := by
  have hu : away 25 = (Finset.univ : Finset (Fin 25)) := by decide
  unfold homes
  rw [hu]
end Cols

end Cert.Kernel.Run
-- ==== Proof.RunK.Body.lean ====
/-
  THE BODY as a function of the contents of its buffers: what each part leaves, and the whole.
-/
module

public import proofs.«01_k».proof.Proof.RunK.Split

@[expose] public section

noncomputable section

namespace Cert.Kernel.Run

open Cert.Kernel.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

/-! ## What the parts leave -/

/-- The table of ancestors. -/
def ancAll (X0 : S3x42.Idx → BitVec 32) (J : S128x128.Idx → Elt F .f32) : S128x128.Idx → Elt F .f32 :=
  (iterF (fun (k : Fin k0_t1_loop.trips) (p : (S128x128.Idx → Elt F .f32) × PUnit) => (ancTripF iota36 X0 k p.1, ⟨⟩)) (setAll J (same128 zero128), ⟨⟩) k0_t1_loop.trips).1

/-- The first tree's codes, values and scales; the second's and the third's. -/
def quantA (Xin : S3x42x6656.Idx → Elt F .bf16) (s : QState F) : QState F × FVec F S42x128 .f32 :=
  iterF (fun k p => quantF iota46 (k0_off13 k) (k0_off13_inb k) (k0_off14 k) (Scf.iv 0#32 1#32 k) Xin p) (s, zero42) k0_t2_loop.trips
def quantB (Xin : S3x42x6656.Idx → Elt F .bf16) (s : QState F) : QState F × FVec F S42x128 .f32 :=
  iterF (fun k p => quantF iota46 (k0_off15 k) (k0_off15_inb k) (k0_off16 k) (Scf.iv 0#32 1#32 k) Xin p) (s, zero42) k0_t3_loop.trips
def quantC (Xin : S3x42x6656.Idx → Elt F .bf16) (s : QState F) : QState F × FVec F S42x128 .f32 :=
  iterF (fun k p => quantF iota46 (k0_off17 k) (k0_off17_inb k) (k0_off18 k) (Scf.iv 0#32 1#32 k) Xin p) (s, zero42) k0_t4_loop.trips

def setScale (b : Fin 3) (v : FVec F S42x128 .f32) (X : S3x42x52.Idx → Elt F .f32) : S3x42x52.Idx → Elt F .f32 :=
  upd (s := S3x42x52) ![b.val, 0, 0] S1x42x52.size X (up52 (cols52 v))
def padXf (X : S128x6656.Idx → Elt F .f32) : S128x6656.Idx → Elt F .f32 := upd (s := S128x6656) ![126, 0] S2x6656.size X zeroPad

/-- The codes, values and scales of the three trees. -/
def quant1 (Xin : S3x42x6656.Idx → Elt F .bf16) (J9 : S3x42x6656.Idx → Elt F .fp8e4m3) (J13 : S128x6656.Idx → Elt F .f32) := quantA Xin (J9, padXf J13)
def quant2 (Xin : S3x42x6656.Idx → Elt F .bf16) (J9 : S3x42x6656.Idx → Elt F .fp8e4m3) (J13 : S128x6656.Idx → Elt F .f32) := quantB Xin (quant1 Xin J9 J13).1
def quant3 (Xin : S3x42x6656.Idx → Elt F .bf16) (J9 : S3x42x6656.Idx → Elt F .fp8e4m3) (J13 : S128x6656.Idx → Elt F .f32) := quantC Xin (quant2 Xin J9 J13).1
def scalesAll (Xin : S3x42x6656.Idx → Elt F .bf16) (J9 : S3x42x6656.Idx → Elt F .fp8e4m3) (J13 : S128x6656.Idx → Elt F .f32) (J10 : S3x42x52.Idx → Elt F .f32) :
    S3x42x52.Idx → Elt F .f32 :=
  setScale 2 (quant3 Xin J9 J13).2 (setScale 1 (quant2 Xin J9 J13).2 (setScale 0 (quant1 Xin J9 J13).2 J10))

/-- The activations as 16-bit floats. -/
def xwAll (xf : S128x6656.Idx → Elt F .f32) (J14 : S128x6656.Idx → Elt F .bf16) : S128x6656.Idx → Elt F .bf16 :=
  castF xf 12 <| castF xf 11 <| castF xf 10 <| castF xf 9 <| castF xf 8 <| castF xf 7 <| castF xf 6 <| castF xf 5 <| castF xf 4 <| castF xf 3 <| castF xf 2 <| castF xf 1 <| castF xf 0 J14

/-- The running sums' first values. -/
def stats0 (st : Stats F) : Stats F := (setAll st.1 negBig, setAll st.2.1 (same128 zero128), setAll st.2.2 (same128 zero128))

/-- The four results, from the statistics and the scores. -/
def picksAll (X0 X1 : S3x42.Idx → BitVec 32) (hok : PickOk X0 X1) (z : S250x128x128.Idx → Elt F .f32) (st : Stats F) (J20 J21 J22 J23 : S128x128.Idx → Elt F .f32) :
    (S128x128.Idx → Elt F .f32) × (S128x128.Idx → Elt F .f32) :=
  all126.foldl (fun p i => pickF X0 X1 hok z (setAll J22 (same128 (spread (rlse (getAll st.1) (getAll st.2.1)))))
    (setAll J23 (same128 (spread (rent (getAll st.1) (getAll st.2.1) (getAll st.2.2))))) i p) (setPad J20, setPad J21)
def outsAll (X0 X1 : S3x42.Idx → BitVec 32) (hok : PickOk X0 X1) (z : S250x128x128.Idx → Elt F .f32) (st : Stats F) (anc : S128x128.Idx → Elt F .f32)
    (J20 J21 J22 J23 : S128x128.Idx → Elt F .f32) (o : Outs F) : Outs F :=
  outsF (lastF (rent (getAll st.1) (getAll st.2.1) (getAll st.2.2)) (picksAll X0 X1 hok z st J20 J21 J22 J23).1 (picksAll X0 X1 hok z st J20 J21 J22 J23).2 anc) o

/-! ## The parts -/

section Parts
variable (c : Dev nD) {α : Type}

theorem W_bind {β : Type} (p : TP F β) (K : β → TP F α) (Q : α → SP F) : W c p (fun a => W c (K a) Q) ⊢ W c (bind p K) Q := by
  unfold W; rw [wp_bind]

variable (arg0 arg1 : Memref sig .tc .smem S3x42 .i32) (arg2 : Memref sig .tc .vmem S3x42x6656 .bf16)
  (arg3 : Memref sig .tc .hbm S6656x32000 .fp8e4m3) (harg3 : arg3.IsWhole) (arg4 : Memref sig .tc .hbm S52x32000 .f32)
  (arg5 arg6 arg7 arg8 : Memref sig .tc .vmem S3x42 .f32) (arg9 : Memref sig .tc .vmem S3x42x6656 .fp8e4m3) (harg9 : arg9.IsWhole)
  (arg10 : Memref sig .tc .vmem S3x42x52 .f32) (arg11 : Memref sig .tc .vmem S3x6656x1280 .fp8e4m3) (harg11 : arg11.IsWhole)
  (arg12 : Memref sig .tc .vmem S3x52x1280 .f32) (arg13 : Memref sig .tc .vmem S128x6656 .f32) (arg14 : Memref sig .tc .vmem S128x6656 .bf16) (harg14 : arg14.IsWhole)
  (arg15 : Memref sig .tc .vmem S250x128x128 .f32) (arg16 arg17 arg18 arg19 arg20 arg21 arg22 arg23 : Memref sig .tc .vmem S128x128 .f32)
  (arg24 arg25 : DmaSems sig S3)
  (X0 X1 : S3x42.Idx → BitVec 32) (Xin : S3x42x6656.Idx → Elt F .bf16) (XW : S6656x32000.Idx → Elt F .fp8e4m3) (XS : S52x32000.Idx → Elt F .f32)

theorem own_prolog (Q : PUnit → SP F) :
    iprop((homeW c arg3 XW 0 ∗ restW c arg11 arg24 0) ∗ (homeS c arg4 XS 0 ∗ restS c arg12 arg25 0) ∗ (homeW c arg3 XW 1 ∗ restW c arg11 arg24 1)
        ∗ (homeS c arg4 XS 1 ∗ restS c arg12 arg25 1) ∗ (homeW c arg3 XW 2 ∗ restW c arg11 arg24 2)) ⊢
      iprop((iprop(flyW c arg3 arg11 arg24 XW 0 0 ∗ flyS c arg4 arg12 arg25 XS 0 0 ∗ flyW c arg3 arg11 arg24 XW 1 1 ∗ flyS c arg4 arg12 arg25 XS 1 1
          ∗ flyW c arg3 arg11 arg24 XW 2 2) -∗ Q ⟨⟩)
        -∗ W c (prologP arg3 harg3 arg4 arg11 harg11 arg12 arg24 arg25) Q) := by
  unfold prologP
  iintro ⟨A, B, C, D, E⟩ HQ
  iapply (own_copyW c arg3 harg3 arg11 harg11 arg24 XW 0 0 rfl (k0_off2_eq 0) (k0_off1_eq 0) _) $$ A
  iintro A
  iapply (own_copyS c arg4 arg12 arg25 XS 0 0 rfl (k0_off3_eq 0) (k0_off1_eq 0) _) $$ B
  iintro B
  iapply (own_copyW c arg3 harg3 arg11 harg11 arg24 XW 1 1 rfl (k0_off2_eq 1) (k0_off1_eq 1) _) $$ C
  iintro C
  iapply (own_copyS c arg4 arg12 arg25 XS 1 1 rfl (k0_off3_eq 1) (k0_off1_eq 1) _) $$ D
  iintro D
  iapply (own_copyW c arg3 harg3 arg11 harg11 arg24 XW 2 2 rfl (k0_off2_eq 2) (k0_off1_eq 2) _) $$ E
  iintro E
  iapply (W_ret c _)
  iapply HQ
  isplitl [A]; · iexact A
  isplitl [B]; · iexact B
  isplitl [C]; · iexact C
  isplitl [D]; · iexact D
  iexact E

theorem own_ancQuant (hok : AncOk X0) (J19 : S128x128.Idx → Elt F .f32) (J9 : S3x42x6656.Idx → Elt F .fp8e4m3) (J13 : S128x6656.Idx → Elt F .f32)
    (J10 : S3x42x52.Idx → Elt F .f32) (Q : (Σ' (v46 : IVec S42x128 32), FVec F S42x52 .f32) → SP F) :
    iprop((homeS c arg4 XS 2 ∗ restS c arg12 arg25 2) ∗ own (F := F) c arg0 X0 ∗ own c arg19 J19 ∗ own c arg2 Xin ∗ own c arg9 J9 ∗ own c arg13 J13 ∗ own c arg10 J10) ⊢
      iprop((iprop(flyS c arg4 arg12 arg25 XS 2 2 ∗ own (F := F) c arg0 X0 ∗ own c arg19 (ancAll X0 J19) ∗ own c arg2 Xin ∗ own c arg9 (quant2 Xin J9 J13).1.1
          ∗ own c arg13 (quant2 Xin J9 J13).1.2 ∗ own c arg10 (setScale 0 (quant1 Xin J9 J13).2 J10)) -∗ Q ⟨iota46, cols52 (quant2 Xin J9 J13).2⟩)
        -∗ W c (ancQuantP arg0 arg2 arg4 arg9 harg9 arg10 arg12 arg13 arg19 arg25) Q) := by
  have key : ∀ a, a = (⟨iota46, cols52 (quant2 Xin J9 J13).2⟩ : Σ' (v46 : IVec S42x128 32), FVec F S42x52 .f32) → Q ⟨iota46, cols52 (quant2 Xin J9 J13).2⟩ ⊢ W c (.ret a) Q := by
    intro a ha; rw [ha]; exact W_ret c _
  unfold ancQuantP
  iintro ⟨HS, H0, H19, H2, H9, H13, H10⟩ HQ
  iapply (own_copyS c arg4 arg12 arg25 XS 2 2 rfl (k0_off3_eq 2) (k0_off1_eq 2) _) $$ HS
  iintro HS
  iapply (own_st c arg19 ![0, 0] S128x128.size _ h_S128x128 J19 _ _) $$ H19
  iintro H19
  iapply (W_loop c k0_t1_loop k0_t1_ok (⟨⟩ : PUnit) (fun k _ => ancP arg0 arg19 iota36 k) (fun Y => iprop(own (F := F) c arg0 X0 ∗ own c arg19 Y))
    (fun (k : Fin k0_t1_loop.trips) (p : (S128x128.Idx → Elt F .f32) × PUnit) => (ancTripF iota36 X0 k p.1, ⟨⟩))
    (fun k p Q' => own_ancP c arg0 arg19 X0 _ k hok p.1 Q') (setAll J19 (same128 zero128)) _) $$ [H0 H19]
  · isplitl [H0]; · iexact H0
    iexact H19
  iintro ⟨H0, H19⟩
  iapply (own_st c arg13 ![126, 0] S2x6656.size _ h_S2x6656 J13 _ _) $$ H13
  iintro H13
  iapply (W_loop c k0_t2_loop k0_t2_ok (zero42 (F := F)) (fun k acc => quantP arg2 arg9 harg9 arg13 iota46 (k0_off13 k) (k0_off13_inb k) (k0_off13_tilesfp8e4m3 k) (k0_off14 k) (k0_off14_inb k) (Scf.iv 0#32 1#32 k) acc)
    (fun s : QState F => iprop(own c arg2 Xin ∗ own c arg9 s.1 ∗ own c arg13 s.2))
    (fun k p => quantF iota46 (k0_off13 k) (k0_off13_inb k) (k0_off14 k) (Scf.iv 0#32 1#32 k) Xin p)
    (fun k p Q' => own_quant c arg2 arg9 harg9 arg13 Xin iota46 _ _ _ _ _ _ p Q') (J9, padXf J13) _) $$ [H2 H9 H13]
  · isplitl [H2]; · iexact H2
    isplitl [H9]; · iexact H9
    iexact H13
  iintro ⟨H2, H9, H13⟩
  iapply (own_st c arg10 ![0, 0, 0] S1x42x52.size _ h_S1x42x52 J10 _ _) $$ H10
  iintro H10
  iapply (W_loop c k0_t3_loop k0_t3_ok (zero42 (F := F)) (fun k acc => quantP arg2 arg9 harg9 arg13 iota46 (k0_off15 k) (k0_off15_inb k) (k0_off15_tilesfp8e4m3 k) (k0_off16 k) (k0_off16_inb k) (Scf.iv 0#32 1#32 k) acc)
    (fun s : QState F => iprop(own c arg2 Xin ∗ own c arg9 s.1 ∗ own c arg13 s.2))
    (fun k p => quantF iota46 (k0_off15 k) (k0_off15_inb k) (k0_off16 k) (Scf.iv 0#32 1#32 k) Xin p)
    (fun k p Q' => own_quant c arg2 arg9 harg9 arg13 Xin iota46 _ _ _ _ _ _ p Q') (quant1 Xin J9 J13).1 _) $$ [H2 H9 H13]
  · isplitl [H2]; · iexact H2
    isplitl [H9]; · iexact H9
    iexact H13
  iintro ⟨H2, H9, H13⟩
  iapply (key _ rfl)
  iapply HQ
  isplitl [HS]; · iexact HS
  isplitl [H0]; · iexact H0
  isplitl [H19]; · iexact H19
  isplitl [H2]; · iexact H2
  isplitl [H9]; · iexact H9
  isplitl [H13]; · iexact H13
  iexact H10

theorem own_quantCast (J9 : S3x42x6656.Idx → Elt F .fp8e4m3) (J13 : S128x6656.Idx → Elt F .f32)
    (J10 : S3x42x52.Idx → Elt F .f32) (J14 : S128x6656.Idx → Elt F .bf16) (Q : FVec F S128x512 .bf16 → SP F) :
    iprop(own c arg2 Xin ∗ own c arg9 (quant2 Xin J9 J13).1.1 ∗ own c arg13 (quant2 Xin J9 J13).1.2 ∗ own c arg10 (setScale 0 (quant1 Xin J9 J13).2 J10) ∗ own c arg14 J14) ⊢
      iprop((iprop(own c arg2 Xin ∗ own c arg9 (quant3 Xin J9 J13).1.1 ∗ own c arg13 (quant3 Xin J9 J13).1.2 ∗ own c arg10 (scalesAll Xin J9 J13 J10)
          ∗ own c arg14 (castF (quant3 Xin J9 J13).1.2 2 <| castF (quant3 Xin J9 J13).1.2 1 <| castF (quant3 Xin J9 J13).1.2 0 J14)) -∗ Q (castBlk (quant3 Xin J9 J13).1.2 3))
        -∗ W c (quantCastP arg2 arg9 harg9 arg10 arg13 arg14 harg14 iota46 (cols52 (quant2 Xin J9 J13).2)) Q) := by
  unfold quantCastP
  iintro ⟨H2, H9, H13, H10, H14⟩ HQ
  iapply (own_st c arg10 ![1, 0, 0] S1x42x52.size _ h_S1x42x52 _ _ _) $$ H10
  iintro H10
  iapply (W_loop c k0_t4_loop k0_t4_ok (zero42 (F := F)) (fun k acc => quantP arg2 arg9 harg9 arg13 iota46 (k0_off17 k) (k0_off17_inb k) (k0_off17_tilesfp8e4m3 k) (k0_off18 k) (k0_off18_inb k) (Scf.iv 0#32 1#32 k) acc)
    (fun s : QState F => iprop(own c arg2 Xin ∗ own c arg9 s.1 ∗ own c arg13 s.2))
    (fun k p => quantF iota46 (k0_off17 k) (k0_off17_inb k) (k0_off18 k) (Scf.iv 0#32 1#32 k) Xin p)
    (fun k p Q' => own_quant c arg2 arg9 harg9 arg13 Xin iota46 _ _ _ _ _ _ p Q') (quant2 Xin J9 J13).1 _) $$ [H2 H9 H13]
  · isplitl [H2]; · iexact H2
    isplitl [H9]; · iexact H9
    iexact H13
  iintro ⟨H2, H9, H13⟩
  iapply (own_st c arg10 ![2, 0, 0] S1x42x52.size _ h_S1x42x52 _ _ _) $$ H10
  iintro H10
  iapply (own_cast c arg13 arg14 harg14 (quant3 Xin J9 J13).1.2 0 J14 _) $$ [H13 H14]
  · isplitl [H13]; · iexact H13
    iexact H14
  iintro H
  iapply (own_cast c arg13 arg14 harg14 (quant3 Xin J9 J13).1.2 1 _ _) $$ H
  iintro H
  iapply (own_cast c arg13 arg14 harg14 (quant3 Xin J9 J13).1.2 2 _ _) $$ H
  iintro H
  iapply (own_castLd c arg13 arg14 (quant3 Xin J9 J13).1.2 3 _ _) $$ H
  iintro ⟨H13, H14⟩
  iapply (W_ret c _)
  iapply HQ
  isplitl [H2]; · iexact H2
  isplitl [H9]; · iexact H9
  isplitl [H13]; · iexact H13
  isplitl [H10]; · iexact H10
  iexact H14

theorem own_casts (xf : S128x6656.Idx → Elt F .f32) (Y : S128x6656.Idx → Elt F .bf16) (Q : FVec F S128x512 .bf16 → SP F) :
    iprop(own c arg13 xf ∗ own c arg14 Y) ⊢
      iprop((iprop(own c arg13 xf ∗ own c arg14 (castF xf 8 <| castF xf 7 <| castF xf 6 <| castF xf 5 <| castF xf 4 <| castF xf 3 Y)) -∗ Q (castBlk xf 9))
        -∗ W c (castsP arg13 arg14 harg14 (castBlk xf 3)) Q) := by
  unfold castsP
  iintro H HQ
  iapply (own_castSt c arg13 arg14 harg14 xf 3 _ _) $$ H
  iintro H
  iapply (own_cast c arg13 arg14 harg14 xf 4 _ _) $$ H
  iintro H
  iapply (own_cast c arg13 arg14 harg14 xf 5 _ _) $$ H
  iintro H
  iapply (own_cast c arg13 arg14 harg14 xf 6 _ _) $$ H
  iintro H
  iapply (own_cast c arg13 arg14 harg14 xf 7 _ _) $$ H
  iintro H
  iapply (own_cast c arg13 arg14 harg14 xf 8 _ _) $$ H
  iintro H
  iapply (own_castLd c arg13 arg14 xf 9 _ _) $$ H
  iintro H
  iapply (W_ret c _)
  iapply HQ
  iexact H

theorem own_init (xf : S128x6656.Idx → Elt F .f32) (Y : S128x6656.Idx → Elt F .bf16) (st : Stats F) (K : TP F α) (Q : α → SP F) :
    iprop((own c arg13 xf ∗ own c arg14 Y) ∗ own c arg16 st.1 ∗ own c arg17 st.2.1 ∗ own c arg18 st.2.2) ⊢
      iprop((iprop((own c arg13 xf ∗ own c arg14 (castF xf 12 <| castF xf 11 <| castF xf 10 <| castF xf 9 Y)) ∗ own c arg16 (stats0 st).1 ∗ own c arg17 (stats0 st).2.1
          ∗ own c arg18 (stats0 st).2.2) -∗ W c K Q)
        -∗ W c (initK arg13 arg14 harg14 arg16 arg17 arg18 (castBlk xf 9) K) Q) := by
  unfold initK
  iintro ⟨H, H16, H17, H18⟩ HQ
  iapply (own_castSt c arg13 arg14 harg14 xf 9 _ _) $$ H
  iintro H
  iapply (own_cast c arg13 arg14 harg14 xf 10 _ _) $$ H
  iintro H
  iapply (own_cast c arg13 arg14 harg14 xf 11 _ _) $$ H
  iintro H
  iapply (own_cast c arg13 arg14 harg14 xf 12 _ _) $$ H
  iintro H
  iapply (own_st c arg16 ![0, 0] S128x128.size _ h_S128x128 st.1 _ _) $$ H16
  iintro H16
  iapply (own_st c arg17 ![0, 0] S128x128.size _ h_S128x128 st.2.1 _ _) $$ H17
  iintro H17
  iapply (own_st c arg18 ![0, 0] S128x128.size _ h_S128x128 st.2.2 _ _) $$ H18
  iintro H18
  iapply HQ
  isplitl [H]; · iexact H
  isplitl [H16]; · iexact H16
  isplitl [H17]; · iexact H17
  iexact H18

/-- The chunk loop. -/
theorem own_chunks (X : S128x6656.Idx → Elt F .bf16) (p : CState F) (K : PUnit → TP F α) (Q : α → SP F) :
    chunkInv c arg3 arg4 arg11 arg12 arg14 arg15 arg16 arg17 arg18 arg24 arg25 XW XS X p 0 ⊢
      iprop((chunkInv c arg3 arg4 arg11 arg12 arg14 arg15 arg16 arg17 arg18 arg24 arg25 XW XS X p 25 -∗ W c (K ⟨⟩) Q)
        -∗ W c (bind (Scf.Loop.for k0_t5_loop k0_t5_ok ⟨⟩ fun k _ =>
    chunkP arg3 harg3 arg4 arg11 harg11 arg12 arg14 arg15 arg16 arg17 arg18 arg24 arg25 k) K) Q) := by
  iintro H HK
  iapply (Scf.wp_for_bind frame (wpE (defs₀ (F := F)) 𝒱₀ (c : Thread nD τ) none) Set.univ k0_t5_loop.lb k0_t5_loop.ub k0_t5_loop.st k0_t5_ok (⟨⟩ : PUnit) _
    (fun k _ => chunkInv c arg3 arg4 arg11 arg12 arg14 arg15 arg16 arg17 arg18 arg24 arg25 XW XS X p k) ?_) $$ H
  · intro k acc
    iintro H
    iapply (own_chunk c arg3 harg3 arg4 arg11 harg11 arg12 arg14 arg15 arg16 arg17 arg18 arg24 arg25 XW XS X p k _) $$ H
    iintro H
    iexact H
  iintro %acc H
  iapply HK
  rw [show Scf.trips k0_t5_loop.lb k0_t5_loop.ub k0_t5_loop.st = 25 from trips5]
  iexact H

abbrev tailIn (z : S250x128x128.Idx → Elt F .f32) (st : Stats F) (anc J20 J21 J22 J23 : S128x128.Idx → Elt F .f32) (o : Outs F) : SP F :=
  iprop(own (F := F) c arg0 X0 ∗ own (F := F) c arg1 X1 ∗ own c arg15 z ∗ own c arg16 st.1 ∗ own c arg17 st.2.1 ∗ own c arg18 st.2.2 ∗ own c arg19 anc
    ∗ own c arg20 J20 ∗ own c arg21 J21 ∗ own c arg22 J22 ∗ own c arg23 J23 ∗ outIn c arg5 arg6 arg7 arg8 o)

theorem own_tail (hok : PickOk X0 X1) (z : S250x128x128.Idx → Elt F .f32) (st : Stats F) (anc J20 J21 J22 J23 : S128x128.Idx → Elt F .f32) (o : Outs F) (Q : PUnit → SP F) :
    tailIn c arg0 arg1 arg5 arg6 arg7 arg8 arg15 arg16 arg17 arg18 arg19 arg20 arg21 arg22 arg23 X0 X1 z st anc J20 J21 J22 J23 o ⊢
      iprop((iprop(∃ J20' J21' J22' J23', tailIn c arg0 arg1 arg5 arg6 arg7 arg8 arg15 arg16 arg17 arg18 arg19 arg20 arg21 arg22 arg23 X0 X1 z st anc J20' J21' J22' J23'
          (outsAll X0 X1 hok z st anc J20 J21 J22 J23 o)) -∗ Q ⟨⟩)
        -∗ W c (tailP arg0 arg1 arg5 arg6 arg7 arg8 arg15 arg16 arg17 arg18 arg19 arg20 arg21 arg22 arg23) Q) := by
  unfold tailP
  iintro ⟨H0, H1, HZ, H16, H17, H18, H19, H20, H21, H22, H23, HO⟩ HQ
  iapply (own_reduce c arg16 arg17 arg18 arg20 arg21 arg22 arg23 st J20 J21 J22 J23 _) $$ [H16 H17 H18 H20 H21 H22 H23]
  · isplitl [H16]; · iexact H16
    isplitl [H17]; · iexact H17
    isplitl [H18]; · iexact H18
    isplitl [H20]; · iexact H20
    isplitl [H21]; · iexact H21
    isplitl [H22]; · iexact H22
    iexact H23
  iintro ⟨H16, H17, H18, H20, H21, H22, H23⟩
  iapply (W_seqK c _ (fun p => pickIn c arg0 arg1 arg15 arg20 arg21 arg22 arg23 X0 X1 z (setAll J22 (same128 (spread (rlse (getAll st.1) (getAll st.2.1)))))
      (setAll J23 (same128 (spread (rent (getAll st.1) (getAll st.2.1) (getAll st.2.2))))) p) _
    (fun i p K => own_pick c arg0 arg1 arg15 arg20 arg21 arg22 arg23 X0 X1 hok z _ _ i p K) _ all126 (setPad J20, setPad J21)) $$ [H0 H1 HZ H22 H23 H20 H21]
  · isplitl [H0]; · iexact H0
    isplitl [H1]; · iexact H1
    isplitl [HZ]; · iexact HZ
    isplitl [H22]; · iexact H22
    isplitl [H23]; · iexact H23
    isplitl [H20]; · iexact H20
    iexact H21
  iintro ⟨H0, H1, HZ, H22, H23, H20, H21⟩
  iapply (own_finish c arg5 arg6 arg7 arg8 arg19 arg20 arg21 (rent (getAll st.1) (getAll st.2.1) (getAll st.2.2)) (picksAll X0 X1 hok z st J20 J21 J22 J23).1
    (picksAll X0 X1 hok z st J20 J21 J22 J23).2 anc o _) $$ [HO H20 H21 H19]
  · isplitl [HO]; · iexact HO
    isplitl [H20]; · iexact H20
    isplitl [H21]; · iexact H21
    iexact H19
  iintro ⟨HO, H20, H21, H19⟩
  iapply (W_ret c _)
  iapply HQ
  iexists _, _, _, _
  isplitl [H0]; · iexact H0
  isplitl [H1]; · iexact H1
  isplitl [HZ]; · iexact HZ
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact HO
end Parts

end Cert.Kernel.Run
-- ==== Proof.RunK.EqA.lean ====
/-
  THE PROGRAM BEFORE THE CHUNK LOOP IS THE ROLLED ONE
-/
module

public import proofs.«01_k».proof.Proof.RunK.Head

@[expose] public section

set_option maxHeartbeats 40000000
set_option maxRecDepth 100000

noncomputable section

namespace Cert.Kernel.Run

open Idealize.ShloMosaic Idealize.SL.Sem
open Facts₀ Facts

variable {F : FTy → Type} [FloatOps F]

section
variable (arg0 : Memref sig .tc .smem S3x42 .i32) (harg0 : arg0.IsWhole) (arg1 : Memref sig .tc .smem S3x42 .i32) (harg1 : arg1.IsWhole) (arg2 : Memref sig .tc .vmem S3x42x6656 .bf16) (harg2 : arg2.IsWhole) (arg3 : Memref sig .tc .hbm S6656x32000 .fp8e4m3) (harg3 : arg3.IsWhole) (arg4 : Memref sig .tc .hbm S52x32000 .f32) (harg4 : arg4.IsWhole) (arg5 : Memref sig .tc .vmem S3x42 .f32) (harg5 : arg5.IsWhole) (arg6 : Memref sig .tc .vmem S3x42 .f32) (harg6 : arg6.IsWhole) (arg7 : Memref sig .tc .vmem S3x42 .f32) (harg7 : arg7.IsWhole) (arg8 : Memref sig .tc .vmem S3x42 .f32) (harg8 : arg8.IsWhole) (arg9 : Memref sig .tc .vmem S3x42x6656 .fp8e4m3) (harg9 : arg9.IsWhole) (arg10 : Memref sig .tc .vmem S3x42x52 .f32) (harg10 : arg10.IsWhole) (arg11 : Memref sig .tc .vmem S3x6656x1280 .fp8e4m3) (harg11 : arg11.IsWhole) (arg12 : Memref sig .tc .vmem S3x52x1280 .f32) (harg12 : arg12.IsWhole) (arg13 : Memref sig .tc .vmem S128x6656 .f32) (harg13 : arg13.IsWhole) (arg14 : Memref sig .tc .vmem S128x6656 .bf16) (harg14 : arg14.IsWhole) (arg15 : Memref sig .tc .vmem S250x128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S128x128 .f32) (harg22 : arg22.IsWhole) (arg23 : Memref sig .tc .vmem S128x128 .f32) (harg23 : arg23.IsWhole) (arg24 : DmaSems sig S3) (arg25 : DmaSems sig S3)

theorem part122_eq : k0_part122 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 = prologP arg3 harg3 arg4 arg11 harg11 arg12 arg24 arg25 := by rfl

theorem part123_eq : k0_part123 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 =
    ancQuantP arg0 arg2 arg4 arg9 harg9 arg10 arg12 arg13 arg19 arg25 := by rfl

theorem part124_eq (v46 : IVec S42x128 32) (v57 : FVec F S42x52 .f32) : k0_part124 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v46 v57 =
    quantCastP arg2 arg9 harg9 arg10 arg13 arg14 harg14 v46 v57 := by rfl

theorem part125_eq (v87 : FVec F S128x512 .bf16) : k0_part125 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v87 = castsP arg13 arg14 harg14 v87 := by rfl
end

end Cert.Kernel.Run
-- ==== Proof.RunK.EqB.lean ====
/-
  THE CHUNK LOOP IS THE ROLLED ONE
-/
module

public import proofs.«01_k».proof.Proof.RunK.Head

@[expose] public section

set_option maxHeartbeats 40000000
set_option maxRecDepth 100000

noncomputable section

namespace Cert.Kernel.Run

open Idealize.ShloMosaic Idealize.SL.Sem
open Facts₀ Facts

variable {F : FTy → Type} [FloatOps F]

section
variable (arg0 : Memref sig .tc .smem S3x42 .i32) (harg0 : arg0.IsWhole) (arg1 : Memref sig .tc .smem S3x42 .i32) (harg1 : arg1.IsWhole) (arg2 : Memref sig .tc .vmem S3x42x6656 .bf16) (harg2 : arg2.IsWhole) (arg3 : Memref sig .tc .hbm S6656x32000 .fp8e4m3) (harg3 : arg3.IsWhole) (arg4 : Memref sig .tc .hbm S52x32000 .f32) (harg4 : arg4.IsWhole) (arg5 : Memref sig .tc .vmem S3x42 .f32) (harg5 : arg5.IsWhole) (arg6 : Memref sig .tc .vmem S3x42 .f32) (harg6 : arg6.IsWhole) (arg7 : Memref sig .tc .vmem S3x42 .f32) (harg7 : arg7.IsWhole) (arg8 : Memref sig .tc .vmem S3x42 .f32) (harg8 : arg8.IsWhole) (arg9 : Memref sig .tc .vmem S3x42x6656 .fp8e4m3) (harg9 : arg9.IsWhole) (arg10 : Memref sig .tc .vmem S3x42x52 .f32) (harg10 : arg10.IsWhole) (arg11 : Memref sig .tc .vmem S3x6656x1280 .fp8e4m3) (harg11 : arg11.IsWhole) (arg12 : Memref sig .tc .vmem S3x52x1280 .f32) (harg12 : arg12.IsWhole) (arg13 : Memref sig .tc .vmem S128x6656 .f32) (harg13 : arg13.IsWhole) (arg14 : Memref sig .tc .vmem S128x6656 .bf16) (harg14 : arg14.IsWhole) (arg15 : Memref sig .tc .vmem S250x128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S128x128 .f32) (harg22 : arg22.IsWhole) (arg23 : Memref sig .tc .vmem S128x128 .f32) (harg23 : arg23.IsWhole) (arg24 : DmaSems sig S3) (arg25 : DmaSems sig S3)

/-- The last casts, the running sums' first values, and the chunk loop. -/
def chunksP (v117 : FVec F S128x512 .bf16) : TP F PUnit :=
  initK arg13 arg14 harg14 arg16 arg17 arg18 v117 <|
  bind (Scf.Loop.for k0_t5_loop k0_t5_ok ⟨⟩ fun k _ =>
    chunkP arg3 harg3 arg4 arg11 harg11 arg12 arg14 arg15 arg16 arg17 arg18 arg24 arg25 k) fun _ => .ret ⟨⟩

theorem part126_eq (v117 : FVec F S128x512 .bf16) : k0_part126 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v117 =
    chunksP arg3 harg3 arg4 arg11 harg11 arg12 arg13 arg14 harg14 arg15 arg16 arg17 arg18 arg24 arg25 v117 := by rfl
end

end Cert.Kernel.Run
-- ==== Proof.RunK.EqC.lean ====
/-
  THE PROGRAM AFTER THE CHUNK LOOP IS THE ROLLED ONE
-/
module

public import proofs.«01_k».proof.Proof.RunK.Head

@[expose] public section

set_option maxHeartbeats 40000000
set_option maxRecDepth 100000

noncomputable section

namespace Cert.Kernel.Run

open Idealize.ShloMosaic Idealize.SL.Sem
open Facts₀ Facts

variable {F : FTy → Type} [FloatOps F]

section
variable (arg0 : Memref sig .tc .smem S3x42 .i32) (harg0 : arg0.IsWhole) (arg1 : Memref sig .tc .smem S3x42 .i32) (harg1 : arg1.IsWhole) (arg2 : Memref sig .tc .vmem S3x42x6656 .bf16) (harg2 : arg2.IsWhole) (arg3 : Memref sig .tc .hbm S6656x32000 .fp8e4m3) (harg3 : arg3.IsWhole) (arg4 : Memref sig .tc .hbm S52x32000 .f32) (harg4 : arg4.IsWhole) (arg5 : Memref sig .tc .vmem S3x42 .f32) (harg5 : arg5.IsWhole) (arg6 : Memref sig .tc .vmem S3x42 .f32) (harg6 : arg6.IsWhole) (arg7 : Memref sig .tc .vmem S3x42 .f32) (harg7 : arg7.IsWhole) (arg8 : Memref sig .tc .vmem S3x42 .f32) (harg8 : arg8.IsWhole) (arg9 : Memref sig .tc .vmem S3x42x6656 .fp8e4m3) (harg9 : arg9.IsWhole) (arg10 : Memref sig .tc .vmem S3x42x52 .f32) (harg10 : arg10.IsWhole) (arg11 : Memref sig .tc .vmem S3x6656x1280 .fp8e4m3) (harg11 : arg11.IsWhole) (arg12 : Memref sig .tc .vmem S3x52x1280 .f32) (harg12 : arg12.IsWhole) (arg13 : Memref sig .tc .vmem S128x6656 .f32) (harg13 : arg13.IsWhole) (arg14 : Memref sig .tc .vmem S128x6656 .bf16) (harg14 : arg14.IsWhole) (arg15 : Memref sig .tc .vmem S250x128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S128x128 .f32) (harg22 : arg22.IsWhole) (arg23 : Memref sig .tc .vmem S128x128 .f32) (harg23 : arg23.IsWhole) (arg24 : DmaSems sig S3) (arg25 : DmaSems sig S3)

theorem cc0_eq : cc0_medusa_accept (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 =
    bind (k0_part122 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25) fun _ => bind (k0_part123 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25) fun r =>
    bind (k0_part124 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 r.1 r.2) fun v87 => bind (k0_part125 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v87) fun v117 =>
    bind (k0_part126 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v117) fun _ =>
    tailP arg0 arg1 arg5 arg6 arg7 arg8 arg15 arg16 arg17 arg18 arg19 arg20 arg21 arg22 arg23 := by
  unfold cc0_medusa_accept k0_part266
  refine (Prog.bind_assoc _ _ _).trans (congrArg _ (funext fun _ => ?_))
  refine (Prog.bind_assoc _ _ _).trans (congrArg _ (funext fun _ => ?_))
  refine (Prog.bind_assoc _ _ _).trans (congrArg _ (funext fun _ => ?_))
  refine (Prog.bind_assoc _ _ _).trans (congrArg _ (funext fun _ => ?_))
  refine (Prog.bind_assoc _ _ _).trans (congrArg _ (funext fun _ => ?_))
  rfl
end

end Cert.Kernel.Run
-- ==== Proof.RunK.Whole.lean ====
/-
  THE WHOLE BODY, from its buffers at any contents to its buffers at the results.
-/
module

public import proofs.«01_k».proof.Proof.RunK.Body
public import proofs.«01_k».proof.Proof.RunK.EqA
public import proofs.«01_k».proof.Proof.RunK.EqB
public import proofs.«01_k».proof.Proof.RunK.EqC

@[expose] public section

noncomputable section

namespace Cert.Kernel.Run

open Cert.Kernel.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

/-- What the buffers hold when the body starts, the ring's apart. -/
structure Junk (F : FTy → Type) where
  o : Outs F
  j9 : S3x42x6656.Idx → Elt F .fp8e4m3
  j10 : S3x42x52.Idx → Elt F .f32
  j13 : S128x6656.Idx → Elt F .f32
  j14 : S128x6656.Idx → Elt F .bf16
  j15 : S250x128x128.Idx → Elt F .f32
  st : Stats F
  j19 : S128x128.Idx → Elt F .f32
  j20 : S128x128.Idx → Elt F .f32
  j21 : S128x128.Idx → Elt F .f32
  j22 : S128x128.Idx → Elt F .f32
  j23 : S128x128.Idx → Elt F .f32

section
variable (X0 X1 : S3x42.Idx → BitVec 32) (Xin : S3x42x6656.Idx → Elt F .bf16) (XW : S6656x32000.Idx → Elt F .fp8e4m3) (XS : S52x32000.Idx → Elt F .f32) (j : Junk F)

def codesOf : S3x42x6656.Idx → Elt F .fp8e4m3 := (quant3 Xin j.j9 j.j13).1.1
def scalesOf : S3x42x52.Idx → Elt F .f32 := scalesAll Xin j.j9 j.j13 j.j10
def xfOf : S128x6656.Idx → Elt F .f32 := (quant3 Xin j.j9 j.j13).1.2
def xwOf : S128x6656.Idx → Elt F .bf16 := xwAll (xfOf Xin j) j.j14
def chunksOf : CState F := chunkIter XW XS (xwOf Xin j) (j.j15, stats0 j.st) 25
def outOf (hok : PickOk X0 X1) : Outs F :=
  outsAll X0 X1 hok (chunksOf Xin XW XS j).1 (chunksOf Xin XW XS j).2 (ancAll X0 j.j19) j.j20 j.j21 j.j22 j.j23 j.o
end

section
variable (c : Dev nD) (arg0 : Memref sig .tc .smem S3x42 .i32) (harg0 : arg0.IsWhole) (arg1 : Memref sig .tc .smem S3x42 .i32) (harg1 : arg1.IsWhole) (arg2 : Memref sig .tc .vmem S3x42x6656 .bf16) (harg2 : arg2.IsWhole) (arg3 : Memref sig .tc .hbm S6656x32000 .fp8e4m3) (harg3 : arg3.IsWhole) (arg4 : Memref sig .tc .hbm S52x32000 .f32) (harg4 : arg4.IsWhole) (arg5 : Memref sig .tc .vmem S3x42 .f32) (harg5 : arg5.IsWhole) (arg6 : Memref sig .tc .vmem S3x42 .f32) (harg6 : arg6.IsWhole) (arg7 : Memref sig .tc .vmem S3x42 .f32) (harg7 : arg7.IsWhole) (arg8 : Memref sig .tc .vmem S3x42 .f32) (harg8 : arg8.IsWhole) (arg9 : Memref sig .tc .vmem S3x42x6656 .fp8e4m3) (harg9 : arg9.IsWhole) (arg10 : Memref sig .tc .vmem S3x42x52 .f32) (harg10 : arg10.IsWhole) (arg11 : Memref sig .tc .vmem S3x6656x1280 .fp8e4m3) (harg11 : arg11.IsWhole) (arg12 : Memref sig .tc .vmem S3x52x1280 .f32) (harg12 : arg12.IsWhole) (arg13 : Memref sig .tc .vmem S128x6656 .f32) (harg13 : arg13.IsWhole) (arg14 : Memref sig .tc .vmem S128x6656 .bf16) (harg14 : arg14.IsWhole) (arg15 : Memref sig .tc .vmem S250x128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S128x128 .f32) (harg22 : arg22.IsWhole) (arg23 : Memref sig .tc .vmem S128x128 .f32) (harg23 : arg23.IsWhole) (arg24 : DmaSems sig S3) (arg25 : DmaSems sig S3)
  (X0 X1 : S3x42.Idx → BitVec 32) (Xin : S3x42x6656.Idx → Elt F .bf16) (XW : S6656x32000.Idx → Elt F .fp8e4m3) (XS : S52x32000.Idx → Elt F .f32)

/-- The semaphores of a ring at zero. -/
abbrev sems0 (a : DmaSems sig S3) : SP F :=
  iprop(semVal ((c : Thread nD τ), .dma (semAt a 0)) 0 ∗ semVal ((c : Thread nD τ), .dma (semAt a 1)) 0 ∗ semVal ((c : Thread nD τ), .dma (semAt a 2)) 0)

/-- The inputs, the results at given contents, the ring's buffers at any, the scratch buffers at given contents, the semaphores at zero. -/
abbrev bodyAt (o : Outs F) (j9 : S3x42x6656.Idx → Elt F .fp8e4m3) (j10 : S3x42x52.Idx → Elt F .f32) (j : Junk F) : SP F :=
  iprop((own (F := F) c arg0 X0 ∗ own (F := F) c arg1 X1 ∗ own c arg2 Xin ∗ own c arg3 XW ∗ own c arg4 XS) ∗ (outIn c arg5 arg6 arg7 arg8 o ∗ own c arg9 j9 ∗ own c arg10 j10)
    ∗ (∃ J, own (F := F) c arg11 J) ∗ (∃ J, own (F := F) c arg12 J) ∗ own c arg13 j.j13 ∗ own c arg14 j.j14 ∗ own c arg15 j.j15
    ∗ own c arg16 j.st.1 ∗ own c arg17 j.st.2.1 ∗ own c arg18 j.st.2.2 ∗ own c arg19 j.j19 ∗ own c arg20 j.j20 ∗ own c arg21 j.j21 ∗ own c arg22 j.j22 ∗ own c arg23 j.j23
    ∗ sems0 c arg24 ∗ sems0 c arg25 ∗ dues c)

theorem inSlot_lt (k : ℕ) (h : k < 25) : inSlot c arg3 arg4 arg11 arg12 arg24 arg25 XW XS k
    = iprop(flyW c arg3 arg11 arg24 XW ⟨k, h⟩ ⟨k % 3, by omega⟩ ∗ flyS c arg4 arg12 arg25 XS ⟨k, h⟩ ⟨k % 3, by omega⟩) := by
  unfold inSlot; rw [dif_pos h]
theorem inSlot_ge (k : ℕ) (h : ¬ k < 25) : inSlot c arg3 arg4 arg11 arg12 arg24 arg25 XW XS k
    = iprop(restW c arg11 arg24 ⟨k % 3, by omega⟩ ∗ restS c arg12 arg25 ⟨k % 3, by omega⟩) := by
  unfold inSlot; rw [dif_neg h]

theorem own_body (hanc : AncOk X0) (hok : PickOk X0 X1) (j : Junk F) (Q : PUnit → SP F) :
    bodyAt c arg0 arg1 arg2 arg3 arg4 arg5 arg6 arg7 arg8 arg9 arg10 arg11 arg12 arg13 arg14 arg15 arg16 arg17 arg18 arg19 arg20 arg21 arg22 arg23 arg24 arg25 X0 X1 Xin XW XS j.o j.j9 j.j10 j ⊢
      iprop((iprop(∃ j', bodyAt c arg0 arg1 arg2 arg3 arg4 arg5 arg6 arg7 arg8 arg9 arg10 arg11 arg12 arg13 arg14 arg15 arg16 arg17 arg18 arg19 arg20 arg21 arg22 arg23 arg24 arg25 X0 X1 Xin XW XS (outOf X0 X1 Xin XW XS j hok) (codesOf Xin j) (scalesOf Xin j) j') -∗ Q ⟨⟩)
        -∗ W c (cc0_medusa_accept (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25) Q) := by
  rw [cc0_eq]
  iintro ⟨⟨H0, H1, H2, H3, H4⟩, ⟨HO, H9, H10⟩, ⟨%J11, H11⟩, ⟨%J12, H12⟩, H13, H14, H15, H16, H17, H18, H19, H20, H21, H22, H23, ⟨V0, V1, V2⟩, ⟨U0, U1, U2⟩, HD⟩ HQ
  ihave H11 := (show own c arg11 J11 ⊢ iprop((∃ Y, own (F := F) c (slotWt arg11 0) Y) ∗ (∃ Y, own (F := F) c (slotWt arg11 1) Y) ∗ (∃ Y, own (F := F) c (slotWt arg11 2) Y)) from
    (slots_split c arg11 squeezes_S1x6656x1280_S6656x1280 J11).trans (Entails.of_eq (bigSep_three _))) $$ H11
  icases H11 with ⟨R0, R1, R2⟩
  ihave H12 := (show own c arg12 J12 ⊢ iprop((∃ Y, own (F := F) c (slotSc arg12 0) Y) ∗ (∃ Y, own (F := F) c (slotSc arg12 1) Y) ∗ (∃ Y, own (F := F) c (slotSc arg12 2) Y)) from
    (slots_split c arg12 squeezes_S1x52x1280_S52x1280 J12).trans (Entails.of_eq (bigSep_three _))) $$ H12
  icases H12 with ⟨T0, T1, T2⟩
  ihave HH := ((homes_all c arg3 arg4 XW XS).trans (homes_first c arg3 arg4 XW XS)) $$ [H3 H4]
  · isplitl [H3]; · iexact H3
    iexact H4
  icases HH with ⟨⟨A0, B0⟩, ⟨A1, B1⟩, ⟨A2, B2⟩, HH⟩
  iapply (W_bind c _ _ _)
  rw [part122_eq]
  iapply (own_prolog c arg3 harg3 arg4 arg11 harg11 arg12 arg24 arg25 XW XS _) $$ [R0 R1 R2 T0 T1 V0 V1 V2 U0 U1 A0 B0 A1 B1 A2]
  · isplitl [A0 R0 V0]
    · isplitl [A0]; · iexact A0
      isplitl [R0]; · iexact R0
      iexact V0
    isplitl [B0 T0 U0]
    · isplitl [B0]; · iexact B0
      isplitl [T0]; · iexact T0
      iexact U0
    isplitl [A1 R1 V1]
    · isplitl [A1]; · iexact A1
      isplitl [R1]; · iexact R1
      iexact V1
    isplitl [B1 T1 U1]
    · isplitl [B1]; · iexact B1
      isplitl [T1]; · iexact T1
      iexact U1
    isplitl [A2]; · iexact A2
    isplitl [R2]; · iexact R2
    iexact V2
  iintro ⟨FW0, FS0, FW1, FS1, FW2⟩
  iapply (W_bind c _ _ _)
  rw [part123_eq]
  iapply (own_ancQuant c arg0 arg2 arg4 arg9 harg9 arg10 arg12 arg13 arg19 arg25 X0 Xin XS hanc j.j19 j.j9 j.j13 j.j10 _) $$ [B2 T2 U2 H0 H19 H2 H9 H13 H10]
  · isplitl [B2 T2 U2]
    · isplitl [B2]; · iexact B2
      isplitl [T2]; · iexact T2
      iexact U2
    isplitl [H0]; · iexact H0
    isplitl [H19]; · iexact H19
    isplitl [H2]; · iexact H2
    isplitl [H9]; · iexact H9
    isplitl [H13]; · iexact H13
    iexact H10
  iintro ⟨FS2, H0, H19, H2, H9, H13, H10⟩
  iapply (W_bind c _ _ _)
  rw [part124_eq]
  iapply (own_quantCast c arg2 arg9 harg9 arg10 arg13 arg14 harg14 Xin j.j9 j.j13 j.j10 j.j14 _) $$ [H2 H9 H13 H10 H14]
  · isplitl [H2]; · iexact H2
    isplitl [H9]; · iexact H9
    isplitl [H13]; · iexact H13
    isplitl [H10]; · iexact H10
    iexact H14
  iintro ⟨H2, H9, H13, H10, H14⟩
  iapply (W_bind c _ _ _)
  rw [part125_eq]
  iapply (own_casts c arg13 arg14 harg14 (quant3 Xin j.j9 j.j13).1.2 _ _) $$ [H13 H14]
  · isplitl [H13]; · iexact H13
    iexact H14
  iintro H
  iapply (W_bind c _ _ _)
  rw [part126_eq]
  unfold chunksP
  iapply (own_init c arg13 arg14 harg14 arg16 arg17 arg18 (quant3 Xin j.j9 j.j13).1.2 _ j.st _ _) $$ [H H16 H17 H18]
  · isplitl [H]; · iexact H
    isplitl [H16]; · iexact H16
    isplitl [H17]; · iexact H17
    iexact H18
  iintro ⟨⟨H13, H14⟩, H16, H17, H18⟩
  iapply (own_chunks c arg3 harg3 arg4 arg11 harg11 arg12 arg14 arg15 arg16 arg17 arg18 arg24 arg25 XW XS (xwOf Xin j) (j.j15, stats0 j.st) _ _) $$ [FW0 FS0 FW1 FS1 FW2 FS2 HH HD H14 H15 H16 H17 H18]
  · unfold chunkInv ring
    rw [inSlot_lt c arg3 arg4 arg11 arg12 arg24 arg25 XW XS 0 (by omega), inSlot_lt c arg3 arg4 arg11 arg12 arg24 arg25 XW XS (0 + 1) (by omega), inSlot_lt c arg3 arg4 arg11 arg12 arg24 arg25 XW XS (0 + 2) (by omega)]
    isplitr [H14 H15 H16 H17 H18]
    · isplitl [FW0 FS0]
      · isplitl [FW0]; · iexact FW0
        iexact FS0
      isplitl [FW1 FS1]
      · isplitl [FW1]; · iexact FW1
        iexact FS1
      isplitl [FW2 FS2]
      · isplitl [FW2]; · iexact FW2
        iexact FS2
      isplitl [HH]; · iexact HH
      iexact HD
    isplitl [H14]; · iexact H14
    isplitl [H15]; · iexact H15
    isplitl [H16]; · iexact H16
    isplitl [H17]; · iexact H17
    iexact H18
  unfold chunkInv ring
  rw [inSlot_ge c arg3 arg4 arg11 arg12 arg24 arg25 XW XS 25 (by omega), inSlot_ge c arg3 arg4 arg11 arg12 arg24 arg25 XW XS (25 + 1) (by omega), inSlot_ge c arg3 arg4 arg11 arg12 arg24 arg25 XW XS (25 + 2) (by omega)]
  iintro ⟨⟨⟨⟨R1, V1⟩, ⟨T1, U1⟩⟩, ⟨⟨R2, V2⟩, ⟨T2, U2⟩⟩, ⟨⟨R0, V0⟩, ⟨T0, U0⟩⟩, HH, HD⟩, H14, H15, H16, H17, H18⟩
  iapply (W_ret c _)
  iapply (own_tail c arg0 arg1 arg5 arg6 arg7 arg8 arg15 arg16 arg17 arg18 arg19 arg20 arg21 arg22 arg23 X0 X1 hok (chunksOf Xin XW XS j).1 (chunksOf Xin XW XS j).2
    (ancAll X0 j.j19) j.j20 j.j21 j.j22 j.j23 j.o _) $$ [H0 H1 H15 H16 H17 H18 H19 H20 H21 H22 H23 HO]
  · isplitl [H0]; · iexact H0
    isplitl [H1]; · iexact H1
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iexact HO
  iintro ⟨%k20, %k21, %k22, %k23, H0, H1, H15, H16, H17, H18, H19, H20, H21, H22, H23, HO⟩
  ihave H34 := ((homes_end c arg3 arg4 XW XS).trans (homes_back c arg3 arg4 XW XS)) $$ HH
  icases H34 with ⟨H3, H4⟩
  ihave H11 := (show iprop((∃ Y, own (F := F) c (slotWt arg11 0) Y) ∗ (∃ Y, own (F := F) c (slotWt arg11 1) Y) ∗ (∃ Y, own (F := F) c (slotWt arg11 2) Y)) ⊢ iprop(∃ J, own (F := F) c arg11 J) from
    (Entails.of_eq (bigSep_three _).symm).trans (slots_join c arg11 squeezes_S1x6656x1280_S6656x1280)) $$ [R0 R1 R2]
  · isplitl [R0]; · iexact R0
    isplitl [R1]; · iexact R1
    iexact R2
  ihave H12 := (show iprop((∃ Y, own (F := F) c (slotSc arg12 0) Y) ∗ (∃ Y, own (F := F) c (slotSc arg12 1) Y) ∗ (∃ Y, own (F := F) c (slotSc arg12 2) Y)) ⊢ iprop(∃ J, own (F := F) c arg12 J) from
    (Entails.of_eq (bigSep_three _).symm).trans (slots_join c arg12 squeezes_S1x52x1280_S52x1280)) $$ [T0 T1 T2]
  · isplitl [T0]; · iexact T0
    isplitl [T1]; · iexact T1
    iexact T2
  iapply HQ
  iexists (⟨j.o, j.j9, j.j10, xfOf Xin j, xwOf Xin j, (chunksOf Xin XW XS j).1, (chunksOf Xin XW XS j).2, ancAll X0 j.j19, k20, k21, k22, k23⟩ : Junk F)
  isplitl [H0 H1 H2 H3 H4]
  · isplitl [H0]; · iexact H0
    isplitl [H1]; · iexact H1
    isplitl [H2]; · iexact H2
    isplitl [H3]; · iexact H3
    iexact H4
  isplitl [HO H9 H10]
  · isplitl [HO]; · iexact HO
    isplitl [H9]; · iexact H9
    iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [V0 V1 V2]
  · isplitl [V0]; · iexact V0
    isplitl [V1]; · iexact V1
    iexact V2
  isplitl [U0 U1 U2]
  · isplitl [U0]; · iexact U0
    isplitl [U1]; · iexact U1
    iexact U2
  iexact HD
end

end Cert.Kernel.Run
-- ==== Proof.RunK.Launch.lean ====
/-
  THE LAUNCH: the body under the pipeline, and what every final state holds.
-/
module

public import proofs.«01_k».proof.Proof.RunK.Whole
public import proofs.«01_k».proof.Proof.Gen.Kernel.Frame
public import Idealize.ShloMosaic.Lib.Pipeline.Frame
public import Idealize.ShloMosaic.Lib.Pipeline.ArrRel

@[expose] public section

noncomputable section

namespace Cert.Kernel.Run

open Cert.Kernel.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD RDat)

variable {F : FTy → Type} [FloatOps F] [∀ e, Nonempty (Elt F e)]
variable (m : (ℓ : Loc nD τ sig) → Buf (Elt F) ℓ) (ρ : Dev nD → PrngReg)

/-! ## The kernel's own semaphores, the operands it copies itself, and the scratch buffers -/

abbrev osem0 : Fin 6 → SemLoc sig := fun j => (![SemLoc.dma 9, SemLoc.dma 10, SemLoc.dma 11, SemLoc.dma 12, SemLoc.dma 13, SemLoc.dma 14] : Fin 6 → SemLoc sig) j
theorem ownSemFacts0 : Pipeline.OwnSemFacts spec0 osem0 := by decide

theorem sem13_0 : semAt cc0_scratch13 0 = (9 : DmaSem sig) := by decide
theorem sem13_1 : semAt cc0_scratch13 1 = (10 : DmaSem sig) := by decide
theorem sem13_2 : semAt cc0_scratch13 2 = (11 : DmaSem sig) := by decide
theorem sem14_0 : semAt cc0_scratch14 0 = (12 : DmaSem sig) := by decide
theorem sem14_1 : semAt cc0_scratch14 1 = (13 : DmaSem sig) := by decide
theorem sem14_2 : semAt cc0_scratch14 2 = (14 : DmaSem sig) := by decide

theorem sems13_eq (c : Dev nD) : (sems0 c cc0_scratch13 : SP F)
    = iprop(semVal ((c : Thread nD τ), SemLoc.dma 9) 0 ∗ semVal ((c : Thread nD τ), SemLoc.dma 10) 0 ∗ semVal ((c : Thread nD τ), SemLoc.dma 11) 0) := by
  unfold sems0; rw [sem13_0, sem13_1, sem13_2]
theorem sems14_eq (c : Dev nD) : (sems0 c cc0_scratch14 : SP F)
    = iprop(semVal ((c : Thread nD τ), SemLoc.dma 12) 0 ∗ semVal ((c : Thread nD τ), SemLoc.dma 13) 0 ∗ semVal ((c : Thread nD τ), SemLoc.dma 14) 0) := by
  unfold sems0; rw [sem14_0, sem14_1, sem14_2]

theorem ownSems_eq (c : Dev nD) :
    (Pipeline.ownSems0 (Ix := Unit) (Name := ℕ) (U := UD sig nD τ) (Lvl := ℕ) (Val := Elt F) (τ := τ) osem0 c : SP F)
      = iprop(semVal ((c : Thread nD τ), SemLoc.dma 9) 0 ∗ semVal ((c : Thread nD τ), SemLoc.dma 10) 0 ∗ semVal ((c : Thread nD τ), SemLoc.dma 11) 0
          ∗ semVal ((c : Thread nD τ), SemLoc.dma 12) 0 ∗ semVal ((c : Thread nD τ), SemLoc.dma 13) 0 ∗ semVal ((c : Thread nD τ), SemLoc.dma 14) 0) := by
  rw [Pipeline.ownSems0_eq_of_list c osem0 [0, 1, 2, 3, 4, 5] (by decide) (by decide)]; rfl

def H0 : Finset (Ref sig .tc) := {main_arg3, main_arg4}
theorem H0_sub : H0 ⊆ Pipeline.restRefs sig spec0 := by decide
theorem hbm_eq (c : Dev nD) :
    (bigSep H0 (fun b => ((c : Thread nD τ).loc b) ↦{fullShare} V m c b) : SP F)
      = iprop((((c : Thread nD τ).loc main_arg3) ↦{fullShare} V m c main_arg3) ∗ (((c : Thread nD τ).loc main_arg4) ↦{fullShare} V m c main_arg4)) := by
  rw [BI.bigSep_eq_bigSepL_of_eq [main_arg3, main_arg4] (by decide) (by decide)]; rfl

/-- A buffer whole, at some contents. -/
abbrev any (c : Dev nD) (b : Ref sig .tc) : SP F := iprop(∃ f : Buf (Elt F) ((c : Thread nD τ).loc b), ((c : Thread nD τ).loc b) ↦{fullShare} f)

theorem any_own (c : Dev nD) (b : Ref sig .tc) : (any c b : SP F) = iprop(∃ d, own c (Memref.whole b) d) := by
  unfold own; simp only [owns_whole]

/-! ## The operands, as the body finds them -/

def in0 (c : Dev nD) : S3x42.Idx → BitVec 32 := iblk m c 0 t0_0
def in1 (c : Dev nD) : S3x42.Idx → BitVec 32 := iblk m c 1 t0_0
def in2 (c : Dev nD) : S3x42x6656.Idx → Elt F .bf16 := iblk m c 2 t0_0
def in3 (c : Dev nD) : S6656x32000.Idx → Elt F .fp8e4m3 := m ((c : Thread nD τ).loc main_arg3)
def in4 (c : Dev nD) : S52x32000.Idx → Elt F .f32 := m ((c : Thread nD τ).loc main_arg4)

theorem in0_apply (c : Dev nD) (i : S3x42.Idx) : in0 m c i = m ((c : Thread nD τ).loc main_arg1) i := by
  unfold in0 iblk; rw [View.read_apply]
  show m _ _ = m _ _
  congr 1
  funext a; apply Fin.ext
  show 0 * _ + _ = _
  simp

theorem in1_apply (c : Dev nD) (i : S3x42.Idx) : in1 m c i = m ((c : Thread nD τ).loc main_arg2) i := by
  unfold in1 iblk; rw [View.read_apply]
  show m _ _ = m _ _
  congr 1
  funext a; apply Fin.ext
  show 0 * _ + _ = _
  simp
theorem in2_apply (c : Dev nD) (i : S3x42x6656.Idx) : in2 m c i = m ((c : Thread nD τ).loc main_arg0) i := by
  unfold in2 iblk; rw [View.read_apply]
  show m _ _ = m _ _
  congr 1
  funext a; apply Fin.ext
  show 0 * _ + _ = _
  simp

/-- The words the body reads as positions are in range, on every core. -/
abbrev PreOK : Prop := ∀ c : Dev nD, AncOk (in0 m c) ∧ PickOk (in0 m c) (in1 m c)

/-- What the region holds between points: the scratch buffers at any contents, the kernel's own semaphores at zero, the two
    operands it copies itself. -/
theorem PhiD_eq (c : Dev nD) :
    (Pipeline.ΦD osem0 spec0 H0 (V m) c : SP F)
      = iprop((any c cc0_scratch0 ∗ any c cc0_scratch1 ∗ any c cc0_scratch2 ∗ any c cc0_scratch3 ∗ any c cc0_scratch4 ∗ any c cc0_scratch5 ∗ any c cc0_scratch6
            ∗ any c cc0_scratch7 ∗ any c cc0_scratch8 ∗ any c cc0_scratch9 ∗ any c cc0_scratch10 ∗ any c cc0_scratch11 ∗ any c cc0_scratch12) ∗ (∃ r, prngReg c r)
          ∗ (semVal ((c : Thread nD τ), SemLoc.dma 9) 0 ∗ semVal ((c : Thread nD τ), SemLoc.dma 10) 0 ∗ semVal ((c : Thread nD τ), SemLoc.dma 11) 0
          ∗ semVal ((c : Thread nD τ), SemLoc.dma 12) 0 ∗ semVal ((c : Thread nD τ), SemLoc.dma 13) 0 ∗ semVal ((c : Thread nD τ), SemLoc.dma 14) 0)
          ∗ ((((c : Thread nD τ).loc main_arg3) ↦{fullShare} V m c main_arg3) ∗ (((c : Thread nD τ).loc main_arg4) ↦{fullShare} V m c main_arg4))) := by
  rw [Pipeline.ΦD_eq, scopedRest0_eq, ownSems_eq, hbm_eq]

theorem pt_own (c : Dev nD) (b : Ref sig .tc) (X : b.ty.shape.Idx → Elt F b.ty.elt) : ((((c : Thread nD τ).loc b) ↦{fullShare} X) : SP F) ⊢ own c (Memref.whole b) X := by
  unfold own; rw [owns_whole_eq]
  iintro H
  iexists X
  isplitr; · ipureintro; rfl
  iexact H
theorem own_pt (c : Dev nD) (b : Ref sig .tc) (X : b.ty.shape.Idx → Elt F b.ty.elt) : own c (Memref.whole b) X ⊢ ((((c : Thread nD τ).loc b) ↦{fullShare} X) : SP F) := by
  unfold own; rw [owns_whole_eq]
  iintro ⟨%f, %hf, H⟩
  subst hf
  iexact H
theorem home3_in (c : Dev nD) : ((((c : Thread nD τ).loc main_arg3) ↦{fullShare} V m c main_arg3) : SP F) ⊢ own c (Memref.whole main_arg3) (in3 m c) := pt_own c main_arg3 _
theorem home3_out (c : Dev nD) : own c (Memref.whole main_arg3) (in3 m c) ⊢ ((((c : Thread nD τ).loc main_arg3) ↦{fullShare} V m c main_arg3) : SP F) := own_pt c main_arg3 _
theorem home4_in (c : Dev nD) : ((((c : Thread nD τ).loc main_arg4) ↦{fullShare} V m c main_arg4) : SP F) ⊢ own c (Memref.whole main_arg4) (in4 m c) := pt_own c main_arg4 _
theorem home4_out (c : Dev nD) : own c (Memref.whole main_arg4) (in4 m c) ⊢ ((((c : Thread nD τ).loc main_arg4) ↦{fullShare} V m c main_arg4) : SP F) := own_pt c main_arg4 _

/-! ## The relation of each window's contents after the body to those before -/

variable (hok : PreOK m)

abbrev resOut (c : Dev nD) (j : Junk F) : Outs F := outOf (in0 m c) (in1 m c) (in2 m c) (in3 m c) (in4 m c) j (hok c).2

def rdat (c : Dev nD) : RDat τ (Elt F) Unit ℕ (UD sig nD τ) ℕ cfg0 c where
  A w := V m c (Pipeline.arrRef spec0 w)
  after w t Y X := match w, Y, X with
    | ⟨0, _⟩, Y, X => X = Y
    | ⟨1, _⟩, Y, X => X = Y
    | ⟨2, _⟩, Y, X => X = Y
    | ⟨3, _⟩, _, X => ∃ j : Junk F, X = (resOut m hok c j).1
    | ⟨4, _⟩, _, X => ∃ j : Junk F, X = (resOut m hok c j).2.1
    | ⟨5, _⟩, _, X => ∃ j : Junk F, X = (resOut m hok c j).2.2.1
    | ⟨6, _⟩, _, X => ∃ j : Junk F, X = (resOut m hok c j).2.2.2
    | ⟨7, _⟩, _, X => ∃ j : Junk F, X = codesOf (in2 m c) j
    | ⟨8, _⟩, _, X => ∃ j : Junk F, X = scalesOf (in2 m c) j
  Φ _ := Pipeline.ΦD osem0 spec0 H0 (V m) c
  q _ := fullShare
  owed _ := 0

theorem finds0 (c : Dev nD) (t : Fin cfg0.N) (X) (h : (rdat m hok c).Finds 0 t X) : X = in0 m c := by
  obtain ⟨d, rfl⟩ := ((rdat m hok c).finds_of_fetch (fetch0_0 t) X).mp h
  rw [show t = t0_0 from fin_N0 t]; unfold RDat.fetched RDat.blockOf in0 iblk; dsimp only [rdat]; rfl
theorem finds1 (c : Dev nD) (t : Fin cfg0.N) (X) (h : (rdat m hok c).Finds 1 t X) : X = in1 m c := by
  obtain ⟨d, rfl⟩ := ((rdat m hok c).finds_of_fetch (fetch0_1 t) X).mp h
  rw [show t = t0_0 from fin_N0 t]; unfold RDat.fetched RDat.blockOf in1 iblk; dsimp only [rdat]; rfl
theorem finds2 (c : Dev nD) (t : Fin cfg0.N) (X) (h : (rdat m hok c).Finds 2 t X) : X = in2 m c := by
  obtain ⟨d, rfl⟩ := ((rdat m hok c).finds_of_fetch (fetch0_2 t) X).mp h
  rw [show t = t0_0 from fin_N0 t]; unfold RDat.fetched RDat.blockOf in2 iblk; dsimp only [rdat]; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

abbrev pre (c : Dev nD) (t : Fin cfg0.N) (y3 y4 y5 y6 : S3x42.Idx → Elt F .f32) (y7 : S3x42x6656.Idx → Elt F .fp8e4m3) (y8 : S3x42x52.Idx → Elt F .f32) : SP F :=
  iprop(own (F := F) c (win0_0.stage (cfg0.slots t 0)) (in0 m c) ∗ own (F := F) c (win0_1.stage (cfg0.slots t 1)) (in1 m c) ∗ own c (win0_2.stage (cfg0.slots t 2)) (in2 m c)
    ∗ own c (win0_3.stage (cfg0.slots t 3)) y3 ∗ own c (win0_4.stage (cfg0.slots t 4)) y4 ∗ own c (win0_5.stage (cfg0.slots t 5)) y5 ∗ own c (win0_6.stage (cfg0.slots t 6)) y6
    ∗ own c (win0_7.stage (cfg0.slots t 7)) y7 ∗ own c (win0_8.stage (cfg0.slots t 8)) y8)

theorem sound_body (c : Dev nD) (t : Fin cfg0.N) (y3 y4 y5 y6 : S3x42.Idx → Elt F .f32) (y7 : S3x42x6656.Idx → Elt F .fp8e4m3) (y8 : S3x42x52.Idx → Elt F .f32) :
    iprop(Pipeline.ΦD osem0 spec0 H0 (V m) c ∗ dues c ∗ pre m c t y3 y4 y5 y6 y7 y8)
      ⊢ W c (bodyAt0 (F := F) t) (fun _ => iprop(Pipeline.ΦD osem0 spec0 H0 (V m) c ∗ dues c
          ∗ ∃ j : Junk F, pre m c t (resOut m hok c j).1 (resOut m hok c j).2.1 (resOut m hok c j).2.2.1 (resOut m hok c j).2.2.2 (codesOf (in2 m c) j) (scalesOf (in2 m c) j))) := by
  rw [PhiD_eq]
  simp only [any_own]
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩, ⟨%s9, S9⟩, ⟨%s10, S10⟩, ⟨%s11, S11⟩, ⟨%s12, S12⟩⟩, Hg,
    ⟨V0, V1, V2, U0, U1, U2⟩, ⟨A3, A4⟩⟩, HD, ⟨A0, A1, A2, B3, B4, B5, B6, B7, B8⟩⟩
  ihave A3 := (home3_in m c) $$ A3
  ihave A4 := (home4_in m c) $$ A4
  iapply (own_body c _ _ _ _ _ _ _ _ _ _ _ _ _ _ _ _ _ _ _ _ _ _ _ _ _ _ _ _ _ _ _ _ _ _ _ _ _ _ _ _ _ _ _ _ _ _ _ _ cc0_scratch13 cc0_scratch14
    (in0 m c) (in1 m c) (in2 m c) (in3 m c) (in4 m c) (hok c).1 (hok c).2
    ⟨(y3, y4, y5, y6), y7, y8, s2, s3, s4, (s5, s6, s7), s8, s9, s10, s11, s12⟩ _) $$ [S0 S1 S2 S3 S4 S5 S6 S7 S8 S9 S10 S11 S12 V0 V1 V2 U0 U1 U2 A3 A4 HD A0 A1 A2 B3 B4 B5 B6 B7 B8]
  · isplitl [A0 A1 A2 A3 A4]
    · isplitl [A0]; · iexact A0
      isplitl [A1]; · iexact A1
      isplitl [A2]; · iexact A2
      isplitl [A3]; · iexact A3
      iexact A4
    isplitl [B3 B4 B5 B6 B7 B8]
    · isplitl [B3 B4 B5 B6]
      · isplitl [B3]; · iexact B3
        isplitl [B4]; · iexact B4
        isplitl [B5]; · iexact B5
        iexact B6
      isplitl [B7]; · iexact B7
      iexact B8
    isplitl [S0]; · iexists s0; iexact S0
    isplitl [S1]; · iexists s1; iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [V0 V1 V2]
    · iapply (Entails.of_eq (sems13_eq c).symm)
      isplitl [V0]; · iexact V0
      isplitl [V1]; · iexact V1
      iexact V2
    isplitl [U0 U1 U2]
    · iapply (Entails.of_eq (sems14_eq c).symm)
      isplitl [U0]; · iexact U0
      isplitl [U1]; · iexact U1
      iexact U2
    iexact HD
  iintro ⟨%j', ⟨A0, A1, A2, A3, A4⟩, ⟨⟨B3, B4, B5, B6⟩, B7, B8⟩, S0, S1, S2, S3, S4, S5, S6, S7, S8, S9, S10, S11, S12, HV, HU, HD⟩
  ihave HV := (Entails.of_eq (sems13_eq c)) $$ HV
  ihave HU := (Entails.of_eq (sems14_eq c)) $$ HU
  icases HV with ⟨V0, V1, V2⟩
  icases HU with ⟨U0, U1, U2⟩
  ihave A3 := (home3_out m c) $$ A3
  ihave A4 := (home4_out m c) $$ A4
  isplitl [S0 S1 S2 S3 S4 S5 S6 S7 S8 S9 S10 S11 S12 Hg V0 V1 V2 U0 U1 U2 A3 A4]
  · isplitl [S0 S1 S2 S3 S4 S5 S6 S7 S8 S9 S10 S11 S12]
    · isplitl [S0]; · iexact S0
      isplitl [S1]; · iexact S1
      isplitl [S2]; · iexists j'.j13; iexact S2
      isplitl [S3]; · iexists j'.j14; iexact S3
      isplitl [S4]; · iexists j'.j15; iexact S4
      isplitl [S5]; · iexists j'.st.1; iexact S5
      isplitl [S6]; · iexists j'.st.2.1; iexact S6
      isplitl [S7]; · iexists j'.st.2.2; iexact S7
      isplitl [S8]; · iexists j'.j19; iexact S8
      isplitl [S9]; · iexists j'.j20; iexact S9
      isplitl [S10]; · iexists j'.j21; iexact S10
      isplitl [S11]; · iexists j'.j22; iexact S11
      iexists j'.j23; iexact S12
    isplitl [Hg]; · iexact Hg
    isplitl [V0 V1 V2 U0 U1 U2]
    · isplitl [V0]; · iexact V0
      isplitl [V1]; · iexact V1
      isplitl [V2]; · iexact V2
      isplitl [U0]; · iexact U0
      isplitl [U1]; · iexact U1
      iexact U2
    isplitl [A3]; · iexact A3
    iexact A4
  isplitl [HD]; · iexact HD
  iexists (⟨(y3, y4, y5, y6), y7, y8, s2, s3, s4, (s5, s6, s7), s8, s9, s10, s11, s12⟩ : Junk F)
  isplitl [A0]; · iexact A0
  isplitl [A1]; · iexact A1
  isplitl [A2]; · iexact A2
  isplitl [B3]; · iexact B3
  isplitl [B4]; · iexact B4
  isplitl [B5]; · iexact B5
  isplitl [B6]; · iexact B6
  isplitl [B7]; · iexact B7
  iexact B8

theorem body_obligation (c : Dev nD) : (rdat m hok c).BodyObligation (defs₀ (F := F)) 𝒱₀ () Set.univ := fun t Y hY => by
  rw [bigSep_W0, bigSep_W0, defs₀_row]
  rw [finds0 m hok c t _ (hY 0), finds1 m hok c t _ (hY 1), finds2 m hok c t _ (hY 2)]
  refine triple_restated (sound_body m hok c t (Y 3) (Y 4) (Y 5) (Y 6) (Y 7) (Y 8)) rfl ?_ fun _ => ?_
  · unfold RDat.owesAt Pipeline.owesWithin
    rw [show (rdat m hok c).Φ t.castSucc = Pipeline.ΦD osem0 spec0 H0 (V m) c from rfl, show (rdat m hok c).owed t.castSucc = 0 from rfl]
    iintro ⟨HP, ⟨%Wt, -, HO⟩, HB⟩
    isplitl [HP]; · iexact HP
    isplitl [HO]; · iexists Wt; iexact HO
    iexact HB
  · unfold RDat.owesAt Pipeline.owesWithin
    rw [show (rdat m hok c).Φ t.succ = Pipeline.ΦD osem0 spec0 H0 (V m) c from rfl, show (rdat m hok c).owed t.succ = 0 from rfl]
    iintro ⟨HP, ⟨%Wt, HO⟩, ⟨%j, B0, B1, B2, B3, B4, B5, B6, B7, B8⟩⟩
    isplitl [HP]; · iexact HP
    isplitl [HO]
    · iexists Wt; isplitr; · ipureintro; exact fun _ _ => Or.inl trivial
      iexact HO
    isplitl [B0]; · iexists (in0 m c); isplitr; · ipureintro; exact rfl
                    iexact B0
    isplitl [B1]; · iexists (in1 m c); isplitr; · ipureintro; exact rfl
                    iexact B1
    isplitl [B2]; · iexists (in2 m c); isplitr; · ipureintro; exact rfl
                    iexact B2
    isplitl [B3]; · iexists (resOut m hok c j).1; isplitr; · ipureintro; exact ⟨j, rfl⟩
                    iexact B3
    isplitl [B4]; · iexists (resOut m hok c j).2.1; isplitr; · ipureintro; exact ⟨j, rfl⟩
                    iexact B4
    isplitl [B5]; · iexists (resOut m hok c j).2.2.1; isplitr; · ipureintro; exact ⟨j, rfl⟩
                    iexact B5
    isplitl [B6]; · iexists (resOut m hok c j).2.2.2; isplitr; · ipureintro; exact ⟨j, rfl⟩
                    iexact B6
    isplitl [B7]; · iexists (codesOf (in2 m c) j); isplitr; · ipureintro; exact ⟨j, rfl⟩
                    iexact B7
    iexists (scalesOf (in2 m c) j); isplitr; · ipureintro; exact ⟨j, rfl⟩
    iexact B8

/-! ## The run -/

theorem hmainD (𝒱 : Variants) :
    Pipeline.HMain (Ix := Unit) (Name := ℕ) (U := UD sig nD τ) (Lvl := ℕ) cfgs 0 defs₀ 𝒱 m (main (F := F)) (V m) :=
  Pipeline.hmain_region cfgs 0 defs₀ 𝒱 m main fun c => (main_chain c).trans rfl

set_option backward.isDefEq.respectTransparency.types false in
/-- From any memory with zero counters whose words are in range: every weakly fair execution of @main terminates, and every final
    state has each window's array at contents the body may leave, every other array unchanged, every semaphore counter at zero. -/
theorem run_main :
    θ_run defs (onTc (τ := τ) (main (F := F))) (s₀ m ρ)
      (fun r => RDat.FramePost (cfgs 0) (rdat m hok) (V m) r ∧ r.2.sem = fun _ => 0) :=
  RDat.θ_run_frame_dma (Q' := _) cfgs (0 : Fin 1) launch0 osem0 defs₀ 𝒱₀ (rdat m hok) ownSemFacts0 H0 H0_sub m ρ main
    (hbody := body_obligation m hok) (hshare := fun c => (rdat m hok c).share_full fun _ => rfl)
    (howed := fun _ _ => rfl) (V := V m) (hmain := hmainD m 𝒱₀) (hA := fun _ _ => rfl)
    (hin := fun _ => .rfl) (hout := fun _ => .rfl)

include hok in
/-- The arguments end unchanged, every semaphore counter at zero. -/
theorem run_frame :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c =>
    ⟨(congrFun ((rdat m hok c).ArrAt_in 2 rfl _) _).mp ((h.1 c).1 2), (congrFun ((rdat m hok c).ArrAt_in 0 rfl _) _).mp ((h.1 c).1 0), (congrFun ((rdat m hok c).ArrAt_in 1 rfl _) _).mp ((h.1 c).1 1),
      (h.1 c).2 main_arg3 (Pipeline.mem_restRefs_of main_arg3 (by decide) (by decide)), (h.1 c).2 main_arg4 (Pipeline.mem_restRefs_of main_arg4 (by decide) (by decide))⟩, h.2⟩)
    (run_main m ρ hok)

end Cert.Kernel.Run
-- ==== Proof.RunK.Range.lean ====
/-
  THE WORDS IN RANGE: what the precondition says of the parents and the tokens, and that the positions computed of them lie in their arrays.
-/
module

public import proofs.«01_k».proof.Proof.RunK.Launch
public import proofs.«01_k».proof.Proof.Gen.Pre_tree_in_range

@[expose] public section

noncomputable section

namespace Cert.Kernel.Run

open Cert.Kernel.Gen
open Idealize.ShloMosaic Idealize.ShloMosaic.ValueIdx
open Idealize.ShloMosaic.TcCoe
open Idealize.SL.Sem

/-- A parent lies before its node (the root's is the root), a token in the vocabulary. -/
def InRange (X0 X1 : S3x42.Idx → BitVec 32) : Prop :=
  ∀ (b : Fin 3) (n : Fin 42), (X0 (ix2 b n)).toNat ≤ n.val - 1 ∧ (X1 (ix2 b n)).toNat < 32000

theorem wordAt_ix2 (X : S3x42.Idx → BitVec 32) (o : Fin 2 → ℕ) (h : ∀ a, o a + S1x1.size a ≤ S3x42.size a) (b : Fin 3) (n : Fin 42) (e : o = ![b.val, n.val]) :
    wordAt X o h = X (ix2 b n) := by
  subst e
  unfold wordAt
  congr 1
  funext a; apply Fin.ext
  fin_cases a <;> rfl

theorem toNat_add_of {v : BitVec 32} {b : ℕ} (hv : v.toNat ≤ 41) (hb : b ≤ 84) : (v + BitVec.ofNat 32 b).toNat = v.toNat + b := by
  rw [BitVec.toNat_add, BitVec.toNat_ofNat]; omega

theorem row_ok {v : BitVec 32} {b : ℕ} (hv : v.toNat ≤ 41) (hb : b ≤ 84) : parChk (BitVec.ofNat 32 b) v := by
  unfold parChk parOff
  intro a
  have e : (Scalar.indexCast (Scalar.addi v (BitVec.ofNat 32 b))).toNat = v.toNat + b := toNat_add_of hv hb
  fin_cases a
  · show (Scalar.indexCast (Scalar.addi v (BitVec.ofNat 32 b))).toNat + 1 ≤ 128
    rw [e]; omega
  · show 0 + 128 ≤ 128; omega

theorem ancOk {X0 X1 : S3x42.Idx → BitVec 32} (h : InRange X0 X1) : AncOk X0 := by
  intro k
  have hk : k.val < 41 := k.isLt
  have g : ∀ b : Fin 3, (X0 (ix2 b ⟨k.val + 1, by omega⟩)).toNat ≤ 41 := fun b => by
    have := (h b ⟨k.val + 1, by omega⟩).1
    simp only at this; omega
  rw [wordAt_ix2 X0 _ _ 0 ⟨k.val + 1, by omega⟩ (k0_off4_eq k), wordAt_ix2 X0 _ _ 1 ⟨k.val + 1, by omega⟩ (k0_off7_eq k), wordAt_ix2 X0 _ _ 2 ⟨k.val + 1, by omega⟩ (k0_off10_eq k)]
  exact ⟨row_ok (b := 0) (g 0) (by omega), row_ok (b := 42) (g 1) (by omega), row_ok (b := 84) (g 2) (by omega)⟩

/-- The token's row group: division by 128 of a nonnegative word, as the program computes it. -/
theorem group_toNat {w : BitVec 32} (hw : w.toNat < 32000) :
    (Scalar.indexCast (Scalar.select (Scalar.andi (Scalar.cmpi .ne (Scalar.subi (Scalar.extui (Scalar.cmpi .sgt w 0#32)) (Scalar.extui (Scalar.cmpi .slt w 0#32)))
        (Scalar.subi (Scalar.extui (Scalar.cmpi .sgt 128#32 0#32)) (Scalar.extui (Scalar.cmpi .slt 128#32 0#32)))) (Scalar.cmpi .ne (Scalar.remsi w 128#32) 0#32))
      (Scalar.subi (Scalar.divsi w 128#32) 1#32) (Scalar.divsi w 128#32)) : BitVec 32).toNat = w.toNat / 128 := by
  have hm : w.msb = false := by rw [BitVec.msb_eq_decide]; simp only [decide_eq_false_iff_not, not_le]; omega
  have hi : w.toInt = w.toNat := by rw [BitVec.toInt_eq_toNat_of_msb hm]
  have hd : Scalar.divsi w 128#32 = BitVec.ofNat 32 (w.toNat / 128) := by
    show IntOp.divsi .scalar w 128#32 = _
    unfold IntOp.divsi
    rw [if_neg (by unfold IntOp.SDivCorner; intro hc; rcases hc with hc | hc <;> revert hc <;> simp)]
    apply BitVec.eq_of_toNat_eq
    rw [BitVec.sdiv_eq, hm]
    show (w / 128#32).toNat = _
    rw [BitVec.toNat_udiv, BitVec.toNat_ofNat]
    show w.toNat / 128 = (w.toNat / 128) % 4294967296
    omega
  have hr : Scalar.remsi w 128#32 = BitVec.ofNat 32 (w.toNat % 128) := by
    show IntOp.remsi .scalar w 128#32 = _
    unfold IntOp.remsi
    rw [if_neg (by unfold IntOp.SDivCorner; intro hc; rcases hc with hc | hc <;> revert hc <;> simp)]
    apply BitVec.eq_of_toNat_eq
    rw [BitVec.srem_eq, hm]
    show (w % 128#32).toNat = _
    rw [BitVec.toNat_umod, BitVec.toNat_ofNat]
    show w.toNat % 128 = (w.toNat % 128) % 4294967296
    omega
  have hlt : Scalar.cmpi .slt w 0#32 = 0#1 := by
    show BitVec.ofBool (w.slt 0#32) = 0#1
    rw [BitVec.slt_eq_decide, hi, decide_eq_false (by show ¬((w.toNat : ℤ) < 0); omega)]
    rfl
  have hone : Scalar.subi (Scalar.extui (Scalar.cmpi .sgt 128#32 0#32)) (Scalar.extui (Scalar.cmpi .slt 128#32 0#32)) = 1#32 := by decide
  have hnat : (BitVec.ofNat 32 (w.toNat / 128)).toNat = w.toNat / 128 := by rw [BitVec.toNat_ofNat]; omega
  rw [hlt, hone, hd, hr]
  by_cases h0 : w.toNat = 0
  · rw [h0]
    have hw0 : w = 0#32 := BitVec.eq_of_toNat_eq (by rw [h0]; rfl)
    rw [hw0]; decide
  · have hgt : Scalar.cmpi .sgt w 0#32 = 1#1 := by
      show BitVec.ofBool ((0#32).slt w) = 1#1
      rw [BitVec.slt_eq_decide, hi]
      have : (0#32).toInt < (w.toNat : ℤ) := by
        show (0 : ℤ) < _
        omega
      rw [decide_eq_true this]; rfl
    rw [hgt]
    have hz : Scalar.andi (Scalar.cmpi .ne (Scalar.subi (Scalar.extui 1#1) (Scalar.extui 0#1)) 1#32) (Scalar.cmpi .ne (BitVec.ofNat 32 (w.toNat % 128)) 0#32) = 0#1 := by
      have : Scalar.cmpi .ne (Scalar.subi (Scalar.extui 1#1) (Scalar.extui 0#1)) 1#32 = 0#1 := by decide
      rw [this]
      show 0#1 &&& _ = 0#1
      exact BitVec.zero_and
    rw [hz]
    exact hnat

theorem pickOk {X0 X1 : S3x42.Idx → BitVec 32} (h : InRange X0 X1) : PickOk X0 X1 := by
  intro i
  have g := h ⟨i.val / 42, by omega⟩ ⟨i.val % 42, by omega⟩
  rw [wordAt_ix2 X0 _ _ ⟨i.val / 42, by omega⟩ ⟨i.val % 42, by omega⟩ rfl, wordAt_ix2 X1 _ _ ⟨i.val / 42, by omega⟩ ⟨i.val % 42, by omega⟩ rfl]
  have g1 : (X0 (ix2 ⟨i.val / 42, by omega⟩ ⟨i.val % 42, by omega⟩)).toNat ≤ 41 := by
    have := g.1; simp only at this; omega
  refine ⟨row_ok g1 (by omega), ?_⟩
  unfold pickChk pickOff
  intro a
  fin_cases a
  · show (Scalar.indexCast _ : BitVec 32).toNat + 1 ≤ 250
    rw [group_toNat g.2]; have := g.2; omega
  · show (Scalar.indexCast (Scalar.addi _ (BitVec.ofNat 32 _))).toNat + 1 ≤ 128
    have e := toNat_add_of (b := 42 * (i.val / 42)) g1 (by omega)
    refine le_trans (Nat.add_le_add_right (le_of_eq e) 1) ?_; omega
  · show 0 + 128 ≤ 128; omega

theorem preOK {F : FTy → Type} [FloatOps F] [∀ e, Nonempty (Elt F e)] (m : (ℓ : Loc nD τ sig) → Buf (Elt F) ℓ)
    (h : ∀ c : Dev nD, InRange (in0 m c) (in1 m c)) : PreOK m := fun c => ⟨ancOk (h c), pickOk (h c)⟩

/-- What the predicate `tree_in_range` says. -/
theorem inRange_of_fn {F : FTy → Type} [FloatOps F] (x : FVec F Cert.Pre_tree_in_range.S3x42x6656 .bf16) (X0 X1 : IVec Cert.Pre_tree_in_range.S3x42 32)
    (w : FVec F Cert.Pre_tree_in_range.S6656x32000 .fp8e4m3) (s : FVec F Cert.Pre_tree_in_range.S52x32000 .f32)
    (h : ∀ i, Cert.Pre_tree_in_range.fn x X0 X1 w s i = 1#1) : InRange X0 X1 := by
  intro b n
  have e := h (ix2 b n)
  simp only [Cert.Pre_tree_in_range.fn, andi, cmpi, broadcastInDim, constantI, iotaInDim, subi, maxsi] at e
  have ha : ∀ (p q : Bool), IntOp.andi (BitVec.ofBool p) (BitVec.ofBool q) = BitVec.ofBool (p && q) := by
    intro p q; cases p <;> cases q <;> decide
  have ho : ∀ p : Bool, (BitVec.ofBool p = 1#1) ↔ p = true := fun p => by cases p <;> decide
  simp only [IntOp.cmpi, ha, ho, Bool.and_eq_true, BitVec.sle_eq_decide, decide_eq_true_eq, BitVec.slt_eq_decide] at e
  obtain ⟨⟨e0, e1⟩, e2, e3⟩ := e
  have hn : ∀ n : Fin 42, (IntOp.maxsi (IntOp.subi (BitVec.ofNat 32 n.val) 1#32) 0#32).toInt = ((n.val - 1 : ℕ) : ℤ) := by decide
  have e1' : (X0 (ix2 b n)).toInt ≤ ((n.val - 1 : ℕ) : ℤ) := (hn n) ▸ e1
  have e0' : 0 ≤ (X0 (ix2 b n)).toInt := e0
  have e2' : 0 ≤ (X1 (ix2 b n)).toInt := e2
  have e3' : (X1 (ix2 b n)).toInt < 32000 := e3
  have hnn : ∀ w : BitVec 32, 0 ≤ w.toInt → w.toInt = w.toNat := fun w hw => by
    rw [BitVec.toInt_eq_toNat_cond] at hw ⊢
    split_ifs at hw ⊢ with hc
    · rfl
    · have := w.isLt; omega
  rw [hnn _ e0'] at e1'
  rw [hnn _ e2'] at e3'
  exact ⟨by exact_mod_cast e1', by exact_mod_cast e3'⟩

end Cert.Kernel.Run
-- ==== Proof.Run.Frames.lean ====
/-
  THE FRAMES of the kernel, at the floats' own bits and over the reals, from the two programs' runs; and the named constants.
-/
module

public import proofs.«01_k».proof.Defs
public import proofs.«01_k».proof.Proof.Run.Range
public import proofs.«01_k».proof.Proof.RunK.Range
public import proofs.«01_k».proof.Proof.Gen.ReferenceIdeal.Run

@[expose] public section

noncomputable section

namespace Cert.Frames

open Idealize.ShloMosaic Idealize.SL.Sem

theorem frame_p : Cert.quiescent_Kernel (hKernel := Cert.Kernel.Gen.facts) (hPre_tree_in_range := Cert.Pre_tree_in_range.Gen.facts) := fun m ρ h =>
  Cert.Kernel.Run.run_frame m ρ (Cert.Kernel.Run.preOK m fun c => by
    have e : Cert.Kernel.Run.InRange (m ((c.tc : Thread Cert.Kernel.nD Cert.Kernel.τ).loc Cert.Kernel.main_arg1)) (m ((c.tc : Thread Cert.Kernel.nD Cert.Kernel.τ).loc Cert.Kernel.main_arg2)) :=
      Cert.Kernel.Run.inRange_of_fn _ _ _ _ _ (congrFun (h c))
    intro b n
    rw [Cert.Kernel.Run.in0_apply, Cert.Kernel.Run.in1_apply]
    exact e b n)

theorem frame_pi : Cert.quiescent_KernelIdeal (hKernelIdeal := Cert.KernelIdeal.Gen.facts) (hPre_tree_in_range := Cert.Pre_tree_in_range.Gen.facts) := fun m ρ h =>
  Cert.KernelIdeal.Run.run_frame m ρ (Cert.KernelIdeal.Run.preOK m fun c => by
    have e : Cert.KernelIdeal.Run.InRange (m ((c.tc : Thread Cert.KernelIdeal.nD Cert.KernelIdeal.τ).loc Cert.KernelIdeal.main_arg1)) (m ((c.tc : Thread Cert.KernelIdeal.nD Cert.KernelIdeal.τ).loc Cert.KernelIdeal.main_arg2)) :=
      Cert.KernelIdeal.Run.inRange_of_fn _ _ _ _ _ (congrFun (h c))
    intro b n
    rw [Cert.KernelIdeal.Run.in0_apply, Cert.KernelIdeal.Run.in1_apply]
    exact e b n)

theorem frame_ri : Cert.quiescent_ReferenceIdeal (hReferenceIdeal := Cert.ReferenceIdeal.Gen.facts) := fun m ρ _ => Cert.ReferenceIdeal.Gen.frame m ρ

theorem preserves : Cert.preserves_Kernel_KernelIdeal :=
  ⟨IdealRules.named_const.statement Cert.KernelIdeal.κ "log2e_over_temperature" .f32 0x4003E74F#32 (((Real.log 2)⁻¹ * (16777216 / 11744051) : ℝ) : EReal) rfl,
    IdealRules.named_const.statement Cert.KernelIdeal.κ "log2e" .f32 0x3FB8AA3B#32 (((Real.log 2)⁻¹ : ℝ) : EReal) rfl,
    IdealRules.named_const.statement Cert.KernelIdeal.κ "ln2" .f32 0x3F317218#32 ((Real.log 2 : ℝ) : EReal) rfl⟩

end Cert.Frames

end
-- ==== Proof.Value.Scale.lean ====
/-
  THE SCALE of a block: the power of two found by halving the exponent field is the one the logarithm gives.
-/
module

public import proofs.«01_k».proof.Proof.Run.Range
public import proofs.«01_k».proof.Proof.Gen.ReferenceIdeal.Run

@[expose] public section

noncomputable section

namespace Cert.Value

open Idealize.ShloMosaic Idealize.ShloMosaic.ValueIdx

/-! ## The kernel's words, at one element -/

abbrev fieldW (n : BitVec 32) : EReal := FloatOps.ofBits (F := Ideal) .f32 (IntOp.shli .vector n 23#32)
def bisS (w : BitVec 32) (y : EReal) (f : BitVec 32) : BitVec 32 :=
  Scalar.select (FloatOps.cmpf (F := Ideal) (φ := .f32) .oge y (fieldW (IntOp.addi f w))) (IntOp.addi f w) f
def fieldS (y : EReal) : BitVec 32 := bisS 1#32 y (bisS 2#32 y (bisS 4#32 y (bisS 8#32 y (bisS 16#32 y (bisS 32#32 y (bisS 64#32 y (bisS 128#32 y 0#32)))))))
def expoS (f : BitVec 32) : BitVec 32 := Scalar.select (IntOp.ori (IntOp.cmpi .eq f 0#32) (IntOp.cmpi .eq f 255#32)) 0#32 (IntOp.subi f 126#32)
def powS (e : BitVec 32) : EReal := fieldW (IntOp.addi e 127#32)
def ipowS (e : BitVec 32) : EReal := fieldW (IntOp.subi 127#32 e)
def scaleK (y : EReal) : EReal := powS (expoS (fieldS y))
def invK (y : EReal) : EReal := ipowS (expoS (fieldS y))

/-! ## The reference's, by the logarithm -/

def rexp (y : EReal) : EReal :=
  Scalar.select (FloatOps.cmpf (F := Ideal) (φ := .f32) .olt y (FloatOps.ofBits (F := Ideal) .f32 0x00800000#32)) (FloatOps.ofBits (F := Ideal) .f32 0x00000000#32)
    (FloatOps.addf (F := Ideal) (φ := .f32) (FloatOps.floor (F := Ideal) (φ := .f32) (FloatOps.divf (F := Ideal) (φ := .f32) (FloatOps.log (F := Ideal) (φ := .f32) y)
      (Named.named (F := Ideal) Cert.ReferenceIdeal.κ "ln2" (φ := .f32) 0x3F317218#32))) (FloatOps.ofBits (F := Ideal) .f32 0x3F800000#32))
def scaleR (y : EReal) : EReal := FloatOps.exp2 (F := Ideal) (φ := .f32) (rexp y)
def invR (y : EReal) : EReal := FloatOps.exp2 (F := Ideal) (φ := .f32) (FloatOps.subf (F := Ideal) (φ := .f32) (FloatOps.ofBits (F := Ideal) .f32 0x00000000#32) (rexp y))

/-! ## The words as powers of two -/

theorem shl_fields : ∀ n : Fin 256, (IntOp.shli .vector (BitVec.ofNat 32 n.val) 23#32).extractLsb' 31 1 = 0#1 ∧
    ((IntOp.shli .vector (BitVec.ofNat 32 n.val) 23#32).extractLsb' 23 8).toNat = n.val ∧ ((IntOp.shli .vector (BitVec.ofNat 32 n.val) 23#32).extractLsb' 0 23).toNat = 0 := by decide +kernel

theorem fieldW_eq (x : BitVec 32) : fieldW x = Ideal.ieee 8 23 (IntOp.shli .vector x 23#32) := rfl

theorem ieee_pow {x : BitVec 32} {n : ℕ} (e1 : x.extractLsb' 31 1 = 0#1) (e2 : (x.extractLsb' 23 8).toNat = n) (e3 : (x.extractLsb' 0 23).toNat = 0) (h0 : 0 < n) (h : n < 255) :
    Ideal.ieee 8 23 x = (((2 : ℝ) ^ ((n : ℤ) - 127) : ℝ) : EReal) := by
  unfold Ideal.ieee
  simp only [Nat.reduceAdd, e1, e2, e3]
  rw [if_neg (by omega), if_neg (by omega)]
  congr 1
  simp only [show ((0#1 : BitVec 1) == 1#1) = false from rfl, Bool.false_eq_true, if_false, one_mul]
  have h23 : (((2 ^ 23 + 0 : ℕ) : ℝ)) = (2 : ℝ) ^ (23 : ℤ) := by norm_num
  rw [h23, ← zpow_add₀ (by norm_num)]
  congr 1
  norm_num

theorem fieldW_pos {n : ℕ} (h0 : 0 < n) (h : n < 255) : fieldW (BitVec.ofNat 32 n) = (((2 : ℝ) ^ ((n : ℤ) - 127) : ℝ) : EReal) := by
  obtain ⟨e1, e2, e3⟩ := shl_fields ⟨n, by omega⟩
  rw [fieldW_eq]
  exact ieee_pow e1 e2 e3 h0 h

theorem fieldW_zero : fieldW (BitVec.ofNat 32 0) = 0 := by
  obtain ⟨e1, e2, e3⟩ := shl_fields ⟨0, by omega⟩
  rw [fieldW_eq]
  unfold Ideal.ieee
  simp only [] at e1 e2 e3
  simp only [Nat.reduceAdd, e1, e2, e3]
  norm_num

theorem fieldW_top : fieldW (BitVec.ofNat 32 255) = ⊤ := by
  obtain ⟨e1, e2, e3⟩ := shl_fields ⟨255, by omega⟩
  rw [fieldW_eq]
  unfold Ideal.ieee
  simp only [] at e1 e2 e3
  simp only [Nat.reduceAdd, e1, e2, e3]
  norm_num

/-! ## The search -/

/-- `n` is the largest field of the next `w` ones whose power is at most `y`. -/
def Inv (y : EReal) (n w : ℕ) : Prop := n + w ≤ 256 ∧ fieldW (BitVec.ofNat 32 n) ≤ y ∧ (n + w = 256 ∨ y < fieldW (BitVec.ofNat 32 (n + w)))

theorem bisS_step {y : EReal} {n w : ℕ} {f : BitVec 32} (hf : f = BitVec.ofNat 32 n) (h : Inv y n (2 * w)) :
    ∃ n', bisS (BitVec.ofNat 32 w) y f = BitVec.ofNat 32 n' ∧ Inv y n' w := by
  subst hf
  obtain ⟨h1, h2, h3⟩ := h
  have ea : IntOp.addi (BitVec.ofNat 32 n) (BitVec.ofNat 32 w) = BitVec.ofNat 32 (n + w) := by
    show BitVec.ofNat 32 n + BitVec.ofNat 32 w = _
    rw [BitVec.ofNat_add]
  have ec : FloatOps.cmpf (F := Ideal) (φ := .f32) .oge y (fieldW (BitVec.ofNat 32 (n + w))) = BitVec.ofBool (decide (fieldW (BitVec.ofNat 32 (n + w)) ≤ y)) := rfl
  unfold bisS
  rw [ea, ec]
  by_cases hc : fieldW (BitVec.ofNat 32 (n + w)) ≤ y
  · refine ⟨n + w, ?_, by omega, hc, ?_⟩
    · rw [decide_eq_true hc]; rfl
    · rcases h3 with h3 | h3
      · left; omega
      · right; rw [show n + w + w = n + 2 * w by ring]; exact h3
  · refine ⟨n, ?_, by omega, h2, Or.inr (not_le.mp hc)⟩
    rw [decide_eq_false hc]; rfl

theorem fieldS_spec {y : EReal} (hy : 0 ≤ y) : ∃ n, fieldS y = BitVec.ofNat 32 n ∧ Inv y n 1 := by
  have h0 : Inv y 0 (2 * 128) := ⟨by omega, by rw [fieldW_zero]; exact hy, Or.inl rfl⟩
  obtain ⟨n1, e1, h1⟩ := bisS_step (f := 0#32) rfl h0
  obtain ⟨n2, e2, h2⟩ := bisS_step (w := 64) e1 h1
  obtain ⟨n3, e3, h3⟩ := bisS_step (w := 32) e2 h2
  obtain ⟨n4, e4, h4⟩ := bisS_step (w := 16) e3 h3
  obtain ⟨n5, e5, h5⟩ := bisS_step (w := 8) e4 h4
  obtain ⟨n6, e6, h6⟩ := bisS_step (w := 4) e5 h5
  obtain ⟨n7, e7, h7⟩ := bisS_step (w := 2) e6 h6
  obtain ⟨n8, e8, h8⟩ := bisS_step (w := 1) e7 h7
  exact ⟨n8, e8, h8⟩

theorem tiny_eq : FloatOps.ofBits (F := Ideal) .f32 0x00800000#32 = (((2 : ℝ) ^ (-126 : ℤ) : ℝ) : EReal) := by
  have := fieldW_pos (n := 1) (by omega) (by omega)
  have e : IntOp.shli .vector (BitVec.ofNat 32 1) 23#32 = 0x00800000#32 := by decide
  unfold fieldW at this
  rw [e] at this
  rw [this]; norm_num

theorem one_eq : FloatOps.ofBits (F := Ideal) .f32 0x3F800000#32 = 1 := by
  have := fieldW_pos (n := 127) (by omega) (by omega)
  have e : IntOp.shli .vector (BitVec.ofNat 32 127) 23#32 = 0x3F800000#32 := by decide
  unfold fieldW at this
  rw [e] at this
  rw [this]; norm_num

theorem zero_eq : FloatOps.ofBits (F := Ideal) .f32 0x00000000#32 = 0 := by
  have := fieldW_zero
  have e : IntOp.shli .vector (BitVec.ofNat 32 0) 23#32 = 0x00000000#32 := by decide
  unfold fieldW at this
  rw [e] at this
  exact this

/-- Both ways give one power of two, at a magnitude the format's exponents reach. -/
theorem scale_spec {y : ℝ} (hy : 0 ≤ y) (hb : y < (2 : ℝ) ^ (120 : ℤ)) :
    ∃ e : ℤ, scaleK y = (((2 : ℝ) ^ e : ℝ) : EReal) ∧ invK y = (((2 : ℝ) ^ (-e) : ℝ) : EReal) ∧ scaleR y = (((2 : ℝ) ^ e : ℝ) : EReal) ∧ invR y = (((2 : ℝ) ^ (-e) : ℝ) : EReal) := by
  obtain ⟨n, en, h1, h2, h3⟩ := fieldS_spec (y := (y : EReal)) (by exact_mod_cast hy)
  have exps : ∀ e : ℤ, Ideal.exp2 (((e : ℝ) : EReal)) = (((2 : ℝ) ^ e : ℝ) : EReal) := fun e => by
    show ((Real.rpow 2 (e : ℝ) : ℝ) : EReal) = _
    congr 1; exact Real.rpow_intCast 2 e
  have hn : n ≤ 246 := by
    by_contra hc
    have hge : (((2 : ℝ) ^ (120 : ℤ) : ℝ) : EReal) ≤ y := by
      refine le_trans ?_ h2
      rcases Nat.lt_or_ge n 255 with h | h
      · rw [fieldW_pos (by omega) h]
        exact_mod_cast zpow_le_zpow_right₀ (by norm_num : (1 : ℝ) ≤ 2) (by omega : (120 : ℤ) ≤ (n : ℤ) - 127)
      · rw [show n = 255 by omega, fieldW_top]; exact le_top
    have : (2 : ℝ) ^ (120 : ℤ) ≤ y := by exact_mod_cast hge
    linarith
  have h3' : (y : EReal) < fieldW (BitVec.ofNat 32 (n + 1)) := by
    rcases h3 with h3 | h3
    · omega
    · exact h3
  rw [fieldW_pos (by omega) (by omega)] at h3'
  have h3r : y < (2 : ℝ) ^ (((n + 1 : ℕ) : ℤ) - 127) := by exact_mod_cast h3'
  have subs : ∀ e : ℤ, FloatOps.subf (F := Ideal) (φ := .f32) (FloatOps.ofBits (F := Ideal) .f32 0x00000000#32) ((((e : ℤ) : ℝ) : EReal)) = ((((-e : ℤ) : ℝ)) : EReal) := fun e => by
    rw [zero_eq]
    show (0 : EReal) - _ = _
    rw [zero_sub, ← EReal.coe_neg]; push_cast; rfl
  by_cases h0 : n = 0
  · subst h0
    have ee : expoS (fieldS y) = 0#32 := by rw [en]; decide
    have er : rexp y = (((0 : ℤ) : ℝ) : EReal) := by
      unfold rexp
      have hlt : (y : EReal) < FloatOps.ofBits (F := Ideal) .f32 0x00800000#32 := by
        rw [tiny_eq]; refine lt_of_lt_of_eq h3' ?_; norm_num
      rw [show FloatOps.cmpf (F := Ideal) (φ := .f32) .olt (y : EReal) (FloatOps.ofBits (F := Ideal) .f32 0x00800000#32) = 1#1 from by
        show BitVec.ofBool (decide _) = _; rw [decide_eq_true hlt]; rfl]
      show FloatOps.ofBits (F := Ideal) .f32 0x00000000#32 = _
      rw [zero_eq]; norm_num
    refine ⟨0, ?_, ?_, ?_, ?_⟩
    · unfold scaleK powS; rw [ee]
      exact (fieldW_pos (n := 127) (by omega) (by omega)).trans (by norm_num)
    · unfold invK ipowS; rw [ee]
      exact (fieldW_pos (n := 127) (by omega) (by omega)).trans (by norm_num)
    · unfold scaleR; rw [er]; exact exps 0
    · unfold invR; rw [er, subs]; exact exps (-0)
  · have h2' := h2
    rw [fieldW_pos (by omega) (by omega)] at h2'
    have h2r : (2 : ℝ) ^ ((n : ℤ) - 127) ≤ y := by exact_mod_cast h2'
    have hpos : 0 < y := lt_of_lt_of_le (by positivity) h2r
    have hexp : ∀ n : Fin 247, n.val ≠ 0 → IntOp.addi (expoS (BitVec.ofNat 32 n.val)) 127#32 = BitVec.ofNat 32 (n.val + 1) ∧
        IntOp.subi 127#32 (expoS (BitVec.ofNat 32 n.val)) = BitVec.ofNat 32 (253 - n.val) := by decide +kernel
    obtain ⟨ep, ei⟩ := hexp ⟨n, by omega⟩ h0
    have er : rexp y = ((((n : ℤ) - 126 : ℤ) : ℝ) : EReal) := by
      unfold rexp
      have hge : ¬ (y : EReal) < FloatOps.ofBits (F := Ideal) .f32 0x00800000#32 := by
        rw [tiny_eq, not_lt]
        refine le_trans ?_ h2'
        exact_mod_cast zpow_le_zpow_right₀ (by norm_num : (1 : ℝ) ≤ 2) (by omega : (-126 : ℤ) ≤ (n : ℤ) - 127)
      rw [show FloatOps.cmpf (F := Ideal) (φ := .f32) .olt (y : EReal) (FloatOps.ofBits (F := Ideal) .f32 0x00800000#32) = 0#1 from by
        show BitVec.ofBool (decide _) = _; rw [decide_eq_false hge]; rfl]
      show (Ideal.liftRound Int.floor (Ideal.div (Ideal.log (y : EReal)) ((Real.log 2 : ℝ) : EReal)) : EReal) + FloatOps.ofBits (F := Ideal) .f32 0x3F800000#32 = _
      have hl2 : 0 < Real.log 2 := Real.log_pos (by norm_num)
      have hlog : Ideal.log (y : EReal) = ((Real.log y : ℝ) : EReal) := by
        show (if y ≤ 0 then (⊥ : EReal) else _) = _; rw [if_neg (not_le.mpr hpos)]
      have hdiv : Ideal.div ((Real.log y : ℝ) : EReal) ((Real.log 2 : ℝ) : EReal) = ((Real.log y / Real.log 2 : ℝ) : EReal) := by
        unfold Ideal.div
        rw [if_neg (by exact_mod_cast hl2.ne'), ← EReal.coe_inv, ← EReal.coe_mul]; rfl
      have hfl : ⌊Real.log y / Real.log 2⌋ = (n : ℤ) - 127 := by
        rw [Int.floor_eq_iff]
        constructor
        · rw [le_div_iff₀ hl2]
          have := Real.log_le_log (by positivity) h2r
          rwa [Real.log_zpow] at this
        · rw [div_lt_iff₀ hl2]
          have := Real.log_lt_log hpos h3r
          rw [Real.log_zpow] at this
          refine lt_of_lt_of_eq this ?_
          push_cast; ring
      rw [hlog, hdiv, one_eq]
      show (((⌊Real.log y / Real.log 2⌋ : ℤ) : ℝ) : EReal) + 1 = _
      rw [hfl, show (1 : EReal) = ((1 : ℝ) : EReal) from rfl, ← EReal.coe_add]
      congr 1; push_cast; ring
    refine ⟨(n : ℤ) - 126, ?_, ?_, ?_, ?_⟩
    · unfold scaleK powS; rw [en, ep, fieldW_pos (by omega) (by omega)]
      congr 2; push_cast; ring
    · unfold invK ipowS; rw [en, ei, fieldW_pos (by omega) (by omega)]
      have hh : ((253 - n : ℕ) : ℤ) - 127 = -((n : ℤ) - 126) := by omega
      exact congrArg (fun k : ℤ => (((2 : ℝ) ^ k : ℝ) : EReal)) hh
    · unfold scaleR; rw [er]; exact exps _
    · unfold invR; rw [er, subs]; exact exps _

end Cert.Value
-- ==== Proof.Value.Block.lean ====
/-
  A BLOCK QUANTISED, one element at a time: the kernel's block operations and the reference's, read at an index.
-/
module

public import proofs.«01_k».proof.Proof.Value.Scale
public import proofs.«01_k».proof.Proof.Gen.ReferenceIdeal.Skeleton
public import Idealize.ShloMosaic.Lib.Pointwise

@[expose] public section

noncomputable section

namespace Cert.Value

open Idealize.ShloMosaic

/-- The largest magnitude of a block over 448. -/
def mag (v : Fin 128 → EReal) : EReal :=
  (Finset.univ : Finset (Fin 128)).fold max (FloatOps.ofBits (F := Ideal) .f32 0xFF800000#32) (fun l => max (v l) (-(v l))) * FloatOps.ofBits (F := Ideal) .f32 0x3B124925#32
/-- A value scaled and clipped. -/
def clip (x inv : EReal) : EReal := min (FloatOps.ofBits (F := Ideal) .f32 0x43E00000#32) (max (FloatOps.ofBits (F := Ideal) .f32 0xC3E00000#32) (x * inv))

section Kernel
open Cert.KernelIdeal Cert.KernelIdeal.Gen Cert.KernelIdeal.Run

variable (x : Vec Ideal S1x42x128 .bf16)

theorem yblk_at (r : Fin 42) : yblk x (ix2 r 0) = mag (fun l => x (ix3 0 r l)) := by
  unfold yblk xblk mag
  pointwise
  rfl

theorem qscale_at (r : Fin 42) : qscale x (ix2 r 0) = scaleK (mag (fun l => x (ix3 0 r l))) := by
  rw [← yblk_at]; rfl

theorem qcode_at (r : Fin 42) (l : Fin 128) : qcode x (ix2 r l) = clip (x (ix3 0 r l)) (invK (mag (fun l => x (ix3 0 r l)))) := by
  rw [← yblk_at]
  have e : (broadcastTo S42x128 (ipow2 (expo (field (yblk x)))) broadcasts_S42x1_S42x128 : FVec Ideal S42x128 .f32) (ix2 r l) = invK (yblk x (ix2 r 0)) := by
    show _ = (ipow2 (expo (field (yblk x))) : FVec Ideal S42x1 .f32) (ix2 r 0)
    generalize (ipow2 (expo (field (yblk x))) : FVec Ideal S42x1 .f32) = q
    pointwise
  have e2 : xblk x (ix2 r l) = x (ix3 0 r l) := by
    unfold xblk; pointwise
  rw [← e2, ← e]; rfl

theorem qval_at (r : Fin 42) (l : Fin 128) : qval x (ix2 r l) =
    clip (x (ix3 0 r l)) (invK (mag (fun l => x (ix3 0 r l)))) * scaleK (mag (fun l => x (ix3 0 r l))) := by
  rw [← qcode_at, ← qscale_at]
  unfold qval
  generalize qcode x = q
  generalize qscale x = s
  pointwise

theorem qcol_at (w : BitVec 32) (acc : FVec Ideal S42x128 .f32) (r : Fin 42) (l : Fin 128) :
    qcol (Cert.KernelIdeal.Run.iota46) w x acc (ix2 r l) = Scalar.select (IntOp.cmpi .eq (BitVec.ofNat 32 l.val) w) (scaleK (mag (fun l => x (ix3 0 r l)))) (acc (ix2 r l)) := by
  rw [← qscale_at]
  unfold qcol iota46
  generalize qscale x = s
  pointwise

end Kernel

section Reference
open Cert.ReferenceIdeal Cert.ReferenceIdeal.Gen

variable (x : Vec Ideal S3x42x6656 .bf16)

abbrev lane (k : Fin 52) (l : Fin 128) : Fin 6656 := ⟨k.val * 128 + l.val, by omega⟩
/-- A block of a row. -/
def blk (b : Fin 3) (n : Fin 42) (k : Fin 52) : Fin 128 → EReal := fun l => x (ix3 b n (lane k l))

theorem pay2_at (b : Fin 3) (n : Fin 42) (k : Fin 52) (l : Fin 128) : k0_pay2 x (ix4 b n k l) = blk x b n k l := by
  unfold k0_pay2 blk
  pointwise

theorem pay4_at (b : Fin 3) (n : Fin 42) (k : Fin 52) : k0_pay4 x (ix3 b n k) = scaleR (mag (blk x b n k)) := by
  have e : (multiReduction .maximumf [3] S3x42x52 (absf (k0_pay2 x)) 0xFF800000#32 reduces_S3x42x52x128_S3x42x52 (.inl rfl) rfl : FVec Ideal S3x42x52 .f32) (ix3 b n k) * FloatOps.ofBits (F := Ideal) .f32 0x3B124925#32 = mag (blk x b n k) := by
    unfold mag
    simp only [← pay2_at]
    generalize k0_pay2 x = q
    pointwise
    rfl
  rw [← e]; rfl

theorem pay5_at (b : Fin 3) (n : Fin 42) (k : Fin 52) (l : Fin 128) : k0_pay5 x (ix4 b n k l) = clip (blk x b n k l) (invR (mag (blk x b n k))) := by
  have e : (multiReduction .maximumf [3] S3x42x52 (absf (k0_pay2 x)) 0xFF800000#32 reduces_S3x42x52x128_S3x42x52 (.inl rfl) rfl : FVec Ideal S3x42x52 .f32) (ix3 b n k) * FloatOps.ofBits (F := Ideal) .f32 0x3B124925#32 = mag (blk x b n k) := by
    unfold mag
    simp only [← pay2_at]
    generalize k0_pay2 x = q
    pointwise
    rfl
  rw [← e, ← pay2_at]
  unfold k0_pay5 clip
  have e2 : ∀ v : FVec Ideal S3x42x52 .f32, (broadcastTo S3x42x52x128 (shapeCast S3x42x52x1 v shapeCasts_S3x42x52_S3x42x52x1) broadcasts_S3x42x52x1_S3x42x52x128 : FVec Ideal S3x42x52x128 .f32) (ix4 b n k l) = v (ix3 b n k) := by
    intro v; pointwise
  exact congrArg (fun t => min (FloatOps.ofBits (F := Ideal) .f32 0x43E00000#32) (max (FloatOps.ofBits (F := Ideal) .f32 0xC3E00000#32) (k0_pay2 x (ix4 b n k l) * t))) (e2 _)

theorem pay6_at (b : Fin 3) (n : Fin 42) (k : Fin 52) (l : Fin 128) : k0_pay6 x (ix3 b n (lane k l)) = clip (blk x b n k l) (invR (mag (blk x b n k))) := by
  rw [← pay5_at]
  unfold k0_pay6
  generalize k0_pay5 x = q
  refine Idealize.ShloMosaic.shapeCast_apply q _ (ix3 b n (lane k l)) (ix4 b n k l) ?_
  rw [rowMajor_val3 _ _ _ rfl rfl, rowMajor_val4 _ _ _ _ rfl rfl rfl]
  pointwise
  omega

theorem pay7_at (b : Fin 3) (n : Fin 42) (k : Fin 52) (l : Fin 128) : k0_pay7 x (ix3 b n (lane k l)) =
    clip (blk x b n k l) (invR (mag (blk x b n k))) * scaleR (mag (blk x b n k)) := by
  rw [← pay5_at, ← pay4_at]
  unfold k0_pay7
  generalize k0_pay5 x = q
  generalize k0_pay4 x = s
  refine (Idealize.ShloMosaic.shapeCast_apply _ _ (ix3 b n (lane k l)) (ix4 b n k l) ?_).trans ?_
  · rw [rowMajor_val3 _ _ _ rfl rfl, rowMajor_val4 _ _ _ _ rfl rfl rfl]
    pointwise
    omega
  · pointwise

end Reference

end Cert.Value
-- ==== Proof.Value.Quant.lean ====
/-
  THE THREE TREES QUANTISED, one element at a time: what the kernel's three loops leave of codes, values and scales.
-/
module

public import proofs.«01_k».proof.Proof.Value.Block
public import proofs.«01_k».proof.Proof.Run.Whole

@[expose] public section

noncomputable section

namespace Cert.Value

open Idealize.ShloMosaic
open Cert.KernelIdeal Cert.KernelIdeal.Gen Cert.KernelIdeal.Run

section Upd
variable {s : Shape} {α : Type} (off sz : Fin s.rank → ℕ) (X : s.Idx → α) (w : (⟨s.rank, sz⟩ : Shape).Idx → α) (y : s.Idx)

/-- An updated array inside the rectangle. -/
theorem upd_at (i : (⟨s.rank, sz⟩ : Shape).Idx) (h : ∀ a, (y a).val = off a + (i a).val) : upd off sz X w y = w i := by
  unfold upd
  have hh : ∀ a, off a ≤ (y a).val ∧ (y a).val < off a + sz a := fun a => by
    have h1 := h a; have h2 : (i a).val < sz a := (i a).isLt; omega
  rw [dif_pos hh]
  exact congrArg w (funext fun a => Fin.ext (by have h1 := h a; show (y a).val - off a = (i a).val; omega))
/-- An updated array outside the rectangle. -/
theorem upd_out (a : Fin s.rank) (h : (y a).val < off a ∨ off a + sz a ≤ (y a).val) : upd off sz X w y = X y := by
  unfold upd
  exact dif_neg fun hh => by have := hh a; omega
end Upd

variable (X : S3x42x6656.Idx → EReal)

/-- The block of a column. -/
abbrev kOf (c : Fin 6656) : Fin 52 := ⟨c.val / 128, by omega⟩
/-- A code, and its value. -/
def codeAt (b : Fin 3) (n : Fin 42) (c : Fin 6656) : EReal := clip (X (ix3 b n c)) (invK (mag (blk X b n (kOf c))))
def scaleAt (b : Fin 3) (n : Fin 42) (k : Fin 52) : EReal := scaleK (mag (blk X b n k))
def valAt (b : Fin 3) (n : Fin 42) (c : Fin 6656) : EReal := codeAt X b n c * scaleAt X b n (kOf c)

section Loop

variable (b : Fin 3) (ox : Fin 52 → Fin 3 → Nat) (hx : ∀ k a, ox k a + S1x42x128.size a ≤ S3x42x6656.size a) (of : Fin 52 → Fin 2 → Nat) (w : Fin 52 → BitVec 32)
  (hox : ∀ k, ox k = ![b.val, 0, 128 * k.val]) (hof : ∀ k, of k = ![42 * b.val, 128 * k.val]) (hw : ∀ k, w k = BitVec.ofNat 32 k.val)

/-- The block a trip reads. -/
abbrev tripBlk (k : Fin 52) : Vec Ideal S1x42x128 .bf16 := fun i => X ((Rect.unit (s := S3x42x6656) (ox k) S1x42x128.size (hx k)).emb i)

include hox in
theorem tripBlk_at (k : Fin 52) (r : Fin 42) (l : Fin 128) : tripBlk X ox hx k (ix3 0 r l) = X (ix3 b r (lane k l)) := by
  refine congrArg X (funext fun a => Fin.ext ?_)
  refine (emb_unit_val (s := S3x42x6656) (ox k) S1x42x128.size (hx k) (ix3 0 r l) a).trans ?_
  have ho := congrFun (hox k) a
  refine (congrArg (· + (ix3 (0 : Fin 1) r l a).val) ho).trans ?_
  match a with
  | ⟨0, _⟩ => rfl
  | ⟨1, _⟩ => exact Nat.zero_add _
  | ⟨2, _⟩ => show 128 * k.val + l.val = k.val * 128 + l.val; omega

include hox in
theorem tripBlk_mag (k : Fin 52) (r : Fin 42) : (fun l => tripBlk X ox hx k (ix3 0 r l)) = blk X b r k := funext fun l => tripBlk_at X b ox hx hox k r l

/-- The loop. -/
def loopQ (s : QState Ideal) (acc : FVec Ideal S42x128 .f32) (j : ℕ) : QState Ideal × FVec Ideal S42x128 .f32 :=
  iterF (fun (k : Fin 52) p => quantF iota46 (ox k) (hx k) (of k) (w k) X p) (s, acc) j

include hox in
theorem loop_code (s : QState Ideal) (acc : FVec Ideal S42x128 .f32) (j : ℕ) (hj : j ≤ 52) (b' : Fin 3) (n : Fin 42) (c : Fin 6656) :
    (loopQ X ox hx of w s acc j).1.1 (ix3 b' n c) = if b' = b ∧ c.val < 128 * j then codeAt X b n c else s.1 (ix3 b' n c) := by
  induction j with
  | zero => rw [if_neg (by omega)]; rfl
  | succ j ih =>
    have e : loopQ X ox hx of w s acc (j + 1) = quantF iota46 (ox ⟨j, hj⟩) (hx ⟨j, hj⟩) (of ⟨j, hj⟩) (w ⟨j, hj⟩) X (loopQ X ox hx of w s acc j) := iterF_succ _ _ ⟨j, hj⟩
    have ih := ih (by omega)
    rw [e]
    show upd (s := S3x42x6656) (ox ⟨j, hj⟩) S1x42x128.size (loopQ X ox hx of w s acc j).1.1
      (shapeCast S1x42x128 (qcode (tripBlk X ox hx ⟨j, hj⟩)) shapeCasts_S42x128_S1x42x128) (ix3 b' n c) = _
    by_cases hb : b' = b
    · subst hb
      by_cases h1 : c.val < 128 * j
      · rw [upd_out _ _ _ _ _ 2 (Or.inl (by rw [hox]; exact h1)), ih, if_pos ⟨rfl, h1⟩, if_pos ⟨rfl, by omega⟩]
      · by_cases h2 : c.val < 128 * (j + 1)
        · rw [if_pos ⟨rfl, h2⟩]
          have hl : c = lane ⟨j, hj⟩ ⟨c.val - 128 * j, by omega⟩ := Fin.ext (by show c.val = j * 128 + (c.val - 128 * j); omega)
          have hk : kOf c = ⟨j, hj⟩ := Fin.ext (by show c.val / 128 = j; omega)
          rw [upd_at _ _ _ _ _ (ix3 0 n ⟨c.val - 128 * j, by omega⟩) (by
            intro a; rw [hox]
            match a with
            | ⟨0, _⟩ => rfl
            | ⟨1, _⟩ => exact (Nat.zero_add _).symm
            | ⟨2, _⟩ => show c.val = 128 * j + (c.val - 128 * j); omega)]
          have e3 : ∀ q : FVec Ideal S42x128 .fp8e4m3, (shapeCast S1x42x128 q shapeCasts_S42x128_S1x42x128 : FVec Ideal S1x42x128 .fp8e4m3) (ix3 0 n ⟨c.val - 128 * j, by omega⟩) = q (ix2 n ⟨c.val - 128 * j, by omega⟩) := by
            intro q; pointwise
          refine (e3 _).trans ?_
          rw [qcode_at, tripBlk_mag X b' ox hx hox, tripBlk_at X b' ox hx hox, ← hl]
          unfold codeAt; rw [hk]
        · rw [upd_out _ _ _ _ _ 2 (Or.inr (by rw [hox]; show 128 * j + 128 ≤ c.val; omega)), ih, if_neg (fun h => h1 h.2), if_neg (fun h => h2 h.2)]
    · rw [upd_out _ _ _ _ _ 0 (by rw [hox]; show b'.val < b.val ∨ b.val + 1 ≤ b'.val; have : b'.val ≠ b.val := fun h => hb (Fin.ext h); omega), ih,
        if_neg (fun h => hb h.1), if_neg (fun h => hb h.1)]

include hox hof in
theorem loop_val (s : QState Ideal) (acc : FVec Ideal S42x128 .f32) (j : ℕ) (hj : j ≤ 52) (r : Fin 128) (c : Fin 6656) :
    (loopQ X ox hx of w s acc j).1.2 (ix2 r c) = if h : (42 * b.val ≤ r.val ∧ r.val < 42 * b.val + 42) ∧ c.val < 128 * j then valAt X b ⟨r.val - 42 * b.val, by omega⟩ c else s.2 (ix2 r c) := by
  induction j with
  | zero => rw [dif_neg (by omega)]; rfl
  | succ j ih =>
    have e : loopQ X ox hx of w s acc (j + 1) = quantF iota46 (ox ⟨j, hj⟩) (hx ⟨j, hj⟩) (of ⟨j, hj⟩) (w ⟨j, hj⟩) X (loopQ X ox hx of w s acc j) := iterF_succ _ _ ⟨j, hj⟩
    have ih := ih (by omega)
    rw [e]
    show upd (s := S128x6656) (of ⟨j, hj⟩) S42x128.size (loopQ X ox hx of w s acc j).1.2 (qval (tripBlk X ox hx ⟨j, hj⟩)) (ix2 r c) = _
    by_cases hb : 42 * b.val ≤ r.val ∧ r.val < 42 * b.val + 42
    · by_cases h1 : c.val < 128 * j
      · rw [upd_out _ _ _ _ _ 1 (Or.inl (by rw [hof]; exact h1)), ih, dif_pos ⟨hb, h1⟩, dif_pos ⟨hb, by omega⟩]
      · by_cases h2 : c.val < 128 * (j + 1)
        · rw [dif_pos ⟨hb, h2⟩]
          have hl : c = lane ⟨j, hj⟩ ⟨c.val - 128 * j, by omega⟩ := Fin.ext (by show c.val = j * 128 + (c.val - 128 * j); omega)
          have hk : kOf c = ⟨j, hj⟩ := Fin.ext (by show c.val / 128 = j; omega)
          rw [upd_at _ _ _ _ _ (ix2 ⟨r.val - 42 * b.val, by omega⟩ ⟨c.val - 128 * j, by omega⟩) (by
            intro a; rw [hof]
            match a with
            | ⟨0, _⟩ => show r.val = 42 * b.val + (r.val - 42 * b.val); omega
            | ⟨1, _⟩ => show c.val = 128 * j + (c.val - 128 * j); omega)]
          rw [qval_at, tripBlk_mag X b ox hx hox, tripBlk_at X b ox hx hox, ← hl]
          unfold valAt codeAt scaleAt; rw [hk]
        · rw [upd_out _ _ _ _ _ 1 (Or.inr (by rw [hof]; show 128 * j + 128 ≤ c.val; omega)), ih, dif_neg (fun h => h1 h.2), dif_neg (fun h => h2 h.2)]
    · rw [upd_out _ _ _ _ _ 0 (by rw [hof]; show r.val < 42 * b.val ∨ 42 * b.val + 42 ≤ r.val; omega), ih,
        dif_neg (fun h => hb h.1), dif_neg (fun h => hb h.1)]

include hox hw in
theorem loop_scale (s : QState Ideal) (acc : FVec Ideal S42x128 .f32) (j : ℕ) (hj : j ≤ 52) (r : Fin 42) (l : Fin 128) :
    (loopQ X ox hx of w s acc j).2 (ix2 r l) = if h : l.val < j then scaleAt X b r ⟨l.val, by omega⟩ else acc (ix2 r l) := by
  induction j with
  | zero => rw [dif_neg (by omega)]; rfl
  | succ j ih =>
    have e : loopQ X ox hx of w s acc (j + 1) = quantF iota46 (ox ⟨j, hj⟩) (hx ⟨j, hj⟩) (of ⟨j, hj⟩) (w ⟨j, hj⟩) X (loopQ X ox hx of w s acc j) := iterF_succ _ _ ⟨j, hj⟩
    have ih := ih (by omega)
    rw [e]
    refine (qcol_at (tripBlk X ox hx ⟨j, hj⟩) (w ⟨j, hj⟩) (loopQ X ox hx of w s acc j).2 r l).trans ?_
    rw [hw, tripBlk_mag X b ox hx hox, ih]
    have hc : IntOp.cmpi .eq (BitVec.ofNat 32 l.val) (BitVec.ofNat 32 j) = BitVec.ofBool (decide (l.val = j)) := by
      show BitVec.ofBool (decide (BitVec.ofNat 32 l.val = BitVec.ofNat 32 j)) = _
      congr 2
      apply propext
      constructor
      · intro h
        have := congrArg BitVec.toNat h
        simp only [BitVec.toNat_ofNat] at this
        omega
      · intro h; rw [h]
    rw [hc]
    by_cases h : l.val = j
    · subst h
      rw [dif_pos (Nat.lt_succ_self l.val)]
      show (if BitVec.ofBool (decide (l.val = l.val)) = 1#1 then _ else _) = _
      rw [if_pos (by simp)]
      rfl
    · show (if BitVec.ofBool (decide (l.val = j)) = 1#1 then _ else _) = _
      rw [if_neg (by simp [h])]
      by_cases h2 : l.val < j
      · rw [dif_pos h2, dif_pos (by omega)]
      · rw [dif_neg h2, dif_neg (by omega)]

end Loop

/-! ## The three trees -/

section Trees
variable (J9 : S3x42x6656.Idx → EReal) (J13 : S128x6656.Idx → EReal) (J10 : S3x42x52.Idx → EReal)

/-! Where the trips read and write. -/
def o13 (k : Fin 52) : Fin 3 → Nat := k0_off13 k
def o14 (k : Fin 52) : Fin 2 → Nat := k0_off14 k
def o15 (k : Fin 52) : Fin 3 → Nat := k0_off15 k
def o16 (k : Fin 52) : Fin 2 → Nat := k0_off16 k
def o17 (k : Fin 52) : Fin 3 → Nat := k0_off17 k
def o18 (k : Fin 52) : Fin 2 → Nat := k0_off18 k
theorem o13_eq (k : Fin 52) : o13 k = ![(0 : Fin 3).val, 0, 128 * k.val] := k0_off13_eq k
theorem o13_inb (k : Fin 52) (a : Fin 3) : o13 k a + S1x42x128.size a ≤ S3x42x6656.size a := k0_off13_inb k a
theorem o14_eq (k : Fin 52) : o14 k = ![42 * (0 : Fin 3).val, 128 * k.val] := k0_off14_eq k
theorem o15_eq (k : Fin 52) : o15 k = ![(1 : Fin 3).val, 0, 128 * k.val] := k0_off15_eq k
theorem o15_inb (k : Fin 52) (a : Fin 3) : o15 k a + S1x42x128.size a ≤ S3x42x6656.size a := k0_off15_inb k a
theorem o16_eq (k : Fin 52) : o16 k = ![42 * (1 : Fin 3).val, 128 * k.val] := k0_off16_eq k
theorem o17_eq (k : Fin 52) : o17 k = ![(2 : Fin 3).val, 0, 128 * k.val] := k0_off17_eq k
theorem o17_inb (k : Fin 52) (a : Fin 3) : o17 k a + S1x42x128.size a ≤ S3x42x6656.size a := k0_off17_inb k a
theorem o18_eq (k : Fin 52) : o18 k = ![42 * (2 : Fin 3).val, 128 * k.val] := k0_off18_eq k

theorem quantA_eq (s : QState Ideal) : quantA (F := Ideal) X s = loopQ X o13 o13_inb o14 (fun k => Scf.iv 0#32 1#32 k.val) s zero42 52 := rfl
theorem quantB_eq (s : QState Ideal) : quantB (F := Ideal) X s = loopQ X o15 o15_inb o16 (fun k => Scf.iv 0#32 1#32 k.val) s zero42 52 := rfl
theorem quantC_eq (s : QState Ideal) : quantC (F := Ideal) X s = loopQ X o17 o17_inb o18 (fun k => Scf.iv 0#32 1#32 k.val) s zero42 52 := rfl

theorem iv_eq (k : Fin 52) : Scf.iv 0#32 1#32 k = BitVec.ofNat 32 k.val := by
  apply BitVec.eq_of_toNat_eq
  revert k; decide

theorem codes3 (b : Fin 3) (n : Fin 42) (c : Fin 6656) : (quant3 (F := Ideal) X J9 J13).1.1 (ix3 b n c) = codeAt X b n c := by
  have hc : c.val < 128 * 52 := c.isLt
  unfold quant3
  rw [quantC_eq, loop_code X 2 _ _ _ _ o17_eq _ _ 52 (le_refl _)]
  unfold quant2
  rw [quantB_eq, loop_code X 1 _ _ _ _ o15_eq _ _ 52 (le_refl _)]
  unfold quant1
  rw [quantA_eq, loop_code X 0 _ _ _ _ o13_eq _ _ 52 (le_refl _)]
  match b with
  | 0 => rw [if_neg (fun h => absurd h.1 (by decide)), if_neg (fun h => absurd h.1 (by decide)), if_pos ⟨rfl, hc⟩]
  | 1 => rw [if_neg (fun h => absurd h.1 (by decide)), if_pos ⟨rfl, hc⟩]
  | 2 => rw [if_pos ⟨rfl, hc⟩]

theorem scales3 (b : Fin 3) (n : Fin 42) (k : Fin 52) : scalesAll (F := Ideal) X J9 J13 J10 (ix3 b n k) = scaleAt X b n k := by
  have hA : ∀ v : FVec Ideal S42x128 .f32, up52 (cols52 v) (ix3 0 n k) = v (ix2 n ⟨k.val, by omega⟩) := by
    intro v; unfold up52 cols52; pointwise
  have hset : ∀ (b' : Fin 3) (v : FVec Ideal S42x128 .f32) (Y : S3x42x52.Idx → EReal),
      setScale b' v Y (ix3 b n k) = if b = b' then v (ix2 n ⟨k.val, by omega⟩) else Y (ix3 b n k) := by
    intro b' v Y
    unfold setScale
    by_cases h : b = b'
    · subst h
      rw [if_pos rfl, ← hA v]
      refine upd_at (s := S3x42x52) _ _ _ _ _ (ix3 0 n k) ?_
      intro a
      match a with
      | ⟨0, _⟩ => rfl
      | ⟨1, _⟩ => exact (Nat.zero_add _).symm
      | ⟨2, _⟩ => exact (Nat.zero_add _).symm
    · rw [if_neg h]
      refine upd_out (s := S3x42x52) _ _ _ _ _ 0 ?_
      show b.val < b'.val ∨ b'.val + 1 ≤ b.val
      have : b.val ≠ b'.val := fun h' => h (Fin.ext h')
      omega
  unfold scalesAll
  rw [hset, hset, hset]
  match b with
  | 0 =>
    rw [if_neg (by decide), if_neg (by decide), if_pos rfl]
    unfold quant1
    rw [quantA_eq, loop_scale X 0 _ _ _ _ o13_eq iv_eq _ _ 52 (le_refl _), dif_pos k.isLt]
  | 1 =>
    rw [if_neg (by decide), if_pos rfl]
    unfold quant2
    rw [quantB_eq, loop_scale X 1 _ _ _ _ o15_eq iv_eq _ _ 52 (le_refl _), dif_pos k.isLt]
  | 2 =>
    rw [if_pos rfl]
    unfold quant3
    rw [quantC_eq, loop_scale X 2 _ _ _ _ o17_eq iv_eq _ _ 52 (le_refl _), dif_pos k.isLt]

/-- The rows of the product's left operand: row `42 b + n` is node `n` of tree `b`; the last two are zero. -/
def rowAt (r : Fin 128) (c : Fin 6656) : EReal :=
  if h : r.val < 126 then valAt X ⟨r.val / 42, by omega⟩ ⟨r.val % 42, by omega⟩ c else FloatOps.ofBits (F := Ideal) .f32 0x00000000#32

theorem vals3 (r : Fin 128) (c : Fin 6656) : (quant3 (F := Ideal) X J9 J13).1.2 (ix2 r c) = rowAt X r c := by
  have hc : c.val < 128 * 52 := c.isLt
  have hv : ∀ (b b' : Fin 3) (n n' : Fin 42), b = b' → n = n' → valAt X b n c = valAt X b' n' c := by
    intro b b' n n' h1 h2; rw [h1, h2]
  unfold quant3
  rw [quantC_eq, loop_val X 2 _ _ _ _ o17_eq o18_eq _ _ 52 (le_refl _)]
  unfold quant2
  rw [quantB_eq, loop_val X 1 _ _ _ _ o15_eq o16_eq _ _ 52 (le_refl _)]
  unfold quant1
  rw [quantA_eq, loop_val X 0 _ _ _ _ o13_eq o14_eq _ _ 52 (le_refl _)]
  show (if h : (42 * 2 ≤ r.val ∧ r.val < 42 * 2 + 42) ∧ c.val < 128 * 52 then valAt X 2 ⟨r.val - 42 * 2, _⟩ c else
    if h : (42 * 1 ≤ r.val ∧ r.val < 42 * 1 + 42) ∧ c.val < 128 * 52 then valAt X 1 ⟨r.val - 42 * 1, _⟩ c else
    if h : (42 * 0 ≤ r.val ∧ r.val < 42 * 0 + 42) ∧ c.val < 128 * 52 then valAt X 0 ⟨r.val - 42 * 0, _⟩ c else padXf (F := Ideal) J13 (ix2 r c)) = _
  unfold rowAt
  by_cases h2 : (42 * 2 ≤ r.val ∧ r.val < 42 * 2 + 42) ∧ c.val < 128 * 52
  · rw [dif_pos h2, dif_pos (by omega)]
    exact hv _ _ _ _ (Fin.ext (by show 2 = r.val / 42; omega)) (Fin.ext (by show r.val - 42 * 2 = r.val % 42; omega))
  · rw [dif_neg h2]
    by_cases h1 : (42 * 1 ≤ r.val ∧ r.val < 42 * 1 + 42) ∧ c.val < 128 * 52
    · rw [dif_pos h1, dif_pos (by omega)]
      exact hv _ _ _ _ (Fin.ext (by show 1 = r.val / 42; omega)) (Fin.ext (by show r.val - 42 * 1 = r.val % 42; omega))
    · rw [dif_neg h1]
      by_cases h0 : (42 * 0 ≤ r.val ∧ r.val < 42 * 0 + 42) ∧ c.val < 128 * 52
      · rw [dif_pos h0, dif_pos (by omega)]
        exact hv _ _ _ _ (Fin.ext (by show 0 = r.val / 42; omega)) (Fin.ext (by show r.val - 42 * 0 = r.val % 42; omega))
      · rw [dif_neg h0, dif_neg (by omega)]
        unfold padXf
        rw [upd_at (s := S128x6656) _ _ _ _ _ (ix2 ⟨r.val - 126, by omega⟩ c) (by
          intro a
          match a with
          | ⟨0, _⟩ => show r.val = 126 + (r.val - 126); omega
          | ⟨1, _⟩ => exact (Nat.zero_add _).symm)]
        rfl

end Trees

end Cert.Value
-- ==== Proof.Value.KerOut.lean ====
/-
  WHAT THE KERNEL'S RUN LEAVES of codes and scales, one element at a time.
-/
module

public import proofs.«01_k».proof.Proof.Value.Quant
public import proofs.«01_k».proof.Proof.Run.Launch

@[expose] public section

noncomputable section

namespace Cert.Value.Ker

open Idealize.ShloMosaic
open Cert.KernelIdeal Cert.KernelIdeal.Gen Cert.KernelIdeal.Run
open Idealize.ShloMosaic.Pipeline

variable (m : (ℓ : Loc nD τ sig) → Buf (Elt Ideal) ℓ) (c : Dev nD) (hok : PreOK m)

abbrev inX : S3x42x6656.Idx → EReal := m ((c.tc : Thread nD τ).loc main_arg0)

theorem in2_eq : in2 m c = inX m c := funext (in2_apply m c)

theorem whole_eq {s : Shape} (i : s.Idx) (h : ∀ a, (i a).val < s.size a) : (fun a => ⟨(i a).val, h a⟩ : s.Idx) = i := rfl

theorem out7 (G : Buf (Elt Ideal) ((c.tc : Thread nD τ).loc main_v0_4)) (h : (rdat m hok c).ArrAt 7 cfg0.N G) (b : Fin 3) (n : Fin 42) (k : Fin 6656) :
    G (ix3 b n k) = codeAt (inX m c) b n k := by
  obtain ⟨X, ⟨Y, hY, j, hj⟩, hX⟩ := RDat.ArrAt.emb_eq_of_wholeAt (rd := rdat m hok c) h (t₀ := t0_0) (by decide +kernel)
  refine (hX (ix3 b n k)).trans ?_
  rw [hj]
  show codesOf (in2 m c) j (ix3 b n k) = _
  rw [in2_eq]
  exact codes3 (inX m c) j.j9 j.j13 b n k

theorem out8 (G : Buf (Elt Ideal) ((c.tc : Thread nD τ).loc main_v0_5)) (h : (rdat m hok c).ArrAt 8 cfg0.N G) (b : Fin 3) (n : Fin 42) (k : Fin 52) :
    G (ix3 b n k) = scaleAt (inX m c) b n k := by
  obtain ⟨X, ⟨Y, hY, j, hj⟩, hX⟩ := RDat.ArrAt.emb_eq_of_wholeAt (rd := rdat m hok c) h (t₀ := t0_0) (by decide +kernel)
  refine (hX (ix3 b n k)).trans ?_
  rw [hj]
  show scalesOf (in2 m c) j (ix3 b n k) = _
  rw [in2_eq]
  exact scales3 (inX m c) j.j9 j.j13 j.j10 b n k

end Cert.Value.Ker
-- ==== Proof.Value.RefOut.lean ====
/-
  WHAT THE REFERENCE'S ROW PROGRAM LEAVES, one element at a time.
-/
module

public import proofs.«01_k».proof.Proof.Value.Block
public import proofs.«01_k».proof.Proof.Gen.ReferenceIdeal.Run

@[expose] public section

noncomputable section

namespace Cert.Value.Ref

open Idealize.ShloMosaic
open Cert.ReferenceIdeal Cert.ReferenceIdeal.Gen Cert.ReferenceIdeal.Value
open Idealize.ShloMosaic.Pipeline

variable (m : (ℓ : Loc nD τ sig) → Buf (Elt Ideal) ℓ) (c : Dev nD)

/-- The operands. -/
abbrev inX : S3x42x6656.Idx → EReal := m ((c.tc : Thread nD τ).loc main_arg0)
abbrev inW : S6656x32000.Idx → EReal := m ((c.tc : Thread nD τ).loc main_arg3)
abbrev inS : S52x32000.Idx → EReal := m ((c.tc : Thread nD τ).loc main_arg4)

theorem iblk0 (t : Fin cfg0.N) (i : S3x42x6656.Idx) : iblk m c 0 t i = inX m c i := by
  unfold iblk; rw [View.read_apply]
  show m _ _ = m _ _
  congr 1
  funext a; apply Fin.ext
  show 0 * _ + _ = _
  simp
theorem iblk1 (t : Fin cfg0.N) (i : S6656x32000.Idx) : iblk m c 1 t i = inW m c i := by
  unfold iblk; rw [View.read_apply]
  show m _ _ = m _ _
  congr 1
  funext a; apply Fin.ext
  show 0 * _ + _ = _
  simp
theorem iblk2 (t : Fin cfg0.N) (i : S52x32000.Idx) : iblk m c 2 t i = inS m c i := by
  unfold iblk; rw [View.read_apply]
  show m _ _ = m _ _
  congr 1
  funext a; apply Fin.ext
  show 0 * _ + _ = _
  simp

theorem z3 : (![0, 0, 0] : Fin 3 → Nat) = fun _ => 0 := by decide
theorem z2 : (![0, 0] : Fin 2 → Nat) = fun _ => 0 := by decide

theorem out3 (x0 : Vec Ideal S3x42x6656 .bf16) (x1 : Vec Ideal S6656x32000 .fp8e4m3) (x2 : Vec Ideal S52x32000 .f32) : out0_3 x0 x1 x2 = k0_pay6 x0 := by
  unfold out0_3; rw [View.canon_unit_zero z3, View.ld_unit_zero z3]
theorem out4 (x0 : Vec Ideal S3x42x6656 .bf16) (x1 : Vec Ideal S6656x32000 .fp8e4m3) (x2 : Vec Ideal S52x32000 .f32) : out0_4 x0 x1 x2 = k0_pay4 x0 := by
  unfold out0_4; rw [View.canon_unit_zero z3, View.ld_unit_zero z3]
theorem out5 (x0 : Vec Ideal S3x42x6656 .bf16) (x1 : Vec Ideal S6656x32000 .fp8e4m3) (x2 : Vec Ideal S52x32000 .f32) : out0_5 x0 x1 x2 = k0_pay7 x0 := by
  unfold out0_5; rw [View.canon_unit_zero z3, View.ld_unit_zero z3]
theorem out6 (x0 : Vec Ideal S3x42x6656 .bf16) (x1 : Vec Ideal S6656x32000 .fp8e4m3) (x2 : Vec Ideal S52x32000 .f32) : out0_6 x0 x1 x2 = k0_pay1 x1 x2 := by
  unfold out0_6; rw [View.canon_unit_zero z2, View.ld_unit_zero z2, View.ld_unit_zero z2]

theorem ib0 (t : Fin cfg0.N) : iblk m c 0 t = inX m c := funext (iblk0 m c t)
theorem ib1 (t : Fin cfg0.N) : iblk m c 1 t = inW m c := funext (iblk1 m c t)
theorem ib2 (t : Fin cfg0.N) : iblk m c 2 t = inS m c := funext (iblk2 m c t)

theorem reg0 (b : Fin 3) (n : Fin 42) (k : Fin 6656) : reg_main_v0_0 m c (ix3 b n k) = k0_pay6 (F := Ideal) (inX m c) (ix3 b n k) := by
  have e := (dats m 0 c).arrAt_emb_eq_after_last 3 t0_0 (by decide +kernel) (ix3 b n k)
  rw [after0_3, ib0, ib1, ib2, out3] at e
  exact e
theorem reg1 (b : Fin 3) (n : Fin 42) (k : Fin 52) : reg_main_v0_1 m c (ix3 b n k) = k0_pay4 (F := Ideal) (inX m c) (ix3 b n k) := by
  have e := (dats m 0 c).arrAt_emb_eq_after_last 4 t0_0 (by decide +kernel) (ix3 b n k)
  rw [after0_4, ib0, ib1, ib2, out4] at e
  exact e
theorem reg2 (b : Fin 3) (n : Fin 42) (k : Fin 6656) : reg_main_v0_2 m c (ix3 b n k) = k0_pay7 (F := Ideal) (inX m c) (ix3 b n k) := by
  have e := (dats m 0 c).arrAt_emb_eq_after_last 5 t0_0 (by decide +kernel) (ix3 b n k)
  rw [after0_5, ib0, ib1, ib2, out5] at e
  exact e
theorem reg3 (k : Fin 6656) (v : Fin 32000) : reg_main_v0_3 m c (ix2 k v) = k0_pay1 (F := Ideal) (inW m c) (inS m c) (ix2 k v) := by
  have e := (dats m 0 c).arrAt_emb_eq_after_last 6 t0_0 (by decide +kernel) (ix2 k v)
  rw [after0_6, ib0, ib1, ib2, out6] at e
  exact e

end Cert.Value.Ref
-- ==== Proof.Value.Bound.lean ====
/-
  THE BLOCK'S MAGNITUDE IS REAL AND BOUNDED when its entries are, so that kernel and reference scale alike.
-/
module

public import proofs.«01_k».proof.Proof.Value.Block

@[expose] public section

noncomputable section

namespace Cert.Value

open Idealize.ShloMosaic

/-- A normal positive word. -/
theorem ieee_val {e m w : ℕ} (b : BitVec w) {ex fr : ℕ} (h1 : b.extractLsb' (e + m) 1 = 0#1) (h2 : (b.extractLsb' m e).toNat = ex) (h3 : (b.extractLsb' 0 m).toNat = fr)
    (h4 : ex ≠ 2 ^ e - 1) (h5 : ex ≠ 0) : Ideal.ieee e m b = ((((2 ^ m + fr : ℕ) : ℝ) * (2 : ℝ) ^ ((ex : ℤ) - (2 ^ (e - 1) - 1) - m) : ℝ) : EReal) := by
  unfold Ideal.ieee
  rw [h1, h2, h3]
  dsimp only
  rw [if_neg h4, if_neg h5]
  simp

theorem inv448_eq : FloatOps.ofBits (F := Ideal) .f32 0x3B124925#32 = (((9586981 : ℝ) * (2 : ℝ) ^ (-32 : ℤ) : ℝ) : EReal) := by
  refine (ieee_val (e := 8) (m := 23) 0x3B124925#32 (ex := 118) (fr := 1198373) (by decide) (by decide) (by decide) (by decide) (by decide)).trans ?_
  norm_num
theorem cap_eq : FloatOps.ofBits (F := Ideal) .bf16 0x7F62#16 = (((226 : ℝ) * (2 : ℝ) ^ (120 : ℤ) : ℝ) : EReal) := by
  refine (ieee_val (e := 8) (m := 7) 0x7F62#16 (ex := 254) (fr := 98) (by decide) (by decide) (by decide) (by decide) (by decide)).trans ?_
  norm_num
theorem ieee_ninf {e m w : ℕ} (b : BitVec w) (h1 : b.extractLsb' (e + m) 1 = 1#1) (h2 : (b.extractLsb' m e).toNat = 2 ^ e - 1) (h3 : (b.extractLsb' 0 m).toNat = 0) :
    Ideal.ieee e m b = ⊥ := by
  unfold Ideal.ieee
  rw [h1, h2, h3]
  dsimp only
  rw [if_pos rfl, if_pos rfl]
  simp
theorem ninf_eq : FloatOps.ofBits (F := Ideal) .f32 0xFF800000#32 = ⊥ :=
  ieee_ninf (e := 8) (m := 23) 0xFF800000#32 (by decide) (by decide) (by decide)

/-- The magnitude of a bounded block. -/
theorem mag_real (v : Fin 128 → EReal) (h : ∀ l, max (v l) (-(v l)) ≤ FloatOps.ofBits (F := Ideal) .bf16 0x7F62#16) :
    ∃ y : ℝ, mag v = y ∧ 0 ≤ y ∧ y < (2 : ℝ) ^ (120 : ℤ) := by
  rw [cap_eq] at h
  have h0 : ∀ l, 0 ≤ max (v l) (-(v l)) := fun l => by
    rcases le_total 0 (v l) with h1 | h1
    · exact le_max_of_le_left h1
    · exact le_max_of_le_right (EReal.le_neg.mpr (by simpa using h1))
  have hle : (Finset.univ : Finset (Fin 128)).fold max (FloatOps.ofBits (F := Ideal) .f32 0xFF800000#32) (fun l => max (v l) (-(v l))) ≤ (((226 : ℝ) * (2 : ℝ) ^ (120 : ℤ) : ℝ) : EReal) := by
    rw [ninf_eq]
    exact Finset.fold_max_le _ |>.mpr ⟨bot_le, fun l _ => h l⟩
  have hge : 0 ≤ (Finset.univ : Finset (Fin 128)).fold max (FloatOps.ofBits (F := Ideal) .f32 0xFF800000#32) (fun l => max (v l) (-(v l))) :=
    (Finset.le_fold_max _).mpr (Or.inr ⟨0, Finset.mem_univ _, h0 0⟩)
  unfold mag
  generalize (Finset.univ : Finset (Fin 128)).fold max (FloatOps.ofBits (F := Ideal) .f32 0xFF800000#32) (fun l => max (v l) (-(v l))) = M at hle hge
  have hr : ((M.toReal : ℝ) : EReal) = M := EReal.coe_toReal (fun e => by rw [e, top_le_iff] at hle; exact EReal.coe_ne_top _ hle) (fun e => by rw [e] at hge; exact absurd hge (by simp))
  rw [← hr] at hle hge ⊢
  have hle' : M.toReal ≤ 226 * (2 : ℝ) ^ (120 : ℤ) := by exact_mod_cast hle
  have hge' : 0 ≤ M.toReal := by exact_mod_cast hge
  refine ⟨M.toReal * ((9586981 : ℝ) * (2 : ℝ) ^ (-32 : ℤ)), ?_, by positivity, ?_⟩
  · rw [inv448_eq]; exact (EReal.coe_mul _ _).symm
  · calc M.toReal * ((9586981 : ℝ) * (2 : ℝ) ^ (-32 : ℤ)) ≤ (226 * (2 : ℝ) ^ (120 : ℤ)) * ((9586981 : ℝ) * (2 : ℝ) ^ (-32 : ℤ)) := by gcongr
      _ < (2 : ℝ) ^ (120 : ℤ) := by norm_num

/-- Kernel and reference scale a bounded block alike, by a power of two. -/
theorem scale_eq (v : Fin 128 → EReal) (h : ∀ l, max (v l) (-(v l)) ≤ FloatOps.ofBits (F := Ideal) .bf16 0x7F62#16) :
    scaleK (mag v) = scaleR (mag v) ∧ invK (mag v) = invR (mag v) ∧ ∃ s : ℝ, scaleK (mag v) = s := by
  obtain ⟨y, e, h0, h1⟩ := mag_real v h
  obtain ⟨k, a1, a2, a3, a4⟩ := scale_spec h0 h1
  rw [e]
  exact ⟨a1.trans a3.symm, a2.trans a4.symm, _, a1⟩

end Cert.Value
-- ==== Proof.Value.Score.lean ====
/-
  A TILE'S SCORES: the product of the activations with the scaled weights, one element at a time.
-/
module

public import proofs.«01_k».proof.Proof.Value.Quant
public import Idealize.ShloMosaic.Lib.StackMember
public import Idealize.ShloMosaic.Lib.Pointwise

@[expose] public section

noncomputable section

namespace Cert.Value

open Idealize.ShloMosaic
open Cert.KernelIdeal Cert.KernelIdeal.Gen Cert.KernelIdeal.Run

/-- A scaled weight. -/
theorem deq_at (s : Vec Ideal S1x1x256 .f32) (w : Vec Ideal S1x128x256 .fp8e4m3) (i : Fin 128) (c : Fin 256) :
    deq s w (ix2 i c) = w (ix3 0 i c) * s (ix3 0 0 c) := by
  unfold deq
  pointwise

/-- Two scaled blocks, one below the other. -/
theorem cat_lo (a b : FVec Ideal S128x256 .bf16) (i : Fin 256) (c : Fin 256) (h : i.val < 128) :
    concatenate S256x256 0 [⟨S128x256, a⟩, ⟨S128x256, b⟩] concatenates_S128x256_S128x256_S256x256_d0 (ix2 i c) = a (ix2 ⟨i.val, h⟩ c) := by
  pointwise
  exact dif_pos h
theorem cat_hi (a b : FVec Ideal S128x256 .bf16) (i : Fin 256) (c : Fin 256) (h : ¬ i.val < 128) :
    concatenate S256x256 0 [⟨S128x256, a⟩, ⟨S128x256, b⟩] concatenates_S128x256_S128x256_S256x256_d0 (ix2 i c) = b (ix2 ⟨i.val - 128, by omega⟩ c) := by
  pointwise
  exact dif_neg h

theorem dot_plain : dot_S128x256_S256x256_S128x256_1_0_0_1_n_n = DotDims.plain 128 256 256 := rfl

theorem prod2_at (x : Vec Ideal S128x256 .bf16) (a b : FVec Ideal S128x256 .bf16) (r : Fin 128) (c : Fin 256) :
    prod2 x a b (ix2 r c) = ∑ i : Fin 256, x (ix2 r i) * concatenate S256x256 0 [⟨S128x256, a⟩, ⟨S128x256, b⟩] concatenates_S128x256_S128x256_S256x256_d0 (ix2 i c) := by
  unfold prod2
  generalize concatenate S256x256 0 [⟨S128x256, a⟩, ⟨S128x256, b⟩] concatenates_S128x256_S128x256_S256x256_d0 = B
  refine (Ideal.matmul_constant_zero_apply _ none x B (ix2 r c)).trans ?_
  have e := StackMember.dotGeneral_plain_apply (φ₁ := .bf16) (φ₂ := .bf16) (m := 128) (n := 256) (k := 256) none x B r c
  exact (Ideal.dotGeneral_apply (φ₁ := .bf16) (φ₂ := .bf16) (DotDims.plain 128 256 256) none _ x B _).symm.trans e

/-- The scaled weight at row `d`, column `v`, from the whole arrays of codes and scales. -/
def wval (XW : S6656x32000.Idx → EReal) (XS : S52x32000.Idx → EReal) (d : Fin 6656) (v : Fin 32000) : EReal :=
  XW (ix2 d v) * XS (ix2 ⟨d.val / 128, by omega⟩ v)

/-- Column `c` of tile `t` of chunk `j`. -/
abbrev vcol (j : Fin 25) (t : Fin 5) (c : Fin 256) : Fin 32000 := ⟨1280 * j.val + (256 * t.val + c.val), by omega⟩

section Tile
variable (X : S128x6656.Idx → EReal) (XW : S6656x32000.Idx → EReal) (XS : S52x32000.Idx → EReal) (j : Fin 25) (t : Fin 5)

theorem wcol_at (d : Fin 6656) (u : Fin 1280) : wcol (F := Ideal) XW j (ix2 d u) = XW (ix2 d ⟨1280 * j.val + u.val, by omega⟩) := by
  refine congrArg XW (funext fun a => Fin.ext ?_)
  refine (emb_unit_val (s := S6656x32000) ![0, 1280 * j.val] S6656x1280.size _ (ix2 d u) a).trans ?_
  match a with
  | ⟨0, _⟩ => exact Nat.zero_add _
  | ⟨1, _⟩ => rfl
theorem scol_at (d : Fin 52) (u : Fin 1280) : scol (F := Ideal) XS j (ix2 d u) = XS (ix2 d ⟨1280 * j.val + u.val, by omega⟩) := by
  refine congrArg XS (funext fun a => Fin.ext ?_)
  refine (emb_unit_val (s := S52x32000) ![0, 1280 * j.val] S52x1280.size _ (ix2 d u) a).trans ?_
  match a with
  | ⟨0, _⟩ => exact Nat.zero_add _
  | ⟨1, _⟩ => rfl

theorem wblock_at (kb : Fin 52) (i : Fin 128) (c : Fin 256) :
    wblockF (F := Ideal) (wcol XW j) (scol XS j) t kb (ix2 i c) = wval XW XS ⟨128 * kb.val + i.val, by omega⟩ (vcol j t c) := by
  unfold wblockF
  rw [deq_at]
  refine congr (congrArg _ (wcol_at XW j ⟨128 * kb.val + i.val, by omega⟩ ⟨256 * t.val + c.val, by omega⟩)) ?_
  refine (scol_at XS j ⟨kb.val + 0, by omega⟩ ⟨256 * t.val + c.val, by omega⟩).trans ?_
  refine congrArg XS ?_
  congr 1
  exact Fin.ext (by show kb.val + 0 = (128 * kb.val + i.val) / 128; omega)

theorem prodF_at (k : Fin 26) (r : Fin 128) (c : Fin 256) :
    prodF (F := Ideal) X (wcol XW j) (scol XS j) t k (ix2 r c)
      = ∑ i : Fin 256, X (ix2 r ⟨256 * k.val + i.val, by omega⟩) * wval XW XS ⟨256 * k.val + i.val, by omega⟩ (vcol j t c) := by
  unfold prodF
  rw [prod2_at]
  refine Finset.sum_congr rfl fun i _ => congr (congrArg _ ?_) ?_
  · refine congrArg X (funext fun a => Fin.ext ?_)
    refine (emb_unit_val (s := S128x6656) ![0, 256 * k.val] S128x256.size _ (ix2 r i) a).trans ?_
    match a with
    | ⟨0, _⟩ => exact Nat.zero_add _
    | ⟨1, _⟩ => rfl
  · by_cases h : i.val < 128
    · rw [cat_lo _ _ i c h, wblock_at]
      congr 1
      exact Fin.ext (by show 128 * (2 * k.val) + i.val = 256 * k.val + i.val; omega)
    · rw [cat_hi _ _ i c h, wblock_at]
      congr 1
      exact Fin.ext (by show 128 * (2 * k.val + 1) + (i.val - 128) = 256 * k.val + i.val; omega)

theorem foldl_addf (g : Fin 26 → FVec Ideal S128x256 .f32) (l : List (Fin 26)) (a : FVec Ideal S128x256 .f32) (i : S128x256.Idx) :
    (l.foldl (fun acc k => addf acc (g k)) a) i = a i + (l.map fun k => g k i).sum := by
  induction l generalizing a with
  | nil => exact (add_zero _).symm
  | cons k l ih =>
    rw [List.foldl_cons, ih, List.map_cons, List.sum_cons, ← add_assoc]; rfl

/-- A score of the tile before the scaling: the sum over all 6656 columns of the activations. -/
theorem accF_at (r : Fin 128) (c : Fin 256) :
    accF (F := Ideal) X (wcol XW j) (scol XS j) t (ix2 r c) = ∑ d : Fin 6656, X (ix2 r d) * wval XW XS d (vcol j t c) := by
  unfold accF
  rw [foldl_addf]
  have e : ∀ g : Fin 26 → EReal, g 0 + (([1, 2, 3, 4, 5, 6, 7, 8, 9, 10, 11, 12, 13, 14, 15, 16, 17, 18, 19, 20, 21, 22, 23, 24, 25] : List (Fin 26)).map g).sum = ∑ k, g k := by
    intro g
    rw [← List.sum_ofFn]
    simp only [List.ofFn_succ, List.ofFn_zero, List.map_cons, List.map_nil, List.sum_cons, List.sum_nil]
    rfl
  rw [e fun k => prodF (F := Ideal) X (wcol XW j) (scol XS j) t k (ix2 r c)]
  have e2 : ∀ g : Fin 6656 → EReal, ∑ d, g d = ∑ k : Fin 26, ∑ i : Fin 256, g ⟨256 * k.val + i.val, by omega⟩ := by
    intro g
    rw [← Fintype.sum_prod_type', ← Equiv.sum_comp (finProdFinEquiv (m := 26) (n := 256))]
    refine Finset.sum_congr rfl fun p _ => congrArg g (Fin.ext ?_)
    show p.2.val + 256 * p.1.val = 256 * p.1.val + p.2.val
    omega
  rw [e2]
  exact Finset.sum_congr rfl fun k _ => prodF_at X XW XS j t k r c
end Tile

end Cert.Value

end
-- ==== Proof.Value.Online.lean ====
/-
  THE ONLINE SOFTMAX over the extended reals: a running maximum, the sum of the exponentials against it and the sum of
  the exponentials times exponents, as a lane of the kernel keeps them, stand for the scores seen so far.
-/
module

public import proofs.«01_k».proof.Proof.Run.Rolled

@[expose] public section

noncomputable section

namespace Cert.Value

open Idealize.ShloMosaic Finset

/-- Two to a score against `μ`; an infinitely small score counts for nothing. -/
def wt (μ : ℝ) (z : EReal) : ℝ := if z = ⊥ then 0 else (2 : ℝ) ^ (z.toReal - μ)
/-- The same times the exponent. -/
def wd (μ : ℝ) (z : EReal) : ℝ := wt μ z * (z.toReal - μ)

theorem exp2_sub (μ : ℝ) (z : EReal) (h : z ≠ ⊤) : Ideal.exp2 (z - (μ : EReal)) = (wt μ z : EReal) := by
  induction z using EReal.rec with
  | bot => rw [EReal.bot_sub, Ideal.exp2_bot, wt, if_pos rfl, EReal.coe_zero]
  | top => exact absurd rfl h
  | coe r => rw [← EReal.coe_sub, Ideal.exp2_coe, wt, if_neg (EReal.coe_ne_bot r), EReal.toReal_coe]; rfl

theorem exp2_sub_mul (μ : ℝ) (z : EReal) (h : z ≠ ⊤) : Ideal.exp2 (z - (μ : EReal)) * (z - (μ : EReal)) = (wd μ z : EReal) := by
  rw [exp2_sub μ z h, wd]
  induction z using EReal.rec with
  | bot => rw [wt, if_pos rfl, EReal.coe_zero, zero_mul, zero_mul, EReal.coe_zero]
  | top => exact absurd rfl h
  | coe r => rw [← EReal.coe_sub, ← EReal.coe_mul, EReal.toReal_coe]

theorem wt_shift (μ μ' : ℝ) (z : EReal) : wt μ z * (2 : ℝ) ^ (μ - μ') = wt μ' z := by
  unfold wt
  split
  · exact zero_mul _
  · rw [← Real.rpow_add (by norm_num)]; congr 1; ring

theorem wd_shift (μ μ' : ℝ) (z : EReal) : (wd μ z + wt μ z * (μ - μ')) * (2 : ℝ) ^ (μ - μ') = wd μ' z := by
  unfold wd
  rw [← wt_shift μ μ' z]; ring

/-- What a lane's statistics say of the first `n` scores. -/
def Good (f : ℕ → EReal) (n : ℕ) (m s t : EReal) : Prop :=
  (m = ⊤ ∧ s = 0 ∧ t = 0 ∧ ∃ j, f j = ⊤) ∨
  ∃ μ : ℝ, m = μ ∧ (∀ j < n, f j ≠ ⊤) ∧ s = ((∑ j ∈ range n, wt μ (f j) : ℝ) : EReal) ∧ t = ((∑ j ∈ range n, wd μ (f j) : ℝ) : EReal)

theorem Good.ne_bot {f : ℕ → EReal} {n : ℕ} {m s t : EReal} (h : Good f n m s t) : m ≠ ⊥ := by
  rcases h with ⟨rfl, _⟩ | ⟨μ, rfl, _⟩
  · exact top_ne_bot
  · exact EReal.coe_ne_bot μ

theorem Good.top {f : ℕ → EReal} {n : ℕ} {m s t : EReal} (h : Good f n m s t) (e : m = ⊤) : ∃ j, f j = ⊤ := by
  rcases h with ⟨_, _, _, h⟩ | ⟨μ, rfl, _⟩
  · exact h
  · exact absurd e (EReal.coe_ne_top μ)

/-- No scores yet. -/
theorem Good.zero (f : ℕ → EReal) (μ : ℝ) : Good f 0 μ 0 0 := .inr ⟨μ, rfl, fun j h => absurd h (Nat.not_lt_zero j), by simp, by simp⟩

/-- The statistics against a larger maximum. -/
theorem Good.rebase {f : ℕ → EReal} {n : ℕ} {m s t : EReal} (h : Good f n m s t) (m' : EReal) (hm : m ≤ m') (ht : m' = ⊤ → ∃ j, f j = ⊤) :
    Good f n m' (s * Ideal.exp2 (m - m')) ((t + s * (m - m')) * Ideal.exp2 (m - m')) := by
  rcases h with ⟨rfl, rfl, rfl, h⟩ | ⟨μ, rfl, hn, rfl, rfl⟩
  · have : m' = ⊤ := top_le_iff.mp hm
    subst this
    exact .inl ⟨rfl, by simp, by simp, h⟩
  · induction m' using EReal.rec with
    | bot => exact absurd (le_bot_iff.mp hm) (EReal.coe_ne_bot μ)
    | top => exact .inl ⟨rfl, by rw [EReal.sub_top, Ideal.exp2_bot, mul_zero], by rw [EReal.sub_top, Ideal.exp2_bot, mul_zero], ht rfl⟩
    | coe μ' =>
      refine .inr ⟨μ', rfl, hn, ?_, ?_⟩
      · rw [← EReal.coe_sub, Ideal.exp2_coe, ← EReal.coe_mul, sum_mul]
        exact congrArg _ (sum_congr rfl fun j _ => wt_shift μ μ' (f j))
      · rw [← EReal.coe_sub, Ideal.exp2_coe, ← EReal.coe_mul, ← EReal.coe_add, ← EReal.coe_mul, sum_mul, ← sum_add_distrib, sum_mul]
        exact congrArg _ (sum_congr rfl fun j _ => wd_shift μ μ' (f j))

/-- One more score, no larger than the maximum. -/
theorem Good.add {f : ℕ → EReal} {n : ℕ} {m s t : EReal} (h : Good f n m s t) (hz : f n ≤ m) :
    Good f (n + 1) m (s + Ideal.exp2 (f n - m)) (t + Ideal.exp2 (f n - m) * (f n - m)) := by
  rcases h with ⟨rfl, rfl, rfl, h⟩ | ⟨μ, rfl, hn, rfl, rfl⟩
  · have : f n - ⊤ = ⊥ := EReal.sub_top _
    rw [this, Ideal.exp2_bot]
    exact .inl ⟨rfl, by simp, by simp, h⟩
  · have hne : f n ≠ ⊤ := fun e => by rw [e, top_le_iff] at hz; exact EReal.coe_ne_top _ hz
    refine .inr ⟨μ, rfl, fun j hj => ?_, ?_, ?_⟩
    · rcases Nat.lt_succ_iff_lt_or_eq.mp hj with hj | rfl
      · exact hn j hj
      · exact hne
    · rw [exp2_sub μ _ hne, ← EReal.coe_add, sum_range_succ]
    · rw [exp2_sub_mul μ _ hne, ← EReal.coe_add, sum_range_succ]

/-- The maximum after ten more scores. -/
def mStep (m : EReal) (z : Fin 10 → EReal) : EReal :=
  max (max (max (max (max (max (max (max (max (max m (z 0)) (z 1)) (z 2)) (z 3)) (z 4)) (z 5)) (z 6)) (z 7)) (z 8)) (z 9)
def sAdd (m z s : EReal) : EReal := s + Ideal.exp2 (z - m)
def tAdd (m z t : EReal) : EReal := t + Ideal.exp2 (z - m) * (z - m)
def s1Step (m m' s : EReal) (z : Fin 10 → EReal) : EReal :=
  sAdd m' (z 9) (sAdd m' (z 8) (sAdd m' (z 7) (sAdd m' (z 6) (sAdd m' (z 5) (sAdd m' (z 4) (sAdd m' (z 3) (sAdd m' (z 2) (sAdd m' (z 1) (sAdd m' (z 0) (s * Ideal.exp2 (m - m')))))))))))
def t1Step (m m' s t : EReal) (z : Fin 10 → EReal) : EReal :=
  tAdd m' (z 9) (tAdd m' (z 8) (tAdd m' (z 7) (tAdd m' (z 6) (tAdd m' (z 5) (tAdd m' (z 4) (tAdd m' (z 3) (tAdd m' (z 2) (tAdd m' (z 1) (tAdd m' (z 0) ((t + s * (m - m')) * Ideal.exp2 (m - m')))))))))))

theorem le_mStep (m : EReal) (z : Fin 10 → EReal) : m ≤ mStep m z ∧ ∀ i, z i ≤ mStep m z := by
  unfold mStep
  refine ⟨by simp [le_max_iff], fun i => ?_⟩
  fin_cases i <;> simp [le_max_iff]

theorem mStep_top (m : EReal) (z : Fin 10 → EReal) (h : mStep m z = ⊤) : m = ⊤ ∨ ∃ i, z i = ⊤ := by
  unfold mStep at h
  simp only [max_eq_top] at h
  rcases h with (((((((((h | h) | h) | h) | h) | h) | h) | h) | h) | h) | h
  · exact .inl h
  all_goals exact .inr ⟨_, h⟩

/-- Ten more scores. -/
theorem Good.step {f : ℕ → EReal} {n : ℕ} {m s t : EReal} (h : Good f n m s t) (z : Fin 10 → EReal) (hz : ∀ i : Fin 10, z i = f (n + i.val)) :
    Good f (n + 10) (mStep m z) (s1Step m (mStep m z) s z) (t1Step m (mStep m z) s t z) := by
  obtain ⟨h1, h2⟩ := le_mStep m z
  have ht : mStep m z = ⊤ → ∃ j, f j = ⊤ := fun e => by
    rcases mStep_top m z e with e | ⟨i, e⟩
    · exact h.top e
    · exact ⟨_, (hz i).symm.trans e⟩
  generalize mStep m z = m' at *
  have g := h.rebase m' h1 ht
  unfold s1Step t1Step sAdd tAdd
  have hle : ∀ i : Fin 10, f (n + i.val) ≤ m' := fun i => hz i ▸ h2 i
  rw [hz 0, hz 1, hz 2, hz 3, hz 4, hz 5, hz 6, hz 7, hz 8, hz 9]
  exact ((((((((((g.add (hle 0)).add (hle 1)).add (hle 2)).add (hle 3)).add (hle 4)).add (hle 5)).add (hle 6)).add (hle 7)).add (hle 8)).add (hle 9))

end Cert.Value

end
-- ==== Proof.Value.EntMath.lean ====
/-
  THE ENTROPY from the statistics: the kernel's formula at base two is the reference's log-sum-exp.
-/
module

public import proofs.«01_k».proof.Proof.Value.Online

@[expose] public section

noncomputable section

namespace Cert.Value

open Idealize.ShloMosaic Finset

/-- The exponential of a score against `a`; an infinitely small score counts for nothing. -/
def ew (a : ℝ) (z : EReal) : ℝ := if z = ⊥ then 0 else Real.exp (z.toReal - a)

theorem exp_coe' (r : ℝ) : Ideal.exp (r : EReal) = (Real.exp r : EReal) := rfl
theorem log_pos' {r : ℝ} (h : 0 < r) : Ideal.log (r : EReal) = (Real.log r : EReal) := by
  show (if r ≤ 0 then ⊥ else (Real.log r : EReal)) = _
  rw [if_neg (not_le.mpr h)]
theorem log_zero' : Ideal.log 0 = ⊥ := by
  show (if (0 : ℝ) ≤ 0 then ⊥ else (Real.log 0 : EReal)) = _
  rw [if_pos le_rfl]
theorem exp_bot' : Ideal.exp ⊥ = 0 := rfl

theorem exp_sub (a : ℝ) (z : EReal) (h : z ≠ ⊤) : Ideal.exp (z - (a : EReal)) = (ew a z : EReal) := by
  induction z using EReal.rec with
  | bot => rw [EReal.bot_sub, exp_bot', ew, if_pos rfl, EReal.coe_zero]
  | top => exact absurd rfl h
  | coe r => rw [← EReal.coe_sub, exp_coe', ew, if_neg (EReal.coe_ne_bot r), EReal.toReal_coe]

theorem exp_sub_mul (a : ℝ) (z : EReal) (h : z ≠ ⊤) : Ideal.exp (z - (a : EReal)) * z = ((ew a z * z.toReal : ℝ) : EReal) := by
  rw [exp_sub a z h]
  induction z using EReal.rec with
  | bot => rw [ew, if_pos rfl, EReal.coe_zero, zero_mul, zero_mul, EReal.coe_zero]
  | top => exact absurd rfl h
  | coe r => rw [← EReal.coe_mul, EReal.toReal_coe]

theorem ew_shift (a b : ℝ) (z : EReal) : ew b z = ew a z * Real.exp (a - b) := by
  unfold ew
  split
  · exact (zero_mul _).symm
  · rw [← Real.exp_add]; congr 1; ring

theorem ew_nonneg (a : ℝ) (z : EReal) : 0 ≤ ew a z := by
  unfold ew; split
  · exact le_rfl
  · exact (Real.exp_pos _).le

theorem log2_pos : 0 < Real.log 2 := Real.log_pos (by norm_num)

theorem mul_c_bot : (⊥ : EReal) * (((Real.log 2)⁻¹ : ℝ) : EReal) = ⊥ := EReal.bot_mul_coe_of_pos (inv_pos.mpr log2_pos)

/-- A score at base two. -/
theorem wt_ew (μ : ℝ) (z : EReal) (h : z ≠ ⊤) : wt μ (z * (((Real.log 2)⁻¹ : ℝ) : EReal)) = ew (μ * Real.log 2) z := by
  induction z using EReal.rec with
  | bot => rw [mul_c_bot, wt, ew, if_pos rfl, if_pos rfl]
  | top => exact absurd rfl h
  | coe r =>
    rw [← EReal.coe_mul, wt, ew, if_neg (EReal.coe_ne_bot _), if_neg (EReal.coe_ne_bot _), EReal.toReal_coe, EReal.toReal_coe,
      Real.rpow_def_of_pos (by norm_num)]
    congr 1
    have := log2_pos.ne'
    field_simp
theorem wd_ew (μ : ℝ) (z : EReal) (h : z ≠ ⊤) :
    Real.log 2 * wd μ (z * (((Real.log 2)⁻¹ : ℝ) : EReal)) = ew (μ * Real.log 2) z * z.toReal - μ * Real.log 2 * ew (μ * Real.log 2) z := by
  unfold wd
  rw [wt_ew μ z h]
  induction z using EReal.rec with
  | bot => rw [ew, if_pos rfl]; ring
  | top => exact absurd rfl h
  | coe r =>
    rw [← EReal.coe_mul, EReal.toReal_coe, EReal.toReal_coe]
    have := log2_pos.ne'
    field_simp

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

variable {ι : Type} [Fintype ι]

/-- What statistics over all scores say. -/
def GoodAll (k : ι → EReal) (m s t : EReal) : Prop :=
  (m = ⊤ ∧ s = 0 ∧ t = 0 ∧ ∃ i, k i = ⊤) ∨
  ∃ μ : ℝ, m = μ ∧ (∀ i, k i ≠ ⊤) ∧ s = ((∑ i, wt μ (k i) : ℝ) : EReal) ∧ t = ((∑ i, wd μ (k i) : ℝ) : EReal)

/-- The reference's normaliser and entropy, against a maximum `M`. -/
def refLse (z : ι → EReal) (M : EReal) : EReal := M + Ideal.log (∑ i, Ideal.exp (z i - M))
def refEnt (z : ι → EReal) (M : EReal) : EReal := refLse z M - ∑ i, Ideal.exp (z i - refLse z M) * z i
/-- The kernel's entropy. -/
def kerEnt (s t : EReal) : EReal :=
  ((Real.log 2 : ℝ) : EReal) * (Ideal.log s * (((Real.log 2)⁻¹ : ℝ) : EReal) - Ideal.div t s)

theorem kerEnt_zero (t : EReal) : kerEnt 0 t = ⊥ := by
  unfold kerEnt
  rw [log_zero', mul_c_bot, EReal.bot_sub, EReal.coe_mul_bot_of_pos log2_pos]

theorem refEnt_bot (z : ι → EReal) (M : EReal) (h : ∀ i, z i - M = ⊥) : refEnt z M = ⊥ := by
  have e : refLse z M = ⊥ := by
    unfold refLse
    rw [sum_congr rfl fun i _ => by rw [h i, exp_bot'], sum_const_zero, log_zero', EReal.add_bot]
  unfold refEnt
  rw [e, EReal.bot_sub]

theorem mul_c_top {z : EReal} : z * (((Real.log 2)⁻¹ : ℝ) : EReal) = ⊤ ↔ z = ⊤ := by
  have hc := inv_pos.mpr log2_pos
  induction z using EReal.rec with
  | bot => rw [mul_c_bot]
  | top => rw [EReal.top_mul_coe_of_pos hc]
  | coe r => rw [← EReal.coe_mul]; exact ⟨fun h => absurd h (EReal.coe_ne_top _), fun h => absurd h (EReal.coe_ne_top _)⟩

/-- The two entropies agree. -/
theorem ent_eq (z : ι → EReal) (M m s t : EReal) (hM : ∀ i, z i ≤ M) (hT : M = ⊤ → ∃ i, z i = ⊤)
    (h : GoodAll (fun i => z i * (((Real.log 2)⁻¹ : ℝ) : EReal)) m s t) : kerEnt s t = refEnt z M := by
  rcases h with ⟨_, rfl, rfl, i, hi⟩ | ⟨μ, rfl, hn, rfl, rfl⟩
  · have hz : z i = ⊤ := mul_c_top.mp hi
    have : M = ⊤ := top_le_iff.mp (hz ▸ hM i)
    subst this
    rw [kerEnt_zero, refEnt_bot z ⊤ fun i => EReal.sub_top _]
  · replace hn : ∀ i, z i ≠ ⊤ := fun i e => hn i (mul_c_top.mpr e)
    have hMt : M ≠ ⊤ := fun e => by obtain ⟨i, hi⟩ := hT e; exact hn i hi
    rw [sum_congr rfl fun i _ => wt_ew μ (z i) (hn i)]
    by_cases hall : ∀ i, z i = ⊥
    · have e : (∑ i, ew (μ * Real.log 2) (z i) : ℝ) = 0 := sum_eq_zero fun i _ => by rw [hall i, ew, if_pos rfl]
      rw [e, EReal.coe_zero, kerEnt_zero, refEnt_bot z M fun i => by rw [hall i, EReal.bot_sub]]
    · obtain ⟨i0, hi0⟩ := not_forall.mp hall
      have hMb : M ≠ ⊥ := fun e => hi0 (le_bot_iff.mp (e ▸ hM i0))
      obtain ⟨x, rfl⟩ : ∃ x : ℝ, M = x := ⟨M.toReal, (EReal.coe_toReal hMt hMb).symm⟩
      set a : ℝ := μ * Real.log 2 with ha
      set S : ℝ := ∑ i, ew a (z i) with hS
      set U : ℝ := ∑ i, ew a (z i) * (z i).toReal with hU
      have hpos : 0 < S := sum_pos' (fun i _ => ew_nonneg a (z i)) ⟨i0, mem_univ _, by rw [ew, if_neg hi0]; exact Real.exp_pos _⟩
      have hlse : refLse z x = ((Real.log S + a : ℝ) : EReal) := by
        unfold refLse
        rw [sum_congr rfl fun i _ => (exp_sub x (z i) (hn i)).trans (congrArg _ (ew_shift a x (z i))), ← coe_sum, ← sum_mul, ← hS,
          log_pos' (mul_pos hpos (Real.exp_pos _)), Real.log_mul hpos.ne' (Real.exp_pos _).ne', Real.log_exp, ← EReal.coe_add]
        congr 1; ring
      have href : refEnt z x = ((Real.log S + a - U / S : ℝ) : EReal) := by
        unfold refEnt
        rw [hlse, sum_congr rfl fun i _ => (exp_sub_mul _ (z i) (hn i)), ← coe_sum, ← EReal.coe_sub]
        congr 2
        rw [hU, sum_div]
        refine sum_congr rfl fun i _ => ?_
        rw [ew_shift a (Real.log S + a), show a - (Real.log S + a) = -Real.log S by ring, Real.exp_neg, Real.exp_log hpos]
        ring
      have hT' : Real.log 2 * ∑ i, wd μ (z i * (((Real.log 2)⁻¹ : ℝ) : EReal)) = U - a * S := by
        rw [mul_sum, sum_congr rfl fun i _ => wd_ew μ (z i) (hn i), sum_sub_distrib, ← mul_sum]
      rw [href]
      unfold kerEnt
      generalize (∑ i, wd μ (z i * (((Real.log 2)⁻¹ : ℝ) : EReal)) : ℝ) = T at *
      have hd : Ideal.div (T : EReal) (S : EReal) = ((T / S : ℝ) : EReal) := by
        unfold Ideal.div
        rw [if_neg (by rw [EReal.coe_eq_zero]; exact hpos.ne'), ← EReal.coe_inv, ← EReal.coe_mul]; rfl
      rw [hd, log_pos' hpos, ← EReal.coe_mul, ← EReal.coe_sub, ← EReal.coe_mul]
      congr 1
      have h2 := log2_pos.ne'
      have h3 : T = (U - a * S) / Real.log 2 := by rw [← hT']; field_simp
      rw [h3]
      field_simp
      ring

end Cert.Value

end
-- ==== Proof.Value.Stats.lean ====
/-
  THE LANES' STATISTICS after a chunk: each lane takes ten more scores.
-/
module

public import proofs.«01_k».proof.Proof.Value.Quant
public import proofs.«01_k».proof.Proof.Value.EntMath
public import Idealize.ShloMosaic.Lib.Pointwise

@[expose] public section

noncomputable section

namespace Cert.Value

open Idealize.ShloMosaic
open Cert.KernelIdeal Cert.KernelIdeal.Gen Cert.KernelIdeal.Run

/-- Row `q` of group `r`. -/
abbrev grow (r : Fin 4) (q : Fin 32) : Fin 128 := ⟨32 * r.val + q.val, by omega⟩

theorem rowsF_at (X : S128x128.Idx → EReal) (r : Fin 4) (q : Fin 32) (l : Fin 128) : rowsF (F := Ideal) X r (ix2 q l) = X (ix2 (grow r q) l) := by
  refine congrArg X (funext fun a => Fin.ext ?_)
  refine (emb_unit_val (s := S128x128) ![32 * r.val, 0] S32x128.size _ (ix2 q l) a).trans ?_
  match a with
  | ⟨0, _⟩ => rfl
  | ⟨1, _⟩ => exact Nat.zero_add _

theorem setRows_at (r : Fin 4) (X : S128x128.Idx → EReal) (w : FVec Ideal S32x128 .f32) (q : Fin 32) (l : Fin 128) :
    setRows (F := Ideal) r X w (ix2 (grow r q) l) = w (ix2 q l) := by
  refine (upd_at (s := S128x128) ![32 * r.val, 0] S32x128.size X _ (ix2 (grow r q) l) (ix2 q l) fun a => ?_).trans ?_
  · match a with
    | ⟨0, _⟩ => rfl
    | ⟨1, _⟩ => exact (Nat.zero_add _).symm
  · pointwise
theorem setRows_out (r : Fin 4) (X : S128x128.Idx → EReal) (w : FVec Ideal S32x128 .f32) (ρ : Fin 128) (l : Fin 128) (h : ρ.val / 32 ≠ r.val) :
    setRows (F := Ideal) r X w (ix2 ρ l) = X (ix2 ρ l) := by
  refine upd_out (s := S128x128) ![32 * r.val, 0] S32x128.size X _ (ix2 ρ l) 0 ?_
  show ρ.val < 32 * r.val ∨ 32 * r.val + 32 ≤ ρ.val
  omega

theorem zgroupF_at (z : S250x128x128.Idx → EReal) (zld : Fin 10 → Fin 250) (r : Fin 4) (i : Fin 10) (q : Fin 32) (l : Fin 128) :
    zgroupF (F := Ideal) z zld r i (ix2 q l) = z (ix3 (zld i) (grow r q) l) := by
  have e : ∀ j : Fin 250, shapeCast S32x128 (fun i : S1x32x128.Idx => z ((zGroupRect j r).emb i)) shapeCasts_S1x32x128_S32x128 (ix2 q l) = z (ix3 j (grow r q) l) := by
    intro j
    have e1 : z ((zGroupRect j r).emb (ix3 0 q l)) = z (ix3 j (grow r q) l) := by
      refine congrArg z (funext fun a => Fin.ext ?_)
      refine (emb_unit_val (s := S250x128x128) ![j.val, 32 * r.val, 0] S1x32x128.size _ (ix3 0 q l) a).trans ?_
      match a with
      | ⟨0, _⟩ => rfl
      | ⟨1, _⟩ => rfl
      | ⟨2, _⟩ => exact Nat.zero_add _
    have e2 : ∀ g : S1x32x128.Idx → EReal, shapeCast S32x128 g shapeCasts_S1x32x128_S32x128 (ix2 q l) = g (ix3 0 q l) := by
      intro g
      pointwise
    exact (e2 _).trans e1
  fin_cases i <;> exact e _

/-- What a lane holds. -/
abbrev lm (p : Stats Ideal) (ρ l : Fin 128) : EReal := p.1 (ix2 ρ l)
abbrev ls (p : Stats Ideal) (ρ l : Fin 128) : EReal := p.2.1 (ix2 ρ l)
abbrev lt (p : Stats Ideal) (ρ l : Fin 128) : EReal := p.2.2 (ix2 ρ l)

theorem maxStep_at (m : FVec Ideal S32x128 .f32) (z : Fin 10 → FVec Ideal S32x128 .f32) (i : S32x128.Idx) : maxStep m z i = mStep (m i) fun j => z j i := rfl
theorem sStep_at (m m' s : FVec Ideal S32x128 .f32) (z : Fin 10 → FVec Ideal S32x128 .f32) (i : S32x128.Idx) :
    sStep m m' s z i = s1Step (m i) (m' i) (s i) fun j => z j i := rfl
theorem tStep_at (m m' s t : FVec Ideal S32x128 .f32) (z : Fin 10 → FVec Ideal S32x128 .f32) (i : S32x128.Idx) :
    tStep m m' s t z i = t1Step (m i) (m' i) (s i) (t i) fun j => z j i := rfl

section
variable (z : S250x128x128.Idx → EReal) (zld : Fin 10 → Fin 250)

theorem group_in (r : Fin 4) (p : Stats Ideal) (q : Fin 32) (l : Fin 128) :
    lm (groupF z zld r p) (grow r q) l = mStep (lm p (grow r q) l) (fun j => z (ix3 (zld j) (grow r q) l)) ∧
    ls (groupF z zld r p) (grow r q) l = s1Step (lm p (grow r q) l) (mStep (lm p (grow r q) l) (fun j => z (ix3 (zld j) (grow r q) l))) (ls p (grow r q) l)
      (fun j => z (ix3 (zld j) (grow r q) l)) ∧
    lt (groupF z zld r p) (grow r q) l = t1Step (lm p (grow r q) l) (mStep (lm p (grow r q) l) (fun j => z (ix3 (zld j) (grow r q) l))) (ls p (grow r q) l)
      (lt p (grow r q) l) (fun j => z (ix3 (zld j) (grow r q) l)) := by
  have ez : (fun j => zgroupF (F := Ideal) z zld r j (ix2 q l)) = fun j => z (ix3 (zld j) (grow r q) l) := funext fun j => zgroupF_at z zld r j q l
  have em : maxStep (F := Ideal) (rowsF (F := Ideal) p.1 r) (zgroupF (F := Ideal) z zld r) (ix2 q l) = mStep (lm p (grow r q) l) (fun j => z (ix3 (zld j) (grow r q) l)) := by
    rw [maxStep_at, ez, rowsF_at]
  refine ⟨?_, ?_, ?_⟩
  · exact (setRows_at r _ _ q l).trans em
  · refine (setRows_at r _ _ q l).trans ?_
    rw [sStep_at, em, ez, rowsF_at, rowsF_at]
  · refine (setRows_at r _ _ q l).trans ?_
    rw [tStep_at, em, ez, rowsF_at, rowsF_at, rowsF_at]

theorem group_out (r : Fin 4) (p : Stats Ideal) (ρ : Fin 128) (l : Fin 128) (h : ρ.val / 32 ≠ r.val) :
    lm (groupF z zld r p) ρ l = lm p ρ l ∧ ls (groupF z zld r p) ρ l = ls p ρ l ∧ lt (groupF z zld r p) ρ l = lt p ρ l :=
  ⟨setRows_out r _ _ ρ l h, setRows_out r _ _ ρ l h, setRows_out r _ _ ρ l h⟩

/-- One row group keeps a lane's statistics right, and counts ten more scores in its own rows. -/
theorem group_good (f : ℕ → EReal) (n : ℕ) (r : Fin 4) (p : Stats Ideal) (ρ l : Fin 128) (hr : ρ.val / 32 = r.val)
    (hz : ∀ i : Fin 10, z (ix3 (zld i) ρ l) = f (n + i.val)) (h : Good f n (lm p ρ l) (ls p ρ l) (lt p ρ l)) :
    Good f (n + 10) (lm (groupF z zld r p) ρ l) (ls (groupF z zld r p) ρ l) (lt (groupF z zld r p) ρ l) := by
  obtain ⟨q, rfl⟩ : ∃ q : Fin 32, ρ = grow r q := ⟨⟨ρ.val % 32, by omega⟩, Fin.ext (by show ρ.val = 32 * r.val + ρ.val % 32; omega)⟩
  obtain ⟨e1, e2, e3⟩ := group_in z zld r p q l
  rw [e1, e2, e3]
  exact h.step _ hz
theorem group_keep (f : ℕ → EReal) (n : ℕ) (r : Fin 4) (p : Stats Ideal) (ρ l : Fin 128) (hr : ρ.val / 32 ≠ r.val)
    (h : Good f n (lm p ρ l) (ls p ρ l) (lt p ρ l)) :
    Good f n (lm (groupF z zld r p) ρ l) (ls (groupF z zld r p) ρ l) (lt (groupF z zld r p) ρ l) := by
  obtain ⟨e1, e2, e3⟩ := group_out z zld r p ρ l hr
  rw [e1, e2, e3]
  exact h

/-- The four row groups: every lane counts ten more scores. -/
theorem groups_good (f : ℕ → EReal) (n : ℕ) (p : Stats Ideal) (ρ l : Fin 128)
    (hz : ∀ i : Fin 10, z (ix3 (zld i) ρ l) = f (n + i.val)) (h : Good f n (lm p ρ l) (ls p ρ l) (lt p ρ l)) :
    Good f (n + 10) (lm (groupsF z zld p) ρ l) (ls (groupsF z zld p) ρ l) (lt (groupsF z zld p) ρ l) := by
  have hlt : ρ.val / 32 < 4 := by omega
  unfold groupsF
  simp only [List.foldl_cons, List.foldl_nil]
  have c : ρ.val / 32 = 0 ∨ ρ.val / 32 = 1 ∨ ρ.val / 32 = 2 ∨ ρ.val / 32 = 3 := by omega
  rcases c with c | c | c | c
  · exact group_keep z zld f _ 3 _ ρ l (by rw [c]; decide) (group_keep z zld f _ 2 _ ρ l (by rw [c]; decide) (group_keep z zld f _ 1 _ ρ l (by rw [c]; decide)
      (group_good z zld f n 0 p ρ l c hz h)))
  · exact group_keep z zld f _ 3 _ ρ l (by rw [c]; decide) (group_keep z zld f _ 2 _ ρ l (by rw [c]; decide) (group_good z zld f n 1 _ ρ l c hz
      (group_keep z zld f _ 0 _ ρ l (by rw [c]; decide) h)))
  · exact group_keep z zld f _ 3 _ ρ l (by rw [c]; decide) (group_good z zld f n 2 _ ρ l c hz (group_keep z zld f _ 1 _ ρ l (by rw [c]; decide)
      (group_keep z zld f _ 0 _ ρ l (by rw [c]; decide) h)))
  · exact group_good z zld f n 3 _ ρ l c hz (group_keep z zld f _ 2 _ ρ l (by rw [c]; decide) (group_keep z zld f _ 1 _ ρ l (by rw [c]; decide)
      (group_keep z zld f _ 0 _ ρ l (by rw [c]; decide) h)))

end
end Cert.Value

end
-- ==== Proof.Value.Chunks.lean ====
/-
  ALL CHUNKS: the scores the kernel holds after its 25 chunks, and what its statistics say of them.
-/
module

public import proofs.«01_k».proof.Proof.Value.Score
public import proofs.«01_k».proof.Proof.Value.Stats

@[expose] public section

noncomputable section

namespace Cert.Value

open Idealize.ShloMosaic
open Cert.KernelIdeal Cert.KernelIdeal.Gen Cert.KernelIdeal.Run

/-- The factor the kernel scales its scores by. -/
abbrev cK : EReal := Named.named (F := Ideal) Cert.KernelIdeal.κ "log2e_over_temperature" (φ := .f32) 0x4003E74F#32

theorem half0_at (acc : FVec Ideal S128x256 .f32) (r l : Fin 128) : half0 acc (ix3 0 r l) = acc (ix2 r ⟨l.val, by omega⟩) * cK := by
  unfold half0 scaled
  pointwise
theorem half1_at (acc : FVec Ideal S128x256 .f32) (r l : Fin 128) : half1 acc (ix3 0 r l) = acc (ix2 r ⟨128 + l.val, by omega⟩) * cK := by
  unfold half1 scaled
  pointwise

theorem zset_at (z : S250x128x128.Idx → EReal) (j : Fin 250) (w : FVec Ideal S1x128x128 .f32) (r l : Fin 128) :
    zset (F := Ideal) z j w (ix3 j r l) = w (ix3 0 r l) := by
  refine upd_at (s := S250x128x128) ![j.val, 0, 0] S1x128x128.size z w (ix3 j r l) (ix3 0 r l) fun a => ?_
  match a with
  | ⟨0, _⟩ => rfl
  | ⟨1, _⟩ => exact (Nat.zero_add _).symm
  | ⟨2, _⟩ => exact (Nat.zero_add _).symm
theorem zset_out (z : S250x128x128.Idx → EReal) (j j' : Fin 250) (w : FVec Ideal S1x128x128 .f32) (r l : Fin 128) (h : j' ≠ j) :
    zset (F := Ideal) z j w (ix3 j' r l) = z (ix3 j' r l) := by
  refine upd_out (s := S250x128x128) ![j.val, 0, 0] S1x128x128.size z w (ix3 j' r l) 0 ?_
  have := Fin.val_ne_of_ne h
  show j'.val < j.val ∨ j.val + 1 ≤ j'.val
  omega

section
variable (X : S128x6656.Idx → EReal) (XW : S6656x32000.Idx → EReal) (XS : S52x32000.Idx → EReal)

/-- A row's product with a column of the scaled weights. -/
def logit (ρ : Fin 128) (v : Fin 32000) : EReal := ∑ d : Fin 6656, X (ix2 ρ d) * wval XW XS d v
/-- The score of a row in lane `l`, block `j`. -/
def zj (ρ l : Fin 128) (j : ℕ) : EReal := if h : j < 250 then logit X XW XS ρ ⟨128 * j + l.val, by omega⟩ * cK else ⊥

variable (k : Fin k0_t5_loop.trips)

theorem zstW_val (t : Fin 5) (q : Fin 2) : (zstW k t q).val = 10 * k.val + 2 * t.val + q.val := congrFun (k0_off128_eq k t q) 0
theorem zldW_val (i : Fin 10) : (zldW k i).val = 10 * k.val + i.val := congrFun (k0_off545_eq k i) 0

abbrev tileAt (t : Fin 5) (z : S250x128x128.Idx → EReal) : S250x128x128.Idx → EReal :=
  tileF (F := Ideal) X (wcol XW (idx25 k)) (scol XS (idx25 k)) (zstW k) t z

theorem tile_val (t : Fin 5) (z : S250x128x128.Idx → EReal) (j : Fin 250) (ρ l : Fin 128) (h : j.val / 2 = 5 * k.val + t.val) :
    tileAt X XW XS k t z (ix3 j ρ l) = zj X XW XS ρ l j.val := by
  have hv : ∀ (a b : Fin 32000), a.val = b.val → logit X XW XS ρ a * cK = logit X XW XS ρ b * cK := fun a b e => by rw [Fin.ext e]
  unfold tileAt tileF zj
  rw [dif_pos j.isLt]
  by_cases hq : j = zstW k t 1
  · subst hq
    have e := zstW_val k t 1
    rw [zset_at, half1_at, accF_at]
    refine hv _ _ ?_
    show 1280 * k.val + (256 * t.val + (128 + l.val)) = 128 * (zstW k t 1).val + l.val
    rw [e]; show _ = 128 * (10 * k.val + 2 * t.val + 1) + l.val; omega
  · have hq0 : j = zstW k t 0 := by
      apply Fin.ext
      have e0 := zstW_val k t 0
      have e1 := zstW_val k t 1
      have hne := Fin.val_ne_of_ne hq
      rw [e1] at hne
      rw [e0]
      change j.val ≠ 10 * k.val + 2 * t.val + 1 at hne
      show j.val = 10 * k.val + 2 * t.val + 0
      omega
    rw [zset_out _ _ _ _ _ _ hq]
    subst hq0
    have e := zstW_val k t 0
    rw [zset_at, half0_at, accF_at]
    refine hv _ _ ?_
    show 1280 * k.val + (256 * t.val + l.val) = 128 * (zstW k t 0).val + l.val
    rw [e]; show _ = 128 * (10 * k.val + 2 * t.val + 0) + l.val; omega

theorem tile_keep (t : Fin 5) (z : S250x128x128.Idx → EReal) (j : Fin 250) (ρ l : Fin 128) (h : j.val / 2 ≠ 5 * k.val + t.val) :
    tileAt X XW XS k t z (ix3 j ρ l) = z (ix3 j ρ l) := by
  have hne : ∀ q : Fin 2, j ≠ zstW k t q := fun q e => by
    have ev := zstW_val k t q
    rw [← e] at ev
    omega
  unfold tileAt tileF
  rw [zset_out _ _ _ _ _ _ (hne 1), zset_out _ _ _ _ _ _ (hne 0)]

abbrev tilesAt (z : S250x128x128.Idx → EReal) : S250x128x128.Idx → EReal :=
  tilesF (F := Ideal) X (wcol XW (idx25 k)) (scol XS (idx25 k)) (zstW k) z

theorem tiles_eq (z : S250x128x128.Idx → EReal) : tilesAt X XW XS k z = tileAt X XW XS k 4 (tileAt X XW XS k 3 (tileAt X XW XS k 2 (tileAt X XW XS k 1 (tileAt X XW XS k 0 z)))) := rfl

theorem tiles_val (z : S250x128x128.Idx → EReal) (j : Fin 250) (ρ l : Fin 128) (h : j.val / 10 = k.val) :
    tilesAt X XW XS k z (ix3 j ρ l) = zj X XW XS ρ l j.val := by
  have c : j.val / 2 = 5 * k.val + 0 ∨ j.val / 2 = 5 * k.val + 1 ∨ j.val / 2 = 5 * k.val + 2 ∨ j.val / 2 = 5 * k.val + 3 ∨ j.val / 2 = 5 * k.val + 4 := by omega
  have n : ∀ (t : Fin 5) (i : ℕ), j.val / 2 = 5 * k.val + i → t.val ≠ i → j.val / 2 ≠ 5 * k.val + t.val := fun t i e hne => by omega
  rw [tiles_eq]
  rcases c with c | c | c | c | c
  · rw [tile_keep _ _ _ k 4 _ j ρ l (n 4 0 c (by decide)), tile_keep _ _ _ k 3 _ j ρ l (n 3 0 c (by decide)), tile_keep _ _ _ k 2 _ j ρ l (n 2 0 c (by decide)),
      tile_keep _ _ _ k 1 _ j ρ l (n 1 0 c (by decide))]
    exact tile_val X XW XS k 0 z j ρ l c
  · rw [tile_keep _ _ _ k 4 _ j ρ l (n 4 1 c (by decide)), tile_keep _ _ _ k 3 _ j ρ l (n 3 1 c (by decide)), tile_keep _ _ _ k 2 _ j ρ l (n 2 1 c (by decide))]
    exact tile_val X XW XS k 1 _ j ρ l c
  · rw [tile_keep _ _ _ k 4 _ j ρ l (n 4 2 c (by decide)), tile_keep _ _ _ k 3 _ j ρ l (n 3 2 c (by decide))]
    exact tile_val X XW XS k 2 _ j ρ l c
  · rw [tile_keep _ _ _ k 4 _ j ρ l (n 4 3 c (by decide))]
    exact tile_val X XW XS k 3 _ j ρ l c
  · exact tile_val X XW XS k 4 _ j ρ l c

theorem tiles_keep (z : S250x128x128.Idx → EReal) (j : Fin 250) (ρ l : Fin 128) (h : j.val / 10 ≠ k.val) :
    tilesAt X XW XS k z (ix3 j ρ l) = z (ix3 j ρ l) := by
  have n : ∀ t : Fin 5, j.val / 2 ≠ 5 * k.val + t.val := fun t e => by omega
  rw [tiles_eq, tile_keep _ _ _ k 4 _ j ρ l (n 4), tile_keep _ _ _ k 3 _ j ρ l (n 3), tile_keep _ _ _ k 2 _ j ρ l (n 2),
      tile_keep _ _ _ k 1 _ j ρ l (n 1), tile_keep _ _ _ k 0 _ j ρ l (n 0)]

/-- After `i` chunks the first `10 i` blocks of scores stand, and every lane's statistics count them. -/
theorem chunks_inv (p : CState Ideal) (hp : ∀ ρ l, Good (zj X XW XS ρ l) 0 (lm p.2 ρ l) (ls p.2 ρ l) (lt p.2 ρ l)) (i : ℕ) (hi : i ≤ 25) :
    (∀ (j : Fin 250) (ρ l : Fin 128), j.val < 10 * i → (chunkIter (F := Ideal) XW XS X p i).1 (ix3 j ρ l) = zj X XW XS ρ l j.val) ∧
    ∀ ρ l, Good (zj X XW XS ρ l) (10 * i) (lm (chunkIter (F := Ideal) XW XS X p i).2 ρ l) (ls (chunkIter (F := Ideal) XW XS X p i).2 ρ l)
      (lt (chunkIter (F := Ideal) XW XS X p i).2 ρ l) := by
  induction i with
  | zero => exact ⟨fun j ρ l h => absurd h (by omega), hp⟩
  | succ i ih =>
    obtain ⟨h1, h2⟩ := ih (by omega)
    have hk : i < k0_t5_loop.trips := by rw [trips5]; omega
    have e : chunkIter (F := Ideal) XW XS X p (i + 1) = chunkF (F := Ideal) XW XS X ⟨i, hk⟩ (chunkIter (F := Ideal) XW XS X p i) := dif_pos hk
    rw [e]
    generalize chunkIter (F := Ideal) XW XS X p i = s at *
    have hz : ∀ (j : Fin 250) (ρ l : Fin 128), j.val < 10 * (i + 1) → tilesAt X XW XS ⟨i, hk⟩ s.1 (ix3 j ρ l) = zj X XW XS ρ l j.val := by
      intro j ρ l hj
      by_cases hj2 : j.val / 10 = i
      · exact tiles_val X XW XS ⟨i, hk⟩ s.1 j ρ l hj2
      · exact (tiles_keep X XW XS ⟨i, hk⟩ s.1 j ρ l hj2).trans (h1 j ρ l (by omega))
    refine ⟨hz, fun ρ l => ?_⟩
    refine groups_good (tilesAt X XW XS ⟨i, hk⟩ s.1) (zldW ⟨i, hk⟩) (zj X XW XS ρ l) (10 * i) s.2 ρ l (fun q => ?_) (h2 ρ l)
    have ev := zldW_val ⟨i, hk⟩ q
    rw [hz _ ρ l (by rw [ev]; show 10 * i + q.val < _; omega), ev]
end

/-! ## The first values -/

theorem setAll_at (X : S128x128.Idx → EReal) (w : FVec Ideal S128x128 .f32) (ρ l : Fin 128) : setAll (F := Ideal) X w (ix2 ρ l) = w (ix2 ρ l) := by
  refine upd_at (s := S128x128) ![0, 0] S128x128.size X w (ix2 ρ l) (ix2 ρ l) fun a => ?_
  match a with
  | ⟨0, _⟩ => exact (Nat.zero_add _).symm
  | ⟨1, _⟩ => exact (Nat.zero_add _).symm
theorem getAll_eq (X : S128x128.Idx → EReal) : getAll (F := Ideal) X = X := by
  refine funext fun i => congrArg X (funext fun a => Fin.ext ?_)
  refine (emb_unit_val (s := S128x128) ![0, 0] S128x128.size _ i a).trans ?_
  match a with
  | ⟨0, _⟩ => exact Nat.zero_add _
  | ⟨1, _⟩ => exact Nat.zero_add _

theorem negBig_real : ∃ μ : ℝ, FloatOps.ofBits (F := Ideal) .f32 0xF149F2CA#32 = (μ : EReal) := by
  show ∃ μ : ℝ, Ideal.ieee 8 23 0xF149F2CA#32 = (μ : EReal)
  unfold Ideal.ieee
  dsimp only
  rw [if_neg (by decide), if_neg (by decide)]
  exact ⟨_, rfl⟩
theorem zero128_at (ρ l : Fin 128) : same128 (F := Ideal) zero128 (ix2 ρ l) = 0 := by
  unfold same128 zero128
  pointwise
theorem negBig_at (ρ l : Fin 128) : negBig (F := Ideal) (ix2 ρ l) = FloatOps.ofBits (F := Ideal) .f32 0xF149F2CA#32 := by
  unfold negBig same128
  pointwise

theorem stats0_good (f : ℕ → EReal) (st : Stats Ideal) (ρ l : Fin 128) : Good f 0 (lm (stats0 st) ρ l) (ls (stats0 st) ρ l) (lt (stats0 st) ρ l) := by
  obtain ⟨μ, hμ⟩ := negBig_real
  have e1 : lm (stats0 st) ρ l = μ := (setAll_at _ _ ρ l).trans ((negBig_at ρ l).trans hμ)
  have e2 : ls (stats0 st) ρ l = 0 := (setAll_at _ _ ρ l).trans (zero128_at ρ l)
  have e3 : lt (stats0 st) ρ l = 0 := (setAll_at _ _ ρ l).trans (zero128_at ρ l)
  rw [e1, e2, e3]
  exact Good.zero f μ

end Cert.Value

end
-- ==== Proof.Value.EntKer.lean ====
/-
  THE KERNEL'S ENTROPY, one row at a time: the lanes joined.
-/
module

public import proofs.«01_k».proof.Proof.Value.Chunks
public import proofs.«01_k».proof.Proof.Value.KerOut
public import proofs.«01_k».proof.Proof.Value.Bound

@[expose] public section

noncomputable section

namespace Cert.Value

open Idealize.ShloMosaic
open Cert.KernelIdeal Cert.KernelIdeal.Gen Cert.KernelIdeal.Run

section Join
variable (m s t : S128x128.Idx → EReal) (ρ : Fin 128)

theorem rmax_at : rmax (F := Ideal) m (ix2 ρ 0) = Finset.univ.fold max (FloatOps.ofBits (F := Ideal) .f32 0xFF800000#32) (fun l : Fin 128 => m (ix2 ρ l)) := by
  unfold rmax
  pointwise
theorem rdif_at (l : Fin 128) : rdif (F := Ideal) m (ix2 ρ l) = m (ix2 ρ l) - rmax (F := Ideal) m (ix2 ρ 0) := by
  unfold rdif
  generalize rmax (F := Ideal) m = q
  pointwise
theorem rsum_at : rsum (F := Ideal) m s (ix2 ρ 0) = ∑ l : Fin 128, s (ix2 ρ l) * Ideal.exp2 (m (ix2 ρ l) - rmax (F := Ideal) m (ix2 ρ 0)) := by
  rw [Finset.sum_congr rfl fun l _ => by rw [← rdif_at]]
  unfold rsum
  generalize rdif (F := Ideal) m = d
  pointwise
  rfl
theorem rtot_at : rtot (F := Ideal) m s t (ix2 ρ 0) = ∑ l : Fin 128, (t (ix2 ρ l) + s (ix2 ρ l) * (m (ix2 ρ l) - rmax (F := Ideal) m (ix2 ρ 0))) * Ideal.exp2 (m (ix2 ρ l) - rmax (F := Ideal) m (ix2 ρ 0)) := by
  rw [Finset.sum_congr rfl fun l _ => by rw [← rdif_at]]
  unfold rtot
  generalize rdif (F := Ideal) m = d
  pointwise
  rfl
theorem rent_at : rent (F := Ideal) m s t (ix2 ρ 0) = kerEnt (rsum (F := Ideal) m s (ix2 ρ 0)) (rtot (F := Ideal) m s t (ix2 ρ 0)) := rfl

/-- The scores by lane and block, and by column. -/
theorem sum_lanes (g : Fin 32000 → ℝ) : ∑ v, g v = ∑ l : Fin 128, ∑ j : Fin 250, g ⟨128 * j.val + l.val, by omega⟩ := by
  rw [Finset.sum_comm, ← Fintype.sum_prod_type', ← Equiv.sum_comp (finProdFinEquiv (m := 250) (n := 128))]
  refine Finset.sum_congr rfl fun p _ => congrArg g (Fin.ext ?_)
  show p.2.val + 128 * p.1.val = 128 * p.1.val + p.2.val
  omega

/-- Joining the lanes: statistics over all 32000 scores. -/
theorem join_good (f : Fin 128 → ℕ → EReal) (k : Fin 32000 → EReal) (hk : ∀ (l : Fin 128) (j : Fin 250), f l j.val = k ⟨128 * j.val + l.val, by omega⟩)
    (hbig : ∀ l j, 250 ≤ j → f l j ≠ ⊤) (h : ∀ l, Good (f l) 250 (m (ix2 ρ l)) (s (ix2 ρ l)) (t (ix2 ρ l))) :
    GoodAll k (rmax (F := Ideal) m (ix2 ρ 0)) (rsum (F := Ideal) m s (ix2 ρ 0)) (rtot (F := Ideal) m s t (ix2 ρ 0)) := by
  rw [rsum_at, rtot_at]
  have hle : ∀ l, m (ix2 ρ l) ≤ rmax (F := Ideal) m (ix2 ρ 0) := fun l => by
    rw [rmax_at]; exact Finset.le_fold_max _ |>.mpr (.inr ⟨l, Finset.mem_univ l, le_rfl⟩)
  have htop : rmax (F := Ideal) m (ix2 ρ 0) = ⊤ → ∃ v, k v = ⊤ := by
    intro e
    rw [rmax_at] at e
    obtain h0 | ⟨l, _, hl⟩ := Finset.le_fold_max _ |>.mp (top_le_iff.mpr e)
    · rw [ninf_eq, le_bot_iff] at h0; exact absurd h0 top_ne_bot
    · obtain ⟨j, hj⟩ := (h l).top (top_le_iff.mp hl)
      have hlt : j < 250 := by by_contra hc; exact hbig l j (by omega) hj
      exact ⟨_, (hk l ⟨j, hlt⟩).symm.trans hj⟩
  have hf : ∀ v, k v = f ⟨v.val % 128, by omega⟩ (v.val / 128) := fun v => by
    refine ((hk ⟨v.val % 128, by omega⟩ ⟨v.val / 128, by omega⟩).trans (congrArg k (Fin.ext ?_))).symm
    show 128 * (v.val / 128) + v.val % 128 = v.val
    omega
  generalize rmax (F := Ideal) m (ix2 ρ 0) = M at *
  by_cases hM : M = ⊤
  · subst hM
    have hz : ∀ l, s (ix2 ρ l) * Ideal.exp2 (m (ix2 ρ l) - ⊤) = 0 ∧ (t (ix2 ρ l) + s (ix2 ρ l) * (m (ix2 ρ l) - ⊤)) * Ideal.exp2 (m (ix2 ρ l) - ⊤) = 0 := fun l => by
      rw [EReal.sub_top, Ideal.exp2_bot, mul_zero, mul_zero]; exact ⟨rfl, rfl⟩
    refine .inl ⟨rfl, ?_, ?_, htop rfl⟩
    · exact Finset.sum_eq_zero fun l _ => (hz l).1
    · exact Finset.sum_eq_zero fun l _ => (hz l).2
  · have hb : M ≠ ⊥ := fun e => (h 0).ne_bot (le_bot_iff.mp (e ▸ hle 0))
    obtain ⟨μ, rfl⟩ : ∃ μ : ℝ, M = μ := ⟨M.toReal, (EReal.coe_toReal hM hb).symm⟩
    have g : ∀ l, (∀ j < 250, f l j ≠ ⊤) ∧ s (ix2 ρ l) * Ideal.exp2 (m (ix2 ρ l) - (μ : EReal)) = ((∑ j ∈ Finset.range 250, wt μ (f l j) : ℝ) : EReal) ∧
        (t (ix2 ρ l) + s (ix2 ρ l) * (m (ix2 ρ l) - (μ : EReal))) * Ideal.exp2 (m (ix2 ρ l) - (μ : EReal)) = ((∑ j ∈ Finset.range 250, wd μ (f l j) : ℝ) : EReal) := by
      intro l
      rcases (h l).rebase (μ : EReal) (hle l) (fun e => absurd e (EReal.coe_ne_top μ)) with ⟨e, _⟩ | ⟨μ', e, h1, h2, h3⟩
      · exact absurd e (EReal.coe_ne_top μ)
      · rw [EReal.coe_eq_coe_iff.mp e]
        rw [EReal.coe_eq_coe_iff.mp e] at h2 h3
        exact ⟨h1, h2, h3⟩
    refine .inr ⟨μ, rfl, fun v => ?_, ?_, ?_⟩
    · rw [hf v]; exact (g _).1 _ (by omega)
    · rw [Finset.sum_congr rfl fun l _ => (g l).2.1, ← coe_sum, sum_lanes]
      refine congrArg _ (Finset.sum_congr rfl fun l _ => ?_)
      rw [Finset.sum_range]
      exact Finset.sum_congr rfl fun j _ => congrArg (wt μ) (hk l j)
    · rw [Finset.sum_congr rfl fun l _ => (g l).2.2, ← coe_sum, sum_lanes]
      refine congrArg _ (Finset.sum_congr rfl fun l _ => ?_)
      rw [Finset.sum_range]
      exact Finset.sum_congr rfl fun j _ => congrArg (wd μ) (hk l j)
end Join

/-! ## The activations as the product reads them -/

theorem castF_at (xf : S128x6656.Idx → EReal) (i : Fin 13) (Y : S128x6656.Idx → EReal) (ρ : Fin 128) (d : Fin 6656) :
    castF (F := Ideal) xf i Y (ix2 ρ d) = if d.val / 512 = i.val then xf (ix2 ρ d) else Y (ix2 ρ d) := by
  split
  case isTrue h =>
    have e2 : ∀ g : Vec Ideal S128x512 .f32, cast512 g = g := by
      intro g; funext a; rw [eq_ix2 a]; unfold cast512; pointwise
    refine (upd_at (s := S128x6656) ![0, 512 * i.val] S128x512.size Y _ (ix2 ρ d) (ix2 ρ ⟨d.val % 512, by omega⟩) fun a => ?_).trans ?_
    · match a with
      | ⟨0, _⟩ => exact (Nat.zero_add _).symm
      | ⟨1, _⟩ => show d.val = 512 * i.val + d.val % 512; omega
    · unfold castBlk
      rw [e2]
      refine congrArg xf (funext fun a => Fin.ext ?_)
      refine (emb_unit_val (s := S128x6656) ![0, 512 * i.val] S128x512.size _ (ix2 ρ ⟨d.val % 512, by omega⟩) a).trans ?_
      match a with
      | ⟨0, _⟩ => exact Nat.zero_add _
      | ⟨1, _⟩ => show 512 * i.val + d.val % 512 = d.val; omega
  case isFalse h =>
    refine upd_out (s := S128x6656) ![0, 512 * i.val] S128x512.size Y _ (ix2 ρ d) 1 ?_
    show d.val < 512 * i.val ∨ 512 * i.val + 512 ≤ d.val
    omega

theorem xwAll_at (xf J14 : S128x6656.Idx → EReal) (ρ : Fin 128) (d : Fin 6656) : xwAll (F := Ideal) xf J14 (ix2 ρ d) = xf (ix2 ρ d) := by
  have hd : d.val / 512 < 13 := by omega
  unfold xwAll
  simp only [castF_at]
  generalize d.val / 512 = q at *
  interval_cases q <;> simp

/-! ## The rows written out -/

theorem outRow_at (o : FVec Ideal S128x128 .f32) (q : Fin 4) (b : Fin 3) (n : Fin 42) :
    outRow o q b (ix2 0 n) = o (ix2 ⟨q.val, by omega⟩ ⟨42 * b.val + n.val, by omega⟩) := by
  unfold outRow
  pointwise

theorem outF_in (o : FVec Ideal S128x128 .f32) (b : Fin 3) (p : Outs Ideal) (n : Fin 42) :
    (outF (F := Ideal) o b p).1 (ix2 b n) = o (ix2 0 ⟨42 * b.val + n.val, by omega⟩) := by
  refine (upd_at (s := S3x42) ![b.val, 0] S1x42.size p.1 _ (ix2 b n) (ix2 0 n) fun a => ?_).trans (outRow_at o 0 b n)
  match a with
  | ⟨0, _⟩ => rfl
  | ⟨1, _⟩ => exact (Nat.zero_add _).symm
theorem outF_out (o : FVec Ideal S128x128 .f32) (b b' : Fin 3) (p : Outs Ideal) (n : Fin 42) (h : b' ≠ b) :
    (outF (F := Ideal) o b p).1 (ix2 b' n) = p.1 (ix2 b' n) := by
  refine upd_out (s := S3x42) ![b.val, 0] S1x42.size p.1 _ (ix2 b' n) 0 ?_
  have := Fin.val_ne_of_ne h
  show b'.val < b.val ∨ b.val + 1 ≤ b'.val
  omega
theorem outsF_at (o : FVec Ideal S128x128 .f32) (p : Outs Ideal) (b : Fin 3) (n : Fin 42) :
    (outsF (F := Ideal) o p).1 (ix2 b n) = o (ix2 0 ⟨42 * b.val + n.val, by omega⟩) := by
  show (outF (F := Ideal) o 2 (outF (F := Ideal) o 1 (outF (F := Ideal) o 0 p))).1 (ix2 b n) = _
  fin_cases b
  · exact (outF_out o 2 0 _ n (by decide)).trans ((outF_out o 1 0 _ n (by decide)).trans (outF_in o 0 p n))
  · exact (outF_out o 2 1 _ n (by decide)).trans (outF_in o 1 _ n)
  · exact outF_in o 2 _ n

theorem outTile_at (ent : FVec Ideal S128x1 .f32) (lp mg pm : FVec Ideal S128x128 .f32) (ρ : Fin 128) :
    outTile ent lp mg pm (ix2 0 ρ) = ent (ix2 ρ 0) := by
  unfold outTile colIota spread
  generalize (select rootMask zero128 lp : FVec Ideal S128x128 .f32) = L
  pointwise

end Cert.Value

end
-- ==== Proof.Value.EntHost.lean ====
/-
  THE REFERENCE'S HOST OPERATIONS for the entropy, one row at a time.
-/
module

public import proofs.«01_k».proof.Proof.Value.RefOut
public import proofs.«01_k».proof.Proof.Value.EntMath
public import Idealize.ShloMosaic.Lib.IdealHost
public import Idealize.ShloMosaic.Lib.StackMember
public import Idealize.ShloMosaic.Lib.Pointwise

@[expose] public section

noncomputable section

namespace Cert.Value.Ref

open Idealize.ShloMosaic
open Cert.ReferenceIdeal Cert.ReferenceIdeal.Gen

/-- The maximum of a row of scores. -/
def zmax (z : Fin 32000 → EReal) : EReal := Finset.univ.fold max (FloatOps.ofBits (F := Ideal) .f32 0xFF800000#32) z

variable (Z : FVec Ideal S3x42x32000 .f32) (M : FVec Ideal S3x42x1 .f32)

def hsum : FVec Ideal S3x42 .f32 := Host.reduceAdd Z (constant S_ .f32 0x00000000#32) reducesTo_S3x42x32000_S3x42_d2 h_S_
def hred : FVec Ideal S3x42 .f32 := Host.reduce FloatOps.maximumf Z (constant S_ .f32 0xFF800000#32) reducesTo_S3x42x32000_S3x42_d2 h_S_
def hcol (R : FVec Ideal S3x42 .f32) : FVec Ideal S3x42x1 .f32 := broadcastInDim S3x42x1 ![0, 1] bcast_S3x42_S3x42x1_0_1 R
def hrow : FVec Ideal S3x42x32000 .f32 := broadcastInDim S3x42x32000 ![0, 1, 2] bcast_S3x42x1_S3x42x32000_0_1_2 M
def hflat : FVec Ideal S3x42 .f32 := shapeCast S3x42 M shapeCasts_S3x42x1_S3x42
def hmax : FVec Ideal S3x42x1 .f32 := hcol (hred Z)
def hlse : FVec Ideal S3x42x1 .f32 := addf M (Host.log (hcol (hsum (Host.exp (subf Z (hrow M))))))
def hent : FVec Ideal S3x42 .f32 := subf (hflat M) (hsum (mulf (Host.exp (subf Z (hrow M))) Z))

theorem hsum_at (b : Fin 3) (n : Fin 42) : hsum Z (ix2 b n) = ∑ v : Fin 32000, Z (ix3 b n v) := by
  unfold hsum
  rw [ValueIdx.hostReduceAdd_apply]
  refine (Ideal.hostReduceAdd_r3_a2 (n0 := 3) (n1 := 42) (n2 := 32000) _ Z _ (ix2 b n)).trans ?_
  refine (congrArg (· + _) Ideal.ofBits_zero_f32).trans ?_
  exact zero_add _
theorem hred_at (b : Fin 3) (n : Fin 42) : hred Z (ix2 b n) = zmax (fun v => Z (ix3 b n v)) := by
  unfold hred zmax
  rw [Host.reduce_eq_fold]
  exact Finset.fold_filter_eq_fold_of_fiber _ _ (fun v : Fin 32000 => ix3 b n v) (fun _ _ e => congrFun e 2)
    (Shape.ReducesTo.fiber_r3_a2 (n0 := 3) (n1 := 42) (n2 := 32000) _ (ix2 b n)) _ Z
theorem hcol_at (R : FVec Ideal S3x42 .f32) (b : Fin 3) (n : Fin 42) : hcol R (ix3 b n 0) = R (ix2 b n) := by
  unfold hcol
  pointwise
theorem hrow_at (b : Fin 3) (n : Fin 42) (v : Fin 32000) : hrow M (ix3 b n v) = M (ix3 b n 0) := by
  unfold hrow
  pointwise
theorem hflat_at (b : Fin 3) (n : Fin 42) : hflat M (ix2 b n) = M (ix3 b n 0) := by
  unfold hflat
  pointwise
theorem hmax_at (b : Fin 3) (n : Fin 42) : hmax Z (ix3 b n 0) = zmax (fun v => Z (ix3 b n v)) :=
  (hcol_at _ b n).trans (hred_at Z b n)

theorem addlog_at (R : FVec Ideal S3x42x1 .f32) (i : S3x42x1.Idx) : addf M (Host.log R) i = M i + Ideal.log (R i) := rfl
theorem sub_at (A B : FVec Ideal S3x42 .f32) (i : S3x42.Idx) : subf A B i = A i - B i := rfl

theorem hlse_at (b : Fin 3) (n : Fin 42) (h : M (ix3 b n 0) = zmax (fun v => Z (ix3 b n v))) :
    hlse Z M (ix3 b n 0) = refLse (fun v => Z (ix3 b n v)) (zmax (fun v => Z (ix3 b n v))) := by
  unfold refLse
  rw [← h]
  unfold hlse
  refine (addlog_at M _ _).trans ?_
  have e : ∀ v, (Host.exp (subf Z (hrow M)) : FVec Ideal S3x42x32000 .f32) (ix3 b n v) = Ideal.exp (Z (ix3 b n v) - M (ix3 b n 0)) := fun v =>
    congrArg (fun t : EReal => Ideal.exp (Z (ix3 b n v) - t)) (hrow_at M b n v)
  rw [hcol_at, hsum_at, Finset.sum_congr rfl fun v _ => e v]

theorem hent_at (b : Fin 3) (n : Fin 42) (h : M (ix3 b n 0) = refLse (fun v => Z (ix3 b n v)) (zmax (fun v => Z (ix3 b n v)))) :
    hent Z M (ix2 b n) = refEnt (fun v => Z (ix3 b n v)) (zmax (fun v => Z (ix3 b n v))) := by
  unfold refEnt
  rw [← h]
  unfold hent
  refine (sub_at _ _ _).trans ?_
  have e : ∀ v, (mulf (Host.exp (subf Z (hrow M))) Z : FVec Ideal S3x42x32000 .f32) (ix3 b n v) = Ideal.exp (Z (ix3 b n v) - M (ix3 b n 0)) * Z (ix3 b n v) := fun v =>
    congrArg (fun t : EReal => Ideal.exp (Z (ix3 b n v) - t) * Z (ix3 b n v)) (hrow_at M b n v)
  rw [hflat_at, hsum_at, Finset.sum_congr rfl fun v _ => e v]

/-! ## The product -/

/-- A weight, scaled. -/
theorem pay1_at (w : Vec Ideal S6656x32000 .fp8e4m3) (s : Vec Ideal S52x32000 .f32) (d : Fin 6656) (v : Fin 32000) :
    k0_pay1 w s (ix2 d v) = w (ix2 d v) * s (ix2 ⟨d.val / 128, by omega⟩ v) := by
  have hd : (⟨d.val / 128 * 128 + d.val % 128, by omega⟩ : Fin 6656) = d := Fin.ext (by show d.val / 128 * 128 + d.val % 128 = d.val; omega)
  unfold k0_pay1
  pointwise

/-- The product, one element at a time. -/
theorem dot_at (A : FVec Ideal S3x42x6656 .bf16) (B : FVec Ideal S6656x32000 .bf16) (b : Fin 3) (n : Fin 42) (v : Fin 32000) :
    (Host.dotGeneral dot_S3x42x6656_S6656x32000_S3x42x32000_2_0_01_1_n_n none A B : FVec Ideal S3x42x32000 .f32) (ix3 b n v)
      = ∑ d : Fin 6656, A (ix3 b n d) * B (ix2 d v) := by
  show FloatOps.dotGeneral _ none _ A B (ix3 b n v) = _
  rw [Ideal.dotGeneral_apply, ← Equiv.sum_comp (ValueIdx.contrEquiv1 dot_S3x42x6656_S6656x32000_S3x42x32000_2_0_01_1_n_n 6656 rfl rfl).symm]
  refine Finset.sum_congr rfl fun d _ => ?_
  have c2 := ValueIdx.contrEquiv1_symm_val dot_S3x42x6656_S6656x32000_S3x42x32000_2_0_01_1_n_n 6656 rfl rfl d
  have l2 : dot_S3x42x6656_S6656x32000_S3x42x32000_2_0_01_1_n_n.lhsIdx (ix3 b n v) ((ValueIdx.contrEquiv1 _ 6656 rfl rfl).symm d) = ix3 b n d := by
    funext ax; apply Fin.ext
    match ax with
    | ⟨0, _⟩ => simp [DotDims.lhsIdx, dot_S3x42x6656_S6656x32000_S3x42x32000_2_0_01_1_n_n]; rfl
    | ⟨1, _⟩ => simp [DotDims.lhsIdx, dot_S3x42x6656_S6656x32000_S3x42x32000_2_0_01_1_n_n]; rfl
    | ⟨2, _⟩ => simp [DotDims.lhsIdx, dot_S3x42x6656_S6656x32000_S3x42x32000_2_0_01_1_n_n]; exact c2
  have r2 : dot_S3x42x6656_S6656x32000_S3x42x32000_2_0_01_1_n_n.rhsIdx (ix3 b n v) ((ValueIdx.contrEquiv1 _ 6656 rfl rfl).symm d) = ix2 d v := by
    funext ax; apply Fin.ext
    match ax with
    | ⟨0, _⟩ => simp [DotDims.rhsIdx, dot_S3x42x6656_S6656x32000_S3x42x32000_2_0_01_1_n_n]; exact c2
    | ⟨1, _⟩ => simp [DotDims.rhsIdx, dot_S3x42x6656_S6656x32000_S3x42x32000_2_0_01_1_n_n]; rfl
  rw [l2, r2]

end Cert.Value.Ref

end
-- ==== Proof.Value.EntRef.lean ====
/-
  THE REFERENCE'S ENTROPY, one row at a time.
-/
module

public import proofs.«01_k».proof.Proof.Value.EntHost

@[expose] public section

noncomputable section

namespace Cert.Value.Ref

open Idealize.ShloMosaic Idealize.SL.Sem
open Cert.ReferenceIdeal Cert.ReferenceIdeal.Gen Cert.ReferenceIdeal.Value

/-- The temperature, in single precision. -/
abbrev temp : EReal := FloatOps.ofBits (F := Ideal) .f32 0x3F333333#32

variable (V0 : Valuation τ sig (Elt Ideal))

abbrev actV : FVec Ideal S3x42x6656 .bf16 := V0 (Proc.devRef .tc main_v0_2)
abbrev wgtV : FVec Ideal S6656x32000 .bf16 := V0 (Proc.devRef .tc main_v0_3)
abbrev scoreV : FVec Ideal S3x42x32000 .f32 := res_main_v3 V0

theorem v3_at (b : Fin 3) (n : Fin 42) (v : Fin 32000) :
    scoreV V0 (ix3 b n v) = Ideal.div (∑ d : Fin 6656, actV V0 (ix3 b n d) * wgtV V0 (ix2 d v)) temp :=
  congrArg (fun t : EReal => Ideal.div t temp) (dot_at (actV V0) (wgtV V0) b n v)

theorem v5_eq : res_main_v5 V0 = hmax (scoreV V0) := rfl
theorem v12_eq : res_main_v12 V0 = hlse (scoreV V0) (hmax (scoreV V0)) := by
  rw [← v5_eq]
  rfl
theorem v14_eq : res_main_v14 V0 = subf (scoreV V0) (hrow (res_main_v12 V0)) := rfl

theorem v19_eq : (subf (shapeCast _ (res_main_v12 V0) shapeCasts_S3x42x1_S3x42) (Host.reduceAdd (mulf (Host.exp (res_main_v14 V0)) (res_main_v3 V0)) (constant S_ .f32 0x00000000#32) reducesTo_S3x42x32000_S3x42_d2 h_S_) : FVec Ideal S3x42 .f32)
    = hent (scoreV V0) (res_main_v12 V0) := rfl

end Cert.Value.Ref

end
-- ==== Proof.Value.Ent.lean ====
/-
  THE ENTROPY: what the kernel's run leaves, what the reference states, and that the two agree.
-/
module

public import proofs.«01_k».proof.Proof.Value.EntKer
public import proofs.«01_k».proof.Proof.Value.EntRef

@[expose] public section

noncomputable section

namespace Cert.Value

open Idealize.ShloMosaic Idealize.SL.Sem

section Row
open Cert.KernelIdeal Cert.KernelIdeal.Gen Cert.KernelIdeal.Run

/-- A row's score before scaling: its quantised activations against a column of the scaled weights. -/
def rawScore (X : S3x42x6656.Idx → EReal) (XW : S6656x32000.Idx → EReal) (XS : S52x32000.Idx → EReal) (b : Fin 3) (n : Fin 42) (v : Fin 32000) : EReal :=
  ∑ d : Fin 6656, valAt X b n d * wval XW XS d v

abbrev rowOf (b : Fin 3) (n : Fin 42) : Fin 128 := ⟨42 * b.val + n.val, by omega⟩

theorem rowAt_eq (X : S3x42x6656.Idx → EReal) (b : Fin 3) (n : Fin 42) (d : Fin 6656) : rowAt X (rowOf b n) d = valAt X b n d := by
  have hv : ∀ (b b' : Fin 3) (n n' : Fin 42), b = b' → n = n' → valAt X b n d = valAt X b' n' d := by
    intro _ _ _ _ e e'; rw [e, e']
  unfold rowAt
  rw [dif_pos (show 42 * b.val + n.val < 126 by omega)]
  exact hv _ _ _ _ (Fin.ext (by show (42 * b.val + n.val) / 42 = b.val; omega)) (Fin.ext (by show (42 * b.val + n.val) % 42 = n.val; omega))

theorem logit_row (X : S3x42x6656.Idx → EReal) (XW : S6656x32000.Idx → EReal) (XS : S52x32000.Idx → EReal) (j : Junk Ideal) (b : Fin 3) (n : Fin 42)
    (v : Fin 32000) : logit (xwOf (F := Ideal) X j) XW XS (rowOf b n) v = rawScore X XW XS b n v := by
  unfold logit rawScore
  refine Finset.sum_congr rfl fun d _ => congrArg (· * wval XW XS d v) ?_
  exact (xwAll_at _ _ _ _).trans ((vals3 X j.j9 j.j13 _ _).trans (rowAt_eq X b n d))

/-- After all chunks the joined statistics are those of a row's 32000 scores. -/
theorem stats_row (X : S128x6656.Idx → EReal) (XW : S6656x32000.Idx → EReal) (XS : S52x32000.Idx → EReal) (z : S250x128x128.Idx → EReal) (st : Stats Ideal)
    (ρ : Fin 128) (p : CState Ideal) (hp : p = chunkIter (F := Ideal) XW XS X (z, stats0 st) 25) :
    GoodAll (fun v => logit X XW XS ρ v * cK) (rmax (F := Ideal) (getAll (F := Ideal) p.2.1) (ix2 ρ 0))
      (rsum (F := Ideal) (getAll (F := Ideal) p.2.1) (getAll (F := Ideal) p.2.2.1) (ix2 ρ 0))
      (rtot (F := Ideal) (getAll (F := Ideal) p.2.1) (getAll (F := Ideal) p.2.2.1) (getAll (F := Ideal) p.2.2.2) (ix2 ρ 0)) := by
  rw [getAll_eq, getAll_eq, getAll_eq]
  have h := (chunks_inv X XW XS (z, stats0 st) (fun ρ l => stats0_good _ st ρ l) 25 le_rfl).2 ρ
  rw [← hp] at h
  refine join_good _ _ _ ρ (zj X XW XS ρ) _ (fun l j => ?_) (fun l j hj => ?_) h
  · unfold zj
    rw [dif_pos j.isLt]
  · unfold zj
    rw [dif_neg (by omega)]
    exact bot_ne_top

variable (m : (ℓ : Loc nD τ sig) → Buf (Elt Ideal) ℓ) (c : Dev nD) (hok : PreOK m)

abbrev Ker.inW : S6656x32000.Idx → EReal := m ((c.tc : Thread nD τ).loc main_arg3)
abbrev Ker.inS : S52x32000.Idx → EReal := m ((c.tc : Thread nD τ).loc main_arg4)

theorem outOf_at (X0 X1 : S3x42.Idx → BitVec 32) (X : S3x42x6656.Idx → EReal) (XW : S6656x32000.Idx → EReal) (XS : S52x32000.Idx → EReal) (j : Junk Ideal)
    (h : PickOk X0 X1) (b : Fin 3) (n : Fin 42) (p : CState Ideal) (hp : p = chunksOf (F := Ideal) X XW XS j) :
    (outOf (F := Ideal) X0 X1 X XW XS j h).1 (ix2 b n)
      = kerEnt (rsum (F := Ideal) (getAll (F := Ideal) p.2.1) (getAll (F := Ideal) p.2.2.1) (ix2 (rowOf b n) 0))
        (rtot (F := Ideal) (getAll (F := Ideal) p.2.1) (getAll (F := Ideal) p.2.2.1) (getAll (F := Ideal) p.2.2.2) (ix2 (rowOf b n) 0)) := by
  unfold outOf outsAll
  rw [← hp]
  refine (outsF_at _ _ b n).trans ?_
  unfold lastF
  refine (outTile_at _ _ _ _ (rowOf b n)).trans ?_
  exact rent_at _ _ _ _

theorem Ker.out3 (G : Buf (Elt Ideal) ((c.tc : Thread nD τ).loc main_v0_0)) (h : (rdat m hok c).ArrAt 3 cfg0.N G) (b : Fin 3) (n : Fin 42) :
    ∃ M s t, G (ix2 b n) = kerEnt s t ∧ GoodAll (fun v => rawScore (Ker.inX m c) (Ker.inW m c) (Ker.inS m c) b n v * cK) M s t := by
  obtain ⟨X, ⟨Y, hY, j, hj⟩, hX⟩ := Pipeline.RDat.ArrAt.emb_eq_of_wholeAt (rd := rdat m hok c) h (t₀ := t0_0) (by decide +kernel)
  have e : G (ix2 b n) = (resOut m hok c j).1 (ix2 b n) := (hX (ix2 b n)).trans (congrFun hj _)
  have g := stats_row (xwOf (F := Ideal) (in2 m c) j) (in3 m c) (in4 m c) j.j15 j.st (rowOf b n) _ rfl
  have e2 := e.trans (outOf_at _ _ _ _ _ j _ b n _ rfl)
  have hs : (fun v => logit (xwOf (F := Ideal) (in2 m c) j) (in3 m c) (in4 m c) (rowOf b n) v * cK)
      = fun v => rawScore (Ker.inX m c) (Ker.inW m c) (Ker.inS m c) b n v * cK := funext fun v => congrArg (· * cK)
    ((logit_row (in2 m c) (in3 m c) (in4 m c) j b n v).trans
      (congrArg (fun x : S3x42x6656.Idx → EReal => rawScore x (Ker.inW m c) (Ker.inS m c) b n v) (Ker.in2_eq m c)))
  rw [hs] at g
  exact ⟨_, _, _, e2, g⟩
end Row

section Reference
open Cert.ReferenceIdeal Cert.ReferenceIdeal.Gen Cert.ReferenceIdeal.Value

theorem pay7_eq (X : S3x42x6656.Idx → EReal) (hX : ∀ i, max (X i) (-(X i)) ≤ FloatOps.ofBits (F := Ideal) .bf16 0x7F62#16) (b : Fin 3) (n : Fin 42) (k : Fin 6656) :
    k0_pay7 (F := Ideal) X (ix3 b n k) = valAt X b n k := by
  have hk : k = lane (kOf k) ⟨k.val % 128, Nat.mod_lt _ (by decide)⟩ := Fin.ext (by show k.val = k.val / 128 * 128 + k.val % 128; omega)
  unfold valAt codeAt scaleAt
  rw [(scale_eq (blk X b n (kOf k)) fun l => hX _).2.1, (scale_eq (blk X b n (kOf k)) fun l => hX _).1]
  conv_lhs => rw [hk]
  refine (pay7_at X b n (kOf k) ⟨k.val % 128, Nat.mod_lt _ (by decide)⟩).trans ?_
  unfold blk
  rw [← hk]

variable (m : (ℓ : Loc nD τ sig) → Buf (Elt Ideal) ℓ) (c : Dev nD)

theorem ref_score (hX : ∀ i, max (Ref.inX m c i) (-(Ref.inX m c i)) ≤ FloatOps.ofBits (F := Ideal) .bf16 0x7F62#16) (b : Fin 3) (n : Fin 42) (v : Fin 32000) :
    Ref.scoreV (exitV m c) (ix3 b n v) = Ideal.div (rawScore (Ref.inX m c) (Ref.inW m c) (Ref.inS m c) b n v) Ref.temp := by
  rw [Ref.v3_at]
  unfold rawScore
  refine congrArg (fun t : EReal => Ideal.div t Ref.temp) (Finset.sum_congr rfl fun d _ => ?_)
  have e1 : Ref.actV (exitV m c) (ix3 b n d) = valAt (Ref.inX m c) b n d :=
    (congrFun (exit_main_v0_2 m c) _).trans ((Ref.reg2 m c b n d).trans (pay7_eq _ hX b n d))
  have e2 : Ref.wgtV (exitV m c) (ix2 d v) = wval (Ref.inW m c) (Ref.inS m c) d v :=
    (congrFun (exit_main_v0_3 m c) _).trans ((Ref.reg3 m c d v).trans (Ref.pay1_at _ _ d v))
  rw [e1, e2]

/-- The reference's entropy of a row. -/
theorem ref_ent (b : Fin 3) (n : Fin 42) : Ref.hent (Ref.scoreV (exitV m c)) (res_main_v12 (exitV m c)) (ix2 b n)
    = refEnt (fun v => Ref.scoreV (exitV m c) (ix3 b n v)) (Ref.zmax (fun v => Ref.scoreV (exitV m c) (ix3 b n v))) :=
  Ref.hent_at _ _ b n ((congrFun (Ref.v12_eq (exitV m c)) _).trans (Ref.hlse_at _ _ b n (Ref.hmax_at _ b n)))
end Reference

/-! ## The two constants -/

theorem temp_real : Ref.temp = ((11744051 / 16777216 : ℝ) : EReal) := by
  show Ideal.ieee 8 23 0x3F333333#32 = _
  unfold Ideal.ieee
  dsimp only
  rw [if_neg (by decide), if_neg (by decide)]
  refine congrArg _ ?_
  rw [if_neg (by decide)]
  norm_num [Nat.shiftRight_eq_div_pow]

theorem div_temp (x : EReal) : Ideal.div x Ref.temp * (((Real.log 2)⁻¹ : ℝ) : EReal) = x * cK := by
  rw [temp_real]
  unfold Ideal.div
  rw [if_neg (by rw [← EReal.coe_zero, EReal.coe_eq_coe_iff]; norm_num), ← EReal.coe_inv, mul_assoc, ← EReal.coe_mul]
  refine congrArg (x * ·) ?_
  show _ = (((Real.log 2)⁻¹ * (16777216 / 11744051) : ℝ) : EReal)
  refine congrArg _ ?_
  rw [mul_comm]
  norm_num

theorem le_zmax (z : Fin 32000 → EReal) (v : Fin 32000) : z v ≤ Ref.zmax z :=
  Finset.le_fold_max _ |>.mpr (.inr ⟨v, Finset.mem_univ v, le_rfl⟩)
theorem zmax_top (z : Fin 32000 → EReal) (h : Ref.zmax z = ⊤) : ∃ v, z v = ⊤ := by
  obtain h0 | ⟨v, _, hv⟩ := Finset.le_fold_max _ |>.mp (top_le_iff.mpr h)
  · rw [ninf_eq, le_bot_iff] at h0; exact absurd h0 top_ne_bot
  · exact ⟨v, top_le_iff.mp hv⟩

/-- Kernel and reference give a row one entropy. -/
theorem ent_row (L z : Fin 32000 → EReal) (hz : ∀ v, z v = Ideal.div (L v) Ref.temp) (M s t : EReal) (h : GoodAll (fun v => L v * cK) M s t) :
    kerEnt s t = refEnt z (Ref.zmax z) := by
  refine ent_eq z _ M s t (le_zmax z) (zmax_top z) ?_
  rw [funext fun v => (congrArg (· * (((Real.log 2)⁻¹ : ℝ) : EReal)) (hz v)).trans (div_temp (L v))]
  exact h

end Cert.Value

end
-- ==== Proof.Value.Algebra.lean ====
/-
  KERNEL AND REFERENCE over the reals: the precondition read, and the two runs ending with equal entropies, codes and scales.
-/
module

public import proofs.«01_k».proof.Defs
public import proofs.«01_k».proof.Proof.Run.Range
public import proofs.«01_k».proof.Proof.Value.KerOut
public import proofs.«01_k».proof.Proof.Value.RefOut
public import proofs.«01_k».proof.Proof.Value.Bound
public import proofs.«01_k».proof.Proof.Value.Ent

@[expose] public section

noncomputable section

namespace Cert.Value

open Idealize.ShloMosaic Idealize.SL.Sem

/-- The side conditions the second predicate states. -/
instance facts2 : Cert.Pre_tree_in_range_and_x_finite.Facts where
  bcast_S_S3x42 := by decide
  bcast_S_S42 := by decide
  bcast_S42_S1x42_1 := by decide
  bcast_S1x42_S3x42_0_1 := by decide
  bcast_S_S3x42x6656 := by decide

/-- What the second predicate's first result says. -/
theorem inRange_of_fn2 (x : FVec Ideal Cert.Pre_tree_in_range_and_x_finite.S3x42x6656 .bf16) (X0 X1 : IVec Cert.Pre_tree_in_range_and_x_finite.S3x42 32)
    (w : FVec Ideal Cert.Pre_tree_in_range_and_x_finite.S6656x32000 .fp8e4m3) (s : FVec Ideal Cert.Pre_tree_in_range_and_x_finite.S52x32000 .f32)
    (h : ∀ i, (Cert.Pre_tree_in_range_and_x_finite.fn (F := Ideal) x X0 X1 w s).1 i = 1#1) : Cert.KernelIdeal.Run.InRange X0 X1 :=
  Cert.KernelIdeal.Run.inRange_of_fn (F := Ideal) x X0 X1 w s h

/-- And its second: the entries are bounded. -/
theorem bound_of_fn2 (x : FVec Ideal Cert.Pre_tree_in_range_and_x_finite.S3x42x6656 .bf16) (X0 X1 : IVec Cert.Pre_tree_in_range_and_x_finite.S3x42 32)
    (w : FVec Ideal Cert.Pre_tree_in_range_and_x_finite.S6656x32000 .fp8e4m3) (s : FVec Ideal Cert.Pre_tree_in_range_and_x_finite.S52x32000 .f32)
    (h : ∀ i, (Cert.Pre_tree_in_range_and_x_finite.fn (F := Ideal) x X0 X1 w s).2 i = 1#1) (i : Cert.Pre_tree_in_range_and_x_finite.S3x42x6656.Idx) :
    max (x i : EReal) (-(x i : EReal)) ≤ FloatOps.ofBits (F := Ideal) .bf16 0x7F62#16 := by
  have e : BitVec.ofBool (decide (max (x i : EReal) (-(x i : EReal)) ≤ FloatOps.ofBits (F := Ideal) .bf16 0x7F62#16)) = 1#1 := h i
  by_contra hc
  rw [decide_eq_false hc] at e
  exact absurd e (by decide)

theorem preOK (m : (ℓ : Loc Cert.KernelIdeal.nD Cert.KernelIdeal.τ Cert.KernelIdeal.sig) → Buf (Elt Ideal) ℓ)
    (h : Cert.Pre_KernelIdeal_tree_in_range_and_x_finite (hPre_tree_in_range_and_x_finite := facts2) m) : Cert.KernelIdeal.Run.PreOK m :=
  Cert.KernelIdeal.Run.preOK m fun c => by
    have e : Cert.KernelIdeal.Run.InRange (m ((c.tc : Thread Cert.KernelIdeal.nD Cert.KernelIdeal.τ).loc Cert.KernelIdeal.main_arg1)) (m ((c.tc : Thread Cert.KernelIdeal.nD Cert.KernelIdeal.τ).loc Cert.KernelIdeal.main_arg2)) :=
      inRange_of_fn2 _ _ _ _ _ (congrFun (h c).1)
    intro b n
    rw [Cert.KernelIdeal.Run.in0_apply, Cert.KernelIdeal.Run.in1_apply]
    exact e b n

theorem bound (m : (ℓ : Loc Cert.KernelIdeal.nD Cert.KernelIdeal.τ Cert.KernelIdeal.sig) → Buf (Elt Ideal) ℓ)
    (h : Cert.Pre_KernelIdeal_tree_in_range_and_x_finite (hPre_tree_in_range_and_x_finite := facts2) m) (c : Dev Cert.KernelIdeal.nD)
    (i : Cert.KernelIdeal.S3x42x6656.Idx) : max (Ker.inX m c i) (-(Ker.inX m c i)) ≤ FloatOps.ofBits (F := Ideal) .bf16 0x7F62#16 :=
  bound_of_fn2 _ _ _ _ _ (congrFun (h c).2) i

theorem frame_pi2 : Cert.quiescent_KernelIdeal_pre_tree_in_range_and_x_finite (hKernelIdeal := Cert.KernelIdeal.Gen.facts)
    (hPre_tree_in_range_and_x_finite := facts2) := fun m ρ h =>
  Cert.KernelIdeal.Run.run_frame m ρ (preOK m h)

theorem frame_ri2 : Cert.quiescent_ReferenceIdeal_pre_tree_in_range_and_x_finite (hReferenceIdeal := Cert.ReferenceIdeal.Gen.facts)
    (hPre_tree_in_range_and_x_finite := facts2) := fun m ρ _ => Cert.ReferenceIdeal.Gen.frame m ρ

/-! ## Entropies, codes and scales -/

section Equal
variable (X : Cert.KernelIdeal.S3x42x6656.Idx → EReal) (hX : ∀ i, max (X i) (-(X i)) ≤ FloatOps.ofBits (F := Ideal) .bf16 0x7F62#16)
include hX

theorem pay6_eq (b : Fin 3) (n : Fin 42) (k : Fin 6656) : Cert.ReferenceIdeal.Gen.k0_pay6 (F := Ideal) X (ix3 b n k) = codeAt X b n k := by
  have hk : k = lane (kOf k) ⟨k.val % 128, Nat.mod_lt _ (by decide)⟩ := Fin.ext (by show k.val = k.val / 128 * 128 + k.val % 128; omega)
  unfold codeAt
  rw [(scale_eq (blk X b n (kOf k)) fun l => hX _).2.1]
  conv_lhs => rw [hk]
  refine (pay6_at X b n (kOf k) ⟨k.val % 128, Nat.mod_lt _ (by decide)⟩).trans ?_
  unfold blk
  rw [← hk]
theorem pay4_eq (b : Fin 3) (n : Fin 42) (k : Fin 52) : Cert.ReferenceIdeal.Gen.k0_pay4 (F := Ideal) X (ix3 b n k) = scaleAt X b n k := by
  unfold scaleAt
  rw [(scale_eq (blk X b n k) fun l => hX _).1]
  exact pay4_at X b n k
end Equal

/-- The entropy of each row, as the reference states it of the quantised operands. -/
def entOf (X : Cert.KernelIdeal.S3x42x6656.Idx → EReal) (XW : Cert.KernelIdeal.S6656x32000.Idx → EReal) (XS : Cert.KernelIdeal.S52x32000.Idx → EReal) :
    Cert.KernelIdeal.S3x42.Idx → EReal := fun i =>
  refEnt (fun v => Ideal.div (rawScore X XW XS (i 0) (i 1) v) Ref.temp) (Ref.zmax fun v => Ideal.div (rawScore X XW XS (i 0) (i 1) v) Ref.temp)

/-- The kernel ends with the entropies, codes and scales the reference states. -/
theorem ker_run (m : (ℓ : Loc Cert.KernelIdeal.nD Cert.KernelIdeal.τ Cert.KernelIdeal.sig) → Buf (Elt Ideal) ℓ) (ρ : Dev Cert.KernelIdeal.nD → PrngReg)
    (h : Cert.Pre_KernelIdeal_tree_in_range_and_x_finite (hPre_tree_in_range_and_x_finite := facts2) m) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v0_0) = entOf (Ker.inX m c) (Ker.inW m c) (Ker.inS m c)
      ∧ r.2.mem ((c.tc : Thread Cert.KernelIdeal.nD Cert.KernelIdeal.τ).loc Cert.KernelIdeal.main_v0_4) = Cert.ReferenceIdeal.Gen.k0_pay6 (F := Ideal) (Ker.inX m c)
      ∧ r.2.mem ((c.tc : Thread Cert.KernelIdeal.nD Cert.KernelIdeal.τ).loc Cert.KernelIdeal.main_v0_5) = Cert.ReferenceIdeal.Gen.k0_pay4 (F := Ideal) (Ker.inX m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run _ _ _).mono (fun r hr c => by
    have hX := bound m h c
    obtain ⟨w, rest⟩ := hr.1 c
    refine ⟨?_, ?_, ?_, ?_, ?_, ?_, ?_, ?_⟩
    · funext i
      rw [eq_ix2 i]
      obtain ⟨M, s, t, e, g⟩ := Ker.out3 m c (preOK m h) _ (w 3) (i 0) (i 1)
      exact e.trans (ent_row _ _ (fun _ => rfl) M s t g)
    · funext i
      rw [eq_ix3 i]
      exact (Ker.out7 m c (preOK m h) _ (w 7) _ _ _).trans (pay6_eq _ hX _ _ _).symm
    · funext i
      rw [eq_ix3 i]
      exact (Ker.out8 m c (preOK m h) _ (w 8) _ _ _).trans (pay4_eq _ hX _ _ _).symm
    · exact (congrFun ((Cert.KernelIdeal.Run.rdat m (preOK m h) c).ArrAt_in 2 rfl _) _).mp (w 2)
    · exact (congrFun ((Cert.KernelIdeal.Run.rdat m (preOK m h) c).ArrAt_in 0 rfl _) _).mp (w 0)
    · exact (congrFun ((Cert.KernelIdeal.Run.rdat m (preOK m h) c).ArrAt_in 1 rfl _) _).mp (w 1)
    · exact rest Cert.KernelIdeal.main_arg3 (Pipeline.mem_restRefs_of Cert.KernelIdeal.main_arg3 (by decide) (by decide))
    · exact rest Cert.KernelIdeal.main_arg4 (Pipeline.mem_restRefs_of Cert.KernelIdeal.main_arg4 (by decide) (by decide)))
    (Cert.KernelIdeal.Run.run_main m ρ (preOK m h))

theorem algebraic : Cert.algebraic_KernelIdeal_ReferenceIdeal_pre_tree_in_range_and_x_finite (hKernelIdeal := Cert.KernelIdeal.Gen.facts)
    (hReferenceIdeal := Cert.ReferenceIdeal.Gen.facts) (hPre_tree_in_range_and_x_finite := facts2) := by
  intro m g m' g' h hm
  refine ⟨_, _, _, ker_run m g h, ?_⟩
  refine (θ_run _ _ _).mono (fun r hr c => ?_) (Cert.ReferenceIdeal.Value.run (F := Ideal) m' g')
  obtain ⟨h0, h1, h2, rest⟩ := hr c
  have e : Ref.inX m' c = Ker.inX m c := (hm c).1
  have eW : Ref.inW m' c = Ker.inW m c := (hm c).2.2.2.1
  have eS : Ref.inS m' c = Ker.inS m c := (hm c).2.2.2.2
  refine ⟨(h0.trans (Ref.v19_eq _)).trans ?_, h1.trans ?_, h2.trans ?_, rest⟩
  · funext i
    rw [eq_ix2 i]
    refine (ref_ent m' c _ _).trans ?_
    rw [funext fun v => ref_score m' c (by rw [e]; exact bound m h c) (i 0) (i 1) v, e, eW, eS]
    rfl
  · funext i; rw [eq_ix3 i]; exact (Ref.reg0 m' c _ _ _).trans (by rw [e])
  · funext i; rw [eq_ix3 i]; exact (Ref.reg1 m' c _ _ _).trans (by rw [e])

end Cert.Value

end
-- ==== Proof.lean ====
module

public import proofs.«01_k».proof.Defs
public import proofs.«01_k».proof.Proof.Run.Frames
public import proofs.«01_k».proof.Proof.Value.Algebra
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Cert.Pre_tree_in_range.Gen.facts, Value.facts2,
    Frames.frame_p, Frames.frame_pi, Value.frame_pi2, Frames.frame_ri, Value.frame_ri2, Frames.preserves, Value.algebraic⟩

end Cert.Proof

end
